-- ==== Defs.lean ====
def Pre_FoxPost (m : (ℓ : Loc Cert.FoxPost.nD Cert.FoxPost.τ Cert.FoxPost.sig) → Buf (Elt Bits) ℓ) : Prop :=
  True

def Pre_FoxPostIdeal (m : (ℓ : Loc Cert.FoxPostIdeal.nD Cert.FoxPostIdeal.τ Cert.FoxPostIdeal.sig) → Buf (Elt Ideal) ℓ) : Prop :=
  True

def Pre_FoxPostRefIdeal (m : (ℓ : Loc Cert.FoxPostRefIdeal.nD Cert.FoxPostRefIdeal.τ Cert.FoxPostRefIdeal.sig) → Buf (Elt Ideal) ℓ) : Prop :=
  True

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_fox_finite [hPre_fox_finite : Cert.Pre_fox_finite.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_finite [hPre_mla_finite : Cert.Pre_mla_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5))).2.2.2.2.2 = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_mla_finite [hPre_mla_finite : Cert.Pre_mla_finite.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5))).2.2.2.2.2 = (fun _ => 1#1)

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossIdeal_loss_finite [hPre_loss_finite : Cert.Pre_loss_finite.Facts] (m : (ℓ : Loc Cert.FinalLossIdeal.nD Cert.FinalLossIdeal.τ Cert.FinalLossIdeal.sig) → Buf (Elt Ideal) ℓ) : Prop :=
  ∀ c : Dev Cert.FinalLossIdeal.nD,
    (Cert.Pre_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).1 = (fun _ => 1#1)
    ∧ (Cert.Pre_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).2.1 = (fun _ => 1#1)
    ∧ (Cert.Pre_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).2.2 = (fun _ => 1#1)

def Pre_FinalLossRefIdeal (m : (ℓ : Loc Cert.FinalLossRefIdeal.nD Cert.FinalLossRefIdeal.τ Cert.FinalLossRefIdeal.sig) → Buf (Elt Ideal) ℓ) : Prop :=
  True

def Pre_FinalLossRefIdeal_loss_finite [hPre_loss_finite : Cert.Pre_loss_finite.Facts] (m : (ℓ : Loc Cert.FinalLossRefIdeal.nD Cert.FinalLossRefIdeal.τ Cert.FinalLossRefIdeal.sig) → Buf (Elt Ideal) ℓ) : Prop :=
  ∀ c : Dev Cert.FinalLossRefIdeal.nD,
    (Cert.Pre_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).1 = (fun _ => 1#1)
    ∧ (Cert.Pre_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).2.1 = (fun _ => 1#1)
    ∧ (Cert.Pre_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).2.2 = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_in_finite [hPre_in_finite : Cert.Pre_in_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_in_finite [hPre_in_finite : Cert.Pre_in_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.2.2 = (fun _ => 1#1)

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutIdeal_out_finite [hPre_out_finite : Cert.Pre_out_finite.Facts] (m : (ℓ : Loc Cert.BwdOutIdeal.nD Cert.BwdOutIdeal.τ Cert.BwdOutIdeal.sig) → Buf (Elt Ideal) ℓ) : Prop :=
  ∀ c : Dev Cert.BwdOutIdeal.nD,
    (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).1 = (fun _ => 1#1)
    ∧ (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).2.1 = (fun _ => 1#1)
    ∧ (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).2.2.1 = (fun _ => 1#1)
    ∧ (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).2.2.2.1 = (fun _ => 1#1)
    ∧ (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).2.2.2.2.1 = (fun _ => 1#1)
    ∧ (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6))).2.2.2.2.2 = (fun _ => 1#1)

def Pre_BwdOutRefIdeal (m : (ℓ : Loc Cert.BwdOutRefIdeal.nD Cert.BwdOutRefIdeal.τ Cert.BwdOutRefIdeal.sig) → Buf (Elt Ideal) ℓ) : Prop :=
  True

def Pre_BwdOutRefIdeal_out_finite [hPre_out_finite : Cert.Pre_out_finite.Facts] (m : (ℓ : Loc Cert.BwdOutRefIdeal.nD Cert.BwdOutRefIdeal.τ Cert.BwdOutRefIdeal.sig) → Buf (Elt Ideal) ℓ) : Prop :=
  ∀ c : Dev Cert.BwdOutRefIdeal.nD,
    (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).1 = (fun _ => 1#1)
    ∧ (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).2.1 = (fun _ => 1#1)
    ∧ (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).2.2.1 = (fun _ => 1#1)
    ∧ (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).2.2.2.1 = (fun _ => 1#1)
    ∧ (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).2.2.2.2.1 = (fun _ => 1#1)
    ∧ (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6))).2.2.2.2.2 = (fun _ => 1#1)

def Pre_MlaPost (m : (ℓ : Loc Cert.MlaPost.nD Cert.MlaPost.τ Cert.MlaPost.sig) → Buf (Elt Bits) ℓ) : Prop :=
  True

def Pre_MlaPostIdeal (m : (ℓ : Loc Cert.MlaPostIdeal.nD Cert.MlaPostIdeal.τ Cert.MlaPostIdeal.sig) → Buf (Elt Ideal) ℓ) : Prop :=
  True

def Pre_MlaPostIdeal_post_finite [hPre_post_finite : Cert.Pre_post_finite.Facts] (m : (ℓ : Loc Cert.MlaPostIdeal.nD Cert.MlaPostIdeal.τ Cert.MlaPostIdeal.sig) → Buf (Elt Ideal) ℓ) : Prop :=
  ∀ c : Dev Cert.MlaPostIdeal.nD,
    (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.2.2.2.2.1 = (fun _ => 1#1)
    ∧ (Cert.Pre_post_finite.fn (F := Ideal) (m ((c.tc : Thread Cert.MlaPostIdeal.nD Cert.MlaPostIdeal.τ).loc Cert.MlaPostIdeal.main_arg0)) (m ((c.tc : Thread Cert.MlaPostIdeal.nD Cert.MlaPostIdeal.τ).loc Cert.MlaPostIdeal.main_arg1)) (m ((c.tc : Thread Cert.MlaPostIdeal.nD Cert.MlaPostIdeal.τ).loc Cert.MlaPostIdeal.main_arg2)) (m ((c.tc : Thread Cert.MlaPostIdeal.nD Cert.MlaPostIdeal.τ).loc Cert.MlaPostIdeal.main_arg3)) (m ((c.tc : Thread Cert.MlaPostIdeal.nD Cert.MlaPostIdeal.τ).loc Cert.MlaPostIdeal.main_arg4)) (m ((c.tc : Thread Cert.MlaPostIdeal.nD Cert.MlaPostIdeal.τ).loc Cert.MlaPostIdeal.main_arg5)) (m ((c.tc : Thread Cert.MlaPostIdeal.nD Cert.MlaPostIdeal.τ).loc Cert.MlaPostIdeal.main_arg6)) (m ((c.tc : Thread Cert.MlaPostIdeal.nD Cert.MlaPostIdeal.τ).loc Cert.MlaPostIdeal.main_arg7)) (m ((c.tc : Thread Cert.MlaPostIdeal.nD Cert.MlaPostIdeal.τ).loc Cert.MlaPostIdeal.main_arg8)) (m ((c.tc : Thread Cert.MlaPostIdeal.nD Cert.MlaPostIdeal.τ).loc Cert.MlaPostIdeal.main_arg9)) (m ((c.tc : Thread Cert.MlaPostIdeal.nD Cert.MlaPostIdeal.τ).loc Cert.MlaPostIdeal.main_arg10))).2.2.2.2.2.2.2.2.2 = (fun _ => 1#1)

def Pre_MlaPostRefIdeal (m : (ℓ : Loc Cert.MlaPostRefIdeal.nD Cert.MlaPostRefIdeal.τ Cert.MlaPostRefIdeal.sig) → Buf (Elt Ideal) ℓ) : Prop :=
  True

def Pre_MlaPostRefIdeal_post_finite [hPre_post_finite : Cert.Pre_post_finite.Facts] (m : (ℓ : Loc Cert.MlaPostRefIdeal.nD Cert.MlaPostRefIdeal.τ Cert.MlaPostRefIdeal.sig) → Buf (Elt Ideal) ℓ) : Prop :=
  ∀ c : Dev Cert.MlaPostRefIdeal.nD,
    (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.2.2.2.2.1 = (fun _ => 1#1)
    ∧ (Cert.Pre_post_finite.fn (F := Ideal) (m ((c.tc : Thread Cert.MlaPostRefIdeal.nD Cert.MlaPostRefIdeal.τ).loc Cert.MlaPostRefIdeal.main_arg0)) (m ((c.tc : Thread Cert.MlaPostRefIdeal.nD Cert.MlaPostRefIdeal.τ).loc Cert.MlaPostRefIdeal.main_arg1)) (m ((c.tc : Thread Cert.MlaPostRefIdeal.nD Cert.MlaPostRefIdeal.τ).loc Cert.MlaPostRefIdeal.main_arg2)) (m ((c.tc : Thread Cert.MlaPostRefIdeal.nD Cert.MlaPostRefIdeal.τ).loc Cert.MlaPostRefIdeal.main_arg3)) (m ((c.tc : Thread Cert.MlaPostRefIdeal.nD Cert.MlaPostRefIdeal.τ).loc Cert.MlaPostRefIdeal.main_arg4)) (m ((c.tc : Thread Cert.MlaPostRefIdeal.nD Cert.MlaPostRefIdeal.τ).loc Cert.MlaPostRefIdeal.main_arg5)) (m ((c.tc : Thread Cert.MlaPostRefIdeal.nD Cert.MlaPostRefIdeal.τ).loc Cert.MlaPostRefIdeal.main_arg6)) (m ((c.tc : Thread Cert.MlaPostRefIdeal.nD Cert.MlaPostRefIdeal.τ).loc Cert.MlaPostRefIdeal.main_arg7)) (m ((c.tc : Thread Cert.MlaPostRefIdeal.nD Cert.MlaPostRefIdeal.τ).loc Cert.MlaPostRefIdeal.main_arg8)) (m ((c.tc : Thread Cert.MlaPostRefIdeal.nD Cert.MlaPostRefIdeal.τ).loc Cert.MlaPostRefIdeal.main_arg9)) (m ((c.tc : Thread Cert.MlaPostRefIdeal.nD Cert.MlaPostRefIdeal.τ).loc Cert.MlaPostRefIdeal.main_arg10))).2.2.2.2.2.2.2.2.2 = (fun _ => 1#1)

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepRefIdeal (m : (ℓ : Loc Cert.FoxPrepRefIdeal.nD Cert.FoxPrepRefIdeal.τ Cert.FoxPrepRefIdeal.sig) → Buf (Elt Ideal) ℓ) : Prop :=
  True

def quiescent_FoxPost [hFoxPost : Cert.FoxPost.Facts] : Prop :=
  ∀ (m : (ℓ : Loc Cert.FoxPost.nD Cert.FoxPost.τ Cert.FoxPost.sig) → Buf (Elt Bits) ℓ) (g : Dev Cert.FoxPost.nD → PrngReg), Pre_FoxPost m →
    θ_run (Cert.FoxPost.defs (F := Bits)) (onTc (τ := Cert.FoxPost.τ) (Cert.FoxPost.main (F := Bits))) ⟨m, fun _ => 0, g⟩ (fun r => (∀ c : Dev Cert.FoxPost.nD,
      r.2.mem ((c.tc : Thread Cert.FoxPost.nD Cert.FoxPost.τ).loc Cert.FoxPost.main_arg0) = m ((c.tc : Thread Cert.FoxPost.nD Cert.FoxPost.τ).loc Cert.FoxPost.main_arg0)
      ∧ r.2.mem ((c.tc : Thread Cert.FoxPost.nD Cert.FoxPost.τ).loc Cert.FoxPost.main_arg1) = m ((c.tc : Thread Cert.FoxPost.nD Cert.FoxPost.τ).loc Cert.FoxPost.main_arg1)
      ∧ r.2.mem ((c.tc : Thread Cert.FoxPost.nD Cert.FoxPost.τ).loc Cert.FoxPost.main_arg2) = m ((c.tc : Thread Cert.FoxPost.nD Cert.FoxPost.τ).loc Cert.FoxPost.main_arg2))
      ∧ r.2.sem = fun _ => 0)

def quiescent_FoxPostIdeal [hFoxPostIdeal : Cert.FoxPostIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2))
      ∧ r.2.sem = fun _ => 0)

def quiescent_FoxPostRefIdeal [hFoxPostRefIdeal : Cert.FoxPostRefIdeal.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_FoxBwdRefIdeal_pre_fox_finite [hFoxBwdRefIdeal : Cert.FoxBwdRefIdeal.Facts] [hPre_fox_finite : Cert.Pre_fox_finite.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_fox_finite m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdIdeal_pre_mla_finite [hMlaBwdIdeal : Cert.MlaBwdIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5))
      ∧ r.2.sem = fun _ => 0)

def quiescent_MlaBwdRefIdeal_pre_mla_finite [hMlaBwdRefIdeal : Cert.MlaBwdRefIdeal.Facts] [hPre_mla_finite : Cert.Pre_mla_finite.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_mla_finite m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossIdeal_pre_loss_finite [hFinalLossIdeal : Cert.FinalLossIdeal.Facts] [hPre_loss_finite : Cert.Pre_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal_loss_finite m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_FinalLossRefIdeal_pre_loss_finite [hFinalLossRefIdeal : Cert.FinalLossRefIdeal.Facts] [hPre_loss_finite : Cert.Pre_loss_finite.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal_loss_finite m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInIdeal_pre_in_finite [hBwdInIdeal : Cert.BwdInIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_in_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_BwdInRefIdeal_pre_in_finite [hBwdInRefIdeal : Cert.BwdInRefIdeal.Facts] [hPre_in_finite : Cert.Pre_in_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_in_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1)
      ∧ r.2.mem ((c.tc : Thread Cert.BwdOut.nD Cert.BwdOut.τ).loc Cert.BwdOut.main_arg2) = m ((c.tc : Thread Cert.BwdOut.nD Cert.BwdOut.τ).loc Cert.BwdOut.main_arg2)
      ∧ r.2.mem ((c.tc : Thread Cert.BwdOut.nD Cert.BwdOut.τ).loc Cert.BwdOut.main_arg3) = m ((c.tc : Thread Cert.BwdOut.nD Cert.BwdOut.τ).loc Cert.BwdOut.main_arg3)
      ∧ r.2.mem ((c.tc : Thread Cert.BwdOut.nD Cert.BwdOut.τ).loc Cert.BwdOut.main_arg4) = m ((c.tc : Thread Cert.BwdOut.nD Cert.BwdOut.τ).loc Cert.BwdOut.main_arg4)
      ∧ r.2.mem ((c.tc : Thread Cert.BwdOut.nD Cert.BwdOut.τ).loc Cert.BwdOut.main_arg5) = m ((c.tc : Thread Cert.BwdOut.nD Cert.BwdOut.τ).loc Cert.BwdOut.main_arg5)
      ∧ r.2.mem ((c.tc : Thread Cert.BwdOut.nD Cert.BwdOut.τ).loc Cert.BwdOut.main_arg6) = m ((c.tc : Thread Cert.BwdOut.nD Cert.BwdOut.τ).loc Cert.BwdOut.main_arg6))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
      ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
      ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
      ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
      ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6))
      ∧ r.2.sem = fun _ => 0)

def quiescent_BwdOutIdeal_pre_out_finite [hBwdOutIdeal : Cert.BwdOutIdeal.Facts] [hPre_out_finite : Cert.Pre_out_finite.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal_out_finite m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
      ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
      ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
      ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
      ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6))
      ∧ r.2.sem = fun _ => 0)

def quiescent_BwdOutRefIdeal [hBwdOutRefIdeal : Cert.BwdOutRefIdeal.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2)
      ∧ r.2.mem ((c.tc : Thread Cert.BwdOutRefIdeal.nD Cert.BwdOutRefIdeal.τ).loc Cert.BwdOutRefIdeal.main_arg3) = m ((c.tc : Thread Cert.BwdOutRefIdeal.nD Cert.BwdOutRefIdeal.τ).loc Cert.BwdOutRefIdeal.main_arg3)
      ∧ r.2.mem ((c.tc : Thread Cert.BwdOutRefIdeal.nD Cert.BwdOutRefIdeal.τ).loc Cert.BwdOutRefIdeal.main_arg4) = m ((c.tc : Thread Cert.BwdOutRefIdeal.nD Cert.BwdOutRefIdeal.τ).loc Cert.BwdOutRefIdeal.main_arg4)
      ∧ r.2.mem ((c.tc : Thread Cert.BwdOutRefIdeal.nD Cert.BwdOutRefIdeal.τ).loc Cert.BwdOutRefIdeal.main_arg5) = m ((c.tc : Thread Cert.BwdOutRefIdeal.nD Cert.BwdOutRefIdeal.τ).loc Cert.BwdOutRefIdeal.main_arg5)
      ∧ r.2.mem ((c.tc : Thread Cert.BwdOutRefIdeal.nD Cert.BwdOutRefIdeal.τ).loc Cert.BwdOutRefIdeal.main_arg6) = m ((c.tc : Thread Cert.BwdOutRefIdeal.nD Cert.BwdOutRefIdeal.τ).loc Cert.BwdOutRefIdeal.main_arg6))
      ∧ r.2.sem = fun _ => 0)

def quiescent_BwdOutRefIdeal_pre_out_finite [hBwdOutRefIdeal : Cert.BwdOutRefIdeal.Facts] [hPre_out_finite : Cert.Pre_out_finite.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal_out_finite m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2)
      ∧ r.2.mem ((c.tc : Thread Cert.BwdOutRefIdeal.nD Cert.BwdOutRefIdeal.τ).loc Cert.BwdOutRefIdeal.main_arg3) = m ((c.tc : Thread Cert.BwdOutRefIdeal.nD Cert.BwdOutRefIdeal.τ).loc Cert.BwdOutRefIdeal.main_arg3)
      ∧ r.2.mem ((c.tc : Thread Cert.BwdOutRefIdeal.nD Cert.BwdOutRefIdeal.τ).loc Cert.BwdOutRefIdeal.main_arg4) = m ((c.tc : Thread Cert.BwdOutRefIdeal.nD Cert.BwdOutRefIdeal.τ).loc Cert.BwdOutRefIdeal.main_arg4)
      ∧ r.2.mem ((c.tc : Thread Cert.BwdOutRefIdeal.nD Cert.BwdOutRefIdeal.τ).loc Cert.BwdOutRefIdeal.main_arg5) = m ((c.tc : Thread Cert.BwdOutRefIdeal.nD Cert.BwdOutRefIdeal.τ).loc Cert.BwdOutRefIdeal.main_arg5)
      ∧ r.2.mem ((c.tc : Thread Cert.BwdOutRefIdeal.nD Cert.BwdOutRefIdeal.τ).loc Cert.BwdOutRefIdeal.main_arg6) = m ((c.tc : Thread Cert.BwdOutRefIdeal.nD Cert.BwdOutRefIdeal.τ).loc Cert.BwdOutRefIdeal.main_arg6))
      ∧ r.2.sem = fun _ => 0)

def quiescent_MlaPost [hMlaPost : Cert.MlaPost.Facts] : Prop :=
  ∀ (m : (ℓ : Loc Cert.MlaPost.nD Cert.MlaPost.τ Cert.MlaPost.sig) → Buf (Elt Bits) ℓ) (g : Dev Cert.MlaPost.nD → PrngReg), Pre_MlaPost m →
    θ_run (Cert.MlaPost.defs (F := Bits)) (onTc (τ := Cert.MlaPost.τ) (Cert.MlaPost.main (F := Bits))) ⟨m, fun _ => 0, g⟩ (fun r => (∀ c : Dev Cert.MlaPost.nD,
      r.2.mem ((c.tc : Thread Cert.MlaPost.nD Cert.MlaPost.τ).loc Cert.MlaPost.main_arg0) = m ((c.tc : Thread Cert.MlaPost.nD Cert.MlaPost.τ).loc Cert.MlaPost.main_arg0)
      ∧ r.2.mem ((c.tc : Thread Cert.MlaPost.nD Cert.MlaPost.τ).loc Cert.MlaPost.main_arg1) = m ((c.tc : Thread Cert.MlaPost.nD Cert.MlaPost.τ).loc Cert.MlaPost.main_arg1)
      ∧ r.2.mem ((c.tc : Thread Cert.MlaPost.nD Cert.MlaPost.τ).loc Cert.MlaPost.main_arg2) = m ((c.tc : Thread Cert.MlaPost.nD Cert.MlaPost.τ).loc Cert.MlaPost.main_arg2)
      ∧ r.2.mem ((c.tc : Thread Cert.MlaPost.nD Cert.MlaPost.τ).loc Cert.MlaPost.main_arg3) = m ((c.tc : Thread Cert.MlaPost.nD Cert.MlaPost.τ).loc Cert.MlaPost.main_arg3)
      ∧ r.2.mem ((c.tc : Thread Cert.MlaPost.nD Cert.MlaPost.τ).loc Cert.MlaPost.main_arg4) = m ((c.tc : Thread Cert.MlaPost.nD Cert.MlaPost.τ).loc Cert.MlaPost.main_arg4)
      ∧ r.2.mem ((c.tc : Thread Cert.MlaPost.nD Cert.MlaPost.τ).loc Cert.MlaPost.main_arg5) = m ((c.tc : Thread Cert.MlaPost.nD Cert.MlaPost.τ).loc Cert.MlaPost.main_arg5)
      ∧ r.2.mem ((c.tc : Thread Cert.MlaPost.nD Cert.MlaPost.τ).loc Cert.MlaPost.main_arg6) = m ((c.tc : Thread Cert.MlaPost.nD Cert.MlaPost.τ).loc Cert.MlaPost.main_arg6)
      ∧ r.2.mem ((c.tc : Thread Cert.MlaPost.nD Cert.MlaPost.τ).loc Cert.MlaPost.main_arg7) = m ((c.tc : Thread Cert.MlaPost.nD Cert.MlaPost.τ).loc Cert.MlaPost.main_arg7)
      ∧ r.2.mem ((c.tc : Thread Cert.MlaPost.nD Cert.MlaPost.τ).loc Cert.MlaPost.main_arg8) = m ((c.tc : Thread Cert.MlaPost.nD Cert.MlaPost.τ).loc Cert.MlaPost.main_arg8)
      ∧ r.2.mem ((c.tc : Thread Cert.MlaPost.nD Cert.MlaPost.τ).loc Cert.MlaPost.main_arg9) = m ((c.tc : Thread Cert.MlaPost.nD Cert.MlaPost.τ).loc Cert.MlaPost.main_arg9)
      ∧ r.2.mem ((c.tc : Thread Cert.MlaPost.nD Cert.MlaPost.τ).loc Cert.MlaPost.main_arg10) = m ((c.tc : Thread Cert.MlaPost.nD Cert.MlaPost.τ).loc Cert.MlaPost.main_arg10))
      ∧ r.2.sem = fun _ => 0)

def quiescent_MlaPostIdeal [hMlaPostIdeal : Cert.MlaPostIdeal.Facts] : Prop :=
  ∀ (m : (ℓ : Loc Cert.MlaPostIdeal.nD Cert.MlaPostIdeal.τ Cert.MlaPostIdeal.sig) → Buf (Elt Ideal) ℓ) (g : Dev Cert.MlaPostIdeal.nD → PrngReg), Pre_MlaPostIdeal m →
    θ_run (Cert.MlaPostIdeal.defs (F := Ideal)) (onTc (τ := Cert.MlaPostIdeal.τ) (Cert.MlaPostIdeal.main (F := Ideal))) ⟨m, fun _ => 0, g⟩ (fun r => (∀ c : Dev Cert.MlaPostIdeal.nD,
      r.2.mem ((c.tc : Thread Cert.MlaPostIdeal.nD Cert.MlaPostIdeal.τ).loc Cert.MlaPostIdeal.main_arg0) = m ((c.tc : Thread Cert.MlaPostIdeal.nD Cert.MlaPostIdeal.τ).loc Cert.MlaPostIdeal.main_arg0)
      ∧ r.2.mem ((c.tc : Thread Cert.MlaPostIdeal.nD Cert.MlaPostIdeal.τ).loc Cert.MlaPostIdeal.main_arg1) = m ((c.tc : Thread Cert.MlaPostIdeal.nD Cert.MlaPostIdeal.τ).loc Cert.MlaPostIdeal.main_arg1)
      ∧ r.2.mem ((c.tc : Thread Cert.MlaPostIdeal.nD Cert.MlaPostIdeal.τ).loc Cert.MlaPostIdeal.main_arg2) = m ((c.tc : Thread Cert.MlaPostIdeal.nD Cert.MlaPostIdeal.τ).loc Cert.MlaPostIdeal.main_arg2)
      ∧ r.2.mem ((c.tc : Thread Cert.MlaPostIdeal.nD Cert.MlaPostIdeal.τ).loc Cert.MlaPostIdeal.main_arg3) = m ((c.tc : Thread Cert.MlaPostIdeal.nD Cert.MlaPostIdeal.τ).loc Cert.MlaPostIdeal.main_arg3)
      ∧ r.2.mem ((c.tc : Thread Cert.MlaPostIdeal.nD Cert.MlaPostIdeal.τ).loc Cert.MlaPostIdeal.main_arg4) = m ((c.tc : Thread Cert.MlaPostIdeal.nD Cert.MlaPostIdeal.τ).loc Cert.MlaPostIdeal.main_arg4)
      ∧ r.2.mem ((c.tc : Thread Cert.MlaPostIdeal.nD Cert.MlaPostIdeal.τ).loc Cert.MlaPostIdeal.main_arg5) = m ((c.tc : Thread Cert.MlaPostIdeal.nD Cert.MlaPostIdeal.τ).loc Cert.MlaPostIdeal.main_arg5)
      ∧ r.2.mem ((c.tc : Thread Cert.MlaPostIdeal.nD Cert.MlaPostIdeal.τ).loc Cert.MlaPostIdeal.main_arg6) = m ((c.tc : Thread Cert.MlaPostIdeal.nD Cert.MlaPostIdeal.τ).loc Cert.MlaPostIdeal.main_arg6)
      ∧ r.2.mem ((c.tc : Thread Cert.MlaPostIdeal.nD Cert.MlaPostIdeal.τ).loc Cert.MlaPostIdeal.main_arg7) = m ((c.tc : Thread Cert.MlaPostIdeal.nD Cert.MlaPostIdeal.τ).loc Cert.MlaPostIdeal.main_arg7)
      ∧ r.2.mem ((c.tc : Thread Cert.MlaPostIdeal.nD Cert.MlaPostIdeal.τ).loc Cert.MlaPostIdeal.main_arg8) = m ((c.tc : Thread Cert.MlaPostIdeal.nD Cert.MlaPostIdeal.τ).loc Cert.MlaPostIdeal.main_arg8)
      ∧ r.2.mem ((c.tc : Thread Cert.MlaPostIdeal.nD Cert.MlaPostIdeal.τ).loc Cert.MlaPostIdeal.main_arg9) = m ((c.tc : Thread Cert.MlaPostIdeal.nD Cert.MlaPostIdeal.τ).loc Cert.MlaPostIdeal.main_arg9)
      ∧ r.2.mem ((c.tc : Thread Cert.MlaPostIdeal.nD Cert.MlaPostIdeal.τ).loc Cert.MlaPostIdeal.main_arg10) = m ((c.tc : Thread Cert.MlaPostIdeal.nD Cert.MlaPostIdeal.τ).loc Cert.MlaPostIdeal.main_arg10))
      ∧ r.2.sem = fun _ => 0)

def quiescent_MlaPostIdeal_pre_post_finite [hMlaPostIdeal : Cert.MlaPostIdeal.Facts] [hPre_post_finite : Cert.Pre_post_finite.Facts] : Prop :=
  ∀ (m : (ℓ : Loc Cert.MlaPostIdeal.nD Cert.MlaPostIdeal.τ Cert.MlaPostIdeal.sig) → Buf (Elt Ideal) ℓ) (g : Dev Cert.MlaPostIdeal.nD → PrngReg), Pre_MlaPostIdeal_post_finite m →
    θ_run (Cert.MlaPostIdeal.defs (F := Ideal)) (onTc (τ := Cert.MlaPostIdeal.τ) (Cert.MlaPostIdeal.main (F := Ideal))) ⟨m, fun _ => 0, g⟩ (fun r => (∀ c : Dev Cert.MlaPostIdeal.nD,
      r.2.mem ((c.tc : Thread Cert.MlaPostIdeal.nD Cert.MlaPostIdeal.τ).loc Cert.MlaPostIdeal.main_arg0) = m ((c.tc : Thread Cert.MlaPostIdeal.nD Cert.MlaPostIdeal.τ).loc Cert.MlaPostIdeal.main_arg0)
      ∧ r.2.mem ((c.tc : Thread Cert.MlaPostIdeal.nD Cert.MlaPostIdeal.τ).loc Cert.MlaPostIdeal.main_arg1) = m ((c.tc : Thread Cert.MlaPostIdeal.nD Cert.MlaPostIdeal.τ).loc Cert.MlaPostIdeal.main_arg1)
      ∧ r.2.mem ((c.tc : Thread Cert.MlaPostIdeal.nD Cert.MlaPostIdeal.τ).loc Cert.MlaPostIdeal.main_arg2) = m ((c.tc : Thread Cert.MlaPostIdeal.nD Cert.MlaPostIdeal.τ).loc Cert.MlaPostIdeal.main_arg2)
      ∧ r.2.mem ((c.tc : Thread Cert.MlaPostIdeal.nD Cert.MlaPostIdeal.τ).loc Cert.MlaPostIdeal.main_arg3) = m ((c.tc : Thread Cert.MlaPostIdeal.nD Cert.MlaPostIdeal.τ).loc Cert.MlaPostIdeal.main_arg3)
      ∧ r.2.mem ((c.tc : Thread Cert.MlaPostIdeal.nD Cert.MlaPostIdeal.τ).loc Cert.MlaPostIdeal.main_arg4) = m ((c.tc : Thread Cert.MlaPostIdeal.nD Cert.MlaPostIdeal.τ).loc Cert.MlaPostIdeal.main_arg4)
      ∧ r.2.mem ((c.tc : Thread Cert.MlaPostIdeal.nD Cert.MlaPostIdeal.τ).loc Cert.MlaPostIdeal.main_arg5) = m ((c.tc : Thread Cert.MlaPostIdeal.nD Cert.MlaPostIdeal.τ).loc Cert.MlaPostIdeal.main_arg5)
      ∧ r.2.mem ((c.tc : Thread Cert.MlaPostIdeal.nD Cert.MlaPostIdeal.τ).loc Cert.MlaPostIdeal.main_arg6) = m ((c.tc : Thread Cert.MlaPostIdeal.nD Cert.MlaPostIdeal.τ).loc Cert.MlaPostIdeal.main_arg6)
      ∧ r.2.mem ((c.tc : Thread Cert.MlaPostIdeal.nD Cert.MlaPostIdeal.τ).loc Cert.MlaPostIdeal.main_arg7) = m ((c.tc : Thread Cert.MlaPostIdeal.nD Cert.MlaPostIdeal.τ).loc Cert.MlaPostIdeal.main_arg7)
      ∧ r.2.mem ((c.tc : Thread Cert.MlaPostIdeal.nD Cert.MlaPostIdeal.τ).loc Cert.MlaPostIdeal.main_arg8) = m ((c.tc : Thread Cert.MlaPostIdeal.nD Cert.MlaPostIdeal.τ).loc Cert.MlaPostIdeal.main_arg8)
      ∧ r.2.mem ((c.tc : Thread Cert.MlaPostIdeal.nD Cert.MlaPostIdeal.τ).loc Cert.MlaPostIdeal.main_arg9) = m ((c.tc : Thread Cert.MlaPostIdeal.nD Cert.MlaPostIdeal.τ).loc Cert.MlaPostIdeal.main_arg9)
      ∧ r.2.mem ((c.tc : Thread Cert.MlaPostIdeal.nD Cert.MlaPostIdeal.τ).loc Cert.MlaPostIdeal.main_arg10) = m ((c.tc : Thread Cert.MlaPostIdeal.nD Cert.MlaPostIdeal.τ).loc Cert.MlaPostIdeal.main_arg10))
      ∧ r.2.sem = fun _ => 0)

def quiescent_MlaPostRefIdeal [hMlaPostRefIdeal : Cert.MlaPostRefIdeal.Facts] : Prop :=
  ∀ (m : (ℓ : Loc Cert.MlaPostRefIdeal.nD Cert.MlaPostRefIdeal.τ Cert.MlaPostRefIdeal.sig) → Buf (Elt Ideal) ℓ) (g : Dev Cert.MlaPostRefIdeal.nD → PrngReg), Pre_MlaPostRefIdeal m →
    θ_run (Cert.MlaPostRefIdeal.defs (F := Ideal)) (onTc (τ := Cert.MlaPostRefIdeal.τ) (Cert.MlaPostRefIdeal.main (F := Ideal))) ⟨m, fun _ => 0, g⟩ (fun r => (∀ c : Dev Cert.MlaPostRefIdeal.nD,
      r.2.mem ((c.tc : Thread Cert.MlaPostRefIdeal.nD Cert.MlaPostRefIdeal.τ).loc Cert.MlaPostRefIdeal.main_arg0) = m ((c.tc : Thread Cert.MlaPostRefIdeal.nD Cert.MlaPostRefIdeal.τ).loc Cert.MlaPostRefIdeal.main_arg0)
      ∧ r.2.mem ((c.tc : Thread Cert.MlaPostRefIdeal.nD Cert.MlaPostRefIdeal.τ).loc Cert.MlaPostRefIdeal.main_arg1) = m ((c.tc : Thread Cert.MlaPostRefIdeal.nD Cert.MlaPostRefIdeal.τ).loc Cert.MlaPostRefIdeal.main_arg1)
      ∧ r.2.mem ((c.tc : Thread Cert.MlaPostRefIdeal.nD Cert.MlaPostRefIdeal.τ).loc Cert.MlaPostRefIdeal.main_arg2) = m ((c.tc : Thread Cert.MlaPostRefIdeal.nD Cert.MlaPostRefIdeal.τ).loc Cert.MlaPostRefIdeal.main_arg2)
      ∧ r.2.mem ((c.tc : Thread Cert.MlaPostRefIdeal.nD Cert.MlaPostRefIdeal.τ).loc Cert.MlaPostRefIdeal.main_arg3) = m ((c.tc : Thread Cert.MlaPostRefIdeal.nD Cert.MlaPostRefIdeal.τ).loc Cert.MlaPostRefIdeal.main_arg3)
      ∧ r.2.mem ((c.tc : Thread Cert.MlaPostRefIdeal.nD Cert.MlaPostRefIdeal.τ).loc Cert.MlaPostRefIdeal.main_arg4) = m ((c.tc : Thread Cert.MlaPostRefIdeal.nD Cert.MlaPostRefIdeal.τ).loc Cert.MlaPostRefIdeal.main_arg4)
      ∧ r.2.mem ((c.tc : Thread Cert.MlaPostRefIdeal.nD Cert.MlaPostRefIdeal.τ).loc Cert.MlaPostRefIdeal.main_arg5) = m ((c.tc : Thread Cert.MlaPostRefIdeal.nD Cert.MlaPostRefIdeal.τ).loc Cert.MlaPostRefIdeal.main_arg5)
      ∧ r.2.mem ((c.tc : Thread Cert.MlaPostRefIdeal.nD Cert.MlaPostRefIdeal.τ).loc Cert.MlaPostRefIdeal.main_arg6) = m ((c.tc : Thread Cert.MlaPostRefIdeal.nD Cert.MlaPostRefIdeal.τ).loc Cert.MlaPostRefIdeal.main_arg6)
      ∧ r.2.mem ((c.tc : Thread Cert.MlaPostRefIdeal.nD Cert.MlaPostRefIdeal.τ).loc Cert.MlaPostRefIdeal.main_arg7) = m ((c.tc : Thread Cert.MlaPostRefIdeal.nD Cert.MlaPostRefIdeal.τ).loc Cert.MlaPostRefIdeal.main_arg7)
      ∧ r.2.mem ((c.tc : Thread Cert.MlaPostRefIdeal.nD Cert.MlaPostRefIdeal.τ).loc Cert.MlaPostRefIdeal.main_arg8) = m ((c.tc : Thread Cert.MlaPostRefIdeal.nD Cert.MlaPostRefIdeal.τ).loc Cert.MlaPostRefIdeal.main_arg8)
      ∧ r.2.mem ((c.tc : Thread Cert.MlaPostRefIdeal.nD Cert.MlaPostRefIdeal.τ).loc Cert.MlaPostRefIdeal.main_arg9) = m ((c.tc : Thread Cert.MlaPostRefIdeal.nD Cert.MlaPostRefIdeal.τ).loc Cert.MlaPostRefIdeal.main_arg9)
      ∧ r.2.mem ((c.tc : Thread Cert.MlaPostRefIdeal.nD Cert.MlaPostRefIdeal.τ).loc Cert.MlaPostRefIdeal.main_arg10) = m ((c.tc : Thread Cert.MlaPostRefIdeal.nD Cert.MlaPostRefIdeal.τ).loc Cert.MlaPostRefIdeal.main_arg10))
      ∧ r.2.sem = fun _ => 0)

def quiescent_MlaPostRefIdeal_pre_post_finite [hMlaPostRefIdeal : Cert.MlaPostRefIdeal.Facts] [hPre_post_finite : Cert.Pre_post_finite.Facts] : Prop :=
  ∀ (m : (ℓ : Loc Cert.MlaPostRefIdeal.nD Cert.MlaPostRefIdeal.τ Cert.MlaPostRefIdeal.sig) → Buf (Elt Ideal) ℓ) (g : Dev Cert.MlaPostRefIdeal.nD → PrngReg), Pre_MlaPostRefIdeal_post_finite m →
    θ_run (Cert.MlaPostRefIdeal.defs (F := Ideal)) (onTc (τ := Cert.MlaPostRefIdeal.τ) (Cert.MlaPostRefIdeal.main (F := Ideal))) ⟨m, fun _ => 0, g⟩ (fun r => (∀ c : Dev Cert.MlaPostRefIdeal.nD,
      r.2.mem ((c.tc : Thread Cert.MlaPostRefIdeal.nD Cert.MlaPostRefIdeal.τ).loc Cert.MlaPostRefIdeal.main_arg0) = m ((c.tc : Thread Cert.MlaPostRefIdeal.nD Cert.MlaPostRefIdeal.τ).loc Cert.MlaPostRefIdeal.main_arg0)
      ∧ r.2.mem ((c.tc : Thread Cert.MlaPostRefIdeal.nD Cert.MlaPostRefIdeal.τ).loc Cert.MlaPostRefIdeal.main_arg1) = m ((c.tc : Thread Cert.MlaPostRefIdeal.nD Cert.MlaPostRefIdeal.τ).loc Cert.MlaPostRefIdeal.main_arg1)
      ∧ r.2.mem ((c.tc : Thread Cert.MlaPostRefIdeal.nD Cert.MlaPostRefIdeal.τ).loc Cert.MlaPostRefIdeal.main_arg2) = m ((c.tc : Thread Cert.MlaPostRefIdeal.nD Cert.MlaPostRefIdeal.τ).loc Cert.MlaPostRefIdeal.main_arg2)
      ∧ r.2.mem ((c.tc : Thread Cert.MlaPostRefIdeal.nD Cert.MlaPostRefIdeal.τ).loc Cert.MlaPostRefIdeal.main_arg3) = m ((c.tc : Thread Cert.MlaPostRefIdeal.nD Cert.MlaPostRefIdeal.τ).loc Cert.MlaPostRefIdeal.main_arg3)
      ∧ r.2.mem ((c.tc : Thread Cert.MlaPostRefIdeal.nD Cert.MlaPostRefIdeal.τ).loc Cert.MlaPostRefIdeal.main_arg4) = m ((c.tc : Thread Cert.MlaPostRefIdeal.nD Cert.MlaPostRefIdeal.τ).loc Cert.MlaPostRefIdeal.main_arg4)
      ∧ r.2.mem ((c.tc : Thread Cert.MlaPostRefIdeal.nD Cert.MlaPostRefIdeal.τ).loc Cert.MlaPostRefIdeal.main_arg5) = m ((c.tc : Thread Cert.MlaPostRefIdeal.nD Cert.MlaPostRefIdeal.τ).loc Cert.MlaPostRefIdeal.main_arg5)
      ∧ r.2.mem ((c.tc : Thread Cert.MlaPostRefIdeal.nD Cert.MlaPostRefIdeal.τ).loc Cert.MlaPostRefIdeal.main_arg6) = m ((c.tc : Thread Cert.MlaPostRefIdeal.nD Cert.MlaPostRefIdeal.τ).loc Cert.MlaPostRefIdeal.main_arg6)
      ∧ r.2.mem ((c.tc : Thread Cert.MlaPostRefIdeal.nD Cert.MlaPostRefIdeal.τ).loc Cert.MlaPostRefIdeal.main_arg7) = m ((c.tc : Thread Cert.MlaPostRefIdeal.nD Cert.MlaPostRefIdeal.τ).loc Cert.MlaPostRefIdeal.main_arg7)
      ∧ r.2.mem ((c.tc : Thread Cert.MlaPostRefIdeal.nD Cert.MlaPostRefIdeal.τ).loc Cert.MlaPostRefIdeal.main_arg8) = m ((c.tc : Thread Cert.MlaPostRefIdeal.nD Cert.MlaPostRefIdeal.τ).loc Cert.MlaPostRefIdeal.main_arg8)
      ∧ r.2.mem ((c.tc : Thread Cert.MlaPostRefIdeal.nD Cert.MlaPostRefIdeal.τ).loc Cert.MlaPostRefIdeal.main_arg9) = m ((c.tc : Thread Cert.MlaPostRefIdeal.nD Cert.MlaPostRefIdeal.τ).loc Cert.MlaPostRefIdeal.main_arg9)
      ∧ r.2.mem ((c.tc : Thread Cert.MlaPostRefIdeal.nD Cert.MlaPostRefIdeal.τ).loc Cert.MlaPostRefIdeal.main_arg10) = m ((c.tc : Thread Cert.MlaPostRefIdeal.nD Cert.MlaPostRefIdeal.τ).loc Cert.MlaPostRefIdeal.main_arg10))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2)
      ∧ r.2.mem ((c.tc : Thread Cert.LnIn.nD Cert.LnIn.τ).loc Cert.LnIn.main_arg3) = m ((c.tc : Thread Cert.LnIn.nD Cert.LnIn.τ).loc Cert.LnIn.main_arg3)
      ∧ r.2.mem ((c.tc : Thread Cert.LnIn.nD Cert.LnIn.τ).loc Cert.LnIn.main_arg4) = m ((c.tc : Thread Cert.LnIn.nD Cert.LnIn.τ).loc Cert.LnIn.main_arg4))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
      ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3)
      ∧ r.2.mem ((c.tc : Thread Cert.LnInIdeal.nD Cert.LnInIdeal.τ).loc Cert.LnInIdeal.main_arg4) = m ((c.tc : Thread Cert.LnInIdeal.nD Cert.LnInIdeal.τ).loc Cert.LnInIdeal.main_arg4))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2)
      ∧ r.2.mem ((c.tc : Thread Cert.LnInRefIdeal.nD Cert.LnInRefIdeal.τ).loc Cert.LnInRefIdeal.main_arg3) = m ((c.tc : Thread Cert.LnInRefIdeal.nD Cert.LnInRefIdeal.τ).loc Cert.LnInRefIdeal.main_arg3)
      ∧ r.2.mem ((c.tc : Thread Cert.LnInRefIdeal.nD Cert.LnInRefIdeal.τ).loc Cert.LnInRefIdeal.main_arg4) = m ((c.tc : Thread Cert.LnInRefIdeal.nD Cert.LnInRefIdeal.τ).loc Cert.LnInRefIdeal.main_arg4))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1))
      ∧ r.2.sem = fun _ => 0)

def preserves_FoxPost_FoxPostIdeal : Prop :=
  True

def algebraic_FoxPostIdeal_FoxPostRefIdeal [hFoxPostIdeal : Cert.FoxPostIdeal.Facts] [hFoxPostRefIdeal : Cert.FoxPostRefIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg)
    (m' : (ℓ : Loc Cert.FoxPostRefIdeal.nD Cert.FoxPostRefIdeal.τ Cert.FoxPostRefIdeal.sig) → Buf (Elt Ideal) ℓ) (g' : Dev Cert.FoxPostRefIdeal.nD → PrngReg), Pre_FoxPostIdeal m →
    (∀ c : Dev Cert.FoxPostIdeal.nD,
      m' ((c.tc : Thread Cert.FoxPostRefIdeal.nD Cert.FoxPostRefIdeal.τ).loc Cert.FoxPostRefIdeal.main_arg0) = m ((c.tc : Thread Cert.FoxPostIdeal.nD Cert.FoxPostIdeal.τ).loc Cert.FoxPostIdeal.main_arg0)
      ∧ m' ((c.tc : Thread Cert.FoxPostRefIdeal.nD Cert.FoxPostRefIdeal.τ).loc Cert.FoxPostRefIdeal.main_arg1) = m ((c.tc : Thread Cert.FoxPostIdeal.nD Cert.FoxPostIdeal.τ).loc Cert.FoxPostIdeal.main_arg1)
      ∧ m' ((c.tc : Thread Cert.FoxPostRefIdeal.nD Cert.FoxPostRefIdeal.τ).loc Cert.FoxPostRefIdeal.main_arg2) = m ((c.tc : Thread Cert.FoxPostIdeal.nD Cert.FoxPostIdeal.τ).loc Cert.FoxPostIdeal.main_arg2)) →
    ∃ (v0 : (c : Dev Cert.FoxPostIdeal.nD) → Buf (Elt Ideal) ((c.tc : Thread Cert.FoxPostIdeal.nD Cert.FoxPostIdeal.τ).loc Cert.FoxPostIdeal.main_v17_0)) (v1 : (c : Dev Cert.FoxPostIdeal.nD) → Buf (Elt Ideal) ((c.tc : Thread Cert.FoxPostIdeal.nD Cert.FoxPostIdeal.τ).loc Cert.FoxPostIdeal.main_v17_1)),
      θ_run (Cert.FoxPostIdeal.defs (F := Ideal)) (onTc (τ := Cert.FoxPostIdeal.τ) (Cert.FoxPostIdeal.main (F := Ideal))) ⟨m, fun _ => 0, g⟩ (fun r => ∀ c : Dev Cert.FoxPostIdeal.nD,
          r.2.mem ((c.tc : Thread Cert.FoxPostIdeal.nD Cert.FoxPostIdeal.τ).loc Cert.FoxPostIdeal.main_v17_0) = v0 c
          ∧ r.2.mem ((c.tc : Thread Cert.FoxPostIdeal.nD Cert.FoxPostIdeal.τ).loc Cert.FoxPostIdeal.main_v17_1) = v1 c
          ∧ r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
          ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
          ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2))
      ∧ θ_run (Cert.FoxPostRefIdeal.defs (F := Ideal)) (onTc (τ := Cert.FoxPostRefIdeal.τ) (Cert.FoxPostRefIdeal.main (F := Ideal))) ⟨m', fun _ => 0, g'⟩ (fun r => ∀ c : Dev Cert.FoxPostRefIdeal.nD,
          r.2.mem ((c.tc : Thread Cert.FoxPostRefIdeal.nD Cert.FoxPostRefIdeal.τ).loc Cert.FoxPostRefIdeal.main_v11) = v0 c
          ∧ r.2.mem ((c.tc : Thread Cert.FoxPostRefIdeal.nD Cert.FoxPostRefIdeal.τ).loc Cert.FoxPostRefIdeal.main_v13) = v1 c
          ∧ r.2.mem ((c.tc : Thread Cert.FoxPostRefIdeal.nD Cert.FoxPostRefIdeal.τ).loc Cert.FoxPostRefIdeal.main_arg0) = m' ((c.tc : Thread Cert.FoxPostRefIdeal.nD Cert.FoxPostRefIdeal.τ).loc Cert.FoxPostRefIdeal.main_arg0)
          ∧ r.2.mem ((c.tc : Thread Cert.FoxPostRefIdeal.nD Cert.FoxPostRefIdeal.τ).loc Cert.FoxPostRefIdeal.main_arg1) = m' ((c.tc : Thread Cert.FoxPostRefIdeal.nD Cert.FoxPostRefIdeal.τ).loc Cert.FoxPostRefIdeal.main_arg1)
          ∧ r.2.mem ((c.tc : Thread Cert.FoxPostRefIdeal.nD Cert.FoxPostRefIdeal.τ).loc Cert.FoxPostRefIdeal.main_arg2) = m' ((c.tc : Thread Cert.FoxPostRefIdeal.nD Cert.FoxPostRefIdeal.τ).loc Cert.FoxPostRefIdeal.main_arg2))

def preserves_FoxBwd_FoxBwdIdeal : Prop :=
  IdealRules.named_const.Statement Cert.FoxBwdIdeal.κ "mask" .f32 0xF149F2CA#32 ⊥

def algebraic_FoxBwdIdeal_FoxBwdRefIdeal_pre_fox_finite [hFoxBwdIdeal : Cert.FoxBwdIdeal.Facts] [hFoxBwdRefIdeal : Cert.FoxBwdRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_fox_finite m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v55)) (v1 : (c : Dev Cert.FoxBwdIdeal.nD) → Buf (Elt Ideal) ((c.tc : Thread Cert.FoxBwdIdeal.nD Cert.FoxBwdIdeal.τ).loc Cert.FoxBwdIdeal.main_v53_1)) (v2 : (c : Dev Cert.FoxBwdIdeal.nD) → Buf (Elt Ideal) ((c.tc : Thread Cert.FoxBwdIdeal.nD Cert.FoxBwdIdeal.τ).loc Cert.FoxBwdIdeal.main_v53_2)) (v3 : (c : Dev Cert.FoxBwdIdeal.nD) → Buf (Elt Ideal) ((c.tc : Thread Cert.FoxBwdIdeal.nD Cert.FoxBwdIdeal.τ).loc Cert.FoxBwdIdeal.main_v64)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v55) = v0 c
          ∧ r.2.mem ((c.tc : Thread Cert.FoxBwdIdeal.nD Cert.FoxBwdIdeal.τ).loc Cert.FoxBwdIdeal.main_v53_1) = v1 c
          ∧ r.2.mem ((c.tc : Thread Cert.FoxBwdIdeal.nD Cert.FoxBwdIdeal.τ).loc Cert.FoxBwdIdeal.main_v53_2) = v2 c
          ∧ r.2.mem ((c.tc : Thread Cert.FoxBwdIdeal.nD Cert.FoxBwdIdeal.τ).loc Cert.FoxBwdIdeal.main_v64) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v88) = v0 c
          ∧ r.2.mem ((c.tc : Thread Cert.FoxBwdRefIdeal.nD Cert.FoxBwdRefIdeal.τ).loc Cert.FoxBwdRefIdeal.main_v87) = v1 c
          ∧ r.2.mem ((c.tc : Thread Cert.FoxBwdRefIdeal.nD Cert.FoxBwdRefIdeal.τ).loc Cert.FoxBwdRefIdeal.main_v86) = v2 c
          ∧ r.2.mem ((c.tc : Thread Cert.FoxBwdRefIdeal.nD Cert.FoxBwdRefIdeal.τ).loc Cert.FoxBwdRefIdeal.main_v79) = v3 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4))

def preserves_MlaBwd_MlaBwdIdeal : Prop :=
  IdealRules.named_const.Statement Cert.MlaBwdIdeal.κ "mask" .f32 0xF149F2CA#32 ⊥

def algebraic_MlaBwdIdeal_MlaBwdRefIdeal_pre_mla_finite [hMlaBwdIdeal : Cert.MlaBwdIdeal.Facts] [hMlaBwdRefIdeal : Cert.MlaBwdRefIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_mla_finite m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)
      ∧ m' ((c.tc : Thread Cert.MlaBwdRefIdeal.nD Cert.MlaBwdRefIdeal.τ).loc Cert.MlaBwdRefIdeal.main_arg4) = m ((c.tc : Thread Cert.MlaBwdIdeal.nD Cert.MlaBwdIdeal.τ).loc Cert.MlaBwdIdeal.main_arg4)
      ∧ m' ((c.tc : Thread Cert.MlaBwdRefIdeal.nD Cert.MlaBwdRefIdeal.τ).loc Cert.MlaBwdRefIdeal.main_arg5) = m ((c.tc : Thread Cert.MlaBwdIdeal.nD Cert.MlaBwdIdeal.τ).loc Cert.MlaBwdIdeal.main_arg5)) →
    ∃ (v0 : (c : Dev Cert.MlaBwdIdeal.nD) → Buf (Elt Ideal) ((c.tc : Thread Cert.MlaBwdIdeal.nD Cert.MlaBwdIdeal.τ).loc Cert.MlaBwdIdeal.main_v56)) (v1 : (c : Dev Cert.MlaBwdIdeal.nD) → Buf (Elt Ideal) ((c.tc : Thread Cert.MlaBwdIdeal.nD Cert.MlaBwdIdeal.τ).loc Cert.MlaBwdIdeal.main_v57)) (v2 : (c : Dev Cert.MlaBwdIdeal.nD) → Buf (Elt Ideal) ((c.tc : Thread Cert.MlaBwdIdeal.nD Cert.MlaBwdIdeal.τ).loc Cert.MlaBwdIdeal.main_v58)) (v3 : (c : Dev Cert.MlaBwdIdeal.nD) → Buf (Elt Ideal) ((c.tc : Thread Cert.MlaBwdIdeal.nD Cert.MlaBwdIdeal.τ).loc Cert.MlaBwdIdeal.main_v60)) (v4 : (c : Dev Cert.MlaBwdIdeal.nD) → Buf (Elt Ideal) ((c.tc : Thread Cert.MlaBwdIdeal.nD Cert.MlaBwdIdeal.τ).loc Cert.MlaBwdIdeal.main_v61)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v56) = v0 c
          ∧ r.2.mem ((c.tc : Thread Cert.MlaBwdIdeal.nD Cert.MlaBwdIdeal.τ).loc Cert.MlaBwdIdeal.main_v57) = v1 c
          ∧ r.2.mem ((c.tc : Thread Cert.MlaBwdIdeal.nD Cert.MlaBwdIdeal.τ).loc Cert.MlaBwdIdeal.main_v58) = v2 c
          ∧ r.2.mem ((c.tc : Thread Cert.MlaBwdIdeal.nD Cert.MlaBwdIdeal.τ).loc Cert.MlaBwdIdeal.main_v60) = v3 c
          ∧ r.2.mem ((c.tc : Thread Cert.MlaBwdIdeal.nD Cert.MlaBwdIdeal.τ).loc Cert.MlaBwdIdeal.main_v61) = v4 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v69) = v0 c
          ∧ r.2.mem ((c.tc : Thread Cert.MlaBwdRefIdeal.nD Cert.MlaBwdRefIdeal.τ).loc Cert.MlaBwdRefIdeal.main_v64) = v1 c
          ∧ r.2.mem ((c.tc : Thread Cert.MlaBwdRefIdeal.nD Cert.MlaBwdRefIdeal.τ).loc Cert.MlaBwdRefIdeal.main_v67) = v2 c
          ∧ r.2.mem ((c.tc : Thread Cert.MlaBwdRefIdeal.nD Cert.MlaBwdRefIdeal.τ).loc Cert.MlaBwdRefIdeal.main_v65) = v3 c
          ∧ r.2.mem ((c.tc : Thread Cert.MlaBwdRefIdeal.nD Cert.MlaBwdRefIdeal.τ).loc Cert.MlaBwdRefIdeal.main_v47) = v4 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3)
          ∧ r.2.mem ((c.tc : Thread Cert.MlaBwdRefIdeal.nD Cert.MlaBwdRefIdeal.τ).loc Cert.MlaBwdRefIdeal.main_arg4) = m' ((c.tc : Thread Cert.MlaBwdRefIdeal.nD Cert.MlaBwdRefIdeal.τ).loc Cert.MlaBwdRefIdeal.main_arg4)
          ∧ r.2.mem ((c.tc : Thread Cert.MlaBwdRefIdeal.nD Cert.MlaBwdRefIdeal.τ).loc Cert.MlaBwdRefIdeal.main_arg5) = m' ((c.tc : Thread Cert.MlaBwdRefIdeal.nD Cert.MlaBwdRefIdeal.τ).loc Cert.MlaBwdRefIdeal.main_arg5))

def preserves_FinalLoss_FinalLossIdeal : Prop :=
  True

def algebraic_FinalLossIdeal_FinalLossRefIdeal_pre_loss_finite [hFinalLossIdeal : Cert.FinalLossIdeal.Facts] [hFinalLossRefIdeal : Cert.FinalLossRefIdeal.Facts] [hPre_loss_finite : Cert.Pre_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal_loss_finite m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v1_0)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v1_0) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v50) = v0 c
          ∧ r.2.mem ((c.tc : Thread Cert.FinalLossRefIdeal.nD Cert.FinalLossRefIdeal.τ).loc Cert.FinalLossRefIdeal.main_v52) = v1 c
          ∧ r.2.mem ((c.tc : Thread Cert.FinalLossRefIdeal.nD Cert.FinalLossRefIdeal.τ).loc Cert.FinalLossRefIdeal.main_v53) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v2)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v2) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v6) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_BwdIn_BwdInIdeal : Prop :=
  True

def algebraic_BwdInIdeal_BwdInRefIdeal_pre_in_finite [hBwdInIdeal : Cert.BwdInIdeal.Facts] [hBwdInRefIdeal : Cert.BwdInRefIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_in_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)) →
    ∃ (v0 : (c : Dev Cert.BwdInIdeal.nD) → Buf (Elt Ideal) ((c.tc : Thread Cert.BwdInIdeal.nD Cert.BwdInIdeal.τ).loc Cert.BwdInIdeal.main_v31_0)) (v1 : (c : Dev Cert.BwdInIdeal.nD) → Buf (Elt Ideal) ((c.tc : Thread Cert.BwdInIdeal.nD Cert.BwdInIdeal.τ).loc Cert.BwdInIdeal.main_v31_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v31_0) = v0 c
          ∧ r.2.mem ((c.tc : Thread Cert.BwdInIdeal.nD Cert.BwdInIdeal.τ).loc Cert.BwdInIdeal.main_v31_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v56) = v0 c
          ∧ r.2.mem ((c.tc : Thread Cert.BwdInRefIdeal.nD Cert.BwdInRefIdeal.τ).loc Cert.BwdInRefIdeal.main_v61) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5))

def preserves_BwdOut_BwdOutIdeal : Prop :=
  True

def algebraic_BwdOutIdeal_BwdOutRefIdeal_pre_out_finite [hBwdOutIdeal : Cert.BwdOutIdeal.Facts] [hBwdOutRefIdeal : Cert.BwdOutRefIdeal.Facts] [hPre_out_finite : Cert.Pre_out_finite.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutRefIdeal.nD Cert.BwdOutRefIdeal.τ Cert.BwdOutRefIdeal.sig) → Buf (Elt Ideal) ℓ) (g' : Dev Cert.BwdOutRefIdeal.nD → PrngReg), Pre_BwdOutIdeal_out_finite m →
    (∀ c : Dev Cert.BwdOutIdeal.nD,
      m' ((c.tc : Thread Cert.BwdOutRefIdeal.nD Cert.BwdOutRefIdeal.τ).loc Cert.BwdOutRefIdeal.main_arg0) = m ((c.tc : Thread Cert.BwdOutIdeal.nD Cert.BwdOutIdeal.τ).loc Cert.BwdOutIdeal.main_arg0)
      ∧ m' ((c.tc : Thread Cert.BwdOutRefIdeal.nD Cert.BwdOutRefIdeal.τ).loc Cert.BwdOutRefIdeal.main_arg1) = m ((c.tc : Thread Cert.BwdOutIdeal.nD Cert.BwdOutIdeal.τ).loc Cert.BwdOutIdeal.main_arg1)
      ∧ m' ((c.tc : Thread Cert.BwdOutRefIdeal.nD Cert.BwdOutRefIdeal.τ).loc Cert.BwdOutRefIdeal.main_arg2) = m ((c.tc : Thread Cert.BwdOutIdeal.nD Cert.BwdOutIdeal.τ).loc Cert.BwdOutIdeal.main_arg2)
      ∧ m' ((c.tc : Thread Cert.BwdOutRefIdeal.nD Cert.BwdOutRefIdeal.τ).loc Cert.BwdOutRefIdeal.main_arg3) = m ((c.tc : Thread Cert.BwdOutIdeal.nD Cert.BwdOutIdeal.τ).loc Cert.BwdOutIdeal.main_arg3)
      ∧ m' ((c.tc : Thread Cert.BwdOutRefIdeal.nD Cert.BwdOutRefIdeal.τ).loc Cert.BwdOutRefIdeal.main_arg4) = m ((c.tc : Thread Cert.BwdOutIdeal.nD Cert.BwdOutIdeal.τ).loc Cert.BwdOutIdeal.main_arg4)
      ∧ m' ((c.tc : Thread Cert.BwdOutRefIdeal.nD Cert.BwdOutRefIdeal.τ).loc Cert.BwdOutRefIdeal.main_arg5) = m ((c.tc : Thread Cert.BwdOutIdeal.nD Cert.BwdOutIdeal.τ).loc Cert.BwdOutIdeal.main_arg5)
      ∧ m' ((c.tc : Thread Cert.BwdOutRefIdeal.nD Cert.BwdOutRefIdeal.τ).loc Cert.BwdOutRefIdeal.main_arg6) = m ((c.tc : Thread Cert.BwdOutIdeal.nD Cert.BwdOutIdeal.τ).loc Cert.BwdOutIdeal.main_arg6)) →
    ∃ (v0 : (c : Dev Cert.BwdOutIdeal.nD) → Buf (Elt Ideal) ((c.tc : Thread Cert.BwdOutIdeal.nD Cert.BwdOutIdeal.τ).loc Cert.BwdOutIdeal.main_v17_0)) (v1 : (c : Dev Cert.BwdOutIdeal.nD) → Buf (Elt Ideal) ((c.tc : Thread Cert.BwdOutIdeal.nD Cert.BwdOutIdeal.τ).loc Cert.BwdOutIdeal.main_v20_0)) (v2 : (c : Dev Cert.BwdOutIdeal.nD) → Buf (Elt Ideal) ((c.tc : Thread Cert.BwdOutIdeal.nD Cert.BwdOutIdeal.τ).loc Cert.BwdOutIdeal.main_v20_1)) (v3 : (c : Dev Cert.BwdOutIdeal.nD) → Buf (Elt Ideal) ((c.tc : Thread Cert.BwdOutIdeal.nD Cert.BwdOutIdeal.τ).loc Cert.BwdOutIdeal.main_v20_2)) (v4 : (c : Dev Cert.BwdOutIdeal.nD) → Buf (Elt Ideal) ((c.tc : Thread Cert.BwdOutIdeal.nD Cert.BwdOutIdeal.τ).loc Cert.BwdOutIdeal.main_v20_3)) (v5 : (c : Dev Cert.BwdOutIdeal.nD) → Buf (Elt Ideal) ((c.tc : Thread Cert.BwdOutIdeal.nD Cert.BwdOutIdeal.τ).loc Cert.BwdOutIdeal.main_v20_4)) (v6 : (c : Dev Cert.BwdOutIdeal.nD) → Buf (Elt Ideal) ((c.tc : Thread Cert.BwdOutIdeal.nD Cert.BwdOutIdeal.τ).loc Cert.BwdOutIdeal.main_v20_5)) (v7 : (c : Dev Cert.BwdOutIdeal.nD) → Buf (Elt Ideal) ((c.tc : Thread Cert.BwdOutIdeal.nD Cert.BwdOutIdeal.τ).loc Cert.BwdOutIdeal.main_v22)) (v8 : (c : Dev Cert.BwdOutIdeal.nD) → Buf (Elt Ideal) ((c.tc : Thread Cert.BwdOutIdeal.nD Cert.BwdOutIdeal.τ).loc Cert.BwdOutIdeal.main_v24)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v17_0) = v0 c
          ∧ r.2.mem ((c.tc : Thread Cert.BwdOutIdeal.nD Cert.BwdOutIdeal.τ).loc Cert.BwdOutIdeal.main_v20_0) = v1 c
          ∧ r.2.mem ((c.tc : Thread Cert.BwdOutIdeal.nD Cert.BwdOutIdeal.τ).loc Cert.BwdOutIdeal.main_v20_1) = v2 c
          ∧ r.2.mem ((c.tc : Thread Cert.BwdOutIdeal.nD Cert.BwdOutIdeal.τ).loc Cert.BwdOutIdeal.main_v20_2) = v3 c
          ∧ r.2.mem ((c.tc : Thread Cert.BwdOutIdeal.nD Cert.BwdOutIdeal.τ).loc Cert.BwdOutIdeal.main_v20_3) = v4 c
          ∧ r.2.mem ((c.tc : Thread Cert.BwdOutIdeal.nD Cert.BwdOutIdeal.τ).loc Cert.BwdOutIdeal.main_v20_4) = v5 c
          ∧ r.2.mem ((c.tc : Thread Cert.BwdOutIdeal.nD Cert.BwdOutIdeal.τ).loc Cert.BwdOutIdeal.main_v20_5) = v6 c
          ∧ r.2.mem ((c.tc : Thread Cert.BwdOutIdeal.nD Cert.BwdOutIdeal.τ).loc Cert.BwdOutIdeal.main_v22) = v7 c
          ∧ r.2.mem ((c.tc : Thread Cert.BwdOutIdeal.nD Cert.BwdOutIdeal.τ).loc Cert.BwdOutIdeal.main_v24) = v8 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
          ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
          ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
          ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
          ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
          ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6))
      ∧ θ_run (Cert.BwdOutRefIdeal.defs (F := Ideal)) (onTc (τ := Cert.BwdOutRefIdeal.τ) (Cert.BwdOutRefIdeal.main (F := Ideal))) ⟨m', fun _ => 0, g'⟩ (fun r => ∀ c : Dev Cert.BwdOutRefIdeal.nD,
          r.2.mem ((c.tc : Thread Cert.BwdOutRefIdeal.nD Cert.BwdOutRefIdeal.τ).loc Cert.BwdOutRefIdeal.main_v11) = v0 c
          ∧ r.2.mem ((c.tc : Thread Cert.BwdOutRefIdeal.nD Cert.BwdOutRefIdeal.τ).loc Cert.BwdOutRefIdeal.main_v29) = v1 c
          ∧ r.2.mem ((c.tc : Thread Cert.BwdOutRefIdeal.nD Cert.BwdOutRefIdeal.τ).loc Cert.BwdOutRefIdeal.main_v30) = v2 c
          ∧ r.2.mem ((c.tc : Thread Cert.BwdOutRefIdeal.nD Cert.BwdOutRefIdeal.τ).loc Cert.BwdOutRefIdeal.main_v31) = v3 c
          ∧ r.2.mem ((c.tc : Thread Cert.BwdOutRefIdeal.nD Cert.BwdOutRefIdeal.τ).loc Cert.BwdOutRefIdeal.main_v32) = v4 c
          ∧ r.2.mem ((c.tc : Thread Cert.BwdOutRefIdeal.nD Cert.BwdOutRefIdeal.τ).loc Cert.BwdOutRefIdeal.main_v18) = v5 c
          ∧ r.2.mem ((c.tc : Thread Cert.BwdOutRefIdeal.nD Cert.BwdOutRefIdeal.τ).loc Cert.BwdOutRefIdeal.main_v34) = v6 c
          ∧ r.2.mem ((c.tc : Thread Cert.BwdOutRefIdeal.nD Cert.BwdOutRefIdeal.τ).loc Cert.BwdOutRefIdeal.main_v37) = v7 c
          ∧ r.2.mem ((c.tc : Thread Cert.BwdOutRefIdeal.nD Cert.BwdOutRefIdeal.τ).loc Cert.BwdOutRefIdeal.main_v40) = v8 c
          ∧ r.2.mem ((c.tc : Thread Cert.BwdOutRefIdeal.nD Cert.BwdOutRefIdeal.τ).loc Cert.BwdOutRefIdeal.main_arg0) = m' ((c.tc : Thread Cert.BwdOutRefIdeal.nD Cert.BwdOutRefIdeal.τ).loc Cert.BwdOutRefIdeal.main_arg0)
          ∧ r.2.mem ((c.tc : Thread Cert.BwdOutRefIdeal.nD Cert.BwdOutRefIdeal.τ).loc Cert.BwdOutRefIdeal.main_arg1) = m' ((c.tc : Thread Cert.BwdOutRefIdeal.nD Cert.BwdOutRefIdeal.τ).loc Cert.BwdOutRefIdeal.main_arg1)
          ∧ r.2.mem ((c.tc : Thread Cert.BwdOutRefIdeal.nD Cert.BwdOutRefIdeal.τ).loc Cert.BwdOutRefIdeal.main_arg2) = m' ((c.tc : Thread Cert.BwdOutRefIdeal.nD Cert.BwdOutRefIdeal.τ).loc Cert.BwdOutRefIdeal.main_arg2)
          ∧ r.2.mem ((c.tc : Thread Cert.BwdOutRefIdeal.nD Cert.BwdOutRefIdeal.τ).loc Cert.BwdOutRefIdeal.main_arg3) = m' ((c.tc : Thread Cert.BwdOutRefIdeal.nD Cert.BwdOutRefIdeal.τ).loc Cert.BwdOutRefIdeal.main_arg3)
          ∧ r.2.mem ((c.tc : Thread Cert.BwdOutRefIdeal.nD Cert.BwdOutRefIdeal.τ).loc Cert.BwdOutRefIdeal.main_arg4) = m' ((c.tc : Thread Cert.BwdOutRefIdeal.nD Cert.BwdOutRefIdeal.τ).loc Cert.BwdOutRefIdeal.main_arg4)
          ∧ r.2.mem ((c.tc : Thread Cert.BwdOutRefIdeal.nD Cert.BwdOutRefIdeal.τ).loc Cert.BwdOutRefIdeal.main_arg5) = m' ((c.tc : Thread Cert.BwdOutRefIdeal.nD Cert.BwdOutRefIdeal.τ).loc Cert.BwdOutRefIdeal.main_arg5)
          ∧ r.2.mem ((c.tc : Thread Cert.BwdOutRefIdeal.nD Cert.BwdOutRefIdeal.τ).loc Cert.BwdOutRefIdeal.main_arg6) = m' ((c.tc : Thread Cert.BwdOutRefIdeal.nD Cert.BwdOutRefIdeal.τ).loc Cert.BwdOutRefIdeal.main_arg6))

def preserves_MlaPost_MlaPostIdeal : Prop :=
  True

def algebraic_MlaPostIdeal_MlaPostRefIdeal_pre_post_finite [hMlaPostIdeal : Cert.MlaPostIdeal.Facts] [hMlaPostRefIdeal : Cert.MlaPostRefIdeal.Facts] [hPre_post_finite : Cert.Pre_post_finite.Facts] : Prop :=
  ∀ (m : (ℓ : Loc Cert.MlaPostIdeal.nD Cert.MlaPostIdeal.τ Cert.MlaPostIdeal.sig) → Buf (Elt Ideal) ℓ) (g : Dev Cert.MlaPostIdeal.nD → PrngReg)
    (m' : (ℓ : Loc Cert.MlaPostRefIdeal.nD Cert.MlaPostRefIdeal.τ Cert.MlaPostRefIdeal.sig) → Buf (Elt Ideal) ℓ) (g' : Dev Cert.MlaPostRefIdeal.nD → PrngReg), Pre_MlaPostIdeal_post_finite m →
    (∀ c : Dev Cert.MlaPostIdeal.nD,
      m' ((c.tc : Thread Cert.MlaPostRefIdeal.nD Cert.MlaPostRefIdeal.τ).loc Cert.MlaPostRefIdeal.main_arg0) = m ((c.tc : Thread Cert.MlaPostIdeal.nD Cert.MlaPostIdeal.τ).loc Cert.MlaPostIdeal.main_arg0)
      ∧ m' ((c.tc : Thread Cert.MlaPostRefIdeal.nD Cert.MlaPostRefIdeal.τ).loc Cert.MlaPostRefIdeal.main_arg1) = m ((c.tc : Thread Cert.MlaPostIdeal.nD Cert.MlaPostIdeal.τ).loc Cert.MlaPostIdeal.main_arg1)
      ∧ m' ((c.tc : Thread Cert.MlaPostRefIdeal.nD Cert.MlaPostRefIdeal.τ).loc Cert.MlaPostRefIdeal.main_arg2) = m ((c.tc : Thread Cert.MlaPostIdeal.nD Cert.MlaPostIdeal.τ).loc Cert.MlaPostIdeal.main_arg2)
      ∧ m' ((c.tc : Thread Cert.MlaPostRefIdeal.nD Cert.MlaPostRefIdeal.τ).loc Cert.MlaPostRefIdeal.main_arg3) = m ((c.tc : Thread Cert.MlaPostIdeal.nD Cert.MlaPostIdeal.τ).loc Cert.MlaPostIdeal.main_arg3)
      ∧ m' ((c.tc : Thread Cert.MlaPostRefIdeal.nD Cert.MlaPostRefIdeal.τ).loc Cert.MlaPostRefIdeal.main_arg4) = m ((c.tc : Thread Cert.MlaPostIdeal.nD Cert.MlaPostIdeal.τ).loc Cert.MlaPostIdeal.main_arg4)
      ∧ m' ((c.tc : Thread Cert.MlaPostRefIdeal.nD Cert.MlaPostRefIdeal.τ).loc Cert.MlaPostRefIdeal.main_arg5) = m ((c.tc : Thread Cert.MlaPostIdeal.nD Cert.MlaPostIdeal.τ).loc Cert.MlaPostIdeal.main_arg5)
      ∧ m' ((c.tc : Thread Cert.MlaPostRefIdeal.nD Cert.MlaPostRefIdeal.τ).loc Cert.MlaPostRefIdeal.main_arg6) = m ((c.tc : Thread Cert.MlaPostIdeal.nD Cert.MlaPostIdeal.τ).loc Cert.MlaPostIdeal.main_arg6)
      ∧ m' ((c.tc : Thread Cert.MlaPostRefIdeal.nD Cert.MlaPostRefIdeal.τ).loc Cert.MlaPostRefIdeal.main_arg7) = m ((c.tc : Thread Cert.MlaPostIdeal.nD Cert.MlaPostIdeal.τ).loc Cert.MlaPostIdeal.main_arg7)
      ∧ m' ((c.tc : Thread Cert.MlaPostRefIdeal.nD Cert.MlaPostRefIdeal.τ).loc Cert.MlaPostRefIdeal.main_arg8) = m ((c.tc : Thread Cert.MlaPostIdeal.nD Cert.MlaPostIdeal.τ).loc Cert.MlaPostIdeal.main_arg8)
      ∧ m' ((c.tc : Thread Cert.MlaPostRefIdeal.nD Cert.MlaPostRefIdeal.τ).loc Cert.MlaPostRefIdeal.main_arg9) = m ((c.tc : Thread Cert.MlaPostIdeal.nD Cert.MlaPostIdeal.τ).loc Cert.MlaPostIdeal.main_arg9)
      ∧ m' ((c.tc : Thread Cert.MlaPostRefIdeal.nD Cert.MlaPostRefIdeal.τ).loc Cert.MlaPostRefIdeal.main_arg10) = m ((c.tc : Thread Cert.MlaPostIdeal.nD Cert.MlaPostIdeal.τ).loc Cert.MlaPostIdeal.main_arg10)) →
    ∃ (v0 : (c : Dev Cert.MlaPostIdeal.nD) → Buf (Elt Ideal) ((c.tc : Thread Cert.MlaPostIdeal.nD Cert.MlaPostIdeal.τ).loc Cert.MlaPostIdeal.main_v44_0)) (v1 : (c : Dev Cert.MlaPostIdeal.nD) → Buf (Elt Ideal) ((c.tc : Thread Cert.MlaPostIdeal.nD Cert.MlaPostIdeal.τ).loc Cert.MlaPostIdeal.main_v44_1)) (v2 : (c : Dev Cert.MlaPostIdeal.nD) → Buf (Elt Ideal) ((c.tc : Thread Cert.MlaPostIdeal.nD Cert.MlaPostIdeal.τ).loc Cert.MlaPostIdeal.main_v50)) (v3 : (c : Dev Cert.MlaPostIdeal.nD) → Buf (Elt Ideal) ((c.tc : Thread Cert.MlaPostIdeal.nD Cert.MlaPostIdeal.τ).loc Cert.MlaPostIdeal.main_v51)) (v4 : (c : Dev Cert.MlaPostIdeal.nD) → Buf (Elt Ideal) ((c.tc : Thread Cert.MlaPostIdeal.nD Cert.MlaPostIdeal.τ).loc Cert.MlaPostIdeal.main_v46)) (v5 : (c : Dev Cert.MlaPostIdeal.nD) → Buf (Elt Ideal) ((c.tc : Thread Cert.MlaPostIdeal.nD Cert.MlaPostIdeal.τ).loc Cert.MlaPostIdeal.main_v48)) (v6 : (c : Dev Cert.MlaPostIdeal.nD) → Buf (Elt Ideal) ((c.tc : Thread Cert.MlaPostIdeal.nD Cert.MlaPostIdeal.τ).loc Cert.MlaPostIdeal.main_v49)) (v7 : (c : Dev Cert.MlaPostIdeal.nD) → Buf (Elt Ideal) ((c.tc : Thread Cert.MlaPostIdeal.nD Cert.MlaPostIdeal.τ).loc Cert.MlaPostIdeal.main_v44_6)) (v8 : (c : Dev Cert.MlaPostIdeal.nD) → Buf (Elt Ideal) ((c.tc : Thread Cert.MlaPostIdeal.nD Cert.MlaPostIdeal.τ).loc Cert.MlaPostIdeal.main_v44_7)),
      θ_run (Cert.MlaPostIdeal.defs (F := Ideal)) (onTc (τ := Cert.MlaPostIdeal.τ) (Cert.MlaPostIdeal.main (F := Ideal))) ⟨m, fun _ => 0, g⟩ (fun r => ∀ c : Dev Cert.MlaPostIdeal.nD,
          r.2.mem ((c.tc : Thread Cert.MlaPostIdeal.nD Cert.MlaPostIdeal.τ).loc Cert.MlaPostIdeal.main_v44_0) = v0 c
          ∧ r.2.mem ((c.tc : Thread Cert.MlaPostIdeal.nD Cert.MlaPostIdeal.τ).loc Cert.MlaPostIdeal.main_v44_1) = v1 c
          ∧ r.2.mem ((c.tc : Thread Cert.MlaPostIdeal.nD Cert.MlaPostIdeal.τ).loc Cert.MlaPostIdeal.main_v50) = v2 c
          ∧ r.2.mem ((c.tc : Thread Cert.MlaPostIdeal.nD Cert.MlaPostIdeal.τ).loc Cert.MlaPostIdeal.main_v51) = v3 c
          ∧ r.2.mem ((c.tc : Thread Cert.MlaPostIdeal.nD Cert.MlaPostIdeal.τ).loc Cert.MlaPostIdeal.main_v46) = v4 c
          ∧ r.2.mem ((c.tc : Thread Cert.MlaPostIdeal.nD Cert.MlaPostIdeal.τ).loc Cert.MlaPostIdeal.main_v48) = v5 c
          ∧ r.2.mem ((c.tc : Thread Cert.MlaPostIdeal.nD Cert.MlaPostIdeal.τ).loc Cert.MlaPostIdeal.main_v49) = v6 c
          ∧ r.2.mem ((c.tc : Thread Cert.MlaPostIdeal.nD Cert.MlaPostIdeal.τ).loc Cert.MlaPostIdeal.main_v44_6) = v7 c
          ∧ r.2.mem ((c.tc : Thread Cert.MlaPostIdeal.nD Cert.MlaPostIdeal.τ).loc Cert.MlaPostIdeal.main_v44_7) = v8 c
          ∧ r.2.mem ((c.tc : Thread Cert.MlaPostIdeal.nD Cert.MlaPostIdeal.τ).loc Cert.MlaPostIdeal.main_arg0) = m ((c.tc : Thread Cert.MlaPostIdeal.nD Cert.MlaPostIdeal.τ).loc Cert.MlaPostIdeal.main_arg0)
          ∧ r.2.mem ((c.tc : Thread Cert.MlaPostIdeal.nD Cert.MlaPostIdeal.τ).loc Cert.MlaPostIdeal.main_arg1) = m ((c.tc : Thread Cert.MlaPostIdeal.nD Cert.MlaPostIdeal.τ).loc Cert.MlaPostIdeal.main_arg1)
          ∧ r.2.mem ((c.tc : Thread Cert.MlaPostIdeal.nD Cert.MlaPostIdeal.τ).loc Cert.MlaPostIdeal.main_arg2) = m ((c.tc : Thread Cert.MlaPostIdeal.nD Cert.MlaPostIdeal.τ).loc Cert.MlaPostIdeal.main_arg2)
          ∧ r.2.mem ((c.tc : Thread Cert.MlaPostIdeal.nD Cert.MlaPostIdeal.τ).loc Cert.MlaPostIdeal.main_arg3) = m ((c.tc : Thread Cert.MlaPostIdeal.nD Cert.MlaPostIdeal.τ).loc Cert.MlaPostIdeal.main_arg3)
          ∧ r.2.mem ((c.tc : Thread Cert.MlaPostIdeal.nD Cert.MlaPostIdeal.τ).loc Cert.MlaPostIdeal.main_arg4) = m ((c.tc : Thread Cert.MlaPostIdeal.nD Cert.MlaPostIdeal.τ).loc Cert.MlaPostIdeal.main_arg4)
          ∧ r.2.mem ((c.tc : Thread Cert.MlaPostIdeal.nD Cert.MlaPostIdeal.τ).loc Cert.MlaPostIdeal.main_arg5) = m ((c.tc : Thread Cert.MlaPostIdeal.nD Cert.MlaPostIdeal.τ).loc Cert.MlaPostIdeal.main_arg5)
          ∧ r.2.mem ((c.tc : Thread Cert.MlaPostIdeal.nD Cert.MlaPostIdeal.τ).loc Cert.MlaPostIdeal.main_arg6) = m ((c.tc : Thread Cert.MlaPostIdeal.nD Cert.MlaPostIdeal.τ).loc Cert.MlaPostIdeal.main_arg6)
          ∧ r.2.mem ((c.tc : Thread Cert.MlaPostIdeal.nD Cert.MlaPostIdeal.τ).loc Cert.MlaPostIdeal.main_arg7) = m ((c.tc : Thread Cert.MlaPostIdeal.nD Cert.MlaPostIdeal.τ).loc Cert.MlaPostIdeal.main_arg7)
          ∧ r.2.mem ((c.tc : Thread Cert.MlaPostIdeal.nD Cert.MlaPostIdeal.τ).loc Cert.MlaPostIdeal.main_arg8) = m ((c.tc : Thread Cert.MlaPostIdeal.nD Cert.MlaPostIdeal.τ).loc Cert.MlaPostIdeal.main_arg8)
          ∧ r.2.mem ((c.tc : Thread Cert.MlaPostIdeal.nD Cert.MlaPostIdeal.τ).loc Cert.MlaPostIdeal.main_arg9) = m ((c.tc : Thread Cert.MlaPostIdeal.nD Cert.MlaPostIdeal.τ).loc Cert.MlaPostIdeal.main_arg9)
          ∧ r.2.mem ((c.tc : Thread Cert.MlaPostIdeal.nD Cert.MlaPostIdeal.τ).loc Cert.MlaPostIdeal.main_arg10) = m ((c.tc : Thread Cert.MlaPostIdeal.nD Cert.MlaPostIdeal.τ).loc Cert.MlaPostIdeal.main_arg10))
      ∧ θ_run (Cert.MlaPostRefIdeal.defs (F := Ideal)) (onTc (τ := Cert.MlaPostRefIdeal.τ) (Cert.MlaPostRefIdeal.main (F := Ideal))) ⟨m', fun _ => 0, g'⟩ (fun r => ∀ c : Dev Cert.MlaPostRefIdeal.nD,
          r.2.mem ((c.tc : Thread Cert.MlaPostRefIdeal.nD Cert.MlaPostRefIdeal.τ).loc Cert.MlaPostRefIdeal.main_v158) = v0 c
          ∧ r.2.mem ((c.tc : Thread Cert.MlaPostRefIdeal.nD Cert.MlaPostRefIdeal.τ).loc Cert.MlaPostRefIdeal.main_v159) = v1 c
          ∧ r.2.mem ((c.tc : Thread Cert.MlaPostRefIdeal.nD Cert.MlaPostRefIdeal.τ).loc Cert.MlaPostRefIdeal.main_v160) = v2 c
          ∧ r.2.mem ((c.tc : Thread Cert.MlaPostRefIdeal.nD Cert.MlaPostRefIdeal.τ).loc Cert.MlaPostRefIdeal.main_v161) = v3 c
          ∧ r.2.mem ((c.tc : Thread Cert.MlaPostRefIdeal.nD Cert.MlaPostRefIdeal.τ).loc Cert.MlaPostRefIdeal.main_v136) = v4 c
          ∧ r.2.mem ((c.tc : Thread Cert.MlaPostRefIdeal.nD Cert.MlaPostRefIdeal.τ).loc Cert.MlaPostRefIdeal.main_v162) = v5 c
          ∧ r.2.mem ((c.tc : Thread Cert.MlaPostRefIdeal.nD Cert.MlaPostRefIdeal.τ).loc Cert.MlaPostRefIdeal.main_v163) = v6 c
          ∧ r.2.mem ((c.tc : Thread Cert.MlaPostRefIdeal.nD Cert.MlaPostRefIdeal.τ).loc Cert.MlaPostRefIdeal.main_v165) = v7 c
          ∧ r.2.mem ((c.tc : Thread Cert.MlaPostRefIdeal.nD Cert.MlaPostRefIdeal.τ).loc Cert.MlaPostRefIdeal.main_v167) = v8 c
          ∧ r.2.mem ((c.tc : Thread Cert.MlaPostRefIdeal.nD Cert.MlaPostRefIdeal.τ).loc Cert.MlaPostRefIdeal.main_arg0) = m' ((c.tc : Thread Cert.MlaPostRefIdeal.nD Cert.MlaPostRefIdeal.τ).loc Cert.MlaPostRefIdeal.main_arg0)
          ∧ r.2.mem ((c.tc : Thread Cert.MlaPostRefIdeal.nD Cert.MlaPostRefIdeal.τ).loc Cert.MlaPostRefIdeal.main_arg1) = m' ((c.tc : Thread Cert.MlaPostRefIdeal.nD Cert.MlaPostRefIdeal.τ).loc Cert.MlaPostRefIdeal.main_arg1)
          ∧ r.2.mem ((c.tc : Thread Cert.MlaPostRefIdeal.nD Cert.MlaPostRefIdeal.τ).loc Cert.MlaPostRefIdeal.main_arg2) = m' ((c.tc : Thread Cert.MlaPostRefIdeal.nD Cert.MlaPostRefIdeal.τ).loc Cert.MlaPostRefIdeal.main_arg2)
          ∧ r.2.mem ((c.tc : Thread Cert.MlaPostRefIdeal.nD Cert.MlaPostRefIdeal.τ).loc Cert.MlaPostRefIdeal.main_arg3) = m' ((c.tc : Thread Cert.MlaPostRefIdeal.nD Cert.MlaPostRefIdeal.τ).loc Cert.MlaPostRefIdeal.main_arg3)
          ∧ r.2.mem ((c.tc : Thread Cert.MlaPostRefIdeal.nD Cert.MlaPostRefIdeal.τ).loc Cert.MlaPostRefIdeal.main_arg4) = m' ((c.tc : Thread Cert.MlaPostRefIdeal.nD Cert.MlaPostRefIdeal.τ).loc Cert.MlaPostRefIdeal.main_arg4)
          ∧ r.2.mem ((c.tc : Thread Cert.MlaPostRefIdeal.nD Cert.MlaPostRefIdeal.τ).loc Cert.MlaPostRefIdeal.main_arg5) = m' ((c.tc : Thread Cert.MlaPostRefIdeal.nD Cert.MlaPostRefIdeal.τ).loc Cert.MlaPostRefIdeal.main_arg5)
          ∧ r.2.mem ((c.tc : Thread Cert.MlaPostRefIdeal.nD Cert.MlaPostRefIdeal.τ).loc Cert.MlaPostRefIdeal.main_arg6) = m' ((c.tc : Thread Cert.MlaPostRefIdeal.nD Cert.MlaPostRefIdeal.τ).loc Cert.MlaPostRefIdeal.main_arg6)
          ∧ r.2.mem ((c.tc : Thread Cert.MlaPostRefIdeal.nD Cert.MlaPostRefIdeal.τ).loc Cert.MlaPostRefIdeal.main_arg7) = m' ((c.tc : Thread Cert.MlaPostRefIdeal.nD Cert.MlaPostRefIdeal.τ).loc Cert.MlaPostRefIdeal.main_arg7)
          ∧ r.2.mem ((c.tc : Thread Cert.MlaPostRefIdeal.nD Cert.MlaPostRefIdeal.τ).loc Cert.MlaPostRefIdeal.main_arg8) = m' ((c.tc : Thread Cert.MlaPostRefIdeal.nD Cert.MlaPostRefIdeal.τ).loc Cert.MlaPostRefIdeal.main_arg8)
          ∧ r.2.mem ((c.tc : Thread Cert.MlaPostRefIdeal.nD Cert.MlaPostRefIdeal.τ).loc Cert.MlaPostRefIdeal.main_arg9) = m' ((c.tc : Thread Cert.MlaPostRefIdeal.nD Cert.MlaPostRefIdeal.τ).loc Cert.MlaPostRefIdeal.main_arg9)
          ∧ r.2.mem ((c.tc : Thread Cert.MlaPostRefIdeal.nD Cert.MlaPostRefIdeal.τ).loc Cert.MlaPostRefIdeal.main_arg10) = m' ((c.tc : Thread Cert.MlaPostRefIdeal.nD Cert.MlaPostRefIdeal.τ).loc Cert.MlaPostRefIdeal.main_arg10))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v2)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v2) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v2) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)
      ∧ m' ((c.tc : Thread Cert.LnInRefIdeal.nD Cert.LnInRefIdeal.τ).loc Cert.LnInRefIdeal.main_arg3) = m ((c.tc : Thread Cert.LnInIdeal.nD Cert.LnInIdeal.τ).loc Cert.LnInIdeal.main_arg3)
      ∧ m' ((c.tc : Thread Cert.LnInRefIdeal.nD Cert.LnInRefIdeal.τ).loc Cert.LnInRefIdeal.main_arg4) = m ((c.tc : Thread Cert.LnInIdeal.nD Cert.LnInIdeal.τ).loc Cert.LnInIdeal.main_arg4)) →
    ∃ (v0 : (c : Dev Cert.LnInIdeal.nD) → Buf (Elt Ideal) ((c.tc : Thread Cert.LnInIdeal.nD Cert.LnInIdeal.τ).loc Cert.LnInIdeal.main_v18_0)) (v1 : (c : Dev Cert.LnInIdeal.nD) → Buf (Elt Ideal) ((c.tc : Thread Cert.LnInIdeal.nD Cert.LnInIdeal.τ).loc Cert.LnInIdeal.main_v24)) (v2 : (c : Dev Cert.LnInIdeal.nD) → Buf (Elt Ideal) ((c.tc : Thread Cert.LnInIdeal.nD Cert.LnInIdeal.τ).loc Cert.LnInIdeal.main_v18_2)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v18_0) = v0 c
          ∧ r.2.mem ((c.tc : Thread Cert.LnInIdeal.nD Cert.LnInIdeal.τ).loc Cert.LnInIdeal.main_v24) = v1 c
          ∧ r.2.mem ((c.tc : Thread Cert.LnInIdeal.nD Cert.LnInIdeal.τ).loc Cert.LnInIdeal.main_v18_2) = v2 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
          ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3)
          ∧ r.2.mem ((c.tc : Thread Cert.LnInIdeal.nD Cert.LnInIdeal.τ).loc Cert.LnInIdeal.main_arg4) = m ((c.tc : Thread Cert.LnInIdeal.nD Cert.LnInIdeal.τ).loc Cert.LnInIdeal.main_arg4))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v26) = v0 c
          ∧ r.2.mem ((c.tc : Thread Cert.LnInRefIdeal.nD Cert.LnInRefIdeal.τ).loc Cert.LnInRefIdeal.main_v27) = v1 c
          ∧ r.2.mem ((c.tc : Thread Cert.LnInRefIdeal.nD Cert.LnInRefIdeal.τ).loc Cert.LnInRefIdeal.main_v29) = v2 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2)
          ∧ r.2.mem ((c.tc : Thread Cert.LnInRefIdeal.nD Cert.LnInRefIdeal.τ).loc Cert.LnInRefIdeal.main_arg3) = m' ((c.tc : Thread Cert.LnInRefIdeal.nD Cert.LnInRefIdeal.τ).loc Cert.LnInRefIdeal.main_arg3)
          ∧ r.2.mem ((c.tc : Thread Cert.LnInRefIdeal.nD Cert.LnInRefIdeal.τ).loc Cert.LnInRefIdeal.main_arg4) = m' ((c.tc : Thread Cert.LnInRefIdeal.nD Cert.LnInRefIdeal.τ).loc Cert.LnInRefIdeal.main_arg4))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)) →
    ∃ (v0 : (c : Dev Cert.MlaPrepIdeal.nD) → Buf (Elt Ideal) ((c.tc : Thread Cert.MlaPrepIdeal.nD Cert.MlaPrepIdeal.τ).loc Cert.MlaPrepIdeal.main_v41)) (v1 : (c : Dev Cert.MlaPrepIdeal.nD) → Buf (Elt Ideal) ((c.tc : Thread Cert.MlaPrepIdeal.nD Cert.MlaPrepIdeal.τ).loc Cert.MlaPrepIdeal.main_v42)) (v2 : (c : Dev Cert.MlaPrepIdeal.nD) → Buf (Elt Ideal) ((c.tc : Thread Cert.MlaPrepIdeal.nD Cert.MlaPrepIdeal.τ).loc Cert.MlaPrepIdeal.main_v43)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v41) = v0 c
          ∧ r.2.mem ((c.tc : Thread Cert.MlaPrepIdeal.nD Cert.MlaPrepIdeal.τ).loc Cert.MlaPrepIdeal.main_v42) = v1 c
          ∧ r.2.mem ((c.tc : Thread Cert.MlaPrepIdeal.nD Cert.MlaPrepIdeal.τ).loc Cert.MlaPrepIdeal.main_v43) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v67) = v0 c
          ∧ r.2.mem ((c.tc : Thread Cert.MlaPrepRefIdeal.nD Cert.MlaPrepRefIdeal.τ).loc Cert.MlaPrepRefIdeal.main_v68) = v1 c
          ∧ r.2.mem ((c.tc : Thread Cert.MlaPrepRefIdeal.nD Cert.MlaPrepRefIdeal.τ).loc Cert.MlaPrepRefIdeal.main_v69) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6))

def preserves_FoxPrep_FoxPrepIdeal : Prop :=
  True

def algebraic_FoxPrepIdeal_FoxPrepRefIdeal [hFoxPrepIdeal : Cert.FoxPrepIdeal.Facts] [hFoxPrepRefIdeal : Cert.FoxPrepRefIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)) →
    ∃ (v0 : (c : Dev Cert.FoxPrepIdeal.nD) → Buf (Elt Ideal) ((c.tc : Thread Cert.FoxPrepIdeal.nD Cert.FoxPrepIdeal.τ).loc Cert.FoxPrepIdeal.main_v16_0)) (v1 : (c : Dev Cert.FoxPrepIdeal.nD) → Buf (Elt Ideal) ((c.tc : Thread Cert.FoxPrepIdeal.nD Cert.FoxPrepIdeal.τ).loc Cert.FoxPrepIdeal.main_v16_1)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v16_0) = v0 c
          ∧ r.2.mem ((c.tc : Thread Cert.FoxPrepIdeal.nD Cert.FoxPrepIdeal.τ).loc Cert.FoxPrepIdeal.main_v16_1) = v1 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v9) = v0 c
          ∧ r.2.mem ((c.tc : Thread Cert.FoxPrepRefIdeal.nD Cert.FoxPrepRefIdeal.τ).loc Cert.FoxPrepRefIdeal.main_v8) = v1 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1))

def Claim : Prop :=
  ∃ (hFoxPost : Cert.FoxPost.Facts) (hFoxPostIdeal : Cert.FoxPostIdeal.Facts) (hFoxPostRefIdeal : Cert.FoxPostRefIdeal.Facts) (hFoxBwd : Cert.FoxBwd.Facts) (hFoxBwdIdeal : Cert.FoxBwdIdeal.Facts) (hFoxBwdRefIdeal : Cert.FoxBwdRefIdeal.Facts) (hMlaBwd : Cert.MlaBwd.Facts) (hMlaBwdIdeal : Cert.MlaBwdIdeal.Facts) (hMlaBwdRefIdeal : Cert.MlaBwdRefIdeal.Facts) (hFinalLoss : Cert.FinalLoss.Facts) (hFinalLossIdeal : Cert.FinalLossIdeal.Facts) (hFinalLossRefIdeal : Cert.FinalLossRefIdeal.Facts) (hAdaBwd : Cert.AdaBwd.Facts) (hAdaBwdIdeal : Cert.AdaBwdIdeal.Facts) (hAdaBwdRefIdeal : Cert.AdaBwdRefIdeal.Facts) (hBwdIn : Cert.BwdIn.Facts) (hBwdInIdeal : Cert.BwdInIdeal.Facts) (hBwdInRefIdeal : Cert.BwdInRefIdeal.Facts) (hBwdOut : Cert.BwdOut.Facts) (hBwdOutIdeal : Cert.BwdOutIdeal.Facts) (hBwdOutRefIdeal : Cert.BwdOutRefIdeal.Facts) (hMlaPost : Cert.MlaPost.Facts) (hMlaPostIdeal : Cert.MlaPostIdeal.Facts) (hMlaPostRefIdeal : Cert.MlaPostRefIdeal.Facts) (hAdaFwd : Cert.AdaFwd.Facts) (hAdaFwdIdeal : Cert.AdaFwdIdeal.Facts) (hAdaFwdRefIdeal : Cert.AdaFwdRefIdeal.Facts) (hLnIn : Cert.LnIn.Facts) (hLnInIdeal : Cert.LnInIdeal.Facts) (hLnInRefIdeal : Cert.LnInRefIdeal.Facts) (hMlaPrep : Cert.MlaPrep.Facts) (hMlaPrepIdeal : Cert.MlaPrepIdeal.Facts) (hMlaPrepRefIdeal : Cert.MlaPrepRefIdeal.Facts) (hFoxPrep : Cert.FoxPrep.Facts) (hFoxPrepIdeal : Cert.FoxPrepIdeal.Facts) (hFoxPrepRefIdeal : Cert.FoxPrepRefIdeal.Facts) (hPre_fox_finite : Cert.Pre_fox_finite.Facts) (hPre_mla_finite : Cert.Pre_mla_finite.Facts) (hPre_loss_finite : Cert.Pre_loss_finite.Facts) (hPre_in_finite : Cert.Pre_in_finite.Facts) (hPre_out_finite : Cert.Pre_out_finite.Facts) (hPre_post_finite : Cert.Pre_post_finite.Facts),
    quiescent_FoxPost (hFoxPost := hFoxPost)
    ∧ quiescent_FoxPostIdeal (hFoxPostIdeal := hFoxPostIdeal)
    ∧ quiescent_FoxPostRefIdeal (hFoxPostRefIdeal := hFoxPostRefIdeal)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxBwdRefIdeal (hFoxBwdRefIdeal := hFoxBwdRefIdeal)
    ∧ quiescent_FoxBwdRefIdeal_pre_fox_finite (hFoxBwdRefIdeal := hFoxBwdRefIdeal) (hPre_fox_finite := hPre_fox_finite)
    ∧ quiescent_MlaBwd (hMlaBwd := hMlaBwd)
    ∧ quiescent_MlaBwdIdeal (hMlaBwdIdeal := hMlaBwdIdeal)
    ∧ quiescent_MlaBwdIdeal_pre_mla_finite (hMlaBwdIdeal := hMlaBwdIdeal) (hPre_mla_finite := hPre_mla_finite)
    ∧ quiescent_MlaBwdRefIdeal (hMlaBwdRefIdeal := hMlaBwdRefIdeal)
    ∧ quiescent_MlaBwdRefIdeal_pre_mla_finite (hMlaBwdRefIdeal := hMlaBwdRefIdeal) (hPre_mla_finite := hPre_mla_finite)
    ∧ quiescent_FinalLoss (hFinalLoss := hFinalLoss)
    ∧ quiescent_FinalLossIdeal (hFinalLossIdeal := hFinalLossIdeal)
    ∧ quiescent_FinalLossIdeal_pre_loss_finite (hFinalLossIdeal := hFinalLossIdeal) (hPre_loss_finite := hPre_loss_finite)
    ∧ quiescent_FinalLossRefIdeal (hFinalLossRefIdeal := hFinalLossRefIdeal)
    ∧ quiescent_FinalLossRefIdeal_pre_loss_finite (hFinalLossRefIdeal := hFinalLossRefIdeal) (hPre_loss_finite := hPre_loss_finite)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_BwdIn (hBwdIn := hBwdIn)
    ∧ quiescent_BwdInIdeal (hBwdInIdeal := hBwdInIdeal)
    ∧ quiescent_BwdInIdeal_pre_in_finite (hBwdInIdeal := hBwdInIdeal) (hPre_in_finite := hPre_in_finite)
    ∧ quiescent_BwdInRefIdeal (hBwdInRefIdeal := hBwdInRefIdeal)
    ∧ quiescent_BwdInRefIdeal_pre_in_finite (hBwdInRefIdeal := hBwdInRefIdeal) (hPre_in_finite := hPre_in_finite)
    ∧ quiescent_BwdOut (hBwdOut := hBwdOut)
    ∧ quiescent_BwdOutIdeal (hBwdOutIdeal := hBwdOutIdeal)
    ∧ quiescent_BwdOutIdeal_pre_out_finite (hBwdOutIdeal := hBwdOutIdeal) (hPre_out_finite := hPre_out_finite)
    ∧ quiescent_BwdOutRefIdeal (hBwdOutRefIdeal := hBwdOutRefIdeal)
    ∧ quiescent_BwdOutRefIdeal_pre_out_finite (hBwdOutRefIdeal := hBwdOutRefIdeal) (hPre_out_finite := hPre_out_finite)
    ∧ quiescent_MlaPost (hMlaPost := hMlaPost)
    ∧ quiescent_MlaPostIdeal (hMlaPostIdeal := hMlaPostIdeal)
    ∧ quiescent_MlaPostIdeal_pre_post_finite (hMlaPostIdeal := hMlaPostIdeal) (hPre_post_finite := hPre_post_finite)
    ∧ quiescent_MlaPostRefIdeal (hMlaPostRefIdeal := hMlaPostRefIdeal)
    ∧ quiescent_MlaPostRefIdeal_pre_post_finite (hMlaPostRefIdeal := hMlaPostRefIdeal) (hPre_post_finite := hPre_post_finite)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ quiescent_FoxPrep (hFoxPrep := hFoxPrep)
    ∧ quiescent_FoxPrepIdeal (hFoxPrepIdeal := hFoxPrepIdeal)
    ∧ quiescent_FoxPrepRefIdeal (hFoxPrepRefIdeal := hFoxPrepRefIdeal)
    ∧ preserves_FoxPost_FoxPostIdeal
    ∧ algebraic_FoxPostIdeal_FoxPostRefIdeal (hFoxPostIdeal := hFoxPostIdeal) (hFoxPostRefIdeal := hFoxPostRefIdeal)
    ∧ preserves_FoxBwd_FoxBwdIdeal
    ∧ algebraic_FoxBwdIdeal_FoxBwdRefIdeal_pre_fox_finite (hFoxBwdIdeal := hFoxBwdIdeal) (hFoxBwdRefIdeal := hFoxBwdRefIdeal) (hPre_fox_finite := hPre_fox_finite)
    ∧ preserves_MlaBwd_MlaBwdIdeal
    ∧ algebraic_MlaBwdIdeal_MlaBwdRefIdeal_pre_mla_finite (hMlaBwdIdeal := hMlaBwdIdeal) (hMlaBwdRefIdeal := hMlaBwdRefIdeal) (hPre_mla_finite := hPre_mla_finite)
    ∧ preserves_FinalLoss_FinalLossIdeal
    ∧ algebraic_FinalLossIdeal_FinalLossRefIdeal_pre_loss_finite (hFinalLossIdeal := hFinalLossIdeal) (hFinalLossRefIdeal := hFinalLossRefIdeal) (hPre_loss_finite := hPre_loss_finite)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_BwdIn_BwdInIdeal
    ∧ algebraic_BwdInIdeal_BwdInRefIdeal_pre_in_finite (hBwdInIdeal := hBwdInIdeal) (hBwdInRefIdeal := hBwdInRefIdeal) (hPre_in_finite := hPre_in_finite)
    ∧ preserves_BwdOut_BwdOutIdeal
    ∧ algebraic_BwdOutIdeal_BwdOutRefIdeal_pre_out_finite (hBwdOutIdeal := hBwdOutIdeal) (hBwdOutRefIdeal := hBwdOutRefIdeal) (hPre_out_finite := hPre_out_finite)
    ∧ preserves_MlaPost_MlaPostIdeal
    ∧ algebraic_MlaPostIdeal_MlaPostRefIdeal_pre_post_finite (hMlaPostIdeal := hMlaPostIdeal) (hMlaPostRefIdeal := hMlaPostRefIdeal) (hPre_post_finite := hPre_post_finite)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_LnIn_LnInIdeal
    ∧ algebraic_LnInIdeal_LnInRefIdeal (hLnInIdeal := hLnInIdeal) (hLnInRefIdeal := hLnInRefIdeal)
    ∧ preserves_MlaPrep_MlaPrepIdeal
    ∧ algebraic_MlaPrepIdeal_MlaPrepRefIdeal (hMlaPrepIdeal := hMlaPrepIdeal) (hMlaPrepRefIdeal := hMlaPrepRefIdeal)
    ∧ preserves_FoxPrep_FoxPrepIdeal
    ∧ algebraic_FoxPrepIdeal_FoxPrepRefIdeal (hFoxPrepIdeal := hFoxPrepIdeal) (hFoxPrepRefIdeal := hFoxPrepRefIdeal)
-- ==== Pre_fox_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S4096x512 1 × IVec S4096x512 1 × IVec S4096x512 1 × IVec S4096x8 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_in_finite.lean ====
abbrev S4096x2984 : Shape := ⟨2, ![4096, 2984]⟩
abbrev S1024x2984 : Shape := ⟨2, ![1024, 2984]⟩
abbrev S4096x1024 : Shape := ⟨2, ![4096, 1024]⟩
abbrev S1024 : Shape := ⟨1, ![1024]⟩
abbrev S_ : Shape := ⟨0, ![]⟩

class Facts : Prop where
  bcast_S_S4096x2984 : S_.BroadcastsInDim S4096x2984 (![] : Fin 0 → Fin S4096x2984.rank)
  bcast_S_S1024x2984 : S_.BroadcastsInDim S1024x2984 (![] : Fin 0 → Fin S1024x2984.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2984 .f32) (main_arg1 : FVec F S1024x2984 .f32) (main_arg2 : FVec F S4096x1024 .f32) (main_arg3 : FVec F S4096x1024 .f32) (main_arg4 : FVec F S1024 .f32) (main_arg5 : FVec F S1024 .f32) : IVec S4096x2984 1 × IVec S1024x2984 1 × IVec S4096x1024 1 × IVec S1024 1 × IVec S1024 1 :=
  let main_v0 : FVec F S4096x2984 .f32 := Host.absf main_arg0
  let main_cst : FVec F S_ .f32 := constant S_ .f32 0x7F800000#32
  let main_v1 : FVec F S4096x2984 .f32 := broadcastInDim S4096x2984 ![] bcast_S_S4096x2984 main_cst
  let main_v2 : IVec S4096x2984 1 := cmpf .olt main_v0 main_v1
  let main_v3 : FVec F S1024x2984 .f32 := Host.absf main_arg1
  let main_cst_0 : FVec F S_ .f32 := constant S_ .f32 0x7F800000#32
  let main_v4 : FVec F S1024x2984 .f32 := broadcastInDim S1024x2984 ![] bcast_S_S1024x2984 main_cst_0
  let main_v5 : IVec S1024x2984 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_mla_finite.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S4096x8x64 1 × IVec S4096x8x32 1 × IVec S4096x8x64 1 × IVec S4096x32 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x8x64 .f32 := Host.absf main_arg5
  let main_cst_4 : FVec F S_ .f32 := constant S_ .f32 0x7F800000#32
  let main_v16 : FVec F S4096x8x64 .f32 := broadcastInDim S4096x8x64 ![] bcast_S_S4096x8x64 main_cst_4
  let main_v17 : IVec S4096x8x64 1 := cmpf .olt main_v15 main_v16
  (main_v2, main_v5, main_v8, main_v11, main_v14, main_v17)
-- ==== Pre_out_finite.lean ====
abbrev S4096x1024 : Shape := ⟨2, ![4096, 1024]⟩
abbrev S1024 : Shape := ⟨1, ![1024]⟩
abbrev S1024x1024 : Shape := ⟨2, ![1024, 1024]⟩
abbrev S4096x512 : Shape := ⟨2, ![4096, 512]⟩
abbrev S4096x2984 : Shape := ⟨2, ![4096, 2984]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S4096x2984 : S_.BroadcastsInDim S4096x2984 (![] : Fin 0 → Fin S4096x2984.rank)

variable [Facts]

def fn {F : FTy → Type} [FloatOps F] (main_arg0 : FVec F S4096x1024 .f32) (main_arg1 : FVec F S1024 .f32) (main_arg2 : FVec F S1024x1024 .f32) (main_arg3 : FVec F S4096x512 .f32) (main_arg4 : FVec F S4096x512 .f32) (main_arg5 : FVec F S4096x2984 .f32) (main_arg6 : FVec F S4096x1024 .f32) : IVec S4096x1024 1 × IVec S1024 1 × IVec S1024x1024 1 × IVec S4096x512 1 × IVec S4096x512 1 × IVec S4096x2984 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x2984 .f32 := Host.absf main_arg5
  let main_cst_4 : FVec F S_ .f32 := constant S_ .f32 0x7F800000#32
  let main_v16 : FVec F S4096x2984 .f32 := broadcastInDim S4096x2984 ![] bcast_S_S4096x2984 main_cst_4
  let main_v17 : IVec S4096x2984 1 := cmpf .olt main_v15 main_v16
  (main_v2, main_v5, main_v8, main_v11, main_v14, main_v17)
-- ==== Pre_post_finite.lean ====
abbrev S4096x8x96 : Shape := ⟨3, ![4096, 8, 96]⟩
abbrev S4096x8x64 : Shape := ⟨3, ![4096, 8, 64]⟩
abbrev S4096x8 : Shape := ⟨2, ![4096, 8]⟩
abbrev S4096x2984 : Shape := ⟨2, ![4096, 2984]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4096x16 : Shape := ⟨2, ![4096, 16]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x2984 : S_.BroadcastsInDim S4096x2984 (![] : Fin 0 → Fin S4096x2984.rank)
  bcast_S_S256 : S_.BroadcastsInDim S256 (![] : Fin 0 → Fin S256.rank)
  bcast_S_S128 : S_.BroadcastsInDim S128 (![] : Fin 0 → Fin S128.rank)
  bcast_S_S256x768 : S_.BroadcastsInDim S256x768 (![] : Fin 0 → Fin S256x768.rank)
  bcast_S_S128x1024 : S_.BroadcastsInDim S128x1024 (![] : Fin 0 → Fin S128x1024.rank)
  bcast_S_S4096x16 : S_.BroadcastsInDim S4096x16 (![] : Fin 0 → Fin S4096x16.rank)

variable [Facts]

def fn_part1 {F : FTy → Type} [FloatOps F] (main_arg7 : FVec F S256x768 .f32) (main_arg8 : FVec F S128x1024 .f32) (main_arg9 : FVec F S4096x16 .f32) (main_arg10 : FVec F S4096x16 .f32) (main_v2 : IVec S4096x8x96 1) (main_v5 : IVec S4096x8x96 1) (main_v8 : IVec S4096x8x64 1) (main_v11 : IVec S4096x2984 1) (main_v14 : IVec S256 1) (main_v17 : IVec S128 1) : IVec S4096x8x96 1 × IVec S4096x8x96 1 × IVec S4096x8x64 1 × IVec S4096x2984 1 × IVec S256 1 × IVec S128 1 × IVec S256x768 1 × IVec S128x1024 1 × IVec S4096x16 1 × IVec S4096x16 1 :=
  let main_v18 : FVec F S256x768 .f32 := Host.absf main_arg7
  let main_cst_5 : FVec F S_ .f32 := constant S_ .f32 0x7F800000#32
  let main_v19 : FVec F S256x768 .f32 := broadcastInDim S256x768 ![] bcast_S_S256x768 main_cst_5
  let main_v20 : IVec S256x768 1 := cmpf .olt main_v18 main_v19
  let main_v21 : FVec F S128x1024 .f32 := Host.absf main_arg8
  let main_cst_6 : FVec F S_ .f32 := constant S_ .f32 0x7F800000#32
  let main_v22 : FVec F S128x1024 .f32 := broadcastInDim S128x1024 ![] bcast_S_S128x1024 main_cst_6
  let main_v23 : IVec S128x1024 1 := cmpf .olt main_v21 main_v22
  let main_v24 : FVec F S4096x16 .f32 := Host.absf main_arg9
  let main_cst_7 : FVec F S_ .f32 := constant S_ .f32 0x7F800000#32
  let main_v25 : FVec F S4096x16 .f32 := broadcastInDim S4096x16 ![] bcast_S_S4096x16 main_cst_7
  let main_v26 : IVec S4096x16 1 := cmpf .olt main_v24 main_v25
  let main_v27 : FVec F S4096x16 .f32 := Host.absf main_arg10
  let main_cst_8 : FVec F S_ .f32 := constant S_ .f32 0x7F800000#32
  let main_v28 : FVec F S4096x16 .f32 := broadcastInDim S4096x16 ![] bcast_S_S4096x16 main_cst_8
  let main_v29 : IVec S4096x16 1 := cmpf .olt main_v27 main_v28
  (main_v2, main_v5, main_v8, main_v11, main_v14, main_v17, main_v20, main_v23, main_v26, main_v29)

def fn {F : FTy → Type} [FloatOps F] (main_arg0 : FVec F S4096x8x96 .f32) (main_arg1 : FVec F S4096x8x96 .f32) (main_arg2 : FVec F S4096x8x64 .f32) (main_arg3 : FVec F S4096x8 .f32) (main_arg4 : FVec F S4096x2984 .f32) (main_arg5 : FVec F S256 .f32) (main_arg6 : FVec F S128 .f32) (main_arg7 : FVec F S256x768 .f32) (main_arg8 : FVec F S128x1024 .f32) (main_arg9 : FVec F S4096x16 .f32) (main_arg10 : FVec F S4096x16 .f32) : IVec S4096x8x96 1 × IVec S4096x8x96 1 × IVec S4096x8x64 1 × IVec S4096x2984 1 × IVec S256 1 × IVec S128 1 × IVec S256x768 1 × IVec S128x1024 1 × IVec S4096x16 1 × IVec S4096x16 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x2984 .f32 := Host.absf main_arg4
  let main_cst_2 : FVec F S_ .f32 := constant S_ .f32 0x7F800000#32
  let main_v10 : FVec F S4096x2984 .f32 := broadcastInDim S4096x2984 ![] bcast_S_S4096x2984 main_cst_2
  let main_v11 : IVec S4096x2984 1 := cmpf .olt main_v9 main_v10
  let main_v12 : FVec F S256 .f32 := Host.absf main_arg5
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S128 .f32 := Host.absf main_arg6
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg7 main_arg8 main_arg9 main_arg10 main_v2 main_v5 main_v8 main_v11 main_v14 main_v17
-- ==== FoxPost.lean ====
abbrev S4096x2984 : Shape := ⟨2, ![4096, 2984]⟩
abbrev S8 : Shape := ⟨1, ![8]⟩
abbrev S4096x8 : Shape := ⟨2, ![4096, 8]⟩
abbrev S_ : Shape := ⟨0, ![]⟩
abbrev S4096x128 : Shape := ⟨2, ![4096, 128]⟩
abbrev S4096x512 : Shape := ⟨2, ![4096, 512]⟩
abbrev S4096x256 : Shape := ⟨2, ![4096, 256]⟩
abbrev S4096x32 : Shape := ⟨2, ![4096, 32]⟩
abbrev S4096x56 : Shape := ⟨2, ![4096, 56]⟩
abbrev S4096x1408 : Shape := ⟨2, ![4096, 1408]⟩
abbrev S4096x1536 : Shape := ⟨2, ![4096, 1536]⟩
abbrev S1x8 : Shape := ⟨2, ![1, 8]⟩
abbrev S1x128 : Shape := ⟨2, ![1, 128]⟩
abbrev S8x128 : Shape := ⟨2, ![8, 128]⟩
abbrev S512x128 : Shape := ⟨2, ![512, 128]⟩
abbrev S512x512 : Shape := ⟨2, ![512, 512]⟩
abbrev S128 : Shape := ⟨1, ![128]⟩

abbrev nBuf : Space → Nat
  | .hbm => 28
  | .vmem => 9
  | .smem => 0
  | _ => 0

abbrev bufTy : (tb : Table) → Fin (tcTables nBuf tb) → BufTy
  | .hbm, ⟨0, _⟩ => ⟨S4096x2984, .f32⟩
  | .hbm, ⟨1, _⟩ => ⟨S8, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x8, .f32⟩
  | .hbm, ⟨10, _⟩ => ⟨S4096x512, .f32⟩
  | .hbm, ⟨11, _⟩ => ⟨S4096x256, .f32⟩
  | .hbm, ⟨12, _⟩ => ⟨S4096x128, .f32⟩
  | .hbm, ⟨13, _⟩ => ⟨S4096x32, .f32⟩
  | .hbm, ⟨14, _⟩ => ⟨S4096x512, .f32⟩
  | .hbm, ⟨15, _⟩ => ⟨S_, .f32⟩
  | .hbm, ⟨16, _⟩ => ⟨S4096x56, .f32⟩
  | .hbm, ⟨17, _⟩ => ⟨S_, .f32⟩
  | .hbm, ⟨18, _⟩ => ⟨S4096x32, .f32⟩
  | .hbm, ⟨19, _⟩ => ⟨S4096x128, .f32⟩
  | .hbm, ⟨20, _⟩ => ⟨S4096x1408, .f32⟩
  | .hbm, ⟨21, _⟩ => ⟨S4096x1536, .f32⟩
  | .hbm, ⟨22, _⟩ => ⟨S1x8, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S4096x128, .f32⟩
  | .hbm, ⟨27, _⟩ => ⟨S8x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S8x128, .f32⟩
  | .local _ .vmem, ⟨8, _⟩ => ⟨S1x128, .f32⟩
  | _, _ => ⟨S4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call1_v0 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c11_i32 : BitVec 32 := 11#32
  let c0_i32 : BitVec 32 := 0#32
  ![v0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxPostRefIdeal.lean ====
abbrev S4096x2984 : Shape := ⟨2, ![4096, 2984]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2984, .f32⟩
  | .hbm, ⟨1, _⟩ => ⟨S8, .f32⟩
  | .hbm, ⟨2, _⟩ => ⟨S4096x8, .f32⟩
  | .hbm, ⟨3, _⟩ => ⟨S4096x8, .f32⟩
  | .hbm, ⟨4, _⟩ => ⟨S1x8, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S_, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .i1⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S4096x8, .f32⟩
  | .hbm, ⟨24, _⟩ => ⟨S4096x8, .i1⟩
  | .hbm, ⟨25, _⟩ => ⟨S_, .f32⟩
  | .hbm, ⟨26, _⟩ => ⟨S4096x8, .f32⟩
  | .hbm, ⟨27, _⟩ => ⟨S4096x8, .f32⟩
  | .hbm, ⟨28, _⟩ => ⟨S_, .f32⟩
  | .hbm, ⟨29, _⟩ => ⟨S4096x8, .f32⟩
  | .hbm, ⟨30, _⟩ => ⟨S4096x8, .i1⟩
  | .hbm, ⟨31, _⟩ => ⟨S_, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x8, .f32⟩
  | .hbm, ⟨44, _⟩ => ⟨S4096x8, .i1⟩
  | .hbm, ⟨45, _⟩ => ⟨S_, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S_, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S_, .f32⟩
  | .hbm, ⟨56, _⟩ => ⟨S_, .f32⟩
  | .hbm, ⟨57, _⟩ => ⟨S4096x8, .f32⟩
  | .hbm, ⟨58, _⟩ => ⟨S_, .f32⟩
  | .hbm, ⟨59, _⟩ => ⟨S_, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S_, .f32⟩
  | .hbm, ⟨65, _⟩ => ⟨S8, .f32⟩
  | .hbm, ⟨66, _⟩ => ⟨S1x8, .f32⟩
  | .hbm, ⟨67, _⟩ => ⟨S_, .f32⟩
  | .hbm, ⟨68, _⟩ => ⟨S8, .f32⟩
  | .hbm, ⟨69, _⟩ => ⟨S_, .i32⟩
  | .hbm, ⟨70, _⟩ => ⟨S_, .f32⟩
  | .hbm, ⟨71, _⟩ => ⟨S4096x128, .f32⟩
  | .hbm, ⟨72, _⟩ => ⟨S1x8, .f32⟩
  | .hbm, ⟨73, _⟩ => ⟨S_, .i32⟩
  | .hbm, ⟨74, _⟩ => ⟨S_, .f32⟩
  | .hbm, ⟨75, _⟩ => ⟨S8x128, .f32⟩
  | _, _ => ⟨S4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_v0 : Ref sig .tc := ⟨.hbm, 61, rfl⟩
abbrev main_call3_v1 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_v12 : Ref sig .tc := ⟨.hbm, 72, rfl⟩
abbrev main_c_1 : Ref sig .tc := ⟨.hbm, 73, rfl⟩
abbrev main_call5_v0 : Ref sig .tc := ⟨.hbm, 74, rfl⟩
abbrev main_v13 : Ref sig .tc := ⟨.hbm, 75, rfl⟩

abbrev nD : Nat := 1
abbrev τ : Topo := Topo.v7x

variable {F : FTy → Type} [FloatOps F]
-- ==== FoxBwd.lean ====
abbrev S4096x512 : Shape := ⟨2, ![4096, 512]⟩
abbrev S4096x8 : Shape := ⟨2, ![4096, 8]⟩
abbrev S_ : Shape := ⟨0, ![]⟩
abbrev S4096x8x64 : Shape := ⟨3, ![4096, 8, 64]⟩
abbrev S8x4096x4096 : Shape := ⟨3, ![8, 4096, 4096]⟩
abbrev S8x4096 : Shape := ⟨2, ![8, 4096]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x4096x64 : Shape := ⟨3, ![8, 4096, 64]⟩
abbrev S4x2x4096 : Shape := ⟨3, ![4, 2, 4096]⟩
abbrev S4x4x4096 : Shape := ⟨3, ![4, 4, 4096]⟩
abbrev S4096x4x4 : Shape := ⟨3, ![4096, 4, 4]⟩
abbrev S4096x4x128 : Shape := ⟨3, ![4096, 4, 128]⟩
abbrev S4096x1536 : Shape := ⟨2, ![4096, 1536]⟩
abbrev S4x8x4096 : Shape := ⟨3, ![4, 8, 4096]⟩
abbrev S4x8x16x256 : Shape := ⟨4, ![4, 8, 16, 256]⟩
abbrev S4x16x8x256 : Shape := ⟨4, ![4, 16, 8, 256]⟩
abbrev S4x4096x128 : Shape := ⟨3, ![4, 4096, 128]⟩
abbrev S4096x128 : Shape := ⟨2, ![4096, 128]⟩
abbrev S256x128 : Shape := ⟨2, ![256, 128]⟩
abbrev S1x1x8x256 : Shape := ⟨4, ![1, 1, 8, 256]⟩
abbrev S1x256x128 : Shape := ⟨3, ![1, 256, 128]⟩
abbrev S1x16x8x256 : Shape := ⟨4, ![1, 16, 8, 256]⟩
abbrev S512x128 : Shape := ⟨2, ![512, 128]⟩
abbrev S8x256 : Shape := ⟨2, ![8, 256]⟩
abbrev S256x8 : Shape := ⟨2, ![256, 8]⟩
abbrev S256x1 : Shape := ⟨2, ![256, 1]⟩
abbrev S512x1 : Shape := ⟨2, ![512, 1]⟩
abbrev S512x256 : Shape := ⟨2, ![512, 256]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S512 : Shape := ⟨1, ![512]⟩
abbrev S4x4096x2 : Shape := ⟨3, ![4, 4096, 2]⟩
abbrev S4096x4x2 : Shape := ⟨3, ![4096, 4, 2]⟩

abbrev nBuf : Space → Nat
  | .hbm => 87
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .f32⟩
  | .hbm, ⟨13, _⟩ => ⟨S4096x8x64, .f32⟩
  | .hbm, ⟨14, _⟩ => ⟨S4096x512, .f32⟩
  | .hbm, ⟨15, _⟩ => ⟨S4096x8x64, .f32⟩
  | .hbm, ⟨16, _⟩ => ⟨S4096x512, .f32⟩
  | .hbm, ⟨17, _⟩ => ⟨S4096x8x64, .f32⟩
  | .hbm, ⟨18, _⟩ => ⟨S4096x512, .f32⟩
  | .hbm, ⟨19, _⟩ => ⟨S4096x8x64, .f32⟩
  | .hbm, ⟨20, _⟩ => ⟨S8x4096x4096, .f32⟩
  | .hbm, ⟨21, _⟩ => ⟨S8x4096, .f32⟩
  | .hbm, ⟨22, _⟩ => ⟨S8x1x4096, .f32⟩
  | .hbm, ⟨23, _⟩ => ⟨S8x4096x4096, .f32⟩
  | .hbm, ⟨24, _⟩ => ⟨S8x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x64, .f32⟩
  | .hbm, ⟨45, _⟩ => ⟨S8x4096x1, .f32⟩
  | .hbm, ⟨46, _⟩ => ⟨S8x4096x64, .f32⟩
  | .hbm, ⟨47, _⟩ => ⟨S8x4096x64, .f32⟩
  | .hbm, ⟨48, _⟩ => ⟨S8x4096x64, .f32⟩
  | .hbm, ⟨49, _⟩ => ⟨S8x4096x64, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S4x2x4096, .f32⟩
  | .hbm, ⟨55, _⟩ => ⟨S4x2x4096, .f32⟩
  | .hbm, ⟨56, _⟩ => ⟨S4x4x4096, .f32⟩
  | .hbm, ⟨57, _⟩ => ⟨S4096x4x4, .f32⟩
  | .hbm, ⟨58, _⟩ => ⟨S_, .i32⟩
  | .hbm, ⟨59, _⟩ => ⟨S_, .f32⟩
  | .hbm, ⟨60, _⟩ => ⟨S4096x4x128, .f32⟩
  | .hbm, ⟨61, _⟩ => ⟨S4096x512, .f32⟩
  | .hbm, ⟨62, _⟩ => ⟨S4096x1536, .bf16⟩
  | .hbm, ⟨63, _⟩ => ⟨S8x4096, .f32⟩
  | .hbm, ⟨64, _⟩ => ⟨S4x2x4096, .f32⟩
  | .hbm, ⟨65, _⟩ => ⟨S_, .i32⟩
  | .hbm, ⟨66, _⟩ => ⟨S_, .f32⟩
  | .hbm, ⟨67, _⟩ => ⟨S4x8x4096, .f32⟩
  | .hbm, ⟨68, _⟩ => ⟨S4x8x16x256, .f32⟩
  | .hbm, ⟨69, _⟩ => ⟨S4x16x8x256, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4x4096x128, .f32⟩
  | .hbm, ⟨74, _⟩ => ⟨S4x16x8x256, .f32⟩
  | .hbm, ⟨75, _⟩ => ⟨S_, .f32⟩
  | .hbm, ⟨76, _⟩ => ⟨S4096x512, .f32⟩
  | .hbm, ⟨77, _⟩ => ⟨S4096x512, .f32⟩
  | .hbm, ⟨78, _⟩ => ⟨S4x8x16x256, .f32⟩
  | .hbm, ⟨79, _⟩ => ⟨S4x8x4096, .f32⟩
  | .hbm, ⟨80, _⟩ => ⟨S4x2x4096, .f32⟩
  | .hbm, ⟨81, _⟩ => ⟨S8x4096, .f32⟩
  | .hbm, ⟨82, _⟩ => ⟨S4096x8, .f32⟩
  | .hbm, ⟨83, _⟩ => ⟨S4x4096x2, .f32⟩
  | .hbm, ⟨84, _⟩ => ⟨S4096x4x2, .f32⟩
  | .hbm, ⟨85, _⟩ => ⟨S4096x8, .f32⟩
  | .hbm, ⟨86, _⟩ => ⟨S4096x8, .f32⟩
  | .local _ .vmem, ⟨0, _⟩ => ⟨S4096x128, .bf16⟩
  | .local _ .vmem, ⟨1, _⟩ => ⟨S4096x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S1x1x8x256, .f32⟩
  | .local _ .vmem, ⟨11, _⟩ => ⟨S1x1x8x256, .f32⟩
  | .local _ .vmem, ⟨12, _⟩ => ⟨S4096x128, .f32⟩
  | .local _ .vmem, ⟨13, _⟩ => ⟨S4096x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x256x128, .f32⟩
  | .local _ .vmem, ⟨19, _⟩ => ⟨S1x256x128, .f32⟩
  | .local _ .vmem, ⟨20, _⟩ => ⟨S1x16x8x256, .f32⟩
  | .local _ .vmem, ⟨21, _⟩ => ⟨S1x16x8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call1_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_4 : Ref sig .tc := ⟨.hbm, 65, rfl⟩
abbrev main_call2_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let c16_i32 : BitVec 32 := 16#32
  let arg1 : BitVec 32 := BitVec.ofNat 32 (i 1).val
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let c1_i32_25 : BitVec 32 := 1#32
  let v50 : BitVec 32 := Scalar.subi v49 c1_i32_25
  let c0_i32_27 : BitVec 32 := 0#32
  let v52 : BitVec 32 := Scalar.maxsi v50 c0_i32_27
  let c2_i32_28 : BitVec 32 := 2#32
  let v53 : BitVec 32 := Scalar.minsi v52 c2_i32_28
  let c0_i32_29 : BitVec 32 := 0#32
  let v54 : BitVec 1 := Scalar.cmpi .ne v53 c0_i32_29
  v54

def k0_cond3 (i : grid0.Coords) : BitVec 1 :=
  let c16_i32 : BitVec 32 := 16#32
  let arg1 : BitVec 32 := BitVec.ofNat 32 (i 1).val
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let c1_i32_25 : BitVec 32 := 1#32
  let v50 : BitVec 32 := Scalar.subi v49 c1_i32_25
  let c0_i32_27 : BitVec 32 := 0#32
  let v52 : BitVec 32 := Scalar.maxsi v50 c0_i32_27
  let c2_i32_28 : BitVec 32 := 2#32
  let v53 : BitVec 32 := Scalar.minsi v52 c2_i32_28
  let c1_i32_47 : BitVec 32 := 1#32
  let v98 : BitVec 32 := Scalar.subi v53 c1_i32_47
  let c0_i32_48 : BitVec 32 := 0#32
  let v99 : BitVec 1 := Scalar.cmpi .ne v98 c0_i32_48
  v99

def k0_mult1 (i : grid0.Coords) : BitVec 32 :=
  let arg1 : BitVec 32 := BitVec.ofNat 32 (i 1).val
  let c0_i32_49 : BitVec 32 := 0#32
  let v101 : BitVec 32 := Scalar.addi arg1 c0_i32_49
  let c256_i32_50 : BitVec 32 := 256#32
  let v102 : BitVec 32 := Scalar.muli v101 c256_i32_50
  v102
def k0_off1 (i : grid0.Coords) (c0_i32_49 : BitVec 32) : Fin 2 → Nat :=
  let arg1 : BitVec 32 := BitVec.ofNat 32 (i 1).val
  let v101 : BitVec 32 := Scalar.addi arg1 c0_i32_49
  let c256_i32_50 : BitVec 32 := 256#32
  let v102 : BitVec 32 := Scalar.muli v101 c256_i32_50
  let v103 : BitVec 32 := v102
  let v104 : Index := Scalar.indexCast v103
  let c0_51 : Index := 0#32
  ![v104.toNat, 0]
def k0_mult2 (i : grid0.Coords) : BitVec 32 :=
  let arg1 : BitVec 32 := BitVec.ofNat 32 (i 1).val
  let c1_i32_55 : BitVec 32 := 1#32
  let v112 : BitVec 32 := Scalar.addi arg1 c1_i32_55
  let c256_i32_56 : BitVec 32 := 256#32
  let v113 : BitVec 32 := Scalar.muli v112 c256_i32_56
  v113
def k0_mult3 (i : grid0.Coords) : BitVec 32 :=
  let arg1 : BitVec 32 := BitVec.ofNat 32 (i 1).val
  let c2_i32_61 : BitVec 32 := 2#32
  let v123 : BitVec 32 := Scalar.addi arg1 c2_i32_61
  let c256_i32_62 : BitVec 32 := 256#32
  let v124 : BitVec 32 := Scalar.muli v123 c256_i32_62
  v124
def k0_mult4 (i : grid0.Coords) : BitVec 32 :=
  let arg1 : BitVec 32 := BitVec.ofNat 32 (i 1).val
  let c0_i32_67 : BitVec 32 := 0#32
  let v134 : BitVec 32 := Scalar.addi arg1 c0_i32_67
  let c256_i32_68 : BitVec 32 := 256#32
  let v135 : BitVec 32 := Scalar.muli v134 c256_i32_68
  v135
def k0_off2 (i : grid0.Coords) (c0_i32_67 : BitVec 32) : Fin 4 → Nat :=
  let c0_90 : Index := 0#32
  let arg1 : BitVec 32 := BitVec.ofNat 32 (i 1).val
  let v134 : BitVec 32 := Scalar.addi arg1 c0_i32_67
  let v222 : Index := Scalar.indexCast v134
  let c0_91 : Index := 0#32
  let c0_92 : Index := 0#32
  ![0, v222.toNat, 0, 0]
def k0_mult5 (i : grid0.Coords) : BitVec 32 :=
  let arg1 : BitVec 32 := BitVec.ofNat 32 (i 1).val
  let c1_i32_100 : BitVec 32 := 1#32
  let v244 : BitVec 32 := Scalar.addi arg1 c1_i32_100
  let c256_i32_101 : BitVec 32 := 256#32
  let v245 : BitVec 32 := Scalar.muli v244 c256_i32_101
  v245
def k0_mult6 (i : grid0.Coords) : BitVec 32 :=
  let arg1 : BitVec 32 := BitVec.ofNat 32 (i 1).val
  let c2_i32_132 : BitVec 32 := 2#32
  let v343 : BitVec 32 := Scalar.addi arg1 c2_i32_132
  let c256_i32_133 : BitVec 32 := 256#32
  let v344 : BitVec 32 := Scalar.muli v343 c256_i32_133
  v344
def k0_mult7 (i : grid0.Coords) : BitVec 32 :=
  let arg1 : BitVec 32 := BitVec.ofNat 32 (i 1).val
  let c256_i32_49 : BitVec 32 := 256#32
  let v101 : BitVec 32 := Scalar.muli arg1 c256_i32_49
  v101
def k0_off3 (i : grid0.Coords) : Fin 2 → Nat :=
  let arg1 : BitVec 32 := BitVec.ofNat 32 (i 1).val
  let c256_i32_49 : BitVec 32 := 256#32
  let v101 : BitVec 32 := Scalar.muli arg1 c256_i32_49
  let v102 : BitVec 32 := v101
  let v103 : Index := Scalar.indexCast v102
  let c0_50 : Index := 0#32
  ![v103.toNat, 0]
def k0_mult8 (i : grid0.Coords) : BitVec 32 :=
  let arg1 : BitVec 32 := BitVec.ofNat 32 (i 1).val
  let c1_i32_54 : BitVec 32 := 1#32
  let v111 : BitVec 32 := Scalar.addi arg1 c1_i32_54
  let c256_i32_55 : BitVec 32 := 256#32
  let v112 : BitVec 32 := Scalar.muli v111 c256_i32_55
  v112
def k0_off4 (i : grid0.Coords) : Fin 2 → Nat :=
  let arg1 : BitVec 32 := BitVec.ofNat 32 (i 1).val
  let c1_i32_54 : BitVec 32 := 1#32
  let v111 : BitVec 32 := Scalar.addi arg1 c1_i32_54
  let c256_i32_55 : BitVec 32 := 256#32
  let v112 : BitVec 32 := Scalar.muli v111 c256_i32_55
  let v113 : BitVec 32 := v112
  let v114 : Index := Scalar.indexCast v113
  let c0_56 : Index := 0#32
  ![v114.toNat, 0]
def k0_mult9 (i : grid0.Coords) : BitVec 32 :=
  let arg1 : BitVec 32 := BitVec.ofNat 32 (i 1).val
  let c256_i32_61 : BitVec 32 := 256#32
  let v123 : BitVec 32 := Scalar.muli arg1 c256_i32_61
  v123
def k0_off5 (i : grid0.Coords) : Fin 4 → Nat :=
  let c0_83 : Index := 0#32
  let arg1 : BitVec 32 := BitVec.ofNat 32 (i 1).val
  let v210 : Index := Scalar.indexCast arg1
  let c0_84 : Index := 0#32
  let c0_85 : Index := 0#32
  ![0, v210.toNat, 0, 0]
def k0_mult10 (i : grid0.Coords) : BitVec 32 :=
  let arg1 : BitVec 32 := BitVec.ofNat 32 (i 1).val
  let c1_i32_60 : BitVec 32 := 1#32
  let v122 : BitVec 32 := Scalar.addi arg1 c1_i32_60
  let c256_i32_93 : BitVec 32 := 256#32
  let v232 : BitVec 32 := Scalar.muli v122 c256_i32_93
  v232
def k0_off6 (i : grid0.Coords) : Fin 4 → Nat :=
  let c0_114 : Index := 0#32
  let arg1 : BitVec 32 := BitVec.ofNat 32 (i 1).val
  let c1_i32_60 : BitVec 32 := 1#32
  let v122 : BitVec 32 := Scalar.addi arg1 c1_i32_60
  let v308 : Index := Scalar.indexCast v122
  let c0_115 : Index := 0#32
  let c0_116 : Index := 0#32
  ![0, v308.toNat, 0, 0]
def k0_mult11 (i : grid0.Coords) : BitVec 32 :=
  let arg1 : BitVec 32 := BitVec.ofNat 32 (i 1).val
  let c256_i32_47 : BitVec 32 := 256#32
  let v98 : BitVec 32 := Scalar.muli arg1 c256_i32_47
  v98
def k0_off7 (i : grid0.Coords) : Fin 2 → Nat :=
  let arg1 : BitVec 32 := BitVec.ofNat 32 (i 1).val
  let c256_i32_47 : BitVec 32 := 256#32
  let v98 : BitVec 32 := Scalar.muli arg1 c256_i32_47
  let v99 : BitVec 32 := v98
  let v100 : Index := Scalar.indexCast v99
  let c0_48 : Index := 0#32
  ![v100.toNat, 0]
def k0_mult12 (i : grid0.Coords) : BitVec 32 :=
  let arg1 : BitVec 32 := BitVec.ofNat 32 (i 1).val
  let c256_i32_52 : BitVec 32 := 256#32
  let v108 : BitVec 32 := Scalar.muli arg1 c256_i32_52
  v108
def k0_off8 (i : grid0.Coords) : Fin 4 → Nat :=
  let c0_74 : Index := 0#32
  let arg1 : BitVec 32 := BitVec.ofNat 32 (i 1).val
  let v195 : Index := Scalar.indexCast arg1
  let c0_75 : Index := 0#32
  let c0_76 : Index := 0#32
  ![0, v195.toNat, 0, 0]
@[reducible] def k0_t1_loop (i : grid0.Coords) : Scf.Loop 32 :=
  let c0_i32_37 : BitVec 32 := 0#32
  let c16_i32 : BitVec 32 := 16#32
  let arg1 : BitVec 32 := BitVec.ofNat 32 (i 1).val
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_39 : BitVec 32 := 1#32
  ⟨c0_i32_37, v78, c1_i32_39⟩
def k0_mult13 (i : grid0.Coords) (k0_t1 : Fin (k0_t1_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c256_i32_48 : BitVec 32 := 256#32
  let v101 : BitVec 32 := Scalar.muli v100 c256_i32_48
  v101
def k0_off9 (i : grid0.Coords) (k0_t1 : Fin (k0_t1_loop i).trips) : Fin 2 → Nat :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c256_i32_48 : BitVec 32 := 256#32
  let v101 : BitVec 32 := Scalar.muli v100 c256_i32_48
  let v102 : BitVec 32 := v101
  let v103 : Index := Scalar.indexCast v102
  let c0_49 : Index := 0#32
  ![v103.toNat, 0]
def k0_mult14 (i : grid0.Coords) (k0_t1 : Fin (k0_t1_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c1_i32_53 : BitVec 32 := 1#32
  let v111 : BitVec 32 := Scalar.addi v100 c1_i32_53
  let c256_i32_54 : BitVec 32 := 256#32
  let v112 : BitVec 32 := Scalar.muli v111 c256_i32_54
  v112
def k0_off10 (i : grid0.Coords) (k0_t1 : Fin (k0_t1_loop i).trips) : Fin 2 → Nat :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c1_i32_53 : BitVec 32 := 1#32
  let v111 : BitVec 32 := Scalar.addi v100 c1_i32_53
  let c256_i32_54 : BitVec 32 := 256#32
  let v112 : BitVec 32 := Scalar.muli v111 c256_i32_54
  let v113 : BitVec 32 := v112
  let v114 : Index := Scalar.indexCast v113
  let c0_55 : Index := 0#32
  ![v114.toNat, 0]
def k0_mult15 (i : grid0.Coords) (k0_t1 : Fin (k0_t1_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c256_i32_60 : BitVec 32 := 256#32
  let v123 : BitVec 32 := Scalar.muli v100 c256_i32_60
  v123
def k0_off11 (i : grid0.Coords) (k0_t1 : Fin (k0_t1_loop i).trips) : Fin 4 → Nat :=
  let c0_81 : Index := 0#32
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let v199 : Index := Scalar.indexCast v100
  let c0_82 : Index := 0#32
  let c0_83 : Index := 0#32
  ![0, v199.toNat, 0, 0]
def k0_mult16 (i : grid0.Coords) (k0_t1 : Fin (k0_t1_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c1_i32_59 : BitVec 32 := 1#32
  let v122 : BitVec 32 := Scalar.addi v100 c1_i32_59
  let c256_i32_91 : BitVec 32 := 256#32
  let v221 : BitVec 32 := Scalar.muli v122 c256_i32_91
  v221
def k0_off12 (i : grid0.Coords) (k0_t1 : Fin (k0_t1_loop i).trips) : Fin 4 → Nat :=
  let c0_112 : Index := 0#32
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let c1_i32_39 : BitVec 32 := 1#32
  let arg13 : BitVec 32 := Scf.iv c0_i32_37 c1_i32_39 k0_t1
  let v99 : BitVec 32 := Scalar.muli c2_i32_47 arg13
  let v100 : BitVec 32 := Scalar.addi v98 v99
  let c1_i32_59 : BitVec 32 := 1#32
  let v122 : BitVec 32 := Scalar.addi v100 c1_i32_59
  let v297 : Index := Scalar.indexCast v122
  let c0_113 : Index := 0#32
  let c0_114 : Index := 0#32
  ![0, v297.toNat, 0, 0]
@[reducible] def k0_t2_loop (i : grid0.Coords) : Scf.Loop 32 :=
  let c0_i32_37 : BitVec 32 := 0#32
  let c16_i32 : BitVec 32 := 16#32
  let arg1 : BitVec 32 := BitVec.ofNat 32 (i 1).val
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let v75 : BitVec 32 := Scalar.addi c0_i32_37 v74
  let c1_i32_40 : BitVec 32 := 1#32
  ⟨v78, v75, c1_i32_40⟩
def k0_mult17 (i : grid0.Coords) (k0_t2 : Fin (k0_t2_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c256_i32_48 : BitVec 32 := 256#32
  let v101 : BitVec 32 := Scalar.muli v100 c256_i32_48
  v101
def k0_off13 (i : grid0.Coords) (k0_t2 : Fin (k0_t2_loop i).trips) : Fin 2 → Nat :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c256_i32_48 : BitVec 32 := 256#32
  let v101 : BitVec 32 := Scalar.muli v100 c256_i32_48
  let v102 : BitVec 32 := v101
  let v103 : Index := Scalar.indexCast v102
  let c0_49 : Index := 0#32
  ![v103.toNat, 0]
def k0_mult18 (i : grid0.Coords) (k0_t2 : Fin (k0_t2_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c1_i32_53 : BitVec 32 := 1#32
  let v111 : BitVec 32 := Scalar.addi v100 c1_i32_53
  let c256_i32_54 : BitVec 32 := 256#32
  let v112 : BitVec 32 := Scalar.muli v111 c256_i32_54
  v112
def k0_off14 (i : grid0.Coords) (k0_t2 : Fin (k0_t2_loop i).trips) : Fin 2 → Nat :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c1_i32_53 : BitVec 32 := 1#32
  let v111 : BitVec 32 := Scalar.addi v100 c1_i32_53
  let c256_i32_54 : BitVec 32 := 256#32
  let v112 : BitVec 32 := Scalar.muli v111 c256_i32_54
  let v113 : BitVec 32 := v112
  let v114 : Index := Scalar.indexCast v113
  let c0_55 : Index := 0#32
  ![v114.toNat, 0]
def k0_mult19 (i : grid0.Coords) (k0_t2 : Fin (k0_t2_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c256_i32_60 : BitVec 32 := 256#32
  let v123 : BitVec 32 := Scalar.muli v100 c256_i32_60
  v123
def k0_off15 (i : grid0.Coords) (k0_t2 : Fin (k0_t2_loop i).trips) : Fin 4 → Nat :=
  let c0_81 : Index := 0#32
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let v199 : Index := Scalar.indexCast v100
  let c0_82 : Index := 0#32
  let c0_83 : Index := 0#32
  ![0, v199.toNat, 0, 0]
def k0_mult20 (i : grid0.Coords) (k0_t2 : Fin (k0_t2_loop i).trips) : BitVec 32 :=
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c1_i32_59 : BitVec 32 := 1#32
  let v122 : BitVec 32 := Scalar.addi v100 c1_i32_59
  let c256_i32_91 : BitVec 32 := 256#32
  let v221 : BitVec 32 := Scalar.muli v122 c256_i32_91
  v221
def k0_off16 (i : grid0.Coords) (k0_t2 : Fin (k0_t2_loop i).trips) : Fin 4 → Nat :=
  let c0_112 : Index := 0#32
  let arg1 : BitVec 32 := BitVec.ofNat 32 (i 1).val
  let c16_i32 : BitVec 32 := 16#32
  let v36 : BitVec 32 := Scalar.subi c16_i32 arg1
  let c1_i32 : BitVec 32 := 1#32
  let v37 : BitVec 1 := Scalar.cmpi .eq v36 c1_i32
  let c1_i32_24 : BitVec 32 := 1#32
  let c2_i32_23 : BitVec 32 := 2#32
  let c2_i32 : BitVec 32 := 2#32
  let c0_i32_18 : BitVec 32 := 0#32
  let v38 : BitVec 1 := Scalar.cmpi .eq c2_i32 c0_i32_18
  let c1_i32_19 : BitVec 32 := 1#32
  let v39 : BitVec 32 := Scalar.select v38 c1_i32_19 c2_i32
  let v40 : BitVec 32 := Scalar.remsi v36 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let v48 : BitVec 32 := Scalar.addi c2_i32_23 v47
  let v49 : BitVec 32 := Scalar.select v37 c1_i32_24 v48
  let v98 : BitVec 32 := Scalar.addi arg1 v49
  let c2_i32_47 : BitVec 32 := 2#32
  let c0_i32_37 : BitVec 32 := 0#32
  let v56 : BitVec 32 := Scalar.subi v36 v49
  let c0_i32_31 : BitVec 32 := 0#32
  let v58 : BitVec 1 := Scalar.cmpi .sgt v56 c0_i32_31
  let v59 : BitVec 32 := Scalar.extui v58
  let c0_i32_32 : BitVec 32 := 0#32
  let v60 : BitVec 1 := Scalar.cmpi .slt v56 c0_i32_32
  let v61 : BitVec 32 := Scalar.extui v60
  let v62 : BitVec 32 := Scalar.subi v59 v61
  let c2_i32_30 : BitVec 32 := 2#32
  let c0_i32_33 : BitVec 32 := 0#32
  let v63 : BitVec 1 := Scalar.cmpi .sgt c2_i32_30 c0_i32_33
  let v64 : BitVec 32 := Scalar.extui v63
  let c0_i32_34 : BitVec 32 := 0#32
  let v65 : BitVec 1 := Scalar.cmpi .slt c2_i32_30 c0_i32_34
  let v66 : BitVec 32 := Scalar.extui v65
  let v67 : BitVec 32 := Scalar.subi v64 v66
  let v68 : BitVec 1 := Scalar.cmpi .ne v62 v67
  let v69 : BitVec 32 := Scalar.remsi v56 c2_i32_30
  let c0_i32_35 : BitVec 32 := 0#32
  let v70 : BitVec 1 := Scalar.cmpi .ne v69 c0_i32_35
  let v71 : BitVec 1 := Scalar.andi v68 v70
  let v57 : BitVec 32 := Scalar.divsi v56 c2_i32_30
  let c1_i32_36 : BitVec 32 := 1#32
  let v72 : BitVec 32 := Scalar.subi v57 c1_i32_36
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg13 : BitVec 32 := Scf.iv v78 c1_i32_40 k0_t2
  let v99 : BitVec 32 := Scalar.muli c2_i32_47 arg13
  let v100 : BitVec 32 := Scalar.addi v98 v99
  let c1_i32_59 : BitVec 32 := 1#32
  let v122 : BitVec 32 := Scalar.addi v100 c1_i32_59
  let v297 : Index := Scalar.indexCast v122
  let c0_113 : Index := 0#32
  let c0_114 : Index := 0#32
  ![0, v297.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FoxBwdIdeal.lean ====
variable {F : FTy → Type} [FloatOps F] [Named F]
def κ : String → Option EReal := fun
  | "mask" => some ⊥
  | _ => none
-- ==== FoxBwdRefIdeal.lean ====
abbrev S4096x512 : Shape := ⟨2, ![4096, 512]⟩
abbrev S4096x8 : Shape := ⟨2, ![4096, 8]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 120
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .i1⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x64x4096, .f32⟩
  | .hbm, ⟨72, _⟩ => ⟨S4096x8x64, .f32⟩
  | .hbm, ⟨73, _⟩ => ⟨S4096x512, .f32⟩
  | .hbm, ⟨74, _⟩ => ⟨S4096x8x64, .f32⟩
  | .hbm, ⟨75, _⟩ => ⟨S8x64x4096, .f32⟩
  | .hbm, ⟨76, _⟩ => ⟨S8x4096x4096, .f32⟩
  | .hbm, ⟨77, _⟩ => ⟨S8x64x4096, .f32⟩
  | .hbm, ⟨78, _⟩ => ⟨S4096x8x64, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x1, .f32⟩
  | .hbm, ⟨85, _⟩ => ⟨S8x4096x1, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x1x4096, .f32⟩
  | .hbm, ⟨100, _⟩ => ⟨S_, .f32⟩
  | .hbm, ⟨101, _⟩ => ⟨S8x4096, .f32⟩
  | .hbm, ⟨102, _⟩ => ⟨S4096x8, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S_, .f32⟩
  | .hbm, ⟨107, _⟩ => ⟨S8x4096, .f32⟩
  | .hbm, ⟨108, _⟩ => ⟨S4096x8, .f32⟩
  | .hbm, ⟨109, _⟩ => ⟨S4096x8, .f32⟩
  | .hbm, ⟨110, _⟩ => ⟨S_, .f32⟩
  | .hbm, ⟨111, _⟩ => ⟨S8x4096x4096, .f32⟩
  | .hbm, ⟨112, _⟩ => ⟨S8x4096x4096, .f32⟩
  | .hbm, ⟨113, _⟩ => ⟨S8x4096x64, .f32⟩
  | .hbm, ⟨114, _⟩ => ⟨S4096x8x64, .f32⟩
  | .hbm, ⟨115, _⟩ => ⟨S8x4096x64, .f32⟩
  | .hbm, ⟨116, _⟩ => ⟨S4096x8x64, .f32⟩
  | .hbm, ⟨117, _⟩ => ⟨S4096x512, .f32⟩
  | .hbm, ⟨118, _⟩ => ⟨S4096x512, .f32⟩
  | .hbm, ⟨119, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== MlaBwd.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩
abbrev S4096x8x128 : Shape := ⟨3, ![4096, 8, 128]⟩
abbrev S4096x1x32 : Shape := ⟨3, ![4096, 1, 32]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x4096x64 : Shape := ⟨3, ![8, 4096, 64]⟩
abbrev S4x2x4096 : Shape := ⟨3, ![4, 2, 4096]⟩
abbrev S4x4x4096 : Shape := ⟨3, ![4, 4, 4096]⟩
abbrev S4096x4x4 : Shape := ⟨3, ![4096, 4, 4]⟩
abbrev S4096x4x128 : Shape := ⟨3, ![4096, 4, 128]⟩
abbrev S4096x512 : Shape := ⟨2, ![4096, 512]⟩
abbrev S4096x1024 : Shape := ⟨2, ![4096, 1024]⟩
abbrev S4096x256 : Shape := ⟨2, ![4096, 256]⟩
abbrev S256x256 : Shape := ⟨2, ![256, 256]⟩
abbrev S256x128 : Shape := ⟨2, ![256, 128]⟩
abbrev S4096x128 : Shape := ⟨2, ![4096, 128]⟩
abbrev S512x128 : Shape := ⟨2, ![512, 128]⟩
abbrev S512x1 : Shape := ⟨2, ![512, 1]⟩
abbrev S512x256 : Shape := ⟨2, ![512, 256]⟩
abbrev S128x256 : Shape := ⟨2, ![128, 256]⟩
abbrev S1x256 : Shape := ⟨2, ![1, 256]⟩

abbrev nBuf : Space → Nat
  | .hbm => 85
  | .vmem => 16
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S_, .f32⟩
  | .hbm, ⟨7, _⟩ => ⟨S4096x8x32, .f32⟩
  | .hbm, ⟨8, _⟩ => ⟨S4096x8x128, .f32⟩
  | .hbm, ⟨9, _⟩ => ⟨S_, .f32⟩
  | .hbm, ⟨10, _⟩ => ⟨S4096x8x128, .f32⟩
  | .hbm, ⟨11, _⟩ => ⟨S4096x8x128, .f32⟩
  | .hbm, ⟨12, _⟩ => ⟨S4096x8x128, .bf16⟩
  | .hbm, ⟨13, _⟩ => ⟨S4096x1x32, .f32⟩
  | .hbm, ⟨14, _⟩ => ⟨S4096x8x32, .f32⟩
  | .hbm, ⟨15, _⟩ => ⟨S_, .f32⟩
  | .hbm, ⟨16, _⟩ => ⟨S4096x8x32, .f32⟩
  | .hbm, ⟨17, _⟩ => ⟨S4096x8x128, .f32⟩
  | .hbm, ⟨18, _⟩ => ⟨S4096x8x128, .bf16⟩
  | .hbm, ⟨19, _⟩ => ⟨S4096x8x64, .bf16⟩
  | .hbm, ⟨20, _⟩ => ⟨S4096x8x64, .bf16⟩
  | .hbm, ⟨21, _⟩ => ⟨S4096x8x128, .f32⟩
  | .hbm, ⟨22, _⟩ => ⟨S4096x8x128, .f32⟩
  | .hbm, ⟨23, _⟩ => ⟨S4096x8x64, .f32⟩
  | .hbm, ⟨24, _⟩ => ⟨S4096x8x64, .f32⟩
  | .hbm, ⟨25, _⟩ => ⟨S8x4096x4096, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x64, .f32⟩
  | .hbm, ⟨49, _⟩ => ⟨S8x4096x1, .f32⟩
  | .hbm, ⟨50, _⟩ => ⟨S8x4096x64, .f32⟩
  | .hbm, ⟨51, _⟩ => ⟨S8x4096x64, .f32⟩
  | .hbm, ⟨52, _⟩ => ⟨S8x4096x64, .f32⟩
  | .hbm, ⟨53, _⟩ => ⟨S8x4096x64, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S4x2x4096, .f32⟩
  | .hbm, ⟨59, _⟩ => ⟨S4x2x4096, .f32⟩
  | .hbm, ⟨60, _⟩ => ⟨S4x4x4096, .f32⟩
  | .hbm, ⟨61, _⟩ => ⟨S4096x4x4, .f32⟩
  | .hbm, ⟨62, _⟩ => ⟨S_, .i32⟩
  | .hbm, ⟨63, _⟩ => ⟨S_, .f32⟩
  | .hbm, ⟨64, _⟩ => ⟨S4096x4x128, .f32⟩
  | .hbm, ⟨65, _⟩ => ⟨S4096x512, .f32⟩
  | .hbm, ⟨66, _⟩ => ⟨S4096x1024, .bf16⟩
  | .hbm, ⟨67, _⟩ => ⟨S4096x1024, .bf16⟩
  | .hbm, ⟨68, _⟩ => ⟨S4096x512, .bf16⟩
  | .hbm, ⟨69, _⟩ => ⟨S4096x512, .bf16⟩
  | .hbm, ⟨70, _⟩ => ⟨S4096x1024, .f32⟩
  | .hbm, ⟨71, _⟩ => ⟨S4096x1024, .f32⟩
  | .hbm, ⟨72, _⟩ => ⟨S4096x512, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x8x128, .f32⟩
  | .hbm, ⟨77, _⟩ => ⟨S4096x8x128, .f32⟩
  | .hbm, ⟨78, _⟩ => ⟨S4096x8x64, .f32⟩
  | .hbm, ⟨79, _⟩ => ⟨S4096x8x32, .f32⟩
  | .hbm, ⟨80, _⟩ => ⟨S4096x8x64, .f32⟩
  | .hbm, ⟨81, _⟩ => ⟨S4096x8x32, .f32⟩
  | .hbm, ⟨82, _⟩ => ⟨S_, .f32⟩
  | .hbm, ⟨83, _⟩ => ⟨S4096x32, .f32⟩
  | .hbm, ⟨84, _⟩ => ⟨S4096x8x64, .f32⟩
  | .local _ .vmem, ⟨0, _⟩ => ⟨S4096x256, .bf16⟩
  | .local _ .vmem, ⟨1, _⟩ => ⟨S4096x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x256, .f32⟩
  | .local _ .vmem, ⟨11, _⟩ => ⟨S4096x256, .f32⟩
  | .local _ .vmem, ⟨12, _⟩ => ⟨S256x256, .f32⟩
  | .local _ .vmem, ⟨13, _⟩ => ⟨S256x256, .f32⟩
  | .local _ .vmem, ⟨14, _⟩ => ⟨S256x128, .f32⟩
  | .local _ .vmem, ⟨15, _⟩ => ⟨S256x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51_0 : Ref sig .tc := ⟨.hbm, 70, rfl⟩
abbrev main_v51_1 : Ref sig .tc := ⟨.hbm, 71, rfl⟩
abbrev main_v51_2 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let c16_i32 : BitVec 32 := 16#32
  let arg1 : BitVec 32 := BitVec.ofNat 32 (i 1).val
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let c1_i32_18 : BitVec 32 := 1#32
  let v37 : BitVec 32 := Scalar.subi v36 c1_i32_18
  let c0_i32_20 : BitVec 32 := 0#32
  let v39 : BitVec 32 := Scalar.maxsi v37 c0_i32_20
  let c2_i32_21 : BitVec 32 := 2#32
  let v40 : BitVec 32 := Scalar.minsi v39 c2_i32_21
  let c0_i32_22 : BitVec 32 := 0#32
  let v41 : BitVec 1 := Scalar.cmpi .ne v40 c0_i32_22
  v41

def k0_cond3 (i : grid0.Coords) : BitVec 1 :=
  let c16_i32 : BitVec 32 := 16#32
  let arg1 : BitVec 32 := BitVec.ofNat 32 (i 1).val
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let c1_i32_18 : BitVec 32 := 1#32
  let v37 : BitVec 32 := Scalar.subi v36 c1_i32_18
  let c0_i32_20 : BitVec 32 := 0#32
  let v39 : BitVec 32 := Scalar.maxsi v37 c0_i32_20
  let c2_i32_21 : BitVec 32 := 2#32
  let v40 : BitVec 32 := Scalar.minsi v39 c2_i32_21
  let c1_i32_34 : BitVec 32 := 1#32
  let v65 : BitVec 32 := Scalar.subi v40 c1_i32_34
  let c0_i32_35 : BitVec 32 := 0#32
  let v66 : BitVec 1 := Scalar.cmpi .ne v65 c0_i32_35
  v66

def k0_mult1 (i : grid0.Coords) : BitVec 32 :=
  let arg1 : BitVec 32 := BitVec.ofNat 32 (i 1).val
  let c0_i32_36 : BitVec 32 := 0#32
  let v67 : BitVec 32 := Scalar.addi arg1 c0_i32_36
  let c256_i32_37 : BitVec 32 := 256#32
  let v68 : BitVec 32 := Scalar.muli v67 c256_i32_37
  v68
def k0_off1 (i : grid0.Coords) (c0_i32_36 : BitVec 32) : Fin 2 → Nat :=
  let arg1 : BitVec 32 := BitVec.ofNat 32 (i 1).val
  let v67 : BitVec 32 := Scalar.addi arg1 c0_i32_36
  let c256_i32_37 : BitVec 32 := 256#32
  let v68 : BitVec 32 := Scalar.muli v67 c256_i32_37
  let v69 : BitVec 32 := v68
  let v70 : Index := Scalar.indexCast v69
  let c0_38 : Index := 0#32
  ![v70.toNat, 0]
def k0_off2 (i : grid0.Coords) (c0_i32_36 : BitVec 32) : Fin 2 → Nat :=
  let arg1 : BitVec 32 := BitVec.ofNat 32 (i 1).val
  let v67 : BitVec 32 := Scalar.addi arg1 c0_i32_36
  let c256_i32_37 : BitVec 32 := 256#32
  let v68 : BitVec 32 := Scalar.muli v67 c256_i32_37
  let v69 : BitVec 32 := v68
  let v73 : Index := Scalar.indexCast v69
  let c0_39 : Index := 0#32
  ![v73.toNat, 0]
def k0_mult2 (i : grid0.Coords) : BitVec 32 :=
  let arg1 : BitVec 32 := BitVec.ofNat 32 (i 1).val
  let c1_i32_43 : BitVec 32 := 1#32
  let v82 : BitVec 32 := Scalar.addi arg1 c1_i32_43
  let c256_i32_44 : BitVec 32 := 256#32
  let v83 : BitVec 32 := Scalar.muli v82 c256_i32_44
  v83
def k0_mult3 (i : grid0.Coords) : BitVec 32 :=
  let arg1 : BitVec 32 := BitVec.ofNat 32 (i 1).val
  let c2_i32_50 : BitVec 32 := 2#32
  let v97 : BitVec 32 := Scalar.addi arg1 c2_i32_50
  let c256_i32_51 : BitVec 32 := 256#32
  let v98 : BitVec 32 := Scalar.muli v97 c256_i32_51
  v98
def k0_mult4 (i : grid0.Coords) : BitVec 32 :=
  let arg1 : BitVec 32 := BitVec.ofNat 32 (i 1).val
  let c0_i32_57 : BitVec 32 := 0#32
  let v112 : BitVec 32 := Scalar.addi arg1 c0_i32_57
  let c256_i32_58 : BitVec 32 := 256#32
  let v113 : BitVec 32 := Scalar.muli v112 c256_i32_58
  v113
def k0_mult5 (i : grid0.Coords) : BitVec 32 :=
  let arg1 : BitVec 32 := BitVec.ofNat 32 (i 1).val
  let c1_i32_80 : BitVec 32 := 1#32
  let v199 : BitVec 32 := Scalar.addi arg1 c1_i32_80
  let c256_i32_81 : BitVec 32 := 256#32
  let v200 : BitVec 32 := Scalar.muli v199 c256_i32_81
  v200
def k0_mult6 (i : grid0.Coords) : BitVec 32 :=
  let arg1 : BitVec 32 := BitVec.ofNat 32 (i 1).val
  let c2_i32_101 : BitVec 32 := 2#32
  let v271 : BitVec 32 := Scalar.addi arg1 c2_i32_101
  let c256_i32_102 : BitVec 32 := 256#32
  let v272 : BitVec 32 := Scalar.muli v271 c256_i32_102
  v272
def k0_mult7 (i : grid0.Coords) : BitVec 32 :=
  let arg1 : BitVec 32 := BitVec.ofNat 32 (i 1).val
  let c256_i32_36 : BitVec 32 := 256#32
  let v67 : BitVec 32 := Scalar.muli arg1 c256_i32_36
  v67
def k0_off3 (i : grid0.Coords) : Fin 2 → Nat :=
  let arg1 : BitVec 32 := BitVec.ofNat 32 (i 1).val
  let c256_i32_36 : BitVec 32 := 256#32
  let v67 : BitVec 32 := Scalar.muli arg1 c256_i32_36
  let v68 : BitVec 32 := v67
  let v69 : Index := Scalar.indexCast v68
  let c0_37 : Index := 0#32
  ![v69.toNat, 0]
def k0_off4 (i : grid0.Coords) : Fin 2 → Nat :=
  let arg1 : BitVec 32 := BitVec.ofNat 32 (i 1).val
  let c256_i32_36 : BitVec 32 := 256#32
  let v67 : BitVec 32 := Scalar.muli arg1 c256_i32_36
  let v68 : BitVec 32 := v67
  let v72 : Index := Scalar.indexCast v68
  let c0_38 : Index := 0#32
  ![v72.toNat, 0]
def k0_mult8 (i : grid0.Coords) : BitVec 32 :=
  let arg1 : BitVec 32 := BitVec.ofNat 32 (i 1).val
  let c1_i32_42 : BitVec 32 := 1#32
  let v81 : BitVec 32 := Scalar.addi arg1 c1_i32_42
  let c256_i32_43 : BitVec 32 := 256#32
  let v82 : BitVec 32 := Scalar.muli v81 c256_i32_43
  v82
def k0_off5 (i : grid0.Coords) : Fin 2 → Nat :=
  let arg1 : BitVec 32 := BitVec.ofNat 32 (i 1).val
  let c1_i32_42 : BitVec 32 := 1#32
  let v81 : BitVec 32 := Scalar.addi arg1 c1_i32_42
  let c256_i32_43 : BitVec 32 := 256#32
  let v82 : BitVec 32 := Scalar.muli v81 c256_i32_43
  let v83 : BitVec 32 := v82
  let v84 : Index := Scalar.indexCast v83
  let c0_44 : Index := 0#32
  ![v84.toNat, 0]
def k0_off6 (i : grid0.Coords) : Fin 2 → Nat :=
  let arg1 : BitVec 32 := BitVec.ofNat 32 (i 1).val
  let c1_i32_42 : BitVec 32 := 1#32
  let v81 : BitVec 32 := Scalar.addi arg1 c1_i32_42
  let c256_i32_43 : BitVec 32 := 256#32
  let v82 : BitVec 32 := Scalar.muli v81 c256_i32_43
  let v83 : BitVec 32 := v82
  let v87 : Index := Scalar.indexCast v83
  let c0_45 : Index := 0#32
  ![v87.toNat, 0]
def k0_mult9 (i : grid0.Coords) : BitVec 32 :=
  let arg1 : BitVec 32 := BitVec.ofNat 32 (i 1).val
  let c256_i32_50 : BitVec 32 := 256#32
  let v97 : BitVec 32 := Scalar.muli arg1 c256_i32_50
  v97
def k0_mult10 (i : grid0.Coords) : BitVec 32 :=
  let arg1 : BitVec 32 := BitVec.ofNat 32 (i 1).val
  let c1_i32_49 : BitVec 32 := 1#32
  let v96 : BitVec 32 := Scalar.addi arg1 c1_i32_49
  let c256_i32_72 : BitVec 32 := 256#32
  let v183 : BitVec 32 := Scalar.muli v96 c256_i32_72
  v183
def k0_mult11 (i : grid0.Coords) : BitVec 32 :=
  let arg1 : BitVec 32 := BitVec.ofNat 32 (i 1).val
  let c256_i32_34 : BitVec 32 := 256#32
  let v65 : BitVec 32 := Scalar.muli arg1 c256_i32_34
  v65
def k0_off7 (i : grid0.Coords) : Fin 2 → Nat :=
  let arg1 : BitVec 32 := BitVec.ofNat 32 (i 1).val
  let c256_i32_34 : BitVec 32 := 256#32
  let v65 : BitVec 32 := Scalar.muli arg1 c256_i32_34
  let v66 : BitVec 32 := v65
  let v67 : Index := Scalar.indexCast v66
  let c0_35 : Index := 0#32
  ![v67.toNat, 0]
def k0_off8 (i : grid0.Coords) : Fin 2 → Nat :=
  let arg1 : BitVec 32 := BitVec.ofNat 32 (i 1).val
  let c256_i32_34 : BitVec 32 := 256#32
  let v65 : BitVec 32 := Scalar.muli arg1 c256_i32_34
  let v66 : BitVec 32 := v65
  let v70 : Index := Scalar.indexCast v66
  let c0_36 : Index := 0#32
  ![v70.toNat, 0]
def k0_mult12 (i : grid0.Coords) : BitVec 32 :=
  let arg1 : BitVec 32 := BitVec.ofNat 32 (i 1).val
  let c256_i32_40 : BitVec 32 := 256#32
  let v79 : BitVec 32 := Scalar.muli arg1 c256_i32_40
  v79
@[reducible] def k0_t1_loop (i : grid0.Coords) : Scf.Loop 32 :=
  let c0_i32_30 : BitVec 32 := 0#32
  let c16_i32 : BitVec 32 := 16#32
  let arg1 : BitVec 32 := BitVec.ofNat 32 (i 1).val
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_32 : BitVec 32 := 1#32
  ⟨c0_i32_30, v64, c1_i32_32⟩
def k0_mult13 (i : grid0.Coords) (k0_t1 : Fin (k0_t1_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c256_i32_35 : BitVec 32 := 256#32
  let v68 : BitVec 32 := Scalar.muli v67 c256_i32_35
  v68
def k0_off9 (i : grid0.Coords) (k0_t1 : Fin (k0_t1_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c256_i32_35 : BitVec 32 := 256#32
  let v68 : BitVec 32 := Scalar.muli v67 c256_i32_35
  let v69 : BitVec 32 := v68
  let v70 : Index := Scalar.indexCast v69
  let c0_36 : Index := 0#32
  ![v70.toNat, 0]
def k0_off10 (i : grid0.Coords) (k0_t1 : Fin (k0_t1_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c256_i32_35 : BitVec 32 := 256#32
  let v68 : BitVec 32 := Scalar.muli v67 c256_i32_35
  let v69 : BitVec 32 := v68
  let v73 : Index := Scalar.indexCast v69
  let c0_37 : Index := 0#32
  ![v73.toNat, 0]
def k0_mult14 (i : grid0.Coords) (k0_t1 : Fin (k0_t1_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  v83
def k0_off11 (i : grid0.Coords) (k0_t1 : Fin (k0_t1_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  let v84 : BitVec 32 := v83
  let v85 : Index := Scalar.indexCast v84
  let c0_43 : Index := 0#32
  ![v85.toNat, 0]
def k0_off12 (i : grid0.Coords) (k0_t1 : Fin (k0_t1_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  let v84 : BitVec 32 := v83
  let v88 : Index := Scalar.indexCast v84
  let c0_44 : Index := 0#32
  ![v88.toNat, 0]
def k0_mult15 (i : grid0.Coords) (k0_t1 : Fin (k0_t1_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c256_i32_49 : BitVec 32 := 256#32
  let v98 : BitVec 32 := Scalar.muli v67 c256_i32_49
  v98
def k0_mult16 (i : grid0.Coords) (k0_t1 : Fin (k0_t1_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let c1_i32_32 : BitVec 32 := 1#32
  let arg10 : BitVec 32 := Scf.iv c0_i32_30 c1_i32_32 k0_t1
  let v66 : BitVec 32 := Scalar.muli c2_i32_34 arg10
  let v67 : BitVec 32 := Scalar.addi v65 v66
  let c1_i32_48 : BitVec 32 := 1#32
  let v97 : BitVec 32 := Scalar.addi v67 c1_i32_48
  let c256_i32_69 : BitVec 32 := 256#32
  let v169 : BitVec 32 := Scalar.muli v97 c256_i32_69
  v169
@[reducible] def k0_t2_loop (i : grid0.Coords) : Scf.Loop 32 :=
  let c0_i32_30 : BitVec 32 := 0#32
  let c16_i32 : BitVec 32 := 16#32
  let arg1 : BitVec 32 := BitVec.ofNat 32 (i 1).val
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let v61 : BitVec 32 := Scalar.addi c0_i32_30 v60
  let c1_i32_33 : BitVec 32 := 1#32
  ⟨v64, v61, c1_i32_33⟩
def k0_mult17 (i : grid0.Coords) (k0_t2 : Fin (k0_t2_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c256_i32_35 : BitVec 32 := 256#32
  let v68 : BitVec 32 := Scalar.muli v67 c256_i32_35
  v68
def k0_off13 (i : grid0.Coords) (k0_t2 : Fin (k0_t2_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c256_i32_35 : BitVec 32 := 256#32
  let v68 : BitVec 32 := Scalar.muli v67 c256_i32_35
  let v69 : BitVec 32 := v68
  let v70 : Index := Scalar.indexCast v69
  let c0_36 : Index := 0#32
  ![v70.toNat, 0]
def k0_off14 (i : grid0.Coords) (k0_t2 : Fin (k0_t2_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c256_i32_35 : BitVec 32 := 256#32
  let v68 : BitVec 32 := Scalar.muli v67 c256_i32_35
  let v69 : BitVec 32 := v68
  let v73 : Index := Scalar.indexCast v69
  let c0_37 : Index := 0#32
  ![v73.toNat, 0]
def k0_mult18 (i : grid0.Coords) (k0_t2 : Fin (k0_t2_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  v83
def k0_off15 (i : grid0.Coords) (k0_t2 : Fin (k0_t2_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  let v84 : BitVec 32 := v83
  let v85 : Index := Scalar.indexCast v84
  let c0_43 : Index := 0#32
  ![v85.toNat, 0]
def k0_off16 (i : grid0.Coords) (k0_t2 : Fin (k0_t2_loop i).trips) : Fin 2 → Nat :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c1_i32_41 : BitVec 32 := 1#32
  let v82 : BitVec 32 := Scalar.addi v67 c1_i32_41
  let c256_i32_42 : BitVec 32 := 256#32
  let v83 : BitVec 32 := Scalar.muli v82 c256_i32_42
  let v84 : BitVec 32 := v83
  let v88 : Index := Scalar.indexCast v84
  let c0_44 : Index := 0#32
  ![v88.toNat, 0]
def k0_mult19 (i : grid0.Coords) (k0_t2 : Fin (k0_t2_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c256_i32_49 : BitVec 32 := 256#32
  let v98 : BitVec 32 := Scalar.muli v67 c256_i32_49
  v98
def k0_mult20 (i : grid0.Coords) (k0_t2 : Fin (k0_t2_loop i).trips) : BitVec 32 :=
  let arg1 : BitVec 32 := BitVec.ofNat 32 (i 1).val
  let c16_i32 : BitVec 32 := 16#32
  let v23 : BitVec 32 := Scalar.subi c16_i32 arg1
  let c1_i32 : BitVec 32 := 1#32
  let v24 : BitVec 1 := Scalar.cmpi .eq v23 c1_i32
  let c1_i32_17 : BitVec 32 := 1#32
  let c2_i32_16 : BitVec 32 := 2#32
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v23 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let v35 : BitVec 32 := Scalar.addi c2_i32_16 v34
  let v36 : BitVec 32 := Scalar.select v24 c1_i32_17 v35
  let v65 : BitVec 32 := Scalar.addi arg1 v36
  let c2_i32_34 : BitVec 32 := 2#32
  let c0_i32_30 : BitVec 32 := 0#32
  let v42 : BitVec 32 := Scalar.subi v23 v36
  let c0_i32_24 : BitVec 32 := 0#32
  let v44 : BitVec 1 := Scalar.cmpi .sgt v42 c0_i32_24
  let v45 : BitVec 32 := Scalar.extui v44
  let c0_i32_25 : BitVec 32 := 0#32
  let v46 : BitVec 1 := Scalar.cmpi .slt v42 c0_i32_25
  let v47 : BitVec 32 := Scalar.extui v46
  let v48 : BitVec 32 := Scalar.subi v45 v47
  let c2_i32_23 : BitVec 32 := 2#32
  let c0_i32_26 : BitVec 32 := 0#32
  let v49 : BitVec 1 := Scalar.cmpi .sgt c2_i32_23 c0_i32_26
  let v50 : BitVec 32 := Scalar.extui v49
  let c0_i32_27 : BitVec 32 := 0#32
  let v51 : BitVec 1 := Scalar.cmpi .slt c2_i32_23 c0_i32_27
  let v52 : BitVec 32 := Scalar.extui v51
  let v53 : BitVec 32 := Scalar.subi v50 v52
  let v54 : BitVec 1 := Scalar.cmpi .ne v48 v53
  let v55 : BitVec 32 := Scalar.remsi v42 c2_i32_23
  let c0_i32_28 : BitVec 32 := 0#32
  let v56 : BitVec 1 := Scalar.cmpi .ne v55 c0_i32_28
  let v57 : BitVec 1 := Scalar.andi v54 v56
  let v43 : BitVec 32 := Scalar.divsi v42 c2_i32_23
  let c1_i32_29 : BitVec 32 := 1#32
  let v58 : BitVec 32 := Scalar.subi v43 c1_i32_29
  let v59 : BitVec 32 := Scalar.select v57 v58 v43
  let v60 : BitVec 32 := Scalar.subi v59 c0_i32_30
  let c1_i32_31 : BitVec 32 := 1#32
  let v62 : BitVec 32 := Scalar.divsi v60 c1_i32_31
  let v63 : BitVec 32 := Scalar.muli v62 c1_i32_31
  let v64 : BitVec 32 := Scalar.addi c0_i32_30 v63
  let c1_i32_33 : BitVec 32 := 1#32
  let arg10 : BitVec 32 := Scf.iv v64 c1_i32_33 k0_t2
  let v66 : BitVec 32 := Scalar.muli c2_i32_34 arg10
  let v67 : BitVec 32 := Scalar.addi v65 v66
  let c1_i32_48 : BitVec 32 := 1#32
  let v97 : BitVec 32 := Scalar.addi v67 c1_i32_48
  let c256_i32_69 : BitVec 32 := 256#32
  let v169 : BitVec 32 := Scalar.muli v97 c256_i32_69
  v169
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlaBwdIdeal.lean ====
variable {F : FTy → Type} [FloatOps F] [Named F]
def κ : String → Option EReal := fun
  | "mask" => some ⊥
  | _ => none
-- ==== MlaBwdRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S8x4096x4096 : Shape := ⟨3, ![8, 4096, 4096]⟩
abbrev S4096x4096x8 : Shape := ⟨3, ![4096, 4096, 8]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x64 : Shape := ⟨3, ![8, 4096, 64]⟩

abbrev nBuf : Space → Nat
  | .hbm => 115
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .i1⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S8x4096, .i1⟩
  | .hbm, ⟨58, _⟩ => ⟨S_, .f32⟩
  | .hbm, ⟨59, _⟩ => ⟨S8x4096, .f32⟩
  | .hbm, ⟨60, _⟩ => ⟨S8x4096, .i1⟩
  | .hbm, ⟨61, _⟩ => ⟨S_, .f32⟩
  | .hbm, ⟨62, _⟩ => ⟨S8x4096, .f32⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S8x4096, .f32⟩
  | .hbm, ⟨67, _⟩ => ⟨S8x4096, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x4096, .f32⟩
  | .hbm, ⟨77, _⟩ => ⟨S8x4096x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S8x64x4096, .f32⟩
  | .hbm, ⟨83, _⟩ => ⟨S4096x8x64, .f32⟩
  | .hbm, ⟨84, _⟩ => ⟨S8x64x4096, .f32⟩
  | .hbm, ⟨85, _⟩ => ⟨S8x4096x4096, .f32⟩
  | .hbm, ⟨86, _⟩ => ⟨S8x64x4096, .f32⟩
  | .hbm, ⟨87, _⟩ => ⟨S4096x8x64, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S8x4096x1, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096x4096, .f32⟩
  | .hbm, ⟨104, _⟩ => ⟨S8x4096x4096, .f32⟩
  | .hbm, ⟨105, _⟩ => ⟨S_, .f32⟩
  | .hbm, ⟨106, _⟩ => ⟨S8x4096x4096, .f32⟩
  | .hbm, ⟨107, _⟩ => ⟨S8x4096x4096, .f32⟩
  | .hbm, ⟨108, _⟩ => ⟨S4096x4096x8, .f32⟩
  | .hbm, ⟨109, _⟩ => ⟨S4096x8x32, .f32⟩
  | .hbm, ⟨110, _⟩ => ⟨S4096x32, .f32⟩
  | .hbm, ⟨111, _⟩ => ⟨S8x4096x64, .f32⟩
  | .hbm, ⟨112, _⟩ => ⟨S4096x8x64, .f32⟩
  | .hbm, ⟨113, _⟩ => ⟨S8x4096x64, .f32⟩
  | .hbm, ⟨114, _⟩ => ⟨S4096x8x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_v13_1 : Ref sig .tc := ⟨.hbm, 39, rfl⟩
abbrev main_call1_v2 : Ref sig .tc := ⟨.hbm, 40, rfl⟩
abbrev main_v13_0 : Ref sig .tc := ⟨.hbm, 41, rfl⟩
abbrev main_call1_cst : Ref sig .tc := ⟨.hbm, 42, rfl⟩
abbrev main_v13_2 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call2_cst : Ref sig .tc := ⟨.hbm, 102, rfl⟩
abbrev main_call2_v0 : Ref sig .tc := ⟨.hbm, 103, rfl⟩
abbrev main_v60 : Ref sig .tc := ⟨.hbm, 104, rfl⟩
abbrev main_cst_13 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]
-- ==== FinalLoss.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S_, .i32⟩
  | .hbm, ⟨73, _⟩ => ⟨S_, .f32⟩
  | .hbm, ⟨74, _⟩ => ⟨S8x1024, .f32⟩
  | .hbm, ⟨75, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== AdaBwd.lean ====
abbrev S8x1024 : Shape := ⟨2, ![8, 1024]⟩
abbrev S4x8x768 : Shape := ⟨3, ![4, 8, 768]⟩
abbrev S_ : Shape := ⟨0, ![]⟩
abbrev S16x1024 : Shape := ⟨2, ![16, 1024]⟩
abbrev S4x16x768 : Shape := ⟨3, ![4, 16, 768]⟩
abbrev S4x1024x768 : Shape := ⟨3, ![4, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 9
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S_, .i32⟩
  | .hbm, ⟨3, _⟩ => ⟨S_, .f32⟩
  | .hbm, ⟨4, _⟩ => ⟨S16x1024, .f32⟩
  | .hbm, ⟨5, _⟩ => ⟨S_, .i32⟩
  | .hbm, ⟨6, _⟩ => ⟨S_, .f32⟩
  | .hbm, ⟨7, _⟩ => ⟨S4x16x768, .f32⟩
  | .hbm, ⟨8, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S4x768x8 : Shape := ⟨3, ![4, 768, 8]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4x768x8, .f32⟩
  | .hbm, ⟨14, _⟩ => ⟨S4x8x768, .f32⟩
  | .hbm, ⟨15, _⟩ => ⟨S4x768x8, .f32⟩
  | .hbm, ⟨16, _⟩ => ⟨S4x768x1024, .f32⟩
  | .hbm, ⟨17, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== BwdIn.lean ====
abbrev S4096x2984 : Shape := ⟨2, ![4096, 2984]⟩
abbrev S1024x2984 : Shape := ⟨2, ![1024, 2984]⟩
abbrev S4096x1024 : Shape := ⟨2, ![4096, 1024]⟩
abbrev S1024 : Shape := ⟨1, ![1024]⟩
abbrev S4096x512 : Shape := ⟨2, ![4096, 512]⟩
abbrev S4096x8 : Shape := ⟨2, ![4096, 8]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096x56 : Shape := ⟨2, ![4096, 56]⟩
abbrev S4096x3072 : Shape := ⟨2, ![4096, 3072]⟩
abbrev S1024x512 : Shape := ⟨2, ![1024, 512]⟩
abbrev S1024x8 : Shape := ⟨2, ![1024, 8]⟩
abbrev S1024x256 : Shape := ⟨2, ![1024, 256]⟩
abbrev S1024x128 : Shape := ⟨2, ![1024, 128]⟩
abbrev S1024x32 : Shape := ⟨2, ![1024, 32]⟩
abbrev S1024x56 : Shape := ⟨2, ![1024, 56]⟩
abbrev S1024x3072 : Shape := ⟨2, ![1024, 3072]⟩
abbrev S1x1024x3072 : Shape := ⟨3, ![1, 1024, 3072]⟩
abbrev S1x1024 : Shape := ⟨2, ![1, 1024]⟩
abbrev S8x1024 : Shape := ⟨2, ![8, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 43
  | .vmem => 12
  | .smem => 0
  | _ => 0

abbrev bufTy : (tb : Table) → Fin (tcTables nBuf tb) → BufTy
  | .hbm, ⟨0, _⟩ => ⟨S4096x2984, .f32⟩
  | .hbm, ⟨1, _⟩ => ⟨S1024x2984, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x8, .f32⟩
  | .hbm, ⟨10, _⟩ => ⟨S4096x512, .f32⟩
  | .hbm, ⟨11, _⟩ => ⟨S4096x256, .f32⟩
  | .hbm, ⟨12, _⟩ => ⟨S4096x128, .f32⟩
  | .hbm, ⟨13, _⟩ => ⟨S4096x32, .f32⟩
  | .hbm, ⟨14, _⟩ => ⟨S4096x512, .f32⟩
  | .hbm, ⟨15, _⟩ => ⟨S_, .f32⟩
  | .hbm, ⟨16, _⟩ => ⟨S4096x56, .f32⟩
  | .hbm, ⟨17, _⟩ => ⟨S_, .f32⟩
  | .hbm, ⟨18, _⟩ => ⟨S4096x32, .f32⟩
  | .hbm, ⟨19, _⟩ => ⟨S4096x128, .f32⟩
  | .hbm, ⟨20, _⟩ => ⟨S4096x3072, .f32⟩
  | .hbm, ⟨21, _⟩ => ⟨S4096x3072, .bf16⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x8, .f32⟩
  | .hbm, ⟨26, _⟩ => ⟨S1024x512, .f32⟩
  | .hbm, ⟨27, _⟩ => ⟨S1024x256, .f32⟩
  | .hbm, ⟨28, _⟩ => ⟨S1024x128, .f32⟩
  | .hbm, ⟨29, _⟩ => ⟨S1024x32, .f32⟩
  | .hbm, ⟨30, _⟩ => ⟨S1024x512, .f32⟩
  | .hbm, ⟨31, _⟩ => ⟨S_, .f32⟩
  | .hbm, ⟨32, _⟩ => ⟨S1024x56, .f32⟩
  | .hbm, ⟨33, _⟩ => ⟨S_, .f32⟩
  | .hbm, ⟨34, _⟩ => ⟨S1024x32, .f32⟩
  | .hbm, ⟨35, _⟩ => ⟨S1024x128, .f32⟩
  | .hbm, ⟨36, _⟩ => ⟨S1024x3072, .f32⟩
  | .hbm, ⟨37, _⟩ => ⟨S1024x3072, .bf16⟩
  | .hbm, ⟨38, _⟩ => ⟨S1x1024x3072, .bf16⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BwdInRefIdeal.lean ====
abbrev S4096x2984 : Shape := ⟨2, ![4096, 2984]⟩
abbrev S1024x2984 : Shape := ⟨2, ![1024, 2984]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x1024 : Shape := ⟨2, ![3, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x2984, .f32⟩
  | .hbm, ⟨1, _⟩ => ⟨S1024x2984, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x2984, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S3x1024, .f32⟩
  | .hbm, ⟨82, _⟩ => ⟨S_, .i32⟩
  | .hbm, ⟨83, _⟩ => ⟨S_, .f32⟩
  | .hbm, ⟨84, _⟩ => ⟨S8x1024, .f32⟩
  | _, _ => ⟨S4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_call0_v0 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== BwdOut.lean ====
abbrev S4096x1024 : Shape := ⟨2, ![4096, 1024]⟩
abbrev S1024 : Shape := ⟨1, ![1024]⟩
abbrev S1024x1024 : Shape := ⟨2, ![1024, 1024]⟩
abbrev S4096x512 : Shape := ⟨2, ![4096, 512]⟩
abbrev S4096x2984 : Shape := ⟨2, ![4096, 2984]⟩
abbrev S4096x8 : Shape := ⟨2, ![4096, 8]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096x56 : Shape := ⟨2, ![4096, 56]⟩
abbrev S4096x1408 : Shape := ⟨2, ![4096, 1408]⟩
abbrev S4096x1536 : Shape := ⟨2, ![4096, 1536]⟩
abbrev S1x1024x1024 : Shape := ⟨3, ![1, 1024, 1024]⟩
abbrev S1x1024 : Shape := ⟨2, ![1, 1024]⟩
abbrev S512x512 : Shape := ⟨2, ![512, 512]⟩
abbrev S512x1024 : Shape := ⟨2, ![512, 1024]⟩
abbrev S8x1024 : Shape := ⟨2, ![8, 1024]⟩
abbrev S512x128 : Shape := ⟨2, ![512, 128]⟩
abbrev S512 : Shape := ⟨1, ![512]⟩
abbrev S512x1 : Shape := ⟨2, ![512, 1]⟩
abbrev S4096x4x128 : Shape := ⟨3, ![4096, 4, 128]⟩
abbrev S4096x4x2 : Shape := ⟨3, ![4096, 4, 2]⟩

abbrev nBuf : Space → Nat
  | .hbm => 44
  | .vmem => 52
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x512, .f32⟩
  | .hbm, ⟨4, _⟩ => ⟨S4096x512, .f32⟩
  | .hbm, ⟨5, _⟩ => ⟨S4096x2984, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x256, .f32⟩
  | .hbm, ⟨13, _⟩ => ⟨S4096x128, .f32⟩
  | .hbm, ⟨14, _⟩ => ⟨S4096x32, .f32⟩
  | .hbm, ⟨15, _⟩ => ⟨S4096x512, .f32⟩
  | .hbm, ⟨16, _⟩ => ⟨S_, .f32⟩
  | .hbm, ⟨17, _⟩ => ⟨S4096x56, .f32⟩
  | .hbm, ⟨18, _⟩ => ⟨S_, .f32⟩
  | .hbm, ⟨19, _⟩ => ⟨S4096x32, .f32⟩
  | .hbm, ⟨20, _⟩ => ⟨S4096x128, .f32⟩
  | .hbm, ⟨21, _⟩ => ⟨S4096x1408, .f32⟩
  | .hbm, ⟨22, _⟩ => ⟨S4096x1536, .f32⟩
  | .hbm, ⟨23, _⟩ => ⟨S1024x1024, .bf16⟩
  | .hbm, ⟨24, _⟩ => ⟨S1x1024x1024, .bf16⟩
  | .hbm, ⟨25, _⟩ => ⟨S1x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S_, .f32⟩
  | .hbm, ⟨30, _⟩ => ⟨S4096x512, .f32⟩
  | .hbm, ⟨31, _⟩ => ⟨S1x1024, .f32⟩
  | .hbm, ⟨32, _⟩ => ⟨S4096x512, .bf16⟩
  | .hbm, ⟨33, _⟩ => ⟨S4096x512, .bf16⟩
  | .hbm, ⟨34, _⟩ => ⟨S4096x512, .bf16⟩
  | .hbm, ⟨35, _⟩ => ⟨S4096x512, .bf16⟩
  | .hbm, ⟨36, _⟩ => ⟨S1024x1024, .f32⟩
  | .hbm, ⟨37, _⟩ => ⟨S8x1024, .f32⟩
  | .hbm, ⟨38, _⟩ => ⟨S4096x512, .f32⟩
  | .hbm, ⟨39, _⟩ => ⟨S4096x512, .f32⟩
  | .hbm, ⟨40, _⟩ => ⟨S4096x4x128, .f32⟩
  | .hbm, ⟨41, _⟩ => ⟨S4096x4x2, .f32⟩
  | .hbm, ⟨42, _⟩ => ⟨S4096x4x128, .f32⟩
  | .hbm, ⟨43, _⟩ => ⟨S4096x4x2, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024x1024, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x1024, .bf16⟩
  | .local _ .vmem, ⟨37, _⟩ => ⟨S512x1024, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S512x512, .bf16⟩
  | .local _ .vmem, ⟨44, _⟩ => ⟨S512x512, .bf16⟩
  | .local _ .vmem, ⟨45, _⟩ => ⟨S512x512, .bf16⟩
  | .local _ .vmem, ⟨46, _⟩ => ⟨S1024x1024, .f32⟩
  | .local _ .vmem, ⟨47, _⟩ => ⟨S8x1024, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc1_stg15_0 : Ref sig .tc := ⟨.vmem, 46, rfl⟩
abbrev cc1_stg16_0 : Ref sig .tc := ⟨.vmem, 47, rfl⟩
abbrev cc1_stg17_0 : Ref sig .tc := ⟨.vmem, 48, rfl⟩
abbrev cc1_stg17_1 : Ref sig .tc := ⟨.vmem, 49, rfl⟩
abbrev cc1_stg18_0 : Ref sig .tc := ⟨.vmem, 50, rfl⟩
abbrev cc1_stg18_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45
abbrev cc1_sem15_0 : DmaSem sig := 46
abbrev cc1_sem16_0 : DmaSem sig := 47
abbrev cc1_sem17_0 : DmaSem sig := 48
abbrev cc1_sem17_1 : DmaSem sig := 49
abbrev cc1_sem18_0 : DmaSem sig := 50
abbrev cc1_sem18_1 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1024x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S8x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S512x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x512 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== BwdOutRefIdeal.lean ====
abbrev S4096x1024 : Shape := ⟨2, ![4096, 1024]⟩
abbrev S1024 : Shape := ⟨1, ![1024]⟩
abbrev S1024x1024 : Shape := ⟨2, ![1024, 1024]⟩
abbrev S4096x512 : Shape := ⟨2, ![4096, 512]⟩
abbrev S4096x2984 : Shape := ⟨2, ![4096, 2984]⟩
abbrev S_ : Shape := ⟨0, ![]⟩
abbrev S1x1024 : Shape := ⟨2, ![1, 1024]⟩
abbrev S8x1024 : Shape := ⟨2, ![8, 1024]⟩
abbrev S4096x4x2x64 : Shape := ⟨4, ![4096, 4, 2, 64]⟩
abbrev S4096x4x2 : Shape := ⟨3, ![4096, 4, 2]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x512, .f32⟩
  | .hbm, ⟨4, _⟩ => ⟨S4096x512, .f32⟩
  | .hbm, ⟨5, _⟩ => ⟨S4096x2984, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1024x1024, .f32⟩
  | .hbm, ⟨50, _⟩ => ⟨S1024x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .bf16⟩
  | .hbm, ⟨69, _⟩ => ⟨S4096x512, .bf16⟩
  | .hbm, ⟨70, _⟩ => ⟨S4096x512, .bf16⟩
  | .hbm, ⟨71, _⟩ => ⟨S4096x512, .bf16⟩
  | .hbm, ⟨72, _⟩ => ⟨S1x1024, .f32⟩
  | .hbm, ⟨73, _⟩ => ⟨S_, .i32⟩
  | .hbm, ⟨74, _⟩ => ⟨S_, .f32⟩
  | .hbm, ⟨75, _⟩ => ⟨S8x1024, .f32⟩
  | .hbm, ⟨76, _⟩ => ⟨S4096x512, .f32⟩
  | .hbm, ⟨77, _⟩ => ⟨S4096x4x2x64, .f32⟩
  | .hbm, ⟨78, _⟩ => ⟨S_, .f32⟩
  | .hbm, ⟨79, _⟩ => ⟨S4096x4x2, .f32⟩
  | .hbm, ⟨80, _⟩ => ⟨S4096x512, .f32⟩
  | .hbm, ⟨81, _⟩ => ⟨S4096x4x2x64, .f32⟩
  | .hbm, ⟨82, _⟩ => ⟨S_, .f32⟩
  | .hbm, ⟨83, _⟩ => ⟨S4096x4x2, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v2_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v2_1 : Ref sig .tc := ⟨.hbm, 20, rfl⟩
abbrev main_v2_0 : Ref sig .tc := ⟨.hbm, 21, rfl⟩
abbrev main_v3 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_v4_2 : Ref sig .tc := ⟨.hbm, 30, rfl⟩
abbrev main_call1_cst_1 : Ref sig .tc := ⟨.hbm, 31, rfl⟩
abbrev main_call1_v6 : Ref sig .tc := ⟨.hbm, 32, rfl⟩
abbrev main_call1_v7 : Ref sig .tc := ⟨.hbm, 33, rfl⟩
abbrev main_v4_1 : Ref sig .tc := ⟨.hbm, 34, rfl⟩
abbrev main_v4_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c : Ref sig .tc := ⟨.hbm, 73, rfl⟩
abbrev main_call4_v0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_1 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_2 : Ref sig .tc := ⟨.hbm, 82, rfl⟩
abbrev main_v40 : Ref sig .tc := ⟨.hbm, 83, rfl⟩

abbrev nD : Nat := 1
abbrev τ : Topo := Topo.v7x

variable {F : FTy → Type} [FloatOps F]
-- ==== MlaPost.lean ====
abbrev S4096x8x96 : Shape := ⟨3, ![4096, 8, 96]⟩
abbrev S4096x8x64 : Shape := ⟨3, ![4096, 8, 64]⟩
abbrev S4096x8 : Shape := ⟨2, ![4096, 8]⟩
abbrev S4096x2984 : Shape := ⟨2, ![4096, 2984]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4096x16 : Shape := ⟨2, ![4096, 16]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S128x8x128 : Shape := ⟨3, ![128, 8, 128]⟩
abbrev S256x8x96 : Shape := ⟨3, ![256, 8, 96]⟩
abbrev S256x8x128 : Shape := ⟨3, ![256, 8, 128]⟩
abbrev S256x1024 : Shape := ⟨2, ![256, 1024]⟩
abbrev S128x8x64 : Shape := ⟨3, ![128, 8, 64]⟩
abbrev S128x512 : Shape := ⟨2, ![128, 512]⟩
abbrev S4096x8x128 : Shape := ⟨3, ![4096, 8, 128]⟩
abbrev S4096x1024 : Shape := ⟨2, ![4096, 1024]⟩
abbrev S4096x512 : Shape := ⟨2, ![4096, 512]⟩
abbrev S4096x256 : Shape := ⟨2, ![4096, 256]⟩
abbrev S4096x56 : Shape := ⟨2, ![4096, 56]⟩
abbrev S4096x1408 : Shape := ⟨2, ![4096, 1408]⟩
abbrev S4096x1536 : Shape := ⟨2, ![4096, 1536]⟩
abbrev S1x256 : Shape := ⟨2, ![1, 256]⟩
abbrev S1x128 : Shape := ⟨2, ![1, 128]⟩
abbrev S1x256x1024 : Shape := ⟨3, ![1, 256, 1024]⟩
abbrev S1x128x1024 : Shape := ⟨3, ![1, 128, 1024]⟩
abbrev S1x128x512 : Shape := ⟨3, ![1, 128, 512]⟩
abbrev S8x256 : Shape := ⟨2, ![8, 256]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 86
  | .vmem => 32
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8, .f32⟩
  | .hbm, ⟨4, _⟩ => ⟨S4096x2984, .f32⟩
  | .hbm, ⟨5, _⟩ => ⟨S256, .f32⟩
  | .hbm, ⟨6, _⟩ => ⟨S128, .f32⟩
  | .hbm, ⟨7, _⟩ => ⟨S256x768, .f32⟩
  | .hbm, ⟨8, _⟩ => ⟨S128x1024, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x64, .f32⟩
  | .hbm, ⟨13, _⟩ => ⟨S_, .f32⟩
  | .hbm, ⟨14, _⟩ => ⟨S4096x32, .f32⟩
  | .hbm, ⟨15, _⟩ => ⟨S4096x128, .f32⟩
  | .hbm, ⟨16, _⟩ => ⟨S_, .f32⟩
  | .hbm, ⟨17, _⟩ => ⟨S4096x64, .f32⟩
  | .hbm, ⟨18, _⟩ => ⟨S4096x16, .f32⟩
  | .hbm, ⟨19, _⟩ => ⟨S_, .f32⟩
  | .hbm, ⟨20, _⟩ => ⟨S4096x32, .f32⟩
  | .hbm, ⟨21, _⟩ => ⟨S4096x128, .f32⟩
  | .hbm, ⟨22, _⟩ => ⟨S128x8x128, .f32⟩
  | .hbm, ⟨23, _⟩ => ⟨S256x8x96, .f32⟩
  | .hbm, ⟨24, _⟩ => ⟨S_, .i32⟩
  | .hbm, ⟨25, _⟩ => ⟨S_, .f32⟩
  | .hbm, ⟨26, _⟩ => ⟨S256x8x128, .f32⟩
  | .hbm, ⟨27, _⟩ => ⟨S256x1024, .f32⟩
  | .hbm, ⟨28, _⟩ => ⟨S256x1024, .bf16⟩
  | .hbm, ⟨29, _⟩ => ⟨S128x8x64, .f32⟩
  | .hbm, ⟨30, _⟩ => ⟨S_, .i32⟩
  | .hbm, ⟨31, _⟩ => ⟨S_, .f32⟩
  | .hbm, ⟨32, _⟩ => ⟨S128x8x128, .f32⟩
  | .hbm, ⟨33, _⟩ => ⟨S128x1024, .f32⟩
  | .hbm, ⟨34, _⟩ => ⟨S128x1024, .bf16⟩
  | .hbm, ⟨35, _⟩ => ⟨S128x8x64, .f32⟩
  | .hbm, ⟨36, _⟩ => ⟨S128x512, .f32⟩
  | .hbm, ⟨37, _⟩ => ⟨S128x512, .bf16⟩
  | .hbm, ⟨38, _⟩ => ⟨S_, .i32⟩
  | .hbm, ⟨39, _⟩ => ⟨S_, .f32⟩
  | .hbm, ⟨40, _⟩ => ⟨S4096x8x128, .f32⟩
  | .hbm, ⟨41, _⟩ => ⟨S4096x1024, .f32⟩
  | .hbm, ⟨42, _⟩ => ⟨S_, .i32⟩
  | .hbm, ⟨43, _⟩ => ⟨S_, .f32⟩
  | .hbm, ⟨44, _⟩ => ⟨S4096x8x128, .f32⟩
  | .hbm, ⟨45, _⟩ => ⟨S4096x1024, .f32⟩
  | .hbm, ⟨46, _⟩ => ⟨S4096x512, .f32⟩
  | .hbm, ⟨47, _⟩ => ⟨S_, .i32⟩
  | .hbm, ⟨48, _⟩ => ⟨S_, .f32⟩
  | .hbm, ⟨49, _⟩ => ⟨S4096x128, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x8, .f32⟩
  | .hbm, ⟨54, _⟩ => ⟨S4096x512, .f32⟩
  | .hbm, ⟨55, _⟩ => ⟨S4096x256, .f32⟩
  | .hbm, ⟨56, _⟩ => ⟨S4096x128, .f32⟩
  | .hbm, ⟨57, _⟩ => ⟨S4096x32, .f32⟩
  | .hbm, ⟨58, _⟩ => ⟨S4096x512, .f32⟩
  | .hbm, ⟨59, _⟩ => ⟨S_, .f32⟩
  | .hbm, ⟨60, _⟩ => ⟨S4096x56, .f32⟩
  | .hbm, ⟨61, _⟩ => ⟨S_, .f32⟩
  | .hbm, ⟨62, _⟩ => ⟨S4096x32, .f32⟩
  | .hbm, ⟨63, _⟩ => ⟨S4096x128, .f32⟩
  | .hbm, ⟨64, _⟩ => ⟨S4096x1408, .f32⟩
  | .hbm, ⟨65, _⟩ => ⟨S4096x1536, .f32⟩
  | .hbm, ⟨66, _⟩ => ⟨S1x256, .f32⟩
  | .hbm, ⟨67, _⟩ => ⟨S1x128, .f32⟩
  | .hbm, ⟨68, _⟩ => ⟨S1x256x1024, .bf16⟩
  | .hbm, ⟨69, _⟩ => ⟨S1x128x1024, .bf16⟩
  | .hbm, ⟨70, _⟩ => ⟨S1x128x512, .bf16⟩
  | .hbm, ⟨71, _⟩ => ⟨S4096x256, .bf16⟩
  | .hbm, ⟨72, _⟩ => ⟨S4096x128, .bf16⟩
  | .hbm, ⟨73, _⟩ => ⟨S4096x128, .bf16⟩
  | .hbm, ⟨74, _⟩ => ⟨S256x1024, .f32⟩
  | .hbm, ⟨75, _⟩ => ⟨S128x1024, .f32⟩
  | .hbm, ⟨76, _⟩ => ⟨S128x512, .f32⟩
  | .hbm, ⟨77, _⟩ => ⟨S8x256, .f32⟩
  | .hbm, ⟨78, _⟩ => ⟨S8x128, .f32⟩
  | .hbm, ⟨79, _⟩ => ⟨S256x8x128, .f32⟩
  | .hbm, ⟨80, _⟩ => ⟨S256x8x96, .f32⟩
  | .hbm, ⟨81, _⟩ => ⟨S128x8x128, .f32⟩
  | .hbm, ⟨82, _⟩ => ⟨S128x8x64, .f32⟩
  | .hbm, ⟨83, _⟩ => ⟨S128x8x64, .f32⟩
  | .hbm, ⟨84, _⟩ => ⟨S4096x32, .bf16⟩
  | .hbm, ⟨85, _⟩ => ⟨S4096x8, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x128, .f32⟩
  | .local _ .vmem, ⟨14, _⟩ => ⟨S1x256x1024, .bf16⟩
  | .local _ .vmem, ⟨15, _⟩ => ⟨S1x128x1024, .bf16⟩
  | .local _ .vmem, ⟨16, _⟩ => ⟨S1x128x512, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S256x1024, .f32⟩
  | .local _ .vmem, ⟨28, _⟩ => ⟨S128x1024, .f32⟩
  | .local _ .vmem, ⟨29, _⟩ => ⟨S128x512, .f32⟩
  | .local _ .vmem, ⟨30, _⟩ => ⟨S8x256, .f32⟩
  | .local _ .vmem, ⟨31, _⟩ => ⟨S8x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_call3_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_call4_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44_0 : Ref sig .tc := ⟨.hbm, 71, rfl⟩
abbrev main_v44_1 : Ref sig .tc := ⟨.hbm, 72, rfl⟩
abbrev main_v44_2 : Ref sig .tc := ⟨.hbm, 73, rfl⟩
abbrev main_v44_3 : Ref sig .tc := ⟨.hbm, 74, rfl⟩
abbrev main_v44_4 : Ref sig .tc := ⟨.hbm, 75, rfl⟩
abbrev main_v44_5 : Ref sig .tc := ⟨.hbm, 76, rfl⟩
abbrev main_v44_6 : Ref sig .tc := ⟨.hbm, 77, rfl⟩
abbrev main_v44_7 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlaPostRefIdeal.lean ====
abbrev S4096x8x96 : Shape := ⟨3, ![4096, 8, 96]⟩
abbrev S4096x8x64 : Shape := ⟨3, ![4096, 8, 64]⟩
abbrev S4096x8 : Shape := ⟨2, ![4096, 8]⟩
abbrev S4096x2984 : Shape := ⟨2, ![4096, 2984]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4096x16 : Shape := ⟨2, ![4096, 16]⟩
abbrev S4096x256 : Shape := ⟨2, ![4096, 256]⟩
abbrev S4096x128 : Shape := ⟨2, ![4096, 128]⟩
abbrev S4096x32 : Shape := ⟨2, ![4096, 32]⟩
abbrev S256x8x96 : Shape := ⟨3, ![256, 8, 96]⟩
abbrev S128x8x128 : Shape := ⟨3, ![128, 8, 128]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x8x32 : Shape := ⟨3, ![4096, 8, 32]⟩
abbrev S4096x1x16 : Shape := ⟨3, ![4096, 1, 16]⟩
abbrev S4096x8x16 : Shape := ⟨3, ![4096, 8, 16]⟩
abbrev S1x128 : Shape := ⟨2, ![1, 128]⟩
abbrev S4096x8x128 : Shape := ⟨3, ![4096, 8, 128]⟩
abbrev S4096x1x32 : Shape := ⟨3, ![4096, 1, 32]⟩
abbrev S8x128x128 : Shape := ⟨3, ![8, 128, 128]⟩
abbrev S8x96x256 : Shape := ⟨3, ![8, 96, 256]⟩
abbrev S128x8x64 : Shape := ⟨3, ![128, 8, 64]⟩
abbrev S8x256 : Shape := ⟨2, ![8, 256]⟩
abbrev S8x128 : Shape := ⟨2, ![8, 128]⟩

abbrev nBuf : Space → Nat
  | .hbm => 209
  | .vmem => 0
  | .smem => 0
  | _ => 0

abbrev hbmTy0_0 (i : Nat) : BufTy := match i % 128 with
  | 0 => ⟨S4096x8x96, .f32⟩
  | 1 => ⟨S4096x8x96, .f32⟩
  | 2 => ⟨S4096x8x64, .f32⟩
  | 3 => ⟨S4096x8, .f32⟩
  | 4 => ⟨S4096x2984, .f32⟩
  | 5 => ⟨S256, .f32⟩
  | 6 => ⟨S128, .f32⟩
  | 7 => ⟨S256x768, .f32⟩
  | 8 => ⟨S128x1024, .f32⟩
  | 9 => ⟨S4096x16, .f32⟩
  | 10 => ⟨S4096x16, .f32⟩
  | 11 => ⟨S4096x256, .f32⟩
  | 12 => ⟨S4096x128, .f32⟩
  | 13 => ⟨S4096x32, .f32⟩
  | 14 => ⟨S256x8x96, .f32⟩
  | 15 => ⟨S128x8x128, .f32⟩
  | 16 => ⟨S4096x256, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x256, .f32⟩
  | 32 => ⟨S4096x256, .f32⟩
  | 33 => ⟨S1x256, .f32⟩
  | 34 => ⟨S4096x256, .f32⟩
  | 35 => ⟨S4096x256, .f32⟩
  | 36 => ⟨S4096x8x96, .f32⟩
  | 37 => ⟨S4096x8x64, .f32⟩
  | 38 => ⟨S4096x8x32, .f32⟩
  | 39 => ⟨S4096x1x16, .f32⟩
  | 40 => ⟨S4096x1x16, .f32⟩
  | 41 => ⟨S4096x8x16, .f32⟩
  | 42 => ⟨S4096x8x16, .f32⟩
  | 43 => ⟨S4096x8x16, .f32⟩
  | 44 => ⟨S4096x8x16, .f32⟩
  | 45 => ⟨S4096x8x16, .f32⟩
  | 46 => ⟨S4096x8x16, .f32⟩
  | 47 => ⟨S4096x8x16, .f32⟩
  | 48 => ⟨S4096x8x16, .f32⟩
  | 49 => ⟨S4096x8x16, .f32⟩
  | 50 => ⟨S4096x8x16, .f32⟩
  | 51 => ⟨S4096x8x16, .f32⟩
  | 52 => ⟨S4096x8x16, .f32⟩
  | 53 => ⟨S4096x8x32, .f32⟩
  | 54 => ⟨S4096x8x96, .f32⟩
  | 55 => ⟨S4096x128, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S1x128, .f32⟩
  | 73 => ⟨S4096x128, .f32⟩
  | 74 => ⟨S4096x128, .f32⟩
  | 75 => ⟨S4096x8x128, .f32⟩
  | 76 => ⟨S4096x16, .f32⟩
  | 77 => ⟨S4096x16, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x16, .f32⟩
  | 84 => ⟨S4096x32, .f32⟩
  | 85 => ⟨S4096x1x32, .f32⟩
  | 86 => ⟨S4096x8x32, .f32⟩
  | 87 => ⟨S_, .f32⟩
  | 88 => ⟨S4096x8x96, .f32⟩
  | 89 => ⟨S4096x8x96, .f32⟩
  | 90 => ⟨S4096x8x64, .f32⟩
  | 91 => ⟨S4096x8x96, .f32⟩
  | 92 => ⟨S4096x8x64, .f32⟩
  | 93 => ⟨S_, .f32⟩
  | 94 => ⟨S4096x8x128, .f32⟩
  | 95 => ⟨S4096x8x64, .f32⟩
  | 96 => ⟨S4096x8x32, .f32⟩
  | 97 => ⟨S_, .f32⟩
  | 98 => ⟨S4096x8x128, .f32⟩
  | 99 => ⟨S4096x8x128, .f32⟩
  | 100 => ⟨S_, .f32⟩
  | 101 => ⟨S4096x8x96, .f32⟩
  | 102 => ⟨S4096x8x96, .f32⟩
  | 103 => ⟨S_, .f32⟩
  | 104 => ⟨S4096x32, .f32⟩
  | 105 => ⟨S4096x1x32, .f32⟩
  | 106 => ⟨S_, .f32⟩
  | 107 => ⟨S4096x32, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x16, .f32⟩
  | 114 => ⟨S4096x16, .f32⟩
  | 115 => ⟨S4096x16, .f32⟩
  | 116 => ⟨S4096x16, .f32⟩
  | 117 => ⟨S4096x32, .f32⟩
  | 118 => ⟨S8x128x128, .f32⟩
  | 119 => ⟨S128x8x128, .f32⟩
  | 120 => ⟨S4096x128, .f32⟩
  | 121 => ⟨S4096x128, .f32⟩
  | 122 => ⟨S_, .f32⟩
  | 123 => ⟨S128, .f32⟩
  | 124 => ⟨S1x128, .f32⟩
  | 125 => ⟨S4096x128, .f32⟩
  | 126 => ⟨S4096x128, .f32⟩
  | 127 => ⟨S_, .f32⟩
  | _ => ⟨S4096x8x96, .f32⟩

abbrev hbmTy0_1 (i : Nat) : BufTy := match i % 128 with
  | 0 => ⟨S128, .f32⟩
  | 1 => ⟨S4096x128, .f32⟩
  | 2 => ⟨S_, .f32⟩
  | 3 => ⟨S4096, .f32⟩
  | 4 => ⟨S4096x1, .f32⟩
  | 5 => ⟨S4096x128, .f32⟩
  | 6 => ⟨S4096x128, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x128, .f32⟩
  | 14 => ⟨S4096x128, .f32⟩
  | 15 => ⟨S4096x128, .f32⟩
  | 16 => ⟨S4096x128, .f32⟩
  | 17 => ⟨S4096x128, .f32⟩
  | 18 => ⟨S4096x8x64, .f32⟩
  | 19 => ⟨S4096x8x32, .f32⟩
  | 20 => ⟨S4096x8x16, .f32⟩
  | 21 => ⟨S4096x8x16, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x16, .f32⟩
  | 30 => ⟨S4096x8x16, .f32⟩
  | 31 => ⟨S4096x8x16, .f32⟩
  | 32 => ⟨S4096x8x16, .f32⟩
  | 33 => ⟨S4096x8x32, .f32⟩
  | 34 => ⟨S_, .f32⟩
  | 35 => ⟨S4096x8x96, .f32⟩
  | 36 => ⟨S_, .f32⟩
  | 37 => ⟨S4096x8x96, .f32⟩
  | 38 => ⟨S4096x8x96, .f32⟩
  | 39 => ⟨S8x96x256, .f32⟩
  | 40 => ⟨S256x8x96, .f32⟩
  | 41 => ⟨S4096x256, .f32⟩
  | 42 => ⟨S4096x256, .f32⟩
  | 43 => ⟨S_, .f32⟩
  | 44 => ⟨S256, .f32⟩
  | 45 => ⟨S1x256, .f32⟩
  | 46 => ⟨S4096x256, .f32⟩
  | 47 => ⟨S4096x256, .f32⟩
  | 48 => ⟨S_, .f32⟩
  | 49 => ⟨S256, .f32⟩
  | 50 => ⟨S4096x256, .f32⟩
  | 51 => ⟨S_, .f32⟩
  | 52 => ⟨S4096, .f32⟩
  | 53 => ⟨S4096x1, .f32⟩
  | 54 => ⟨S4096x256, .f32⟩
  | 55 => ⟨S4096x256, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096, .f32⟩
  | 62 => ⟨S4096x256, .f32⟩
  | 63 => ⟨S4096x256, .f32⟩
  | 64 => ⟨S4096x256, .f32⟩
  | 65 => ⟨S4096x256, .f32⟩
  | 66 => ⟨S4096x256, .f32⟩
  | 67 => ⟨S4096x256, .bf16⟩
  | 68 => ⟨S4096x128, .bf16⟩
  | 69 => ⟨S4096x32, .bf16⟩
  | 70 => ⟨S4096x8, .bf16⟩
  | 71 => ⟨S128x8x64, .f32⟩
  | 72 => ⟨S128x8x64, .f32⟩
  | 73 => ⟨S1x256, .f32⟩
  | 74 => ⟨S_, .i32⟩
  | 75 => ⟨S_, .f32⟩
  | 76 => ⟨S8x256, .f32⟩
  | 77 => ⟨S1x128, .f32⟩
  | 78 => ⟨S_, .i32⟩
  | 79 => ⟨S_, .f32⟩
  | 80 => ⟨S8x128, .f32⟩
  | _ => ⟨S4096x8x96, .f32⟩

abbrev hbmTy (i : Nat) : BufTy := match i / 128 with
  | 0 => hbmTy0_0 i
  | 1 => hbmTy0_1 i
  | _ => ⟨S4096x8x96, .f32⟩

abbrev bufTy : (tb : Table) → Fin (tcTables nBuf tb) → BufTy
  | .hbm, ⟨i, _⟩ => hbmTy i
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_cst_10 : Ref sig .tc := ⟨.hbm, 100, rfl⟩
abbrev main_v78 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_cst_12 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_cst_19 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_20 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_21 : Ref sig .tc := ⟨.hbm, 176, rfl⟩
abbrev main_v143 : Ref sig .tc := ⟨.hbm, 177, rfl⟩
abbrev main_v144 : Ref sig .tc := ⟨.hbm, 178, rfl⟩
abbrev main_cst_22 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_23 : Ref sig .tc := ⟨.hbm, 185, rfl⟩
abbrev main_v150 : Ref sig .tc := ⟨.hbm, 186, rfl⟩
abbrev main_v151 : Ref sig .tc := ⟨.hbm, 187, rfl⟩
abbrev main_cst_24 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_c : Ref sig .tc := ⟨.hbm, 202, rfl⟩
abbrev main_call0_v0 : Ref sig .tc := ⟨.hbm, 203, rfl⟩
abbrev main_v165 : Ref sig .tc := ⟨.hbm, 204, rfl⟩
abbrev main_v166 : Ref sig .tc := ⟨.hbm, 205, rfl⟩
abbrev main_c_25 : Ref sig .tc := ⟨.hbm, 206, rfl⟩
abbrev main_call1_v0 : Ref sig .tc := ⟨.hbm, 207, rfl⟩
abbrev main_v167 : Ref sig .tc := ⟨.hbm, 208, rfl⟩

abbrev nD : Nat := 1
abbrev τ : Topo := Topo.v7x

variable {F : FTy → Type} [FloatOps F]
-- ==== AdaFwd.lean ====
abbrev S8x1024 : Shape := ⟨2, ![8, 1024]⟩
abbrev S4x1024x768 : Shape := ⟨3, ![4, 1024, 768]⟩
abbrev S_ : Shape := ⟨0, ![]⟩
abbrev S16x1024 : Shape := ⟨2, ![16, 1024]⟩
abbrev S4x16x768 : Shape := ⟨3, ![4, 16, 768]⟩
abbrev S1x1024x768 : Shape := ⟨3, ![1, 1024, 768]⟩
abbrev S1x16x768 : Shape := ⟨3, ![1, 16, 768]⟩
abbrev S1024x768 : Shape := ⟨2, ![1024, 768]⟩
abbrev S16x768 : Shape := ⟨2, ![16, 768]⟩
abbrev S4x8x768 : Shape := ⟨3, ![4, 8, 768]⟩

abbrev nBuf : Space → Nat
  | .hbm => 7
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S_, .i32⟩
  | .hbm, ⟨3, _⟩ => ⟨S_, .f32⟩
  | .hbm, ⟨4, _⟩ => ⟨S16x1024, .f32⟩
  | .hbm, ⟨5, _⟩ => ⟨S4x16x768, .f32⟩
  | .hbm, ⟨6, _⟩ => ⟨S4x8x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x16x768, .f32⟩
  | .local _ .vmem, ⟨4, _⟩ => ⟨S1x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaFwdRefIdeal.lean ====
abbrev S8x1024 : Shape := ⟨2, ![8, 1024]⟩
abbrev S4x1024x768 : Shape := ⟨3, ![4, 1024, 768]⟩
abbrev S_ : Shape := ⟨0, ![]⟩
abbrev S4x768x8 : Shape := ⟨3, ![4, 768, 8]⟩
abbrev S4x8x768 : Shape := ⟨3, ![4, 8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S4x768x8, .f32⟩
  | .hbm, ⟨12, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== LnIn.lean ====
abbrev S4096x1024 : Shape := ⟨2, ![4096, 1024]⟩
abbrev S1024 : Shape := ⟨1, ![1024]⟩
abbrev S1024x2984 : Shape := ⟨2, ![1024, 2984]⟩
abbrev S1x1024 : Shape := ⟨2, ![1, 1024]⟩
abbrev S1024x512 : Shape := ⟨2, ![1024, 512]⟩
abbrev S1024x8 : Shape := ⟨2, ![1024, 8]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x56 : Shape := ⟨2, ![1024, 56]⟩
abbrev S1024x3072 : Shape := ⟨2, ![1024, 3072]⟩
abbrev S1x1024x3072 : Shape := ⟨3, ![1, 1024, 3072]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S4096x8 : Shape := ⟨2, ![4096, 8]⟩
abbrev S4096x512 : Shape := ⟨2, ![4096, 512]⟩
abbrev S4096x384 : Shape := ⟨2, ![4096, 384]⟩
abbrev S4096x32 : Shape := ⟨2, ![4096, 32]⟩
abbrev S4096x1448 : Shape := ⟨2, ![4096, 1448]⟩

abbrev nBuf : Space → Nat
  | .hbm => 34
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2984, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x8, .f32⟩
  | .hbm, ⟨12, _⟩ => ⟨S1024x512, .f32⟩
  | .hbm, ⟨13, _⟩ => ⟨S1024x256, .f32⟩
  | .hbm, ⟨14, _⟩ => ⟨S1024x128, .f32⟩
  | .hbm, ⟨15, _⟩ => ⟨S1024x32, .f32⟩
  | .hbm, ⟨16, _⟩ => ⟨S1024x512, .f32⟩
  | .hbm, ⟨17, _⟩ => ⟨S_, .f32⟩
  | .hbm, ⟨18, _⟩ => ⟨S1024x56, .f32⟩
  | .hbm, ⟨19, _⟩ => ⟨S_, .f32⟩
  | .hbm, ⟨20, _⟩ => ⟨S1024x32, .f32⟩
  | .hbm, ⟨21, _⟩ => ⟨S1024x128, .f32⟩
  | .hbm, ⟨22, _⟩ => ⟨S1024x3072, .f32⟩
  | .hbm, ⟨23, _⟩ => ⟨S1024x3072, .bf16⟩
  | .hbm, ⟨24, _⟩ => ⟨S1x1024x3072, .bf16⟩
  | .hbm, ⟨25, _⟩ => ⟨S4096x1024, .bf16⟩
  | .hbm, ⟨26, _⟩ => ⟨S4096x1536, .f32⟩
  | .hbm, ⟨27, _⟩ => ⟨S4096x1536, .bf16⟩
  | .hbm, ⟨28, _⟩ => ⟨S4096x8, .f32⟩
  | .hbm, ⟨29, _⟩ => ⟨S4096x512, .f32⟩
  | .hbm, ⟨30, _⟩ => ⟨S4096x384, .f32⟩
  | .hbm, ⟨31, _⟩ => ⟨S4096x32, .f32⟩
  | .hbm, ⟨32, _⟩ => ⟨S4096x512, .f32⟩
  | .hbm, ⟨33, _⟩ => ⟨S4096x1448, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .f32⟩
  | .local _ .vmem, ⟨9, _⟩ => ⟨S512x1536, .f32⟩
  | .local _ .vmem, ⟨10, _⟩ => ⟨S512x1536, .bf16⟩
  | .local _ .vmem, ⟨11, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnInRefIdeal.lean ====
abbrev S4096x1024 : Shape := ⟨2, ![4096, 1024]⟩
abbrev S1024 : Shape := ⟨1, ![1024]⟩
abbrev S1024x2984 : Shape := ⟨2, ![1024, 2984]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2984 : Shape := ⟨2, ![4096, 2984]⟩
abbrev S4096x512 : Shape := ⟨2, ![4096, 512]⟩
abbrev S4096x1448 : Shape := ⟨2, ![4096, 1448]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2984, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2984, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x1024, .f32⟩
  | .hbm, ⟨36, _⟩ => ⟨S4096x1024, .bf16⟩
  | .hbm, ⟨37, _⟩ => ⟨S4096x1448, .f32⟩
  | .hbm, ⟨38, _⟩ => ⟨S4096x1536, .f32⟩
  | .hbm, ⟨39, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== MlaPrep.lean ====
abbrev S4096x2984 : Shape := ⟨2, ![4096, 2984]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4096x16 : Shape := ⟨2, ![4096, 16]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S4096x512 : Shape := ⟨2, ![4096, 512]⟩
abbrev S4096x8 : Shape := ⟨2, ![4096, 8]⟩
abbrev S4096x256 : Shape := ⟨2, ![4096, 256]⟩
abbrev S4096x56 : Shape := ⟨2, ![4096, 56]⟩
abbrev S4096x1408 : Shape := ⟨2, ![4096, 1408]⟩
abbrev S4096x1536 : Shape := ⟨2, ![4096, 1536]⟩
abbrev S1x256 : Shape := ⟨2, ![1, 256]⟩
abbrev S1x128 : Shape := ⟨2, ![1, 128]⟩
abbrev S128x8x128 : Shape := ⟨3, ![128, 8, 128]⟩
abbrev S256x8x96 : Shape := ⟨3, ![256, 8, 96]⟩
abbrev S256x8x128 : Shape := ⟨3, ![256, 8, 128]⟩
abbrev S256x1024 : Shape := ⟨2, ![256, 1024]⟩
abbrev S128x8x64 : Shape := ⟨3, ![128, 8, 64]⟩
abbrev S128x512 : Shape := ⟨2, ![128, 512]⟩
abbrev S1x256x1024 : Shape := ⟨3, ![1, 256, 1024]⟩
abbrev S1x128x1024 : Shape := ⟨3, ![1, 128, 1024]⟩
abbrev S1x128x512 : Shape := ⟨3, ![1, 128, 512]⟩
abbrev S4096x1024 : Shape := ⟨2, ![4096, 1024]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S4096x8x128 : Shape := ⟨3, ![4096, 8, 128]⟩
abbrev S4096x8x96 : Shape := ⟨3, ![4096, 8, 96]⟩
abbrev S4096x8x64 : Shape := ⟨3, ![4096, 8, 64]⟩

abbrev nBuf : Space → Nat
  | .hbm => 63
  | .vmem => 21
  | .smem => 0
  | _ => 0

abbrev bufTy : (tb : Table) → Fin (tcTables nBuf tb) → BufTy
  | .hbm, ⟨0, _⟩ => ⟨S4096x2984, .f32⟩
  | .hbm, ⟨1, _⟩ => ⟨S256, .f32⟩
  | .hbm, ⟨2, _⟩ => ⟨S128, .f32⟩
  | .hbm, ⟨3, _⟩ => ⟨S256x768, .f32⟩
  | .hbm, ⟨4, _⟩ => ⟨S128x1024, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x64, .f32⟩
  | .hbm, ⟨9, _⟩ => ⟨S_, .f32⟩
  | .hbm, ⟨10, _⟩ => ⟨S4096x32, .f32⟩
  | .hbm, ⟨11, _⟩ => ⟨S4096x128, .f32⟩
  | .hbm, ⟨12, _⟩ => ⟨S_, .f32⟩
  | .hbm, ⟨13, _⟩ => ⟨S4096x64, .f32⟩
  | .hbm, ⟨14, _⟩ => ⟨S4096x16, .f32⟩
  | .hbm, ⟨15, _⟩ => ⟨S_, .f32⟩
  | .hbm, ⟨16, _⟩ => ⟨S4096x32, .f32⟩
  | .hbm, ⟨17, _⟩ => ⟨S4096x128, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x8, .f32⟩
  | .hbm, ⟨22, _⟩ => ⟨S4096x512, .f32⟩
  | .hbm, ⟨23, _⟩ => ⟨S4096x256, .f32⟩
  | .hbm, ⟨24, _⟩ => ⟨S4096x128, .f32⟩
  | .hbm, ⟨25, _⟩ => ⟨S4096x32, .f32⟩
  | .hbm, ⟨26, _⟩ => ⟨S4096x512, .f32⟩
  | .hbm, ⟨27, _⟩ => ⟨S_, .f32⟩
  | .hbm, ⟨28, _⟩ => ⟨S4096x56, .f32⟩
  | .hbm, ⟨29, _⟩ => ⟨S_, .f32⟩
  | .hbm, ⟨30, _⟩ => ⟨S4096x32, .f32⟩
  | .hbm, ⟨31, _⟩ => ⟨S4096x128, .f32⟩
  | .hbm, ⟨32, _⟩ => ⟨S4096x1408, .f32⟩
  | .hbm, ⟨33, _⟩ => ⟨S4096x1536, .f32⟩
  | .hbm, ⟨34, _⟩ => ⟨S1x256, .f32⟩
  | .hbm, ⟨35, _⟩ => ⟨S1x128, .f32⟩
  | .hbm, ⟨36, _⟩ => ⟨S128x8x128, .f32⟩
  | .hbm, ⟨37, _⟩ => ⟨S256x8x96, .f32⟩
  | .hbm, ⟨38, _⟩ => ⟨S_, .i32⟩
  | .hbm, ⟨39, _⟩ => ⟨S_, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S128x8x64, .f32⟩
  | .hbm, ⟨44, _⟩ => ⟨S_, .i32⟩
  | .hbm, ⟨45, _⟩ => ⟨S_, .f32⟩
  | .hbm, ⟨46, _⟩ => ⟨S128x8x128, .f32⟩
  | .hbm, ⟨47, _⟩ => ⟨S128x1024, .f32⟩
  | .hbm, ⟨48, _⟩ => ⟨S128x1024, .bf16⟩
  | .hbm, ⟨49, _⟩ => ⟨S128x8x64, .f32⟩
  | .hbm, ⟨50, _⟩ => ⟨S128x512, .f32⟩
  | .hbm, ⟨51, _⟩ => ⟨S128x512, .bf16⟩
  | .hbm, ⟨52, _⟩ => ⟨S1x256x1024, .bf16⟩
  | .hbm, ⟨53, _⟩ => ⟨S1x128x1024, .bf16⟩
  | .hbm, ⟨54, _⟩ => ⟨S1x128x512, .bf16⟩
  | .hbm, ⟨55, _⟩ => ⟨S4096x1024, .bf16⟩
  | .hbm, ⟨56, _⟩ => ⟨S4096x1024, .bf16⟩
  | .hbm, ⟨57, _⟩ => ⟨S4096x512, .bf16⟩
  | .hbm, ⟨58, _⟩ => ⟨S4096x8x128, .bf16⟩
  | .hbm, ⟨59, _⟩ => ⟨S4096x8x128, .bf16⟩
  | .hbm, ⟨60, _⟩ => ⟨S4096x8x96, .bf16⟩
  | .hbm, ⟨61, _⟩ => ⟨S4096x8x96, .bf16⟩
  | .hbm, ⟨62, _⟩ => ⟨S4096x8x64, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x128, .f32⟩
  | .local _ .vmem, ⟨8, _⟩ => ⟨S1x256x1024, .bf16⟩
  | .local _ .vmem, ⟨9, _⟩ => ⟨S1x128x1024, .bf16⟩
  | .local _ .vmem, ⟨10, _⟩ => ⟨S1x128x512, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | _, _ => ⟨S4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaPrepRefIdeal.lean ====
abbrev S4096x2984 : Shape := ⟨2, ![4096, 2984]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4096x16 : Shape := ⟨2, ![4096, 16]⟩
abbrev S4096x256 : Shape := ⟨2, ![4096, 256]⟩
abbrev S4096x128 : Shape := ⟨2, ![4096, 128]⟩
abbrev S4096x32 : Shape := ⟨2, ![4096, 32]⟩
abbrev S256x8x96 : Shape := ⟨3, ![256, 8, 96]⟩
abbrev S128x8x128 : Shape := ⟨3, ![128, 8, 128]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x8x96 : Shape := ⟨3, ![4096, 8, 96]⟩
abbrev S4096x8x64 : Shape := ⟨3, ![4096, 8, 64]⟩
abbrev S4096x8x32 : Shape := ⟨3, ![4096, 8, 32]⟩
abbrev S4096x1x16 : Shape := ⟨3, ![4096, 1, 16]⟩
abbrev S4096x8x16 : Shape := ⟨3, ![4096, 8, 16]⟩
abbrev S1x128 : Shape := ⟨2, ![1, 128]⟩
abbrev S4096x8x128 : Shape := ⟨3, ![4096, 8, 128]⟩
abbrev S4096x1x32 : Shape := ⟨3, ![4096, 1, 32]⟩

abbrev nBuf : Space → Nat
  | .hbm => 84
  | .vmem => 0
  | .smem => 0
  | _ => 0

abbrev bufTy : (tb : Table) → Fin (tcTables nBuf tb) → BufTy
  | .hbm, ⟨0, _⟩ => ⟨S4096x2984, .f32⟩
  | .hbm, ⟨1, _⟩ => ⟨S256, .f32⟩
  | .hbm, ⟨2, _⟩ => ⟨S128, .f32⟩
  | .hbm, ⟨3, _⟩ => ⟨S256x768, .f32⟩
  | .hbm, ⟨4, _⟩ => ⟨S128x1024, .f32⟩
  | .hbm, ⟨5, _⟩ => ⟨S4096x16, .f32⟩
  | .hbm, ⟨6, _⟩ => ⟨S4096x16, .f32⟩
  | .hbm, ⟨7, _⟩ => ⟨S4096x256, .f32⟩
  | .hbm, ⟨8, _⟩ => ⟨S4096x128, .f32⟩
  | .hbm, ⟨9, _⟩ => ⟨S4096x32, .f32⟩
  | .hbm, ⟨10, _⟩ => ⟨S256x8x96, .f32⟩
  | .hbm, ⟨11, _⟩ => ⟨S128x8x128, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x8x96, .f32⟩
  | .hbm, ⟨29, _⟩ => ⟨S4096x8x64, .f32⟩
  | .hbm, ⟨30, _⟩ => ⟨S4096x8x32, .f32⟩
  | .hbm, ⟨31, _⟩ => ⟨S4096x1x16, .f32⟩
  | .hbm, ⟨32, _⟩ => ⟨S4096x1x16, .f32⟩
  | .hbm, ⟨33, _⟩ => ⟨S4096x8x16, .f32⟩
  | .hbm, ⟨34, _⟩ => ⟨S4096x8x16, .f32⟩
  | .hbm, ⟨35, _⟩ => ⟨S4096x8x16, .f32⟩
  | .hbm, ⟨36, _⟩ => ⟨S4096x8x16, .f32⟩
  | .hbm, ⟨37, _⟩ => ⟨S4096x8x16, .f32⟩
  | .hbm, ⟨38, _⟩ => ⟨S4096x8x16, .f32⟩
  | .hbm, ⟨39, _⟩ => ⟨S4096x8x16, .f32⟩
  | .hbm, ⟨40, _⟩ => ⟨S4096x8x16, .f32⟩
  | .hbm, ⟨41, _⟩ => ⟨S4096x8x16, .f32⟩
  | .hbm, ⟨42, _⟩ => ⟨S4096x8x16, .f32⟩
  | .hbm, ⟨43, _⟩ => ⟨S4096x8x16, .f32⟩
  | .hbm, ⟨44, _⟩ => ⟨S4096x8x16, .f32⟩
  | .hbm, ⟨45, _⟩ => ⟨S4096x8x32, .f32⟩
  | .hbm, ⟨46, _⟩ => ⟨S4096x8x96, .f32⟩
  | .hbm, ⟨47, _⟩ => ⟨S4096x128, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x128, .f32⟩
  | .hbm, ⟨59, _⟩ => ⟨S4096x128, .f32⟩
  | .hbm, ⟨60, _⟩ => ⟨S1x128, .f32⟩
  | .hbm, ⟨61, _⟩ => ⟨S4096x128, .f32⟩
  | .hbm, ⟨62, _⟩ => ⟨S4096x128, .f32⟩
  | .hbm, ⟨63, _⟩ => ⟨S4096x8x128, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x32, .f32⟩
  | .hbm, ⟨73, _⟩ => ⟨S4096x1x32, .f32⟩
  | .hbm, ⟨74, _⟩ => ⟨S4096x8x32, .f32⟩
  | .hbm, ⟨75, _⟩ => ⟨S_, .f32⟩
  | .hbm, ⟨76, _⟩ => ⟨S4096x8x96, .f32⟩
  | .hbm, ⟨77, _⟩ => ⟨S4096x8x96, .f32⟩
  | .hbm, ⟨78, _⟩ => ⟨S4096x8x64, .f32⟩
  | .hbm, ⟨79, _⟩ => ⟨S4096x8x96, .f32⟩
  | .hbm, ⟨80, _⟩ => ⟨S4096x8x64, .f32⟩
  | .hbm, ⟨81, _⟩ => ⟨S4096x8x96, .bf16⟩
  | .hbm, ⟨82, _⟩ => ⟨S4096x8x96, .bf16⟩
  | .hbm, ⟨83, _⟩ => ⟨S4096x8x64, .bf16⟩
  | _, _ => ⟨S4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== FoxPrep.lean ====
abbrev S4096x2984 : Shape := ⟨2, ![4096, 2984]⟩
abbrev S8 : Shape := ⟨1, ![8]⟩
abbrev S4096x512 : Shape := ⟨2, ![4096, 512]⟩
abbrev S4096x8 : Shape := ⟨2, ![4096, 8]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096x56 : Shape := ⟨2, ![4096, 56]⟩
abbrev S4096x1408 : Shape := ⟨2, ![4096, 1408]⟩
abbrev S4096x1536 : Shape := ⟨2, ![4096, 1536]⟩
abbrev S1x8 : Shape := ⟨2, ![1, 8]⟩
abbrev S1x128 : Shape := ⟨2, ![1, 128]⟩
abbrev S4x2x4096x128 : Shape := ⟨4, ![4, 2, 4096, 128]⟩
abbrev S512x128 : Shape := ⟨2, ![512, 128]⟩
abbrev S4x2x512x128 : Shape := ⟨4, ![4, 2, 512, 128]⟩
abbrev S512x512 : Shape := ⟨2, ![512, 512]⟩
abbrev S512x1 : Shape := ⟨2, ![512, 1]⟩
abbrev S1x1x512x128 : Shape := ⟨4, ![1, 1, 512, 128]⟩

abbrev nBuf : Space → Nat
  | .hbm => 24
  | .vmem => 8
  | .smem => 0
  | _ => 0

abbrev bufTy : (tb : Table) → Fin (tcTables nBuf tb) → BufTy
  | .hbm, ⟨0, _⟩ => ⟨S4096x2984, .f32⟩
  | .hbm, ⟨1, _⟩ => ⟨S8, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x8, .f32⟩
  | .hbm, ⟨6, _⟩ => ⟨S4096x512, .f32⟩
  | .hbm, ⟨7, _⟩ => ⟨S4096x256, .f32⟩
  | .hbm, ⟨8, _⟩ => ⟨S4096x128, .f32⟩
  | .hbm, ⟨9, _⟩ => ⟨S4096x32, .f32⟩
  | .hbm, ⟨10, _⟩ => ⟨S4096x512, .f32⟩
  | .hbm, ⟨11, _⟩ => ⟨S_, .f32⟩
  | .hbm, ⟨12, _⟩ => ⟨S4096x56, .f32⟩
  | .hbm, ⟨13, _⟩ => ⟨S_, .f32⟩
  | .hbm, ⟨14, _⟩ => ⟨S4096x32, .f32⟩
  | .hbm, ⟨15, _⟩ => ⟨S4096x128, .f32⟩
  | .hbm, ⟨16, _⟩ => ⟨S4096x1408, .f32⟩
  | .hbm, ⟨17, _⟩ => ⟨S4096x1536, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S4096x128, .f32⟩
  | .hbm, ⟨23, _⟩ => ⟨S4x2x4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S4x2x512x128, .f32⟩
  | .local _ .vmem, ⟨6, _⟩ => ⟨S4x2x512x128, .f32⟩
  | .local _ .vmem, ⟨7, _⟩ => ⟨S1x128, .f32⟩
  | _, _ => ⟨S4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxPrepRefIdeal.lean ====
abbrev S4096x2984 : Shape := ⟨2, ![4096, 2984]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S8x4096 : Shape := ⟨2, ![8, 4096]⟩
abbrev S4x2x4096x1 : Shape := ⟨4, ![4, 2, 4096, 1]⟩
abbrev S4x2x4096x128 : Shape := ⟨4, ![4, 2, 4096, 128]⟩
abbrev S4096x128 : Shape := ⟨2, ![4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x2984, .f32⟩
  | .hbm, ⟨1, _⟩ => ⟨S8, .f32⟩
  | .hbm, ⟨2, _⟩ => ⟨S4096x8, .f32⟩
  | .hbm, ⟨3, _⟩ => ⟨S1x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S_, .f32⟩
  | .hbm, ⟨24, _⟩ => ⟨S4096x8, .f32⟩
  | .hbm, ⟨25, _⟩ => ⟨S8x4096, .f32⟩
  | .hbm, ⟨26, _⟩ => ⟨S4x2x4096x1, .f32⟩
  | .hbm, ⟨27, _⟩ => ⟨S4x2x4096x128, .f32⟩
  | .hbm, ⟨28, _⟩ => ⟨S_, .i32⟩
  | .hbm, ⟨29, _⟩ => ⟨S_, .f32⟩
  | .hbm, ⟨30, _⟩ => ⟨S4096x128, .f32⟩
  | _, _ => ⟨S4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call2_v0 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Proof.Common.lean ====
/- Facts about words, sums and running sums that several of the value proofs read. -/
module

public import Idealize.ShloMosaic.Lib.Pipeline.ValueKit
public import Idealize.ShloMosaic.Lib.IdealHost
public import Idealize.ShloMosaic.Lib.StableHlo.ReadAt
public import Idealize.ShloMosaic.Lib.Routing.OpsOne
public import Idealize.ShloMosaic.Lib.Tactic.WordOmega
public import Idealize.ShloMosaic.Lib.WritesUnit

@[expose] public section

set_option maxRecDepth 16384

noncomputable section

open Idealize.ShloMosaic Idealize.ShloMosaic.TcCoe Idealize.SL.Sem

namespace Cert.Common

/-- The truth bit of `r ≤ k`, as a number, is one or zero. -/
theorem sitofp_sge (k r : ℕ) (hk : k < 2 ^ 31) (hr : r < 2 ^ 31) :
    (FloatOps.sitofp (F := Ideal) .f32 (BitVec.setWidth 32 (IntOp.cmpi CmpIPredicate.sge (BitVec.ofNat 32 k) (BitVec.ofNat 32 r))) : EReal)
      = if r ≤ k then 1 else 0 := by
  have h : IntOp.cmpi CmpIPredicate.sge (BitVec.ofNat 32 k) (BitVec.ofNat 32 r) = if r ≤ k then 1#1 else 0#1 := by
    word_omega
  rw [h]
  split
  · show (((BitVec.setWidth 32 1#1).toInt : ℝ) : EReal) = 1
    norm_num
  · show (((BitVec.setWidth 32 0#1).toInt : ℝ) : EReal) = 0
    norm_num

/-- A left fold that adds is the start value plus the sum. -/
theorem foldl_add_eq {N : ℕ} (g : Fin N → EReal) (v : EReal) :
    (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- A column read at any natural row: zero past its end. -/
def ext {R : ℕ} (x : Fin R → EReal) (n : ℕ) : EReal := if h : n < R then x ⟨n, h⟩ else 0

theorem ext_val {R : ℕ} (x : Fin R → EReal) (n : Fin R) : ext x n.val = x n := dif_pos n.isLt

/-- The entries of a column from row `j` on, as a sum over an interval of rows. -/
theorem sum_ge_eq_Ico {R : ℕ} (x : Fin R → EReal) (j : Fin R) :
    (∑ k : Fin R, if j ≤ k then x k else 0) = ∑ n ∈ Finset.Ico j.val R, ext x n := by
  have e : ∀ k : Fin R, (if j ≤ k then x k else 0) = (fun n : ℕ => if j.val ≤ n then ext x n else 0) k.val := fun k => by
    simp only [ext_val, Fin.le_def]
  rw [Finset.sum_congr rfl fun k _ => e k, Fin.sum_univ_eq_sum_range (fun n : ℕ => if j.val ≤ n then ext x n else 0) R, ← Finset.sum_filter]
  refine Finset.sum_congr (Finset.ext fun n => ?_) fun _ _ => rfl
  rw [Finset.mem_filter, Finset.mem_range, Finset.mem_Ico]
  omega

/-- A running sum that goes from the last row to the first, as the host prints it (a window of the whole height and one
    column, padded high by one less): entry `(j, c)` is the sum of the column's entries from row `j` on. -/
theorem suffix_rows {R Rm1 C : ℕ} (hR : Rm1 + 1 = R) (x : FVec Ideal (Routing.shape2 R C) .f32) (init : FVec Ideal Routing.shape0 .f32)
    (hinit : init ix0 = (0 : EReal))
    (h : (Routing.shape2 R C).ReduceWindows (![R, 1] : Fin 2 → ℕ) ![1, 1] ![0, 0] ![Rm1, 0] (Routing.shape2 R C)) (hu : 0 < Routing.shape0.numel)
    (j : Fin R) (c : Fin C) :
    (Host.reduceWindowAdd ![R, 1] ![1, 1] ![0, 0] ![Rm1, 0] x init h hu (ix2 j c) : EReal)
      = ∑ n ∈ Finset.Ico j.val R, ext (fun k => x (ix2 k c)) n := by
  subst hR
  have hv : init (Shape.Idx.first hu) = (0 : EReal) := (congrArg init (Subsingleton.elim _ _)).trans hinit
  have hj := j.isLt
  have hc := c.isLt
  unfold Host.reduceWindowAdd
  rw [hv]
  rw [Ideal.hostReduceWindowAdd_def]
  unfold Ideal.hostReduceWindowAdd Host.reduceWindow
  dsimp only
  refine (foldl_add_eq _ _).trans ?_
  rw [zero_add]
  have hn : (⟨2, ![Rm1 + 1, 1]⟩ : Shape).numel = Rm1 + 1 := Routing.numel_col _
  have e1 : (∑ n ∈ Finset.Ico j.val (Rm1 + 1), ext (fun k => (x (ix2 k c) : EReal)) n)
      = ∑ n ∈ Finset.range (Rm1 + 1), ext (fun k => (x (ix2 k c) : EReal)) (j.val + n) := by
    have hz : (∑ n ∈ Finset.Ico (Rm1 + 1) (j.val + (Rm1 + 1)), ext (fun k => (x (ix2 k c) : EReal)) n) = 0 :=
      Finset.sum_eq_zero fun n hn => dif_neg (by have := Finset.mem_Ico.1 hn; omega)
    rw [← add_zero (∑ n ∈ Finset.Ico j.val (Rm1 + 1), _), ← hz, Finset.sum_Ico_consecutive _ (by omega) (by omega), Finset.sum_Ico_eq_sum_range,
      Nat.add_sub_cancel_left]
  have e2 : (∑ n ∈ Finset.range (Rm1 + 1), ext (fun k => (x (ix2 k c) : EReal)) (j.val + n))
      = ∑ n : Fin (⟨2, ![Rm1 + 1, 1]⟩ : Shape).numel, ext (fun k => (x (ix2 k c) : EReal)) (j.val + n.val) :=
    (congrArg (fun M => ∑ n ∈ Finset.range M, ext (fun k => (x (ix2 k c) : EReal)) (j.val + n)) hn.symm).trans
      (Fin.sum_univ_eq_sum_range (fun n : ℕ => ext (fun k => (x (ix2 k c) : EReal)) (j.val + n)) _).symm
  rw [e1, e2]
  refine Finset.sum_congr rfl fun n _ => ?_
  have hw0 : ((Routing.shape2 (Rm1 + 1) 1).rowMajor.symm n 0).val = n.val := by rw [Routing.symm_col]; rfl
  have hw1 : ((Routing.shape2 (Rm1 + 1) 1).rowMajor.symm n 1).val = 0 := by rw [Routing.symm_col]; rfl
  have hlt : n.val < Rm1 + 1 := (n.cast hn).isLt
  unfold ext
  split
  · next hin =>
    have h0 := hin 0
    change 0 ≤ j.val * 1 + ((Routing.shape2 (Rm1 + 1) 1).rowMajor.symm n 0).val
      ∧ j.val * 1 + ((Routing.shape2 (Rm1 + 1) 1).rowMajor.symm n 0).val - 0 < Rm1 + 1 at h0
    rw [hw0] at h0
    rw [dif_pos (by omega)]
    refine congrArg x (funext fun a => Fin.ext ?_)
    match a with
    | ⟨0, _⟩ =>
      show j.val * 1 + ((Routing.shape2 (Rm1 + 1) 1).rowMajor.symm n 0).val - 0 = j.val + n.val
      rw [hw0]
      omega
    | ⟨1, _⟩ =>
      show c.val * 1 + ((Routing.shape2 (Rm1 + 1) 1).rowMajor.symm n 1).val - 0 = c.val
      rw [hw1]
      omega
  · next hin =>
    rw [dif_neg fun hle => hin fun a => by
      match a with
      | ⟨0, _⟩ =>
        show 0 ≤ j.val * 1 + ((Routing.shape2 (Rm1 + 1) 1).rowMajor.symm n 0).val
          ∧ j.val * 1 + ((Routing.shape2 (Rm1 + 1) 1).rowMajor.symm n 0).val - 0 < Rm1 + 1
        rw [hw0]
        omega
      | ⟨1, _⟩ =>
        show 0 ≤ c.val * 1 + ((Routing.shape2 (Rm1 + 1) 1).rowMajor.symm n 1).val ∧ c.val * 1 + ((Routing.shape2 (Rm1 + 1) 1).rowMajor.symm n 1).val - 0 < C
        rw [hw1]
        omega]

/-- A store of row 0 over a store of the whole: row 0 reads the newer, every other row the older. -/
theorem canon_row0 {Val : EltTy → Type} [∀ e, Nonempty (Val e)] {e : EltTy} {R C : ℕ} (inb : ∀ a : Fin 2, (![0, 0] : Fin 2 → ℕ) a + (![1, C] : Fin 2 → ℕ) a ≤ (⟨2, ![R, C]⟩ : Shape).size a)
    (inb' : ∀ a : Fin 2, (![0, 0] : Fin 2 → ℕ) a + (![R, C] : Fin 2 → ℕ) a ≤ (⟨2, ![R, C]⟩ : Shape).size a)
    (w : (⟨2, ![1, C]⟩ : Shape).Idx → Val e) (z : (⟨2, ![R, C]⟩ : Shape).Idx → Val e) (a : Fin R) (l : Fin C) :
    View.canon (Val := Val) (s := ⟨2, ![R, C]⟩) (e := e)
      [⟨Rect.unit (s := ⟨2, ![R, C]⟩) ![0, 0] ![1, C] inb, w⟩, ⟨Rect.unit (s := ⟨2, ![R, C]⟩) ![0, 0] ![R, C] inb', z⟩] (ix2 a l)
      = if a.val = 0 then w (ix2 0 l) else z (ix2 a l) := by
  split
  · next ha =>
    refine Eq.trans (congrArg _ ?_) (View.canon_cons_emb (Rect.unit (s := ⟨2, ![R, C]⟩) ![0, 0] ![1, C] inb) w _ (ix2 0 l))
    funext d
    refine Fin.cases ?_ (fun d => Fin.cases ?_ (fun d => d.elim0) d) d
    · exact Fin.ext (by show a.val = 0 + 1 * 0; omega)
    · exact Fin.ext (by show l.val = 0 + 1 * l.val; omega)
  · next ha =>
    refine (View.canon_cons_of_not_mem _ _ ?_).trans ?_
    · rw [Rect.mem_set_unit]
      intro h
      have := (h 0).2
      have h2 : a.val < 0 + 1 := this
      omega
    · refine Eq.trans (congrArg _ ?_) (View.canon_cons_emb (Rect.unit (s := ⟨2, ![R, C]⟩) ![0, 0] ![R, C] inb') z _ (ix2 a l))
      funext d
      refine Fin.cases ?_ (fun d => Fin.cases ?_ (fun d => d.elim0) d) d
      · exact Fin.ext (by show a.val = 0 + 1 * a.val; omega)
      · exact Fin.ext (by show l.val = 0 + 1 * l.val; omega)

/-- A load of row 0 after a store of the whole, at any shape. -/
theorem ld_row0 {Val : EltTy → Type} {e : EltTy} {R C : ℕ} (hR : 0 < R) (inb : ∀ a : Fin 2, (![0, 0] : Fin 2 → ℕ) a + (![1, C] : Fin 2 → ℕ) a ≤ (⟨2, ![R, C]⟩ : Shape).size a)
    (X : (⟨2, ![R, C]⟩ : Shape).Idx → Val e) (l : Fin C) :
    View.ld X (Rect.unit (s := ⟨2, ![R, C]⟩) ![0, 0] ![1, C] inb) (ix2 0 l)
      = X (ix2 ⟨0, hR⟩ l) := by
  refine congrArg X ?_
  funext d
  refine Fin.cases ?_ (fun d => Fin.cases ?_ (fun d => d.elim0) d) d
  · exact Fin.ext (by show 0 + 1 * 0 = 0; omega)
  · exact Fin.ext (by show 0 + 1 * l.val = l.val; omega)

/-- The same load read from the list of stores. -/
theorem readCov_row0 {sig : RefSig} {κ : Kind} {sp : Space} {Val : EltTy → Type} [∀ e, Nonempty (Val e)] {e : EltTy} {R C : ℕ} (hR : 0 < R)
    (v : View sig κ sp ⟨2, ![R, C]⟩ e) (inb : ∀ a : Fin 2, (![0, 0] : Fin 2 → ℕ) a + (![1, C] : Fin 2 → ℕ) a ≤ (⟨2, ![R, C]⟩ : Shape).size a)
    (inb' : ∀ a : Fin 2, (![0, 0] : Fin 2 → ℕ) a + (![R, C] : Fin 2 → ℕ) a ≤ (⟨2, ![R, C]⟩ : Shape).size a)
    (z : (⟨2, ![R, C]⟩ : Shape).Idx → Val e) (l : Fin C) :
    v.readCov [⟨Rect.unit (s := ⟨2, ![R, C]⟩) ![0, 0] ![R, C] inb', z⟩] (Rect.unit (s := ⟨2, ![R, C]⟩) ![0, 0] ![1, C] inb).toLoadRect (ix2 0 l)
      = z (ix2 ⟨0, hR⟩ l) := by
  have h0 : ∀ a : Fin 2, (![0, 0] : Fin 2 → ℕ) a = 0 := fun a => by fin_cases a <;> rfl
  rw [View.readCov_eq_canon_ld]
  · have e : View.canon (Val := Val) [(⟨Rect.unit (s := ⟨2, ![R, C]⟩) ![0, 0] ![R, C] inb', z⟩ : View.Piece Val ⟨2, ![R, C]⟩ e)] = z :=
      View.canon_cons_unit_lit (S := ⟨2, ![R, C]⟩) inb' z [] h0
    rw [e]
    exact ld_row0 hR inb z l
  · intro y
    refine ⟨_, List.mem_singleton_self _, ?_⟩
    rw [Rect.mem_set_unit]
    intro a
    fin_cases a
    · exact ⟨Nat.zero_le _, lt_of_lt_of_eq (y 0).isLt (Nat.zero_add _).symm⟩
    · exact ⟨Nat.zero_le _, lt_of_lt_of_eq (y 1).isLt (Nat.zero_add _).symm⟩

theorem sitofp_zero : FloatOps.sitofp (F := Ideal) FTy.f32 0#32 = (0 : EReal) := by
  show (((0#32 : BitVec 32).toInt : ℝ) : EReal) = 0
  norm_num

/-! ## The logistic function, computed two ways -/

theorem inf_bits : Ideal.ofBits FTy.f32 2139095040#32 = (⊤ : EReal) := by
  show Ideal.ieee 8 23 2139095040#32 = ⊤
  unfold Ideal.ieee
  rfl

/-- The logistic function of `-a`, over the exponential of `-|a|`. -/
def sgm (a : EReal) : EReal :=
  Ideal.div (if 0 ≤ a then Ideal.exp (0 - max a (-a)) else 1) (1 + Ideal.exp (0 - max a (-a)))

/-- The logistic function of `-a`, as the derivative of the log-sigmoid at `a` is formed from its own value. -/
def lsg (a : EReal) : EReal :=
  Ideal.exp ((if -a = ⊤ then 0 else -a)
    - (if (max (-a) 0 + Ideal.log1p (Ideal.exp (-FloatOps.absf (F := Ideal) (φ := .f32) (-a)))) = (⊤ : EReal) then 0
        else (max (-a) 0 + Ideal.log1p (Ideal.exp (-FloatOps.absf (F := Ideal) (φ := .f32) (-a))))))

theorem sgm_eq_lsg (a : EReal) : sgm a = lsg a := by
  have habs : ∀ x : EReal, FloatOps.absf (F := Ideal) (φ := .f32) x = max x (-x) := fun x => rfl
  have hlog1 : Ideal.log 1 = 0 := by
    rw [← EReal.coe_one, Ideal.log_coe, if_neg (by norm_num), Real.log_one, EReal.coe_zero]
  have hexp0 : Ideal.exp 0 = 1 := by
    rw [← EReal.coe_zero, Ideal.exp_coe, Real.exp_zero, EReal.coe_one]
  unfold sgm lsg
  rw [habs]
  induction a with
  | bot =>
    simp [Ideal.log1p, Ideal.div, hlog1, hexp0]
  | top => simp [Ideal.log1p, Ideal.div, hlog1]
  | coe x =>
    have hmax : ∀ y z : ℝ, max (y : EReal) (z : EReal) = ((max y z : ℝ) : EReal) := fun y z => (EReal.coe_strictMono.monotone.map_max).symm
    have e1 : max (x : EReal) (-(x : EReal)) = ((|x| : ℝ) : EReal) := by
      rw [← EReal.coe_neg, hmax]; rfl
    have e2 : max (-(x : EReal)) (-(-(x : EReal))) = ((|x| : ℝ) : EReal) := by
      rw [neg_neg, max_comm, e1]
    have e3 : max (-(x : EReal)) 0 = ((max (-x) 0 : ℝ) : EReal) := by
      rw [← EReal.coe_neg, ← EReal.coe_zero, hmax]
    have hp : (0 : ℝ) < 1 + Real.exp (-|x|) := by positivity
    rw [e1, e2, e3, zero_sub, ← EReal.coe_neg, ← EReal.coe_neg, Ideal.exp_coe, Ideal.log1p, ← EReal.coe_one, ← EReal.coe_add, Ideal.log_coe,
      if_neg (not_le.2 hp), ← EReal.coe_add, if_neg (EReal.coe_ne_top _), if_neg (EReal.coe_ne_top _), ← EReal.coe_sub, Ideal.exp_coe, Ideal.div_coe hp.ne',
      Real.exp_sub, Real.exp_add, Real.exp_log hp]
    by_cases hx : 0 ≤ x
    · rw [if_pos (EReal.coe_nonneg.2 hx), abs_of_nonneg hx, max_eq_right (by linarith), Real.exp_zero, ← EReal.coe_mul]
      congr 1
      field_simp
    · rw [if_neg (fun h => hx (EReal.coe_nonneg.1 h)), abs_of_neg (not_le.1 hx), max_eq_left (by linarith), ← EReal.coe_mul]
      congr 1
      field_simp

end Cert.Common

end
-- ==== Proof.FoxPostValue.lean ====
/- The values of the gate-gradient call: what the kernel's grid leaves in its two result arrays. -/
module

public import proofs.«01_k».proof.Proof.Gen.FoxPostIdeal.Value
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.FoxPostIdeal.Hand

open Cert.FoxPostIdeal Cert.FoxPostIdeal.Gen

variable (m : (ℓ : Loc nD τ sig) → Buf (Elt Ideal) ℓ)

theorem pay7_apply (x : FVec Ideal S512x128 .f32) (cr : FVec Ideal S1x128 .f32) (r : Fin 512) (l : Fin 128) :
    k0_pay7 x cr (ix2 r l) = (∑ k : Fin 512, if r ≤ k then x (ix2 k l) else 0) + cr (ix2 0 l) := by
  pointwise [k0_pay7]
  congr 1
  refine Finset.sum_congr rfl fun k _ => ?_
  rw [Common.sitofp_sge _ _ (by omega) (by omega), ite_mul, one_mul, zero_mul]
  rfl

theorem pay6_apply (x : FVec Ideal S512x128 .f32) (b : FVec Ideal S1x128 .f32) (r : Fin 512) (l : Fin 128) :
    k0_pay6 (F := Ideal) x b (ix2 r l) = if l.val < 8 then Common.sgm (x (ix2 r l) + b (ix2 0 l)) else 0 := by
  have h : IntOp.cmpi CmpIPredicate.slt (BitVec.ofNat 32 l.val) 8#32 = if l.val < 8 then 1#1 else 0#1 := by
    word_omega
  pointwise [k0_pay6]
  rw [h]
  unfold Common.sgm
  split <;> rfl

theorem pay3_apply (x y : FVec Ideal S512x128 .f32) (b : FVec Ideal S1x128 .f32) (l : Fin 128) :
    k0_pay3 (F := Ideal) x y b (ix2 0 l) = b (ix2 0 l) + ∑ k : Fin 512, y (ix2 k l) * x (ix2 k l) := by
  pointwise [k0_pay3, k0_pay2]

theorem pay8_apply (x : FVec Ideal S512x128 .f32) (b : FVec Ideal S1x128 .f32) (l : Fin 128) :
    k0_pay1 (F := Ideal) (k0_pay8 (F := Ideal) x b) (ix2 0 l) = k0_pay7 (F := Ideal) x b (ix2 0 l) := by
  pointwise [k0_pay8, k0_pay1]

theorem pay4_apply (l : Fin 128) : (k0_pay4 (F := Ideal) (ix2 0 l) : EReal) = 0 := by
  pointwise [k0_pay4]

theorem pay5_apply (a : Fin 8) (l : Fin 128) : (k0_pay5 (F := Ideal) (ix2 a l) : EReal) = 0 := by
  pointwise [k0_pay5]

/-! ## The arrays the windows stage -/

theorem V0_apply (c : Dev nD) (r : Fin 4096) (l : Fin 8) :
    (V m c main_v0 : FVec Ideal S4096x128 .f32) (ix2 r ⟨l.val, by omega⟩) = (m ((c : Thread nD τ).loc main_arg2) : FVec Ideal S4096x8 .f32) (ix2 r l) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise

theorem V14_apply (c : Dev nD) (r : Fin 4096) (l : Fin 8) :
    (V m c main_v14 : FVec Ideal S4096x1536 .f32) (ix2 r ⟨1408 + l.val, by omega⟩)
      = (m ((c : Thread nD τ).loc main_arg0) : FVec Ideal S4096x2984 .f32) (ix2 r ⟨1536 + l.val, by omega⟩) := by
  unfold V
  simp only [List.flatten_cons, List.flatten_nil, List.append_nil, List.cons_append, List.nil_append]
  after_reads_simp
  pointwise
  after_reads_simp
  pointwise

theorem V16_apply (c : Dev nD) (l : Fin 8) :
    (V m c main_v16 : FVec Ideal S1x128 .f32) (ix2 0 ⟨l.val, by omega⟩) = (m ((c : Thread nD τ).loc main_arg1) : FVec Ideal S8 .f32) (ix1 l) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise

/-- The block index of every window at every grid point: the rows go from the last tile to the first. -/
theorem idx : ∀ t : Fin cfg0.N, win0_0.index t = ![7 - t.val, 0] ∧ win0_1.index t = ![7 - t.val, 11]
    ∧ win0_2.index t = ![0, 0] ∧ win0_3.index t = ![7 - t.val, 0] ∧ win0_4.index t = ![0, 0] :=
  (by decide +kernel : ∀ t : Fin grid0.N, _)

/-- Column `l` of the padded cotangent, at any row. -/
def dc (c : Dev nD) (l : Fin 128) : ℕ → EReal := Cert.Common.ext (fun k : Fin 4096 => (V m c main_v0 : FVec Ideal S4096x128 .f32) (ix2 k l))

/-- The packed columns, as one array. -/
abbrev Zp (c : Dev nD) : FVec Ideal S4096x1536 .f32 := V m c main_v14

/-- The padded bias. -/
abbrev Bp (c : Dev nD) : FVec Ideal S1x128 .f32 := V m c main_v16

/-- Column `l` of the gates' derivative, at any row. -/
def sg (c : Dev nD) (l : Fin 128) : ℕ → EReal := Cert.Common.ext (fun k : Fin 4096 =>
  if l.val < 8 then Common.sgm (Zp m c (ix2 k ⟨1408 + l.val, by omega⟩) + Bp m c (ix2 0 l)) else 0)

/-- The sum of a column of the cotangent from row `n` on. -/
def suf (c : Dev nD) (l : Fin 128) (n : ℕ) : EReal := ∑ k ∈ Finset.Ico n 4096, dc m c l k

theorem iblk0_apply (c : Dev nD) (t : Fin cfg0.N) (r : Fin 512) (l : Fin 128) :
    (iblk m c 0 t : FVec Ideal S512x128 .f32) (ix2 r l) = dc m c l (512 * (7 - t.val) + r.val) := by
  have hN : t.val < 8 := lt_of_lt_of_eq t.isLt N_0
  refine Eq.trans ?_ (dif_pos (by omega : 512 * (7 - t.val) + r.val < 4096)).symm
  blk_ext [iblk, idx t]

theorem pay6_blk (c : Dev nD) (t : Fin cfg0.N) (r : Fin 512) (l : Fin 128) :
    k0_pay6 (F := Ideal) (iblk m c 1 t) (iblk m c 2 t) (ix2 r l) = sg m c l (512 * (7 - t.val) + r.val) := by
  have hN : t.val < 8 := lt_of_lt_of_eq t.isLt N_0
  refine (pay6_apply _ _ _ _).trans (Eq.trans ?_ (dif_pos (by omega : 512 * (7 - t.val) + r.val < 4096)).symm)
  have h1 : (iblk m c 1 t : FVec Ideal S512x128 .f32) (ix2 r l)
      = Zp m c (ix2 ⟨512 * (7 - t.val) + r.val, by omega⟩ ⟨1408 + l.val, by omega⟩) := by
    blk_ext [iblk, idx t]
  have h2 : (iblk m c 2 t : FVec Ideal S1x128 .f32) (ix2 0 l) = Bp m c (ix2 0 l) := by
    blk_ext [iblk, idx t]
  rw [h1, h2]

/-- One tile: the rows' running sums from the end, over what the tile below handed on. -/
theorem pay7_blk (c : Dev nD) (t : Fin cfg0.N) (cr : FVec Ideal S1x128 .f32) (l : Fin 128) (hcr : cr (ix2 0 l) = suf m c l (512 * (8 - t.val))) (r : Fin 512) :
    k0_pay7 (F := Ideal) (iblk m c 0 t) cr (ix2 r l) = suf m c l (512 * (7 - t.val) + r.val) := by
  have hN : t.val < 8 := lt_of_lt_of_eq t.isLt N_0
  rw [pay7_apply, hcr, Common.sum_ge_eq_Ico (fun k : Fin 512 => (iblk m c 0 t : FVec Ideal S512x128 .f32) (ix2 k l)) r]
  unfold suf
  rw [← Finset.sum_Ico_consecutive (dc m c l) (m := 512 * (7 - t.val) + r.val) (n := 512 * (8 - t.val)) (k := 4096) (by omega) (by omega)]
  congr 1
  have e : 512 * (8 - t.val) = 512 + 512 * (7 - t.val) := by omega
  rw [e, Nat.add_comm (512 * (7 - t.val)) r.val, ← Finset.sum_Ico_add']
  refine Finset.sum_congr rfl fun n hn => ?_
  have hn' := Finset.mem_Ico.1 hn
  refine (dif_pos hn'.2).trans ((iblk0_apply m c t ⟨n, hn'.2⟩ l).trans ?_)
  rw [Nat.add_comm]

/-- The gradient of the logits, at any row. -/
def dff (c : Dev nD) (l : Fin 128) (n : ℕ) : EReal := suf m c l n * sg m c l n

theorem pay2_blk (c : Dev nD) (t : Fin cfg0.N) (cr : FVec Ideal S1x128 .f32) (l : Fin 128) (hcr : cr (ix2 0 l) = suf m c l (512 * (8 - t.val))) (r : Fin 512) :
    k0_pay2 (F := Ideal) (k0_pay6 (iblk m c 1 t) (iblk m c 2 t)) (k0_pay7 (iblk m c 0 t) cr) (ix2 r l) = dff m c l (512 * (7 - t.val) + r.val) := by
  pointwise [k0_pay2]
  rw [pay7_blk m c t cr l hcr r, pay6_blk]
  rfl

theorem pay3_blk (c : Dev nD) (t : Fin cfg0.N) (cr b : FVec Ideal S1x128 .f32) (l : Fin 128) (hcr : cr (ix2 0 l) = suf m c l (512 * (8 - t.val)))
    (hb : b (ix2 0 l) = ∑ n ∈ Finset.Ico (512 * (8 - t.val)) 4096, dff m c l n) :
    k0_pay3 (F := Ideal) (k0_pay6 (iblk m c 1 t) (iblk m c 2 t)) (k0_pay7 (iblk m c 0 t) cr) b (ix2 0 l) = ∑ n ∈ Finset.Ico (512 * (7 - t.val)) 4096, dff m c l n := by
  have hN : t.val < 8 := lt_of_lt_of_eq t.isLt N_0
  rw [pay3_apply, hb, add_comm, ← Finset.sum_Ico_consecutive (dff m c l) (m := 512 * (7 - t.val)) (n := 512 * (8 - t.val)) (k := 4096) (by omega) (by omega)]
  congr 1
  rw [Finset.sum_congr rfl fun k _ => show _ = (fun n : ℕ => dff m c l (512 * (7 - t.val) + n)) k.val by rw [pay7_blk m c t cr l hcr k, pay6_blk]; rfl,
    Fin.sum_univ_eq_sum_range (fun n : ℕ => dff m c l (512 * (7 - t.val) + n)) 512, Finset.sum_Ico_eq_sum_range]
  congr 2
  omega

/-! ## What each grid point leaves -/

/-- The state after point `n`, column `l`: the tile of the gradient, the column sums so far in row 0 (zero in the others), the running sum handed on. -/
def Inv (c : Dev nD) (n : ℕ) (o : Vec Ideal S512x128 .f32 × Vec Ideal S8x128 .f32 × Vec Ideal S1x128 .f32) : Prop :=
  ∀ l : Fin 128, (∀ r : Fin 512, o.1 (ix2 r l) = dff m c l (512 * (7 - n) + r.val))
    ∧ (∀ a : Fin 8, o.2.1 (ix2 a l) = if a.val = 0 then ∑ k ∈ Finset.Ico (512 * (7 - n)) 4096, dff m c l k else (0 : EReal))
    ∧ o.2.2 (ix2 0 l) = suf m c l (512 * (7 - n))

theorem inv_A (c : Dev nD) (t : Fin cfg0.N) (h : t.val % 8 = 0) : Inv m c t.val (outsAt0 m c t.val t.isLt) := by
  have hN : t.val < 8 := lt_of_lt_of_eq t.isLt N_0
  have h0 : 512 * (8 - t.val) = 4096 := by omega
  intro l
  have hcr : (k0_pay4 (F := Ideal)) (ix2 0 l) = suf m c l (512 * (8 - t.val)) := by
    rw [h0, suf, Finset.Ico_self, Finset.sum_empty]
    exact pay4_apply l
  rw [outsAt0_A m c t h]
  frame_out
  refine ⟨fun r => pay2_blk m c t _ l hcr r, fun a => ?_, ?_⟩
  · refine (Common.canon_row0 _ _ _ _ a l).trans ?_
    by_cases ha : a.val = 0
    · rw [if_pos ha, if_pos ha]
      refine pay3_blk m c t _ _ l hcr ?_
      rw [h0, Finset.Ico_self, Finset.sum_empty]
      exact (Common.readCov_row0 (by decide) _ _ _ _ l).trans (pay5_apply _ l)
    · rw [if_neg ha, if_neg ha]
      exact pay5_apply a l
  · refine (pay8_apply _ _ l).trans ((pay7_blk m c t _ l hcr 0).trans ?_)
    rfl

theorem inv_B (c : Dev nD) (t : Fin cfg0.N) (h : ¬ t.val % 8 = 0) (ih : Inv m c (t.val - 1) (outsAt0 m c (t.val - 1) (Nat.lt_of_le_of_lt (Nat.sub_le _ _) t.isLt))) :
    Inv m c t.val (outsAt0 m c t.val t.isLt) := by
  have hN : t.val < 8 := lt_of_lt_of_eq t.isLt N_0
  have h0 : 512 * (8 - t.val) = 512 * (7 - (t.val - 1)) := by omega
  intro l
  rw [outsAt0_B m c t h]
  frame_out
  have hcr : (outsAt0 m c (t.val - 1) (Nat.lt_of_le_of_lt (Nat.sub_le _ _) t.isLt)).2.2 (ix2 0 l) = suf m c l (512 * (8 - t.val)) := by
    rw [h0]
    exact (ih l).2.2
  refine ⟨fun r => ?_, fun a => ?_, ?_⟩
  · refine (pay2_blk m c t _ l ?_ r)
    exact (congrFun (Memref.IsWhole.read_unread _ _) _).trans hcr
  · by_cases ha : a.val = 0
    · rw [if_pos ha]
      refine (View.read_writes_cons_rows_of_mem (o := 0) (off := ![0, 0]) (size := ![1, 128]) _ _ _ _ _ (ix2 a l) (ix2 0 l) rfl (by show a.val = 0 + 0; omega) rfl).trans ?_
      refine pay3_blk m c t _ _ l ?_ ?_
      · exact (congrFun (Memref.IsWhole.read_unread _ _) _).trans hcr
      · refine (Common.ld_row0 (by decide) _ _ l).trans ?_
        rw [h0]
        exact ((ih l).2.1 0).trans (if_pos rfl)
    · rw [if_neg ha]
      refine (View.read_writes_cons_rows_of_not_mem _ _ _ _ _ _ rfl rfl (Or.inr (by show 0 + 1 ≤ a.val; omega))).trans ?_
      refine (congrFun (Memref.IsWhole.read_unread _ _) _).trans ?_
      exact ((ih l).2.1 a).trans (if_neg ha)
  · refine (pay8_apply _ _ l).trans ((pay7_blk m c t _ l ?_ 0).trans ?_)
    · exact (congrFun (Memref.IsWhole.read_unread _ _) _).trans hcr
    · rfl

theorem inv (c : Dev nD) : ∀ (n : ℕ) (hn : n < cfg0.N), Inv m c n (outsAt0 m c n hn) := by
  intro n
  induction n with
  | zero => exact fun hn => inv_A m c ⟨0, hn⟩ rfl
  | succ n ih =>
    intro hn
    have hN : n + 1 < 8 := lt_of_lt_of_eq hn N_0
    exact inv_B m c ⟨n + 1, hn⟩ (by show ¬ (n + 1) % 8 = 0; omega) (ih _)

/-! ## The result arrays -/

/-- The first result: the gradient of the logits. -/
def G3 (c : Dev nD) : FVec Ideal S4096x128 .f32 := fun i => dff m c (i 1) (i 0).val

/-- The second result: row 0 the column sums, the other rows zero. -/
def G4 (c : Dev nD) : FVec Ideal S8x128 .f32 := fun i => if (i 0).val = 0 then ∑ k ∈ Finset.Ico 0 4096, dff m c (i 1) k else 0

theorem final3 (c : Dev nD) : (dats m 0 c).arrAt 3 cfg0.N = G3 m c := by
  refine (dats m 0 c).arrAt_eq_of_covers 3 _ (by decide +kernel) fun t hf y => ?_
  blk_simp
  rw [after0_3]
  idx_vars y
  refine ((inv m c t.val t.isLt y1).1 y0).trans ?_
  have e0 : (((View.whole main_v17_0).slice (win0_3.rect t)).emb (ix2 y0 y1) 0).val = 512 * (7 - t.val) + y0.val := by
    show win0_3.index t 0 * 512 + 1 * y0.val = _
    rw [(idx t).2.2.2.1]
    show (7 - t.val) * 512 + 1 * y0.val = _
    omega
  have e1 : ((View.whole main_v17_0).slice (win0_3.rect t)).emb (ix2 y0 y1) 1 = y1 := by
    apply Fin.ext
    show win0_3.index t 1 * 128 + 1 * y1.val = _
    rw [(idx t).2.2.2.1]
    show 0 * 128 + 1 * y1.val = _
    omega
  unfold G3
  rw [e0, e1]

theorem final4 (c : Dev nD) : (dats m 0 c).arrAt 4 cfg0.N = G4 m c := by
  refine (dats m 0 c).arrAt_eq_of_after_last 4 t0_7 (by decide +kernel) _ fun y => ?_
  blk_simp
  rw [after0_4]
  idx_vars y
  exact ((inv m c t0_7.val t0_7.isLt y1).2.1 y0)

end Cert.FoxPostIdeal.Hand

end
-- ==== Proof.FoxPostRef.lean ====
/- The reference's results at an index. -/
module

public import proofs.«01_k».proof.Proof.Gen.FoxPostRefIdeal.Run
public import proofs.«01_k».proof.Proof.Gen.FoxPostRefIdeal.Read
public import proofs.«01_k».proof.Proof.Common

@[expose] public section

set_option maxRecDepth 16384

noncomputable section

open Idealize.ShloMosaic Idealize.ShloMosaic.TcCoe Idealize.SL.Sem

namespace Cert.FoxPostRefIdeal.Hand

open Cert.FoxPostRefIdeal Cert.FoxPostRefIdeal.Value Cert.FoxPostRefIdeal.Read

variable (x0 : FVec Ideal S4096x2984 .f32) (x1 : FVec Ideal S8 .f32) (x2 : FVec Ideal S4096x8 .f32)

theorem v41_apply (r : Fin 4096) (l : Fin 8) :
    val_main_v4_1 (F := Ideal) x0 x1 (ix2 r l) = Cert.Common.lsg (x0 (ix2 r ⟨1536 + l.val, by omega⟩) + x1 (ix1 l)) := by
  pointwise [val_main_v0, val_main_v1, val_main_v2, val_main_v3, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v4_1]
  rw [Cert.Common.lsg, Cert.Common.inf_bits, if_neg (not_not_intro rfl)]

/-- The sum of a column of the cotangent from row `r` on. -/
theorem v6_apply (r : Fin 4096) (l : Fin 8) :
    val_main_v6 (F := Ideal) x2 (ix2 r l) = ∑ n ∈ Finset.Ico r.val 4096, Cert.Common.ext (fun k : Fin 4096 => x2 (ix2 k l)) n := by
  unfold val_main_v6
  exact Cert.Common.suffix_rows rfl x2 _ (by pointwise [val_main_call2_call0_v0, val_main_call2_call0_cst]) _ _ r l

/-- The gradient of the logits. -/
theorem v7_apply (r : Fin 4096) (l : Fin 8) :
    val_main_v7 (F := Ideal) x0 x1 x2 (ix2 r l)
      = (∑ n ∈ Finset.Ico r.val 4096, Cert.Common.ext (fun k : Fin 4096 => x2 (ix2 k l)) n) * Cert.Common.lsg (x0 (ix2 r ⟨1536 + l.val, by omega⟩) + x1 (ix1 l)) := by
  rw [← v6_apply, ← v41_apply]
  pointwise [val_main_v7, val_main_call3_v1, val_main_call3_v0]
  rw [EReal.neg_mul, neg_neg]

theorem v10_apply (l : Fin 8) :
    val_main_v10 (F := Ideal) x0 x1 x2 (ix1 l) = ∑ k : Fin 4096, val_main_v7 (F := Ideal) x0 x1 x2 (ix2 k l) := by
  pointwise [val_main_v10, val_main_v9, val_main_v8, val_main_cst, val_main_cst_0]
  first | exact Fintype.sum_unique _ | simp

theorem v11_apply (r : Fin 4096) (l : Fin 128) :
    val_main_v11 (F := Ideal) x0 x1 x2 (ix2 r l) = if h : l.val < 8 then val_main_v7 (F := Ideal) x0 x1 x2 (ix2 r ⟨l.val, h⟩) else (0 : EReal) := by
  pointwise [val_main_v11, val_main_call4_v0, val_main_c]
  rw [Cert.Common.sitofp_zero]

theorem v13_apply (r : Fin 8) (l : Fin 128) :
    val_main_v13 (F := Ideal) x0 x1 x2 (ix2 r l) = if h : l.val < 8 ∧ r.val = 0 then val_main_v10 (F := Ideal) x0 x1 x2 (ix1 ⟨l.val, h.1⟩) else (0 : EReal) := by
  pointwise [val_main_v13, val_main_v12, val_main_call5_v0, val_main_c_1]
  rw [Cert.Common.sitofp_zero]
  by_cases hl : l.val < 8
  · by_cases hr : r.val = 0
    · rw [dif_pos ⟨by omega, hl⟩, dif_pos ⟨hl, hr⟩]
    · rw [dif_neg (fun h => hr (by omega)), dif_neg (fun h => hr h.2)]
  · rw [dif_neg (fun h => hl h.2), dif_neg (fun h => hl h.1)]

end Cert.FoxPostRefIdeal.Hand

end
-- ==== Proof.FoxPostClaim.lean ====
/- The gate-gradient call and its reference end with the same arrays. -/
module

public import proofs.«01_k».proof.Defs
public import proofs.«01_k».proof.Proof.FoxPostValue
public import proofs.«01_k».proof.Proof.FoxPostRef

@[expose] public section

set_option maxRecDepth 16384

noncomputable section

open Idealize.ShloMosaic Idealize.ShloMosaic.TcCoe Idealize.SL.Sem

namespace Cert.FoxPostClaim

open Cert.FoxPostIdeal (nD τ S4096x2984 S8 S4096x8 S4096x128 S8x128)
open Cert.FoxPostIdeal.Hand Cert.FoxPostRefIdeal.Read Cert.FoxPostRefIdeal.Hand

variable (m : (ℓ : Loc nD τ Cert.FoxPostIdeal.sig) → Buf (Elt Ideal) ℓ)

/-- The three arguments. -/
abbrev A0 (c : Dev nD) : FVec Ideal S4096x2984 .f32 := m ((c.tc : Thread nD τ).loc Cert.FoxPostIdeal.main_arg0)
abbrev A1 (c : Dev nD) : FVec Ideal S8 .f32 := m ((c.tc : Thread nD τ).loc Cert.FoxPostIdeal.main_arg1)
abbrev A2 (c : Dev nD) : FVec Ideal S4096x8 .f32 := m ((c.tc : Thread nD τ).loc Cert.FoxPostIdeal.main_arg2)

/-- One entry of the gradient, in the eight columns that are gates. -/
theorem dff_of_lt (c : Dev nD) (l : Fin 128) (hl : l.val < 8) (r : Fin 4096) :
    dff m c l r.val = val_main_v7 (F := Ideal) (A0 m c) (A1 m c) (A2 m c) (ix2 r ⟨l.val, hl⟩) := by
  rw [v7_apply]
  unfold dff suf sg dc
  rw [Common.ext_val, if_pos hl, Common.sgm_eq_lsg]
  have h0 : ∀ k : Fin 4096, (Cert.FoxPostIdeal.Gen.V m c Cert.FoxPostIdeal.main_v0 : FVec Ideal S4096x128 .f32) (ix2 k l) = A2 m c (ix2 k ⟨l.val, hl⟩) := fun k => V0_apply m c k ⟨l.val, hl⟩
  have h1 : Zp m c (ix2 r ⟨1408 + l.val, by omega⟩) = A0 m c (ix2 r ⟨1536 + l.val, by omega⟩) := V14_apply m c r ⟨l.val, hl⟩
  have h2 : Bp m c (ix2 0 l) = A1 m c (ix1 ⟨l.val, hl⟩) := V16_apply m c ⟨l.val, hl⟩
  rw [h1, h2]
  congr 1
  refine Finset.sum_congr rfl fun n _ => ?_
  congr 1
  funext k
  exact h0 k

/-- The other columns are zero. -/
theorem dff_of_ge (c : Dev nD) (l : Fin 128) (hl : ¬ l.val < 8) (n : ℕ) : dff m c l n = 0 := by
  have h : sg m c l n = 0 := by
    unfold sg Common.ext
    split
    · dsimp only
    · rfl
  unfold dff
  rw [h, mul_zero]

theorem first_eq (c : Dev nD) : G3 m c = val_main_v11 (F := Ideal) (A0 m c) (A1 m c) (A2 m c) := by
  funext y
  idx_vars y
  rw [v11_apply]
  show dff m c y1 y0.val = _
  split
  · next h => exact dff_of_lt m c y1 h y0
  · next h => exact dff_of_ge m c y1 h y0.val

theorem second_eq (c : Dev nD) : G4 m c = val_main_v13 (F := Ideal) (A0 m c) (A1 m c) (A2 m c) := by
  funext y
  idx_vars y
  rw [v13_apply]
  show (if y0.val = 0 then ∑ k ∈ Finset.Ico 0 4096, dff m c y1 k else 0) = _
  by_cases h0 : y0.val = 0
  · rw [if_pos h0]
    by_cases hl : y1.val < 8
    · rw [dif_pos ⟨hl, h0⟩, v10_apply, Nat.Ico_zero_eq_range, ← Fin.sum_univ_eq_sum_range]
      exact Finset.sum_congr rfl fun k _ => dff_of_lt m c y1 hl k
    · rw [dif_neg (fun h => hl h.1)]
      exact Finset.sum_eq_zero fun k _ => dff_of_ge m c y1 hl k
  · rw [if_neg h0, dif_neg (fun h => h0 h.2)]

/-- The reference leaves its arguments as they were; it has no semaphore. -/
theorem frame_ref : Cert.quiescent_FoxPostRefIdeal (hFoxPostRefIdeal := Cert.FoxPostRefIdeal.Gen.facts) := fun m g _ =>
  (θ_run _ _ _).mono (fun r k => ⟨fun c => (k c).2.2, sem_eq_zero_of_no_sems rfl _⟩) (Cert.FoxPostRefIdeal.Value.run m g)

/-- The claim: one pair of arrays that both programs end with. -/
theorem algebraic : Cert.algebraic_FoxPostIdeal_FoxPostRefIdeal (hFoxPostIdeal := Cert.FoxPostIdeal.Gen.facts) (hFoxPostRefIdeal := Cert.FoxPostRefIdeal.Gen.facts) := by
  intro m g m' g' _ h
  refine ⟨fun c => G3 m c, fun c => G4 m c, ?_, ?_⟩
  · exact (θ_run _ _ _).mono (fun r k c => ⟨(k c).1.trans (final3 m c), (k c).2.1.trans (final4 m c), (k c).2.2⟩) (Cert.FoxPostIdeal.Value.run_blocks m g)
  · refine (θ_run _ _ _).mono (fun r k c => ⟨(k c).1.trans ?_, (k c).2.1.trans ?_, (k c).2.2⟩) (Cert.FoxPostRefIdeal.Value.run m' g')
    · rw [val_main_v11_eq, (h c).1, (h c).2.1, (h c).2.2]
      exact (first_eq m c).symm
    · rw [val_main_v13_eq, (h c).1, (h c).2.1, (h c).2.2]
      exact (second_eq m c).symm

end Cert.FoxPostClaim

end
-- ==== Proof.Owned.lean ====
/-
  Runs of straight-line programs over whole buffers, as equations on contents: a family of resources `H σ` indexed by a state `σ`,
  and `Runs H p σ b σ'`: from the resources at `σ` the program `p` returns `b` and leaves those at `σ'`. A load is a window of the
  state's contents, a store puts one; sequences, branches and counted loops compose.
-/
module

public import Idealize.ShloMosaic.Lib.VecWindow
public import Idealize.ShloMosaic.Lib.Scf
public import Idealize.ShloMosaic.Lib.Memref
public import Idealize.ShloMosaic.Lib.Tactic
public import Idealize.ShloMosaic.Lib.Pipeline.Kit

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {c : Dev nD} {α β S : Type}

local notation "𝕄" => MT nD τ sig Ix Val Name U Lvl

variable (defs) (𝒱) (c) in
/-- From the resources at `σ` the program returns `b` and leaves those at `σ'`. -/
def Runs (H : S → sProp 𝕄) (p : Prog (TpuEff nD τ sig Val Λ .tc) α) (σ : S) (b : α) (σ' : S) : Prop :=
  ∀ Q : α → sProp 𝕄, (H σ' ⊢ Q b) → (H σ ⊢ wp frame (wpE defs 𝒱 (c : Thread nD τ) none) Set.univ p Q)

variable (c) in
/-- The memref `arg` is one of the resources: at `σ` its contents are `X`, and with other contents there the state is `upd` of them. -/
def Focus (H : S → sProp 𝕄) (σ : S) {sp : Space} {sh : Shape} {e : EltTy} (arg : Memref sig .tc sp sh e) (X : sh.Idx → Val e)
    (upd : (sh.Idx → Val e) → S) : Prop :=
  H σ ⊢ iprop(owns (c : Thread nD τ) arg fullShare X ∗ (∀ Y, owns (c : Thread nD τ) arg fullShare Y -∗ H (upd Y)))

variable {H : S → sProp (MT nD τ sig Ix Val Name U Lvl)} {σ σ₁ σ' : S}

/-- A finished program. -/
theorem Runs.ret {b : α} : Runs defs 𝒱 c H (pure b) σ b σ := fun Q h => by
  rw [wp_pure]
  exact h.trans fupd_intro

/-- A finished program, its result and state restated. -/
theorem Runs.ret' {a b : α} (hb : a = b) (hσ : σ = σ') : Runs defs 𝒱 c H (pure a) σ b σ' := by
  subst hb hσ; exact Runs.ret

/-- Two programs one after the other. -/
theorem Runs.bind {p : Prog (TpuEff nD τ sig Val Λ .tc) α} {k : α → Prog (TpuEff nD τ sig Val Λ .tc) β} {a : α} {b : β}
    (hp : Runs defs 𝒱 c H p σ a σ₁) (hk : Runs defs 𝒱 c H (k a) σ₁ b σ') : Runs defs 𝒱 c H (p >>= k) σ b σ' := fun Q h => by
  rw [wp_bind]
  exact hp _ (hk Q h)

/-- A sequence inside a sequence. -/
theorem Runs.assoc {γ : Type} {p : Prog (TpuEff nD τ sig Val Λ .tc) γ} {k : γ → Prog (TpuEff nD τ sig Val Λ .tc) α}
    {k' : α → Prog (TpuEff nD τ sig Val Λ .tc) β} {b : β} (h : Runs defs 𝒱 c H (p >>= fun x => k x >>= k') σ b σ') :
    Runs defs 𝒱 c H ((p >>= k) >>= k') σ b σ' := by
  rw [bind_assoc]; exact h

/-- A finished program, then another. -/
theorem Runs.pureBind {k : α → Prog (TpuEff nD τ sig Val Λ .tc) β} {a : α} {b : β} (h : Runs defs 𝒱 c H (k a) σ b σ') :
    Runs defs 𝒱 c H (pure a >>= k) σ b σ' := by
  rw [pure_bind]; exact h

section Access

variable {cs : CoreSpace} {sh : Shape} {e : EltTy} {arg : Memref sig .tc cs sh e} {X : sh.Idx → Val e} {upd : (sh.Idx → Val e) → S}

/-- A load reads a function of the contents. -/
theorem Runs.load {r : LoadRect sh} {hl : arg.view.LoadsAt r} {k : (r.shape.Idx → Val e) → Prog (TpuEff nD τ sig Val Λ .tc) β} {b : β}
    (hf : Focus c H σ arg X upd) (hu : upd X = σ) (x : r.shape.Idx → Val e) (hx : ∀ f, arg.view.read Val f = X → arg.view.readAt Val r f = x)
    (h : Runs defs 𝒱 c H (k x) σ b σ') : Runs defs 𝒱 c H (Prog.lift (.load arg r hl) >>= k) σ b σ' := fun Q hQ => by
  rw [Prog.bind_lift]
  refine hf.trans ?_
  unfold owns
  iintro ⟨⟨%f, %e, Hf⟩, Hk⟩
  iapply (wp_load 𝒱 (c : Thread nD τ) none Set.univ (hl := hl) (k := k) (Q := Q) (f := f) (View.setOn_subset_set _ _)) $$ Hf
  iintro Hf
  rw [hx f e]
  iapply (h Q hQ)
  rw [show H σ = H (upd X) by rw [hu]]
  iapply Hk
  iexists f
  isplitr
  · ipureintro; exact e
  · iexact Hf

/-- A store through a unit-stride rectangle puts its payload over that window. -/
theorem Runs.store {off off' size : Fin sh.rank → ℕ} {inb : ∀ a, off a + size a ≤ sh.size a}
    {w : (Rect.unit off size inb).shape.Idx → Val e} {hx : (arg.access (Rect.unit off size inb)).Stores Finset.univ}
    {hm : Finset.univ = Finset.univ ∨ ∀ a, (Rect.unit off size inb).stride a = 1}
    {k : PUnit → Prog (TpuEff nD τ sig Val Λ .tc) β} {b : β} (ho : off = off')
    (hf : Focus c H σ arg X upd) (h : Runs defs 𝒱 c H (k ⟨⟩) (upd (VecWindow.put X off' size w)) b σ') :
    Runs defs 𝒱 c H (Prog.lift (.store arg (Rect.unit off size inb) w Finset.univ hx hm) >>= k) σ b σ' := fun Q hQ => by
  rw [Prog.bind_lift]
  refine hf.trans ?_
  unfold owns
  iintro ⟨⟨%f, %e, Hf⟩, Hk⟩
  iapply (wp_store 𝒱 (c : Thread nD τ) none Set.univ (hx := hx) (hm := hm) (k := k) (Q := Q) (f := f) (by
    rw [View.setOn_univ]; exact View.set_slice_subset _ _)) $$ Hf
  iintro Hf
  iapply (h Q hQ)
  iapply Hk
  iexists _
  isplitr
  swap
  · iexact Hf
  · ipureintro
    subst e
    exact View.read_writes_cons_put arg.view f inb w [] ho

/-- A load through a unit-stride rectangle reads that window. -/
theorem Runs.loadWin {off off' size : Fin sh.rank → ℕ} {inb : ∀ a, off a + size a ≤ sh.size a} (inb' : ∀ a, off' a + size a ≤ sh.size a)
    {hl : arg.view.LoadsAt (Rect.unit off size inb).toLoadRect} {k : ((Rect.unit off size inb).shape.Idx → Val e) → Prog (TpuEff nD τ sig Val Λ .tc) β} {b : β}
    (ho : off = off') (hf : Focus c H σ arg X upd) (hu : upd X = σ)
    (h : Runs defs 𝒱 c H (k (VecWindow.window X off' size inb')) σ b σ') :
    Runs defs 𝒱 c H (Prog.lift (.load arg (Rect.unit off size inb).toLoadRect hl) >>= k) σ b σ' :=
  Runs.load hf hu _ (fun f e => by subst e; exact View.readAt_unit arg.view f inb ho inb') h

/-- A load of the whole buffer reads its contents. -/
theorem Runs.loadFull {off : Fin sh.rank → ℕ} {inb : ∀ a, off a + sh.size a ≤ sh.size a}
    {hl : arg.view.LoadsAt (Rect.unit off sh.size inb).toLoadRect} {k : ((Rect.unit off sh.size inb).shape.Idx → Val e) → Prog (TpuEff nD τ sig Val Λ .tc) β} {b : β}
    (hf : Focus c H σ arg X upd) (hu : upd X = σ) (h : Runs defs 𝒱 c H (k X) σ b σ') :
    Runs defs 𝒱 c H (Prog.lift (.load arg (Rect.unit off sh.size inb).toLoadRect hl) >>= k) σ b σ' :=
  Runs.load hf hu X (fun f e => by subst e; exact View.readAt_full arg.view f inb) h

/-- A store of the whole buffer leaves its payload. -/
theorem Runs.storeFull {off : Fin sh.rank → ℕ} {inb : ∀ a, off a + sh.size a ≤ sh.size a}
    {w : (Rect.unit off sh.size inb).shape.Idx → Val e} {hx : (arg.access (Rect.unit off sh.size inb)).Stores Finset.univ}
    {hm : Finset.univ = Finset.univ ∨ ∀ a, (Rect.unit off sh.size inb).stride a = 1}
    {k : PUnit → Prog (TpuEff nD τ sig Val Λ .tc) β} {b : β}
    (hf : Focus c H σ arg X upd) (h : Runs defs 𝒱 c H (k ⟨⟩) (upd w) b σ') :
    Runs defs 𝒱 c H (Prog.lift (.store arg (Rect.unit off sh.size inb) w Finset.univ hx hm) >>= k) σ b σ' := by
  refine Runs.store (off' := off) rfl hf ?_
  have e : VecWindow.put X off sh.size w = w := funext fun y => by
    have h0 : ∀ a, off a = 0 := fun a => by have := inb a; omega
    unfold VecWindow.put
    rw [dif_pos fun a => ⟨by rw [h0 a]; exact Nat.zero_le _, by rw [h0 a, Nat.zero_add]; exact (y a).isLt⟩]
    exact congrArg w (funext fun a => Fin.ext (by rw [Rect.unitLocal_val, h0 a, Nat.sub_zero]))
  rw [e]; exact h

end Access

/-- A counted loop, from what each trip does. -/
theorem Runs.loop (l : Scf.Loop 32) (hok : l.OK) (body : Fin l.trips → α → Prog (TpuEff nD τ sig Val Λ .tc) α) (acc : ℕ → α) (st : ℕ → S)
    (hstep : ∀ k : Fin l.trips, Runs defs 𝒱 c H (body k (acc k.val)) (st k.val) (acc (k.val + 1)) (st (k.val + 1))) :
    Runs defs 𝒱 c H (Scf.Loop.for l hok (acc 0) body) (st 0) (acc l.trips) (st l.trips) := by
  unfold Scf.Loop.for
  rw [Scf.for_eq]
  have key : ∀ m j, j + m = l.trips →
      Runs defs 𝒱 c H (Scf.forFrom body ((List.finRange l.trips).drop j) (acc j)) (st j) (acc l.trips) (st l.trips) := by
    intro m
    induction m with
    | zero =>
      intro j hj
      have hj' : j = l.trips := by omega
      subst hj'
      rw [List.drop_of_length_le (by simp)]
      exact Runs.ret
    | succ m ih =>
      intro j hj
      have hlt : j < l.trips := by omega
      rw [List.drop_eq_getElem_cons (by simpa using hlt), Scf.forFrom_cons]
      have e : (List.finRange l.trips)[j]'(by simpa using hlt) = ⟨j, hlt⟩ := by simp
      rw [e]
      exact Runs.bind (hstep ⟨j, hlt⟩) (ih (j + 1) (by omega))
  exact key l.trips 0 (by omega)

end Cert.Owned

end
-- ==== Proof.FoxBwdRun.lean ====
/-
  The body of the gradient of the forgetting attention, run once over any floats. What the body leaves is a fold of one block
  update (`upd`) over the query blocks from the diagonal one on: the three ways the body starts (one, two or three blocks) and its
  loop of two blocks a trip all give the same fold.
-/
module

public import proofs.«01_k».proof.Proof.Owned
public import proofs.«01_k».proof.Proof.Gen.FoxBwdIdeal.Frame
public import proofs.«01_k».proof.Proof.Gen.FoxBwdIdeal.Skeleton

@[expose] public section

set_option maxRecDepth 16384
set_option maxHeartbeats 1000000

noncomputable section

namespace Cert.FoxBwdRun

open Cert.FoxBwdIdeal Cert.FoxBwdIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The state and one block's update -/

/-- What the body only reads: all query rows, the block's keys and values, the cotangent's rows, the rows' statistics, the bias. -/
structure Ins (F : FTy → Type) where
  q : Vec F S4096x128 .bf16
  k : Vec F S256x128 .bf16
  v : Vec F S256x128 .bf16
  o : Vec F S4096x128 .bf16
  st : Vec F S4096x128 .f32
  ct : Vec F S1x1x8x256 .f32

/-- What the body writes: the gradients of the queries, keys, values, and the two of the bias. -/
structure Outs (F : FTy → Type) where
  dq : Vec F S4096x128 .f32
  dk : Vec F S256x128 .f32
  dv : Vec F S256x128 .f32
  dc : Vec F S1x256x128 .f32
  dr : Vec F S1x16x8x256 .f32

theorem rows_inb (b : Fin 16) : ∀ a, (![256 * b.val, 0] : Fin 2 → ℕ) a + S256x128.size a ≤ S4096x128.size a :=
  Fin.forall_fin_two.mpr ⟨by show 256 * b.val + 256 ≤ 4096; omega, by show 0 + 128 ≤ 128; omega⟩

theorem drow_inb (b : Fin 16) : ∀ a, (![0, b.val, 0, 0] : Fin 4 → ℕ) a + S1x1x8x256.size a ≤ S1x16x8x256.size a := by
  revert b; decide

/-- The rows of query block `b`. -/
def rows {e : EltTy} (X : Vec F S4096x128 e) (b : Fin 16) : Vec F S256x128 e :=
  VecWindow.window X ![256 * b.val, 0] S256x128.size (rows_inb b)

/-- The rows of query block `b` replaced. -/
def putRows {e : EltTy} (X : Vec F S4096x128 e) (b : Fin 16) (w : Vec F S256x128 e) : Vec F S4096x128 e :=
  VecWindow.put X ![256 * b.val, 0] S256x128.size w

/-- The part of the bias' gradient along the rows that belongs to query block `b`, -/
def drow (X : Vec F S1x16x8x256 .f32) (b : Fin 16) : Vec F S1x1x8x256 .f32 :=
  VecWindow.window X ![0, b.val, 0, 0] S1x1x8x256.size (drow_inb b)

/-- and that part replaced. -/
def putDrow (X : Vec F S1x16x8x256 .f32) (b : Fin 16) (w : Vec F S1x1x8x256 .f32) : Vec F S1x16x8x256 .f32 :=
  VecWindow.put X ![0, b.val, 0, 0] S1x1x8x256.size w

/-- A 512 by 256 matrix times a block's rows. -/
def mm (w : FVec F S512x256 .f32) (x : Vec F S256x128 .bf16) : FVec F S512x128 .f32 :=
  matmul dot_S512x256_S256x128_S512x128_1_0_0_1_n_n none (truncf .bf16 w bitsLt_bf16_f32)
    (shapeCast S256x128 x shapeCasts_S256x128_S256x128) (constant S512x128 .f32 0x00000000#32)

/-- The two heads' keys (values), one above the other, each with the other's lanes zero; and the keys' bias as a column. -/
structure Keys (F : FTy → Type) where
  k2 : FVec F S512x128 .bf16
  v2 : FVec F S512x128 .bf16
  ck : FVec F S512x1 .f32

def keys (x : Ins F) : Keys F := ⟨k0_pay161 x.k, k0_pay162 x.v, k0_pay164 (k0_pay163 x.ct)⟩

/-- The update by query block `b` of probabilities `p` and their gradient `ds`, with the carried column. -/
def upd (x : Ins F) (k2 : FVec F S512x128 .bf16) (p ds : FVec F S512x256 .f32) (b : Fin 16) (s : Outs F × FVec F S512x1 .f32) :
    Outs F × FVec F S512x1 .f32 :=
  (⟨putRows s.1.dq b (k0_pay127 k2 (truncf .bf16 ds bitsLt_bf16_f32) (rows s.1.dq b)),
    k0_pay97 (mm ds (rows x.q b)) s.1.dk, k0_pay97 (mm p (rows x.o b)) s.1.dv, s.1.dc,
    putDrow s.1.dr b (k0_pay128 ds (drow s.1.dr b))⟩, k0_pay1 s.2 ds)

/-- The update by a block wholly below the diagonal. -/
def blkU (x : Ins F) (K : Keys F) (b : Fin 16) (s : Outs F × FVec F S512x1 .f32) : Outs F × FVec F S512x1 .f32 :=
  upd x K.k2 (k0_pay120 K.ck (k0_pay102 K.k2 (rows x.q b)) (rows x.st b))
    (k0_pay121 K.ck (k0_pay102 K.k2 (rows x.q b)) (k0_pay101 K.v2 (rows x.o b)) (rows x.st b)) b s

/-- The masked probabilities of the diagonal block (`a` its number as the body has it), -/
def pM (x : Ins F) (K : Keys F) (a : BitVec 32) (b : Fin 16) : FVec F S512x256 .f32 :=
  k0_pay92 a (Scalar.muli a 256#32) K.k2 K.ck (rows x.q b) (rows x.st b)

/-- their gradient, -/
def dsM (x : Ins F) (K : Keys F) (a : BitVec 32) (b : Fin 16) : FVec F S512x256 .f32 :=
  k0_pay95 (k0_pay101 K.v2 (rows x.o b)) (k0_pay91 (rows x.st b)) (pM x K a b)
    (k0_pay94 a (Scalar.muli a 256#32) K.k2 K.ck (rows x.q b) (rows x.st b))

/-- and the update by it. -/
def blkM (x : Ins F) (K : Keys F) (a : BitVec 32) (b : Fin 16) (s : Outs F × FVec F S512x1 .f32) : Outs F × FVec F S512x1 .f32 :=
  upd x K.k2 (pM x K a b) (dsM x K a b) b s

/-- The `n`-th block from block `j` on. -/
def bk (j n : ℕ) : Fin 16 := Fin.ofNat 16 (j + n)

/-- The first `n` updates from block `j` on. -/
def run (x : Ins F) (j : ℕ) (s : Outs F) : ℕ → Outs F × FVec F S512x1 .f32
  | 0 => (s, k0_pay165)
  | 1 => blkM x (keys x) (BitVec.ofNat 32 j) (bk j 0) (run x j s 0)
  | n + 2 => blkU x (keys x) (bk j (n + 1)) (run x j s (n + 1))

/-- What the body clears before it starts: at the first block of keys everything, later not the queries' and rows' parts. -/
def reset (j : ℕ) (s : Outs F) : Outs F :=
  ⟨if j = 0 then k0_pay157 else s.dq, k0_pay159, k0_pay160, s.dc, if j = 0 then k0_pay158 else s.dr⟩

/-- What the body leaves at key block `j`. -/
def point (x : Ins F) (j : ℕ) (s : Outs F) : Outs F :=
  { (run x j (reset j s) (16 - j)).1 with dc := k0_pay3 (run x j (reset j s) (16 - j)).2 }

/-! ## Where the body's accesses lie -/

/-- How many blocks the body takes before its loop. -/
def taken (i : grid0.Coords) : ℕ := if (i 1).val = 15 then 1 else 2 + (16 - (i 1).val) % 2

theorem trips1 : ∀ i : grid0.Coords, taken i + 2 * (k0_t1_loop i).trips = 16 - (i 1).val := by decide +kernel
theorem trips2 : ∀ i : grid0.Coords, (k0_t2_loop i).trips = 0 := by decide +kernel
theorem off9 : ∀ (i : grid0.Coords) (t : Fin (k0_t1_loop i).trips), k0_off9 i t = ![256 * (bk (i 1).val (taken i + 2 * t.val)).val, 0] := by
  decide +kernel
theorem off10 : ∀ (i : grid0.Coords) (t : Fin (k0_t1_loop i).trips), k0_off10 i t = ![256 * (bk (i 1).val (taken i + 2 * t.val + 1)).val, 0] := by
  decide +kernel
theorem off11 : ∀ (i : grid0.Coords) (t : Fin (k0_t1_loop i).trips), k0_off11 i t = ![0, (bk (i 1).val (taken i + 2 * t.val)).val, 0, 0] := by
  decide +kernel
theorem off12 : ∀ (i : grid0.Coords) (t : Fin (k0_t1_loop i).trips), k0_off12 i t = ![0, (bk (i 1).val (taken i + 2 * t.val + 1)).val, 0, 0] := by
  decide +kernel
theorem off1 : ∀ (i : grid0.Coords) (_ : k0_cond2 i = 1#1) (_ : k0_cond3 i = 1#1) (r : Fin 3),
    k0_off1 i (BitVec.ofNat 32 r.val) = ![256 * (bk (i 1).val r.val).val, 0] := by decide +kernel
theorem off2 : ∀ (i : grid0.Coords) (_ : k0_cond2 i = 1#1) (_ : k0_cond3 i = 1#1) (r : Fin 3),
    k0_off2 i (BitVec.ofNat 32 r.val) = ![0, (bk (i 1).val r.val).val, 0, 0] := by decide +kernel
theorem off3 : ∀ (i : grid0.Coords) (_ : k0_cond2 i = 1#1), k0_off3 i = ![256 * (bk (i 1).val 0).val, 0] := by decide +kernel
theorem off4 : ∀ (i : grid0.Coords) (_ : k0_cond2 i = 1#1), k0_off4 i = ![256 * (bk (i 1).val 1).val, 0] := by decide +kernel
theorem off5 : ∀ (i : grid0.Coords) (_ : k0_cond2 i = 1#1), k0_off5 i = ![0, (bk (i 1).val 0).val, 0, 0] := by decide +kernel
theorem off6 : ∀ (i : grid0.Coords) (_ : k0_cond2 i = 1#1), k0_off6 i = ![0, (bk (i 1).val 1).val, 0, 0] := by decide +kernel
theorem off7 : ∀ (i : grid0.Coords), k0_off7 i = ![256 * (bk (i 1).val 0).val, 0] := by decide +kernel
theorem off8 : ∀ (i : grid0.Coords), k0_off8 i = ![0, (bk (i 1).val 0).val, 0, 0] := by decide +kernel
theorem taken1 : ∀ i : grid0.Coords, ¬ k0_cond2 i = 1#1 → taken i = 1 := by decide +kernel
theorem taken2 : ∀ i : grid0.Coords, k0_cond2 i = 1#1 → ¬ k0_cond3 i = 1#1 → taken i = 2 := by decide +kernel
theorem taken3 : ∀ i : grid0.Coords, k0_cond2 i = 1#1 → k0_cond3 i = 1#1 → taken i = 3 := by decide +kernel

/-! ## The body's run -/

variable (c : Dev nD) (i : grid0.Coords)
  (arg2 : Memref sig .tc .vmem S4096x128 .bf16) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S4096x128 .bf16) (harg5 : arg5.IsWhole)
  (arg6 : Memref sig .tc .vmem S4096x128 .f32) (harg6 : arg6.IsWhole) (arg7 : Memref sig .tc .vmem S1x1x8x256 .f32) (harg7 : arg7.IsWhole)
  (arg8 : Memref sig .tc .vmem S4096x128 .f32) (harg8 : arg8.IsWhole) (arg9 : Memref sig .tc .vmem S256x128 .f32) (harg9 : arg9.IsWhole)
  (arg10 : Memref sig .tc .vmem S256x128 .f32) (harg10 : arg10.IsWhole) (arg11 : Memref sig .tc .vmem S1x256x128 .f32) (harg11 : arg11.IsWhole)
  (arg12 : Memref sig .tc .vmem S1x16x8x256 .f32) (harg12 : arg12.IsWhole)

/-- The body's buffers, the inputs' at `x`, the outputs' at `s`. -/
def Held (x : Ins F) (s : Outs F) : sProp 𝕄 :=
  iprop(owns (c : Thread nD τ) arg2 fullShare x.q ∗ owns (c : Thread nD τ) arg3 fullShare x.k ∗ owns (c : Thread nD τ) arg4 fullShare x.v
    ∗ owns (c : Thread nD τ) arg5 fullShare x.o ∗ owns (c : Thread nD τ) arg6 fullShare x.st ∗ owns (c : Thread nD τ) arg7 fullShare x.ct
    ∗ owns (c : Thread nD τ) arg8 fullShare s.dq ∗ owns (c : Thread nD τ) arg9 fullShare s.dk ∗ owns (c : Thread nD τ) arg10 fullShare s.dv
    ∗ owns (c : Thread nD τ) arg11 fullShare s.dc ∗ owns (c : Thread nD τ) arg12 fullShare s.dr)

/-- The body's buffers as one state. -/
abbrev HH : Ins F × Outs F → sProp 𝕄 := fun s => Held c arg2 arg3 arg4 arg5 arg6 arg7 arg8 arg9 arg10 arg11 arg12 s.1 s.2

section Focus

variable (x : Ins F) (s : Outs F)

local notation "H" => HH (F := F) c arg2 arg3 arg4 arg5 arg6 arg7 arg8 arg9 arg10 arg11 arg12

theorem f2 : Focus c H (x, s) arg2 x.q (fun y => ({ x with q := y }, s)) := by
  unfold Focus HH Held; dsimp only
  iintro ⟨h2, h3, h4, h5, h6, h7, h8, h9, h10, h11, h12⟩
  isplitl [h2]; · iexact h2
  iintro %y h2; iframe h2 h3 h4 h5 h6 h7 h8 h9 h10 h11 h12
theorem f3 : Focus c H (x, s) arg3 x.k (fun y => ({ x with k := y }, s)) := by
  unfold Focus HH Held; dsimp only
  iintro ⟨h2, h3, h4, h5, h6, h7, h8, h9, h10, h11, h12⟩
  isplitl [h3]; · iexact h3
  iintro %y h3; iframe h2 h3 h4 h5 h6 h7 h8 h9 h10 h11 h12
theorem f4 : Focus c H (x, s) arg4 x.v (fun y => ({ x with v := y }, s)) := by
  unfold Focus HH Held; dsimp only
  iintro ⟨h2, h3, h4, h5, h6, h7, h8, h9, h10, h11, h12⟩
  isplitl [h4]; · iexact h4
  iintro %y h4; iframe h2 h3 h4 h5 h6 h7 h8 h9 h10 h11 h12
theorem f5 : Focus c H (x, s) arg5 x.o (fun y => ({ x with o := y }, s)) := by
  unfold Focus HH Held; dsimp only
  iintro ⟨h2, h3, h4, h5, h6, h7, h8, h9, h10, h11, h12⟩
  isplitl [h5]; · iexact h5
  iintro %y h5; iframe h2 h3 h4 h5 h6 h7 h8 h9 h10 h11 h12
theorem f6 : Focus c H (x, s) arg6 x.st (fun y => ({ x with st := y }, s)) := by
  unfold Focus HH Held; dsimp only
  iintro ⟨h2, h3, h4, h5, h6, h7, h8, h9, h10, h11, h12⟩
  isplitl [h6]; · iexact h6
  iintro %y h6; iframe h2 h3 h4 h5 h6 h7 h8 h9 h10 h11 h12
theorem f7 : Focus c H (x, s) arg7 x.ct (fun y => ({ x with ct := y }, s)) := by
  unfold Focus HH Held; dsimp only
  iintro ⟨h2, h3, h4, h5, h6, h7, h8, h9, h10, h11, h12⟩
  isplitl [h7]; · iexact h7
  iintro %y h7; iframe h2 h3 h4 h5 h6 h7 h8 h9 h10 h11 h12
theorem f8 : Focus c H (x, s) arg8 s.dq (fun y => (x, { s with dq := y })) := by
  unfold Focus HH Held; dsimp only
  iintro ⟨h2, h3, h4, h5, h6, h7, h8, h9, h10, h11, h12⟩
  isplitl [h8]; · iexact h8
  iintro %y h8; iframe h2 h3 h4 h5 h6 h7 h8 h9 h10 h11 h12
theorem f9 : Focus c H (x, s) arg9 s.dk (fun y => (x, { s with dk := y })) := by
  unfold Focus HH Held; dsimp only
  iintro ⟨h2, h3, h4, h5, h6, h7, h8, h9, h10, h11, h12⟩
  isplitl [h9]; · iexact h9
  iintro %y h9; iframe h2 h3 h4 h5 h6 h7 h8 h9 h10 h11 h12
theorem f10 : Focus c H (x, s) arg10 s.dv (fun y => (x, { s with dv := y })) := by
  unfold Focus HH Held; dsimp only
  iintro ⟨h2, h3, h4, h5, h6, h7, h8, h9, h10, h11, h12⟩
  isplitl [h10]; · iexact h10
  iintro %y h10; iframe h2 h3 h4 h5 h6 h7 h8 h9 h10 h11 h12
theorem f11 : Focus c H (x, s) arg11 s.dc (fun y => (x, { s with dc := y })) := by
  unfold Focus HH Held; dsimp only
  iintro ⟨h2, h3, h4, h5, h6, h7, h8, h9, h10, h11, h12⟩
  isplitl [h11]; · iexact h11
  iintro %y h11; iframe h2 h3 h4 h5 h6 h7 h8 h9 h10 h11 h12
theorem f12 : Focus c H (x, s) arg12 s.dr (fun y => (x, { s with dr := y })) := by
  unfold Focus HH Held; dsimp only
  iintro ⟨h2, h3, h4, h5, h6, h7, h8, h9, h10, h11, h12⟩
  isplitl [h12]; · iexact h12
  iintro %y h12; iframe h2 h3 h4 h5 h6 h7 h8 h9 h10 h11 h12

end Focus

section Steps

variable {c arg2 arg3 arg4 arg5 arg6 arg7 arg8 arg9 arg10 arg11 arg12} {x : Ins F} {dq : Vec F S4096x128 .f32} {dk dv : Vec F S256x128 .f32}
  {dc : Vec F S1x256x128 .f32} {dr : Vec F S1x16x8x256 .f32} {α : Type} {a : α} {σ : Ins F × Outs F} {b : Fin 16}

local notation "R" => Runs (defs₀ (F := F)) Variants.none c (HH (F := F) c arg2 arg3 arg4 arg5 arg6 arg7 arg8 arg9 arg10 arg11 arg12)

theorem l2 {off} {inb : ∀ a, off a + S256x128.size a ≤ S4096x128.size a} {hl : arg2.view.LoadsAt (Rect.unit (s := S4096x128) off S256x128.size inb).toLoadRect} {k}
    (ho : off = ![256 * b.val, 0]) (h : R (k (rows x.q b)) (x, ⟨dq, dk, dv, dc, dr⟩) a σ) :
    R (Prog.lift (.load arg2 (Rect.unit (s := S4096x128) off S256x128.size inb).toLoadRect hl) >>= k) (x, ⟨dq, dk, dv, dc, dr⟩) a σ :=
  Runs.loadWin (rows_inb b) ho (f2 c arg2 arg3 arg4 arg5 arg6 arg7 arg8 arg9 arg10 arg11 arg12 x ⟨dq, dk, dv, dc, dr⟩) rfl h
theorem l3 {off} {inb : ∀ a, off a + S256x128.size a ≤ S256x128.size a} {hl : arg3.view.LoadsAt (Rect.unit (s := S256x128) off S256x128.size inb).toLoadRect} {k}
    (h : R (k x.k) (x, ⟨dq, dk, dv, dc, dr⟩) a σ) :
    R (Prog.lift (.load arg3 (Rect.unit (s := S256x128) off S256x128.size inb).toLoadRect hl) >>= k) (x, ⟨dq, dk, dv, dc, dr⟩) a σ :=
  Runs.loadFull (f3 c arg2 arg3 arg4 arg5 arg6 arg7 arg8 arg9 arg10 arg11 arg12 x ⟨dq, dk, dv, dc, dr⟩) rfl h
theorem l4 {off} {inb : ∀ a, off a + S256x128.size a ≤ S256x128.size a} {hl : arg4.view.LoadsAt (Rect.unit (s := S256x128) off S256x128.size inb).toLoadRect} {k}
    (h : R (k x.v) (x, ⟨dq, dk, dv, dc, dr⟩) a σ) :
    R (Prog.lift (.load arg4 (Rect.unit (s := S256x128) off S256x128.size inb).toLoadRect hl) >>= k) (x, ⟨dq, dk, dv, dc, dr⟩) a σ :=
  Runs.loadFull (f4 c arg2 arg3 arg4 arg5 arg6 arg7 arg8 arg9 arg10 arg11 arg12 x ⟨dq, dk, dv, dc, dr⟩) rfl h
theorem l5 {off} {inb : ∀ a, off a + S256x128.size a ≤ S4096x128.size a} {hl : arg5.view.LoadsAt (Rect.unit (s := S4096x128) off S256x128.size inb).toLoadRect} {k}
    (ho : off = ![256 * b.val, 0]) (h : R (k (rows x.o b)) (x, ⟨dq, dk, dv, dc, dr⟩) a σ) :
    R (Prog.lift (.load arg5 (Rect.unit (s := S4096x128) off S256x128.size inb).toLoadRect hl) >>= k) (x, ⟨dq, dk, dv, dc, dr⟩) a σ :=
  Runs.loadWin (rows_inb b) ho (f5 c arg2 arg3 arg4 arg5 arg6 arg7 arg8 arg9 arg10 arg11 arg12 x ⟨dq, dk, dv, dc, dr⟩) rfl h
theorem l6 {off} {inb : ∀ a, off a + S256x128.size a ≤ S4096x128.size a} {hl : arg6.view.LoadsAt (Rect.unit (s := S4096x128) off S256x128.size inb).toLoadRect} {k}
    (ho : off = ![256 * b.val, 0]) (h : R (k (rows x.st b)) (x, ⟨dq, dk, dv, dc, dr⟩) a σ) :
    R (Prog.lift (.load arg6 (Rect.unit (s := S4096x128) off S256x128.size inb).toLoadRect hl) >>= k) (x, ⟨dq, dk, dv, dc, dr⟩) a σ :=
  Runs.loadWin (rows_inb b) ho (f6 c arg2 arg3 arg4 arg5 arg6 arg7 arg8 arg9 arg10 arg11 arg12 x ⟨dq, dk, dv, dc, dr⟩) rfl h
theorem l7 {off} {inb : ∀ a, off a + S1x1x8x256.size a ≤ S1x1x8x256.size a} {hl : arg7.view.LoadsAt (Rect.unit (s := S1x1x8x256) off S1x1x8x256.size inb).toLoadRect} {k}
    (h : R (k x.ct) (x, ⟨dq, dk, dv, dc, dr⟩) a σ) :
    R (Prog.lift (.load arg7 (Rect.unit (s := S1x1x8x256) off S1x1x8x256.size inb).toLoadRect hl) >>= k) (x, ⟨dq, dk, dv, dc, dr⟩) a σ :=
  Runs.loadFull (f7 c arg2 arg3 arg4 arg5 arg6 arg7 arg8 arg9 arg10 arg11 arg12 x ⟨dq, dk, dv, dc, dr⟩) rfl h
theorem l8 {off} {inb : ∀ a, off a + S256x128.size a ≤ S4096x128.size a} {hl : arg8.view.LoadsAt (Rect.unit (s := S4096x128) off S256x128.size inb).toLoadRect} {k}
    (ho : off = ![256 * b.val, 0]) (h : R (k (rows dq b)) (x, ⟨dq, dk, dv, dc, dr⟩) a σ) :
    R (Prog.lift (.load arg8 (Rect.unit (s := S4096x128) off S256x128.size inb).toLoadRect hl) >>= k) (x, ⟨dq, dk, dv, dc, dr⟩) a σ :=
  Runs.loadWin (rows_inb b) ho (f8 c arg2 arg3 arg4 arg5 arg6 arg7 arg8 arg9 arg10 arg11 arg12 x ⟨dq, dk, dv, dc, dr⟩) rfl h
theorem s8 {off} {inb : ∀ a, off a + S256x128.size a ≤ S4096x128.size a} {w hx hm k}
    (ho : off = ![256 * b.val, 0]) (h : R (k ⟨⟩) (x, ⟨putRows dq b w, dk, dv, dc, dr⟩) a σ) :
    R (Prog.lift (.store arg8 (Rect.unit (s := S4096x128) off S256x128.size inb) w Finset.univ hx hm) >>= k) (x, ⟨dq, dk, dv, dc, dr⟩) a σ :=
  Runs.store ho (f8 c arg2 arg3 arg4 arg5 arg6 arg7 arg8 arg9 arg10 arg11 arg12 x ⟨dq, dk, dv, dc, dr⟩) h
theorem l8' {off} {inb : ∀ a, off a + S4096x128.size a ≤ S4096x128.size a} {hl : arg8.view.LoadsAt (Rect.unit (s := S4096x128) off S4096x128.size inb).toLoadRect} {k}
    (h : R (k dq) (x, ⟨dq, dk, dv, dc, dr⟩) a σ) :
    R (Prog.lift (.load arg8 (Rect.unit (s := S4096x128) off S4096x128.size inb).toLoadRect hl) >>= k) (x, ⟨dq, dk, dv, dc, dr⟩) a σ :=
  Runs.loadFull (f8 c arg2 arg3 arg4 arg5 arg6 arg7 arg8 arg9 arg10 arg11 arg12 x ⟨dq, dk, dv, dc, dr⟩) rfl h
theorem s8' {off} {inb : ∀ a, off a + S4096x128.size a ≤ S4096x128.size a} {w hx hm k}
    (h : R (k ⟨⟩) (x, ⟨w, dk, dv, dc, dr⟩) a σ) :
    R (Prog.lift (.store arg8 (Rect.unit (s := S4096x128) off S4096x128.size inb) w Finset.univ hx hm) >>= k) (x, ⟨dq, dk, dv, dc, dr⟩) a σ :=
  Runs.storeFull (f8 c arg2 arg3 arg4 arg5 arg6 arg7 arg8 arg9 arg10 arg11 arg12 x ⟨dq, dk, dv, dc, dr⟩) h
theorem l9 {off} {inb : ∀ a, off a + S256x128.size a ≤ S256x128.size a} {hl : arg9.view.LoadsAt (Rect.unit (s := S256x128) off S256x128.size inb).toLoadRect} {k}
    (h : R (k dk) (x, ⟨dq, dk, dv, dc, dr⟩) a σ) :
    R (Prog.lift (.load arg9 (Rect.unit (s := S256x128) off S256x128.size inb).toLoadRect hl) >>= k) (x, ⟨dq, dk, dv, dc, dr⟩) a σ :=
  Runs.loadFull (f9 c arg2 arg3 arg4 arg5 arg6 arg7 arg8 arg9 arg10 arg11 arg12 x ⟨dq, dk, dv, dc, dr⟩) rfl h
theorem s9 {off} {inb : ∀ a, off a + S256x128.size a ≤ S256x128.size a} {w hx hm k}
    (h : R (k ⟨⟩) (x, ⟨dq, w, dv, dc, dr⟩) a σ) :
    R (Prog.lift (.store arg9 (Rect.unit (s := S256x128) off S256x128.size inb) w Finset.univ hx hm) >>= k) (x, ⟨dq, dk, dv, dc, dr⟩) a σ :=
  Runs.storeFull (f9 c arg2 arg3 arg4 arg5 arg6 arg7 arg8 arg9 arg10 arg11 arg12 x ⟨dq, dk, dv, dc, dr⟩) h
theorem l10 {off} {inb : ∀ a, off a + S256x128.size a ≤ S256x128.size a} {hl : arg10.view.LoadsAt (Rect.unit (s := S256x128) off S256x128.size inb).toLoadRect} {k}
    (h : R (k dv) (x, ⟨dq, dk, dv, dc, dr⟩) a σ) :
    R (Prog.lift (.load arg10 (Rect.unit (s := S256x128) off S256x128.size inb).toLoadRect hl) >>= k) (x, ⟨dq, dk, dv, dc, dr⟩) a σ :=
  Runs.loadFull (f10 c arg2 arg3 arg4 arg5 arg6 arg7 arg8 arg9 arg10 arg11 arg12 x ⟨dq, dk, dv, dc, dr⟩) rfl h
theorem s10 {off} {inb : ∀ a, off a + S256x128.size a ≤ S256x128.size a} {w hx hm k}
    (h : R (k ⟨⟩) (x, ⟨dq, dk, w, dc, dr⟩) a σ) :
    R (Prog.lift (.store arg10 (Rect.unit (s := S256x128) off S256x128.size inb) w Finset.univ hx hm) >>= k) (x, ⟨dq, dk, dv, dc, dr⟩) a σ :=
  Runs.storeFull (f10 c arg2 arg3 arg4 arg5 arg6 arg7 arg8 arg9 arg10 arg11 arg12 x ⟨dq, dk, dv, dc, dr⟩) h
theorem l11 {off} {inb : ∀ a, off a + S1x256x128.size a ≤ S1x256x128.size a} {hl : arg11.view.LoadsAt (Rect.unit (s := S1x256x128) off S1x256x128.size inb).toLoadRect} {k}
    (h : R (k dc) (x, ⟨dq, dk, dv, dc, dr⟩) a σ) :
    R (Prog.lift (.load arg11 (Rect.unit (s := S1x256x128) off S1x256x128.size inb).toLoadRect hl) >>= k) (x, ⟨dq, dk, dv, dc, dr⟩) a σ :=
  Runs.loadFull (f11 c arg2 arg3 arg4 arg5 arg6 arg7 arg8 arg9 arg10 arg11 arg12 x ⟨dq, dk, dv, dc, dr⟩) rfl h
theorem s11 {off} {inb : ∀ a, off a + S1x256x128.size a ≤ S1x256x128.size a} {w hx hm k}
    (h : R (k ⟨⟩) (x, ⟨dq, dk, dv, w, dr⟩) a σ) :
    R (Prog.lift (.store arg11 (Rect.unit (s := S1x256x128) off S1x256x128.size inb) w Finset.univ hx hm) >>= k) (x, ⟨dq, dk, dv, dc, dr⟩) a σ :=
  Runs.storeFull (f11 c arg2 arg3 arg4 arg5 arg6 arg7 arg8 arg9 arg10 arg11 arg12 x ⟨dq, dk, dv, dc, dr⟩) h
theorem l12 {off} {inb : ∀ a, off a + S1x1x8x256.size a ≤ S1x16x8x256.size a} {hl : arg12.view.LoadsAt (Rect.unit (s := S1x16x8x256) off S1x1x8x256.size inb).toLoadRect} {k}
    (ho : off = ![0, b.val, 0, 0]) (h : R (k (drow dr b)) (x, ⟨dq, dk, dv, dc, dr⟩) a σ) :
    R (Prog.lift (.load arg12 (Rect.unit (s := S1x16x8x256) off S1x1x8x256.size inb).toLoadRect hl) >>= k) (x, ⟨dq, dk, dv, dc, dr⟩) a σ :=
  Runs.loadWin (drow_inb b) ho (f12 c arg2 arg3 arg4 arg5 arg6 arg7 arg8 arg9 arg10 arg11 arg12 x ⟨dq, dk, dv, dc, dr⟩) rfl h
theorem s12 {off} {inb : ∀ a, off a + S1x1x8x256.size a ≤ S1x16x8x256.size a} {w hx hm k}
    (ho : off = ![0, b.val, 0, 0]) (h : R (k ⟨⟩) (x, ⟨dq, dk, dv, dc, putDrow dr b w⟩) a σ) :
    R (Prog.lift (.store arg12 (Rect.unit (s := S1x16x8x256) off S1x1x8x256.size inb) w Finset.univ hx hm) >>= k) (x, ⟨dq, dk, dv, dc, dr⟩) a σ :=
  Runs.store ho (f12 c arg2 arg3 arg4 arg5 arg6 arg7 arg8 arg9 arg10 arg11 arg12 x ⟨dq, dk, dv, dc, dr⟩) h
theorem l12' {off} {inb : ∀ a, off a + S1x16x8x256.size a ≤ S1x16x8x256.size a} {hl : arg12.view.LoadsAt (Rect.unit (s := S1x16x8x256) off S1x16x8x256.size inb).toLoadRect} {k}
    (h : R (k dr) (x, ⟨dq, dk, dv, dc, dr⟩) a σ) :
    R (Prog.lift (.load arg12 (Rect.unit (s := S1x16x8x256) off S1x16x8x256.size inb).toLoadRect hl) >>= k) (x, ⟨dq, dk, dv, dc, dr⟩) a σ :=
  Runs.loadFull (f12 c arg2 arg3 arg4 arg5 arg6 arg7 arg8 arg9 arg10 arg11 arg12 x ⟨dq, dk, dv, dc, dr⟩) rfl h
theorem s12' {off} {inb : ∀ a, off a + S1x16x8x256.size a ≤ S1x16x8x256.size a} {w hx hm k}
    (h : R (k ⟨⟩) (x, ⟨dq, dk, dv, dc, w⟩) a σ) :
    R (Prog.lift (.store arg12 (Rect.unit (s := S1x16x8x256) off S1x16x8x256.size inb) w Finset.univ hx hm) >>= k) (x, ⟨dq, dk, dv, dc, dr⟩) a σ :=
  Runs.storeFull (f12 c arg2 arg3 arg4 arg5 arg6 arg7 arg8 arg9 arg10 arg11 arg12 x ⟨dq, dk, dv, dc, dr⟩) h

end Steps

section Body

variable (x : Ins F) (s : Outs F)

local notation "R" => Runs (defs₀ (F := F)) Variants.none c (HH (F := F) c arg2 arg3 arg4 arg5 arg6 arg7 arg8 arg9 arg10 arg11 arg12)

/-- One trip of the loop is two blocks' updates. -/
theorem trip_run (t : Fin (k0_t1_loop i).trips) (v49 : BitVec 32) (acc : FVec F S512x1 .f32) (b b' : Fin 16)
    (h9 : k0_off9 i t = ![256 * b.val, 0]) (h10 : k0_off10 i t = ![256 * b'.val, 0])
    (h11 : k0_off11 i t = ![0, b.val, 0, 0]) (h12 : k0_off12 i t = ![0, b'.val, 0, 0]) (arg1 : BitVec 32) (K : Keys F) :
    R (k0_t1_body i arg2 harg2 arg3 harg3 arg4 harg4 arg5 harg5 arg6 harg6 arg7 harg7 arg8 harg8 arg9 harg9 arg10 harg10 arg11 harg11 arg12 harg12 arg1 K.k2 K.v2 K.ck v49 t acc)
      (x, s) (blkU x K b' (blkU x K b (s, acc))).2 (x, (blkU x K b' (blkU x K b (s, acc))).1) := by
  unfold k0_t1_body
  obtain ⟨dq, dk, dv, dc, dr⟩ := s
  rw [k0_part15_eq_skeleton]; unfold k0_part15_skel
  repeat with_reducible first
    | refine Runs.assoc ?_ | (refine Runs.pureBind ?_; try dsimp only)
    | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
  rw [k0_part16_eq_skeleton]; unfold k0_part16_skel
  repeat with_reducible first
    | refine Runs.assoc ?_ | (refine Runs.pureBind ?_; try dsimp only)
    | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
  rw [k0_part17_eq_skeleton]; unfold k0_part17_skel
  repeat with_reducible first
    | refine Runs.assoc ?_ | (refine Runs.pureBind ?_; try dsimp only)
    | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
  rw [k0_part18_eq_skeleton]; unfold k0_part18_skel
  repeat with_reducible first
    | refine Runs.assoc ?_ | (refine Runs.pureBind ?_; try dsimp only)
    | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
  rw [k0_part19_eq_skeleton]; unfold k0_part19_skel
  repeat with_reducible first
    | refine Runs.assoc ?_ | (refine Runs.pureBind ?_; try dsimp only)
    | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
  exact Runs.ret' rfl rfl

theorem run_two (j n : ℕ) (h : 1 ≤ n) :
    run x j s (n + 2) = blkU x (keys x) (bk j (n + 1)) (blkU x (keys x) (bk j n) (run x j s n)) := by
  obtain ⟨k, rfl⟩ : ∃ k, n = k + 1 := ⟨n - 1, by omega⟩
  rfl

theorem taken_pos (i : grid0.Coords) : 1 ≤ taken i := by unfold taken; split <;> omega

theorem first_iff : ∀ i : grid0.Coords,
    Scalar.cmpi .ne (Scalar.extui (Scalar.cmpi .eq (BitVec.ofNat 32 (i 1).val) 0#32) : BitVec 32) 0#32 = 1#1 ↔ (i 1).val = 0 := by
  decide +kernel

/-- The loops and the store after them, from the state after the first blocks. -/
theorem loops_run (arg1 v49 v78 : BitVec 32) :
    R (do
        let v79 : FVec F S512x1 .f32 ← Scf.Loop.for (k0_t1_loop i) (k0_t1_ok i) (run x (i 1).val s (taken i)).2
          (k0_t1_body i arg2 harg2 arg3 harg3 arg4 harg4 arg5 harg5 arg6 harg6 arg7 harg7 arg8 harg8 arg9 harg9 arg10 harg10 arg11 harg11 arg12 harg12 arg1 (keys x).k2 (keys x).v2 (keys x).ck v49)
        let v80 : FVec F S512x1 .f32 ← Scf.Loop.for (k0_t2_loop i) (k0_t2_ok i) v79
          (k0_t2_body i arg2 harg2 arg3 harg3 arg4 harg4 arg5 harg5 arg6 harg6 arg7 harg7 arg8 harg8 arg9 harg9 arg10 harg10 arg11 harg11 arg12 harg12 arg1 (keys x).k2 (keys x).v2 (keys x).ck v49 v78)
        let _v95 : Vec F S1x256x128 .f32 ← Prog.lift (.load arg11 (Rect.unit (s := S1x256x128) ![0, 0, 0] S1x256x128.size inb_S1x256x128_S1x256x128_0_0_0).toLoadRect (View.loadsAt_vmem h_S1x256x128))
        Prog.lift (.store arg11 (Rect.unit (s := S1x256x128) ![0, 0, 0] S1x256x128.size inb_S1x256x128_S1x256x128_0_0_0) (k0_pay3 v80) Finset.univ (View.stores_vmem_bits_univ h_S1x256x128 rfl) (.inl rfl))
        pure PUnit.unit)
      (x, (run x (i 1).val s (taken i)).1) PUnit.unit
      (x, { (run x (i 1).val s (16 - (i 1).val)).1 with dc := k0_pay3 (run x (i 1).val s (16 - (i 1).val)).2 }) := by
  refine Runs.bind (a := (run x (i 1).val s (16 - (i 1).val)).2) (σ₁ := (x, (run x (i 1).val s (16 - (i 1).val)).1)) ?_ ?_
  · have h := Runs.loop (defs := defs₀ (F := F)) (𝒱 := Variants.none) (c := c)
      (H := HH (F := F) c arg2 arg3 arg4 arg5 arg6 arg7 arg8 arg9 arg10 arg11 arg12)
      (k0_t1_loop i) (k0_t1_ok i) (k0_t1_body i arg2 harg2 arg3 harg3 arg4 harg4 arg5 harg5 arg6 harg6 arg7 harg7 arg8 harg8 arg9 harg9 arg10 harg10 arg11 harg11 arg12 harg12 arg1 (keys x).k2 (keys x).v2 (keys x).ck v49)
      (fun k => (run x (i 1).val s (taken i + 2 * k)).2) (fun k => (x, (run x (i 1).val s (taken i + 2 * k)).1)) (fun k => by
        have e := run_two x s (i 1).val (taken i + 2 * k.val) (le_trans (taken_pos i) (by omega))
        rw [show taken i + 2 * (k.val + 1) = taken i + 2 * k.val + 2 by omega, e]
        exact trip_run c i arg2 harg2 arg3 harg3 arg4 harg4 arg5 harg5 arg6 harg6 arg7 harg7 arg8 harg8 arg9 harg9 arg10 harg10 arg11 harg11 arg12 harg12 x _ k v49 _ _ _ (off9 i k) (off10 i k) (off11 i k) (off12 i k) arg1 (keys x))
    rw [trips1 i] at h
    exact h
  refine Runs.bind (a := (run x (i 1).val s (16 - (i 1).val)).2) (σ₁ := (x, (run x (i 1).val s (16 - (i 1).val)).1)) ?_ ?_
  · exact Runs.loop (k0_t2_loop i) (k0_t2_ok i) _ (fun _ => (run x (i 1).val s (16 - (i 1).val)).2)
      (fun _ => (x, (run x (i 1).val s (16 - (i 1).val)).1)) (fun k => by have := k.isLt; have := trips2 i; omega)
  obtain ⟨⟨dq, dk, dv, dc, dr⟩, acc⟩ := run x (i 1).val s (16 - (i 1).val)
  refine l11 (s11 ?_)
  exact Runs.ret' rfl rfl

/-- The blocks before the loop. -/
theorem start_run {α : Type} (k : _ → Prog (TpuEff nD τ sig (Elt F) Λ₀ .tc) α) (a : α) (σ : Ins F × Outs F)
    (h : ∀ v49 v57 v68 v70, R (k ⟨(keys x).ck, v49, (run x (i 1).val s (taken i)).2, v57, v68, v70⟩) (x, (run x (i 1).val s (taken i)).1) a σ) :
    R (k0_part26 i arg2 harg2 arg3 harg3 arg4 harg4 arg5 harg5 arg6 harg6 arg7 harg7 arg8 harg8 arg9 harg9 arg10 harg10 arg11 harg11 arg12 harg12 (BitVec.ofNat 32 (i 1).val) (Scalar.muli (BitVec.ofNat 32 (i 1).val) 256#32) (keys x).k2 (keys x).v2 (k0_pay163 x.ct) >>= k)
      (x, s) a σ := by
  obtain ⟨dq, dk, dv, dc, dr⟩ := s
  have e0 : Scalar.addi (BitVec.ofNat 32 (i 1).val) 0#32 = BitVec.ofNat 32 (i 1).val := BitVec.add_zero _
  rw [k0_part26_eq_skeleton]; unfold k0_part26_skel
  rcases Classical.em (k0_cond2 i = 1#1) with h2 | h2
  · rw [dif_pos h2]
    rcases Classical.em (k0_cond3 i = 1#1) with h3 | h3
    · rw [dif_pos h3]
      have h10 : k0_off1 i 0#32 = ![256 * (bk (i 1).val 0).val, 0] := off1 i h2 h3 0
      have h11 : k0_off1 i 1#32 = ![256 * (bk (i 1).val 1).val, 0] := off1 i h2 h3 1
      have h12 : k0_off1 i 2#32 = ![256 * (bk (i 1).val 2).val, 0] := off1 i h2 h3 2
      have h20 : k0_off2 i 0#32 = ![0, (bk (i 1).val 0).val, 0, 0] := off2 i h2 h3 0
      have h21 : k0_off2 i 1#32 = ![0, (bk (i 1).val 1).val, 0, 0] := off2 i h2 h3 1
      have h22 : k0_off2 i 2#32 = ![0, (bk (i 1).val 2).val, 0, 0] := off2 i h2 h3 2
      rw [taken3 i h2 h3] at h
      rw [k0_part1_eq_skeleton]; unfold k0_part1_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part2_eq_skeleton]; unfold k0_part2_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part3_eq_skeleton]; unfold k0_part3_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part4_eq_skeleton]; unfold k0_part4_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part5_eq_skeleton]; unfold k0_part5_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part6_eq_skeleton]; unfold k0_part6_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part7_eq_skeleton]; unfold k0_part7_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [e0]
      exact h _ _ _ _
    · rw [dif_neg h3]
      have h33 := off3 i h2; have h4 := off4 i h2; have h5 := off5 i h2; have h6 := off6 i h2
      rw [taken2 i h2 h3] at h
      rw [k0_part8_eq_skeleton]; unfold k0_part8_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part9_eq_skeleton]; unfold k0_part9_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part10_eq_skeleton]; unfold k0_part10_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part11_eq_skeleton]; unfold k0_part11_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      rw [k0_part12_eq_skeleton]; unfold k0_part12_skel
      repeat with_reducible first
        | refine Runs.assoc ?_ | (refine Runs.pureBind ?_; try dsimp only)
        | refine l2 (by assumption) ?_ | refine l5 (by assumption) ?_ | refine l6 (by assumption) ?_ | refine l8 (by assumption) ?_
        | refine s8 (by assumption) ?_ | refine l12 (by assumption) ?_ | refine s12 (by assumption) ?_
        | refine l9 ?_ | refine s9 ?_ | refine l10 ?_ | refine s10 ?_
      exact h _ _ _ _
  · simp only [dif_neg h2]
    have h7 := off7 i; have h8 := off8 i
    rw [taken1 i h2] at h
    rw [k0_part13_eq_skeleton]; unfold k0_part13_skel
    repeat with_reducible first
      | refine Runs.assoc ?_ | (refine Runs.pureBind ?_; try dsimp only)
      | refine l2 (by assumption) ?_ | refine l5 (by assumption) ?_ | refine l6 (by assumption) ?_ | refine l8 (by assumption) ?_
      | refine s8 (by assumption) ?_ | refine l12 (by assumption) ?_ | refine s12 (by assumption) ?_
      | refine l9 ?_ | refine s9 ?_ | refine l10 ?_ | refine s10 ?_
    rw [k0_part14_eq_skeleton]; unfold k0_part14_skel
    repeat with_reducible first
      | refine Runs.assoc ?_ | (refine Runs.pureBind ?_; try dsimp only)
      | refine l2 (by assumption) ?_ | refine l5 (by assumption) ?_ | refine l6 (by assumption) ?_ | refine l8 (by assumption) ?_
      | refine s8 (by assumption) ?_ | refine l12 (by assumption) ?_ | refine s12 (by assumption) ?_
      | refine l9 ?_ | refine s9 ?_ | refine l10 ?_ | refine s10 ?_
    exact h _ _ _ _

/-- The body takes the state through all blocks from the diagonal one on. -/
theorem body_run :
    R (cc0_fox_bwd i arg2 harg2 arg3 harg3 arg4 harg4 arg5 harg5 arg6 harg6 arg7 harg7 arg8 harg8 arg9 harg9 arg10 harg10 arg11 harg11 arg12 harg12) (x, s) ⟨⟩ (x, point x (i 1).val s) := by
  obtain ⟨dq, dk, dv, dc, dr⟩ := s
  rw [cc0_fox_bwd_eq_skeleton]; unfold cc0_fox_bwd_skel
  refine Runs.bind (a := ⟨BitVec.ofNat 32 (i 1).val, Scalar.muli (BitVec.ofNat 32 (i 1).val) 256#32, (keys x).k2, (keys x).v2, k0_pay163 x.ct⟩)
    (σ₁ := (x, reset (i 1).val ⟨dq, dk, dv, dc, dr⟩)) ?_ ?_
  · rw [k0_part25_eq_skeleton]; unfold k0_part25_skel reset
    by_cases h0 : (i 1).val = 0
    · simp only [if_pos h0, dif_pos ((first_iff i).mpr h0)]
      repeat with_reducible first
    | refine Runs.assoc ?_ | (refine Runs.pureBind ?_; try dsimp only)
    | refine l3 ?_ | refine l4 ?_ | refine l7 ?_ | refine s8' ?_ | refine l8' ?_ | refine s12' ?_ | refine l12' ?_ | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
      exact Runs.ret' rfl rfl
    · simp only [if_neg h0, dif_neg fun h => h0 ((first_iff i).mp h)]
      repeat with_reducible first
    | refine Runs.assoc ?_ | (refine Runs.pureBind ?_; try dsimp only)
    | refine l3 ?_ | refine l4 ?_ | refine l7 ?_ | refine s8' ?_ | refine l8' ?_ | refine s12' ?_ | refine l12' ?_ | refine l2 (by assumption) ?_ | refine l5 (by assumption) ?_ | refine l6 (by assumption) ?_ | refine l8 (by assumption) ?_
    | refine s8 (by assumption) ?_ | refine l12 (by assumption) ?_ | refine s12 (by assumption) ?_
    | refine l9 ?_ | refine s9 ?_ | refine l10 ?_ | refine s10 ?_
      exact Runs.ret' rfl rfl
  generalize hs : reset (i 1).val (⟨dq, dk, dv, dc, dr⟩ : Outs F) = s'
  dsimp only
  with_reducible refine start_run c i arg2 harg2 arg3 harg3 arg4 harg4 arg5 harg5 arg6 harg6 arg7 harg7 arg8 harg8 arg9 harg9 arg10 harg10 arg11 harg11 arg12 harg12 x s' _ _ _ fun v49 v57 v68 v70 => ?_
  dsimp only
  unfold point; rw [hs]
  with_reducible exact loops_run c i arg2 harg2 arg3 harg3 arg4 harg4 arg5 harg5 arg6 harg6 arg7 harg7 arg8 harg8 arg9 harg9 arg10 harg10 arg11 harg11 arg12 harg12 x _ _ v49 _

end Body

end Cert.FoxBwdRun

end
-- ==== Proof.FoxBwdFrame.lean ====
/-
  The launch of the forgetting attention's gradient: at every grid point the body's run (`FoxBwdRun.body_run`) meets what the
  pipeline staged, so the program terminates, leaves its arguments, and every result buffer is named by the fold `outsAt`.
-/
module

public import proofs.«01_k».proof.Proof.FoxBwdRun
public import Idealize.ShloMosaic.Lib.Claim

@[expose] public section

set_option maxRecDepth 16384
set_option maxHeartbeats 1000000

noncomputable section

namespace Cert.FoxBwdFrame

open Cert.FoxBwdIdeal Cert.FoxBwdIdeal.Gen Cert.Owned Cert.FoxBwdRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's result does not depend on what it overwrites -/

/-- The updates leave the column's buffer alone. -/
theorem run_dc (x : Ins F) (j : ℕ) (s : Outs F) (d : Vec F S1x256x128 .f32) : ∀ n,
    run x j { s with dc := d } n = ({ (run x j s n).1 with dc := d }, (run x j s n).2)
  | 0 => rfl
  | 1 => rfl
  | n + 2 => by
    show blkU _ _ _ (run x j { s with dc := d } (n + 1)) = _
    rw [run_dc x j s d (n + 1)]; rfl

/-- The body's result is the same from any contents that agree on what a later key block adds to. -/
theorem point_congr (x : Ins F) (j : ℕ) (s s' : Outs F) (h : j ≠ 0 → s.dq = s'.dq ∧ s.dr = s'.dr) : point x j s = point x j s' := by
  have e : reset j s = { reset j s' with dc := s.dc } := by
    unfold reset
    by_cases h0 : j = 0
    · simp only [if_pos h0]
    · simp only [if_neg h0, (h h0).1, (h h0).2]
  unfold point
  rw [e, run_dc]

variable (m : (ℓ : Loc nD τ sig) → Buf (Elt F) ℓ) (ρ : Dev nD → PrngReg)

/-! ## What each point leaves -/

/-- What the body reads at point `t`. -/
def ins (c : Dev nD) (t : Fin cfg0.N) : Ins F :=
  ⟨iblk m c 0 t, iblk m c 1 t, iblk m c 2 t, iblk m c 3 t, iblk m c 4 t, iblk m c 5 t⟩

/-- What the results' buffers hold after point `n`. -/
def outsAt (c : Dev nD) : (n : ℕ) → n < cfg0.N → Outs F
  | 0, h => point (ins m c ⟨0, h⟩) 0 ⟨k0_pay157, k0_pay159, k0_pay160, k0_pay3 k0_pay165, k0_pay158⟩
  | n + 1, h => point (ins m c ⟨n + 1, h⟩) ((n + 1) % 16) (outsAt c n (Nat.lt_of_succ_lt h))

/-- The body at point `n` from any contents that agree with the point before on what it adds to. -/
theorem point_outsAt (c : Dev nD) (n : ℕ) (h : n < cfg0.N) (s : Outs F)
    (hs : n % 16 ≠ 0 → s.dq = (outsAt m c (n - 1) (Nat.lt_of_le_of_lt (Nat.sub_le _ _) h)).dq
      ∧ s.dr = (outsAt m c (n - 1) (Nat.lt_of_le_of_lt (Nat.sub_le _ _) h)).dr) :
    point (ins m c ⟨n, h⟩) (n % 16) s = outsAt m c n h := by
  cases n with
  | zero => exact point_congr _ _ _ _ fun h0 => absurd rfl h0
  | succ n => exact point_congr _ _ _ _ hs

/-- The key block of a point. -/
theorem coord1 : ∀ t : Fin cfg0.N, ((grid0.coords t) 1).val = t.val % 16 := (by decide +kernel : ∀ t : Fin grid0.N, _)

/-- The pipeline's data: each input's buffer keeps its block, the results' buffers hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).dq
    | ⟨7, _⟩ => (outsAt m c t.val t.isLt).dk
    | ⟨8, _⟩ => (outsAt m c t.val t.isLt).dv
    | ⟨9, _⟩ => (outsAt m c t.val t.isLt).dc
    | ⟨10, _⟩ => (outsAt m c t.val t.isLt).dr
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt m c t.val t.isLt).dq := by dsimp only [dats]
theorem after0_7 (c : Dev nD) (t : Fin cfg0.N) : (dats m 0 c).after 7 t = (outsAt m c t.val t.isLt).dk := by dsimp only [dats]
theorem after0_8 (c : Dev nD) (t : Fin cfg0.N) : (dats m 0 c).after 8 t = (outsAt m c t.val t.isLt).dv := by dsimp only [dats]
theorem after0_9 (c : Dev nD) (t : Fin cfg0.N) : (dats m 0 c).after 9 t = (outsAt m c t.val t.isLt).dc := by dsimp only [dats]
theorem after0_10 (c : Dev nD) (t : Fin cfg0.N) : (dats m 0 c).after 10 t = (outsAt m c t.val t.isLt).dr := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The queries' gradient is kept from one key block to the next, -/
theorem before0_6 (c : Dev nD) (t : Fin cfg0.N) (h0 : t.val % 16 ≠ 0) (d) :
    (dats m 0 c).before 6 t d = (outsAt m c (t.val - 1) (Nat.lt_of_le_of_lt (Nat.sub_le _ _) t.isLt)).dq := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- and so are the rows' sums. -/
theorem before0_10 (c : Dev nD) (t : Fin cfg0.N) (h0 : t.val % 16 ≠ 0) (d) :
    (dats m 0 c).before 10 t d = (outsAt m c (t.val - 1) (Nat.lt_of_le_of_lt (Nat.sub_le _ _) t.isLt)).dr := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The buffers at point `t`, as the body's run takes them. -/
abbrev HAt (c : Dev nD) (t : Fin cfg0.N) : Ins F × Outs F → sProp 𝕄 :=
  HH c (st0_0 t) (st0_1 t) (st0_2 t) (st0_3 t) (st0_4 t) (st0_5 t) (st0_6 t) (st0_7 t) (st0_8 t) (st0_9 t) (st0_10 t)

/-- The body's run at point `t`, with anything else that is held. -/
theorem body_at (c : Dev nD) (t : Fin cfg0.N) (s : Outs F) (R : sProp 𝕄)
    (hs : t.val % 16 ≠ 0 → s.dq = (outsAt m c (t.val - 1) (Nat.lt_of_le_of_lt (Nat.sub_le _ _) t.isLt)).dq
      ∧ s.dr = (outsAt m c (t.val - 1) (Nat.lt_of_le_of_lt (Nat.sub_le _ _) t.isLt)).dr) :
    iprop(R ∗ HAt c t (ins m c t, s)) ⊢ wp frame (wpE (defs₀ (F := F)) Variants.none (c : Thread nD τ) none) Set.univ (bodyAt0 t)
      (fun _ => iprop(R ∗ HAt c t (ins m c t, outsAt m c t.val t.isLt))) := by
  have h := body_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9)) (st0_10 t) (hstage0_10 ((cfg0.slots t 10).cast nbuf0_10))
    (ins m c t) s
  rw [coord1 t, point_outsAt m c t.val t.isLt s hs] at h
  exact (BIClass.sep_mono (show R ⊢ R from .rfl) (h (fun _ => HAt c t (ins m c t, outsAt m c t.val t.isLt)) .rfl)).trans (wp_frame_l _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_mono _ _ _ (Q := fun _ => iprop(((dats m 0 c).Φ t.castSucc ∗ (dats m 0 c).owesAt () t.castSucc) ∗ HAt c t (ins m c t, outsAt m c t.val t.isLt))) fun _ => ?_)
  · unfold HAt HH Held ins; dsimp only
    iintro ⟨⟨HΦ, Ho⟩, H0, H1, H2, H3, H4, H5, H6, H7, H8, H9, H10⟩
    iframe HΦ Ho H0 H1 H2 H3 H4 H5 H6 H7 H8 H9 H10
  · iapply (body_at m c t ⟨(dats m 0 c).before 6 t d6, (dats m 0 c).before 7 t d7, (dats m 0 c).before 8 t d8, (dats m 0 c).before 9 t d9, (dats m 0 c).before 10 t d10⟩
      iprop((dats m 0 c).Φ t.castSucc ∗ (dats m 0 c).owesAt () t.castSucc) fun h0 => ⟨before0_6 m c t h0 d6, before0_10 m c t h0 d10⟩)
    unfold HAt HH Held ins; dsimp only
    isplitl [HΦ Ho]
    · isplitl [HΦ]; · iexact HΦ
      iexact Ho
    iframe H0 H1 H2 H3 H4 H5 H6 H7 H8 H9 H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, the arrays as the pipeline leaves them and the lines after it have run, no semaphore up. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FoxBwdFrame

end
-- ==== Proof.FoxBwdCompiled.lean ====
/-
  The frame of the forgetting attention's gradient as compiled. Its program is the idealised one with the mask's constant read from
  its bits, so the run over any floats (`FoxBwdFrame.frame`) is its run too.
-/
module

public import proofs.«01_k».proof.Proof.FoxBwdFrame
public import proofs.«01_k».proof.Proof.Gen.FoxBwd.Launch

@[expose] public section

set_option maxRecDepth 16384

noncomputable section

namespace Cert.FoxBwdFrame

open Idealize.ShloMosaic Idealize.ShloMosaic.TcCoe Idealize.ShloMosaic.Tactic
open Idealize.SL Idealize.SL.Sem

variable {F : FTy → Type} [FloatOps F]

/-- Every named constant read from its bits. -/
abbrev named_bits : Named F := ⟨fun _ _ _ bits => Scalar.ofBits _ bits⟩

/-- The frame of the program as compiled, -/
def Frame (F : FTy → Type) [FloatOps F] : Prop :=
  ∀ (m : (ℓ : Loc Cert.FoxBwd.nD Cert.FoxBwd.τ Cert.FoxBwd.sig) → Buf (Elt F) ℓ) (g : Dev Cert.FoxBwd.nD → PrngReg),
    θ_run (Cert.FoxBwd.defs (F := F)) (onTc (τ := Cert.FoxBwd.τ) (Cert.FoxBwd.main (F := F))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

/-- and of the idealised one. -/
def FrameIdeal (F : FTy → Type) [FloatOps F] [Named F] : Prop :=
  ∀ (m : (ℓ : Loc Cert.FoxBwdIdeal.nD Cert.FoxBwdIdeal.τ Cert.FoxBwdIdeal.sig) → Buf (Elt F) ℓ) (g : Dev Cert.FoxBwdIdeal.nD → PrngReg),
    θ_run (Cert.FoxBwdIdeal.defs (F := F)) (onTc (τ := Cert.FoxBwdIdeal.τ) (Cert.FoxBwdIdeal.main (F := F))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

/-- The two statements are one. -/
theorem frame_eq : Frame F = @FrameIdeal F _ named_bits := by sl_kernel_rfl

/-- The frame of the program as compiled. -/
theorem frame_compiled : Frame F := frame_eq.mpr (@frame F _ named_bits)

end Cert.FoxBwdFrame

end
-- ==== Proof.Softmax.lean ====
/- One row of a masked softmax, its normaliser and its gradient, in the extended reals and in the reals. -/
module

public import proofs.«01_k».proof.Proof.Common

@[expose] public section

noncomputable section

namespace Cert.Softmax

open Idealize.ShloMosaic

theorem coe_sum {ι : Type*} (s : Finset ι) (f : ι → ℝ) : ∑ j ∈ s, (f j : EReal) = ((∑ j ∈ s, f j : ℝ) : EReal) :=
  (map_sum (⟨⟨((↑) : ℝ → EReal), EReal.coe_zero⟩, EReal.coe_add⟩ : ℝ →+ EReal) f s).symm

variable {ι : Type*} [Fintype ι] (s : ι → ℝ) (A : ι → Prop) [DecidablePred A]

/-- The scores with what the mask forbids at minus infinity. -/
def masked (j : ι) : EReal := if A j then (s j : EReal) else ⊥

/-- The sum of the allowed exponentials, -/
def tot : ℝ := ∑ j, if A j then Real.exp (s j) else 0

/-- and each one's share of it. -/
def soft (j : ι) : ℝ := if A j then Real.exp (s j) / tot s A else 0

variable {A}

theorem tot_pos (h : ∃ j, A j) : 0 < tot s A := by
  obtain ⟨j, hj⟩ := h
  refine Finset.sum_pos' (fun i _ => by split <;> positivity) ⟨j, Finset.mem_univ _, ?_⟩
  rw [if_pos hj]; positivity

/-- A constant added to every score changes nothing. -/
theorem soft_add (b : ℝ) (j : ι) : soft (fun j => s j + b) A j = soft s A j := by
  unfold soft
  split
  · have e : tot (fun j => s j + b) A = tot s A * Real.exp b := by
      unfold tot
      rw [Finset.sum_mul]
      refine Finset.sum_congr rfl fun k _ => ?_
      split
      · exact Real.exp_add _ _
      · rw [zero_mul]
    rw [e, Real.exp_add, mul_div_mul_right _ _ (Real.exp_pos b).ne']
  · rfl

/-- The largest allowed score is a real number. -/
theorem max_real (h : ∃ j, A j) : ∃ M : ℝ, (Finset.univ : Finset ι).fold max (⊥ : EReal) (masked s A) = (M : EReal) := by
  obtain ⟨j, hj⟩ := h
  have hlo : (s j : EReal) ≤ (Finset.univ : Finset ι).fold max (⊥ : EReal) (masked s A) :=
    Finset.le_fold_max _ |>.mpr (Or.inr ⟨j, Finset.mem_univ _, by rw [masked, if_pos hj]⟩)
  have hhi : (Finset.univ : Finset ι).fold max (⊥ : EReal) (masked s A) < ⊤ :=
    Finset.fold_max_lt _ |>.mpr ⟨bot_lt_top, fun i _ => by
      unfold masked; split
      · exact EReal.coe_lt_top _
      · exact bot_lt_top⟩
  refine ⟨EReal.toReal _, (EReal.coe_toReal hhi.ne ?_).symm⟩
  exact (lt_of_lt_of_le (EReal.bot_lt_coe _) hlo).ne'

/-- An exponential below the largest score. -/
theorem exp_real (M : ℝ) (j : ι) : Ideal.exp (masked s A j - (M : EReal)) = ((if A j then Real.exp (s j - M) else 0 : ℝ) : EReal) := by
  unfold masked
  split
  · rw [← EReal.coe_sub]; exact Ideal.exp_coe _
  · rw [EReal.bot_sub]; exact Ideal.exp_bot

theorem exp_shift (M : ℝ) (j : ι) : (if A j then Real.exp (s j - M) else 0) = Real.exp (-M) * (if A j then Real.exp (s j) else 0) := by
  split
  · rw [← Real.exp_add]; congr 1; ring
  · rw [mul_zero]

/-- The normaliser. -/
theorem sum_real (M : ℝ) : ∑ j, Ideal.exp (masked s A j - (M : EReal)) = ((Real.exp (-M) * tot s A : ℝ) : EReal) := by
  simp only [exp_real, coe_sum, exp_shift, ← Finset.mul_sum]
  rfl

/-- The row's log-sum-exp gives each allowed probability. -/
theorem exp_lse (h : ∃ j, A j) (M : ℝ) (j : ι) (hj : A j) :
    Ideal.exp ((s j : EReal) - ((M : EReal) + Ideal.log ((Real.exp (-M) * tot s A : ℝ) : EReal))) = ((soft s A j : ℝ) : EReal) := by
  have ht := tot_pos s h
  have hp : ¬ Real.exp (-M) * tot s A ≤ 0 := not_le.mpr (by positivity)
  rw [Ideal.log_coe, if_neg hp, ← EReal.coe_add, ← EReal.coe_sub, Ideal.exp_coe]
  congr 1
  rw [Real.log_mul (Real.exp_pos _).ne' ht.ne', Real.log_exp, soft, if_pos hj]
  rw [show s j - (M + (-M + Real.log (tot s A))) = s j - Real.log (tot s A) by ring, Real.exp_sub, Real.exp_log ht]

/-- A quotient by the normaliser. -/
theorem div_real (h : ∃ j, A j) (M : ℝ) (x : ℝ) :
    Ideal.div (x : EReal) ((Real.exp (-M) * tot s A : ℝ) : EReal) = ((x / (Real.exp (-M) * tot s A) : ℝ) : EReal) := by
  have ht := tot_pos s h
  rw [Ideal.div_coe (by positivity), ← EReal.coe_mul, mul_one_div]

/-- An exponential over the normaliser is the probability. -/
theorem soft_eq (h : ∃ j, A j) (M : ℝ) (j : ι) : (if A j then Real.exp (s j - M) else 0) / (Real.exp (-M) * tot s A) = soft s A j := by
  rw [exp_shift, mul_div_mul_left _ _ (Real.exp_pos _).ne']
  unfold soft
  split
  · rfl
  · rw [zero_div]

theorem div_soft (h : ∃ j, A j) (M : ℝ) (j : ι) :
    Ideal.div (Ideal.exp (masked s A j - (M : EReal))) (∑ j, Ideal.exp (masked s A j - (M : EReal))) = ((soft s A j : ℝ) : EReal) := by
  rw [sum_real, exp_real, div_real s h, soft_eq s h]

/-- The output against a cotangent row is the mean of the products of that row with the values. -/
theorem delta_real (h : ∃ j, A j) (M : ℝ) {D : Type*} [Fintype D] (o : D → ℝ) (v : ι → D → ℝ) :
    ∑ d, (o d : EReal) * Ideal.div (∑ j, Ideal.exp (masked s A j - (M : EReal)) * (v j d : EReal)) (∑ j, Ideal.exp (masked s A j - (M : EReal)))
      = ((∑ j, soft s A j * ∑ d, o d * v j d : ℝ) : EReal) := by
  rw [sum_real]
  simp only [exp_real, ← EReal.coe_mul, coe_sum, div_real s h]
  rw [EReal.coe_eq_coe_iff]
  simp only [Finset.sum_div, Finset.mul_sum]
  rw [Finset.sum_comm]
  refine Finset.sum_congr rfl fun j _ => ?_
  refine Finset.sum_congr rfl fun d _ => ?_
  rw [← soft_eq s h M j]
  ring

/-- The gradient of the scores as it is taken through the quotient. -/
theorem grad_real (h : ∃ j, A j) (M : ℝ) (dp : ι → ℝ) (j : ι) :
    (Ideal.div (dp j : EReal) (∑ j, Ideal.exp (masked s A j - (M : EReal)))
        + -∑ k, (dp k : EReal) * Ideal.div (1 : EReal) ((∑ j, Ideal.exp (masked s A j - (M : EReal))) * ∑ j, Ideal.exp (masked s A j - (M : EReal)))
            * Ideal.exp (masked s A k - (M : EReal)))
      * Ideal.exp (masked s A j - (M : EReal))
      = ((soft s A j * (dp j - ∑ k, soft s A k * dp k) : ℝ) : EReal) := by
  have ht := tot_pos s h
  have hL : Real.exp (-M) * tot s A ≠ 0 := by positivity
  rw [sum_real, ← EReal.coe_mul, Ideal.div_coe (mul_ne_zero hL hL), div_real s h]
  simp only [exp_real, one_mul, ← EReal.coe_mul, coe_sum, ← EReal.coe_neg, ← EReal.coe_add]
  congr 1
  rw [← soft_eq s h M j]
  have e : ∑ k, dp k * (1 / (Real.exp (-M) * tot s A * (Real.exp (-M) * tot s A))) * (if A k then Real.exp (s k - M) else 0)
      = (∑ k, soft s A k * dp k) / (Real.exp (-M) * tot s A) := by
    rw [Finset.sum_div]
    refine Finset.sum_congr rfl fun k _ => ?_
    rw [← soft_eq s h M k]
    field_simp
  rw [e]
  field_simp
  ring

end Cert.Softmax

end
-- ==== Proof.FoxBwdHost.lean ====
/- What the forgetting attention's gradient call is given: the host's arrays at an index. -/
module

public import proofs.«01_k».proof.Proof.FoxBwdFrame
public import proofs.«01_k».proof.Proof.Softmax

@[expose] public section

set_option maxRecDepth 16384

noncomputable section

namespace Cert.FoxBwdHost

open Cert.FoxBwdIdeal Cert.FoxBwdIdeal.Gen
open Idealize.ShloMosaic Idealize.ShloMosaic.TcCoe Idealize.SL.Sem

variable (m : (ℓ : Loc nD τ sig) → Buf (Elt Ideal) ℓ)

abbrev A0 (c : Dev nD) : FVec Ideal S4096x512 .f32 := m ((c.tc : Thread nD τ).loc main_arg0)
abbrev A1 (c : Dev nD) : FVec Ideal S4096x512 .f32 := m ((c.tc : Thread nD τ).loc main_arg1)
abbrev A2 (c : Dev nD) : FVec Ideal S4096x512 .f32 := m ((c.tc : Thread nD τ).loc main_arg2)
abbrev A3 (c : Dev nD) : FVec Ideal S4096x8 .f32 := m ((c.tc : Thread nD τ).loc main_arg3)
abbrev A4 (c : Dev nD) : FVec Ideal S4096x512 .f32 := m ((c.tc : Thread nD τ).loc main_arg4)

/-- The host's arrays once the masked scores stand. -/
def V1 (c : Dev nD) : Valuation τ sig (Elt Ideal) := StableHlo.after (List.flatten [hostOps0, hostOps0_1]) (fun b => m (c, b))

abbrev v11 (c : Dev nD) : FVec Ideal S4096x8x64 .f32 := V1 m c (Proc.tc.devRef main_v11)
abbrev v13 (c : Dev nD) : FVec Ideal S4096x8x64 .f32 := V1 m c (Proc.tc.devRef main_v13)
abbrev v25 (c : Dev nD) : FVec Ideal S8x4096x4096 .f32 := V1 m c (Proc.tc.devRef main_v25)

/-- The head of a pair's half. -/
def hh (p : Fin 4) (e : Fin 2) : Fin 8 := ⟨2 * p.val + e.val, by omega⟩

theorem eighth : Ideal.ofBits .f32 0x3E000000#32 = ((1 / 8 : ℝ) : EReal) := by
  show Ideal.ieee 8 23 0x3E000000#32 = _
  unfold Ideal.ieee
  norm_num [show (1040187392 >>> 23 % 256 : ℕ) = 124 from rfl, show BitVec.extractLsb' 31 1 1040187392#32 = 0#1 from rfl]

theorem ninf : Ideal.ofBits FTy.f32 4286578688#32 = (⊥ : EReal) := by
  show Ideal.ieee 8 23 4286578688#32 = ⊥
  unfold Ideal.ieee
  rfl

theorem v47_q (c : Dev nD) (i : Fin 4096) (l : Fin 512) :
    (V m c main_v47 : FVec Ideal S4096x1536 .bf16) (ix2 i ⟨l.val, by omega⟩) = A0 m c (ix2 i l) * ((1 / 8 : ℝ) : EReal) := by
  unfold V V0
  simp only [List.flatten_cons, List.flatten_nil, List.append_nil, List.cons_append, List.nil_append]
  after_reads_simp
  pointwise
  after_reads_simp
  pointwise
  rw [eighth]

theorem v47_k (c : Dev nD) (i : Fin 4096) (l : Fin 512) :
    (V m c main_v47 : FVec Ideal S4096x1536 .bf16) (ix2 i ⟨512 + l.val, by omega⟩) = A1 m c (ix2 i l) := by
  unfold V V0
  simp only [List.flatten_cons, List.flatten_nil, List.append_nil, List.cons_append, List.nil_append]
  after_reads_simp
  pointwise
  after_reads_simp
  pointwise

theorem v47_v (c : Dev nD) (i : Fin 4096) (l : Fin 512) :
    (V m c main_v47 : FVec Ideal S4096x1536 .bf16) (ix2 i ⟨1024 + l.val, by omega⟩) = A2 m c (ix2 i l) := by
  unfold V V0
  simp only [List.flatten_cons, List.flatten_nil, List.append_nil, List.cons_append, List.nil_append]
  after_reads_simp
  pointwise
  after_reads_simp
  pointwise
  rw [dif_neg (by omega), dif_neg (by omega)]
  refine congrArg (A2 m c) (congrArg₂ ix2 rfl (Fin.ext ?_))
  show 1024 + l.val - 512 - 512 = l.val; omega

theorem v5_apply (c : Dev nD) (i : Fin 4096) (l : Fin 512) :
    (V m c main_v5 : FVec Ideal S4096x512 .bf16) (ix2 i l) = A4 m c (ix2 i l) := by
  unfold V V0
  simp only [List.flatten_cons, List.flatten_nil, List.append_nil, List.cons_append, List.nil_append]
  after_reads_simp
  pointwise

theorem v52_apply (c : Dev nD) (p : Fin 4) (j : Fin 16) (e : Fin 2) (a : Fin 256) :
    (V m c main_v52 : FVec Ideal S4x16x8x256 .f32) (ix4 p j ⟨e.val, by omega⟩ a) = A3 m c (ix2 ⟨256 * j.val + a.val, by omega⟩ (hh p e)) := by
  unfold V V0
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega)]
  refine congrArg (A3 m c) (congrArg₂ ix2 (Fin.ext ?_) (Fin.ext ?_))
  · show j.val * 256 + a.val = 256 * j.val + a.val; omega
  · show p.val * 2 + e.val = 2 * p.val + e.val; omega

theorem v11_apply (c : Dev nD) (i : Fin 4096) (h : Fin 8) (d : Fin 64) : v11 m c (ix3 i h d) = A2 m c (ix2 i ⟨64 * h.val + d.val, by omega⟩) := by
  unfold v11 V1
  simp only [List.flatten_cons, List.flatten_nil, List.append_nil, List.cons_append, List.nil_append]
  after_reads_simp
  pointwise
  refine congrArg (A2 m c) (congrArg₂ ix2 rfl (Fin.ext ?_))
  show h.val * 64 + d.val = 64 * h.val + d.val; omega

theorem v13_apply (c : Dev nD) (i : Fin 4096) (h : Fin 8) (d : Fin 64) : v13 m c (ix3 i h d) = A4 m c (ix2 i ⟨64 * h.val + d.val, by omega⟩) := by
  unfold v13 V1
  simp only [List.flatten_cons, List.flatten_nil, List.append_nil, List.cons_append, List.nil_append]
  after_reads_simp
  pointwise
  refine congrArg (A4 m c) (congrArg₂ ix2 rfl (Fin.ext ?_))
  show h.val * 64 + d.val = 64 * h.val + d.val; omega

theorem sle_at (j i : Fin 4096) : IntOp.cmpi CmpIPredicate.sle (BitVec.ofNat 32 j.val) (BitVec.ofNat 32 i.val) = if j.val ≤ i.val then 1#1 else 0#1 := by
  word_omega

theorem v25_apply (c : Dev nD) (h : Fin 8) (i j : Fin 4096) : v25 m c (ix3 h i j)
    = if j.val ≤ i.val then (∑ d : Fin 64, A0 m c (ix2 i ⟨64 * h.val + d.val, by omega⟩) * ((1 / 8 : ℝ) : EReal) * A1 m c (ix2 j ⟨64 * h.val + d.val, by omega⟩)) - A3 m c (ix2 j h) else ⊥ := by
  unfold v25 V1
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [sle_at, eighth]
  split
  · refine congrArg (· - _) (Finset.sum_congr rfl fun d _ => ?_)
    have e : (⟨h.val * 64 + d.val, by omega⟩ : Fin 512) = ⟨64 * h.val + d.val, by omega⟩ := Fin.ext (by show h.val * 64 + d.val = 64 * h.val + d.val; omega)
    show (A0 m c _ : EReal) * _ * A1 m c _ = _
    rw [e]
  · exact ninf

/-- The largest of a row of scores, -/
def mx (x : FVec Ideal S8x4096x4096 .f32) (h : Fin 8) (i : Fin 4096) : EReal := Finset.univ.fold max ⊥ fun j => (x (ix3 h i j) : EReal)

/-- the sum of its exponentials, -/
def sm (x : FVec Ideal S8x4096x4096 .f32) (h : Fin 8) (i : Fin 4096) : EReal := ∑ j : Fin 4096, Ideal.exp ((x (ix3 h i j) : EReal) - mx x h i)

/-- and the cotangent's row against the output's. -/
def dl (x : FVec Ideal S8x4096x4096 .f32) (v o : FVec Ideal S4096x8x64 .f32) (h : Fin 8) (i : Fin 4096) : EReal :=
  ∑ d : Fin 64, (o (ix3 i h d) : EReal) * Ideal.div (∑ j, Ideal.exp ((x (ix3 h i j) : EReal) - mx x h i) * (v (ix3 j h d) : EReal)) (sm x h i)

theorem v26_apply (W : Valuation τ sig (Elt Ideal)) (h : Fin 8) (i : Fin 4096) :
    (StableHlo.after (hostOps0_2.take 16) W (Proc.tc.devRef main_v26) : FVec Ideal S8x4096 .f32) (ix2 h i) = mx (W (Proc.tc.devRef main_v25)) h i := by
  simp only [hostOps0_2, List.take_succ_cons, List.take_zero]
  after_reads_simp
  pointwise
  rw [ninf]
  rfl

theorem v31_apply (W : Valuation τ sig (Elt Ideal)) (h : Fin 8) (i : Fin 4096) :
    (StableHlo.after (hostOps0_2.take 16) W (Proc.tc.devRef main_v31) : FVec Ideal S8x4096 .f32) (ix2 h i) = sm (W (Proc.tc.devRef main_v25)) h i := by
  simp only [hostOps0_2, List.take_succ_cons, List.take_zero]
  after_reads_simp
  pointwise
  rw [ninf]
  rfl

theorem v38_apply (W : Valuation τ sig (Elt Ideal)) (h : Fin 8) (i : Fin 4096) :
    (StableHlo.after (hostOps0_2.take 16) W (Proc.tc.devRef main_v38) : FVec Ideal S8x4096 .f32) (ix2 h i)
      = dl (W (Proc.tc.devRef main_v25)) (W (Proc.tc.devRef main_v11)) (W (Proc.tc.devRef main_v13)) h i := by
  simp only [hostOps0_2, List.take_succ_cons, List.take_zero]
  after_reads_simp
  pointwise
  rw [ninf]
  rfl

/-- A row's log-sum-exp. -/
def ls (a b : FVec Ideal S8x4096 .f32) (h : Fin 8) (i : Fin 4096) : EReal := a (ix2 h i) + Ideal.log (b (ix2 h i))

theorem tail_lse (W : Valuation τ sig (Elt Ideal)) (i : Fin 4096) (p : Fin 4) (e : Fin 2) :
    (StableHlo.after (List.flatten [hostOps0_2.drop 16, hostOps0_3, hostOps0_4, hostOps0_5, hostOps0_6]) W (Proc.tc.devRef main_v46) : FVec Ideal S4096x512 .f32) (ix2 i ⟨128 * p.val + e.val, by omega⟩)
      = ls (W (Proc.tc.devRef main_v26)) (W (Proc.tc.devRef main_v31)) (hh p e) i := by
  simp only [hostOps0_2, List.drop_succ_cons, List.drop_zero]
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega), dif_pos (by omega)]
  after_reads_simp
  pointwise
  have e : (⟨p.val * 2 + (128 * p.val + e.val) % 128, by omega⟩ : Fin 8) = hh p e := Fin.ext (by show _ = 2 * p.val + e.val; dsimp only; omega)
  rw [e]
  rfl

theorem tail_delta (W : Valuation τ sig (Elt Ideal)) (i : Fin 4096) (p : Fin 4) (e : Fin 2) :
    (StableHlo.after (List.flatten [hostOps0_2.drop 16, hostOps0_3, hostOps0_4, hostOps0_5, hostOps0_6]) W (Proc.tc.devRef main_v46) : FVec Ideal S4096x512 .f32) (ix2 i ⟨128 * p.val + (2 + e.val), by omega⟩)
      = (W (Proc.tc.devRef main_v38) : FVec Ideal S8x4096 .f32) (ix2 (hh p e) i) := by
  simp only [hostOps0_2, List.drop_succ_cons, List.drop_zero]
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega), dif_neg (by omega)]
  after_reads_simp
  pointwise
  have e : (⟨p.val * 2 + ((128 * p.val + (2 + e.val)) % 128 - 2), by omega⟩ : Fin 8) = hh p e := Fin.ext (by show _ = 2 * p.val + e.val; dsimp only; omega)
  rw [e]

theorem V0_split (c : Dev nD) : V0 m c = StableHlo.after (List.flatten [hostOps0_2.drop 16, hostOps0_3, hostOps0_4, hostOps0_5, hostOps0_6]) (StableHlo.after (hostOps0_2.take 16) (V1 m c)) := by
  unfold V0 V1
  rfl

/-- The rows' log-sum-exp and their mean product, as the call is given them. -/
theorem v46_lse (c : Dev nD) (i : Fin 4096) (p : Fin 4) (e : Fin 2) :
    (V m c main_v46 : FVec Ideal S4096x512 .f32) (ix2 i ⟨128 * p.val + e.val, by omega⟩)
      = mx (v25 m c) (hh p e) i + Ideal.log (sm (v25 m c) (hh p e) i) := by
  unfold V
  rw [V0_split]
  refine (tail_lse _ i p e).trans ?_
  unfold ls
  rw [v26_apply, v31_apply]

theorem v46_delta (c : Dev nD) (i : Fin 4096) (p : Fin 4) (e : Fin 2) :
    (V m c main_v46 : FVec Ideal S4096x512 .f32) (ix2 i ⟨128 * p.val + (2 + e.val), by omega⟩)
      = dl (v25 m c) (v11 m c) (v13 m c) (hh p e) i := by
  unfold V
  rw [V0_split]
  refine (tail_delta _ i p e).trans ?_
  rw [v38_apply]

end Cert.FoxBwdHost

end
-- ==== Proof.FoxBwdRead.lean ====
/- The pieces of the forgetting attention's gradient body read at an index, floats as extended reals. -/
module

public import proofs.«01_k».proof.Proof.FoxBwdRun
public import proofs.«01_k».proof.Proof.Common

@[expose] public section

set_option maxRecDepth 16384

noncomputable section

namespace Cert.FoxBwdRead

open Cert.FoxBwdIdeal Cert.FoxBwdIdeal.Gen Cert.FoxBwdRun
open Idealize.ShloMosaic Idealize.ShloMosaic.TcCoe

/-- The row of a stacked matrix that holds row `a` of head `e` of the pair. -/
def row (e : Fin 2) (a : Fin 256) : Fin 512 := ⟨256 * e.val + a.val, by omega⟩

theorem row0 (a : Fin 256) : row 0 a = ⟨a.val, by omega⟩ := by ext; simp [row]
theorem row1 (a : Fin 256) : row 1 a = ⟨256 + a.val, by omega⟩ := by ext; simp [row]

theorem two (e : Fin 2) : e = 0 ∨ e = 1 := by omega

/-- A sum over stacked rows is the two heads' sums. -/
theorem sum_row (f : Fin 512 → EReal) : ∑ z, f z = ∑ e : Fin 2, ∑ a : Fin 256, f (row e a) := by
  rw [Fin.sum_univ_two_halves 256 256 rfl f, Fin.sum_univ_two]
  simp only [row0, row1]

theorem slt64 (c : Fin 128) : IntOp.cmpi CmpIPredicate.slt (BitVec.ofNat 32 c.val) 64#32 = if c.val / 64 = 0 then 1#1 else 0#1 := by
  have h : (c.val / 64 = 0) = (c.val < 64) := by apply propext; omega
  simp only [h]; word_omega

theorem sge64 (c : Fin 128) : IntOp.cmpi CmpIPredicate.sge (BitVec.ofNat 32 c.val) 64#32 = if c.val / 64 = 1 then 1#1 else 0#1 := by
  have h : (c.val / 64 = 1) = ¬ (c.val < 64) := by apply propext; omega
  simp only [h]; word_omega

theorem pay161_apply (x : Vec Ideal S256x128 .bf16) (e : Fin 2) (a : Fin 256) (c : Fin 128) :
    k0_pay161 x (ix2 (row e a) c) = if c.val / 64 = e.val then x (ix2 a c) else 0 := by
  rcases two e with rfl | rfl
  · rw [row0]; pointwise [k0_pay161]; rw [slt64]
    show _ = if c.val / 64 = 0 then _ else _
    split <;> rfl
  · rw [row1]; pointwise [k0_pay161]; rw [sge64]
    show _ = if c.val / 64 = 1 then _ else _
    split <;> rfl

theorem pay162_apply (x : Vec Ideal S256x128 .bf16) (e : Fin 2) (a : Fin 256) (c : Fin 128) :
    k0_pay162 x (ix2 (row e a) c) = if c.val / 64 = e.val then x (ix2 a c) else 0 := pay161_apply x e a c

theorem pay164_apply (x : Vec Ideal S1x1x8x256 .f32) (e : Fin 2) (a : Fin 256) :
    k0_pay164 (k0_pay163 x) (ix2 (row e a) 0) = x (ix4 0 0 ⟨e.val, by omega⟩ a) := by
  rcases two e with rfl | rfl
  · rw [row0]; pointwise [k0_pay164, k0_pay163]
  · rw [row1]; pointwise [k0_pay164, k0_pay163]

theorem pay102_apply (k : FVec Ideal S512x128 .bf16) (q : Vec Ideal S256x128 .bf16) (z : Fin 512) (r : Fin 256) :
    k0_pay102 k q (ix2 z r) = ∑ c : Fin 128, (k (ix2 z c) : EReal) * q (ix2 r c) := by
  pointwise [k0_pay102]

theorem pay101_apply (k : FVec Ideal S512x128 .bf16) (q : Vec Ideal S256x128 .bf16) (z : Fin 512) (r : Fin 256) :
    k0_pay101 k q (ix2 z r) = ∑ c : Fin 128, (k (ix2 z c) : EReal) * q (ix2 r c) := by
  pointwise [k0_pay101]

theorem pay120_apply (ck : FVec Ideal S512x1 .f32) (s : FVec Ideal S512x256 .f32) (st : Vec Ideal S256x128 .f32) (e : Fin 2) (a r : Fin 256) :
    k0_pay120 ck s st (ix2 (row e a) r) = Ideal.exp ((s (ix2 (row e a) r) - ck (ix2 (row e a) 0) : EReal) - st (ix2 r ⟨e.val, by omega⟩)) := by
  rcases two e with rfl | rfl
  · rw [row0]; pointwise [k0_pay120, k0_pay119]
  · rw [row1]; pointwise [k0_pay120, k0_pay119]

theorem pay121_apply (ck : FVec Ideal S512x1 .f32) (s dp : FVec Ideal S512x256 .f32) (st : Vec Ideal S256x128 .f32) (e : Fin 2) (a r : Fin 256) :
    k0_pay121 ck s dp st (ix2 (row e a) r)
      = (k0_pay120 ck s st (ix2 (row e a) r) : EReal) * (dp (ix2 (row e a) r) - st (ix2 r ⟨2 + e.val, by omega⟩) : EReal) := by
  rcases two e with rfl | rfl
  · rw [row0]; pointwise [k0_pay121, k0_pay119]
  · rw [row1]; pointwise [k0_pay121, k0_pay119]

theorem pay95_apply (p dp : FVec Ideal S512x256 .f32) (st : Vec Ideal S256x128 .f32)
    (a0 v0 : BitVec 32) (k : FVec Ideal S512x128 .bf16) (ck : FVec Ideal S512x1 .f32) (q : Vec Ideal S256x128 .bf16) (e : Fin 2) (a r : Fin 256) :
    k0_pay95 dp (k0_pay91 st) (k0_pay92 a0 v0 k ck q st) (k0_pay94 a0 v0 k ck q st) (ix2 (row e a) r)
      = (k0_pay92 a0 v0 k ck q st (ix2 (row e a) r) : EReal) * (dp (ix2 (row e a) r) - st (ix2 r ⟨2 + e.val, by omega⟩) : EReal) := by
  rcases two e with rfl | rfl
  · rw [row0]; pointwise [k0_pay95, k0_pay94, k0_pay91]
  · rw [row1]; pointwise [k0_pay95, k0_pay94, k0_pay91]

/-- The causal mask inside the diagonal block. -/
theorem sle_diag (j : Fin 16) (a r : Fin 256) :
    IntOp.cmpi CmpIPredicate.sle (IntOp.addi (Scalar.muli (BitVec.ofNat 32 j.val) 256#32) (BitVec.ofNat 32 a.val))
      (IntOp.addi (Scalar.muli (BitVec.ofNat 32 j.val) 256#32) (BitVec.ofNat 32 r.val)) = if a ≤ r then 1#1 else 0#1 := by
  have h : (a ≤ r) = (a.val ≤ r.val) := rfl
  have := j.isLt
  have e : Scalar.muli (BitVec.ofNat 32 j.val) 256#32 = BitVec.ofNat 32 (256 * j.val) :=
    (by decide +kernel : ∀ j : Fin 16, Scalar.muli (BitVec.ofNat 32 j.val) 256#32 = BitVec.ofNat 32 (256 * j.val)) j
  rw [e]; simp only [h]; word_omega

theorem mask_bot : (Named.named (F := Ideal) κ "mask" (φ := .f32) 0xF149F2CA#32 : EReal) = ⊥ := by
  simp [Named.named, κ]

theorem exp_masked (b : BitVec 1) (P : Prop) [Decidable P] (hb : b = if P then 1#1 else 0#1) (x y : EReal) :
    Ideal.exp ((Scalar.select b x (⊥ : EReal) : EReal) - y) = if P then Ideal.exp (x - y) else 0 := by
  subst hb
  split
  · rfl
  · show Ideal.exp ((⊥ : EReal) - y) = 0
    rw [EReal.bot_sub]; exact Ideal.exp_bot

theorem pay92_apply (j : Fin 16) (k : FVec Ideal S512x128 .bf16) (ck : FVec Ideal S512x1 .f32) (q : Vec Ideal S256x128 .bf16)
    (st : Vec Ideal S256x128 .f32) (e : Fin 2) (a r : Fin 256) :
    k0_pay92 (BitVec.ofNat 32 j.val) (Scalar.muli (BitVec.ofNat 32 j.val) 256#32) k ck q st (ix2 (row e a) r)
      = if a ≤ r then k0_pay120 ck (k0_pay102 k q) st (ix2 (row e a) r) else 0 := by
  rw [pay120_apply, pay102_apply]
  rcases two e with rfl | rfl
  · rw [row0]; pointwise [k0_pay92, k0_pay91]
    rw [mask_bot]; exact exp_masked _ _ (sle_diag j a r) _ _
  · rw [row1]; pointwise [k0_pay92, k0_pay91]
    rw [mask_bot]; exact exp_masked _ _ (sle_diag j a r) _ _

theorem mm_apply (w : FVec Ideal S512x256 .f32) (x : Vec Ideal S256x128 .bf16) (z : Fin 512) (c : Fin 128) :
    mm w x (ix2 z c) = ∑ r : Fin 256, (w (ix2 z r) : EReal) * x (ix2 r c) := by
  pointwise [mm]

theorem pay97_apply (w : FVec Ideal S512x128 .f32) (y : Vec Ideal S256x128 .f32) (a : Fin 256) (c : Fin 128) :
    k0_pay97 w y (ix2 a c) = (y (ix2 a c) : EReal) + w (ix2 (row ⟨c.val / 64, by omega⟩ a) c) := by
  pointwise [k0_pay97]
  rw [slt64]
  by_cases h : c.val / 64 = 0
  · have : (⟨c.val / 64, by omega⟩ : Fin 2) = 0 := Fin.ext h
    rw [if_pos h, this, row0]; rfl
  · have : (⟨c.val / 64, by omega⟩ : Fin 2) = 1 := Fin.ext (by show c.val / 64 = 1; omega)
    rw [if_neg h, this, row1]; rfl

theorem pay127_apply (k : FVec Ideal S512x128 .bf16) (ds : FVec Ideal S512x256 .f32) (y : Vec Ideal S256x128 .f32) (r : Fin 256) (c : Fin 128) :
    k0_pay127 k (truncf .bf16 ds bitsLt_bf16_f32) y (ix2 r c) = (y (ix2 r c) : EReal) + ∑ z : Fin 512, (ds (ix2 z r) : EReal) * k (ix2 z c) := by
  pointwise [k0_pay127]

theorem pay128_apply (ds : FVec Ideal S512x256 .f32) (y : Vec Ideal S1x1x8x256 .f32) (e : Fin 2) (r : Fin 256) :
    k0_pay128 ds y (ix4 0 0 ⟨e.val, by omega⟩ r) = (y (ix4 0 0 ⟨e.val, by omega⟩ r) : EReal) + ∑ a : Fin 256, (ds (ix2 (row e a) r) : EReal) := by
  rcases two e with rfl | rfl
  · simp only [row0]; pointwise [k0_pay128]
  · simp only [row1]; pointwise [k0_pay128]; rfl

theorem pay1_apply (cr : FVec Ideal S512x1 .f32) (ds : FVec Ideal S512x256 .f32) (z : Fin 512) :
    k0_pay1 cr ds (ix2 z 0) = (cr (ix2 z 0) : EReal) - ∑ r : Fin 256, (ds (ix2 z r) : EReal) := by
  pointwise [k0_pay1]

theorem pay3_apply (cr : FVec Ideal S512x1 .f32) (e : Fin 2) (a : Fin 256) :
    k0_pay3 cr (ix3 0 a ⟨e.val, by omega⟩) = cr (ix2 (row e a) 0) := by
  rcases two e with rfl | rfl
  · simp only [row0]; pointwise [k0_pay3]
  · simp only [row1]; pointwise [k0_pay3]; rfl

theorem pay157_apply (i) : (k0_pay157 (F := Ideal) i : EReal) = 0 := by pointwise [k0_pay157]
theorem pay158_apply (i) : (k0_pay158 (F := Ideal) i : EReal) = 0 := by pointwise [k0_pay158]
theorem pay159_apply (i) : (k0_pay159 (F := Ideal) i : EReal) = 0 := by pointwise [k0_pay159]
theorem pay160_apply (i) : (k0_pay160 (F := Ideal) i : EReal) = 0 := by pointwise [k0_pay160]
theorem pay165_apply (i) : (k0_pay165 (F := Ideal) i : EReal) = 0 := by pointwise [k0_pay165]

end Cert.FoxBwdRead

end
-- ==== Proof.FoxBwdPoint.lean ====
/- What one point of the grid leaves, as sums over all queries' blocks. -/
module

public import proofs.«01_k».proof.Proof.FoxBwdRead

@[expose] public section

set_option maxRecDepth 16384

noncomputable section

namespace Cert.FoxBwdPoint

open Cert.FoxBwdIdeal Cert.FoxBwdIdeal.Gen Cert.FoxBwdRun Cert.FoxBwdRead
open Idealize.ShloMosaic Idealize.ShloMosaic.TcCoe

/-- The row of all queries that is row `r` of block `b`. -/
def br (b : Fin 16) (r : Fin 256) : Fin 4096 := ⟨256 * b.val + r.val, by omega⟩

/-- The head of a pair to which a lane belongs. -/
def hd (c : Fin 128) : Fin 2 := ⟨c.val / 64, by omega⟩

theorem rows_apply {e : EltTy} (X : Vec Ideal S4096x128 e) (b : Fin 16) (r : Fin 256) (c : Fin 128) :
    rows X b (ix2 r c) = X (ix2 (br b r) c) := by
  refine congrArg X (funext fun a => Fin.ext ?_)
  revert a
  refine Fin.forall_fin_two.mpr ⟨?_, ?_⟩
  · show 256 * b.val + 1 * r.val = 256 * b.val + r.val; omega
  · show 0 + 1 * c.val = c.val; omega

theorem putRows_apply {e : EltTy} (X : Vec Ideal S4096x128 e) (b b' : Fin 16) (w : Vec Ideal S256x128 e) (r : Fin 256) (c : Fin 128) :
    putRows X b w (ix2 (br b' r) c) = if b = b' then w (ix2 r c) else X (ix2 (br b' r) c) := by
  unfold putRows VecWindow.put
  by_cases hb : b = b'
  · subst hb
    have h : ∀ a, (![256 * b.val, 0] : Fin 2 → ℕ) a ≤ ((ix2 (br b r) c : S4096x128.Idx) a).val ∧ ((ix2 (br b r) c : S4096x128.Idx) a).val < (![256 * b.val, 0] : Fin 2 → ℕ) a + S256x128.size a := by
      refine Fin.forall_fin_two.mpr ⟨⟨?_, ?_⟩, ⟨?_, ?_⟩⟩
      · show 256 * b.val ≤ 256 * b.val + r.val; omega
      · show 256 * b.val + r.val < 256 * b.val + 256; omega
      · exact Nat.zero_le _
      · show c.val < 0 + 128; omega
    rw [if_pos rfl, dif_pos h]
    refine congrArg w (funext fun a => Fin.ext ?_)
    revert a
    refine Fin.forall_fin_two.mpr ⟨?_, ?_⟩
    · show 256 * b.val + r.val - 256 * b.val = r.val; omega
    · show c.val - 0 = c.val; omega
  · rw [if_neg hb, dif_neg]
    intro h
    have h0 : 256 * b.val ≤ 256 * b'.val + r.val ∧ 256 * b'.val + r.val < 256 * b.val + 256 := h 0
    exact hb (Fin.ext (by omega))

theorem drow_apply (X : Vec Ideal S1x16x8x256 .f32) (b : Fin 16) (u : Fin 8) (r : Fin 256) :
    drow X b (ix4 0 0 u r) = X (ix4 0 b u r) := by
  refine congrArg X (funext fun a => Fin.ext ?_)
  match a with
  | 0 => rfl
  | 1 => show b.val + 1 * 0 = b.val; omega
  | 2 => show 0 + 1 * u.val = u.val; omega
  | 3 => show 0 + 1 * r.val = r.val; omega

theorem putDrow_apply (X : Vec Ideal S1x16x8x256 .f32) (b b' : Fin 16) (w : Vec Ideal S1x1x8x256 .f32) (u : Fin 8) (r : Fin 256) :
    putDrow X b w (ix4 0 b' u r) = if b = b' then w (ix4 0 0 u r) else X (ix4 0 b' u r) := by
  unfold putDrow VecWindow.put
  by_cases hb : b = b'
  · subst hb
    have h : ∀ a, (![0, b.val, 0, 0] : Fin 4 → ℕ) a ≤ ((ix4 0 b u r : S1x16x8x256.Idx) a).val ∧ ((ix4 0 b u r : S1x16x8x256.Idx) a).val < (![0, b.val, 0, 0] : Fin 4 → ℕ) a + S1x1x8x256.size a := by
      intro a
      match a with
      | 0 => exact ⟨Nat.zero_le _, Nat.one_pos⟩
      | 1 => exact ⟨le_refl _, Nat.lt_succ_self _⟩
      | 2 => exact ⟨Nat.zero_le _, by show u.val < 0 + 8; omega⟩
      | 3 => exact ⟨Nat.zero_le _, by show r.val < 0 + 256; omega⟩
    rw [if_pos rfl, dif_pos h]
    refine congrArg w (funext fun a => Fin.ext ?_)
    match a with
    | 0 => rfl
    | 1 => show b.val - b.val = 0; omega
    | 2 => rfl
    | 3 => rfl
  · rw [if_neg hb, dif_neg]
    intro h
    have h1 : b.val ≤ b'.val ∧ b'.val < b.val + 1 := h 1
    exact hb (Fin.ext (by omega))

/-! ## The probabilities and their gradient at one point -/

variable (x : Ins Ideal) (j : Fin 16)

/-- The score of key row `a` of this block against query row `r` of block `b`, in head `e` of the pair, -/
def sE (b : Fin 16) (e : Fin 2) (a r : Fin 256) : EReal :=
  ∑ c : Fin 128, ((if c.val / 64 = e.val then x.k (ix2 a c) else 0 : EReal) * x.q (ix2 (br b r) c))

/-- the cotangent's product with the value row, -/
def dpE (b : Fin 16) (e : Fin 2) (a r : Fin 256) : EReal :=
  ∑ c : Fin 128, ((if c.val / 64 = e.val then x.v (ix2 a c) else 0 : EReal) * x.o (ix2 (br b r) c))

/-- the probability, -/
def pE (b : Fin 16) (e : Fin 2) (a r : Fin 256) : EReal :=
  if 256 * j.val + a.val ≤ 256 * b.val + r.val then
    Ideal.exp ((sE x b e a r - (x.ct (ix4 0 0 ⟨e.val, by omega⟩ a) : EReal)) - x.st (ix2 (br b r) ⟨e.val, by omega⟩)) else 0

/-- and its gradient with respect to the score. -/
def dE (b : Fin 16) (e : Fin 2) (a r : Fin 256) : EReal :=
  pE x j b e a r * (dpE x b e a r - (x.st (ix2 (br b r) ⟨2 + e.val, by omega⟩) : EReal))

theorem pE_lt {b : Fin 16} (h : b.val < j.val) (e : Fin 2) (a r : Fin 256) : pE x j b e a r = 0 := by
  unfold pE; rw [if_neg (by omega)]

theorem dE_lt {b : Fin 16} (h : b.val < j.val) (e : Fin 2) (a r : Fin 256) : dE x j b e a r = 0 := by
  unfold dE; rw [pE_lt x j h, zero_mul]

/-- The probabilities the `n`-th update uses, -/
def pAt (n : ℕ) : FVec Ideal S512x256 .f32 :=
  match n with
  | 0 => pM x (keys x) (BitVec.ofNat 32 j.val) (bk j.val 0)
  | n + 1 => k0_pay120 (keys x).ck (k0_pay102 (keys x).k2 (rows x.q (bk j.val (n + 1)))) (rows x.st (bk j.val (n + 1)))

/-- and their gradient. -/
def dsAt (n : ℕ) : FVec Ideal S512x256 .f32 :=
  match n with
  | 0 => dsM x (keys x) (BitVec.ofNat 32 j.val) (bk j.val 0)
  | n + 1 => k0_pay121 (keys x).ck (k0_pay102 (keys x).k2 (rows x.q (bk j.val (n + 1)))) (k0_pay101 (keys x).v2 (rows x.o (bk j.val (n + 1)))) (rows x.st (bk j.val (n + 1)))

theorem run_succ (s : Outs Ideal) : ∀ n, run x j.val s (n + 1) = upd x (keys x).k2 (pAt x j n) (dsAt x j n) (bk j.val n) (run x j.val s n)
  | 0 => rfl
  | _ + 1 => rfl

theorem keys_s (b : Fin 16) (e : Fin 2) (a r : Fin 256) : k0_pay102 (keys x).k2 (rows x.q b) (ix2 (row e a) r) = sE x b e a r := by
  rw [pay102_apply]
  refine Finset.sum_congr rfl fun c _ => ?_
  rw [rows_apply]; show (k0_pay161 x.k (ix2 (row e a) c) : EReal) * _ = _
  rw [pay161_apply]

theorem keys_dp (b : Fin 16) (e : Fin 2) (a r : Fin 256) : k0_pay101 (keys x).v2 (rows x.o b) (ix2 (row e a) r) = dpE x b e a r := by
  rw [pay101_apply]
  refine Finset.sum_congr rfl fun c _ => ?_
  rw [rows_apply]; show (k0_pay162 x.v (ix2 (row e a) c) : EReal) * _ = _
  rw [pay162_apply]

theorem pU_apply (b : Fin 16) (e : Fin 2) (a r : Fin 256) :
    k0_pay120 (keys x).ck (k0_pay102 (keys x).k2 (rows x.q b)) (rows x.st b) (ix2 (row e a) r)
      = Ideal.exp ((sE x b e a r - (x.ct (ix4 0 0 ⟨e.val, by omega⟩ a) : EReal)) - x.st (ix2 (br b r) ⟨e.val, by omega⟩)) := by
  rw [pay120_apply, keys_s, rows_apply]
  show Ideal.exp ((sE x b e a r - (k0_pay164 (k0_pay163 x.ct) (ix2 (row e a) 0) : EReal)) - _) = _
  rw [pay164_apply]

theorem bk_val {n : ℕ} (h : j.val + n < 16) : (bk j.val n).val = j.val + n := by
  show (j.val + n) % 16 = _; omega

theorem bk0 : bk j.val 0 = j := Fin.ext (bk_val j (n := 0) (by omega))

theorem pAt_apply {n : ℕ} (h : j.val + n < 16) (e : Fin 2) (a r : Fin 256) : pAt x j n (ix2 (row e a) r) = pE x j (bk j.val n) e a r := by
  cases n with
  | zero =>
    show k0_pay92 _ _ _ _ _ _ _ = _
    rw [pay92_apply, bk0, pU_apply]
    unfold pE
    have : (a ≤ r) ↔ 256 * j.val + a.val ≤ 256 * j.val + r.val := by rw [Fin.le_def]; omega
    simp only [this]
  | succ n =>
    show k0_pay120 _ _ _ _ = _
    rw [pU_apply]
    unfold pE
    rw [if_pos]
    rw [bk_val j h]; omega

theorem dsAt_apply {n : ℕ} (h : j.val + n < 16) (e : Fin 2) (a r : Fin 256) : dsAt x j n (ix2 (row e a) r) = dE x j (bk j.val n) e a r := by
  unfold dE
  rw [← pAt_apply x j h, ← keys_dp, ← rows_apply x.st]
  cases n with
  | zero => exact pay95_apply (pAt x j 0) _ _ _ _ _ _ _ _ _ _
  | succ n => exact pay121_apply _ _ _ _ _ _ _

/-! ## The updates together -/

variable (s : Outs Ideal)

/-- Sums over the blocks from `j` on are sums over all blocks of what is zero before `j`. -/
theorem sum_bk (f : Fin 16 → EReal) (h : ∀ b : Fin 16, b.val < j.val → f b = 0) :
    ∑ i ∈ Finset.range (16 - j.val), f (bk j.val i) = ∑ b : Fin 16, f b := by
  rw [show ∑ b : Fin 16, f b = ∑ b : Fin 16, (fun n => f (Fin.ofNat 16 n)) b.val from
    Finset.sum_congr rfl fun b _ => congrArg f (Fin.ext (Nat.mod_eq_of_lt b.isLt).symm)]
  rw [Fin.sum_univ_eq_sum_range (fun n => f (Fin.ofNat 16 n)) 16, Finset.range_eq_Ico (a := 16),
    ← Finset.sum_Ico_consecutive _ (Nat.zero_le j.val) (le_of_lt j.isLt), Finset.sum_eq_zero (s := Finset.Ico 0 j.val), zero_add,
    Finset.sum_Ico_eq_sum_range]
  · rfl
  · intro n hn
    have hn := (Finset.mem_Ico.mp hn).2
    refine h _ ?_
    show n % 16 < _
    omega

theorem sum_ite_bk (b : Fin 16) (f : Fin 16 → EReal) (h : b.val < j.val → f b = 0) :
    ∑ i ∈ Finset.range (16 - j.val), (if bk j.val i = b then f (bk j.val i) else 0) = f b := by
  rw [sum_bk j (fun b' => if b' = b then f b' else 0) fun b' hb' => ?_]
  · simp
  · show (if b' = b then f b' else 0) = 0
    by_cases e : b' = b
    · subst e; rw [if_pos rfl, h hb']
    · rw [if_neg e]

theorem run_dk : ∀ n, j.val + n ≤ 16 → ∀ (a : Fin 256) (c : Fin 128), ((run x j.val s n).1.dk (ix2 a c) : EReal)
    = s.dk (ix2 a c) + ∑ i ∈ Finset.range n, ∑ r : Fin 256, dE x j (bk j.val i) (hd c) a r * x.q (ix2 (br (bk j.val i) r) c)
  | 0, _, a, c => by simp [run]
  | n + 1, h, a, c => by
    rw [run_succ]
    show (k0_pay97 (F := Ideal) _ _ _ : EReal) = _
    rw [pay97_apply, run_dk n (by omega) a c, Finset.sum_range_succ, add_assoc, mm_apply]
    refine congrArg _ (congrArg _ (Finset.sum_congr rfl fun r _ => ?_))
    rw [rows_apply, dsAt_apply x j (by omega)]; rfl

theorem run_dv : ∀ n, j.val + n ≤ 16 → ∀ (a : Fin 256) (c : Fin 128), ((run x j.val s n).1.dv (ix2 a c) : EReal)
    = s.dv (ix2 a c) + ∑ i ∈ Finset.range n, ∑ r : Fin 256, pE x j (bk j.val i) (hd c) a r * x.o (ix2 (br (bk j.val i) r) c)
  | 0, _, a, c => by simp [run]
  | n + 1, h, a, c => by
    rw [run_succ]
    show (k0_pay97 (F := Ideal) _ _ _ : EReal) = _
    rw [pay97_apply, run_dv n (by omega) a c, Finset.sum_range_succ, add_assoc, mm_apply]
    refine congrArg _ (congrArg _ (Finset.sum_congr rfl fun r _ => ?_))
    rw [rows_apply, pAt_apply x j (by omega)]; rfl

theorem run_cr : ∀ n, j.val + n ≤ 16 → ∀ (e : Fin 2) (a : Fin 256), ((run x j.val s n).2 (ix2 (row e a) 0) : EReal)
    = ∑ i ∈ Finset.range n, -∑ r : Fin 256, dE x j (bk j.val i) e a r
  | 0, _, e, a => by simp [run]; exact pay165_apply _
  | n + 1, h, e, a => by
    rw [run_succ]
    show (k0_pay1 (F := Ideal) _ _ _ : EReal) = _
    rw [pay1_apply, run_cr n (by omega) e a, Finset.sum_range_succ, sub_eq_add_neg]
    refine congrArg _ (congrArg _ (Finset.sum_congr rfl fun r _ => ?_))
    rw [dsAt_apply x j (by omega)]

/-- What key block `j` adds to the gradient of query row `r` of block `b`. -/
def dqE (b : Fin 16) (r : Fin 256) (c : Fin 128) : EReal :=
  ∑ a : Fin 256, dE x j b (hd c) a r * x.k (ix2 a c)

theorem dq_heads {n : ℕ} (h : j.val + n < 16) (r : Fin 256) (c : Fin 128) :
    ∑ z : Fin 512, ((dsAt x j n (ix2 z r) : EReal) * (keys x).k2 (ix2 z c)) = dqE x j (bk j.val n) r c := by
  rw [sum_row]
  have e : ∀ e : Fin 2, ∑ a : Fin 256, ((dsAt x j n (ix2 (row e a) r) : EReal) * (keys x).k2 (ix2 (row e a) c))
      = if e = hd c then dqE x j (bk j.val n) r c else 0 := by
    intro e
    have hk : ∀ a, ((keys x).k2 (ix2 (row e a) c) : EReal) = if e = hd c then x.k (ix2 a c) else 0 := by
      intro a
      show (k0_pay161 x.k (ix2 (row e a) c) : EReal) = _
      rw [pay161_apply]
      have : (e = hd c) = (c.val / 64 = e.val) := propext ⟨fun h => by rw [h]; rfl, fun h => Fin.ext h.symm⟩
      simp only [this]
    by_cases he : e = hd c
    · rw [if_pos he]
      refine Finset.sum_congr rfl fun a _ => ?_
      rw [hk, if_pos he, dsAt_apply x j h, he]
    · rw [if_neg he]
      refine Finset.sum_eq_zero fun a _ => ?_
      rw [hk, if_neg he, mul_zero]
  simp only [e, Finset.sum_ite_eq', Finset.mem_univ, if_true]

theorem run_dq : ∀ n, j.val + n ≤ 16 → ∀ (b : Fin 16) (r : Fin 256) (c : Fin 128), ((run x j.val s n).1.dq (ix2 (br b r) c) : EReal)
    = s.dq (ix2 (br b r) c) + ∑ i ∈ Finset.range n, (if bk j.val i = b then dqE x j (bk j.val i) r c else 0)
  | 0, _, b, r, c => by simp [run]
  | n + 1, h, b, r, c => by
    rw [run_succ]
    show (putRows (F := Ideal) (e := .f32) _ _ _ _ : EReal) = _
    rw [putRows_apply, Finset.sum_range_succ, ← add_assoc, ← run_dq n (by omega) b r c]
    split
    · rename_i hb
      rw [pay127_apply, dq_heads x j (by omega), rows_apply, hb]
    · rw [add_zero]

theorem run_dr : ∀ n, j.val + n ≤ 16 → ∀ (b : Fin 16) (e : Fin 2) (r : Fin 256), ((run x j.val s n).1.dr (ix4 0 b ⟨e.val, by omega⟩ r) : EReal)
    = s.dr (ix4 0 b ⟨e.val, by omega⟩ r) + ∑ i ∈ Finset.range n, (if bk j.val i = b then ∑ a : Fin 256, dE x j (bk j.val i) e a r else 0)
  | 0, _, b, e, r => by simp [run]
  | n + 1, h, b, e, r => by
    rw [run_succ]
    show (putDrow (F := Ideal) _ _ _ _ : EReal) = _
    rw [putDrow_apply, Finset.sum_range_succ, ← add_assoc, ← run_dr n (by omega) b e r]
    split
    · rename_i hb
      rw [pay128_apply, drow_apply, hb]
      simp only [dsAt_apply x j (show j.val + n < 16 by omega), hb]
    · rw [add_zero]

/-! ## What the point leaves -/

theorem point_dk (a : Fin 256) (c : Fin 128) : ((point x j.val s).dk (ix2 a c) : EReal)
    = ∑ b : Fin 16, ∑ r : Fin 256, dE x j b (hd c) a r * x.q (ix2 (br b r) c) := by
  show ((run x j.val (reset j.val s) (16 - j.val)).1.dk (ix2 a c) : EReal) = _
  rw [run_dk x j _ _ (by omega)]
  rw [sum_bk j (fun b => ∑ r : Fin 256, dE x j b (hd c) a r * x.q (ix2 (br b r) c)) fun b hb =>
    Finset.sum_eq_zero fun r _ => by rw [dE_lt x j hb, zero_mul]]
  show (k0_pay159 (F := Ideal) (ix2 a c) : EReal) + _ = _
  rw [pay159_apply, zero_add]

theorem point_dv (a : Fin 256) (c : Fin 128) : ((point x j.val s).dv (ix2 a c) : EReal)
    = ∑ b : Fin 16, ∑ r : Fin 256, pE x j b (hd c) a r * x.o (ix2 (br b r) c) := by
  show ((run x j.val (reset j.val s) (16 - j.val)).1.dv (ix2 a c) : EReal) = _
  rw [run_dv x j _ _ (by omega)]
  rw [sum_bk j (fun b => ∑ r : Fin 256, pE x j b (hd c) a r * x.o (ix2 (br b r) c)) fun b hb =>
    Finset.sum_eq_zero fun r _ => by rw [pE_lt x j hb, zero_mul]]
  show (k0_pay160 (F := Ideal) (ix2 a c) : EReal) + _ = _
  rw [pay160_apply, zero_add]

theorem point_dc (e : Fin 2) (a : Fin 256) : ((point x j.val s).dc (ix3 0 a ⟨e.val, by omega⟩) : EReal)
    = ∑ b : Fin 16, -∑ r : Fin 256, dE x j b e a r := by
  show (k0_pay3 (run x j.val (reset j.val s) (16 - j.val)).2 _ : EReal) = _
  rw [pay3_apply, run_cr x j _ _ (by omega)]
  exact sum_bk j (fun b => -∑ r : Fin 256, dE x j b e a r) fun b hb => by
    rw [Finset.sum_eq_zero fun r _ => dE_lt x j hb e a r, neg_zero]

theorem point_dq (b : Fin 16) (r : Fin 256) (c : Fin 128) : ((point x j.val s).dq (ix2 (br b r) c) : EReal)
    = (if j.val = 0 then 0 else s.dq (ix2 (br b r) c) : EReal) + dqE x j b r c := by
  show ((run x j.val (reset j.val s) (16 - j.val)).1.dq _ : EReal) = _
  rw [run_dq x j _ _ (by omega), sum_ite_bk j b (fun b => dqE x j b r c) fun hb =>
    Finset.sum_eq_zero fun a _ => by rw [dE_lt x j hb, zero_mul]]
  refine congrArg (· + _) ?_
  show ((if j.val = 0 then k0_pay157 (F := Ideal) else s.dq : Vec Ideal S4096x128 .f32) _ : EReal) = _
  split
  · exact pay157_apply _
  · rfl

theorem point_dr (b : Fin 16) (e : Fin 2) (r : Fin 256) : ((point x j.val s).dr (ix4 0 b ⟨e.val, by omega⟩ r) : EReal)
    = (if j.val = 0 then 0 else s.dr (ix4 0 b ⟨e.val, by omega⟩ r) : EReal) + ∑ a : Fin 256, dE x j b e a r := by
  show ((run x j.val (reset j.val s) (16 - j.val)).1.dr _ : EReal) = _
  rw [run_dr x j _ _ (by omega), sum_ite_bk j b (fun b => ∑ a : Fin 256, dE x j b e a r) fun hb =>
    Finset.sum_eq_zero fun a _ => dE_lt x j hb e a r]
  refine congrArg (· + _) ?_
  show ((if j.val = 0 then k0_pay158 (F := Ideal) else s.dr : Vec Ideal S1x16x8x256 .f32) _ : EReal) = _
  split
  · exact pay158_apply _
  · rfl

end Cert.FoxBwdPoint

end
-- ==== Proof.FoxBwdModel.lean ====
/- The forgetting attention and its gradient over the reals. -/
module

public import proofs.«01_k».proof.Proof.Softmax
public import Idealize.ShloMosaic.Lib.Pointwise.Sums

@[expose] public section

noncomputable section

namespace Cert.FoxModel

open Cert.Softmax

/-- Column `d` of head `h`. -/
def cl (h : Fin 8) (d : Fin 64) : Fin 512 := ⟨64 * h.val + d.val, by omega⟩

/-- Row `r` of block `b`. -/
def at_ (b : Fin 16) (r : Fin 256) : Fin 4096 := ⟨256 * b.val + r.val, by omega⟩

variable (q k v o : Fin 4096 → Fin 512 → ℝ) (cu : Fin 4096 → Fin 8 → ℝ)

/-- The score of query `i` and key `j`, less the query's own bias, -/
def sc (h : Fin 8) (i j : Fin 4096) : ℝ := (∑ d : Fin 64, q i (cl h d) * (1 / 8) * k j (cl h d)) - cu j h

/-- the causal softmax, -/
def P (h : Fin 8) (i j : Fin 4096) : ℝ := soft (sc q k cu h i) (fun j => j.val ≤ i.val) j

/-- its cotangent, -/
def dP (h : Fin 8) (i j : Fin 4096) : ℝ := ∑ d : Fin 64, o i (cl h d) * v j (cl h d)

/-- the mean of it, -/
def D (h : Fin 8) (i : Fin 4096) : ℝ := ∑ j, P q k cu h i j * dP v o h i j

/-- and the scores' gradient. -/
def dS (h : Fin 8) (i j : Fin 4096) : ℝ := P q k cu h i j * (dP v o h i j - D q k v o cu h i)

/-- The head of a column. -/
def hc (l : Fin 512) : Fin 8 := ⟨l.val / 64, by omega⟩

/-- The gradients: of the queries before the scale, -/
def gq (i : Fin 4096) (l : Fin 512) : ℝ := ∑ j, dS q k v o cu (hc l) i j * k j l

/-- of the keys, -/
def gk (j : Fin 4096) (l : Fin 512) : ℝ := ∑ i, dS q k v o cu (hc l) i j * (q i l * (1 / 8))

/-- of the values, -/
def gv (j : Fin 4096) (l : Fin 512) : ℝ := ∑ i, P q k cu (hc l) i j * o i l

/-- and of the bias, as a key's -/
def gc (j : Fin 4096) (h : Fin 8) : ℝ := -∑ i, dS q k v o cu h i j

/-- and as a query's. -/
def gr (i : Fin 4096) (h : Fin 8) : ℝ := ∑ j, dS q k v o cu h i j

theorem diag (i : Fin 4096) : ∃ j : Fin 4096, j.val ≤ i.val := ⟨i, le_refl _⟩

theorem P_of_lt {h : Fin 8} {i j : Fin 4096} (hj : ¬ j.val ≤ i.val) : P q k cu h i j = 0 := if_neg hj

/-- A sum over rows is a sum over the blocks' rows. -/
theorem sum_at {M : Type*} [AddCommMonoid M] (f : Fin 4096 → M) : ∑ b : Fin 16, ∑ r : Fin 256, f (at_ b r) = ∑ i, f i := by
  rw [← Fintype.sum_prod_type']
  refine Fintype.sum_equiv (finProdFinEquiv (m := 16) (n := 256)) _ _ fun x => congrArg f (Fin.ext ?_)
  show 256 * x.1.val + x.2.val = x.2.val + 256 * x.1.val
  omega

/-- A sum over a pair's lanes of what is zero off one half is the sum over that half. -/
theorem sum_lanes (e : Fin 2) (f g : Fin 128 → EReal) :
    ∑ c : Fin 128, (if c.val / 64 = e.val then f c else 0) * g c = ∑ d : Fin 64, f ⟨64 * e.val + d.val, by omega⟩ * g ⟨64 * e.val + d.val, by omega⟩ := by
  rw [Idealize.ShloMosaic.Fin.sum_univ_two_halves 64 64 rfl]
  have h : e = 0 ∨ e = 1 := by omega
  rcases h with rfl | rfl
  · rw [Finset.sum_eq_zero (s := Finset.univ) (f := fun d : Fin 64 => (if (⟨64 + d.val, by omega⟩ : Fin 128).val / 64 = (0 : Fin 2).val then f ⟨64 + d.val, by omega⟩ else 0) * g ⟨64 + d.val, by omega⟩), add_zero]
    · refine Finset.sum_congr rfl fun d _ => ?_
      rw [if_pos (by show d.val / 64 = 0; omega)]
      have : (⟨d.val, by omega⟩ : Fin 128) = ⟨64 * (0 : Fin 2).val + d.val, by omega⟩ := Fin.ext (by show d.val = 64 * 0 + d.val; omega)
      rw [this]
    · intro d _
      rw [if_neg (by show ¬ (64 + d.val) / 64 = 0; omega), zero_mul]
  · rw [Finset.sum_eq_zero (s := Finset.univ) (f := fun d : Fin 64 => (if (⟨d.val, by omega⟩ : Fin 128).val / 64 = (1 : Fin 2).val then f ⟨d.val, by omega⟩ else 0) * g ⟨d.val, by omega⟩), zero_add]
    · refine Finset.sum_congr rfl fun d _ => ?_
      rw [if_pos (by show (64 + d.val) / 64 = 1; omega)]
      have : (⟨64 + d.val, by omega⟩ : Fin 128) = ⟨64 * (1 : Fin 2).val + d.val, by omega⟩ := Fin.ext (by show 64 + d.val = 64 * 1 + d.val; omega)
      rw [this]
    · intro d _
      rw [if_neg (by show ¬ d.val / 64 = 1; omega), zero_mul]

end Cert.FoxModel

end
-- ==== Proof.FoxBwdArr.lean ====
/- The arrays the forgetting attention's gradient call leaves, for real arguments. -/
module

public import proofs.«01_k».proof.Proof.FoxBwdHost
public import proofs.«01_k».proof.Proof.FoxBwdPoint
public import proofs.«01_k».proof.Proof.FoxBwdModel

@[expose] public section

set_option maxRecDepth 16384

noncomputable section

namespace Cert.FoxBwdArr

open Cert.FoxBwdIdeal Cert.FoxBwdIdeal.Gen Cert.FoxBwdRun Cert.FoxBwdPoint Cert.FoxBwdFrame Cert.FoxBwdHost
open Idealize.ShloMosaic Idealize.ShloMosaic.TcCoe Idealize.SL.Sem
open Idealize.ShloMosaic.Pipeline (Dat)
open Cert.FoxModel (cl sc P dP D dS)
open Cert.Softmax (masked soft tot)

variable (m : (ℓ : Loc nD τ sig) → Buf (Elt Ideal) ℓ)

/-- The arguments' entries are these real numbers. -/
structure Reals (c : Dev nD) (q k v o : Fin 4096 → Fin 512 → ℝ) (cu : Fin 4096 → Fin 8 → ℝ) : Prop where
  q : ∀ i l, A0 m c (ix2 i l) = (q i l : EReal)
  k : ∀ i l, A1 m c (ix2 i l) = (k i l : EReal)
  v : ∀ i l, A2 m c (ix2 i l) = (v i l : EReal)
  cu : ∀ i h, A3 m c (ix2 i h) = (cu i h : EReal)
  o : ∀ i l, A4 m c (ix2 i l) = (o i l : EReal)

/-- The block index of every window at every grid point. -/
theorem idx : ∀ t : Fin cfg0.N, win0_0.index t = ![0, t.val / 16] ∧ win0_1.index t = ![t.val % 16, 4 + t.val / 16] ∧ win0_2.index t = ![t.val % 16, 8 + t.val / 16]
    ∧ win0_3.index t = ![0, t.val / 16] ∧ win0_4.index t = ![0, t.val / 16] ∧ win0_5.index t = ![t.val / 16, t.val % 16, 0, 0]
    ∧ win0_6.index t = ![0, t.val / 16] ∧ win0_7.index t = ![t.val % 16, t.val / 16] ∧ win0_8.index t = ![t.val % 16, t.val / 16]
    ∧ win0_9.index t = ![t.val / 16, t.val % 16, 0] ∧ win0_10.index t = ![t.val / 16, 0, 0, 0] :=
  (by decide +kernel : ∀ t : Fin grid0.N, _)

/-- Lane `l` of pair `p`. -/
def col (p : Fin 4) (l : Fin 128) : Fin 512 := ⟨128 * p.val + l.val, by omega⟩

/-- Point `j` of pair `p`. -/
def pt (p : Fin 4) (j : Fin 16) : Fin cfg0.N := ⟨16 * p.val + j.val, by show 16 * p.val + j.val < cfg0.N; rw [show cfg0.N = 64 from N_0]; omega⟩

theorem pt_div (p : Fin 4) (j : Fin 16) : (pt p j).val / 16 = p.val := by show (16 * p.val + j.val) / 16 = _; omega
theorem pt_mod (p : Fin 4) (j : Fin 16) : (pt p j).val % 16 = j.val := by show (16 * p.val + j.val) % 16 = _; omega

abbrev B47 (c : Dev nD) : FVec Ideal S4096x1536 .bf16 := V m c main_v47
abbrev B5 (c : Dev nD) : FVec Ideal S4096x512 .bf16 := V m c main_v5
abbrev B46 (c : Dev nD) : FVec Ideal S4096x512 .f32 := V m c main_v46
abbrev B52 (c : Dev nD) : FVec Ideal S4x16x8x256 .f32 := V m c main_v52

section Blocks
variable (c : Dev nD) (p : Fin 4) (j : Fin 16)

theorem in_q (i : Fin 4096) (l : Fin 128) : (ins m c (pt p j)).q (ix2 i l) = B47 m c (ix2 i ⟨(col p l).val, by omega⟩) := by
  have h1 := pt_div p j; have h2 := pt_mod p j
  generalize pt p j = t at *
  unfold ins col; dsimp only
  blk_ext [iblk, idx t]
theorem in_k (a : Fin 256) (l : Fin 128) : (ins m c (pt p j)).k (ix2 a l) = B47 m c (ix2 (br j a) ⟨512 + (col p l).val, by omega⟩) := by
  have h1 := pt_div p j; have h2 := pt_mod p j
  generalize pt p j = t at *
  unfold ins col br; dsimp only
  blk_ext [iblk, idx t]
theorem in_v (a : Fin 256) (l : Fin 128) : (ins m c (pt p j)).v (ix2 a l) = B47 m c (ix2 (br j a) ⟨1024 + (col p l).val, by omega⟩) := by
  have h1 := pt_div p j; have h2 := pt_mod p j
  generalize pt p j = t at *
  unfold ins col br; dsimp only
  blk_ext [iblk, idx t]
theorem in_o (i : Fin 4096) (l : Fin 128) : (ins m c (pt p j)).o (ix2 i l) = B5 m c (ix2 i (col p l)) := by
  have h1 := pt_div p j; have h2 := pt_mod p j
  generalize pt p j = t at *
  unfold ins col; dsimp only
  blk_ext [iblk, idx t]
theorem in_st (i : Fin 4096) (l : Fin 128) : (ins m c (pt p j)).st (ix2 i l) = B46 m c (ix2 i (col p l)) := by
  have h1 := pt_div p j; have h2 := pt_mod p j
  generalize pt p j = t at *
  unfold ins col; dsimp only
  blk_ext [iblk, idx t]
theorem in_ct (u : Fin 8) (a : Fin 256) : (ins m c (pt p j)).ct (ix4 0 0 u a) = B52 m c (ix4 p j u a) := by
  have h1 := pt_div p j; have h2 := pt_mod p j
  generalize pt p j = t at *
  unfold ins; dsimp only
  blk_ext [iblk, idx t]

end Blocks

end Cert.FoxBwdArr

end
-- ==== Proof.FoxBwdVals.lean ====
/- What the gradient call leaves at each point, for real arguments. -/
module

public import proofs.«01_k».proof.Proof.FoxBwdArr
@[expose] public section

set_option maxRecDepth 16384

noncomputable section

namespace Cert.FoxBwdVals

open Cert.FoxBwdArr Cert.FoxBwdIdeal Cert.FoxBwdIdeal.Gen Cert.FoxBwdRun Cert.FoxBwdPoint Cert.FoxBwdFrame Cert.FoxBwdHost
open Idealize.ShloMosaic Idealize.ShloMosaic.TcCoe Idealize.SL.Sem
open Idealize.ShloMosaic.Pipeline (Dat)
open Cert.FoxModel (cl sc P dP D dS)
open Cert.Softmax (masked soft tot)

variable (m : (ℓ : Loc nD τ sig) → Buf (Elt Ideal) ℓ)

open Cert.FoxModel (gq gk gv gc gr hc sum_lanes sum_at diag)
open Cert.Softmax (coe_sum)

variable {m}
variable {c : Dev nD} {q k v o : Fin 4096 → Fin 512 → ℝ} {cu : Fin 4096 → Fin 8 → ℝ} (R : Reals m c q k v o cu)

theorem col_cl (p : Fin 4) (e : Fin 2) (d : Fin 64) : col p ⟨64 * e.val + d.val, by omega⟩ = cl (hh p e) d :=
  Fin.ext (by show 128 * p.val + (64 * e.val + d.val) = 64 * (2 * p.val + e.val) + d.val; omega)

theorem hc_col (p : Fin 4) (l : Fin 128) : hc (col p l) = hh p (hd l) :=
  Fin.ext (by show (128 * p.val + l.val) / 64 = 2 * p.val + l.val / 64; omega)

include R

theorem rq (p : Fin 4) (j : Fin 16) (i : Fin 4096) (l : Fin 128) : ((ins m c (pt p j)).q (ix2 i l) : EReal) = ((q i (col p l) * (1 / 8) : ℝ) : EReal) := by
  rw [in_q]; refine (v47_q m c i (col p l)).trans ?_; rw [R.q, ← EReal.coe_mul]
theorem rk (p : Fin 4) (j : Fin 16) (a : Fin 256) (l : Fin 128) : ((ins m c (pt p j)).k (ix2 a l) : EReal) = ((k (br j a) (col p l) : ℝ) : EReal) := by
  rw [in_k]; exact (v47_k m c (br j a) (col p l)).trans (R.k _ _)
theorem rv (p : Fin 4) (j : Fin 16) (a : Fin 256) (l : Fin 128) : ((ins m c (pt p j)).v (ix2 a l) : EReal) = ((v (br j a) (col p l) : ℝ) : EReal) := by
  rw [in_v]; exact (v47_v m c (br j a) (col p l)).trans (R.v _ _)
theorem ro (p : Fin 4) (j : Fin 16) (i : Fin 4096) (l : Fin 128) : ((ins m c (pt p j)).o (ix2 i l) : EReal) = ((o i (col p l) : ℝ) : EReal) := by
  rw [in_o]; exact (v5_apply m c i (col p l)).trans (R.o _ _)
theorem rct (p : Fin 4) (j : Fin 16) (e : Fin 2) (a : Fin 256) : ((ins m c (pt p j)).ct (ix4 0 0 ⟨e.val, by omega⟩ a) : EReal) = ((cu (br j a) (hh p e) : ℝ) : EReal) := by
  rw [in_ct]; exact (v52_apply m c p j e a).trans (R.cu _ _)

/-- The host's masked scores are the model's. -/
theorem v25_real (h : Fin 8) (i : Fin 4096) : (fun j => (v25 m c (ix3 h i j) : EReal)) = masked (sc q k cu h i) (fun j => j.val ≤ i.val) := by
  funext j
  refine (v25_apply m c h i j).trans ?_
  unfold masked
  split
  · rw [R.cu]
    simp only [R.q, R.k, ← EReal.coe_mul, coe_sum]
    rw [← EReal.coe_sub]
    rfl
  · rfl

theorem st_real (p : Fin 4) (j : Fin 16) (i : Fin 4096) (e : Fin 2) : ∃ M : ℝ,
    ((ins m c (pt p j)).st (ix2 i ⟨e.val, by omega⟩) : EReal) = (M : EReal) + Ideal.log ((Real.exp (-M) * tot (sc q k cu (hh p e) i) (fun j => j.val ≤ i.val) : ℝ) : EReal)
    ∧ ((ins m c (pt p j)).st (ix2 i ⟨2 + e.val, by omega⟩) : EReal) = ((D q k v o cu (hh p e) i : ℝ) : EReal) := by
  obtain ⟨M, hM⟩ := Cert.Softmax.max_real (sc q k cu (hh p e) i) (diag i)
  have hx : mx (v25 m c) (hh p e) i = (M : EReal) := by
    unfold mx; rw [v25_real R]; exact hM
  have hv (j) : (v25 m c (ix3 (hh p e) i j) : EReal) = masked (sc q k cu (hh p e) i) (fun j => j.val ≤ i.val) j := congrFun (v25_real R (hh p e) i) j
  have hs : sm (v25 m c) (hh p e) i = ∑ j, Ideal.exp (masked (sc q k cu (hh p e) i) (fun j => j.val ≤ i.val) j - (M : EReal)) := by
    unfold sm; rw [hx]; exact Finset.sum_congr rfl fun j _ => by rw [hv]
  have hd : dl (v25 m c) (v11 m c) (v13 m c) (hh p e) i = ((D q k v o cu (hh p e) i : ℝ) : EReal) := by
    unfold dl
    rw [hx, hs]
    refine Eq.trans ?_ (Cert.Softmax.delta_real (sc q k cu (hh p e) i) (diag i) M (fun d : Fin 64 => o i (cl (hh p e) d)) (fun j d => v j (cl (hh p e) d)))
    refine Finset.sum_congr rfl fun d _ => ?_
    rw [show (v13 m c (ix3 i (hh p e) d) : EReal) = ((o i (cl (hh p e) d) : ℝ) : EReal) from (v13_apply m c i (hh p e) d).trans (R.o _ _)]
    refine congrArg (fun z => (_ : EReal) * Ideal.div z _) ?_
    refine Finset.sum_congr rfl fun j _ => ?_
    rw [hv, show (v11 m c (ix3 j (hh p e) d) : EReal) = ((v j (cl (hh p e) d) : ℝ) : EReal) from (v11_apply m c j (hh p e) d).trans (R.v _ _)]
  refine ⟨M, ?_, ?_⟩
  · rw [in_st]
    exact (v46_lse m c i p e).trans (by rw [hx, hs, Cert.Softmax.sum_real])
  · rw [in_st]
    exact (v46_delta m c i p e).trans hd

theorem sE_real (p : Fin 4) (j b : Fin 16) (e : Fin 2) (a r : Fin 256) :
    sE (ins m c (pt p j)) b e a r = ((sc q k cu (hh p e) (br b r) (br j a) + cu (br j a) (hh p e) : ℝ) : EReal) := by
  unfold sE
  refine (sum_lanes e (fun l => ((ins m c (pt p j)).k (ix2 a l) : EReal)) (fun l => ((ins m c (pt p j)).q (ix2 (br b r) l) : EReal))).trans ?_
  simp only [rk R, rq R, col_cl, ← EReal.coe_mul, coe_sum]
  rw [EReal.coe_eq_coe_iff]
  unfold sc
  rw [sub_add_cancel]
  exact Finset.sum_congr rfl fun d _ => mul_comm _ _

theorem dpE_real (p : Fin 4) (j b : Fin 16) (e : Fin 2) (a r : Fin 256) :
    dpE (ins m c (pt p j)) b e a r = ((dP v o (hh p e) (br b r) (br j a) : ℝ) : EReal) := by
  unfold dpE
  refine (sum_lanes e (fun l => ((ins m c (pt p j)).v (ix2 a l) : EReal)) (fun l => ((ins m c (pt p j)).o (ix2 (br b r) l) : EReal))).trans ?_
  simp only [rv R, ro R, col_cl, ← EReal.coe_mul, coe_sum]
  rw [EReal.coe_eq_coe_iff]
  exact Finset.sum_congr rfl fun d _ => mul_comm _ _

theorem pE_real (p : Fin 4) (j b : Fin 16) (e : Fin 2) (a r : Fin 256) :
    pE (ins m c (pt p j)) j b e a r = ((P q k cu (hh p e) (br b r) (br j a) : ℝ) : EReal) := by
  unfold pE
  split
  · rename_i hj
    obtain ⟨M, hM, -⟩ := st_real R p j (br b r) e
    rw [hM, rct R, sE_real R, ← EReal.coe_sub, add_sub_cancel_right]
    exact Cert.Softmax.exp_lse _ (diag _) M _ hj
  · rename_i hj
    rw [Cert.FoxModel.P_of_lt q k cu (i := br b r) (j := br j a) hj, EReal.coe_zero]

theorem dE_real (p : Fin 4) (j b : Fin 16) (e : Fin 2) (a r : Fin 256) :
    dE (ins m c (pt p j)) j b e a r = ((dS q k v o cu (hh p e) (br b r) (br j a) : ℝ) : EReal) := by
  unfold dE
  obtain ⟨M, -, hD⟩ := st_real R p j (br b r) e
  rw [pE_real R, dpE_real R, hD, ← EReal.coe_sub, ← EReal.coe_mul]
  rfl

omit R
theorem out_point (p : Fin 4) (j : Fin 16) : ∃ s, outsAt m c (pt p j).val (pt p j).isLt = point (ins m c (pt p j)) j.val s
    ∧ ∀ n (hn : n + 1 = j.val), s = outsAt m c (pt p ⟨n, by omega⟩).val (pt p ⟨n, by omega⟩).isLt := by
  refine ⟨outsAt m c ((pt p j).val - 1) (Nat.lt_of_le_of_lt (Nat.sub_le _ _) (pt p j).isLt), ?_, ?_⟩
  · have h := point_outsAt m c (pt p j).val (pt p j).isLt (outsAt m c ((pt p j).val - 1) (Nat.lt_of_le_of_lt (Nat.sub_le _ _) (pt p j).isLt)) fun _ => ⟨rfl, rfl⟩
    rw [pt_mod] at h
    exact h.symm
  · intro n hn
    congr 1
    show 16 * p.val + j.val - 1 = 16 * p.val + n
    omega

/-- A fold over the key blocks is the sum over them. -/
theorem fold_blocks (X f : Fin 16 → EReal) (h0 : X 0 = f 0) (hs : ∀ n (hn : n + 1 < 16), X ⟨n + 1, hn⟩ = X ⟨n, by omega⟩ + f ⟨n + 1, hn⟩) : X 15 = ∑ j, f j := by
  have h : ∀ n (hn : n < 16), X ⟨n, hn⟩ = ∑ t ∈ Finset.range (n + 1), if ht : t < 16 then f ⟨t, ht⟩ else 0 := by
    intro n
    induction n with
    | zero => intro hn; rw [Finset.sum_range_one, dif_pos (by omega)]; exact h0
    | succ n ih => intro hn; rw [hs n hn, ih (by omega), Finset.sum_range_succ _ (n + 1), dif_pos hn]
  refine (h 15 (by omega)).trans ?_
  rw [Finset.sum_range]
  exact Finset.sum_congr rfl fun j _ => dif_pos j.isLt
include R

/-! ## What the points leave -/

theorem dk_real (p : Fin 4) (j : Fin 16) (a : Fin 256) (l : Fin 128) :
    ((outsAt m c (pt p j).val (pt p j).isLt).dk (ix2 a l) : EReal) = ((gk q k v o cu (br j a) (col p l) : ℝ) : EReal) := by
  obtain ⟨s, hs, -⟩ := out_point (m := m) (c := c) p j
  rw [hs, point_dk]
  simp only [dE_real R, rq R, ← EReal.coe_mul, coe_sum]
  rw [EReal.coe_eq_coe_iff]
  refine (sum_at (fun i => dS q k v o cu (hh p (hd l)) i (br j a) * (q i (col p l) * (1 / 8)))).trans ?_
  rw [← hc_col]; rfl

theorem dv_real (p : Fin 4) (j : Fin 16) (a : Fin 256) (l : Fin 128) :
    ((outsAt m c (pt p j).val (pt p j).isLt).dv (ix2 a l) : EReal) = ((gv q k o cu (br j a) (col p l) : ℝ) : EReal) := by
  obtain ⟨s, hs, -⟩ := out_point (m := m) (c := c) p j
  rw [hs, point_dv]
  simp only [pE_real R, ro R, ← EReal.coe_mul, coe_sum]
  rw [EReal.coe_eq_coe_iff]
  refine (sum_at (fun i => P q k cu (hh p (hd l)) i (br j a) * o i (col p l))).trans ?_
  rw [← hc_col]; rfl

theorem dc_real (p : Fin 4) (j : Fin 16) (e : Fin 2) (a : Fin 256) :
    ((outsAt m c (pt p j).val (pt p j).isLt).dc (ix3 0 a ⟨e.val, by omega⟩) : EReal) = ((gc q k v o cu (br j a) (hh p e) : ℝ) : EReal) := by
  obtain ⟨s, hs, -⟩ := out_point (m := m) (c := c) p j
  rw [hs, point_dc]
  simp only [dE_real R, coe_sum, ← EReal.coe_neg]
  rw [EReal.coe_eq_coe_iff, Finset.sum_neg_distrib]
  exact congrArg Neg.neg (sum_at (fun i => dS q k v o cu (hh p e) i (br j a)))

theorem dq_real (p : Fin 4) (i : Fin 4096) (l : Fin 128) :
    ((outsAt m c (pt p 15).val (pt p 15).isLt).dq (ix2 i l) : EReal) = ((gq q k v o cu i (col p l) : ℝ) : EReal) := by
  obtain ⟨b, r, rfl⟩ : ∃ b r, i = br b r := ⟨⟨i.val / 256, by omega⟩, ⟨i.val % 256, by omega⟩, Fin.ext (by show i.val = 256 * (i.val / 256) + i.val % 256; omega)⟩
  refine (fold_blocks (fun j => ((outsAt m c (pt p j).val (pt p j).isLt).dq (ix2 (br b r) l) : EReal)) (fun j => dqE (ins m c (pt p j)) j b r l) ?_ ?_).trans ?_
  · obtain ⟨s, hs, -⟩ := out_point (m := m) (c := c) p 0
    rw [hs, point_dq]; exact zero_add _
  · intro n hn
    obtain ⟨s, hs, h'⟩ := out_point (m := m) (c := c) p ⟨n + 1, hn⟩
    rw [hs, point_dq, h' n rfl, if_neg (Nat.succ_ne_zero n)]
  · simp only [dqE, dE_real R, rk R, ← EReal.coe_mul, coe_sum]
    rw [EReal.coe_eq_coe_iff]
    refine (sum_at (fun j => dS q k v o cu (hh p (hd l)) (br b r) j * k j (col p l))).trans ?_
    rw [← hc_col]; rfl

theorem dr_real (p : Fin 4) (b : Fin 16) (e : Fin 2) (r : Fin 256) :
    ((outsAt m c (pt p 15).val (pt p 15).isLt).dr (ix4 0 b ⟨e.val, by omega⟩ r) : EReal) = ((gr q k v o cu (br b r) (hh p e) : ℝ) : EReal) := by
  refine (fold_blocks (fun j => ((outsAt m c (pt p j).val (pt p j).isLt).dr (ix4 0 b ⟨e.val, by omega⟩ r) : EReal)) (fun j => ∑ a : Fin 256, dE (ins m c (pt p j)) j b e a r) ?_ ?_).trans ?_
  · obtain ⟨s, hs, -⟩ := out_point (m := m) (c := c) p 0
    rw [hs, point_dr]; exact zero_add _
  · intro n hn
    obtain ⟨s, hs, h'⟩ := out_point (m := m) (c := c) p ⟨n + 1, hn⟩
    rw [hs, point_dr, h' n rfl, if_neg (Nat.succ_ne_zero n)]
  · simp only [dE_real R, coe_sum]
    rw [EReal.coe_eq_coe_iff]
    exact sum_at (fun j => dS q k v o cu (hh p e) (br b r) j)

end Cert.FoxBwdVals

end
-- ==== Proof.FoxBwdTail.lean ====
/- The arrays the gradient call leaves, and the lines after it, for real arguments. -/
module

public import proofs.«01_k».proof.Proof.FoxBwdVals
@[expose] public section

set_option maxRecDepth 16384

noncomputable section

namespace Cert.FoxBwdTail

open Cert.FoxBwdVals Cert.FoxBwdArr Cert.FoxBwdIdeal Cert.FoxBwdIdeal.Gen Cert.FoxBwdRun Cert.FoxBwdPoint Cert.FoxBwdFrame Cert.FoxBwdHost
open Idealize.ShloMosaic Idealize.ShloMosaic.TcCoe Idealize.SL.Sem
open Idealize.ShloMosaic.Pipeline (Dat)
open Cert.FoxModel (cl sc P dP D dS)
open Cert.Softmax (masked soft tot)

variable (m : (ℓ : Loc nD τ sig) → Buf (Elt Ideal) ℓ)

open Cert.FoxModel (gq gk gv gc gr hc sum_lanes sum_at diag)
open Cert.Softmax (coe_sum)

variable {m}
variable {c : Dev nD} {q k v o : Fin 4096 → Fin 512 → ℝ} {cu : Fin 4096 → Fin 8 → ℝ} (R : Reals m c q k v o cu)

theorem pt_eq (t : Fin cfg0.N) : ∃ p j, t = pt p j := by
  have h : t.val < 64 := lt_of_lt_of_eq t.isLt (show cfg0.N = 64 from N_0)
  exact ⟨⟨t.val / 16, by omega⟩, ⟨t.val % 16, by omega⟩, Fin.ext (by show t.val = 16 * (t.val / 16) + t.val % 16; omega)⟩

include R

/-- The queries' gradient before the scale. -/
theorem arr6 : (dats m 0 c).arrAt 6 cfg0.N = (fun i => ((gq q k v o cu (i 0) (i 1) : ℝ) : EReal) : FVec Ideal S4096x512 .f32) := by
  refine (dats m 0 c).arrAt_eq_of_covers 6 _ (by decide +kernel) fun t hf y => ?_
  obtain ⟨p, j, rfl⟩ := pt_eq t
  have hj : j = 15 := by
    have := (flush0_6 _).mp hf
    have h2 := pt_mod p j
    apply Fin.ext
    show j.val = 15
    omega
  subst hj
  blk_simp
  rw [after0_6]
  idx_vars y
  refine (dq_real R p y0 y1).trans ?_
  have e0 : ((View.whole main_v53_0).slice (win0_6.rect (pt p 15))).emb (ix2 y0 y1) 0 = y0 := by
    apply Fin.ext
    show win0_6.index (pt p 15) 0 * 4096 + 1 * y0.val = _
    rw [(idx (pt p 15)).2.2.2.2.2.2.1]
    show 0 * 4096 + 1 * y0.val = _
    omega
  have e1 : ((View.whole main_v53_0).slice (win0_6.rect (pt p 15))).emb (ix2 y0 y1) 1 = col p y1 := by
    apply Fin.ext
    show win0_6.index (pt p 15) 1 * 128 + 1 * y1.val = _
    rw [(idx (pt p 15)).2.2.2.2.2.2.1, pt_div]
    show p.val * 128 + 1 * y1.val = 128 * p.val + y1.val
    omega
  exact congrArg₂ (fun a b => ((gq q k v o cu a b : ℝ) : EReal)) e0.symm e1.symm

/-- The keys' gradient. -/
theorem arr7 : (dats m 0 c).arrAt 7 cfg0.N = (fun i => ((gk q k v o cu (i 0) (i 1) : ℝ) : EReal) : FVec Ideal S4096x512 .f32) := by
  refine (dats m 0 c).arrAt_eq_of_covers 7 _ (by decide +kernel) fun t hf y => ?_
  obtain ⟨p, j, rfl⟩ := pt_eq t
  blk_simp
  rw [after0_7]
  idx_vars y
  refine (dk_real R p j y0 y1).trans ?_
  have e0 : ((View.whole main_v53_1).slice (win0_7.rect (pt p j))).emb (ix2 y0 y1) 0 = br j y0 := by
    apply Fin.ext
    show win0_7.index (pt p j) 0 * 256 + 1 * y0.val = _
    rw [(idx (pt p j)).2.2.2.2.2.2.2.1, pt_mod]
    show j.val * 256 + 1 * y0.val = 256 * j.val + y0.val
    omega
  have e1 : ((View.whole main_v53_1).slice (win0_7.rect (pt p j))).emb (ix2 y0 y1) 1 = col p y1 := by
    apply Fin.ext
    show win0_7.index (pt p j) 1 * 128 + 1 * y1.val = _
    rw [(idx (pt p j)).2.2.2.2.2.2.2.1, pt_div]
    show p.val * 128 + 1 * y1.val = 128 * p.val + y1.val
    omega
  exact congrArg₂ (fun a b => ((gk q k v o cu a b : ℝ) : EReal)) e0.symm e1.symm

/-- The values' gradient. -/
theorem arr8 : (dats m 0 c).arrAt 8 cfg0.N = (fun i => ((gv q k o cu (i 0) (i 1) : ℝ) : EReal) : FVec Ideal S4096x512 .f32) := by
  refine (dats m 0 c).arrAt_eq_of_covers 8 _ (by decide +kernel) fun t hf y => ?_
  obtain ⟨p, j, rfl⟩ := pt_eq t
  blk_simp
  rw [after0_8]
  idx_vars y
  refine (dv_real R p j y0 y1).trans ?_
  have e0 : ((View.whole main_v53_2).slice (win0_8.rect (pt p j))).emb (ix2 y0 y1) 0 = br j y0 := by
    apply Fin.ext
    show win0_8.index (pt p j) 0 * 256 + 1 * y0.val = _
    rw [(idx (pt p j)).2.2.2.2.2.2.2.2.1, pt_mod]
    show j.val * 256 + 1 * y0.val = 256 * j.val + y0.val
    omega
  have e1 : ((View.whole main_v53_2).slice (win0_8.rect (pt p j))).emb (ix2 y0 y1) 1 = col p y1 := by
    apply Fin.ext
    show win0_8.index (pt p j) 1 * 128 + 1 * y1.val = _
    rw [(idx (pt p j)).2.2.2.2.2.2.2.2.1, pt_div]
    show p.val * 128 + 1 * y1.val = 128 * p.val + y1.val
    omega
  exact congrArg₂ (fun a b => ((gv q k o cu a b : ℝ) : EReal)) e0.symm e1.symm

omit R

/-- What is left of the bias' gradient by key, at an index, -/
def g9 (m : (ℓ : Loc nD τ sig) → Buf (Elt Ideal) ℓ) (c : Dev nD) (p : Fin 4) (r : Fin 4096) (l : Fin 128) : EReal :=
  (outsAt m c (pt p ⟨r.val / 256, by omega⟩).val (pt p ⟨r.val / 256, by omega⟩).isLt).dc (ix3 0 ⟨r.val % 256, by omega⟩ l)

/-- and by query. -/
def g10 (m : (ℓ : Loc nD τ sig) → Buf (Elt Ideal) ℓ) (c : Dev nD) (p : Fin 4) (b : Fin 16) (u : Fin 8) (r : Fin 256) : EReal :=
  (outsAt m c (pt p 15).val (pt p 15).isLt).dr (ix4 0 b u r)

theorem g9_br (p : Fin 4) (j : Fin 16) (a : Fin 256) (l : Fin 128) : g9 m c p (br j a) l = (outsAt m c (pt p j).val (pt p j).isLt).dc (ix3 0 a l) := by
  unfold g9
  have ej : (⟨(br j a).val / 256, by omega⟩ : Fin 16) = j := Fin.ext (by show (256 * j.val + a.val) / 256 = j.val; omega)
  have ea : (⟨(br j a).val % 256, by omega⟩ : Fin 256) = a := Fin.ext (by show (256 * j.val + a.val) % 256 = a.val; omega)
  rw [ea]
  congr 1
  simp only [ej]

/-- The array of the first, -/
def G9 (m : (ℓ : Loc nD τ sig) → Buf (Elt Ideal) ℓ) (c : Dev nD) : FVec Ideal S4x4096x128 .f32 := fun i => g9 m c (i 0) (i 1) (i 2)

/-- and of the second. -/
def G10 (m : (ℓ : Loc nD τ sig) → Buf (Elt Ideal) ℓ) (c : Dev nD) : FVec Ideal S4x16x8x256 .f32 := fun i => g10 m c (i 0) (i 1) (i 2) (i 3)

theorem arr9 : (dats m 0 c).arrAt 9 cfg0.N = G9 m c := by
  refine (dats m 0 c).arrAt_eq_of_covers 9 _ (by decide +kernel) fun t hf y => ?_
  obtain ⟨p, j, rfl⟩ := pt_eq t
  blk_simp
  rw [after0_9]
  idx_vars y
  have e0 : ((View.whole main_v53_3).slice (win0_9.rect (pt p j))).emb (ix3 y0 y1 y2) 0 = p := by
    apply Fin.ext
    show win0_9.index (pt p j) 0 * 1 + 1 * y0.val = _
    rw [(idx (pt p j)).2.2.2.2.2.2.2.2.2.1, pt_div]
    show p.val * 1 + 1 * y0.val = p.val
    omega
  have e1 : ((View.whole main_v53_3).slice (win0_9.rect (pt p j))).emb (ix3 y0 y1 y2) 1 = br j y1 := by
    apply Fin.ext
    show win0_9.index (pt p j) 1 * 256 + 1 * y1.val = _
    rw [(idx (pt p j)).2.2.2.2.2.2.2.2.2.1, pt_mod]
    show j.val * 256 + 1 * y1.val = 256 * j.val + y1.val
    omega
  have e2 : ((View.whole main_v53_3).slice (win0_9.rect (pt p j))).emb (ix3 y0 y1 y2) 2 = y2 := by
    apply Fin.ext
    show win0_9.index (pt p j) 2 * 128 + 1 * y2.val = _
    rw [(idx (pt p j)).2.2.2.2.2.2.2.2.2.1]
    show 0 * 128 + 1 * y2.val = y2.val
    omega
  refine Eq.trans ?_ (((g9_br p j y1 y2).symm.trans (congr (congr (congrArg (g9 m c) e0.symm) e1.symm) e2.symm)))
  rw [show y0 = 0 from Subsingleton.elim _ _]

theorem arr10 : (dats m 0 c).arrAt 10 cfg0.N = G10 m c := by
  refine (dats m 0 c).arrAt_eq_of_covers 10 _ (by decide +kernel) fun t hf y => ?_
  obtain ⟨p, j, rfl⟩ := pt_eq t
  have hj : j = 15 := by
    have := (flush0_10 _).mp hf
    have h2 := pt_mod p j
    apply Fin.ext
    show j.val = 15
    omega
  subst hj
  blk_simp
  rw [after0_10]
  idx_vars y
  have e0 : ((View.whole main_v53_4).slice (win0_10.rect (pt p 15))).emb (ix4 y0 y1 y2 y3) 0 = p := by
    apply Fin.ext
    show win0_10.index (pt p 15) 0 * 1 + 1 * y0.val = _
    rw [(idx (pt p 15)).2.2.2.2.2.2.2.2.2.2, pt_div]
    show p.val * 1 + 1 * y0.val = p.val
    omega
  have e1 : ((View.whole main_v53_4).slice (win0_10.rect (pt p 15))).emb (ix4 y0 y1 y2 y3) 1 = y1 := by
    apply Fin.ext
    show win0_10.index (pt p 15) 1 * 16 + 1 * y1.val = _
    rw [(idx (pt p 15)).2.2.2.2.2.2.2.2.2.2]
    show 0 * 16 + 1 * y1.val = y1.val
    omega
  have e2 : ((View.whole main_v53_4).slice (win0_10.rect (pt p 15))).emb (ix4 y0 y1 y2 y3) 2 = y2 := by
    apply Fin.ext
    show win0_10.index (pt p 15) 2 * 8 + 1 * y2.val = _
    rw [(idx (pt p 15)).2.2.2.2.2.2.2.2.2.2]
    show 0 * 8 + 1 * y2.val = y2.val
    omega
  have e3 : ((View.whole main_v53_4).slice (win0_10.rect (pt p 15))).emb (ix4 y0 y1 y2 y3) 3 = y3 := by
    apply Fin.ext
    show win0_10.index (pt p 15) 3 * 256 + 1 * y3.val = _
    rw [(idx (pt p 15)).2.2.2.2.2.2.2.2.2.2]
    show 0 * 256 + 1 * y3.val = y3.val
    omega
  refine Eq.trans (b := g10 m c p y1 y2 y3) ?_ (congr (congr (congr (congrArg (g10 m c) e0.symm) e1.symm) e2.symm) e3.symm)
  rw [show y0 = 0 from Subsingleton.elim _ _]
  rfl

/-! ## The lines after the call -/

abbrev T (m : (ℓ : Loc nD τ sig) → Buf (Elt Ideal) ℓ) (c : Dev nD) : (b : Ref sig .tc) → Buf (Elt Ideal) ((c.tc : Thread nD τ).loc b) :=
  Pipeline.afterTail₀ cfgs (dats m) 0 (V0 m) [hostOps1] c

theorem tail_dq (W : Valuation τ sig (Elt Ideal)) (i : Fin 4096) (l : Fin 512) :
    (StableHlo.after (List.flatten [hostOps1]) W (Proc.tc.devRef main_v55) : FVec Ideal S4096x512 .f32) (ix2 i l)
      = (show EReal from (W (Proc.tc.devRef main_v53_0) : FVec Ideal S4096x512 .f32) (ix2 i l)) * ((1 / 8 : ℝ) : EReal) := by
  simp only [List.flatten_cons, List.flatten_nil, List.append_nil]
  after_reads_simp
  pointwise
  rw [eighth]

theorem tail_dcum (W : Valuation τ sig (Elt Ideal)) (b : Fin 16) (r : Fin 256) (p : Fin 4) (e : Fin 2) :
    (StableHlo.after (List.flatten [hostOps1]) W (Proc.tc.devRef main_v64) : FVec Ideal S4096x8 .f32) (ix2 (br b r) (hh p e))
      = (show EReal from (W (Proc.tc.devRef main_v53_4) : FVec Ideal S4x16x8x256 .f32) (ix4 p b ⟨e.val, by omega⟩ r))
        + (show EReal from (W (Proc.tc.devRef main_v53_3) : FVec Ideal S4x4096x128 .f32) (ix3 p (br b r) ⟨e.val, by omega⟩)) := by
  simp only [List.flatten_cons, List.flatten_nil, List.append_nil]
  after_reads_simp
  pointwise
  have e1 : (⟨(hh p e).val / 2, by omega⟩ : Fin 4) = p := Fin.ext (by show (2 * p.val + e.val) / 2 = p.val; omega)
  have e2 : (⟨(hh p e).val % 2, by omega⟩ : Fin 8) = ⟨e.val, by omega⟩ := Fin.ext (by show (2 * p.val + e.val) % 2 = e.val; omega)
  have e3 : (⟨(hh p e).val % 2, by omega⟩ : Fin 128) = ⟨e.val, by omega⟩ := Fin.ext (by show (2 * p.val + e.val) % 2 = e.val; omega)
  have e4 : (⟨(br b r).val / 256, by omega⟩ : Fin 16) = b := Fin.ext (by show (256 * b.val + r.val) / 256 = b.val; omega)
  have e5 : (⟨(br b r).val % 256, by omega⟩ : Fin 256) = r := Fin.ext (by show (256 * b.val + r.val) % 256 = r.val; omega)
  refine congrArg₂ (fun a b : EReal => a + b) (congrArg (W (Proc.tc.devRef main_v53_4) : FVec Ideal S4x16x8x256 .f32) ?_) (congrArg (W (Proc.tc.devRef main_v53_3) : FVec Ideal S4x4096x128 .f32) ?_)
  · exact congr (congr (congr (congrArg ix4 e1) e4) e2) e5
  · exact congr (congr (congrArg ix3 e1) rfl) e3

/-- The arrays the call was given to write, where the lines after it read them. -/
theorem after_arr (w : Fin cfg0.W) : Pipeline.withArrays cfg0.spec c (V0 m c) (fun w => (dats m 0 c).arrAt w cfg0.N) (Proc.devRef .tc (Pipeline.arrRef cfg0.spec w))
    = (dats m 0 c).arrAt w cfg0.N :=
  Pipeline.withArrays_arr_shared cfg0.spec c (V0 m c) _ ((dats m 0 c).arrAt_sharedIn launch₀0.sharedIn (V0 m c) (A_eq m c) cfg0.N) w

include R

theorem T_dq (i : Fin 4096) (l : Fin 512) : (T m c main_v55 : FVec Ideal S4096x512 .f32) (ix2 i l) = ((gq q k v o cu i l * (1 / 8) : ℝ) : EReal) := by
  refine (tail_dq _ i l).trans ?_
  rw [show (Pipeline.withArrays cfg0.spec c (V0 m c) (fun w => (dats m 0 c).arrAt w cfg0.N) (Proc.devRef .tc main_v53_0)) = _ from (after_arr 6).trans (arr6 R)]
  exact (EReal.coe_mul _ _).symm

theorem T_dcum (i : Fin 4096) (h : Fin 8) : (T m c main_v64 : FVec Ideal S4096x8 .f32) (ix2 i h) = ((gr q k v o cu i h + gc q k v o cu i h : ℝ) : EReal) := by
  obtain ⟨b, r, rfl⟩ : ∃ b r, i = br b r := ⟨⟨i.val / 256, by omega⟩, ⟨i.val % 256, by omega⟩, Fin.ext (by show i.val = 256 * (i.val / 256) + i.val % 256; omega)⟩
  obtain ⟨p, e, rfl⟩ : ∃ p e, h = hh p e := ⟨⟨h.val / 2, by omega⟩, ⟨h.val % 2, by omega⟩, Fin.ext (by show h.val = 2 * (h.val / 2) + h.val % 2; omega)⟩
  refine (tail_dcum _ b r p e).trans ?_
  rw [show (Pipeline.withArrays cfg0.spec c (V0 m c) (fun w => (dats m 0 c).arrAt w cfg0.N) (Proc.devRef .tc main_v53_3)) = _ from (after_arr 9).trans arr9]
  rw [show (Pipeline.withArrays cfg0.spec c (V0 m c) (fun w => (dats m 0 c).arrAt w cfg0.N) (Proc.devRef .tc main_v53_4)) = _ from (after_arr 10).trans arr10]
  show g10 m c p b ⟨e.val, by omega⟩ r + g9 m c p (br b r) ⟨e.val, by omega⟩ = _
  rw [g9_br, g10, dr_real R, dc_real R]
  exact (EReal.coe_add _ _).symm

end Cert.FoxBwdTail

end
-- ==== Proof.FoxBwdRef.lean ====
/- The reference's gradients of the forgetting attention at an index, for real arguments. -/
module

public import proofs.«01_k».proof.Proof.Gen.FoxBwdRefIdeal.Run
public import proofs.«01_k».proof.Proof.Gen.FoxBwdRefIdeal.Read
public import proofs.«01_k».proof.Proof.FoxBwdModel
public import proofs.«01_k».proof.Proof.FoxBwdHost

@[expose] public section

set_option maxRecDepth 16384

noncomputable section

open Idealize.ShloMosaic Idealize.ShloMosaic.TcCoe Idealize.SL.Sem

namespace Cert.FoxBwdRefIdeal.Hand

open Cert.FoxBwdRefIdeal Cert.FoxBwdRefIdeal.Gen Cert.FoxBwdRefIdeal.Value Cert.FoxBwdRefIdeal.Read
open Cert.FoxModel (cl sc P dP D dS gq gk gv gc gr hc diag)
open Cert.Softmax (masked soft tot coe_sum)
open Cert.FoxBwdHost (eighth ninf)

variable (x0 x1 x2 x4 : FVec Ideal S4096x512 .f32) (x3 : FVec Ideal S4096x8 .f32)

/-- The arguments' entries are these real numbers. -/
structure Reals (q k v o : Fin 4096 → Fin 512 → ℝ) (cu : Fin 4096 → Fin 8 → ℝ) : Prop where
  q : ∀ i l, x0 (ix2 i l) = (q i l : EReal)
  k : ∀ i l, x1 (ix2 i l) = (k i l : EReal)
  v : ∀ i l, x2 (ix2 i l) = (v i l : EReal)
  cu : ∀ i h, x3 (ix2 i h) = (cu i h : EReal)
  o : ∀ i l, x4 (ix2 i l) = (o i l : EReal)

variable {x0 x1 x2 x4 x3} {q k v o : Fin 4096 → Fin 512 → ℝ} {cu : Fin 4096 → Fin 8 → ℝ} (R : Reals x0 x1 x2 x4 x3 q k v o cu)

/-- The scores with both biases. -/
def s2 (q k : Fin 4096 → Fin 512 → ℝ) (cu : Fin 4096 → Fin 8 → ℝ) (h : Fin 8) (i j : Fin 4096) : ℝ := sc q k cu h i j + cu i h

theorem cl_eq (h : Fin 8) (d : Fin 64) : (⟨h.val * 64 + d.val, by omega⟩ : Fin 512) = cl h d := Fin.ext (by show h.val * 64 + d.val = 64 * h.val + d.val; omega)

theorem v20_read (h : Fin 8) (i j : Fin 4096) : (val_main_v20_0 (F := Ideal) x0 x1 x3 (ix3 h i j) : EReal)
    = if j.val ≤ i.val then ((∑ d : Fin 64, x0 (ix2 i (cl h d)) * x1 (ix2 j (cl h d))) * ((1 / 8 : ℝ) : EReal) + (x3 (ix2 i h) : EReal)) - x3 (ix2 j h) else ⊥ := by
  pointwise [val_main_v0, val_main_v1, val_main_v3, val_main_cst, val_main_v4, val_main_v5, val_main_v6, val_main_v7, val_main_v8, val_main_v9, val_main_v10, val_main_v11, val_main_v12, val_main_v13, val_main_v14, val_main_v15, val_main_v16, val_main_v17, val_main_v18, val_main_v19, val_main_cst_0, val_main_call0_v0, val_main_v20_1, val_main_call0_v2, val_main_v20_0]
  rw [Cert.FoxBwdHost.sle_at, eighth]
  simp only [cl_eq]
  have e : (id (constant (F := Ideal) S_ .f32 4286578688#32) ix0 : EReal) = ⊥ := ninf
  rw [e]
  split <;> rfl

/-- The largest entry of a row. -/
theorem maxred (w : FVec Ideal S8x4096x4096 .f32) (h : Fin 8) (i : Fin 4096) :
    (Host.reduce FloatOps.maximumf w (val_main_cst_1 (F := Ideal)) reducesTo_S8x4096x4096_S8x4096_d2 h_S_ : FVec Ideal S8x4096 .f32) (ix2 h i)
      = (Finset.univ : Finset (Fin 4096)).fold max (⊥ : EReal) fun j => (w (ix3 h i j) : EReal) := by
  pointwise [val_main_cst_1]
  rw [ninf]

theorem v28_read (h : Fin 8) (i : Fin 4096) : (val_main_v28 (F := Ideal) x0 x1 x3 (ix2 h i) : EReal)
    = max ⊥ ((Finset.univ : Finset (Fin 4096)).fold max ⊥ fun j => (val_main_v20_0 (F := Ideal) x0 x1 x3 (ix3 h i j) : EReal)) := by
  rw [val_main_v28_apply, val_main_v27_apply, val_main_v21]
  refine congrArg₂ (fun a b : EReal => max a b) ninf (maxred _ h i)
include R
theorem v20_real (h : Fin 8) (i : Fin 4096) : (fun j => (val_main_v20_0 (F := Ideal) x0 x1 x3 (ix3 h i j) : EReal)) = masked (s2 q k cu h i) (fun j => j.val ≤ i.val) := by
  funext j
  rw [v20_read]
  unfold masked
  split
  · simp only [R.q, R.k, R.cu, ← EReal.coe_mul, coe_sum, ← EReal.coe_add, ← EReal.coe_sub]
    rw [EReal.coe_eq_coe_iff]
    unfold s2 sc
    rw [Finset.sum_mul]
    have : ∀ d : Fin 64, q i (cl h d) * k j (cl h d) * (1 / 8) = q i (cl h d) * (1 / 8) * k j (cl h d) := fun d => by ring
    simp only [this]
    ring
  · rfl

theorem v28_real (h : Fin 8) (i : Fin 4096) : ∃ M : ℝ, (val_main_v28 (F := Ideal) x0 x1 x3 (ix2 h i) : EReal) = (M : EReal) := by
  obtain ⟨M, hM⟩ := Cert.Softmax.max_real (s2 q k cu h i) (diag i)
  refine ⟨M, ?_⟩
  rw [v28_read, v20_real R, hM]
  exact max_eq_right bot_le

omit R
theorem v41_read (h : Fin 8) (i j : Fin 4096) : (val_main_v41 (F := Ideal) x0 x1 x3 (ix3 h i j) : EReal)
    = Ideal.exp ((val_main_v20_0 (F := Ideal) x0 x1 x3 (ix3 h i j) : EReal) - val_main_v28 (F := Ideal) x0 x1 x3 (ix2 h i)) := by
  pointwise [val_main_v41, val_main_v40, val_main_v39, val_main_v38]

theorem v43_read (h : Fin 8) (i : Fin 4096) : (val_main_v43 (F := Ideal) x0 x1 x3 (ix3 h i 0) : EReal)
    = ∑ j : Fin 4096, (val_main_v41 (F := Ideal) x0 x1 x3 (ix3 h i j) : EReal) := by
  pointwise [val_main_v43, val_main_v42, val_main_cst_9]

theorem v45_read (h : Fin 8) (i j : Fin 4096) : (val_main_v45 (F := Ideal) x0 x1 x3 (ix3 h i j) : EReal)
    = Ideal.div (val_main_v41 (F := Ideal) x0 x1 x3 (ix3 h i j)) (val_main_v43 (F := Ideal) x0 x1 x3 (ix3 h i 0)) := by
  pointwise [val_main_v45, val_main_v44]

theorem v54_read (h : Fin 8) (i j : Fin 4096) : (val_main_v54 (F := Ideal) x2 x4 (ix3 h i j) : EReal)
    = ∑ d : Fin 64, x4 (ix2 i (cl h d)) * x2 (ix2 j (cl h d)) := by
  pointwise [val_main_v54, val_main_v53, val_main_v52, val_main_v2]
  simp only [cl_eq]

theorem v68_read (h : Fin 8) (i j : Fin 4096) : (val_main_v68 (F := Ideal) x0 x1 x2 x3 x4 (ix3 h i j) : EReal)
    = (Ideal.div (val_main_v54 (F := Ideal) x2 x4 (ix3 h i j)) (val_main_v43 (F := Ideal) x0 x1 x3 (ix3 h i 0))
        + -∑ k : Fin 4096, (val_main_v54 (F := Ideal) x2 x4 (ix3 h i k) : EReal)
            * Ideal.div (1 : EReal) ((val_main_v43 (F := Ideal) x0 x1 x3 (ix3 h i 0) : EReal) * val_main_v43 (F := Ideal) x0 x1 x3 (ix3 h i 0))
            * (val_main_v41 (F := Ideal) x0 x1 x3 (ix3 h i k) : EReal))
      * (val_main_v41 (F := Ideal) x0 x1 x3 (ix3 h i j) : EReal) := by
  pointwise [val_main_v68, val_main_v67, val_main_v66, val_main_v65, val_main_v64, val_main_v63, val_main_v62, val_main_v61, val_main_v60, val_main_v59, val_main_v58, val_main_v57, val_main_v48, val_main_v47, val_main_v46, val_main_cst_10, val_main_cst_11, val_main_cst_12]
  simp only [Fintype.sum_unique]

theorem v69_read (h : Fin 8) (i j : Fin 4096) : (val_main_v69 (F := Ideal) x0 x1 x2 x3 x4 (ix3 h i j) : EReal)
    = if j.val ≤ i.val then (val_main_v68 (F := Ideal) x0 x1 x2 x3 x4 (ix3 h i j) : EReal) else 0 := by
  pointwise [val_main_v69, val_main_call1_v0, val_main_call1_cst, val_main_v20_1, val_main_v19, val_main_v18, val_main_v17, val_main_v16, val_main_v15, val_main_v14]
  rw [Cert.FoxBwdHost.sle_at]
  split <;> rfl

include R
theorem v45_real (h : Fin 8) (i j : Fin 4096) : (val_main_v45 (F := Ideal) x0 x1 x3 (ix3 h i j) : EReal) = ((P q k cu h i j : ℝ) : EReal) := by
  obtain ⟨M, hM⟩ := v28_real R h i
  have hs : ∀ j, (val_main_v20_0 (F := Ideal) x0 x1 x3 (ix3 h i j) : EReal) = masked (s2 q k cu h i) (fun j => j.val ≤ i.val) j := fun j => congrFun (v20_real R h i) j
  rw [v45_read, v43_read]
  simp only [v41_read, hM, hs]
  rw [Cert.Softmax.div_soft _ (diag i)]
  exact congrArg _ (Cert.Softmax.soft_add (sc q k cu h i) (cu i h) j)

theorem v54_real (h : Fin 8) (i j : Fin 4096) : (val_main_v54 (F := Ideal) x2 x4 (ix3 h i j) : EReal) = ((dP v o h i j : ℝ) : EReal) := by
  rw [v54_read]
  simp only [R.v, R.o, ← EReal.coe_mul, coe_sum]
  rfl

theorem v69_real (h : Fin 8) (i j : Fin 4096) : (val_main_v69 (F := Ideal) x0 x1 x2 x3 x4 (ix3 h i j) : EReal) = ((dS q k v o cu h i j : ℝ) : EReal) := by
  rw [v69_read]
  split
  · obtain ⟨M, hM⟩ := v28_real R h i
    have hs : ∀ j, (val_main_v20_0 (F := Ideal) x0 x1 x3 (ix3 h i j) : EReal) = masked (s2 q k cu h i) (fun j => j.val ≤ i.val) j := fun j => congrFun (v20_real R h i) j
    rw [v68_read, v43_read]
    simp only [v41_read, hM, hs, v54_real R]
    rw [Cert.Softmax.grad_real _ (diag i)]
    rw [EReal.coe_eq_coe_iff]
    have hp : ∀ j, soft (s2 q k cu h i) (fun j => j.val ≤ i.val) j = P q k cu h i j := fun j => Cert.Softmax.soft_add (sc q k cu h i) (cu i h) j
    simp only [hp]
    rfl
  · next hj =>
    unfold dS
    rw [Cert.FoxModel.P_of_lt q k cu hj, zero_mul, EReal.coe_zero]

omit R
theorem v88_read (i : Fin 4096) (l : Fin 512) : (val_main_v88 (F := Ideal) x0 x1 x2 x3 x4 (ix2 i l) : EReal)
    = ∑ j : Fin 4096, (val_main_v69 (F := Ideal) x0 x1 x2 x3 x4 (ix3 (hc l) i j) : EReal) * ((1 / 8 : ℝ) : EReal) * x1 (ix2 j l) := by
  pointwise [val_main_v88, val_main_v85, val_main_v84, val_main_v81, val_main_v80, val_main_cst_17, val_main_v1]
  simp only [eighth, hc]

theorem v87_read (j : Fin 4096) (l : Fin 512) : (val_main_v87 (F := Ideal) x0 x1 x2 x3 x4 (ix2 j l) : EReal)
    = ∑ i : Fin 4096, (val_main_v69 (F := Ideal) x0 x1 x2 x3 x4 (ix3 (hc l) i j) : EReal) * ((1 / 8 : ℝ) : EReal) * x0 (ix2 i l) := by
  pointwise [val_main_v87, val_main_v83, val_main_v82, val_main_v81, val_main_v80, val_main_cst_17, val_main_v0]
  simp only [eighth, hc]

theorem v86_read (j : Fin 4096) (l : Fin 512) : (val_main_v86 (F := Ideal) x0 x1 x3 x4 (ix2 j l) : EReal)
    = ∑ i : Fin 4096, x4 (ix2 i l) * (val_main_v45 (F := Ideal) x0 x1 x3 (ix3 (hc l) i j) : EReal) := by
  pointwise [val_main_v86, val_main_v56, val_main_v55, val_main_v53, val_main_v52]
  simp only [hc]

theorem v79_read (i : Fin 4096) (h : Fin 8) : (val_main_v79 (F := Ideal) x0 x1 x2 x3 x4 (ix2 i h) : EReal)
    = (∑ i' : Fin 4096, -(val_main_v69 (F := Ideal) x0 x1 x2 x3 x4 (ix3 h i' i) : EReal)) + ∑ j : Fin 4096, (val_main_v69 (F := Ideal) x0 x1 x2 x3 x4 (ix3 h i j) : EReal) := by
  pointwise [val_main_v79, val_main_v78, val_main_v77, val_main_v76, val_main_v75, val_main_v74, val_main_v73, val_main_v72, val_main_v71, val_main_v70, val_main_cst_13, val_main_cst_14, val_main_cst_15, val_main_cst_16]
  simp only [Fintype.sum_unique]

include R
/-! ## The results -/

theorem v88_real (i : Fin 4096) (l : Fin 512) : (val_main_v88 (F := Ideal) x0 x1 x2 x3 x4 (ix2 i l) : EReal) = ((gq q k v o cu i l * (1 / 8) : ℝ) : EReal) := by
  rw [v88_read]
  simp only [v69_real R, R.k, ← EReal.coe_mul, coe_sum]
  rw [EReal.coe_eq_coe_iff, gq, Finset.sum_mul]
  exact Finset.sum_congr rfl fun j _ => by ring

theorem v87_real (j : Fin 4096) (l : Fin 512) : (val_main_v87 (F := Ideal) x0 x1 x2 x3 x4 (ix2 j l) : EReal) = ((gk q k v o cu j l : ℝ) : EReal) := by
  rw [v87_read]
  simp only [v69_real R, R.q, ← EReal.coe_mul, coe_sum]
  rw [EReal.coe_eq_coe_iff, gk]
  exact Finset.sum_congr rfl fun j _ => by ring

theorem v86_real (j : Fin 4096) (l : Fin 512) : (val_main_v86 (F := Ideal) x0 x1 x3 x4 (ix2 j l) : EReal) = ((gv q k o cu j l : ℝ) : EReal) := by
  rw [v86_read]
  simp only [v45_real R, R.o, ← EReal.coe_mul, coe_sum]
  rw [EReal.coe_eq_coe_iff, gv]
  exact Finset.sum_congr rfl fun j _ => by ring

theorem v79_real (i : Fin 4096) (h : Fin 8) : (val_main_v79 (F := Ideal) x0 x1 x2 x3 x4 (ix2 i h) : EReal) = ((gr q k v o cu i h + gc q k v o cu i h : ℝ) : EReal) := by
  rw [v79_read]
  simp only [v69_real R, ← EReal.coe_neg, coe_sum, ← EReal.coe_add]
  rw [EReal.coe_eq_coe_iff, gr, gc, Finset.sum_neg_distrib, add_comm]

end Cert.FoxBwdRefIdeal.Hand

end
-- ==== Proof.FoxBwdClaim.lean ====
/- The forgetting attention gradient's claims. -/
module

public import proofs.«01_k».proof.Defs
public import proofs.«01_k».proof.Proof.FoxBwdTail
public import proofs.«01_k».proof.Proof.FoxBwdRef
public import proofs.«01_k».proof.Proof.FoxBwdCompiled
public import proofs.«01_k».proof.Proof.Gen.Pre_fox_finite

@[expose] public section

set_option maxRecDepth 16384

noncomputable section

namespace Cert.FoxBwdClaim

open Cert.FoxBwdIdeal Cert.FoxBwdIdeal.Gen Cert.FoxBwdFrame Cert.FoxBwdHost Cert.FoxBwdTail
open Idealize.ShloMosaic Idealize.ShloMosaic.TcCoe Idealize.SL.Sem
open Cert.FoxModel (gq gk gv gc gr)

/-- A number whose absolute value is below infinity is real. -/
theorem real_of_lt (a : EReal) (h : FloatOps.cmpf (F := Ideal) (φ := .f32) .olt (max a (-a) : EReal) (Ideal.ofBits .f32 0x7F800000#32) = 1#1) : a = ((a.toReal : ℝ) : EReal) := by
  rw [Cert.Common.inf_bits] at h
  have h' : max a (-a) < (⊤ : EReal) := by
    by_contra hn
    have : FloatOps.cmpf (F := Ideal) (φ := .f32) .olt (max a (-a) : EReal) (⊤ : EReal) = 0#1 := by
      show BitVec.ofBool (decide (max a (-a) < (⊤ : EReal))) = 0#1
      rw [decide_eq_false hn]; rfl
    rw [this] at h
    exact absurd h (by decide)
  refine (EReal.coe_toReal ?_ ?_).symm
  · exact (lt_of_le_of_lt (le_max_left _ _) h').ne
  · rintro rfl
    exact absurd h' (by simp)

variable (m : (ℓ : Loc nD τ sig) → Buf (Elt Ideal) ℓ)

def rq (c : Dev nD) (i : Fin 4096) (l : Fin 512) : ℝ := EReal.toReal (A0 m c (ix2 i l))
def rk (c : Dev nD) (i : Fin 4096) (l : Fin 512) : ℝ := EReal.toReal (A1 m c (ix2 i l))
def rv (c : Dev nD) (i : Fin 4096) (l : Fin 512) : ℝ := EReal.toReal (A2 m c (ix2 i l))
def rcu (c : Dev nD) (i : Fin 4096) (h : Fin 8) : ℝ := EReal.toReal (A3 m c (ix2 i h))
def ro (c : Dev nD) (i : Fin 4096) (l : Fin 512) : ℝ := EReal.toReal (A4 m c (ix2 i l))

theorem fin2 {a b : ℕ} (x : FVec Ideal ⟨2, ![a, b]⟩ .f32) (hb : Cert.Pre_fox_finite.S_.BroadcastsInDim ⟨2, ![a, b]⟩ (![] : Fin 0 → Fin 2))
    (h : cmpf .olt (Host.absf x) (broadcastInDim ⟨2, ![a, b]⟩ ![] hb (constant (F := Ideal) Cert.Pre_fox_finite.S_ .f32 0x7F800000#32)) = fun _ => 1#1) (i : Fin a) (l : Fin b) :
    x (ix2 i l) = (EReal.toReal (x (ix2 i l)) : EReal) :=
  real_of_lt _ (congrFun h (ix2 i l))

/-- The precondition says that every argument's entries are real. -/
theorem reals (h : Cert.Pre_FoxBwdIdeal_fox_finite (hPre_fox_finite := Cert.Pre_fox_finite.Gen.facts) m) (c : Dev nD) :
    Cert.FoxBwdArr.Reals m c (rq m c) (rk m c) (rv m c) (ro m c) (rcu m c) := by
  obtain ⟨h0, h1, h2, h3, h4⟩ := h c
  exact ⟨fin2 _ _ h0, fin2 _ _ h1, fin2 _ _ h2, fin2 _ _ h3, fin2 _ _ h4⟩

/-- The reference leaves its arguments as they were; it has no semaphore. -/
theorem frame_ref : Cert.quiescent_FoxBwdRefIdeal (hFoxBwdRefIdeal := Cert.FoxBwdRefIdeal.Gen.facts) := fun m g _ =>
  (θ_run _ _ _).mono (fun r k => ⟨fun c => (k c).2.2.2.2, sem_eq_zero_of_no_sems rfl _⟩) (Cert.FoxBwdRefIdeal.Value.run (F := Ideal) m g)

/-- The claim: four arrays that both programs end with. -/
theorem algebraic : Cert.algebraic_FoxBwdIdeal_FoxBwdRefIdeal_pre_fox_finite (hFoxBwdIdeal := Cert.FoxBwdIdeal.Gen.facts) (hFoxBwdRefIdeal := Cert.FoxBwdRefIdeal.Gen.facts)
    (hPre_fox_finite := Cert.Pre_fox_finite.Gen.facts) := by
  intro m g m' g' hp h
  have R := reals m hp
  refine ⟨fun c => T m c main_v55, fun c => (dats m 0 c).arrAt 7 cfg0.N, fun c => (dats m 0 c).arrAt 8 cfg0.N, fun c => T m c main_v64, ?_, ?_⟩
  · refine (θ_run _ _ _).mono (fun r k c => ?_) (θ_run_and (frame m g) (run_main m g))
    have k1 := k.2 c
    refine ⟨k1.2 main_v55 ?_, k1.1 7, k1.1 8, k1.2 main_v64 ?_, k.1.1 c⟩
    · decide +kernel
    · decide +kernel
  · refine (θ_run _ _ _).mono (fun r k c => ?_) (Cert.FoxBwdRefIdeal.Value.run m' g')
    have e := h c
    have R' : Cert.FoxBwdRefIdeal.Hand.Reals (A0 m c) (A1 m c) (A2 m c) (A4 m c) (A3 m c) (rq m c) (rk m c) (rv m c) (ro m c) (rcu m c) :=
      ⟨(R c).q, (R c).k, (R c).v, (R c).cu, (R c).o⟩
    refine ⟨(k c).1.trans ?_, (k c).2.1.trans ?_, (k c).2.2.1.trans ?_, (k c).2.2.2.1.trans ?_, (k c).2.2.2.2⟩
    · rw [Cert.FoxBwdRefIdeal.Read.val_main_v88_eq, e.1, e.2.1, e.2.2.1, e.2.2.2.1, e.2.2.2.2]
      funext y
      idx_vars y
      exact (Cert.FoxBwdRefIdeal.Hand.v88_real R' y0 y1).trans (T_dq (R c) y0 y1).symm
    · rw [Cert.FoxBwdRefIdeal.Read.val_main_v87_eq, e.1, e.2.1, e.2.2.1, e.2.2.2.1, e.2.2.2.2]
      refine Eq.trans ?_ (arr7 (R c)).symm
      funext y
      idx_vars y
      exact Cert.FoxBwdRefIdeal.Hand.v87_real R' y0 y1
    · rw [Cert.FoxBwdRefIdeal.Read.val_main_v86_eq, e.1, e.2.1, e.2.2.2.1, e.2.2.2.2]
      refine Eq.trans ?_ (arr8 (R c)).symm
      funext y
      idx_vars y
      exact Cert.FoxBwdRefIdeal.Hand.v86_real R' y0 y1
    · rw [Cert.FoxBwdRefIdeal.Read.val_main_v79_eq, e.1, e.2.1, e.2.2.1, e.2.2.2.1, e.2.2.2.2]
      funext y
      idx_vars y
      exact (Cert.FoxBwdRefIdeal.Hand.v79_real R' y0 y1).trans (T_dcum (R c) y0 y1).symm

end Cert.FoxBwdClaim

end
-- ==== Proof.MlaBwdRun.lean ====
/-
  The body of the gradient of the chunked attention, run once over any floats. What the body leaves is a fold of one block update
  (`upd`) over the query blocks from the diagonal one on: the three ways the body starts (one, two or three blocks) and its loop of
  two blocks a trip all give the same fold.
-/
module

public import proofs.«01_k».proof.Proof.Owned
public import proofs.«01_k».proof.Proof.Gen.MlaBwdIdeal.Frame
public import proofs.«01_k».proof.Proof.Gen.MlaBwdIdeal.Skeleton

@[expose] public section

set_option maxRecDepth 16384
set_option maxHeartbeats 1000000

noncomputable section

namespace Cert.MlaBwdRun

open Cert.MlaBwdIdeal Cert.MlaBwdIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The state and one block's update -/

/-- What the body only reads: all query rows, the block's keys and values, the cotangent's rows, the rows' statistics. -/
structure Ins (F : FTy → Type) where
  q : Vec F S4096x256 .bf16
  k : Vec F S256x256 .bf16
  v : Vec F S256x128 .bf16
  o : Vec F S4096x128 .bf16
  st : Vec F S4096x128 .f32

/-- What the body writes: the gradients of the queries, keys and values. -/
structure Outs (F : FTy → Type) where
  dq : Vec F S4096x256 .f32
  dk : Vec F S256x256 .f32
  dv : Vec F S256x128 .f32

theorem rows_inb (b : Fin 16) : ∀ a, (![256 * b.val, 0] : Fin 2 → ℕ) a + S256x128.size a ≤ S4096x128.size a :=
  Fin.forall_fin_two.mpr ⟨by show 256 * b.val + 256 ≤ 4096; omega, by show 0 + 128 ≤ 128; omega⟩

theorem rows2_inb (b : Fin 16) : ∀ a, (![256 * b.val, 0] : Fin 2 → ℕ) a + S256x256.size a ≤ S4096x256.size a :=
  Fin.forall_fin_two.mpr ⟨by show 256 * b.val + 256 ≤ 4096; omega, by show 0 + 256 ≤ 256; omega⟩

/-- The rows of query block `b` of a 128 lanes wide array, -/
def rows {e : EltTy} (X : Vec F S4096x128 e) (b : Fin 16) : Vec F S256x128 e :=
  VecWindow.window X ![256 * b.val, 0] S256x128.size (rows_inb b)

/-- of one of 256 lanes, -/
def rows2 {e : EltTy} (X : Vec F S4096x256 e) (b : Fin 16) : Vec F S256x256 e :=
  VecWindow.window X ![256 * b.val, 0] S256x256.size (rows2_inb b)

/-- and those rows replaced. -/
def putRows2 {e : EltTy} (X : Vec F S4096x256 e) (b : Fin 16) (w : Vec F S256x256 e) : Vec F S4096x256 e :=
  VecWindow.put X ![256 * b.val, 0] S256x256.size w

/-- A 512 by 256 matrix times a block's rows. -/
def mm (w : FVec F S512x256 .f32) (x : Vec F S256x128 .bf16) : FVec F S512x128 .f32 :=
  matmul dot_S512x256_S256x128_S512x128_1_0_0_1_n_n none (truncf .bf16 w bitsLt_bf16_f32)
    (shapeCast S256x128 x shapeCasts_S256x128_S256x128) (constant S512x128 .f32 0x00000000#32)

/-- The upper half of a 512 by 256 matrix times the left half of a block's rows. -/
def mmL (w : FVec F S512x256 .bf16) (x : Vec F S256x256 .bf16) : FVec F S256x128 .f32 :=
  matmul dot_S256x256_S256x128_S256x128_1_0_0_1_n_n none (extractStridedSlice S256x256 ![0, 0] w slices_S512x256_o0_0_S256x256)
    (extractStridedSlice S256x128 ![0, 0] (shapeCast S256x256 x shapeCasts_S256x256_S256x256) slices_S256x256_o0_0_S256x128)
    (constant S256x128 .f32 0x00000000#32)

/-- The two heads' keys, and the two heads' values one above the other, each with the other's lanes zero. -/
structure Keys (F : FTy → Type) where
  k0 : FVec F S256x128 .bf16
  k1 : FVec F S256x128 .bf16
  v2 : FVec F S512x128 .bf16

def keys (x : Ins F) : Keys F := ⟨k0_pay146 x.k, k0_pay147 x.k, k0_pay148 x.v⟩

/-- The update by query block `b` of probabilities `p` and their gradient `ds`. -/
def upd (x : Ins F) (K : Keys F) (p : FVec F S512x256 .f32) (ds : FVec F S512x256 .bf16) (b : Fin 16) (s : Outs F) : Outs F :=
  ⟨putRows2 s.dq b (k0_pay101 K.k0 K.k1 ds (rows2 s.dq b)),
    k0_pay100 (k0_pay93 (k0_pay90 (rows2 x.q b))) (k0_pay97 s.dk) (mmL ds (rows2 x.q b))
      (extractStridedSlice S256x256 ![256, 0] ds slices_S512x256_o256_0_S256x256) (constant S256x128 .f32 0x00000000#32),
    k0_pay23 (mm p (rows x.o b)) s.dv⟩

/-- The scores of the keys with query block `b`, -/
def scB (x : Ins F) (K : Keys F) (b : Fin 16) : FVec F S512x256 .f32 := k0_pay4 K.k0 K.k1 (rows2 x.q b)

/-- and the cotangent's rows times the values. -/
def dpB (x : Ins F) (K : Keys F) (b : Fin 16) : FVec F S512x256 .f32 := k0_pay5 K.v2 (rows x.o b)

/-- The update by a block wholly below the diagonal. -/
def blkU (x : Ins F) (K : Keys F) (b : Fin 16) (s : Outs F) : Outs F :=
  upd x K (k0_pay94 (scB x K b) (rows x.st b)) (k0_pay95 (scB x K b) (dpB x K b) (rows x.st b)) b s

/-- The update by the diagonal block, the masked probabilities' first row `w` and first column `v0` as the body has them. -/
def blkM (x : Ins F) (K : Keys F) (v0 w : BitVec 32) (b : Fin 16) (s : Outs F) : Outs F :=
  upd x K (k0_pay55 v0 (scB x K b) w (k0_pay15 (rows x.st b))) (k0_pay56 v0 (scB x K b) (dpB x K b) w (k0_pay15 (rows x.st b))) b s

/-- The `n`-th block from block `j` on. -/
def bk (j n : ℕ) : Fin 16 := Fin.ofNat 16 (j + n)

/-- The first `n` updates from block `j` on. -/
def run (x : Ins F) (j : ℕ) (s : Outs F) : ℕ → Outs F
  | 0 => s
  | 1 => blkM x (keys x) (Scalar.muli (BitVec.ofNat 32 j) 256#32) (Scalar.muli (BitVec.ofNat 32 j) 256#32) (bk j 0) (run x j s 0)
  | n + 2 => blkU x (keys x) (bk j (n + 1)) (run x j s (n + 1))

/-- What the body clears before it starts: at the first block of keys everything, later not the queries' part. -/
def reset (j : ℕ) (s : Outs F) : Outs F := ⟨if j = 0 then k0_pay142 else s.dq, k0_pay143, k0_pay144⟩

/-- What the body leaves at key block `j`. -/
def point (x : Ins F) (j : ℕ) (s : Outs F) : Outs F := run x j (reset j s) (16 - j)

/-! ## Where the body's accesses lie -/

/-- How many blocks the body takes before its loop. -/
def taken (i : grid0.Coords) : ℕ := if (i 1).val = 15 then 1 else 2 + (16 - (i 1).val) % 2

theorem trips1 : ∀ i : grid0.Coords, taken i + 2 * (k0_t1_loop i).trips = 16 - (i 1).val := by decide +kernel
theorem trips2 : ∀ i : grid0.Coords, (k0_t2_loop i).trips = 0 := by decide +kernel
theorem off9 : ∀ (i : grid0.Coords) (t : Fin (k0_t1_loop i).trips), k0_off9 i t = ![256 * (bk (i 1).val (taken i + 2 * t.val)).val, 0] := by
  decide +kernel
theorem off10 : ∀ (i : grid0.Coords) (t : Fin (k0_t1_loop i).trips), k0_off10 i t = ![256 * (bk (i 1).val (taken i + 2 * t.val)).val, 0] := by
  decide +kernel
theorem off11 : ∀ (i : grid0.Coords) (t : Fin (k0_t1_loop i).trips), k0_off11 i t = ![256 * (bk (i 1).val (taken i + 2 * t.val + 1)).val, 0] := by
  decide +kernel
theorem off12 : ∀ (i : grid0.Coords) (t : Fin (k0_t1_loop i).trips), k0_off12 i t = ![256 * (bk (i 1).val (taken i + 2 * t.val + 1)).val, 0] := by
  decide +kernel
theorem off1 : ∀ (i : grid0.Coords) (_ : k0_cond2 i = 1#1) (_ : k0_cond3 i = 1#1) (r : Fin 3),
    k0_off1 i (BitVec.ofNat 32 r.val) = ![256 * (bk (i 1).val r.val).val, 0] := by decide +kernel
theorem off2 : ∀ (i : grid0.Coords) (_ : k0_cond2 i = 1#1) (_ : k0_cond3 i = 1#1) (r : Fin 3),
    k0_off2 i (BitVec.ofNat 32 r.val) = ![256 * (bk (i 1).val r.val).val, 0] := by decide +kernel
theorem off3 : ∀ (i : grid0.Coords) (_ : k0_cond2 i = 1#1), k0_off3 i = ![256 * (bk (i 1).val 0).val, 0] := by decide +kernel
theorem off4 : ∀ (i : grid0.Coords) (_ : k0_cond2 i = 1#1), k0_off4 i = ![256 * (bk (i 1).val 0).val, 0] := by decide +kernel
theorem off5 : ∀ (i : grid0.Coords) (_ : k0_cond2 i = 1#1), k0_off5 i = ![256 * (bk (i 1).val 1).val, 0] := by decide +kernel
theorem off6 : ∀ (i : grid0.Coords) (_ : k0_cond2 i = 1#1), k0_off6 i = ![256 * (bk (i 1).val 1).val, 0] := by decide +kernel
theorem off7 : ∀ (i : grid0.Coords), k0_off7 i = ![256 * (bk (i 1).val 0).val, 0] := by decide +kernel
theorem off8 : ∀ (i : grid0.Coords), k0_off8 i = ![256 * (bk (i 1).val 0).val, 0] := by decide +kernel
theorem taken1 : ∀ i : grid0.Coords, ¬ k0_cond2 i = 1#1 → taken i = 1 := by decide +kernel
theorem taken2 : ∀ i : grid0.Coords, k0_cond2 i = 1#1 → ¬ k0_cond3 i = 1#1 → taken i = 2 := by decide +kernel
theorem taken3 : ∀ i : grid0.Coords, k0_cond2 i = 1#1 → k0_cond3 i = 1#1 → taken i = 3 := by decide +kernel

/-! ## The body's run -/

variable (c : Dev nD) (i : grid0.Coords)
  (arg2 : Memref sig .tc .vmem S4096x256 .bf16) (harg2 : arg2.IsWhole)
  (arg3 : Memref sig .tc .vmem S256x256 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S4096x256 .f32) (harg7 : arg7.IsWhole)
  (arg8 : Memref sig .tc .vmem S256x256 .f32) (harg8 : arg8.IsWhole)
  (arg9 : Memref sig .tc .vmem S256x128 .f32) (harg9 : arg9.IsWhole)

/-- The body's buffers, the inputs' at `x`, the outputs' at `s`. -/
def Held (x : Ins F) (s : Outs F) : sProp 𝕄 :=
  iprop(owns (c : Thread nD τ) arg2 fullShare x.q
    ∗ owns (c : Thread nD τ) arg3 fullShare x.k
    ∗ owns (c : Thread nD τ) arg4 fullShare x.v
    ∗ owns (c : Thread nD τ) arg5 fullShare x.o
    ∗ owns (c : Thread nD τ) arg6 fullShare x.st
    ∗ owns (c : Thread nD τ) arg7 fullShare s.dq
    ∗ owns (c : Thread nD τ) arg8 fullShare s.dk
    ∗ owns (c : Thread nD τ) arg9 fullShare s.dv)

/-- The body's buffers as one state. -/
abbrev HH : Ins F × Outs F → sProp 𝕄 := fun s => Held c arg2 arg3 arg4 arg5 arg6 arg7 arg8 arg9 s.1 s.2

section Focus

variable (x : Ins F) (s : Outs F)

local notation "H" => HH (F := F) c arg2 arg3 arg4 arg5 arg6 arg7 arg8 arg9

theorem f2 : Focus c H (x, s) arg2 x.q (fun y => ({ x with q := y }, s)) := by
  unfold Focus HH Held; dsimp only
  iintro ⟨h2, h3, h4, h5, h6, h7, h8, h9⟩
  isplitl [h2]; · iexact h2
  iintro %y h2; iframe h2 h3 h4 h5 h6 h7 h8 h9
theorem f3 : Focus c H (x, s) arg3 x.k (fun y => ({ x with k := y }, s)) := by
  unfold Focus HH Held; dsimp only
  iintro ⟨h2, h3, h4, h5, h6, h7, h8, h9⟩
  isplitl [h3]; · iexact h3
  iintro %y h3; iframe h2 h3 h4 h5 h6 h7 h8 h9
theorem f4 : Focus c H (x, s) arg4 x.v (fun y => ({ x with v := y }, s)) := by
  unfold Focus HH Held; dsimp only
  iintro ⟨h2, h3, h4, h5, h6, h7, h8, h9⟩
  isplitl [h4]; · iexact h4
  iintro %y h4; iframe h2 h3 h4 h5 h6 h7 h8 h9
theorem f5 : Focus c H (x, s) arg5 x.o (fun y => ({ x with o := y }, s)) := by
  unfold Focus HH Held; dsimp only
  iintro ⟨h2, h3, h4, h5, h6, h7, h8, h9⟩
  isplitl [h5]; · iexact h5
  iintro %y h5; iframe h2 h3 h4 h5 h6 h7 h8 h9
theorem f6 : Focus c H (x, s) arg6 x.st (fun y => ({ x with st := y }, s)) := by
  unfold Focus HH Held; dsimp only
  iintro ⟨h2, h3, h4, h5, h6, h7, h8, h9⟩
  isplitl [h6]; · iexact h6
  iintro %y h6; iframe h2 h3 h4 h5 h6 h7 h8 h9
theorem f7 : Focus c H (x, s) arg7 s.dq (fun y => (x, { s with dq := y })) := by
  unfold Focus HH Held; dsimp only
  iintro ⟨h2, h3, h4, h5, h6, h7, h8, h9⟩
  isplitl [h7]; · iexact h7
  iintro %y h7; iframe h2 h3 h4 h5 h6 h7 h8 h9
theorem f8 : Focus c H (x, s) arg8 s.dk (fun y => (x, { s with dk := y })) := by
  unfold Focus HH Held; dsimp only
  iintro ⟨h2, h3, h4, h5, h6, h7, h8, h9⟩
  isplitl [h8]; · iexact h8
  iintro %y h8; iframe h2 h3 h4 h5 h6 h7 h8 h9
theorem f9 : Focus c H (x, s) arg9 s.dv (fun y => (x, { s with dv := y })) := by
  unfold Focus HH Held; dsimp only
  iintro ⟨h2, h3, h4, h5, h6, h7, h8, h9⟩
  isplitl [h9]; · iexact h9
  iintro %y h9; iframe h2 h3 h4 h5 h6 h7 h8 h9

end Focus

section Steps

variable {c arg2 arg3 arg4 arg5 arg6 arg7 arg8 arg9} {x : Ins F} {dq : Vec F S4096x256 .f32} {dk : Vec F S256x256 .f32} {dv : Vec F S256x128 .f32}
  {α : Type} {a : α} {σ : Ins F × Outs F} {b : Fin 16}

local notation "R" => Runs (defs₀ (F := F)) Variants.none c (HH (F := F) c arg2 arg3 arg4 arg5 arg6 arg7 arg8 arg9)

theorem l2 {off} {inb : ∀ a, off a + S256x256.size a ≤ S4096x256.size a} {hl : arg2.view.LoadsAt (Rect.unit (s := S4096x256) off S256x256.size inb).toLoadRect} {k}
    (ho : off = ![256 * b.val, 0]) (h : R (k (rows2 x.q b)) (x, ⟨dq, dk, dv⟩) a σ) :
    R (Prog.lift (.load arg2 (Rect.unit (s := S4096x256) off S256x256.size inb).toLoadRect hl) >>= k) (x, ⟨dq, dk, dv⟩) a σ :=
  Runs.loadWin (rows2_inb b) ho (f2 c arg2 arg3 arg4 arg5 arg6 arg7 arg8 arg9 x ⟨dq, dk, dv⟩) rfl h
theorem l3 {off} {inb : ∀ a, off a + S256x256.size a ≤ S256x256.size a} {hl : arg3.view.LoadsAt (Rect.unit (s := S256x256) off S256x256.size inb).toLoadRect} {k}
    (h : R (k x.k) (x, ⟨dq, dk, dv⟩) a σ) :
    R (Prog.lift (.load arg3 (Rect.unit (s := S256x256) off S256x256.size inb).toLoadRect hl) >>= k) (x, ⟨dq, dk, dv⟩) a σ :=
  Runs.loadFull (f3 c arg2 arg3 arg4 arg5 arg6 arg7 arg8 arg9 x ⟨dq, dk, dv⟩) rfl h
theorem l4 {off} {inb : ∀ a, off a + S256x128.size a ≤ S256x128.size a} {hl : arg4.view.LoadsAt (Rect.unit (s := S256x128) off S256x128.size inb).toLoadRect} {k}
    (h : R (k x.v) (x, ⟨dq, dk, dv⟩) a σ) :
    R (Prog.lift (.load arg4 (Rect.unit (s := S256x128) off S256x128.size inb).toLoadRect hl) >>= k) (x, ⟨dq, dk, dv⟩) a σ :=
  Runs.loadFull (f4 c arg2 arg3 arg4 arg5 arg6 arg7 arg8 arg9 x ⟨dq, dk, dv⟩) rfl h
theorem l5 {off} {inb : ∀ a, off a + S256x128.size a ≤ S4096x128.size a} {hl : arg5.view.LoadsAt (Rect.unit (s := S4096x128) off S256x128.size inb).toLoadRect} {k}
    (ho : off = ![256 * b.val, 0]) (h : R (k (rows x.o b)) (x, ⟨dq, dk, dv⟩) a σ) :
    R (Prog.lift (.load arg5 (Rect.unit (s := S4096x128) off S256x128.size inb).toLoadRect hl) >>= k) (x, ⟨dq, dk, dv⟩) a σ :=
  Runs.loadWin (rows_inb b) ho (f5 c arg2 arg3 arg4 arg5 arg6 arg7 arg8 arg9 x ⟨dq, dk, dv⟩) rfl h
theorem l6 {off} {inb : ∀ a, off a + S256x128.size a ≤ S4096x128.size a} {hl : arg6.view.LoadsAt (Rect.unit (s := S4096x128) off S256x128.size inb).toLoadRect} {k}
    (ho : off = ![256 * b.val, 0]) (h : R (k (rows x.st b)) (x, ⟨dq, dk, dv⟩) a σ) :
    R (Prog.lift (.load arg6 (Rect.unit (s := S4096x128) off S256x128.size inb).toLoadRect hl) >>= k) (x, ⟨dq, dk, dv⟩) a σ :=
  Runs.loadWin (rows_inb b) ho (f6 c arg2 arg3 arg4 arg5 arg6 arg7 arg8 arg9 x ⟨dq, dk, dv⟩) rfl h
theorem l7 {off} {inb : ∀ a, off a + S256x256.size a ≤ S4096x256.size a} {hl : arg7.view.LoadsAt (Rect.unit (s := S4096x256) off S256x256.size inb).toLoadRect} {k}
    (ho : off = ![256 * b.val, 0]) (h : R (k (rows2 dq b)) (x, ⟨dq, dk, dv⟩) a σ) :
    R (Prog.lift (.load arg7 (Rect.unit (s := S4096x256) off S256x256.size inb).toLoadRect hl) >>= k) (x, ⟨dq, dk, dv⟩) a σ :=
  Runs.loadWin (rows2_inb b) ho (f7 c arg2 arg3 arg4 arg5 arg6 arg7 arg8 arg9 x ⟨dq, dk, dv⟩) rfl h
theorem s7 {off} {inb : ∀ a, off a + S256x256.size a ≤ S4096x256.size a} {w hx hm k}
    (ho : off = ![256 * b.val, 0]) (h : R (k ⟨⟩) (x, ⟨putRows2 dq b w, dk, dv⟩) a σ) :
    R (Prog.lift (.store arg7 (Rect.unit (s := S4096x256) off S256x256.size inb) w Finset.univ hx hm) >>= k) (x, ⟨dq, dk, dv⟩) a σ :=
  Runs.store ho (f7 c arg2 arg3 arg4 arg5 arg6 arg7 arg8 arg9 x ⟨dq, dk, dv⟩) h
theorem l7' {off} {inb : ∀ a, off a + S4096x256.size a ≤ S4096x256.size a} {hl : arg7.view.LoadsAt (Rect.unit (s := S4096x256) off S4096x256.size inb).toLoadRect} {k}
    (h : R (k dq) (x, ⟨dq, dk, dv⟩) a σ) :
    R (Prog.lift (.load arg7 (Rect.unit (s := S4096x256) off S4096x256.size inb).toLoadRect hl) >>= k) (x, ⟨dq, dk, dv⟩) a σ :=
  Runs.loadFull (f7 c arg2 arg3 arg4 arg5 arg6 arg7 arg8 arg9 x ⟨dq, dk, dv⟩) rfl h
theorem s7' {off} {inb : ∀ a, off a + S4096x256.size a ≤ S4096x256.size a} {w hx hm k}
    (h : R (k ⟨⟩) (x, ⟨w, dk, dv⟩) a σ) :
    R (Prog.lift (.store arg7 (Rect.unit (s := S4096x256) off S4096x256.size inb) w Finset.univ hx hm) >>= k) (x, ⟨dq, dk, dv⟩) a σ :=
  Runs.storeFull (f7 c arg2 arg3 arg4 arg5 arg6 arg7 arg8 arg9 x ⟨dq, dk, dv⟩) h
theorem l8 {off} {inb : ∀ a, off a + S256x256.size a ≤ S256x256.size a} {hl : arg8.view.LoadsAt (Rect.unit (s := S256x256) off S256x256.size inb).toLoadRect} {k}
    (h : R (k dk) (x, ⟨dq, dk, dv⟩) a σ) :
    R (Prog.lift (.load arg8 (Rect.unit (s := S256x256) off S256x256.size inb).toLoadRect hl) >>= k) (x, ⟨dq, dk, dv⟩) a σ :=
  Runs.loadFull (f8 c arg2 arg3 arg4 arg5 arg6 arg7 arg8 arg9 x ⟨dq, dk, dv⟩) rfl h
theorem s8 {off} {inb : ∀ a, off a + S256x256.size a ≤ S256x256.size a} {w hx hm k}
    (h : R (k ⟨⟩) (x, ⟨dq, w, dv⟩) a σ) :
    R (Prog.lift (.store arg8 (Rect.unit (s := S256x256) off S256x256.size inb) w Finset.univ hx hm) >>= k) (x, ⟨dq, dk, dv⟩) a σ :=
  Runs.storeFull (f8 c arg2 arg3 arg4 arg5 arg6 arg7 arg8 arg9 x ⟨dq, dk, dv⟩) h
theorem l9 {off} {inb : ∀ a, off a + S256x128.size a ≤ S256x128.size a} {hl : arg9.view.LoadsAt (Rect.unit (s := S256x128) off S256x128.size inb).toLoadRect} {k}
    (h : R (k dv) (x, ⟨dq, dk, dv⟩) a σ) :
    R (Prog.lift (.load arg9 (Rect.unit (s := S256x128) off S256x128.size inb).toLoadRect hl) >>= k) (x, ⟨dq, dk, dv⟩) a σ :=
  Runs.loadFull (f9 c arg2 arg3 arg4 arg5 arg6 arg7 arg8 arg9 x ⟨dq, dk, dv⟩) rfl h
theorem s9 {off} {inb : ∀ a, off a + S256x128.size a ≤ S256x128.size a} {w hx hm k}
    (h : R (k ⟨⟩) (x, ⟨dq, dk, w⟩) a σ) :
    R (Prog.lift (.store arg9 (Rect.unit (s := S256x128) off S256x128.size inb) w Finset.univ hx hm) >>= k) (x, ⟨dq, dk, dv⟩) a σ :=
  Runs.storeFull (f9 c arg2 arg3 arg4 arg5 arg6 arg7 arg8 arg9 x ⟨dq, dk, dv⟩) h

end Steps

section Body

variable (x : Ins F) (s : Outs F)

local notation "R" => Runs (defs₀ (F := F)) Variants.none c (HH (F := F) c arg2 arg3 arg4 arg5 arg6 arg7 arg8 arg9)

/-- One trip of the loop is two blocks' updates. -/
theorem trip_run (t : Fin (k0_t1_loop i).trips) (v36 : BitVec 32) (acc : PUnit) (b b' : Fin 16)
    (h9 : k0_off9 i t = ![256 * b.val, 0]) (h10 : k0_off10 i t = ![256 * b.val, 0])
    (h11 : k0_off11 i t = ![256 * b'.val, 0]) (h12 : k0_off12 i t = ![256 * b'.val, 0]) (arg1 : BitVec 32) (K : Keys F) :
    R (k0_t1_body i arg2 harg2 arg3 harg3 arg4 harg4 arg5 harg5 arg6 harg6 arg7 harg7 arg8 harg8 arg9 harg9 arg1 K.k0 K.k1 K.v2 v36 t acc)
      (x, s) PUnit.unit (x, blkU x K b' (blkU x K b s)) := by
  unfold k0_t1_body
  obtain ⟨dq, dk, dv⟩ := s
  rw [k0_part16_eq_skeleton]; unfold k0_part16_skel
  repeat with_reducible first
    | refine Runs.assoc ?_ | (refine Runs.pureBind ?_; try dsimp only)
    | refine l2 (by assumption) ?_ | refine l5 (by assumption) ?_ | refine l6 (by assumption) ?_ | refine l7 (by assumption) ?_
    | refine s7 (by assumption) ?_ | refine l8 ?_ | refine s8 ?_ | refine l9 ?_ | refine s9 ?_
    | (rw [k0_part13_eq_skeleton]; unfold k0_part13_skel)
    | (rw [k0_part14_eq_skeleton]; unfold k0_part14_skel)
    | (rw [k0_part15_eq_skeleton]; unfold k0_part15_skel)
  exact Runs.ret' rfl rfl

theorem run_two (j n : ℕ) (h : 1 ≤ n) :
    run x j s (n + 2) = blkU x (keys x) (bk j (n + 1)) (blkU x (keys x) (bk j n) (run x j s n)) := by
  obtain ⟨k, rfl⟩ : ∃ k, n = k + 1 := ⟨n - 1, by omega⟩
  rfl

/-- The first block's update, its row number with a zero added. -/
theorem run_one (j : ℕ) :
    run x j s 1 = blkM x (keys x) (Scalar.muli (BitVec.ofNat 32 j) 256#32) (Scalar.muli (Scalar.addi (BitVec.ofNat 32 j) 0#32) 256#32) (bk j 0) s := by
  rw [show Scalar.addi (BitVec.ofNat 32 j) 0#32 = BitVec.ofNat 32 j from BitVec.add_zero _]; rfl

theorem taken_pos (i : grid0.Coords) : 1 ≤ taken i := by unfold taken; split <;> omega

theorem first_iff : ∀ i : grid0.Coords,
    Scalar.cmpi .ne (Scalar.extui (Scalar.cmpi .eq (BitVec.ofNat 32 (i 1).val) 0#32) : BitVec 32) 0#32 = 1#1 ↔ (i 1).val = 0 := by
  decide +kernel

/-- The loops, from the state after the first blocks. -/
theorem loops_run (arg1 v36 v64 : BitVec 32) :
    R (do
        Scf.Loop.for (k0_t1_loop i) (k0_t1_ok i) ⟨⟩
          (k0_t1_body i arg2 harg2 arg3 harg3 arg4 harg4 arg5 harg5 arg6 harg6 arg7 harg7 arg8 harg8 arg9 harg9 arg1 (keys x).k0 (keys x).k1 (keys x).v2 v36)
        Scf.Loop.for (k0_t2_loop i) (k0_t2_ok i) ⟨⟩
          (k0_t2_body i arg2 harg2 arg3 harg3 arg4 harg4 arg5 harg5 arg6 harg6 arg7 harg7 arg8 harg8 arg9 harg9 arg1 (keys x).k0 (keys x).k1 (keys x).v2 v36 v64)
        pure PUnit.unit)
      (x, run x (i 1).val s (taken i)) PUnit.unit (x, run x (i 1).val s (16 - (i 1).val)) := by
  refine Runs.bind (a := PUnit.unit) (σ₁ := (x, run x (i 1).val s (16 - (i 1).val))) ?_ ?_
  · have h := Runs.loop (defs := defs₀ (F := F)) (𝒱 := Variants.none) (c := c)
      (H := HH (F := F) c arg2 arg3 arg4 arg5 arg6 arg7 arg8 arg9)
      (k0_t1_loop i) (k0_t1_ok i) (k0_t1_body i arg2 harg2 arg3 harg3 arg4 harg4 arg5 harg5 arg6 harg6 arg7 harg7 arg8 harg8 arg9 harg9 arg1 (keys x).k0 (keys x).k1 (keys x).v2 v36)
      (fun _ => PUnit.unit) (fun k => (x, run x (i 1).val s (taken i + 2 * k))) (fun k => by
        have e := run_two x s (i 1).val (taken i + 2 * k.val) (le_trans (taken_pos i) (by omega))
        rw [show taken i + 2 * (k.val + 1) = taken i + 2 * k.val + 2 by omega, e]
        exact trip_run c i arg2 harg2 arg3 harg3 arg4 harg4 arg5 harg5 arg6 harg6 arg7 harg7 arg8 harg8 arg9 harg9 x _ k v36 _ _ _ (off9 i k) (off10 i k) (off11 i k) (off12 i k) arg1 (keys x))
    rw [trips1 i] at h
    exact h
  refine Runs.bind (a := PUnit.unit) (σ₁ := (x, run x (i 1).val s (16 - (i 1).val))) ?_ ?_
  · exact Runs.loop (k0_t2_loop i) (k0_t2_ok i) _ (fun _ => PUnit.unit)
      (fun _ => (x, run x (i 1).val s (16 - (i 1).val))) (fun k => by have := k.isLt; have := trips2 i; omega)
  exact Runs.ret' rfl rfl

/-- What comes before the blocks. -/
theorem head_run {α : Type} (k : _ → Prog (TpuEff nD τ sig (Elt F) Λ₀ .tc) α) (a : α) (σ : Ins F × Outs F)
    (h : ∀ v23 v24 v26 v27 v28 v29 v30, R (k ⟨BitVec.ofNat 32 (i 1).val, Scalar.muli (BitVec.ofNat 32 (i 1).val) 256#32, (keys x).k0, (keys x).k1, (keys x).v2,
      v23, v24, v26, v27, v28, v29, v30⟩) (x, reset (i 1).val s) a σ) :
    R (k0_part21 i arg2 harg2 arg3 harg3 arg4 harg4 arg5 harg5 arg6 harg6 arg7 harg7 arg8 harg8 arg9 harg9 >>= k) (x, s) a σ := by
  obtain ⟨dq, dk, dv⟩ := s
  rw [k0_part21_eq_skeleton]; unfold k0_part21_skel
  unfold reset at h
  by_cases h0 : (i 1).val = 0
  · simp only [if_pos h0] at h
    simp only [dif_pos ((first_iff i).mpr h0)]
    repeat with_reducible first
      | refine Runs.assoc ?_ | (refine Runs.pureBind ?_; try dsimp only)
      | refine l2 (by assumption) ?_ | refine l5 (by assumption) ?_ | refine l6 (by assumption) ?_ | refine l7 (by assumption) ?_
      | refine s7 (by assumption) ?_ | refine s7' ?_ | refine l7' ?_ | refine l3 ?_ | refine l4 ?_ | refine l8 ?_ | refine s8 ?_ | refine l9 ?_ | refine s9 ?_
    exact h _ _ _ _ _ _ _
  · simp only [if_neg h0] at h
    simp only [dif_neg fun h => h0 ((first_iff i).mp h)]
    repeat with_reducible first
      | refine Runs.assoc ?_ | (refine Runs.pureBind ?_; try dsimp only)
      | refine l2 (by assumption) ?_ | refine l5 (by assumption) ?_ | refine l6 (by assumption) ?_ | refine l7 (by assumption) ?_
      | refine s7 (by assumption) ?_ | refine s7' ?_ | refine l7' ?_ | refine l3 ?_ | refine l4 ?_ | refine l8 ?_ | refine s8 ?_ | refine l9 ?_ | refine s9 ?_
    exact h _ _ _ _ _ _ _

/-- The body takes the state through all blocks from the diagonal one on. -/
theorem body_run :
    R (cc0_mla_bwd i arg2 harg2 arg3 harg3 arg4 harg4 arg5 harg5 arg6 harg6 arg7 harg7 arg8 harg8 arg9 harg9) (x, s) ⟨⟩ (x, point x (i 1).val s) := by
  rw [cc0_mla_bwd_eq_skeleton]; unfold cc0_mla_bwd_skel
  with_reducible refine head_run c i arg2 harg2 arg3 harg3 arg4 harg4 arg5 harg5 arg6 harg6 arg7 harg7 arg8 harg8 arg9 harg9 x s _ _ _ fun v23 v24 v26 v27 v28 v29 v30 => ?_
  unfold point
  generalize reset (i 1).val s = s'
  dsimp only
  rcases Classical.em (k0_cond2 i = 1#1) with h2 | h2
  · simp only [dif_pos h2]
    rcases Classical.em (k0_cond3 i = 1#1) with h3 | h3
    · simp only [dif_pos h3]
      have h10 : k0_off1 i 0#32 = ![256 * (bk (i 1).val 0).val, 0] := off1 i h2 h3 0
      have h11 : k0_off1 i 1#32 = ![256 * (bk (i 1).val 1).val, 0] := off1 i h2 h3 1
      have h12 : k0_off1 i 2#32 = ![256 * (bk (i 1).val 2).val, 0] := off1 i h2 h3 2
      have h20 : k0_off2 i 0#32 = ![256 * (bk (i 1).val 0).val, 0] := off2 i h2 h3 0
      have h21 : k0_off2 i 1#32 = ![256 * (bk (i 1).val 1).val, 0] := off2 i h2 h3 1
      have h22 : k0_off2 i 2#32 = ![256 * (bk (i 1).val 2).val, 0] := off2 i h2 h3 2
      have hl := fun v36 v64 => loops_run c i arg2 harg2 arg3 harg3 arg4 harg4 arg5 harg5 arg6 harg6 arg7 harg7 arg8 harg8 arg9 harg9 x s' (BitVec.ofNat 32 (i 1).val) v36 v64
      rw [taken3 i h2 h3, run_two x s' (i 1).val 1 le_rfl, run_one] at hl
      obtain ⟨dq, dk, dv⟩ := s'
      repeat with_reducible first
        | refine Runs.assoc ?_ | (refine Runs.pureBind ?_; try dsimp only)
        | refine l2 (by assumption) ?_ | refine l5 (by assumption) ?_ | refine l6 (by assumption) ?_ | refine l7 (by assumption) ?_
        | refine s7 (by assumption) ?_ | refine l8 ?_ | refine s8 ?_ | refine l9 ?_ | refine s9 ?_
        | (rw [k0_part1_eq_skeleton]; unfold k0_part1_skel)
        | (rw [k0_part2_eq_skeleton]; unfold k0_part2_skel)
        | (rw [k0_part3_eq_skeleton]; unfold k0_part3_skel)
        | (rw [k0_part4_eq_skeleton]; unfold k0_part4_skel)
        | (rw [k0_part5_eq_skeleton]; unfold k0_part5_skel)
        | (rw [k0_part6_eq_skeleton]; unfold k0_part6_skel)
      exact hl _ _
    · simp only [dif_neg h3]
      have h33 := off3 i h2; have h4 := off4 i h2; have h5 := off5 i h2; have h6 := off6 i h2
      have hl := fun v36 v64 => loops_run c i arg2 harg2 arg3 harg3 arg4 harg4 arg5 harg5 arg6 harg6 arg7 harg7 arg8 harg8 arg9 harg9 x s' (BitVec.ofNat 32 (i 1).val) v36 v64
      rw [taken2 i h2 h3] at hl
      obtain ⟨dq, dk, dv⟩ := s'
      repeat with_reducible first
        | refine Runs.assoc ?_ | (refine Runs.pureBind ?_; try dsimp only)
        | refine l2 (by assumption) ?_ | refine l5 (by assumption) ?_ | refine l6 (by assumption) ?_ | refine l7 (by assumption) ?_
        | refine s7 (by assumption) ?_ | refine l8 ?_ | refine s8 ?_ | refine l9 ?_ | refine s9 ?_
        | (rw [k0_part7_eq_skeleton]; unfold k0_part7_skel)
        | (rw [k0_part8_eq_skeleton]; unfold k0_part8_skel)
        | (rw [k0_part9_eq_skeleton]; unfold k0_part9_skel)
        | (rw [k0_part10_eq_skeleton]; unfold k0_part10_skel)
      exact hl _ _
  · simp only [dif_neg h2]
    have h7 := off7 i; have h8 := off8 i
    have hl := fun v36 v64 => loops_run c i arg2 harg2 arg3 harg3 arg4 harg4 arg5 harg5 arg6 harg6 arg7 harg7 arg8 harg8 arg9 harg9 x s' (BitVec.ofNat 32 (i 1).val) v36 v64
    rw [taken1 i h2] at hl
    obtain ⟨dq, dk, dv⟩ := s'
    repeat with_reducible first
      | refine Runs.assoc ?_ | (refine Runs.pureBind ?_; try dsimp only)
      | refine l2 (by assumption) ?_ | refine l5 (by assumption) ?_ | refine l6 (by assumption) ?_ | refine l7 (by assumption) ?_
      | refine s7 (by assumption) ?_ | refine l8 ?_ | refine s8 ?_ | refine l9 ?_ | refine s9 ?_
      | (rw [k0_part11_eq_skeleton]; unfold k0_part11_skel)
      | (rw [k0_part12_eq_skeleton]; unfold k0_part12_skel)
    exact hl _ _

end Body

end Cert.MlaBwdRun

end
-- ==== Proof.MlaBwdFrame.lean ====
/-
  The launch of the chunked attention's gradient: at every grid point the body's run (`MlaBwdRun.body_run`) meets what the
  pipeline staged, so the program terminates, leaves its arguments, and every result buffer is named by the fold `outsAt`.
-/
module

public import proofs.«01_k».proof.Proof.MlaBwdRun
public import Idealize.ShloMosaic.Lib.Claim

@[expose] public section

set_option maxRecDepth 16384
set_option maxHeartbeats 1000000

noncomputable section

namespace Cert.MlaBwdFrame

open Cert.MlaBwdIdeal Cert.MlaBwdIdeal.Gen Cert.Owned Cert.MlaBwdRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's result does not depend on what it overwrites -/

/-- The body's result is the same from any contents that agree on what a later key block adds to. -/
theorem point_congr (x : Ins F) (j : ℕ) (s s' : Outs F) (h : j ≠ 0 → s.dq = s'.dq) : point x j s = point x j s' := by
  unfold point reset
  by_cases h0 : j = 0
  · simp only [if_pos h0]
  · simp only [if_neg h0, h h0]

variable (m : (ℓ : Loc nD τ sig) → Buf (Elt F) ℓ) (ρ : Dev nD → PrngReg)

/-! ## What each point leaves -/

/-- What the body reads at point `t`. -/
def ins (c : Dev nD) (t : Fin cfg0.N) : Ins F :=
  ⟨iblk m c 0 t, iblk m c 1 t, iblk m c 2 t, iblk m c 3 t, iblk m c 4 t⟩

/-- What the results' buffers hold after point `n`. -/
def outsAt (c : Dev nD) : (n : ℕ) → n < cfg0.N → Outs F
  | 0, h => point (ins m c ⟨0, h⟩) 0 ⟨k0_pay142, k0_pay143, k0_pay144⟩
  | n + 1, h => point (ins m c ⟨n + 1, h⟩) ((n + 1) % 16) (outsAt c n (Nat.lt_of_succ_lt h))

/-- The body at point `n` from any contents that agree with the point before on what it adds to. -/
theorem point_outsAt (c : Dev nD) (n : ℕ) (h : n < cfg0.N) (s : Outs F)
    (hs : n % 16 ≠ 0 → s.dq = (outsAt m c (n - 1) (Nat.lt_of_le_of_lt (Nat.sub_le _ _) h)).dq) :
    point (ins m c ⟨n, h⟩) (n % 16) s = outsAt m c n h := by
  cases n with
  | zero => exact point_congr _ _ _ _ fun h0 => absurd rfl h0
  | succ n => exact point_congr _ _ _ _ hs

/-- The key block of a point. -/
theorem coord1 : ∀ t : Fin cfg0.N, ((grid0.coords t) 1).val = t.val % 16 := (by decide +kernel : ∀ t : Fin grid0.N, _)

/-- The pipeline's data: each input's buffer keeps its block, the results' buffers hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).dq
    | ⟨6, _⟩ => (outsAt m c t.val t.isLt).dk
    | ⟨7, _⟩ => (outsAt m c t.val t.isLt).dv
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).dq := by dsimp only [dats]
theorem after0_6 (c : Dev nD) (t : Fin cfg0.N) : (dats m 0 c).after 6 t = (outsAt m c t.val t.isLt).dk := by dsimp only [dats]
theorem after0_7 (c : Dev nD) (t : Fin cfg0.N) : (dats m 0 c).after 7 t = (outsAt m c t.val t.isLt).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The queries' gradient is kept from one key block to the next. -/
theorem before0_5 (c : Dev nD) (t : Fin cfg0.N) (h0 : t.val % 16 ≠ 0) (d) :
    (dats m 0 c).before 5 t d = (outsAt m c (t.val - 1) (Nat.lt_of_le_of_lt (Nat.sub_le _ _) t.isLt)).dq := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The buffers at point `t`, as the body's run takes them. -/
abbrev HAt (c : Dev nD) (t : Fin cfg0.N) : Ins F × Outs F → sProp 𝕄 :=
  HH c (st0_0 t) (st0_1 t) (st0_2 t) (st0_3 t) (st0_4 t) (st0_5 t) (st0_6 t) (st0_7 t)

/-- The body's run at point `t`, with anything else that is held. -/
theorem body_at (c : Dev nD) (t : Fin cfg0.N) (s : Outs F) (R : sProp 𝕄)
    (hs : t.val % 16 ≠ 0 → s.dq = (outsAt m c (t.val - 1) (Nat.lt_of_le_of_lt (Nat.sub_le _ _) t.isLt)).dq) :
    iprop(R ∗ HAt c t (ins m c t, s)) ⊢ wp frame (wpE (defs₀ (F := F)) Variants.none (c : Thread nD τ) none) Set.univ (bodyAt0 t)
      (fun _ => iprop(R ∗ HAt c t (ins m c t, outsAt m c t.val t.isLt))) := by
  have h := body_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (ins m c t) s
  rw [coord1 t, point_outsAt m c t.val t.isLt s hs] at h
  exact (BIClass.sep_mono (show R ⊢ R from .rfl) (h (fun _ => HAt c t (ins m c t, outsAt m c t.val t.isLt)) .rfl)).trans (wp_frame_l _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_mono _ _ _ (Q := fun _ => iprop(((dats m 0 c).Φ t.castSucc ∗ (dats m 0 c).owesAt () t.castSucc) ∗ HAt c t (ins m c t, outsAt m c t.val t.isLt))) fun _ => ?_)
  · unfold HAt HH Held ins; dsimp only
    iintro ⟨⟨HΦ, Ho⟩, H0, H1, H2, H3, H4, H5, H6, H7⟩
    iframe HΦ Ho H0 H1 H2 H3 H4 H5 H6 H7
  · iapply (body_at m c t ⟨(dats m 0 c).before 5 t d5, (dats m 0 c).before 6 t d6, (dats m 0 c).before 7 t d7⟩
      iprop((dats m 0 c).Φ t.castSucc ∗ (dats m 0 c).owesAt () t.castSucc) fun h0 => before0_5 m c t h0 d5)
    unfold HAt HH Held ins; dsimp only
    isplitl [HΦ Ho]
    · isplitl [HΦ]; · iexact HΦ
      iexact Ho
    iframe H0 H1 H2 H3 H4 H5 H6 H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, the arrays as the pipeline leaves them and the lines after it have run, no semaphore up. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.MlaBwdFrame

end
-- ==== Proof.MlaBwdRead.lean ====
/- The pieces of the latent attention's gradient body read at an index, floats as extended reals. -/
module

public import proofs.«01_k».proof.Proof.MlaBwdRun
public import proofs.«01_k».proof.Proof.FoxBwdPoint

@[expose] public section

set_option maxRecDepth 16384

noncomputable section

namespace Cert.MlaBwdRead

open Cert.MlaBwdIdeal Cert.MlaBwdIdeal.Gen Cert.MlaBwdRun
open Cert.FoxBwdRead (row row0 row1 two sum_row slt64 sge64 exp_masked)
open Idealize.ShloMosaic Idealize.ShloMosaic.TcCoe

/-- The lane of a pair of heads that is lane `l` of head `e`. -/
def ln (e : Fin 2) (l : Fin 128) : Fin 256 := ⟨128 * e.val + l.val, by omega⟩

theorem ln0 (l : Fin 128) : ln 0 l = ⟨l.val, by omega⟩ := by ext; simp [ln]
theorem ln1 (l : Fin 128) : ln 1 l = ⟨128 + l.val, by omega⟩ := by ext; simp [ln]

/-- The two heads' keys, one of them. -/
def kE (K : Keys Ideal) (e : Fin 2) : FVec Ideal S256x128 .bf16 := if e.val = 0 then K.k0 else K.k1

theorem keys_k (x : Ins Ideal) (e : Fin 2) (a : Fin 256) (c : Fin 128) : (kE (keys x) e (ix2 a c) : EReal) = x.k (ix2 a (ln e c)) := by
  rcases two e with rfl | rfl
  · rw [ln0]; show k0_pay146 x.k _ = _; pointwise [k0_pay146, k0_pay145]
  · rw [ln1]; show k0_pay147 x.k _ = _; pointwise [k0_pay147, k0_pay145]

theorem keys_v (x : Ins Ideal) (e : Fin 2) (a : Fin 256) (c : Fin 128) :
    (keys x).v2 (ix2 (row e a) c) = if c.val / 64 = e.val then x.v (ix2 a c) else 0 := by
  show k0_pay148 x.v _ = _
  rcases two e with rfl | rfl
  · rw [row0]; pointwise [k0_pay148]; rw [slt64]
    show _ = if c.val / 64 = 0 then _ else _
    split <;> rfl
  · rw [row1]; pointwise [k0_pay148]; rw [sge64]
    show _ = if c.val / 64 = 1 then _ else _
    split <;> rfl

theorem pay4_apply (K : Keys Ideal) (q : Vec Ideal S256x256 .bf16) (e : Fin 2) (a r : Fin 256) :
    k0_pay4 K.k0 K.k1 q (ix2 (row e a) r) = ∑ c : Fin 128, (kE K e (ix2 a c) : EReal) * q (ix2 r (ln e c)) := by
  rcases two e with rfl | rfl
  · simp only [row0, ln0]; pointwise [k0_pay4]; rfl
  · simp only [row1, ln1]; pointwise [k0_pay4]; rfl

theorem pay5_apply (v : FVec Ideal S512x128 .bf16) (o : Vec Ideal S256x128 .bf16) (z : Fin 512) (r : Fin 256) :
    k0_pay5 v o (ix2 z r) = ∑ c : Fin 128, (v (ix2 z c) : EReal) * o (ix2 r c) := by
  pointwise [k0_pay5]

theorem pay94_apply (s : FVec Ideal S512x256 .f32) (st : Vec Ideal S256x128 .f32) (e : Fin 2) (a r : Fin 256) :
    k0_pay94 s st (ix2 (row e a) r) = Ideal.exp ((s (ix2 (row e a) r) : EReal) - st (ix2 r ⟨e.val, by omega⟩)) := by
  rcases two e with rfl | rfl
  · rw [row0]; pointwise [k0_pay94, k0_pay92]
  · rw [row1]; pointwise [k0_pay94, k0_pay92]

theorem pay95_apply (s dp : FVec Ideal S512x256 .f32) (st : Vec Ideal S256x128 .f32) (e : Fin 2) (a r : Fin 256) :
    k0_pay95 s dp st (ix2 (row e a) r)
      = (k0_pay94 s st (ix2 (row e a) r) : EReal) * (dp (ix2 (row e a) r) - st (ix2 r ⟨2 + e.val, by omega⟩) : EReal) := by
  rcases two e with rfl | rfl
  · rw [row0]; pointwise [k0_pay95, k0_pay92]
  · rw [row1]; pointwise [k0_pay95, k0_pay92]

theorem word_add (j : Fin 16) (a : Fin 256) :
    IntOp.addi (Scalar.muli (BitVec.ofNat 32 j.val) 256#32) (BitVec.ofNat 32 a.val) = BitVec.ofNat 32 (256 * j.val + a.val) := by
  have e : Scalar.muli (BitVec.ofNat 32 j.val) 256#32 = BitVec.ofNat 32 (256 * j.val) :=
    (by decide +kernel : ∀ j : Fin 16, Scalar.muli (BitVec.ofNat 32 j.val) 256#32 = BitVec.ofNat 32 (256 * j.val)) j
  rw [e]; exact (BitVec.ofNat_add _ _).symm

/-- A row's chunk, as a word. -/
theorem chunk_word (u : ArithUnit) {n : ℕ} (h : n < 4096) : IntOp.shrsi u (BitVec.ofNat 32 n) 6#32 = BitVec.ofNat 32 (n / 64) := by
  cases u
  all_goals exact (by decide +kernel : ∀ n : Fin 4096, IntOp.shrsi _ (BitVec.ofNat 32 n.val) 6#32 = BitVec.ofNat 32 (n.val / 64)) ⟨n, h⟩

/-- The chunked mask inside the diagonal block. -/
theorem sle_chunk (u : ArithUnit) (j : Fin 16) (a r : Fin 256) :
    IntOp.cmpi CmpIPredicate.sle (IntOp.shrsi u (IntOp.addi (Scalar.muli (BitVec.ofNat 32 j.val) 256#32) (BitVec.ofNat 32 a.val)) 6#32)
      (IntOp.shrsi u (IntOp.addi (Scalar.muli (BitVec.ofNat 32 j.val) 256#32) (BitVec.ofNat 32 r.val)) 6#32)
      = if (256 * j.val + a.val) / 64 ≤ (256 * j.val + r.val) / 64 then 1#1 else 0#1 := by
  have := j.isLt
  rw [word_add, word_add, chunk_word u (by omega), chunk_word u (by omega)]
  have h1 : (256 * j.val + a.val) / 64 < 64 := by omega
  have h2 : (256 * j.val + r.val) / 64 < 64 := by omega
  generalize (256 * j.val + a.val) / 64 = x at *
  generalize (256 * j.val + r.val) / 64 = y at *
  word_omega

theorem mask_bot : (Named.named (F := Ideal) κ "mask" (φ := .f32) 0xF149F2CA#32 : EReal) = ⊥ := by
  simp [Named.named, κ]

theorem pay55_apply (j : Fin 16) (s : FVec Ideal S512x256 .f32) (st : Vec Ideal S256x128 .f32) (e : Fin 2) (a r : Fin 256) :
    k0_pay55 (Scalar.muli (BitVec.ofNat 32 j.val) 256#32) s (Scalar.muli (BitVec.ofNat 32 j.val) 256#32) (k0_pay15 st) (ix2 (row e a) r)
      = if (256 * j.val + a.val) / 64 ≤ (256 * j.val + r.val) / 64 then k0_pay94 s st (ix2 (row e a) r) else 0 := by
  rw [pay94_apply]
  rcases two e with rfl | rfl
  · rw [row0]; pointwise [k0_pay55, k0_pay15]
    rw [mask_bot]; exact exp_masked _ _ (sle_chunk _ j a r) _ _
  · rw [row1]; pointwise [k0_pay55, k0_pay15]
    rw [mask_bot]; exact exp_masked _ _ (sle_chunk _ j a r) _ _

theorem pay56_apply (v0 w : BitVec 32) (s dp : FVec Ideal S512x256 .f32) (st : Vec Ideal S256x128 .f32) (e : Fin 2) (a r : Fin 256) :
    k0_pay56 v0 s dp w (k0_pay15 st) (ix2 (row e a) r)
      = (k0_pay55 v0 s w (k0_pay15 st) (ix2 (row e a) r) : EReal) * (dp (ix2 (row e a) r) - st (ix2 r ⟨2 + e.val, by omega⟩) : EReal) := by
  rcases two e with rfl | rfl
  · rw [row0]; pointwise [k0_pay56, k0_pay55, k0_pay15]
  · rw [row1]; pointwise [k0_pay56, k0_pay55, k0_pay15]

theorem mm_apply (w : FVec Ideal S512x256 .f32) (x : Vec Ideal S256x128 .bf16) (z : Fin 512) (c : Fin 128) :
    mm w x (ix2 z c) = ∑ r : Fin 256, (w (ix2 z r) : EReal) * x (ix2 r c) := by
  pointwise [mm]

theorem pay23_apply (w : FVec Ideal S512x128 .f32) (y : Vec Ideal S256x128 .f32) (a : Fin 256) (c : Fin 128) :
    k0_pay23 w y (ix2 a c) = (y (ix2 a c) : EReal) + w (ix2 (row ⟨c.val / 64, by omega⟩ a) c) := by
  pointwise [k0_pay23]
  rw [slt64]
  by_cases h : c.val / 64 = 0
  · have : (⟨c.val / 64, by omega⟩ : Fin 2) = 0 := Fin.ext h
    rw [if_pos h, this, row0]; rfl
  · have : (⟨c.val / 64, by omega⟩ : Fin 2) = 1 := Fin.ext (by show c.val / 64 = 1; omega)
    rw [if_neg h, this, row1]; rfl

theorem pay101_apply (K : Keys Ideal) (ds : FVec Ideal S512x256 .bf16) (y : Vec Ideal S256x256 .f32) (e : Fin 2) (r : Fin 256) (c : Fin 128) :
    k0_pay101 K.k0 K.k1 ds y (ix2 r (ln e c))
      = (y (ix2 r (ln e c)) : EReal) + ∑ a : Fin 256, (ds (ix2 (row e a) r) : EReal) * kE K e (ix2 a c) := by
  rcases two e with rfl | rfl
  · simp only [row0, ln0]; pointwise [k0_pay101]; rfl
  · simp only [row1, ln1]; pointwise [k0_pay101]; rfl

theorem pay100_apply (ds : FVec Ideal S512x256 .bf16) (q : Vec Ideal S256x256 .bf16) (y : Vec Ideal S256x256 .f32) (e : Fin 2) (a : Fin 256) (c : Fin 128) :
    k0_pay100 (k0_pay93 (k0_pay90 q)) (k0_pay97 y) (mmL ds q)
      (extractStridedSlice S256x256 ![256, 0] ds slices_S512x256_o256_0_S256x256) (constant S256x128 .f32 0x00000000#32) (ix2 a (ln e c))
      = (y (ix2 a (ln e c)) : EReal) + ∑ r : Fin 256, (ds (ix2 (row e a) r) : EReal) * q (ix2 r (ln e c)) := by
  rcases two e with rfl | rfl
  · simp only [row0, ln0]; pointwise [k0_pay100, k0_pay93, k0_pay90, k0_pay97, mmL]
  · simp only [row1, ln1]; pointwise [k0_pay100, k0_pay93, k0_pay90, k0_pay97, mmL]

theorem pay142_apply (i) : (k0_pay142 (F := Ideal) i : EReal) = 0 := by pointwise [k0_pay142]
theorem pay143_apply (i) : (k0_pay143 (F := Ideal) i : EReal) = 0 := by pointwise [k0_pay143]
theorem pay144_apply (i) : (k0_pay144 (F := Ideal) i : EReal) = 0 := by pointwise [k0_pay144]

end Cert.MlaBwdRead

end
-- ==== Proof.MlaModel.lean ====
/- The latent attention and its gradient over the reals. -/
module

public import proofs.«01_k».proof.Proof.FoxBwdModel

@[expose] public section

noncomputable section

namespace Cert.MlaModel

open Cert.Softmax

/-- A head's 128 lanes: 64 of the one array, 32 of the other, zeros. -/
def lanes {M : Type*} [Zero M] (x : Fin 64 → M) (y : Fin 32 → M) (l : Fin 128) : M :=
  if h : l.val < 64 then x ⟨l.val, h⟩ else if h' : l.val - 64 < 32 then y ⟨l.val - 64, h'⟩ else 0

/-- A lane of the first kind, -/
def ln0 (d : Fin 64) : Fin 128 := ⟨d.val, by omega⟩
/-- and one of the second. -/
def ln1 (r : Fin 32) : Fin 128 := ⟨64 + r.val, by omega⟩

theorem lanes0 {M : Type*} [Zero M] (x : Fin 64 → M) (y : Fin 32 → M) (d : Fin 64) : lanes x y (ln0 d) = x d := dif_pos d.isLt

theorem lanes1 {M : Type*} [Zero M] (x : Fin 64 → M) (y : Fin 32 → M) (r : Fin 32) : lanes x y (ln1 r) = y r := by
  unfold lanes
  rw [dif_neg (by show ¬ 64 + r.val < 64; omega), dif_pos (by show 64 + r.val - 64 < 32; omega)]
  exact congrArg y (Fin.ext (by show 64 + r.val - 64 = r.val; omega))

/-- A sum over a head's lanes of what is zero on the last 32. -/
theorem sum_lanes {M : Type*} [AddCommMonoid M] (f : Fin 128 → M) (hf : ∀ l : Fin 128, 96 ≤ l.val → f l = 0) :
    ∑ l, f l = ∑ d : Fin 64, f (ln0 d) + ∑ r : Fin 32, f (ln1 r) := by
  rw [show (∑ l, f l) = ∑ l : Fin (64 + 64), f l from rfl, Fin.sum_univ_add]
  refine congrArg₂ (· + ·) rfl ?_
  rw [show (∑ l : Fin 64, f (Fin.natAdd 64 l)) = ∑ l : Fin (32 + 32), f (Fin.natAdd 64 l) from rfl, Fin.sum_univ_add]
  refine (congrArg₂ (· + ·) rfl (Finset.sum_eq_zero fun l _ => hf _ ?_)).trans (add_zero _)
  show 96 ≤ 64 + (32 + l.val); omega

theorem lanes_hi {M : Type*} [Zero M] (x : Fin 64 → M) (y : Fin 32 → M) {l : Fin 128} (h : 96 ≤ l.val) : lanes x y l = 0 := by
  unfold lanes; rw [dif_neg (by omega), dif_neg (by omega)]

variable (s : ℝ) (qn : Fin 4096 → Fin 8 → Fin 64 → ℝ) (qr : Fin 4096 → Fin 8 → Fin 32 → ℝ) (kn : Fin 4096 → Fin 8 → Fin 64 → ℝ)
  (kr : Fin 4096 → Fin 32 → ℝ) (v o : Fin 4096 → Fin 8 → Fin 64 → ℝ)

/-- A query's lanes, -/
def Q (i : Fin 4096) (h : Fin 8) (l : Fin 128) : ℝ := lanes (qn i h) (qr i h) l

/-- a key's. -/
def K (j : Fin 4096) (h : Fin 8) (l : Fin 128) : ℝ := lanes (kn j h) (kr j) l

/-- A query sees the keys of no later chunk. -/
def see (i j : Fin 4096) : Prop := j.val / 64 ≤ i.val / 64

instance (i : Fin 4096) : DecidablePred (see i) := fun _ => Nat.decLe _ _

/-- The score of query `i` and key `j`, -/
def sc (h : Fin 8) (i j : Fin 4096) : ℝ := ∑ l : Fin 128, Q qn qr i h l * s * K kn kr j h l

/-- the softmax, -/
def P (h : Fin 8) (i j : Fin 4096) : ℝ := soft (sc s qn qr kn kr h i) (see i) j

/-- its cotangent, -/
def dP (h : Fin 8) (i j : Fin 4096) : ℝ := ∑ d : Fin 64, o i h d * v j h d

/-- the mean of it, -/
def D (h : Fin 8) (i : Fin 4096) : ℝ := ∑ j, P s qn qr kn kr h i j * dP v o h i j

/-- and the scores' gradient. -/
def dS (h : Fin 8) (i j : Fin 4096) : ℝ := P s qn qr kn kr h i j * (dP v o h i j - D s qn qr kn kr v o h i)

/-- The gradients: of the queries' lanes before the scale, -/
def gq (i : Fin 4096) (h : Fin 8) (l : Fin 128) : ℝ := ∑ j, dS s qn qr kn kr v o h i j * K kn kr j h l

/-- of the keys' lanes, -/
def gk (j : Fin 4096) (h : Fin 8) (l : Fin 128) : ℝ := ∑ i, dS s qn qr kn kr v o h i j * (Q qn qr i h l * s)

/-- and of the values. -/
def gv (j : Fin 4096) (h : Fin 8) (d : Fin 64) : ℝ := ∑ i, P s qn qr kn kr h i j * o i h d

theorem diag (i : Fin 4096) : ∃ j : Fin 4096, see i j := ⟨i, le_refl _⟩

theorem P_of_not {h : Fin 8} {i j : Fin 4096} (hj : ¬ see i j) : P s qn qr kn kr h i j = 0 := if_neg hj

/-- The score as the two products' sum. -/
theorem sc_eq (h : Fin 8) (i j : Fin 4096) :
    sc s qn qr kn kr h i j = ((∑ d : Fin 64, qn i h d * kn j h d) + ∑ r : Fin 32, qr i h r * kr j r) * s := by
  unfold sc
  rw [sum_lanes _ fun l hl => by unfold K; rw [lanes_hi _ _ hl, mul_zero], add_mul, Finset.sum_mul, Finset.sum_mul]
  refine congrArg₂ (· + ·) (Finset.sum_congr rfl fun d _ => ?_) (Finset.sum_congr rfl fun r _ => ?_)
  · unfold Q K; rw [lanes0, lanes0]; ring
  · unfold Q K; rw [lanes1, lanes1]; ring

end Cert.MlaModel

end
-- ==== Proof.MlaBwdHost.lean ====
/- What the latent attention's gradient call is given: the host's arrays at an index. -/
module

public import proofs.«01_k».proof.Proof.MlaBwdFrame
public import proofs.«01_k».proof.Proof.MlaBwdRead
public import proofs.«01_k».proof.Proof.FoxBwdHost
public import proofs.«01_k».proof.Proof.MlaModel

@[expose] public section

set_option maxRecDepth 16384

noncomputable section

namespace Cert.MlaBwdHost

open Cert.MlaBwdIdeal Cert.MlaBwdIdeal.Gen
open Cert.FoxBwdHost (hh ninf mx sm dl ls sle_at)
open Cert.MlaModel (lanes)
open Cert.MlaBwdRead (chunk_word)
open Idealize.ShloMosaic Idealize.ShloMosaic.TcCoe Idealize.SL.Sem

variable (m : (ℓ : Loc nD τ sig) → Buf (Elt Ideal) ℓ)

abbrev A0 (c : Dev nD) : FVec Ideal S4096x8x64 .f32 := m ((c.tc : Thread nD τ).loc main_arg0)
abbrev A1 (c : Dev nD) : FVec Ideal S4096x8x32 .f32 := m ((c.tc : Thread nD τ).loc main_arg1)
abbrev A2 (c : Dev nD) : FVec Ideal S4096x8x64 .f32 := m ((c.tc : Thread nD τ).loc main_arg2)
abbrev A3 (c : Dev nD) : FVec Ideal S4096x32 .f32 := m ((c.tc : Thread nD τ).loc main_arg3)
abbrev A4 (c : Dev nD) : FVec Ideal S4096x8x64 .f32 := m ((c.tc : Thread nD τ).loc main_arg4)
abbrev A5 (c : Dev nD) : FVec Ideal S4096x8x64 .f32 := m ((c.tc : Thread nD τ).loc main_arg5)

/-- The scale of the scores, one over the root of 96 as rounded. -/
def scale : EReal := Ideal.ofBits .f32 0x3DD105EC#32

theorem scale_real : ∃ s : ℝ, scale = (s : EReal) := by
  unfold scale
  have h : Ideal.ofBits .f32 0x3DD105EC#32 = Ideal.ieee 8 23 0x3DD105EC#32 := rfl
  rw [h]
  unfold Ideal.ieee
  norm_num [show (1037108716 >>> 23 % 256 : ℕ) = 123 from rfl, show BitVec.extractLsb' 31 1 1037108716#32 = 0#1 from rfl]

/-- A query's lanes, -/
def Qx (c : Dev nD) (i : Fin 4096) (h : Fin 8) (l : Fin 128) : EReal :=
  lanes (M := EReal) (fun d => A0 m c (ix3 i h d)) (fun r => A1 m c (ix3 i h r)) l

/-- and a key's. -/
def Kx (c : Dev nD) (j : Fin 4096) (h : Fin 8) (l : Fin 128) : EReal :=
  lanes (M := EReal) (fun d => A2 m c (ix3 j h d)) (fun r => A3 m c (ix2 j r)) l

/-- The host's arrays once the masked scores stand. -/
def V1 (c : Dev nD) : Valuation τ sig (Elt Ideal) := StableHlo.after (List.flatten [hostOps0, hostOps0_1]) (fun b => m (c, b))

abbrev v14 (c : Dev nD) : FVec Ideal S4096x8x64 .f32 := V1 m c (Proc.tc.devRef main_v14)
abbrev v15 (c : Dev nD) : FVec Ideal S4096x8x64 .f32 := V1 m c (Proc.tc.devRef main_v15)
abbrev v25 (c : Dev nD) : FVec Ideal S8x4096x4096 .f32 := V1 m c (Proc.tc.devRef main_v25)

theorem v47_apply (c : Dev nD) (i : Fin 4096) (h : Fin 8) (l : Fin 128) :
    (V m c main_v47 : FVec Ideal S4096x1024 .bf16) (ix2 i ⟨128 * h.val + l.val, by omega⟩) = Qx m c i h l * scale := by
  unfold V V0
  simp only [List.flatten_cons, List.flatten_nil, List.append_nil, List.cons_append, List.nil_append]
  after_reads_simp
  pointwise
  after_reads_simp
  pointwise
  rfl

theorem v48_apply (c : Dev nD) (i : Fin 4096) (h : Fin 8) (l : Fin 128) :
    (V m c main_v48 : FVec Ideal S4096x1024 .bf16) (ix2 i ⟨128 * h.val + l.val, by omega⟩) = Kx m c i h l := by
  unfold V V0
  simp only [List.flatten_cons, List.flatten_nil, List.append_nil, List.cons_append, List.nil_append]
  after_reads_simp
  pointwise
  after_reads_simp
  pointwise
  rfl

theorem v49_apply (c : Dev nD) (i : Fin 4096) (h : Fin 8) (d : Fin 64) :
    (V m c main_v49 : FVec Ideal S4096x512 .bf16) (ix2 i ⟨64 * h.val + d.val, by omega⟩) = A4 m c (ix3 i h d) := by
  unfold V V0
  simp only [List.flatten_cons, List.flatten_nil, List.append_nil, List.cons_append, List.nil_append]
  after_reads_simp
  pointwise

theorem v50_apply (c : Dev nD) (i : Fin 4096) (h : Fin 8) (d : Fin 64) :
    (V m c main_v50 : FVec Ideal S4096x512 .bf16) (ix2 i ⟨64 * h.val + d.val, by omega⟩) = A5 m c (ix3 i h d) := by
  unfold V V0
  simp only [List.flatten_cons, List.flatten_nil, List.append_nil, List.cons_append, List.nil_append]
  after_reads_simp
  pointwise

theorem v14_apply (c : Dev nD) (i : Fin 4096) (h : Fin 8) (d : Fin 64) : v14 m c (ix3 i h d) = A4 m c (ix3 i h d) := by
  unfold v14 V1
  simp only [List.flatten_cons, List.flatten_nil, List.append_nil, List.cons_append, List.nil_append]
  after_reads_simp
  pointwise

theorem v15_apply (c : Dev nD) (i : Fin 4096) (h : Fin 8) (d : Fin 64) : v15 m c (ix3 i h d) = A5 m c (ix3 i h d) := by
  unfold v15 V1
  simp only [List.flatten_cons, List.flatten_nil, List.append_nil, List.cons_append, List.nil_append]
  after_reads_simp
  pointwise

theorem sel_chunk (i j : Fin 4096) (x y : EReal) :
    Scalar.select (IntOp.cmpi CmpIPredicate.sle (BitVec.ofNat 32 (j.val / 64)) (BitVec.ofNat 32 (i.val / 64))) x y = if j.val / 64 ≤ i.val / 64 then x else y := by
  have h1 : j.val / 64 < 64 := by omega
  have h2 : i.val / 64 < 64 := by omega
  generalize j.val / 64 = a at *
  generalize i.val / 64 = b at *
  have e : IntOp.cmpi CmpIPredicate.sle (BitVec.ofNat 32 a) (BitVec.ofNat 32 b) = if a ≤ b then 1#1 else 0#1 := by word_omega
  rw [e]
  split <;> rfl

theorem v25_apply (c : Dev nD) (h : Fin 8) (i j : Fin 4096) : v25 m c (ix3 h i j)
    = if j.val / 64 ≤ i.val / 64 then ∑ l : Fin 128, Qx m c i h l * scale * Kx m c j h l else ⊥ := by
  unfold v25 V1
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  after_reads_simp
  pointwise
  rw [chunk_word _ j.isLt, chunk_word _ i.isLt]
  refine (sel_chunk i j _ _).trans ?_
  split
  · rfl
  · exact ninf

theorem v26_apply (W : Valuation τ sig (Elt Ideal)) (h : Fin 8) (i : Fin 4096) :
    (StableHlo.after (hostOps0_2.take 16) W (Proc.tc.devRef main_v26) : FVec Ideal S8x4096 .f32) (ix2 h i) = mx (W (Proc.tc.devRef main_v25)) h i := by
  simp only [hostOps0_2, List.take_succ_cons, List.take_zero]
  after_reads_simp
  pointwise
  rw [ninf]
  rfl

theorem v31_apply (W : Valuation τ sig (Elt Ideal)) (h : Fin 8) (i : Fin 4096) :
    (StableHlo.after (hostOps0_2.take 16) W (Proc.tc.devRef main_v31) : FVec Ideal S8x4096 .f32) (ix2 h i) = sm (W (Proc.tc.devRef main_v25)) h i := by
  simp only [hostOps0_2, List.take_succ_cons, List.take_zero]
  after_reads_simp
  pointwise
  rw [ninf]
  rfl

theorem v38_apply (W : Valuation τ sig (Elt Ideal)) (h : Fin 8) (i : Fin 4096) :
    (StableHlo.after (hostOps0_2.take 16) W (Proc.tc.devRef main_v38) : FVec Ideal S8x4096 .f32) (ix2 h i)
      = dl (W (Proc.tc.devRef main_v25)) (W (Proc.tc.devRef main_v14)) (W (Proc.tc.devRef main_v15)) h i := by
  simp only [hostOps0_2, List.take_succ_cons, List.take_zero]
  after_reads_simp
  pointwise
  rw [ninf]
  rfl

theorem tail_lse (W : Valuation τ sig (Elt Ideal)) (i : Fin 4096) (p : Fin 4) (e : Fin 2) :
    (StableHlo.after (List.flatten [hostOps0_2.drop 16, hostOps0_3, hostOps0_4]) W (Proc.tc.devRef main_v46) : FVec Ideal S4096x512 .f32) (ix2 i ⟨128 * p.val + e.val, by omega⟩)
      = ls (W (Proc.tc.devRef main_v26)) (W (Proc.tc.devRef main_v31)) (hh p e) i := by
  simp only [hostOps0_2, List.drop_succ_cons, List.drop_zero]
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega), dif_pos (by omega)]
  after_reads_simp
  pointwise
  have e : (⟨p.val * 2 + (128 * p.val + e.val) % 128, by omega⟩ : Fin 8) = hh p e := Fin.ext (by show _ = 2 * p.val + e.val; dsimp only; omega)
  rw [e]
  rfl

theorem tail_delta (W : Valuation τ sig (Elt Ideal)) (i : Fin 4096) (p : Fin 4) (e : Fin 2) :
    (StableHlo.after (List.flatten [hostOps0_2.drop 16, hostOps0_3, hostOps0_4]) W (Proc.tc.devRef main_v46) : FVec Ideal S4096x512 .f32) (ix2 i ⟨128 * p.val + (2 + e.val), by omega⟩)
      = (W (Proc.tc.devRef main_v38) : FVec Ideal S8x4096 .f32) (ix2 (hh p e) i) := by
  simp only [hostOps0_2, List.drop_succ_cons, List.drop_zero]
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [dif_pos (by omega), dif_neg (by omega)]
  after_reads_simp
  pointwise
  have e : (⟨p.val * 2 + ((128 * p.val + (2 + e.val)) % 128 - 2), by omega⟩ : Fin 8) = hh p e := Fin.ext (by show _ = 2 * p.val + e.val; dsimp only; omega)
  rw [e]

theorem V0_split (c : Dev nD) : V0 m c = StableHlo.after (List.flatten [hostOps0_2.drop 16, hostOps0_3, hostOps0_4]) (StableHlo.after (hostOps0_2.take 16) (V1 m c)) := by
  unfold V0 V1
  rfl

/-- The rows' log-sum-exp and their mean product, as the call is given them. -/
theorem v46_lse (c : Dev nD) (i : Fin 4096) (p : Fin 4) (e : Fin 2) :
    (V m c main_v46 : FVec Ideal S4096x512 .f32) (ix2 i ⟨128 * p.val + e.val, by omega⟩)
      = mx (v25 m c) (hh p e) i + Ideal.log (sm (v25 m c) (hh p e) i) := by
  unfold V
  rw [V0_split]
  refine (tail_lse _ i p e).trans ?_
  unfold ls
  rw [v26_apply, v31_apply]

theorem v46_delta (c : Dev nD) (i : Fin 4096) (p : Fin 4) (e : Fin 2) :
    (V m c main_v46 : FVec Ideal S4096x512 .f32) (ix2 i ⟨128 * p.val + (2 + e.val), by omega⟩)
      = dl (v25 m c) (v14 m c) (v15 m c) (hh p e) i := by
  unfold V
  rw [V0_split]
  refine (tail_delta _ i p e).trans ?_
  rw [v38_apply]

end Cert.MlaBwdHost

end
-- ==== Proof.MlaBwdPoint.lean ====
/- What one point of the latent attention's grid leaves, as sums over all queries' blocks. -/
module

public import proofs.«01_k».proof.Proof.MlaBwdRead

@[expose] public section

set_option maxRecDepth 16384

noncomputable section

namespace Cert.MlaBwdPoint

open Cert.MlaBwdIdeal Cert.MlaBwdIdeal.Gen Cert.MlaBwdRun Cert.MlaBwdRead
open Cert.FoxBwdRead (row)
open Cert.FoxBwdPoint (br hd sum_bk sum_ite_bk)
open Idealize.ShloMosaic Idealize.ShloMosaic.TcCoe

theorem rows_apply {e : EltTy} (X : Vec Ideal S4096x128 e) (b : Fin 16) (r : Fin 256) (c : Fin 128) :
    rows X b (ix2 r c) = X (ix2 (br b r) c) := by
  refine congrArg X (funext fun a => Fin.ext ?_)
  revert a
  refine Fin.forall_fin_two.mpr ⟨?_, ?_⟩
  · show 256 * b.val + 1 * r.val = 256 * b.val + r.val; omega
  · show 0 + 1 * c.val = c.val; omega

theorem rows2_apply {e : EltTy} (X : Vec Ideal S4096x256 e) (b : Fin 16) (r : Fin 256) (c : Fin 256) :
    rows2 X b (ix2 r c) = X (ix2 (br b r) c) := by
  refine congrArg X (funext fun a => Fin.ext ?_)
  revert a
  refine Fin.forall_fin_two.mpr ⟨?_, ?_⟩
  · show 256 * b.val + 1 * r.val = 256 * b.val + r.val; omega
  · show 0 + 1 * c.val = c.val; omega

theorem putRows2_apply {e : EltTy} (X : Vec Ideal S4096x256 e) (b b' : Fin 16) (w : Vec Ideal S256x256 e) (r : Fin 256) (c : Fin 256) :
    putRows2 X b w (ix2 (br b' r) c) = if b = b' then w (ix2 r c) else X (ix2 (br b' r) c) := by
  unfold putRows2 VecWindow.put
  by_cases hb : b = b'
  · subst hb
    have h : ∀ a, (![256 * b.val, 0] : Fin 2 → ℕ) a ≤ ((ix2 (br b r) c : S4096x256.Idx) a).val ∧ ((ix2 (br b r) c : S4096x256.Idx) a).val < (![256 * b.val, 0] : Fin 2 → ℕ) a + S256x256.size a := by
      refine Fin.forall_fin_two.mpr ⟨⟨?_, ?_⟩, ⟨?_, ?_⟩⟩
      · show 256 * b.val ≤ 256 * b.val + r.val; omega
      · show 256 * b.val + r.val < 256 * b.val + 256; omega
      · exact Nat.zero_le _
      · show c.val < 0 + 256; omega
    rw [if_pos rfl, dif_pos h]
    refine congrArg w (funext fun a => Fin.ext ?_)
    revert a
    refine Fin.forall_fin_two.mpr ⟨?_, ?_⟩
    · show 256 * b.val + r.val - 256 * b.val = r.val; omega
    · show c.val - 0 = c.val; omega
  · rw [if_neg hb, dif_neg]
    intro h
    have h0 : 256 * b.val ≤ 256 * b'.val + r.val ∧ 256 * b'.val + r.val < 256 * b.val + 256 := h 0
    exact hb (Fin.ext (by omega))

/-! ## The probabilities and their gradient at one point -/

variable (x : Ins Ideal) (j : Fin 16)

/-- The score of key row `a` of this block against query row `r` of block `b`, in head `e` of the pair, -/
def sE (b : Fin 16) (e : Fin 2) (a r : Fin 256) : EReal :=
  ∑ l : Fin 128, (x.k (ix2 a (ln e l)) : EReal) * x.q (ix2 (br b r) (ln e l))

/-- the cotangent's product with the value row, -/
def dpE (b : Fin 16) (e : Fin 2) (a r : Fin 256) : EReal :=
  ∑ c : Fin 128, ((if c.val / 64 = e.val then x.v (ix2 a c) else 0 : EReal) * x.o (ix2 (br b r) c))

/-- the probability, zero where the key's chunk lies after the query's, -/
def pE (b : Fin 16) (e : Fin 2) (a r : Fin 256) : EReal :=
  if (256 * j.val + a.val) / 64 ≤ (256 * b.val + r.val) / 64 then
    Ideal.exp (sE x b e a r - (x.st (ix2 (br b r) ⟨e.val, by omega⟩) : EReal)) else 0

/-- and its gradient with respect to the score. -/
def dE (b : Fin 16) (e : Fin 2) (a r : Fin 256) : EReal :=
  pE x j b e a r * (dpE x b e a r - (x.st (ix2 (br b r) ⟨2 + e.val, by omega⟩) : EReal))

theorem pE_lt {b : Fin 16} (h : b.val < j.val) (e : Fin 2) (a r : Fin 256) : pE x j b e a r = 0 := by
  unfold pE; rw [if_neg (by omega)]

theorem dE_lt {b : Fin 16} (h : b.val < j.val) (e : Fin 2) (a r : Fin 256) : dE x j b e a r = 0 := by
  unfold dE; rw [pE_lt x j h, zero_mul]

/-- The probabilities the `n`-th update uses, -/
def pAt (n : ℕ) : FVec Ideal S512x256 .f32 :=
  match n with
  | 0 => k0_pay55 (Scalar.muli (BitVec.ofNat 32 j.val) 256#32) (scB x (keys x) (bk j.val 0)) (Scalar.muli (BitVec.ofNat 32 j.val) 256#32) (k0_pay15 (rows x.st (bk j.val 0)))
  | n + 1 => k0_pay94 (scB x (keys x) (bk j.val (n + 1))) (rows x.st (bk j.val (n + 1)))

/-- and their gradient. -/
def dsAt (n : ℕ) : FVec Ideal S512x256 .bf16 :=
  match n with
  | 0 => k0_pay56 (Scalar.muli (BitVec.ofNat 32 j.val) 256#32) (scB x (keys x) (bk j.val 0)) (dpB x (keys x) (bk j.val 0)) (Scalar.muli (BitVec.ofNat 32 j.val) 256#32) (k0_pay15 (rows x.st (bk j.val 0)))
  | n + 1 => k0_pay95 (scB x (keys x) (bk j.val (n + 1))) (dpB x (keys x) (bk j.val (n + 1))) (rows x.st (bk j.val (n + 1)))

theorem run_succ (s : Outs Ideal) : ∀ n, run x j.val s (n + 1) = upd x (keys x) (pAt x j n) (dsAt x j n) (bk j.val n) (run x j.val s n)
  | 0 => rfl
  | _ + 1 => rfl

theorem keys_s (b : Fin 16) (e : Fin 2) (a r : Fin 256) : scB x (keys x) b (ix2 (row e a) r) = sE x b e a r := by
  unfold scB
  rw [pay4_apply]
  refine Finset.sum_congr rfl fun c _ => ?_
  rw [rows2_apply, keys_k]

theorem keys_dp (b : Fin 16) (e : Fin 2) (a r : Fin 256) : dpB x (keys x) b (ix2 (row e a) r) = dpE x b e a r := by
  unfold dpB
  rw [pay5_apply]
  refine Finset.sum_congr rfl fun c _ => ?_
  rw [rows_apply, keys_v]

theorem pU_apply (b : Fin 16) (e : Fin 2) (a r : Fin 256) :
    k0_pay94 (scB x (keys x) b) (rows x.st b) (ix2 (row e a) r)
      = Ideal.exp (sE x b e a r - (x.st (ix2 (br b r) ⟨e.val, by omega⟩) : EReal)) := by
  rw [pay94_apply, keys_s, rows_apply]

theorem bk_val {n : ℕ} (h : j.val + n < 16) : (bk j.val n).val = j.val + n := by
  show (j.val + n) % 16 = _; omega

theorem bk0 : bk j.val 0 = j := Fin.ext (bk_val j (n := 0) (by omega))

theorem pAt_apply {n : ℕ} (h : j.val + n < 16) (e : Fin 2) (a r : Fin 256) : pAt x j n (ix2 (row e a) r) = pE x j (bk j.val n) e a r := by
  cases n with
  | zero =>
    show k0_pay55 _ _ _ _ _ = _
    rw [pay55_apply, bk0, pU_apply]
    rfl
  | succ n =>
    show k0_pay94 _ _ _ = _
    rw [pU_apply]
    unfold pE
    rw [if_pos]
    rw [bk_val j h]; omega

theorem dsAt_apply {n : ℕ} (h : j.val + n < 16) (e : Fin 2) (a r : Fin 256) : dsAt x j n (ix2 (row e a) r) = dE x j (bk j.val n) e a r := by
  unfold dE
  rw [← pAt_apply x j h, ← keys_dp, ← rows_apply x.st]
  cases n with
  | zero => exact pay56_apply _ _ _ _ _ _ _ _
  | succ n => exact pay95_apply _ _ _ _ _ _

/-! ## The updates together -/

variable (s : Outs Ideal)

theorem run_dk : ∀ n, j.val + n ≤ 16 → ∀ (a : Fin 256) (e : Fin 2) (l : Fin 128), ((run x j.val s n).dk (ix2 a (ln e l)) : EReal)
    = s.dk (ix2 a (ln e l)) + ∑ i ∈ Finset.range n, ∑ r : Fin 256, dE x j (bk j.val i) e a r * x.q (ix2 (br (bk j.val i) r) (ln e l))
  | 0, _, a, e, l => by simp [run]
  | n + 1, h, a, e, l => by
    rw [run_succ]
    show (k0_pay100 (F := Ideal) _ _ _ _ _ _ : EReal) = _
    rw [pay100_apply, run_dk n (by omega) a e l, Finset.sum_range_succ, add_assoc]
    refine congrArg _ (congrArg _ (Finset.sum_congr rfl fun r _ => ?_))
    rw [rows2_apply, dsAt_apply x j (by omega)]

theorem run_dv : ∀ n, j.val + n ≤ 16 → ∀ (a : Fin 256) (c : Fin 128), ((run x j.val s n).dv (ix2 a c) : EReal)
    = s.dv (ix2 a c) + ∑ i ∈ Finset.range n, ∑ r : Fin 256, pE x j (bk j.val i) (hd c) a r * x.o (ix2 (br (bk j.val i) r) c)
  | 0, _, a, c => by simp [run]
  | n + 1, h, a, c => by
    rw [run_succ]
    show (k0_pay23 (F := Ideal) _ _ _ : EReal) = _
    rw [pay23_apply, run_dv n (by omega) a c, Finset.sum_range_succ, add_assoc, mm_apply]
    refine congrArg _ (congrArg _ (Finset.sum_congr rfl fun r _ => ?_))
    rw [rows_apply, pAt_apply x j (by omega)]; rfl

/-- What key block `j` adds to the gradient of query row `r` of block `b`. -/
def dqE (b : Fin 16) (r : Fin 256) (e : Fin 2) (l : Fin 128) : EReal :=
  ∑ a : Fin 256, dE x j b e a r * x.k (ix2 a (ln e l))

theorem run_dq : ∀ n, j.val + n ≤ 16 → ∀ (b : Fin 16) (r : Fin 256) (e : Fin 2) (l : Fin 128), ((run x j.val s n).dq (ix2 (br b r) (ln e l)) : EReal)
    = s.dq (ix2 (br b r) (ln e l)) + ∑ i ∈ Finset.range n, (if bk j.val i = b then dqE x j (bk j.val i) r e l else 0)
  | 0, _, b, r, e, l => by simp [run]
  | n + 1, h, b, r, e, l => by
    rw [run_succ]
    show (putRows2 (F := Ideal) (e := .f32) _ _ _ _ : EReal) = _
    rw [putRows2_apply, Finset.sum_range_succ, ← add_assoc, ← run_dq n (by omega) b r e l]
    split
    · rename_i hb
      rw [pay101_apply, rows2_apply, hb]
      refine congrArg _ (Finset.sum_congr rfl fun a _ => ?_)
      rw [dsAt_apply x j (by omega), keys_k, hb]
    · rw [add_zero]

/-! ## What the point leaves -/

theorem point_dk (a : Fin 256) (e : Fin 2) (l : Fin 128) : ((point x j.val s).dk (ix2 a (ln e l)) : EReal)
    = ∑ b : Fin 16, ∑ r : Fin 256, dE x j b e a r * x.q (ix2 (br b r) (ln e l)) := by
  show ((run x j.val (reset j.val s) (16 - j.val)).dk (ix2 a (ln e l)) : EReal) = _
  rw [run_dk x j _ _ (by omega)]
  refine (congrArg _ (sum_bk j (fun b => ∑ r : Fin 256, dE x j b e a r * x.q (ix2 (br b r) (ln e l))) fun b hb =>
    Finset.sum_eq_zero fun r _ => by rw [dE_lt x j hb, zero_mul])).trans ?_
  show (k0_pay143 (F := Ideal) (ix2 a (ln e l)) : EReal) + _ = _
  rw [pay143_apply, zero_add]

theorem point_dv (a : Fin 256) (c : Fin 128) : ((point x j.val s).dv (ix2 a c) : EReal)
    = ∑ b : Fin 16, ∑ r : Fin 256, pE x j b (hd c) a r * x.o (ix2 (br b r) c) := by
  show ((run x j.val (reset j.val s) (16 - j.val)).dv (ix2 a c) : EReal) = _
  rw [run_dv x j _ _ (by omega)]
  refine (congrArg _ (sum_bk j (fun b => ∑ r : Fin 256, pE x j b (hd c) a r * x.o (ix2 (br b r) c)) fun b hb =>
    Finset.sum_eq_zero fun r _ => by rw [pE_lt x j hb, zero_mul])).trans ?_
  show (k0_pay144 (F := Ideal) (ix2 a c) : EReal) + _ = _
  rw [pay144_apply, zero_add]

theorem point_dq (b : Fin 16) (r : Fin 256) (e : Fin 2) (l : Fin 128) : ((point x j.val s).dq (ix2 (br b r) (ln e l)) : EReal)
    = (if j.val = 0 then 0 else s.dq (ix2 (br b r) (ln e l)) : EReal) + dqE x j b r e l := by
  show ((run x j.val (reset j.val s) (16 - j.val)).dq _ : EReal) = _
  rw [run_dq x j _ _ (by omega)]
  refine (congrArg _ (sum_ite_bk j b (fun b => dqE x j b r e l) fun hb =>
    Finset.sum_eq_zero fun a _ => by rw [dE_lt x j hb, zero_mul])).trans ?_
  refine congrArg (· + _) ?_
  show ((if j.val = 0 then k0_pay142 (F := Ideal) else s.dq : Vec Ideal S4096x256 .f32) _ : EReal) = _
  split
  · exact pay142_apply _
  · rfl

end Cert.MlaBwdPoint

end
-- ==== Proof.MlaBwdVals.lean ====
/- What the latent attention's gradient call leaves at each point, for real arguments. -/
module

public import proofs.«01_k».proof.Proof.MlaBwdHost
public import proofs.«01_k».proof.Proof.MlaBwdPoint
public import proofs.«01_k».proof.Proof.FoxBwdVals

@[expose] public section

set_option maxRecDepth 16384

noncomputable section

namespace Cert.MlaBwdVals

open Cert.MlaBwdIdeal Cert.MlaBwdIdeal.Gen Cert.MlaBwdRun Cert.MlaBwdPoint Cert.MlaBwdFrame Cert.MlaBwdHost
open Idealize.ShloMosaic Idealize.ShloMosaic.TcCoe Idealize.SL.Sem
open Idealize.ShloMosaic.Pipeline (Dat)
open Cert.FoxBwdHost (hh mx sm dl)
open Cert.FoxBwdPoint (br hd)
open Cert.FoxBwdVals (fold_blocks)
open Cert.FoxModel (sum_at)
open Cert.MlaBwdRead (ln)
open Cert.MlaModel (lanes Q K see sc P dP D dS gq gk gv diag)
open Cert.Softmax (masked soft tot coe_sum)

variable (m : (ℓ : Loc nD τ sig) → Buf (Elt Ideal) ℓ)

/-- The arguments' entries, and the scale, are these real numbers. -/
structure Reals (c : Dev nD) (s : ℝ) (qn : Fin 4096 → Fin 8 → Fin 64 → ℝ) (qr : Fin 4096 → Fin 8 → Fin 32 → ℝ) (kn : Fin 4096 → Fin 8 → Fin 64 → ℝ)
    (kr : Fin 4096 → Fin 32 → ℝ) (v o : Fin 4096 → Fin 8 → Fin 64 → ℝ) : Prop where
  s : scale = (s : EReal)
  qn : ∀ i h d, A0 m c (ix3 i h d) = (qn i h d : EReal)
  qr : ∀ i h r, A1 m c (ix3 i h r) = (qr i h r : EReal)
  kn : ∀ i h d, A2 m c (ix3 i h d) = (kn i h d : EReal)
  kr : ∀ i r, A3 m c (ix2 i r) = (kr i r : EReal)
  v : ∀ i h d, A4 m c (ix3 i h d) = (v i h d : EReal)
  o : ∀ i h d, A5 m c (ix3 i h d) = (o i h d : EReal)

/-- The block index of every window at every grid point. -/
theorem idx : ∀ t : Fin cfg0.N, win0_0.index t = ![0, t.val / 16] ∧ win0_1.index t = ![t.val % 16, t.val / 16] ∧ win0_2.index t = ![t.val % 16, t.val / 16]
    ∧ win0_3.index t = ![0, t.val / 16] ∧ win0_4.index t = ![0, t.val / 16]
    ∧ win0_5.index t = ![0, t.val / 16] ∧ win0_6.index t = ![t.val % 16, t.val / 16] ∧ win0_7.index t = ![t.val % 16, t.val / 16] :=
  (by decide +kernel : ∀ t : Fin grid0.N, _)

/-- Lane `l` of head `h`, of a head's 128, -/
def wide (h : Fin 8) (l : Fin 128) : Fin 1024 := ⟨128 * h.val + l.val, by omega⟩

/-- of a head's 64. -/
def thin (h : Fin 8) (d : Fin 64) : Fin 512 := ⟨64 * h.val + d.val, by omega⟩

/-- Lane `d` of a pair's half. -/
def half (e : Fin 2) (d : Fin 64) : Fin 128 := ⟨64 * e.val + d.val, by omega⟩

/-- The half's lane a pair's lane is. -/
def dd (c : Fin 128) : Fin 64 := ⟨c.val % 64, by omega⟩

theorem half_hd (c : Fin 128) : half (hd c) (dd c) = c := Fin.ext (by show 64 * (c.val / 64) + c.val % 64 = c.val; omega)

/-- Point `j` of pair `p`. -/
def pt (p : Fin 4) (j : Fin 16) : Fin cfg0.N := ⟨16 * p.val + j.val, by show 16 * p.val + j.val < cfg0.N; rw [show cfg0.N = 64 from N_0]; omega⟩

theorem pt_div (p : Fin 4) (j : Fin 16) : (pt p j).val / 16 = p.val := by show (16 * p.val + j.val) / 16 = _; omega
theorem pt_mod (p : Fin 4) (j : Fin 16) : (pt p j).val % 16 = j.val := by show (16 * p.val + j.val) % 16 = _; omega

abbrev B47 (c : Dev nD) : FVec Ideal S4096x1024 .bf16 := V m c main_v47
abbrev B48 (c : Dev nD) : FVec Ideal S4096x1024 .bf16 := V m c main_v48
abbrev B49 (c : Dev nD) : FVec Ideal S4096x512 .bf16 := V m c main_v49
abbrev B50 (c : Dev nD) : FVec Ideal S4096x512 .bf16 := V m c main_v50
abbrev B46 (c : Dev nD) : FVec Ideal S4096x512 .f32 := V m c main_v46

section Blocks
variable (c : Dev nD) (p : Fin 4) (j : Fin 16)

theorem in_q (i : Fin 4096) (l : Fin 256) : (ins m c (pt p j)).q (ix2 i l) = B47 m c (ix2 i ⟨256 * p.val + l.val, by omega⟩) := by
  have h1 := pt_div p j; have h2 := pt_mod p j
  generalize pt p j = t at *
  unfold ins; dsimp only
  blk_ext [iblk, idx t]
theorem in_k (a : Fin 256) (l : Fin 256) : (ins m c (pt p j)).k (ix2 a l) = B48 m c (ix2 (br j a) ⟨256 * p.val + l.val, by omega⟩) := by
  have h1 := pt_div p j; have h2 := pt_mod p j
  generalize pt p j = t at *
  unfold ins br; dsimp only
  blk_ext [iblk, idx t]
theorem in_v (a : Fin 256) (l : Fin 128) : (ins m c (pt p j)).v (ix2 a l) = B49 m c (ix2 (br j a) ⟨128 * p.val + l.val, by omega⟩) := by
  have h1 := pt_div p j; have h2 := pt_mod p j
  generalize pt p j = t at *
  unfold ins br; dsimp only
  blk_ext [iblk, idx t]
theorem in_o (i : Fin 4096) (l : Fin 128) : (ins m c (pt p j)).o (ix2 i l) = B50 m c (ix2 i ⟨128 * p.val + l.val, by omega⟩) := by
  have h1 := pt_div p j; have h2 := pt_mod p j
  generalize pt p j = t at *
  unfold ins; dsimp only
  blk_ext [iblk, idx t]
theorem in_st (i : Fin 4096) (l : Fin 128) : (ins m c (pt p j)).st (ix2 i l) = B46 m c (ix2 i ⟨128 * p.val + l.val, by omega⟩) := by
  have h1 := pt_div p j; have h2 := pt_mod p j
  generalize pt p j = t at *
  unfold ins; dsimp only
  blk_ext [iblk, idx t]

end Blocks

variable {m}
variable {c : Dev nD} {s : ℝ} {qn : Fin 4096 → Fin 8 → Fin 64 → ℝ} {qr : Fin 4096 → Fin 8 → Fin 32 → ℝ} {kn : Fin 4096 → Fin 8 → Fin 64 → ℝ}
  {kr : Fin 4096 → Fin 32 → ℝ} {v o : Fin 4096 → Fin 8 → Fin 64 → ℝ} (R : Reals m c s qn qr kn kr v o)

theorem lanes_coe (x : Fin 64 → ℝ) (y : Fin 32 → ℝ) (l : Fin 128) : lanes (M := EReal) (fun d => (x d : EReal)) (fun r => (y r : EReal)) l = ((lanes x y l : ℝ) : EReal) := by
  unfold lanes
  split
  · rfl
  · split <;> rfl

include R

theorem Qx_real (i : Fin 4096) (h : Fin 8) (l : Fin 128) : Qx m c i h l = ((Q qn qr i h l : ℝ) : EReal) := by
  unfold Qx; simp only [R.qn, R.qr]; exact lanes_coe _ _ _
theorem Kx_real (i : Fin 4096) (h : Fin 8) (l : Fin 128) : Kx m c i h l = ((K kn kr i h l : ℝ) : EReal) := by
  unfold Kx; simp only [R.kn, R.kr]; exact lanes_coe _ _ _

theorem rq (p : Fin 4) (j : Fin 16) (i : Fin 4096) (e : Fin 2) (l : Fin 128) :
    ((ins m c (pt p j)).q (ix2 i (ln e l)) : EReal) = ((Q qn qr i (hh p e) l * s : ℝ) : EReal) := by
  rw [in_q]
  have e1 : (⟨256 * p.val + (ln e l).val, by omega⟩ : Fin 1024) = ⟨128 * (hh p e).val + l.val, by omega⟩ :=
    Fin.ext (by show 256 * p.val + (128 * e.val + l.val) = 128 * (2 * p.val + e.val) + l.val; omega)
  rw [e1]
  refine (v47_apply m c i (hh p e) l).trans ?_
  rw [Qx_real R, R.s, ← EReal.coe_mul]
theorem rk (p : Fin 4) (j : Fin 16) (a : Fin 256) (e : Fin 2) (l : Fin 128) :
    ((ins m c (pt p j)).k (ix2 a (ln e l)) : EReal) = ((K kn kr (br j a) (hh p e) l : ℝ) : EReal) := by
  rw [in_k]
  have e1 : (⟨256 * p.val + (ln e l).val, by omega⟩ : Fin 1024) = ⟨128 * (hh p e).val + l.val, by omega⟩ :=
    Fin.ext (by show 256 * p.val + (128 * e.val + l.val) = 128 * (2 * p.val + e.val) + l.val; omega)
  rw [e1]
  exact (v48_apply m c (br j a) (hh p e) l).trans (Kx_real R _ _ _)
theorem rv (p : Fin 4) (j : Fin 16) (a : Fin 256) (e : Fin 2) (d : Fin 64) :
    ((ins m c (pt p j)).v (ix2 a (half e d)) : EReal) = ((v (br j a) (hh p e) d : ℝ) : EReal) := by
  rw [in_v]
  have e1 : (⟨128 * p.val + (half e d).val, by omega⟩ : Fin 512) = ⟨64 * (hh p e).val + d.val, by omega⟩ :=
    Fin.ext (by show 128 * p.val + (64 * e.val + d.val) = 64 * (2 * p.val + e.val) + d.val; omega)
  rw [e1]
  exact (v49_apply m c (br j a) (hh p e) d).trans (R.v _ _ _)
theorem ro (p : Fin 4) (j : Fin 16) (i : Fin 4096) (e : Fin 2) (d : Fin 64) :
    ((ins m c (pt p j)).o (ix2 i (half e d)) : EReal) = ((o i (hh p e) d : ℝ) : EReal) := by
  rw [in_o]
  have e1 : (⟨128 * p.val + (half e d).val, by omega⟩ : Fin 512) = ⟨64 * (hh p e).val + d.val, by omega⟩ :=
    Fin.ext (by show 128 * p.val + (64 * e.val + d.val) = 64 * (2 * p.val + e.val) + d.val; omega)
  rw [e1]
  exact (v50_apply m c i (hh p e) d).trans (R.o _ _ _)

/-- The host's masked scores are the model's. -/
theorem v25_real (h : Fin 8) (i : Fin 4096) : (fun j => (v25 m c (ix3 h i j) : EReal)) = masked (sc s qn qr kn kr h i) (see i) := by
  funext j
  refine (v25_apply m c h i j).trans ?_
  unfold masked see
  by_cases hj : j.val / 64 ≤ i.val / 64
  · rw [if_pos hj]
    refine Eq.trans ?_ (if_pos hj).symm
    simp only [Qx_real R, Kx_real R, R.s, ← EReal.coe_mul, coe_sum]
    rfl
  · rw [if_neg hj]
    exact (if_neg hj).symm

theorem st_real (p : Fin 4) (j : Fin 16) (i : Fin 4096) (e : Fin 2) : ∃ M : ℝ,
    ((ins m c (pt p j)).st (ix2 i ⟨e.val, by omega⟩) : EReal) = (M : EReal) + Ideal.log ((Real.exp (-M) * tot (sc s qn qr kn kr (hh p e) i) (see i) : ℝ) : EReal)
    ∧ ((ins m c (pt p j)).st (ix2 i ⟨2 + e.val, by omega⟩) : EReal) = ((D s qn qr kn kr v o (hh p e) i : ℝ) : EReal) := by
  obtain ⟨M, hM⟩ := Cert.Softmax.max_real (sc s qn qr kn kr (hh p e) i) (diag i)
  have hx : mx (v25 m c) (hh p e) i = (M : EReal) := by
    unfold mx; exact (congrArg (fun f => Finset.univ.fold max (⊥ : EReal) f) (v25_real R (hh p e) i)).trans hM
  have hv (j) : (v25 m c (ix3 (hh p e) i j) : EReal) = masked (sc s qn qr kn kr (hh p e) i) (see i) j := congrFun (v25_real R (hh p e) i) j
  have hs : sm (v25 m c) (hh p e) i = ∑ j, Ideal.exp (masked (sc s qn qr kn kr (hh p e) i) (see i) j - (M : EReal)) := by
    unfold sm; rw [hx]; exact Finset.sum_congr rfl fun j _ => congrArg (fun z : EReal => Ideal.exp (z - (M : EReal))) (hv j)
  have hd : dl (v25 m c) (v14 m c) (v15 m c) (hh p e) i = ((D s qn qr kn kr v o (hh p e) i : ℝ) : EReal) := by
    unfold dl
    rw [hx, hs]
    refine Eq.trans ?_ (Cert.Softmax.delta_real (sc s qn qr kn kr (hh p e) i) (diag i) M (fun d : Fin 64 => o i (hh p e) d) (fun j d => v j (hh p e) d))
    refine Finset.sum_congr rfl fun d _ => ?_
    refine congrArg₂ (fun a b : EReal => a * b) ((v15_apply m c i (hh p e) d).trans (R.o _ _ _)) ?_
    refine congrArg (fun z => Ideal.div z _) ?_
    refine Finset.sum_congr rfl fun j _ => ?_
    exact congrArg₂ (fun a b : EReal => Ideal.exp (a - (M : EReal)) * b) (hv j) ((v14_apply m c j (hh p e) d).trans (R.v _ _ _))
  refine ⟨M, ?_, ?_⟩
  · rw [in_st]
    exact (v46_lse m c i p e).trans (by rw [hx, hs, Cert.Softmax.sum_real])
  · rw [in_st]
    exact (v46_delta m c i p e).trans hd

theorem sE_real (p : Fin 4) (j b : Fin 16) (e : Fin 2) (a r : Fin 256) :
    sE (ins m c (pt p j)) b e a r = ((sc s qn qr kn kr (hh p e) (br b r) (br j a) : ℝ) : EReal) := by
  unfold sE
  simp only [rk R, rq R, ← EReal.coe_mul, coe_sum]
  rw [EReal.coe_eq_coe_iff]
  unfold sc
  exact Finset.sum_congr rfl fun d _ => mul_comm _ _

theorem dpE_real (p : Fin 4) (j b : Fin 16) (e : Fin 2) (a r : Fin 256) :
    dpE (ins m c (pt p j)) b e a r = ((dP v o (hh p e) (br b r) (br j a) : ℝ) : EReal) := by
  unfold dpE
  refine (Cert.FoxModel.sum_lanes e (fun l => ((ins m c (pt p j)).v (ix2 a l) : EReal)) (fun l => ((ins m c (pt p j)).o (ix2 (br b r) l) : EReal))).trans ?_
  refine (Finset.sum_congr rfl fun d _ => congrArg₂ (fun a b : EReal => a * b) (rv R p j a e d) (ro R p j (br b r) e d)).trans ?_
  simp only [← EReal.coe_mul, coe_sum]
  rw [EReal.coe_eq_coe_iff]
  exact Finset.sum_congr rfl fun d _ => mul_comm _ _

theorem pE_real (p : Fin 4) (j b : Fin 16) (e : Fin 2) (a r : Fin 256) :
    pE (ins m c (pt p j)) j b e a r = ((P s qn qr kn kr (hh p e) (br b r) (br j a) : ℝ) : EReal) := by
  unfold pE
  split
  · rename_i hj
    obtain ⟨M, hM, -⟩ := st_real R p j (br b r) e
    rw [hM, sE_real R]
    exact Cert.Softmax.exp_lse _ (diag _) M _ hj
  · rename_i hj
    rw [Cert.MlaModel.P_of_not s qn qr kn kr (i := br b r) (j := br j a) hj, EReal.coe_zero]

theorem dE_real (p : Fin 4) (j b : Fin 16) (e : Fin 2) (a r : Fin 256) :
    dE (ins m c (pt p j)) j b e a r = ((dS s qn qr kn kr v o (hh p e) (br b r) (br j a) : ℝ) : EReal) := by
  unfold dE
  obtain ⟨M, -, hD⟩ := st_real R p j (br b r) e
  rw [pE_real R, dpE_real R, hD, ← EReal.coe_sub, ← EReal.coe_mul]
  rfl

omit R
theorem out_point (p : Fin 4) (j : Fin 16) : ∃ s, outsAt m c (pt p j).val (pt p j).isLt = point (ins m c (pt p j)) j.val s
    ∧ ∀ n (hn : n + 1 = j.val), s = outsAt m c (pt p ⟨n, by omega⟩).val (pt p ⟨n, by omega⟩).isLt := by
  refine ⟨outsAt m c ((pt p j).val - 1) (Nat.lt_of_le_of_lt (Nat.sub_le _ _) (pt p j).isLt), ?_, ?_⟩
  · have h := point_outsAt m c (pt p j).val (pt p j).isLt (outsAt m c ((pt p j).val - 1) (Nat.lt_of_le_of_lt (Nat.sub_le _ _) (pt p j).isLt)) fun _ => rfl
    rw [pt_mod] at h
    exact h.symm
  · intro n hn
    congr 1
    show 16 * p.val + j.val - 1 = 16 * p.val + n
    omega
include R

/-! ## What the points leave -/

theorem dk_real (p : Fin 4) (j : Fin 16) (a : Fin 256) (e : Fin 2) (l : Fin 128) :
    ((outsAt m c (pt p j).val (pt p j).isLt).dk (ix2 a (ln e l)) : EReal) = ((gk s qn qr kn kr v o (br j a) (hh p e) l : ℝ) : EReal) := by
  obtain ⟨s', hs, -⟩ := out_point (m := m) (c := c) p j
  rw [hs, point_dk]
  simp only [dE_real R, rq R, ← EReal.coe_mul, coe_sum]
  rw [EReal.coe_eq_coe_iff]
  exact sum_at (fun i => dS s qn qr kn kr v o (hh p e) i (br j a) * (Q qn qr i (hh p e) l * s))

theorem dv_real (p : Fin 4) (j : Fin 16) (a : Fin 256) (e : Fin 2) (d : Fin 64) :
    ((outsAt m c (pt p j).val (pt p j).isLt).dv (ix2 a (half e d)) : EReal) = ((gv s qn qr kn kr o (br j a) (hh p e) d : ℝ) : EReal) := by
  obtain ⟨s', hs, -⟩ := out_point (m := m) (c := c) p j
  rw [hs, point_dv]
  have he : hd (half e d) = e := Fin.ext (by show (64 * e.val + d.val) / 64 = e.val; omega)
  rw [he]
  simp only [pE_real R, ro R, ← EReal.coe_mul, coe_sum]
  rw [EReal.coe_eq_coe_iff]
  exact sum_at (fun i => P s qn qr kn kr (hh p e) i (br j a) * o i (hh p e) d)

theorem dq_real (p : Fin 4) (i : Fin 4096) (e : Fin 2) (l : Fin 128) :
    ((outsAt m c (pt p 15).val (pt p 15).isLt).dq (ix2 i (ln e l)) : EReal) = ((gq s qn qr kn kr v o i (hh p e) l : ℝ) : EReal) := by
  obtain ⟨b, r, rfl⟩ : ∃ b r, i = br b r := ⟨⟨i.val / 256, by omega⟩, ⟨i.val % 256, by omega⟩, Fin.ext (by show i.val = 256 * (i.val / 256) + i.val % 256; omega)⟩
  refine (fold_blocks (fun j => ((outsAt m c (pt p j).val (pt p j).isLt).dq (ix2 (br b r) (ln e l)) : EReal)) (fun j => dqE (ins m c (pt p j)) j b r e l) ?_ ?_).trans ?_
  · obtain ⟨s', hs, -⟩ := out_point (m := m) (c := c) p 0
    rw [hs, point_dq]; exact zero_add _
  · intro n hn
    obtain ⟨s', hs, h'⟩ := out_point (m := m) (c := c) p ⟨n + 1, hn⟩
    rw [hs, point_dq, h' n rfl, if_neg (Nat.succ_ne_zero n)]
  · simp only [dqE, dE_real R, rk R, ← EReal.coe_mul, coe_sum]
    rw [EReal.coe_eq_coe_iff]
    exact sum_at (fun j => dS s qn qr kn kr v o (hh p e) (br b r) j * K kn kr j (hh p e) l)

end Cert.MlaBwdVals

end
-- ==== Proof.MlaBwdTail.lean ====
/- The arrays the latent attention's gradient call leaves, and the lines after it, for real arguments. -/
module

public import proofs.«01_k».proof.Proof.MlaBwdVals

@[expose] public section

set_option maxRecDepth 16384

noncomputable section

namespace Cert.MlaBwdTail

open Cert.MlaBwdVals Cert.MlaBwdIdeal Cert.MlaBwdIdeal.Gen Cert.MlaBwdRun Cert.MlaBwdPoint Cert.MlaBwdFrame Cert.MlaBwdHost
open Idealize.ShloMosaic Idealize.ShloMosaic.TcCoe Idealize.SL.Sem
open Idealize.ShloMosaic.Pipeline (Dat)
open Cert.FoxBwdHost (hh)
open Cert.FoxBwdPoint (br hd)
open Cert.MlaBwdRead (ln)
open Cert.MlaModel (gq gk gv ln0 ln1)
open Cert.Softmax (coe_sum)

/-- The head a wide column belongs to, its lane, -/
def wh (x : Fin 1024) : Fin 8 := ⟨x.val / 128, by omega⟩
def wl (x : Fin 1024) : Fin 128 := ⟨x.val % 128, by omega⟩

/-- and the same of a thin column. -/
def th (x : Fin 512) : Fin 8 := ⟨x.val / 64, by omega⟩
def tl (x : Fin 512) : Fin 64 := ⟨x.val % 64, by omega⟩

theorem wh_wide (h : Fin 8) (l : Fin 128) : wh (wide h l) = h := Fin.ext (by show (128 * h.val + l.val) / 128 = h.val; omega)
theorem wl_wide (h : Fin 8) (l : Fin 128) : wl (wide h l) = l := Fin.ext (by show (128 * h.val + l.val) % 128 = l.val; omega)
theorem th_thin (h : Fin 8) (d : Fin 64) : th (thin h d) = h := Fin.ext (by show (64 * h.val + d.val) / 64 = h.val; omega)
theorem tl_thin (h : Fin 8) (d : Fin 64) : tl (thin h d) = d := Fin.ext (by show (64 * h.val + d.val) % 64 = d.val; omega)

/-- The column of a pair's lane, wide -/
def colw (p : Fin 4) (l : Fin 256) : Fin 1024 := ⟨256 * p.val + l.val, by omega⟩
/-- and thin. -/
def colt (p : Fin 4) (l : Fin 128) : Fin 512 := ⟨128 * p.val + l.val, by omega⟩

theorem ln_eq (l : Fin 256) : ∃ e x, l = ln e x := ⟨⟨l.val / 128, by omega⟩, ⟨l.val % 128, by omega⟩, Fin.ext (by show l.val = 128 * (l.val / 128) + l.val % 128; omega)⟩

theorem wh_ln (p : Fin 4) (e : Fin 2) (l : Fin 128) : wh (colw p (ln e l)) = hh p e :=
  Fin.ext (by show (256 * p.val + (128 * e.val + l.val)) / 128 = 2 * p.val + e.val; omega)
theorem wl_ln (p : Fin 4) (e : Fin 2) (l : Fin 128) : wl (colw p (ln e l)) = l :=
  Fin.ext (by show (256 * p.val + (128 * e.val + l.val)) % 128 = l.val; omega)
theorem th_half (p : Fin 4) (e : Fin 2) (d : Fin 64) : th (colt p (half e d)) = hh p e :=
  Fin.ext (by show (128 * p.val + (64 * e.val + d.val)) / 64 = 2 * p.val + e.val; omega)
theorem tl_half (p : Fin 4) (e : Fin 2) (d : Fin 64) : tl (colt p (half e d)) = d :=
  Fin.ext (by show (128 * p.val + (64 * e.val + d.val)) % 64 = d.val; omega)

variable {m : (ℓ : Loc nD τ sig) → Buf (Elt Ideal) ℓ}
variable {c : Dev nD} {s : ℝ} {qn : Fin 4096 → Fin 8 → Fin 64 → ℝ} {qr : Fin 4096 → Fin 8 → Fin 32 → ℝ} {kn : Fin 4096 → Fin 8 → Fin 64 → ℝ}
  {kr : Fin 4096 → Fin 32 → ℝ} {v o : Fin 4096 → Fin 8 → Fin 64 → ℝ} (R : Reals m c s qn qr kn kr v o)

theorem pt_eq (t : Fin cfg0.N) : ∃ p j, t = pt p j := by
  have h : t.val < 64 := lt_of_lt_of_eq t.isLt (show cfg0.N = 64 from N_0)
  exact ⟨⟨t.val / 16, by omega⟩, ⟨t.val % 16, by omega⟩, Fin.ext (by show t.val = 16 * (t.val / 16) + t.val % 16; omega)⟩

include R

/-- What the points leave, by column. -/
theorem dq_col (p : Fin 4) (i : Fin 4096) (l : Fin 256) :
    ((outsAt m c (pt p 15).val (pt p 15).isLt).dq (ix2 i l) : EReal) = ((gq s qn qr kn kr v o i (wh (colw p l)) (wl (colw p l)) : ℝ) : EReal) := by
  obtain ⟨e, x, rfl⟩ := ln_eq l
  rw [wh_ln, wl_ln]
  exact dq_real R p i e x
theorem dk_col (p : Fin 4) (j : Fin 16) (a : Fin 256) (l : Fin 256) :
    ((outsAt m c (pt p j).val (pt p j).isLt).dk (ix2 a l) : EReal) = ((gk s qn qr kn kr v o (br j a) (wh (colw p l)) (wl (colw p l)) : ℝ) : EReal) := by
  obtain ⟨e, x, rfl⟩ := ln_eq l
  rw [wh_ln, wl_ln]
  exact dk_real R p j a e x
theorem dv_col (p : Fin 4) (j : Fin 16) (a : Fin 256) (l : Fin 128) :
    ((outsAt m c (pt p j).val (pt p j).isLt).dv (ix2 a l) : EReal) = ((gv s qn qr kn kr o (br j a) (th (colt p l)) (tl (colt p l)) : ℝ) : EReal) := by
  rw [← half_hd l, th_half, tl_half]
  exact dv_real R p j a (hd l) (dd l)

/-- The queries' gradient before the scale, -/
theorem arr5 : (dats m 0 c).arrAt 5 cfg0.N = (fun i => ((gq s qn qr kn kr v o (i 0) (wh (i 1)) (wl (i 1)) : ℝ) : EReal) : FVec Ideal S4096x1024 .f32) := by
  refine (dats m 0 c).arrAt_eq_of_covers 5 _ (by decide +kernel) fun t hf y => ?_
  obtain ⟨p, j, rfl⟩ := pt_eq t
  have hj : j = 15 := by
    have := (flush0_5 _).mp hf
    have h2 := pt_mod p j
    apply Fin.ext
    show j.val = 15
    omega
  subst hj
  blk_simp
  rw [after0_5]
  idx_vars y
  refine (dq_col R p y0 y1).trans ?_
  have e0 : ((View.whole main_v51_0).slice (win0_5.rect (pt p 15))).emb (ix2 y0 y1) 0 = y0 := by
    apply Fin.ext
    show win0_5.index (pt p 15) 0 * 4096 + 1 * y0.val = _
    rw [(idx (pt p 15)).2.2.2.2.2.1]
    show 0 * 4096 + 1 * y0.val = _
    omega
  have e1 : ((View.whole main_v51_0).slice (win0_5.rect (pt p 15))).emb (ix2 y0 y1) 1 = colw p y1 := by
    apply Fin.ext
    show win0_5.index (pt p 15) 1 * 256 + 1 * y1.val = _
    rw [(idx (pt p 15)).2.2.2.2.2.1, pt_div]
    show p.val * 256 + 1 * y1.val = 256 * p.val + y1.val
    omega
  exact congrArg₂ (fun a b => ((gq s qn qr kn kr v o a (wh b) (wl b) : ℝ) : EReal)) e0.symm e1.symm

/-- the keys' gradient, -/
theorem arr6 : (dats m 0 c).arrAt 6 cfg0.N = (fun i => ((gk s qn qr kn kr v o (i 0) (wh (i 1)) (wl (i 1)) : ℝ) : EReal) : FVec Ideal S4096x1024 .f32) := by
  refine (dats m 0 c).arrAt_eq_of_covers 6 _ (by decide +kernel) fun t hf y => ?_
  obtain ⟨p, j, rfl⟩ := pt_eq t
  blk_simp
  rw [after0_6]
  idx_vars y
  refine (dk_col R p j y0 y1).trans ?_
  have e0 : ((View.whole main_v51_1).slice (win0_6.rect (pt p j))).emb (ix2 y0 y1) 0 = br j y0 := by
    apply Fin.ext
    show win0_6.index (pt p j) 0 * 256 + 1 * y0.val = _
    rw [(idx (pt p j)).2.2.2.2.2.2.1, pt_mod]
    show j.val * 256 + 1 * y0.val = 256 * j.val + y0.val
    omega
  have e1 : ((View.whole main_v51_1).slice (win0_6.rect (pt p j))).emb (ix2 y0 y1) 1 = colw p y1 := by
    apply Fin.ext
    show win0_6.index (pt p j) 1 * 256 + 1 * y1.val = _
    rw [(idx (pt p j)).2.2.2.2.2.2.1, pt_div]
    show p.val * 256 + 1 * y1.val = 256 * p.val + y1.val
    omega
  exact congrArg₂ (fun a b => ((gk s qn qr kn kr v o a (wh b) (wl b) : ℝ) : EReal)) e0.symm e1.symm

/-- and the values'. -/
theorem arr7 : (dats m 0 c).arrAt 7 cfg0.N = (fun i => ((gv s qn qr kn kr o (i 0) (th (i 1)) (tl (i 1)) : ℝ) : EReal) : FVec Ideal S4096x512 .f32) := by
  refine (dats m 0 c).arrAt_eq_of_covers 7 _ (by decide +kernel) fun t hf y => ?_
  obtain ⟨p, j, rfl⟩ := pt_eq t
  blk_simp
  rw [after0_7]
  idx_vars y
  refine (dv_col R p j y0 y1).trans ?_
  have e0 : ((View.whole main_v51_2).slice (win0_7.rect (pt p j))).emb (ix2 y0 y1) 0 = br j y0 := by
    apply Fin.ext
    show win0_7.index (pt p j) 0 * 256 + 1 * y0.val = _
    rw [(idx (pt p j)).2.2.2.2.2.2.2, pt_mod]
    show j.val * 256 + 1 * y0.val = 256 * j.val + y0.val
    omega
  have e1 : ((View.whole main_v51_2).slice (win0_7.rect (pt p j))).emb (ix2 y0 y1) 1 = colt p y1 := by
    apply Fin.ext
    show win0_7.index (pt p j) 1 * 128 + 1 * y1.val = _
    rw [(idx (pt p j)).2.2.2.2.2.2.2, pt_div]
    show p.val * 128 + 1 * y1.val = 128 * p.val + y1.val
    omega
  exact congrArg₂ (fun a b => ((gv s qn qr kn kr o a (th b) (tl b) : ℝ) : EReal)) e0.symm e1.symm

omit R

/-! ## The lines after the call -/

abbrev T (m : (ℓ : Loc nD τ sig) → Buf (Elt Ideal) ℓ) (c : Dev nD) : (b : Ref sig .tc) → Buf (Elt Ideal) ((c.tc : Thread nD τ).loc b) :=
  Pipeline.afterTail₀ cfgs (dats m) 0 (V0 m) [hostOps1] c

theorem wide_eq0 (h : Fin 8) (d : Fin 64) : (⟨h.val * 128 + d.val, by omega⟩ : Fin 1024) = wide h (ln0 d) :=
  Fin.ext (by show h.val * 128 + d.val = 128 * h.val + d.val; omega)
theorem wide_eq1 (h : Fin 8) (r : Fin 32) : (⟨h.val * 128 + (64 + r.val), by omega⟩ : Fin 1024) = wide h (ln1 r) :=
  Fin.ext (by show h.val * 128 + (64 + r.val) = 128 * h.val + (64 + r.val); omega)
theorem thin_eq (h : Fin 8) (d : Fin 64) : (⟨h.val * 64 + d.val, by omega⟩ : Fin 512) = thin h d :=
  Fin.ext (by show h.val * 64 + d.val = 64 * h.val + d.val; omega)

theorem tail_qn (W : Valuation τ sig (Elt Ideal)) (i : Fin 4096) (h : Fin 8) (d : Fin 64) :
    (StableHlo.after (List.flatten [hostOps1]) W (Proc.tc.devRef main_v56) : FVec Ideal S4096x8x64 .f32) (ix3 i h d)
      = (show EReal from (W (Proc.tc.devRef main_v51_0) : FVec Ideal S4096x1024 .f32) (ix2 i (wide h (ln0 d)))) * scale := by
  simp only [List.flatten_cons, List.flatten_nil, List.append_nil]
  after_reads_simp
  pointwise
  simp only [wide_eq0]
  rfl

theorem tail_qr (W : Valuation τ sig (Elt Ideal)) (i : Fin 4096) (h : Fin 8) (r : Fin 32) :
    (StableHlo.after (List.flatten [hostOps1]) W (Proc.tc.devRef main_v57) : FVec Ideal S4096x8x32 .f32) (ix3 i h r)
      = (show EReal from (W (Proc.tc.devRef main_v51_0) : FVec Ideal S4096x1024 .f32) (ix2 i (wide h (ln1 r)))) * scale := by
  simp only [List.flatten_cons, List.flatten_nil, List.append_nil]
  after_reads_simp
  pointwise
  simp only [wide_eq1]
  rfl

theorem tail_kn (W : Valuation τ sig (Elt Ideal)) (i : Fin 4096) (h : Fin 8) (d : Fin 64) :
    (StableHlo.after (List.flatten [hostOps1]) W (Proc.tc.devRef main_v58) : FVec Ideal S4096x8x64 .f32) (ix3 i h d)
      = (show EReal from (W (Proc.tc.devRef main_v51_1) : FVec Ideal S4096x1024 .f32) (ix2 i (wide h (ln0 d)))) := by
  simp only [List.flatten_cons, List.flatten_nil, List.append_nil]
  after_reads_simp
  pointwise
  simp only [wide_eq0]

theorem tail_kr (W : Valuation τ sig (Elt Ideal)) (i : Fin 4096) (r : Fin 32) :
    (StableHlo.after (List.flatten [hostOps1]) W (Proc.tc.devRef main_v60) : FVec Ideal S4096x32 .f32) (ix2 i r)
      = ∑ h : Fin 8, (show EReal from (W (Proc.tc.devRef main_v51_1) : FVec Ideal S4096x1024 .f32) (ix2 i (wide h (ln1 r)))) := by
  simp only [List.flatten_cons, List.flatten_nil, List.append_nil]
  after_reads_simp
  pointwise
  simp only [wide_eq1]

theorem tail_v (W : Valuation τ sig (Elt Ideal)) (i : Fin 4096) (h : Fin 8) (d : Fin 64) :
    (StableHlo.after (List.flatten [hostOps1]) W (Proc.tc.devRef main_v61) : FVec Ideal S4096x8x64 .f32) (ix3 i h d)
      = (show EReal from (W (Proc.tc.devRef main_v51_2) : FVec Ideal S4096x512 .f32) (ix2 i (thin h d))) := by
  simp only [List.flatten_cons, List.flatten_nil, List.append_nil]
  after_reads_simp
  pointwise
  simp only [thin_eq]

/-- The arrays the call was given to write, where the lines after it read them. -/
theorem after_arr (w : Fin cfg0.W) : Pipeline.withArrays cfg0.spec c (V0 m c) (fun w => (dats m 0 c).arrAt w cfg0.N) (Proc.devRef .tc (Pipeline.arrRef cfg0.spec w))
    = (dats m 0 c).arrAt w cfg0.N :=
  Pipeline.withArrays_arr cfg0.spec launch0.win.arr_inj c (V0 m c) _ w

include R

theorem T_qn (i : Fin 4096) (h : Fin 8) (d : Fin 64) : (T m c main_v56 : FVec Ideal S4096x8x64 .f32) (ix3 i h d) = ((gq s qn qr kn kr v o i h (ln0 d) * s : ℝ) : EReal) := by
  refine (tail_qn _ i h d).trans ?_
  rw [show (Pipeline.withArrays cfg0.spec c (V0 m c) (fun w => (dats m 0 c).arrAt w cfg0.N) (Proc.devRef .tc main_v51_0)) = _ from (after_arr 5).trans (arr5 R), R.s]
  show ((gq s qn qr kn kr v o i (wh (wide h (ln0 d))) (wl (wide h (ln0 d))) : ℝ) : EReal) * _ = _
  rw [wh_wide, wl_wide]
  exact (EReal.coe_mul _ _).symm

theorem T_qr (i : Fin 4096) (h : Fin 8) (r : Fin 32) : (T m c main_v57 : FVec Ideal S4096x8x32 .f32) (ix3 i h r) = ((gq s qn qr kn kr v o i h (ln1 r) * s : ℝ) : EReal) := by
  refine (tail_qr _ i h r).trans ?_
  rw [show (Pipeline.withArrays cfg0.spec c (V0 m c) (fun w => (dats m 0 c).arrAt w cfg0.N) (Proc.devRef .tc main_v51_0)) = _ from (after_arr 5).trans (arr5 R), R.s]
  show ((gq s qn qr kn kr v o i (wh (wide h (ln1 r))) (wl (wide h (ln1 r))) : ℝ) : EReal) * _ = _
  rw [wh_wide, wl_wide]
  exact (EReal.coe_mul _ _).symm

theorem T_kn (i : Fin 4096) (h : Fin 8) (d : Fin 64) : (T m c main_v58 : FVec Ideal S4096x8x64 .f32) (ix3 i h d) = ((gk s qn qr kn kr v o i h (ln0 d) : ℝ) : EReal) := by
  refine (tail_kn _ i h d).trans ?_
  rw [show (Pipeline.withArrays cfg0.spec c (V0 m c) (fun w => (dats m 0 c).arrAt w cfg0.N) (Proc.devRef .tc main_v51_1)) = _ from (after_arr 6).trans (arr6 R)]
  show ((gk s qn qr kn kr v o i (wh (wide h (ln0 d))) (wl (wide h (ln0 d))) : ℝ) : EReal) = _
  rw [wh_wide, wl_wide]

theorem T_kr (i : Fin 4096) (r : Fin 32) : (T m c main_v60 : FVec Ideal S4096x32 .f32) (ix2 i r) = ((∑ h, gk s qn qr kn kr v o i h (ln1 r) : ℝ) : EReal) := by
  refine (tail_kr _ i r).trans ?_
  rw [show (Pipeline.withArrays cfg0.spec c (V0 m c) (fun w => (dats m 0 c).arrAt w cfg0.N) (Proc.devRef .tc main_v51_1)) = _ from (after_arr 6).trans (arr6 R)]
  have e : (∑ h : Fin 8, ((gk s qn qr kn kr v o i (wh (wide h (ln1 r))) (wl (wide h (ln1 r))) : ℝ) : EReal)) = ((∑ h, gk s qn qr kn kr v o i h (ln1 r) : ℝ) : EReal) := by
    simp only [wh_wide, wl_wide, coe_sum]
  exact e

theorem T_v (i : Fin 4096) (h : Fin 8) (d : Fin 64) : (T m c main_v61 : FVec Ideal S4096x8x64 .f32) (ix3 i h d) = ((gv s qn qr kn kr o i h d : ℝ) : EReal) := by
  refine (tail_v _ i h d).trans ?_
  rw [show (Pipeline.withArrays cfg0.spec c (V0 m c) (fun w => (dats m 0 c).arrAt w cfg0.N) (Proc.devRef .tc main_v51_2)) = _ from (after_arr 7).trans (arr7 R)]
  show ((gv s qn qr kn kr o i (th (thin h d)) (tl (thin h d)) : ℝ) : EReal) = _
  rw [th_thin, tl_thin]

end Cert.MlaBwdTail

end
-- ==== Proof.MlaBwdRef.lean ====
/- The reference's gradients of the latent attention at an index, for real arguments. -/
module

public import proofs.«01_k».proof.Proof.Gen.MlaBwdRefIdeal.Run
public import proofs.«01_k».proof.Proof.Gen.MlaBwdRefIdeal.Read
public import proofs.«01_k».proof.Proof.MlaBwdHost

@[expose] public section

set_option maxRecDepth 16384

noncomputable section

open Idealize.ShloMosaic Idealize.ShloMosaic.TcCoe Idealize.SL.Sem

namespace Cert.MlaBwdRefIdeal.Hand

open Cert.MlaBwdRefIdeal Cert.MlaBwdRefIdeal.Gen Cert.MlaBwdRefIdeal.Value Cert.MlaBwdRefIdeal.Read
open Cert.MlaModel (see sc P dP D dS gq gk gv diag ln0 ln1 Q K)
open Cert.Softmax (masked soft tot coe_sum)
open Cert.FoxBwdHost (ninf)
open Cert.MlaBwdHost (scale sel_chunk)

variable (x0 x2 x4 x5 : FVec Ideal S4096x8x64 .f32) (x1 : FVec Ideal S4096x8x32 .f32) (x3 : FVec Ideal S4096x32 .f32)

/-- The arguments' entries, and the scale, are these real numbers. -/
structure Reals (s : ℝ) (qn : Fin 4096 → Fin 8 → Fin 64 → ℝ) (qr : Fin 4096 → Fin 8 → Fin 32 → ℝ) (kn : Fin 4096 → Fin 8 → Fin 64 → ℝ)
    (kr : Fin 4096 → Fin 32 → ℝ) (v o : Fin 4096 → Fin 8 → Fin 64 → ℝ) : Prop where
  s : scale = (s : EReal)
  qn : ∀ i h d, x0 (ix3 i h d) = (qn i h d : EReal)
  qr : ∀ i h r, x1 (ix3 i h r) = (qr i h r : EReal)
  kn : ∀ i h d, x2 (ix3 i h d) = (kn i h d : EReal)
  kr : ∀ i r, x3 (ix2 i r) = (kr i r : EReal)
  v : ∀ i h d, x4 (ix3 i h d) = (v i h d : EReal)
  o : ∀ i h d, x5 (ix3 i h d) = (o i h d : EReal)

variable {x0 x2 x4 x5 x1 x3} {s : ℝ} {qn : Fin 4096 → Fin 8 → Fin 64 → ℝ} {qr : Fin 4096 → Fin 8 → Fin 32 → ℝ} {kn : Fin 4096 → Fin 8 → Fin 64 → ℝ}
  {kr : Fin 4096 → Fin 32 → ℝ} {v o : Fin 4096 → Fin 8 → Fin 64 → ℝ} (R : Reals x0 x2 x4 x5 x1 x3 s qn qr kn kr v o)

/-- The chunk of a position. -/
theorem v5_at (i : Fin 4096) : (val_main_v5 (F := Ideal) (ix1 i) : BitVec 32) = BitVec.ofNat 32 (i.val / 64) := by
  pointwise [val_main_v5, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v4]
  revert i
  decide +kernel

/-- Which keys a query sees. -/
theorem v10_at (i j : Fin 4096) : (val_main_v10 (F := Ideal) (ix2 i j) : BitVec 1) = IntOp.cmpi .sle (BitVec.ofNat 32 (j.val / 64)) (BitVec.ofNat 32 (i.val / 64)) := by
  pointwise [val_main_v10, val_main_v9, val_main_v8, val_main_v7, val_main_v6]
  rw [v5_at, v5_at]

theorem v13_read (h : Fin 8) (i j : Fin 4096) : (val_main_v13_0 (F := Ideal) x0 x1 x2 x3 (ix3 h i j) : EReal)
    = if j.val / 64 ≤ i.val / 64 then ((∑ d : Fin 64, x0 (ix3 i h d) * x2 (ix3 j h d)) + (∑ r : Fin 32, x3 (ix2 j r) * x1 (ix3 i h r))) * scale else ⊥ := by
  pointwise [val_main_v0, val_main_v1, val_main_v2, val_main_v3, val_main_cst, val_main_v11, val_main_v12, val_main_cst_0, val_main_call1_v0, val_main_v13_1, val_main_call1_v2, val_main_v13_0]
  rw [v10_at]
  refine (sel_chunk i j _ _).trans ?_
  have e : (id (constant (F := Ideal) S_ .f32 4286578688#32) ix0 : EReal) = ⊥ := ninf
  rw [e]
  split <;> rfl

/-- The largest entry of a row. -/
theorem maxred (w : FVec Ideal S8x4096x4096 .f32) (h : Fin 8) (i : Fin 4096) :
    (Host.reduce FloatOps.maximumf w (val_main_cst_1 (F := Ideal)) reducesTo_S8x4096x4096_S8x4096_d2 h_S_ : FVec Ideal S8x4096 .f32) (ix2 h i)
      = (Finset.univ : Finset (Fin 4096)).fold max (⊥ : EReal) fun j => (w (ix3 h i j) : EReal) := by
  pointwise [val_main_cst_1]
  rw [ninf]

theorem v21_read (h : Fin 8) (i : Fin 4096) : (val_main_v21 (F := Ideal) x0 x1 x2 x3 (ix2 h i) : EReal)
    = max ⊥ ((Finset.univ : Finset (Fin 4096)).fold max ⊥ fun j => (val_main_v13_0 (F := Ideal) x0 x1 x2 x3 (ix3 h i j) : EReal)) := by
  rw [val_main_v21_apply, val_main_v20_apply, val_main_v14]
  refine congrArg₂ (fun a b : EReal => max a b) ninf (maxred _ h i)

include R
theorem v13_real (h : Fin 8) (i : Fin 4096) : (fun j => (val_main_v13_0 (F := Ideal) x0 x1 x2 x3 (ix3 h i j) : EReal)) = masked (sc s qn qr kn kr h i) (see i) := by
  funext j
  rw [v13_read]
  unfold masked
  by_cases hj : j.val / 64 ≤ i.val / 64
  · rw [if_pos hj]
    refine Eq.trans ?_ (if_pos hj).symm
    simp only [R.qn, R.qr, R.kn, R.kr, R.s, ← EReal.coe_mul, coe_sum, ← EReal.coe_add]
    rw [EReal.coe_eq_coe_iff, Cert.MlaModel.sc_eq]
    refine congrArg (fun a => a * s) (congrArg₂ (· + ·) rfl (Finset.sum_congr rfl fun r _ => mul_comm _ _))
  · rw [if_neg hj]
    exact (if_neg hj).symm

theorem v21_real (h : Fin 8) (i : Fin 4096) : ∃ M : ℝ, (val_main_v21 (F := Ideal) x0 x1 x2 x3 (ix2 h i) : EReal) = (M : EReal) := by
  obtain ⟨M, hM⟩ := Cert.Softmax.max_real (sc s qn qr kn kr h i) (diag i)
  refine ⟨M, ?_⟩
  rw [v21_read, v13_real R, hM]
  exact max_eq_right bot_le

omit R
theorem v34_read (h : Fin 8) (i j : Fin 4096) : (val_main_v34 (F := Ideal) x0 x1 x2 x3 (ix3 h i j) : EReal)
    = Ideal.exp ((val_main_v13_0 (F := Ideal) x0 x1 x2 x3 (ix3 h i j) : EReal) - val_main_v21 (F := Ideal) x0 x1 x2 x3 (ix2 h i)) := by
  pointwise [val_main_v34, val_main_v33, val_main_v32, val_main_v31]

theorem v36_read (h : Fin 8) (i : Fin 4096) : (val_main_v36 (F := Ideal) x0 x1 x2 x3 (ix3 h i 0) : EReal)
    = ∑ j : Fin 4096, (val_main_v34 (F := Ideal) x0 x1 x2 x3 (ix3 h i j) : EReal) := by
  pointwise [val_main_v36, val_main_v35, val_main_cst_9]

theorem v38_read (h : Fin 8) (i j : Fin 4096) : (val_main_v38 (F := Ideal) x0 x1 x2 x3 (ix3 h i j) : EReal)
    = Ideal.div (val_main_v34 (F := Ideal) x0 x1 x2 x3 (ix3 h i j)) (val_main_v36 (F := Ideal) x0 x1 x2 x3 (ix3 h i 0)) := by
  pointwise [val_main_v38, val_main_v37]

theorem v45_read (h : Fin 8) (i j : Fin 4096) : (val_main_v45 (F := Ideal) x4 x5 (ix3 h i j) : EReal)
    = ∑ d : Fin 64, x5 (ix3 i h d) * x4 (ix3 j h d) := by
  pointwise [val_main_v45, val_main_v44]

theorem v59_read (h : Fin 8) (i j : Fin 4096) : (val_main_v59 (F := Ideal) x0 x1 x2 x3 x4 x5 (ix3 h i j) : EReal)
    = (Ideal.div (val_main_v45 (F := Ideal) x4 x5 (ix3 h i j)) (val_main_v36 (F := Ideal) x0 x1 x2 x3 (ix3 h i 0))
        + -∑ k : Fin 4096, (val_main_v45 (F := Ideal) x4 x5 (ix3 h i k) : EReal)
            * Ideal.div (1 : EReal) ((val_main_v36 (F := Ideal) x0 x1 x2 x3 (ix3 h i 0) : EReal) * val_main_v36 (F := Ideal) x0 x1 x2 x3 (ix3 h i 0))
            * (val_main_v34 (F := Ideal) x0 x1 x2 x3 (ix3 h i k) : EReal))
      * (val_main_v34 (F := Ideal) x0 x1 x2 x3 (ix3 h i j) : EReal) := by
  pointwise [val_main_v59, val_main_v58, val_main_v57, val_main_v56, val_main_v55, val_main_v54, val_main_v53, val_main_v52, val_main_v51, val_main_v50, val_main_v49, val_main_v48, val_main_v41, val_main_v40, val_main_v39, val_main_cst_10, val_main_cst_11, val_main_cst_12]
  simp only [Fintype.sum_unique]

theorem v60_read (h : Fin 8) (i j : Fin 4096) : (val_main_v60 (F := Ideal) x0 x1 x2 x3 x4 x5 (ix3 h i j) : EReal)
    = if j.val / 64 ≤ i.val / 64 then (val_main_v59 (F := Ideal) x0 x1 x2 x3 x4 x5 (ix3 h i j) : EReal) else 0 := by
  pointwise [val_main_v60, val_main_call2_v0, val_main_call2_cst, val_main_v13_1]
  rw [v10_at]
  exact sel_chunk i j _ _

include R
theorem v38_real (h : Fin 8) (i j : Fin 4096) : (val_main_v38 (F := Ideal) x0 x1 x2 x3 (ix3 h i j) : EReal) = ((P s qn qr kn kr h i j : ℝ) : EReal) := by
  obtain ⟨M, hM⟩ := v21_real R h i
  have hs : ∀ j, (val_main_v13_0 (F := Ideal) x0 x1 x2 x3 (ix3 h i j) : EReal) = masked (sc s qn qr kn kr h i) (see i) j := fun j => congrFun (v13_real R h i) j
  rw [v38_read, v36_read]
  simp only [v34_read, hM, hs]
  rw [Cert.Softmax.div_soft _ (diag i)]
  rfl

theorem v45_real (h : Fin 8) (i j : Fin 4096) : (val_main_v45 (F := Ideal) x4 x5 (ix3 h i j) : EReal) = ((dP v o h i j : ℝ) : EReal) := by
  rw [v45_read]
  simp only [R.v, R.o, ← EReal.coe_mul, coe_sum]
  rfl

theorem v60_real (h : Fin 8) (i j : Fin 4096) : (val_main_v60 (F := Ideal) x0 x1 x2 x3 x4 x5 (ix3 h i j) : EReal) = ((dS s qn qr kn kr v o h i j : ℝ) : EReal) := by
  rw [v60_read]
  by_cases hj : j.val / 64 ≤ i.val / 64
  · rw [if_pos hj]
    obtain ⟨M, hM⟩ := v21_real R h i
    have hs : ∀ j, (val_main_v13_0 (F := Ideal) x0 x1 x2 x3 (ix3 h i j) : EReal) = masked (sc s qn qr kn kr h i) (see i) j := fun j => congrFun (v13_real R h i) j
    rw [v59_read, v36_read]
    simp only [v34_read, hM, hs, v45_real R]
    rw [Cert.Softmax.grad_real _ (diag i)]
    rfl
  · rw [if_neg hj]
    unfold dS
    rw [Cert.MlaModel.P_of_not s qn qr kn kr (i := i) (j := j) hj, zero_mul, EReal.coe_zero]

omit R
theorem v69_read (i : Fin 4096) (h : Fin 8) (d : Fin 64) : (val_main_v69 (F := Ideal) x0 x1 x2 x3 x4 x5 (ix3 i h d) : EReal)
    = ∑ j : Fin 4096, (val_main_v60 (F := Ideal) x0 x1 x2 x3 x4 x5 (ix3 h i j) : EReal) * scale * x2 (ix3 j h d) := by
  pointwise [val_main_v69, val_main_v68, val_main_v62, val_main_v61, val_main_cst_13]
  rfl

theorem v64_read (i : Fin 4096) (h : Fin 8) (r : Fin 32) : (val_main_v64 (F := Ideal) x0 x1 x2 x3 x4 x5 (ix3 i h r) : EReal)
    = ∑ j : Fin 4096, (val_main_v60 (F := Ideal) x0 x1 x2 x3 x4 x5 (ix3 h i j) : EReal) * scale * x3 (ix2 j r) := by
  pointwise [val_main_v64, val_main_v63, val_main_v62, val_main_v61, val_main_cst_13]
  rfl

theorem v67_read (j : Fin 4096) (h : Fin 8) (d : Fin 64) : (val_main_v67 (F := Ideal) x0 x1 x2 x3 x4 x5 (ix3 j h d) : EReal)
    = ∑ i : Fin 4096, (val_main_v60 (F := Ideal) x0 x1 x2 x3 x4 x5 (ix3 h i j) : EReal) * scale * x0 (ix3 i h d) := by
  pointwise [val_main_v67, val_main_v66, val_main_v62, val_main_v61, val_main_cst_13]
  rfl

theorem v65_read (j : Fin 4096) (r : Fin 32) : (val_main_v65 (F := Ideal) x0 x1 x2 x3 x4 x5 (ix2 j r) : EReal)
    = ∑ i : Fin 4096, ∑ h : Fin 8, (val_main_v60 (F := Ideal) x0 x1 x2 x3 x4 x5 (ix3 h i j) : EReal) * scale * x1 (ix3 i h r) := by
  pointwise [val_main_v65, val_main_v63, val_main_v62, val_main_v61, val_main_cst_13]
  rfl

theorem v47_read (j : Fin 4096) (h : Fin 8) (d : Fin 64) : (val_main_v47 (F := Ideal) x0 x1 x2 x3 x5 (ix3 j h d) : EReal)
    = ∑ i : Fin 4096, x5 (ix3 i h d) * (val_main_v38 (F := Ideal) x0 x1 x2 x3 (ix3 h i j) : EReal) := by
  pointwise [val_main_v47, val_main_v46, val_main_v44]

include R
/-! ## The results -/

theorem v69_real (i : Fin 4096) (h : Fin 8) (d : Fin 64) : (val_main_v69 (F := Ideal) x0 x1 x2 x3 x4 x5 (ix3 i h d) : EReal) = ((gq s qn qr kn kr v o i h (ln0 d) * s : ℝ) : EReal) := by
  rw [v69_read]
  simp only [v60_real R, R.kn, R.s, ← EReal.coe_mul, coe_sum]
  rw [EReal.coe_eq_coe_iff, gq, Finset.sum_mul]
  simp only [K, Cert.MlaModel.lanes0]
  exact Finset.sum_congr rfl fun j _ => by ring

theorem v64_real (i : Fin 4096) (h : Fin 8) (r : Fin 32) : (val_main_v64 (F := Ideal) x0 x1 x2 x3 x4 x5 (ix3 i h r) : EReal) = ((gq s qn qr kn kr v o i h (ln1 r) * s : ℝ) : EReal) := by
  rw [v64_read]
  simp only [v60_real R, R.kr, R.s, ← EReal.coe_mul, coe_sum]
  rw [EReal.coe_eq_coe_iff, gq, Finset.sum_mul]
  simp only [K, Cert.MlaModel.lanes1]
  exact Finset.sum_congr rfl fun j _ => by ring

theorem v67_real (j : Fin 4096) (h : Fin 8) (d : Fin 64) : (val_main_v67 (F := Ideal) x0 x1 x2 x3 x4 x5 (ix3 j h d) : EReal) = ((gk s qn qr kn kr v o j h (ln0 d) : ℝ) : EReal) := by
  rw [v67_read]
  simp only [v60_real R, R.qn, R.s, ← EReal.coe_mul, coe_sum]
  rw [EReal.coe_eq_coe_iff, gk]
  simp only [Q, Cert.MlaModel.lanes0]
  exact Finset.sum_congr rfl fun j _ => by ring

theorem v65_real (j : Fin 4096) (r : Fin 32) : (val_main_v65 (F := Ideal) x0 x1 x2 x3 x4 x5 (ix2 j r) : EReal) = ((∑ h, gk s qn qr kn kr v o j h (ln1 r) : ℝ) : EReal) := by
  rw [v65_read]
  simp only [v60_real R, R.qr, R.s, ← EReal.coe_mul, coe_sum]
  rw [EReal.coe_eq_coe_iff, Finset.sum_comm]
  refine Finset.sum_congr rfl fun h _ => ?_
  unfold gk
  simp only [Q, Cert.MlaModel.lanes1]
  exact Finset.sum_congr rfl fun j _ => by ring

theorem v47_real (j : Fin 4096) (h : Fin 8) (d : Fin 64) : (val_main_v47 (F := Ideal) x0 x1 x2 x3 x5 (ix3 j h d) : EReal) = ((gv s qn qr kn kr o j h d : ℝ) : EReal) := by
  rw [v47_read]
  simp only [v38_real R, R.o, ← EReal.coe_mul, coe_sum]
  rw [EReal.coe_eq_coe_iff, gv]
  exact Finset.sum_congr rfl fun j _ => by ring

end Cert.MlaBwdRefIdeal.Hand

end
-- ==== Proof.MlaBwdCompiled.lean ====
/-
  The frame of the chunked attention's gradient as compiled. Its program is the idealised one with the mask's constant read from
  its bits, so the run over any floats (`MlaBwdFrame.frame`) is its run too.
-/
module

public import proofs.«01_k».proof.Proof.MlaBwdFrame
public import proofs.«01_k».proof.Proof.Gen.MlaBwd.Launch

@[expose] public section

set_option maxRecDepth 16384

noncomputable section

namespace Cert.MlaBwdFrame

open Idealize.ShloMosaic Idealize.ShloMosaic.TcCoe Idealize.ShloMosaic.Tactic
open Idealize.SL Idealize.SL.Sem

variable {F : FTy → Type} [FloatOps F]

/-- Every named constant read from its bits. -/
abbrev named_bits : Named F := ⟨fun _ _ _ bits => Scalar.ofBits _ bits⟩

/-- The frame of the program as compiled, -/
def Frame (F : FTy → Type) [FloatOps F] : Prop :=
  ∀ (m : (ℓ : Loc Cert.MlaBwd.nD Cert.MlaBwd.τ Cert.MlaBwd.sig) → Buf (Elt F) ℓ) (g : Dev Cert.MlaBwd.nD → PrngReg),
    θ_run (Cert.MlaBwd.defs (F := F)) (onTc (τ := Cert.MlaBwd.τ) (Cert.MlaBwd.main (F := F))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5))
      ∧ r.2.sem = fun _ => 0)

/-- and of the idealised one. -/
def FrameIdeal (F : FTy → Type) [FloatOps F] [Named F] : Prop :=
  ∀ (m : (ℓ : Loc Cert.MlaBwdIdeal.nD Cert.MlaBwdIdeal.τ Cert.MlaBwdIdeal.sig) → Buf (Elt F) ℓ) (g : Dev Cert.MlaBwdIdeal.nD → PrngReg),
    θ_run (Cert.MlaBwdIdeal.defs (F := F)) (onTc (τ := Cert.MlaBwdIdeal.τ) (Cert.MlaBwdIdeal.main (F := F))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5))
      ∧ r.2.sem = fun _ => 0)

/-- The two statements are one. -/
theorem frame_eq : Frame F = @FrameIdeal F _ named_bits := by sl_kernel_rfl

/-- The frame of the program as compiled. -/
theorem frame_compiled : Frame F := frame_eq.mpr (@frame F _ named_bits)

end Cert.MlaBwdFrame

end
-- ==== Proof.MlaBwdClaim.lean ====
/- The latent attention gradient's claims. -/
module

public import proofs.«01_k».proof.Defs
public import proofs.«01_k».proof.Proof.FoxBwdClaim
public import proofs.«01_k».proof.Proof.MlaBwdTail
public import proofs.«01_k».proof.Proof.MlaBwdRef
public import proofs.«01_k».proof.Proof.MlaBwdCompiled
public import proofs.«01_k».proof.Proof.Gen.Pre_mla_finite

@[expose] public section

set_option maxRecDepth 16384

noncomputable section

namespace Cert.MlaBwdClaim

open Cert.MlaBwdIdeal Cert.MlaBwdIdeal.Gen Cert.MlaBwdFrame Cert.MlaBwdHost Cert.MlaBwdTail
open Idealize.ShloMosaic Idealize.ShloMosaic.TcCoe Idealize.SL.Sem
open Cert.FoxBwdClaim (real_of_lt)

variable (m : (ℓ : Loc nD τ sig) → Buf (Elt Ideal) ℓ)

def rqn (c : Dev nD) (i : Fin 4096) (h : Fin 8) (d : Fin 64) : ℝ := EReal.toReal (A0 m c (ix3 i h d))
def rqr (c : Dev nD) (i : Fin 4096) (h : Fin 8) (r : Fin 32) : ℝ := EReal.toReal (A1 m c (ix3 i h r))
def rkn (c : Dev nD) (i : Fin 4096) (h : Fin 8) (d : Fin 64) : ℝ := EReal.toReal (A2 m c (ix3 i h d))
def rkr (c : Dev nD) (i : Fin 4096) (r : Fin 32) : ℝ := EReal.toReal (A3 m c (ix2 i r))
def rv (c : Dev nD) (i : Fin 4096) (h : Fin 8) (d : Fin 64) : ℝ := EReal.toReal (A4 m c (ix3 i h d))
def ro (c : Dev nD) (i : Fin 4096) (h : Fin 8) (d : Fin 64) : ℝ := EReal.toReal (A5 m c (ix3 i h d))

theorem fin2 {a b : ℕ} (x : FVec Ideal ⟨2, ![a, b]⟩ .f32) (hb : Cert.Pre_mla_finite.S_.BroadcastsInDim ⟨2, ![a, b]⟩ (![] : Fin 0 → Fin 2))
    (h : cmpf .olt (Host.absf x) (broadcastInDim ⟨2, ![a, b]⟩ ![] hb (constant (F := Ideal) Cert.Pre_mla_finite.S_ .f32 0x7F800000#32)) = fun _ => 1#1) (i : Fin a) (l : Fin b) :
    x (ix2 i l) = (EReal.toReal (x (ix2 i l)) : EReal) :=
  real_of_lt _ (congrFun h (ix2 i l))

theorem fin3 {a b e : ℕ} (x : FVec Ideal ⟨3, ![a, b, e]⟩ .f32) (hb : Cert.Pre_mla_finite.S_.BroadcastsInDim ⟨3, ![a, b, e]⟩ (![] : Fin 0 → Fin 3))
    (h : cmpf .olt (Host.absf x) (broadcastInDim ⟨3, ![a, b, e]⟩ ![] hb (constant (F := Ideal) Cert.Pre_mla_finite.S_ .f32 0x7F800000#32)) = fun _ => 1#1) (i : Fin a) (j : Fin b) (l : Fin e) :
    x (ix3 i j l) = (EReal.toReal (x (ix3 i j l)) : EReal) :=
  real_of_lt _ (congrFun h (ix3 i j l))

/-- The precondition says that every argument's entries are real. -/
theorem reals (h : Cert.Pre_MlaBwdIdeal_mla_finite (hPre_mla_finite := Cert.Pre_mla_finite.Gen.facts) m) (s : ℝ) (hs : scale = (s : EReal)) (c : Dev nD) :
    Cert.MlaBwdVals.Reals m c s (rqn m c) (rqr m c) (rkn m c) (rkr m c) (rv m c) (ro m c) := by
  obtain ⟨h0, h1, h2, h3, h4, h5⟩ := h c
  exact ⟨hs, fin3 _ _ h0, fin3 _ _ h1, fin3 _ _ h2, fin2 _ _ h3, fin3 _ _ h4, fin3 _ _ h5⟩

/-- The reference leaves its arguments as they were; it has no semaphore. -/
theorem frame_ref : Cert.quiescent_MlaBwdRefIdeal (hMlaBwdRefIdeal := Cert.MlaBwdRefIdeal.Gen.facts) := fun m g _ =>
  (θ_run _ _ _).mono (fun r k => ⟨fun c => (k c).2.2.2.2.2, sem_eq_zero_of_no_sems rfl _⟩) (Cert.MlaBwdRefIdeal.Value.run (F := Ideal) m g)

/-- The claim: five arrays that both programs end with. -/
theorem algebraic : Cert.algebraic_MlaBwdIdeal_MlaBwdRefIdeal_pre_mla_finite (hMlaBwdIdeal := Cert.MlaBwdIdeal.Gen.facts) (hMlaBwdRefIdeal := Cert.MlaBwdRefIdeal.Gen.facts)
    (hPre_mla_finite := Cert.Pre_mla_finite.Gen.facts) := by
  intro m g m' g' hp h
  obtain ⟨s, hs⟩ := scale_real
  have R := reals m hp s hs
  refine ⟨fun c => T m c main_v56, fun c => T m c main_v57, fun c => T m c main_v58, fun c => T m c main_v60, fun c => T m c main_v61, ?_, ?_⟩
  · refine (θ_run _ _ _).mono (fun r k c => ?_) (θ_run_and (frame m g) (run_main m g))
    have k1 := k.2 c
    refine ⟨k1.2 main_v56 ?_, k1.2 main_v57 ?_, k1.2 main_v58 ?_, k1.2 main_v60 ?_, k1.2 main_v61 ?_, k.1.1 c⟩
    · decide +kernel
    · decide +kernel
    · decide +kernel
    · decide +kernel
    · decide +kernel
  · refine (θ_run _ _ _).mono (fun r k c => ?_) (Cert.MlaBwdRefIdeal.Value.run m' g')
    have e := h c
    have R' : Cert.MlaBwdRefIdeal.Hand.Reals (A0 m c) (A2 m c) (A4 m c) (A5 m c) (A1 m c) (A3 m c) s (rqn m c) (rqr m c) (rkn m c) (rkr m c) (rv m c) (ro m c) :=
      ⟨hs, (R c).qn, (R c).qr, (R c).kn, (R c).kr, (R c).v, (R c).o⟩
    refine ⟨(k c).1.trans ?_, (k c).2.1.trans ?_, (k c).2.2.1.trans ?_, (k c).2.2.2.1.trans ?_, (k c).2.2.2.2.1.trans ?_, (k c).2.2.2.2.2⟩
    · rw [Cert.MlaBwdRefIdeal.Read.val_main_v69_eq, e.1, e.2.1, e.2.2.1, e.2.2.2.1, e.2.2.2.2.1, e.2.2.2.2.2]
      funext y
      idx_vars y
      exact (Cert.MlaBwdRefIdeal.Hand.v69_real R' y0 y1 y2).trans (T_qn (R c) y0 y1 y2).symm
    · rw [Cert.MlaBwdRefIdeal.Read.val_main_v64_eq, e.1, e.2.1, e.2.2.1, e.2.2.2.1, e.2.2.2.2.1, e.2.2.2.2.2]
      funext y
      idx_vars y
      exact (Cert.MlaBwdRefIdeal.Hand.v64_real R' y0 y1 y2).trans (T_qr (R c) y0 y1 y2).symm
    · rw [Cert.MlaBwdRefIdeal.Read.val_main_v67_eq, e.1, e.2.1, e.2.2.1, e.2.2.2.1, e.2.2.2.2.1, e.2.2.2.2.2]
      funext y
      idx_vars y
      exact (Cert.MlaBwdRefIdeal.Hand.v67_real R' y0 y1 y2).trans (T_kn (R c) y0 y1 y2).symm
    · rw [Cert.MlaBwdRefIdeal.Read.val_main_v65_eq, e.1, e.2.1, e.2.2.1, e.2.2.2.1, e.2.2.2.2.1, e.2.2.2.2.2]
      funext y
      idx_vars y
      exact (Cert.MlaBwdRefIdeal.Hand.v65_real R' y0 y1).trans (T_kr (R c) y0 y1).symm
    · rw [Cert.MlaBwdRefIdeal.Read.val_main_v47_eq, e.1, e.2.1, e.2.2.1, e.2.2.2.1, e.2.2.2.2.2]
      funext y
      idx_vars y
      exact (Cert.MlaBwdRefIdeal.Hand.v47_real R' y0 y1 y2).trans (T_v (R c) y0 y1 y2).symm

end Cert.MlaBwdClaim

end
-- ==== Proof.RmsNorm.lean ====
/- The gradient of a root-mean-square norm, over the reals, in the two shapes it is printed. -/
module

public import proofs.«01_k».proof.Proof.Common
public import proofs.«01_k».proof.Proof.Softmax

@[expose] public section

set_option maxRecDepth 16384

noncomputable section

open Idealize.ShloMosaic Idealize.ShloMosaic.TcCoe Idealize.SL.Sem

namespace Cert.RmsNorm

open Cert.Softmax (coe_sum)

theorem half : Ideal.ofBits FTy.f32 1056964608#32 = ((1 / 2 : ℝ) : EReal) := by
  show Ideal.ieee 8 23 1056964608#32 = _
  unfold Ideal.ieee
  norm_num [show (1056964608 >>> 23 % 256 : ℕ) = 126 from rfl, show BitVec.extractLsb' 31 1 1056964608#32 = 0#1 from rfl]

theorem neg_half : Ideal.ofBits FTy.f32 3204448256#32 = ((-1 / 2 : ℝ) : EReal) := by
  show Ideal.ieee 8 23 3204448256#32 = _
  unfold Ideal.ieee
  norm_num [show (3204448256 >>> 23 % 256 : ℕ) = 126 from rfl, show BitVec.extractLsb' 31 1 3204448256#32 = 1#1 from rfl]

theorem two : Ideal.ofBits FTy.f32 1073741824#32 = ((2 : ℝ) : EReal) := by
  show Ideal.ieee 8 23 1073741824#32 = _
  unfold Ideal.ieee
  norm_num [show (1073741824 >>> 23 % 256 : ℕ) = 128 from rfl, show BitVec.extractLsb' 31 1 1073741824#32 = 0#1 from rfl]

theorem n1024 : Ideal.ofBits FTy.f32 1149239296#32 = ((1024 : ℝ) : EReal) := by
  show Ideal.ieee 8 23 1149239296#32 = _
  unfold Ideal.ieee
  norm_num [show (1149239296 >>> 23 % 256 : ℕ) = 137 from rfl, show BitVec.extractLsb' 31 1 1149239296#32 = 0#1 from rfl]

/-- The norm's small positive number. -/
def eps : ℝ := EReal.toReal (Ideal.ofBits FTy.f32 897988541#32)

theorem eps_val : Ideal.ofBits FTy.f32 897988541#32 = (((8388608 + 407485) * (2 : ℝ) ^ (-43 : ℤ) : ℝ) : EReal) := by
  show Ideal.ieee 8 23 897988541#32 = _
  unfold Ideal.ieee
  norm_num [show (897988541 >>> 23 % 256 : ℕ) = 107 from rfl, show BitVec.extractLsb' 31 1 897988541#32 = 0#1 from rfl]

theorem eps_coe : Ideal.ofBits FTy.f32 897988541#32 = (eps : EReal) := by
  unfold eps
  rw [eps_val, EReal.toReal_coe]

theorem eps_pos : 0 < eps := by
  unfold eps
  rw [eps_val, EReal.toReal_coe]
  positivity

variable {n : ℕ} (N : ℝ) (x u : Fin n → ℝ)

/-- The mean of the squares, and the small number. -/
def ms : ℝ := (∑ k, x k * x k) / N + eps

/-- The norm's factor. -/
def rs : ℝ := (Real.sqrt (ms N x))⁻¹

/-- The gradient: `u` is the cotangent of the normed row. -/
def grad (l : Fin n) : ℝ := rs N x * (u l - x l * rs N x * ((∑ k, u k * (x k * rs N x)) / N))

variable {N}

theorem ms_pos (hN : 0 < N) : 0 < ms N x :=
  add_pos_of_nonneg_of_pos (div_nonneg (Finset.sum_nonneg fun k _ => mul_self_nonneg _) hN.le) eps_pos

theorem rs_sq (hN : 0 < N) : rs N x * rs N x = (ms N x)⁻¹ := by
  unfold rs
  rw [← mul_inv, Real.mul_self_sqrt (ms_pos x hN).le]

theorem ms_real (hN : 0 < N) :
    Ideal.div (∑ k, (x k : EReal) * (x k : EReal)) (N : EReal) + Ideal.ofBits FTy.f32 897988541#32 = (ms N x : EReal) := by
  have e : ∑ k, (x k : EReal) * (x k : EReal) = ((∑ k, x k * x k : ℝ) : EReal) := by
    rw [← coe_sum]
    exact Finset.sum_congr rfl fun k _ => (EReal.coe_mul _ _).symm
  rw [e, Ideal.div_coe hN.ne', eps_coe, ← EReal.coe_mul, ← EReal.coe_add]
  unfold ms
  congr 2
  ring

theorem rsqrt_real (hN : 0 < N) :
    Ideal.rsqrt (Ideal.div (∑ k, (x k : EReal) * (x k : EReal)) (N : EReal) + Ideal.ofBits FTy.f32 897988541#32) = (rs N x : EReal) := by
  rw [ms_real x hN, Ideal.rsqrt_coe, if_neg (not_lt.2 (ms_pos x hN).le), if_neg (ms_pos x hN).ne']
  rfl

/-- The kernel's shape of the gradient. -/
theorem kernel_real (hN : 0 < N) (l : Fin n) :
    (rs N x : EReal) * ((u l : EReal) - ((x l * rs N x : ℝ) : EReal) * Ideal.div (∑ k, ((u k * (x k * rs N x) : ℝ) : EReal)) (N : EReal)) = (grad N x u l : EReal) := by
  rw [coe_sum, Ideal.div_coe hN.ne']
  simp only [← EReal.coe_mul, ← EReal.coe_sub]
  congr 1
  unfold grad
  ring

/-- The shape the reference's gradient has. -/
theorem vjp_real (hN : 0 < N) (l : Fin n) :
    (u l : EReal) * (rs N x : EReal)
        + (x l : EReal) * Ideal.div ((∑ k, ((x k * u k : ℝ) : EReal)) * (Ideal.ofBits FTy.f32 3204448256#32 * Ideal.div (rs N x : EReal) (ms N x : EReal))) (N : EReal)
        + Ideal.div ((∑ k, ((x k * u k : ℝ) : EReal)) * (Ideal.ofBits FTy.f32 3204448256#32 * Ideal.div (rs N x : EReal) (ms N x : EReal))) (N : EReal) * (x l : EReal)
      = (grad N x u l : EReal) := by
  rw [coe_sum, neg_half, Ideal.div_coe (ms_pos x hN).ne', ← EReal.coe_mul, ← EReal.coe_mul, Ideal.div_coe hN.ne']
  simp only [← EReal.coe_mul, ← EReal.coe_add]
  congr 1
  unfold grad
  have e : ∑ k, u k * (x k * rs N x) = (∑ k, x k * u k) * rs N x := by
    rw [Finset.sum_mul]
    exact Finset.sum_congr rfl fun k _ => by ring
  rw [e, one_div (ms N x), ← rs_sq x hN]
  ring

/-! ## Sums over eight tiles of 512 rows -/

/-- Row `r` of tile `t`. -/
abbrev row (t : Fin 8) (r : Fin 512) : Fin 4096 := ⟨512 * t.val + r.val, by omega⟩

/-- The sum over the tiles before tile `t`. -/
def upTo (f : Fin 4096 → EReal) (t : ℕ) : EReal := ∑ k ∈ Finset.range (512 * t), Cert.Common.ext f k

theorem upTo_zero (f : Fin 4096 → EReal) : upTo f 0 = 0 := rfl

theorem upTo_succ (f : Fin 4096 → EReal) (t : Fin 8) : upTo f t.val + ∑ r : Fin 512, f (row t r) = upTo f (t.val + 1) := by
  unfold upTo
  rw [Nat.mul_succ, Finset.sum_range_add, ← Fin.sum_univ_eq_sum_range (fun j => Cert.Common.ext f (512 * t.val + j)) 512]
  congr 1
  exact Finset.sum_congr rfl fun r _ => (Cert.Common.ext_val f (row t r)).symm

theorem upTo_eight (f : Fin 4096 → EReal) : upTo f 8 = ∑ r, f r := by
  unfold upTo
  rw [← Fin.sum_univ_eq_sum_range (fun j => Cert.Common.ext f j) (512 * 8)]
  exact Finset.sum_congr rfl fun r _ => Cert.Common.ext_val f r

end Cert.RmsNorm

end
-- ==== Proof.FinalLossValue.lean ====
/- The values of the loss call: what the kernel's grid leaves in its three result arrays. -/
module

public import proofs.«01_k».proof.Proof.Gen.FinalLossIdeal.Value
public import proofs.«01_k».proof.Proof.RmsNorm

@[expose] public section

set_option maxRecDepth 16384

noncomputable section

open Idealize.ShloMosaic Idealize.ShloMosaic.TcCoe Idealize.SL.Sem
open Idealize.ShloMosaic.Pipeline (Dat)

namespace Cert.FinalLossIdeal.Hand

open Cert.FinalLossIdeal Cert.FinalLossIdeal.Gen
open Cert.RmsNorm (row upTo upTo_zero upTo_succ upTo_eight)

/-! ## The quantities, of whole arrays -/

section Defs

variable {R : ℕ} (x : FVec Ideal ⟨2, ![R, 1024]⟩ .f32) (g : FVec Ideal S1x1024 .f32) (y : FVec Ideal ⟨2, ![R, 1024]⟩ .f32)

/-- The norm's factor of a row. -/
def fac (r : Fin R) : EReal :=
  Ideal.rsqrt (Ideal.div (∑ k : Fin 1024, (x (ix2 r k) : EReal) * (x (ix2 r k) : EReal)) (Ideal.ofBits FTy.f32 1149239296#32) + Ideal.ofBits FTy.f32 897988541#32)

/-- The normed row, before the weight. -/
def xh (r : Fin R) (l : Fin 1024) : EReal := (x (ix2 r l) : EReal) * fac x r

/-- The error. -/
def err (r : Fin R) (l : Fin 1024) : EReal := xh x r l * (g (ix2 0 l) : EReal) - (y (ix2 r l) : EReal)

/-- The cotangent of the weighted row. -/
def dy (r : Fin R) (l : Fin 1024) : EReal := Ideal.div (err x g y r l) (Ideal.ofBits FTy.f32 1149239296#32)

/-- The gradient of the row. -/
def dx (r : Fin R) (l : Fin 1024) : EReal :=
  fac x r * (dy x g y r l * (g (ix2 0 l) : EReal)
    - xh x r l * Ideal.div (∑ k, dy x g y r k * (g (ix2 0 k) : EReal) * xh x r k) (Ideal.ofBits FTy.f32 1149239296#32))

/-- One row's part of the weight's gradient. -/
def dg (l : Fin 1024) (r : Fin R) : EReal := dy x g y r l * xh x r l

/-- One row's mean of squares. -/
def sqs (r : Fin R) : EReal := Ideal.div (∑ k, err x g y r k * err x g y r k) (Ideal.ofBits FTy.f32 1149239296#32)

end Defs

/-! ## What one grid point computes -/

section Pay

variable (x : FVec Ideal S512x1024 .f32) (g : FVec Ideal S1x1024 .f32) (y : FVec Ideal S512x1024 .f32)

theorem pay6_apply (r : Fin 512) : (k0_pay6 (F := Ideal) x (ix2 r 0) : EReal) = fac x r := by
  pointwise [k0_pay6]
  rfl

theorem pay7_apply (r : Fin 512) (l : Fin 1024) : (k0_pay7 (F := Ideal) x (ix2 r l) : EReal) = xh x r l := by
  pointwise [k0_pay7]
  rw [pay6_apply]
  rfl

theorem pay8_apply (r : Fin 512) (l : Fin 1024) : (k0_pay8 (F := Ideal) g x y (ix2 r l) : EReal) = err x g y r l := by
  pointwise [k0_pay8, k0_pay5]
  rw [pay7_apply]
  rfl

theorem pay10_apply (r : Fin 512) (l : Fin 1024) : (k0_pay10 (F := Ideal) g x y (ix2 r l) : EReal) = dy x g y r l := by
  pointwise [k0_pay10]
  rw [pay8_apply]
  rfl

theorem pay11_apply (r : Fin 512) (l : Fin 1024) : (k0_pay11 (F := Ideal) g (ix2 r l) : EReal) = g (ix2 0 l) := by
  pointwise [k0_pay11, k0_pay5]

theorem pay1_apply (r : Fin 512) (l : Fin 1024) :
    (k0_pay1 (F := Ideal) (k0_pay6 x) (k0_pay7 x) (k0_pay10 g x y) (k0_pay11 g) (ix2 r l) : EReal) = dx x g y r l := by
  pointwise [k0_pay1]
  simp only [pay6_apply, pay7_apply, pay10_apply, pay11_apply]
  rfl

theorem pay2_apply (a : FVec Ideal S1x1024 .f32) (l : Fin 1024) :
    (k0_pay2 (F := Ideal) (k0_pay7 x) (k0_pay10 g x y) a (ix2 0 l) : EReal) = a (ix2 0 l) + ∑ r, dg x g y l r := by
  pointwise [k0_pay2]
  simp only [pay7_apply, pay10_apply]
  rfl

theorem pay9_apply (b : FVec Ideal S1x128 .f32) (l : Fin 128) :
    (k0_pay9 (F := Ideal) g x y b (ix2 0 l) : EReal) = b (ix2 0 l) + Ideal.ofBits FTy.f32 1056964608#32 * ∑ r, sqs x g y r := by
  pointwise [k0_pay9]
  simp only [pay8_apply]
  rfl

theorem pay3_apply (a : Fin 8) (l : Fin 1024) : (k0_pay3 (F := Ideal) (ix2 a l) : EReal) = 0 := by
  pointwise [k0_pay3]

theorem pay4_apply (l : Fin 128) : (k0_pay4 (F := Ideal) (ix2 0 l) : EReal) = 0 := by
  pointwise [k0_pay4]

end Pay

/-! ## The blocks -/

variable (m : (ℓ : Loc nD τ sig) → Buf (Elt Ideal) ℓ)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S4096x1024 .f32 := m ((c : Thread nD τ).loc main_arg2)

/-- The weight as one row. -/
def G (c : Dev nD) : FVec Ideal S1x1024 .f32 := V m c main_v0

theorem G_apply (c : Dev nD) (l : Fin 1024) : (G m c (ix2 0 l) : EReal) = A1 m c (ix1 l) := by
  unfold G V
  after_reads_simp
  pointwise

/-- The block index of every window at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- A grid point's tile. -/
abbrev tl (t : Fin cfg0.N) : Fin 8 := ⟨t.val, lt_of_lt_of_eq t.isLt N_0⟩

theorem blk0 (c : Dev nD) (t : Fin cfg0.N) (r : Fin 512) (l : Fin 1024) :
    (iblk m c 0 t : FVec Ideal S512x1024 .f32) (ix2 r l) = A0 m c (ix2 (row (tl t) r) l) := by
  rw [show A0 m c = V m c main_arg0 from (V_main_arg0 m c).symm]
  blk_ext [iblk, idx t]

theorem blk1 (c : Dev nD) (t : Fin cfg0.N) (l : Fin 1024) : (iblk m c 1 t : FVec Ideal S1x1024 .f32) (ix2 0 l) = G m c (ix2 0 l) := by
  unfold G
  blk_ext [iblk, idx t]

theorem blk2 (c : Dev nD) (t : Fin cfg0.N) (r : Fin 512) (l : Fin 1024) :
    (iblk m c 2 t : FVec Ideal S512x1024 .f32) (ix2 r l) = A2 m c (ix2 (row (tl t) r) l) := by
  rw [show A2 m c = V m c main_arg2 from (V_main_arg2 m c).symm]
  blk_ext [iblk, idx t]

theorem fac_blk (c : Dev nD) (t : Fin cfg0.N) (r : Fin 512) : fac (R := 512) (iblk m c 0 t) r = fac (A0 m c) (row (tl t) r) := by
  unfold fac
  simp only [blk0]

theorem xh_blk (c : Dev nD) (t : Fin cfg0.N) (r : Fin 512) (l : Fin 1024) : xh (R := 512) (iblk m c 0 t) r l = xh (A0 m c) (row (tl t) r) l := by
  unfold xh
  rw [fac_blk, blk0]

theorem err_blk (c : Dev nD) (t : Fin cfg0.N) (r : Fin 512) (l : Fin 1024) :
    err (R := 512) (iblk m c 0 t) (iblk m c 1 t) (iblk m c 2 t) r l = err (A0 m c) (G m c) (A2 m c) (row (tl t) r) l := by
  unfold err
  rw [xh_blk, blk1, blk2]

theorem dy_blk (c : Dev nD) (t : Fin cfg0.N) (r : Fin 512) (l : Fin 1024) :
    dy (R := 512) (iblk m c 0 t) (iblk m c 1 t) (iblk m c 2 t) r l = dy (A0 m c) (G m c) (A2 m c) (row (tl t) r) l := by
  unfold dy
  rw [err_blk]

theorem dx_blk (c : Dev nD) (t : Fin cfg0.N) (r : Fin 512) (l : Fin 1024) :
    dx (R := 512) (iblk m c 0 t) (iblk m c 1 t) (iblk m c 2 t) r l = dx (A0 m c) (G m c) (A2 m c) (row (tl t) r) l := by
  unfold dx
  simp only [fac_blk, xh_blk, dy_blk, blk1]

theorem dg_blk (c : Dev nD) (t : Fin cfg0.N) (l : Fin 1024) (r : Fin 512) :
    dg (R := 512) (iblk m c 0 t) (iblk m c 1 t) (iblk m c 2 t) l r = dg (A0 m c) (G m c) (A2 m c) l (row (tl t) r) := by
  unfold dg
  rw [xh_blk, dy_blk]

theorem sqs_blk (c : Dev nD) (t : Fin cfg0.N) (r : Fin 512) :
    sqs (R := 512) (iblk m c 0 t) (iblk m c 1 t) (iblk m c 2 t) r = sqs (A0 m c) (G m c) (A2 m c) (row (tl t) r) := by
  unfold sqs
  simp only [err_blk]

/-! ## What each grid point leaves -/

/-- The losses of the tiles before tile `n`, as the kernel adds them. -/
def lossTo (f : Fin 4096 → EReal) : ℕ → EReal
  | 0 => 0
  | n + 1 => lossTo f n + Ideal.ofBits FTy.f32 1056964608#32 * ∑ r : Fin 512, Cert.Common.ext f (512 * n + r.val)

/-- The state after point `n`. -/
def Inv (c : Dev nD) (t : Fin 8) (o : Vec Ideal S512x1024 .f32 × Vec Ideal S8x1024 .f32 × Vec Ideal S1x128 .f32) : Prop :=
  (∀ r l, o.1 (ix2 r l) = dx (A0 m c) (G m c) (A2 m c) (row t r) l)
    ∧ (∀ (a : Fin 8) (l : Fin 1024), o.2.1 (ix2 a l) = if a.val = 0 then upTo (dg (A0 m c) (G m c) (A2 m c) l) (t.val + 1) else (0 : EReal))
    ∧ (∀ l : Fin 128, o.2.2 (ix2 0 l) = lossTo (sqs (A0 m c) (G m c) (A2 m c)) (t.val + 1))

theorem acc_step (c : Dev nD) (t : Fin cfg0.N) (a : FVec Ideal S1x1024 .f32) (l : Fin 1024) (ha : a (ix2 0 l) = upTo (dg (A0 m c) (G m c) (A2 m c) l) t.val) :
    (k0_pay2 (F := Ideal) (k0_pay7 (iblk m c 0 t)) (k0_pay10 (iblk m c 1 t) (iblk m c 0 t) (iblk m c 2 t)) a (ix2 0 l) : EReal)
      = upTo (dg (A0 m c) (G m c) (A2 m c) l) (t.val + 1) := by
  rw [pay2_apply, ha]
  refine Eq.trans ?_ (upTo_succ _ (tl t))
  refine congrArg (fun z : EReal => upTo (dg (A0 m c) (G m c) (A2 m c) l) t.val + z) (Finset.sum_congr rfl fun r _ => ?_)
  exact dg_blk m c t l r

theorem loss_step (c : Dev nD) (t : Fin cfg0.N) (b : FVec Ideal S1x128 .f32) (l : Fin 128) (hb : b (ix2 0 l) = lossTo (sqs (A0 m c) (G m c) (A2 m c)) t.val) :
    (k0_pay9 (F := Ideal) (iblk m c 1 t) (iblk m c 0 t) (iblk m c 2 t) b (ix2 0 l) : EReal) = lossTo (sqs (A0 m c) (G m c) (A2 m c)) (t.val + 1) := by
  rw [pay9_apply, hb]
  show _ = lossTo _ t.val + _
  congr 2
  exact Finset.sum_congr rfl fun r _ => (sqs_blk m c t r).trans (Cert.Common.ext_val _ (row (tl t) r)).symm

theorem inv_A (c : Dev nD) (t : Fin cfg0.N) (h : t.val % 8 = 0) : Inv m c (tl t) (outsAt0 m c t.val t.isLt) := by
  have hN : t.val < 8 := lt_of_lt_of_eq t.isLt N_0
  have h0 : t.val = 0 := by omega
  unfold Inv
  rw [outsAt0_A m c t h]
  frame_out
  refine ⟨fun r l => (pay1_apply _ _ _ r l).trans (dx_blk m c t r l), fun a l => ?_, fun l => ?_⟩
  · refine (Common.canon_row0 _ _ _ _ a l).trans ?_
    by_cases ha : a.val = 0
    · rw [if_pos ha, if_pos ha]
      refine acc_step m c t _ l ?_
      rw [h0]
      exact (Common.readCov_row0 (by decide) _ _ _ _ l).trans (pay3_apply _ l)
    · rw [if_neg ha, if_neg ha]
      exact pay3_apply a l
  · refine loss_step m c t _ l ?_
    rw [h0]
    exact pay4_apply l

theorem inv_B (c : Dev nD) (t : Fin cfg0.N) (h : ¬ t.val % 8 = 0)
    (ih : Inv m c ⟨t.val - 1, by have := lt_of_lt_of_eq t.isLt N_0; omega⟩ (outsAt0 m c (t.val - 1) (Nat.lt_of_le_of_lt (Nat.sub_le _ _) t.isLt))) :
    Inv m c (tl t) (outsAt0 m c t.val t.isLt) := by
  have hN : t.val < 8 := lt_of_lt_of_eq t.isLt N_0
  have h0 : t.val - 1 + 1 = t.val := by omega
  obtain ⟨ih0, ih1, ih2⟩ := ih
  dsimp only at ih0 ih1 ih2
  rw [h0] at ih1 ih2
  unfold Inv
  rw [outsAt0_B m c t h]
  frame_out
  refine ⟨fun r l => (pay1_apply _ _ _ r l).trans (dx_blk m c t r l), fun a l => ?_, fun l => ?_⟩
  · by_cases ha : a.val = 0
    · rw [if_pos ha]
      refine (View.read_writes_cons_rows_of_mem (o := 0) (off := ![0, 0]) (size := ![1, 1024]) _ _ _ _ _ (ix2 a l) (ix2 0 l) rfl (by show a.val = 0 + 0; omega) rfl).trans ?_
      refine acc_step m c t _ l ?_
      refine (Common.ld_row0 (by decide) _ _ l).trans ?_
      exact (ih1 0 l).trans (if_pos rfl)
    · rw [if_neg ha]
      refine (View.read_writes_cons_rows_of_not_mem _ _ _ _ _ _ rfl rfl (Or.inr (by show 0 + 1 ≤ a.val; omega))).trans ?_
      refine (congrFun (Memref.IsWhole.read_unread _ _) _).trans ?_
      exact (ih1 a l).trans (if_neg ha)
  · exact loss_step m c t _ l (ih2 l)

theorem inv (c : Dev nD) : ∀ (n : ℕ) (hn : n < cfg0.N), Inv m c (tl ⟨n, hn⟩) (outsAt0 m c n hn) := by
  intro n
  induction n with
  | zero => exact fun hn => inv_A m c ⟨0, hn⟩ rfl
  | succ n ih =>
    intro hn
    have hN : n + 1 < 8 := lt_of_lt_of_eq hn N_0
    exact inv_B m c ⟨n + 1, hn⟩ (by show ¬ (n + 1) % 8 = 0; omega) (ih _)

/-! ## The result arrays -/

theorem final3 (c : Dev nD) : (dats m 0 c).arrAt 3 cfg0.N = (fun i => dx (A0 m c) (G m c) (A2 m c) (i 0) (i 1) : FVec Ideal S4096x1024 .f32) := by
  refine (dats m 0 c).arrAt_eq_of_covers 3 _ (by decide +kernel) fun t hf y => ?_
  blk_simp
  rw [after0_3]
  idx_vars y
  refine ((inv m c t.val t.isLt).1 y0 y1).trans ?_
  refine congrArg₂ _ (Fin.ext ?_) (Fin.ext ?_)
  · show 512 * t.val + y0.val = win0_3.index t 0 * 512 + 1 * y0.val
    rw [(idx t).2.2.2.1]
    show _ = t.val * 512 + 1 * y0.val
    omega
  · show y1.val = win0_3.index t 1 * 1024 + 1 * y1.val
    rw [(idx t).2.2.2.1]
    show _ = 0 * 1024 + 1 * y1.val
    omega

theorem final4 (c : Dev nD) : (dats m 0 c).arrAt 4 cfg0.N
    = (fun i => if (i 0).val = 0 then upTo (dg (A0 m c) (G m c) (A2 m c) (i 1)) 8 else 0 : FVec Ideal S8x1024 .f32) := by
  refine (dats m 0 c).arrAt_eq_of_after_last 4 t0_7 (by decide +kernel) _ fun y => ?_
  blk_simp
  rw [after0_4]
  idx_vars y
  exact (inv m c t0_7.val t0_7.isLt).2.1 y0 y1

theorem final5 (c : Dev nD) : (dats m 0 c).arrAt 5 cfg0.N = (fun i => lossTo (sqs (A0 m c) (G m c) (A2 m c)) 8 : FVec Ideal S1x128 .f32) := by
  refine (dats m 0 c).arrAt_eq_of_after_last 5 t0_7 (by decide +kernel) _ fun y => ?_
  blk_simp
  rw [after0_5]
  idx_vars y
  rw [Fin.fin_one_eq_zero y0]
  exact (inv m c t0_7.val t0_7.isLt).2.2 y1

end Cert.FinalLossIdeal.Hand

end
-- ==== Proof.FinalLossRef.lean ====
/- The loss reference's results at an index, over the reals. -/
module

public import proofs.«01_k».proof.Proof.Gen.FinalLossRefIdeal.Run
public import proofs.«01_k».proof.Proof.Gen.FinalLossRefIdeal.Read
public import proofs.«01_k».proof.Proof.RmsNorm

@[expose] public section

set_option maxRecDepth 16384

noncomputable section

open Idealize.ShloMosaic Idealize.ShloMosaic.TcCoe Idealize.SL.Sem

namespace Cert.FinalLossRefIdeal.Hand

open Cert.FinalLossRefIdeal Cert.FinalLossRefIdeal.Value Cert.FinalLossRefIdeal.Read
open Cert.RmsNorm (rs ms grad)
open Cert.Softmax (coe_sum)

/-! ## The quantities, over the reals -/

variable (X : Fin 4096 → Fin 1024 → ℝ) (G : Fin 1024 → ℝ) (Y : Fin 4096 → Fin 1024 → ℝ)

/-- The error. -/
def err (r : Fin 4096) (l : Fin 1024) : ℝ := X r l * rs 1024 (X r) * G l - Y r l

/-- The cotangent of the weighted row. -/
def dy (r : Fin 4096) (l : Fin 1024) : ℝ := err X G Y r l / 1024

/-- The gradient of the rows. -/
def dx (r : Fin 4096) (l : Fin 1024) : ℝ := grad 1024 (X r) (fun k => dy X G Y r k * G k) l

/-- The gradient of the weight. -/
def dg (l : Fin 1024) : ℝ := ∑ r, dy X G Y r l * (X r l * rs 1024 (X r))

/-- The loss. -/
def loss : ℝ := ∑ r, 1 / 2 * ((∑ k, err X G Y r k * err X G Y r k) / 1024)

variable {X G Y} {x0 : FVec Ideal S4096x1024 .f32} {x1 : FVec Ideal S1024 .f32} {x2 : FVec Ideal S4096x1024 .f32}
variable (h0 : ∀ r l, x0 (ix2 r l) = (X r l : EReal)) (h1 : ∀ l, x1 (ix1 l) = (G l : EReal)) (h2 : ∀ r l, x2 (ix2 r l) = (Y r l : EReal))

include h0 in
theorem v6_real (r : Fin 4096) : (val_main_v6 (F := Ideal) x0 (ix2 r 0) : EReal) = (ms 1024 (X r) : EReal) := by
  pointwise [val_main_v6, val_main_v4, val_main_v3, val_main_v5, val_main_v2, val_main_v1, val_main_v0, val_main_cst, val_main_cst_0, val_main_cst_1]
  simp only [h0]
  rw [Cert.RmsNorm.n1024]
  exact Cert.RmsNorm.ms_real _ (by norm_num)

include h0 in
theorem v7_real (r : Fin 4096) : (val_main_v7 (F := Ideal) x0 (ix2 r 0) : EReal) = (rs 1024 (X r) : EReal) := by
  pointwise [val_main_v7, val_main_v6, val_main_v4, val_main_v3, val_main_v5, val_main_v2, val_main_v1, val_main_v0, val_main_cst, val_main_cst_0, val_main_cst_1]
  simp only [h0]
  rw [Cert.RmsNorm.n1024]
  exact Cert.RmsNorm.rsqrt_real _ (by norm_num)

include h0 in
theorem v12_real (r : Fin 4096) (l : Fin 1024) : (val_main_v12 (F := Ideal) x0 (ix2 r l) : EReal) = ((X r l * rs 1024 (X r) : ℝ) : EReal) := by
  pointwise [val_main_v12, val_main_v11]
  rw [v7_real h0, h0, ← EReal.coe_mul]

include h0 h1 h2 in
theorem v16_real (r : Fin 4096) (l : Fin 1024) : (val_main_v16 (F := Ideal) x0 x1 x2 (ix2 r l) : EReal) = (err X G Y r l : EReal) := by
  pointwise [val_main_v16, val_main_v15, val_main_v14, val_main_v13]
  rw [v12_real h0, h1, h2, ← EReal.coe_mul, ← EReal.coe_sub]
  rfl

include h0 h1 h2 in
theorem v30_real (r : Fin 4096) (l : Fin 1024) : (val_main_v30 (F := Ideal) x0 x1 x2 (ix2 r l) : EReal) = (dy X G Y r l : EReal) := by
  pointwise [val_main_v30, val_main_v29, val_main_v28, val_main_v27, val_main_v26, val_main_v25, val_main_v19, val_main_v18, val_main_cst_3, val_main_cst_8, val_main_cst_9, val_main_cst_10]
  rw [v16_real h0 h1 h2, Cert.RmsNorm.half, Cert.RmsNorm.n1024, Cert.RmsNorm.two, Ideal.div_coe (by norm_num)]
  simp only [← EReal.coe_mul]
  congr 1
  unfold dy
  ring

include h0 h1 h2 in
theorem v50_real (r : Fin 4096) (l : Fin 1024) : (val_main_v50 (F := Ideal) x0 x1 x2 (ix2 r l) : EReal) = (dx X G Y r l : EReal) := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_cst_2, val_main_cst_13, val_main_cst_14, val_main_cst_15]
  simp only [Fintype.sum_unique, Fin.default_eq_zero, v30_real h0 h1 h2, v7_real h0, v6_real h0, h0, h1, Cert.RmsNorm.n1024]
  refine Eq.trans ?_ (Cert.RmsNorm.vjp_real (N := 1024) (X r) (fun k => dy X G Y r k * G k) (by norm_num) l)
  simp only [EReal.coe_mul]

include h0 h1 h2 in
theorem v36_real (l : Fin 1024) : (val_main_v36 (F := Ideal) x0 x1 x2 (ix1 l) : EReal) = (dg X G Y l : EReal) := by
  pointwise [val_main_v36, val_main_v33, val_main_v32, val_main_v31, val_main_cst_11, val_main_cst_12]
  simp only [Fintype.sum_unique, Fin.default_eq_zero]
  have e : (∑ r : Fin 4096, (val_main_v12 (F := Ideal) x0 (ix2 r l) : EReal) * (val_main_v30 (F := Ideal) x0 x1 x2 (ix2 r l) : EReal)) = (dg X G Y l : EReal) := by
    unfold dg
    rw [← coe_sum]
    refine Finset.sum_congr rfl fun r _ => ?_
    rw [v12_real h0, v30_real h0 h1 h2, ← EReal.coe_mul, mul_comm]
  exact e

include h0 h1 h2 in
theorem v52_real (a : Fin 8) (l : Fin 1024) : (val_main_v52 (F := Ideal) x0 x1 x2 (ix2 a l) : EReal) = if a.val = 0 then (dg X G Y l : EReal) else 0 := by
  pointwise [val_main_v52, val_main_v51, val_main_call0_v0, val_main_c]
  rw [Cert.Common.sitofp_zero]
  split
  · next h => exact (v36_real h0 h1 h2 l).trans (if_pos (by omega)).symm
  · next h => exact (if_neg (by omega)).symm

include h0 h1 h2 in
theorem v53_real (l : Fin 128) : (val_main_v53 (F := Ideal) x0 x1 x2 (ix2 0 l) : EReal) = (loss X G Y : EReal) := by
  pointwise [val_main_v53, val_main_v24, val_main_v23, val_main_v22, val_main_v21, val_main_v20, val_main_v17, val_main_cst_4, val_main_cst_5, val_main_cst_6, val_main_cst_7]
  simp only [v16_real h0 h1 h2, Cert.RmsNorm.n1024, Cert.RmsNorm.half]
  have e : ∀ r : Fin 4096, Ideal.div (∑ k, (err X G Y r k : EReal) * (err X G Y r k : EReal)) ((1024 : ℝ) : EReal)
      = (((∑ k, err X G Y r k * err X G Y r k) / 1024 : ℝ) : EReal) := fun r => by
    rw [show (∑ k, (err X G Y r k : EReal) * (err X G Y r k : EReal)) = ((∑ k, err X G Y r k * err X G Y r k : ℝ) : EReal) from
      (Finset.sum_congr rfl fun k _ => (EReal.coe_mul _ _).symm).trans (coe_sum _ _), Ideal.div_coe (by norm_num), ← EReal.coe_mul]
    congr 1
    ring
  have e2 : ((1 / 2 : ℝ) : EReal) * (∑ r : Fin 4096, Ideal.div (∑ k, (err X G Y r k : EReal) * (err X G Y r k : EReal)) ((1024 : ℝ) : EReal)) = (loss X G Y : EReal) := by
    rw [Finset.sum_congr rfl fun r _ => e r, coe_sum, ← EReal.coe_mul, Finset.mul_sum]
    rfl
  exact e2

end Cert.FinalLossRefIdeal.Hand

end
-- ==== Proof.FinalLossClaim.lean ====
/- The loss call and its reference end with the same arrays. -/
module

public import proofs.«01_k».proof.Defs
public import proofs.«01_k».proof.Proof.FinalLossValue
public import proofs.«01_k».proof.Proof.FinalLossRef
public import proofs.«01_k».proof.Proof.FoxBwdClaim
public import proofs.«01_k».proof.Proof.Gen.Pre_loss_finite

@[expose] public section

set_option maxRecDepth 16384

noncomputable section

open Idealize.ShloMosaic Idealize.ShloMosaic.TcCoe Idealize.SL.Sem

namespace Cert.FinalLossClaim

open Cert.FinalLossIdeal (nD τ S1024 S4096x1024 S8x1024 S1x128)
open Cert.FinalLossIdeal.Hand
open Cert.RmsNorm (rs grad upTo upTo_eight row)
open Cert.Softmax (coe_sum)

variable (m : (ℓ : Loc nD τ Cert.FinalLossIdeal.sig) → Buf (Elt Ideal) ℓ)

def rx (c : Dev nD) (i : Fin 4096) (l : Fin 1024) : ℝ := EReal.toReal (A0 m c (ix2 i l))
def rg (c : Dev nD) (l : Fin 1024) : ℝ := EReal.toReal (A1 m c (ix1 l))
def ry (c : Dev nD) (i : Fin 4096) (l : Fin 1024) : ℝ := EReal.toReal (A2 m c (ix2 i l))

/-- Every entry of the arguments is a real number. -/
structure Reals (c : Dev nD) : Prop where
  x : ∀ r l, A0 m c (ix2 r l) = (rx m c r l : EReal)
  g : ∀ l, A1 m c (ix1 l) = (rg m c l : EReal)
  y : ∀ r l, A2 m c (ix2 r l) = (ry m c r l : EReal)

theorem fin1 {a : ℕ} (x : FVec Ideal ⟨1, ![a]⟩ .f32) (hb : Cert.Pre_loss_finite.S_.BroadcastsInDim ⟨1, ![a]⟩ (![] : Fin 0 → Fin 1))
    (h : cmpf .olt (Host.absf x) (broadcastInDim ⟨1, ![a]⟩ ![] hb (constant (F := Ideal) Cert.Pre_loss_finite.S_ .f32 0x7F800000#32)) = fun _ => 1#1) (i : Fin a) :
    x (ix1 i) = (EReal.toReal (x (ix1 i)) : EReal) :=
  Cert.FoxBwdClaim.real_of_lt _ (congrFun h (ix1 i))

theorem fin2 {a b : ℕ} (x : FVec Ideal ⟨2, ![a, b]⟩ .f32) (hb : Cert.Pre_loss_finite.S_.BroadcastsInDim ⟨2, ![a, b]⟩ (![] : Fin 0 → Fin 2))
    (h : cmpf .olt (Host.absf x) (broadcastInDim ⟨2, ![a, b]⟩ ![] hb (constant (F := Ideal) Cert.Pre_loss_finite.S_ .f32 0x7F800000#32)) = fun _ => 1#1) (i : Fin a) (l : Fin b) :
    x (ix2 i l) = (EReal.toReal (x (ix2 i l)) : EReal) :=
  Cert.FoxBwdClaim.real_of_lt _ (congrFun h (ix2 i l))

/-- The precondition says so. -/
theorem reals (h : Cert.Pre_FinalLossIdeal_loss_finite (hPre_loss_finite := Cert.Pre_loss_finite.Gen.facts) m) (c : Dev nD) : Reals m c := by
  obtain ⟨h0, h1, h2⟩ := h c
  exact ⟨fin2 _ _ h0, fin1 _ _ h1, fin2 _ _ h2⟩

variable {m}

theorem fac_real {c : Dev nD} (R : Reals m c) (r : Fin 4096) : fac (A0 m c) r = (rs 1024 (rx m c r) : EReal) := by
  unfold fac
  simp only [R.x, Cert.RmsNorm.n1024]
  exact Cert.RmsNorm.rsqrt_real _ (by norm_num)

theorem xh_real {c : Dev nD} (R : Reals m c) (r : Fin 4096) (l : Fin 1024) : xh (A0 m c) r l = ((rx m c r l * rs 1024 (rx m c r) : ℝ) : EReal) := by
  unfold xh
  rw [fac_real R, R.x, ← EReal.coe_mul]

theorem err_real {c : Dev nD} (R : Reals m c) (r : Fin 4096) (l : Fin 1024) :
    err (A0 m c) (G m c) (A2 m c) r l = (Cert.FinalLossRefIdeal.Hand.err (rx m c) (rg m c) (ry m c) r l : EReal) := by
  unfold err
  rw [xh_real R, G_apply, R.g, R.y, ← EReal.coe_mul, ← EReal.coe_sub]
  rfl

theorem dy_real {c : Dev nD} (R : Reals m c) (r : Fin 4096) (l : Fin 1024) :
    dy (A0 m c) (G m c) (A2 m c) r l = (Cert.FinalLossRefIdeal.Hand.dy (rx m c) (rg m c) (ry m c) r l : EReal) := by
  unfold dy
  rw [err_real R, Cert.RmsNorm.n1024, Ideal.div_coe (by norm_num), ← EReal.coe_mul]
  congr 1
  unfold Cert.FinalLossRefIdeal.Hand.dy
  ring

theorem dx_real {c : Dev nD} (R : Reals m c) (r : Fin 4096) (l : Fin 1024) :
    dx (A0 m c) (G m c) (A2 m c) r l = (Cert.FinalLossRefIdeal.Hand.dx (rx m c) (rg m c) (ry m c) r l : EReal) := by
  unfold dx
  simp only [fac_real R, xh_real R, dy_real R, G_apply, R.g, Cert.RmsNorm.n1024, ← EReal.coe_mul]
  exact Cert.RmsNorm.kernel_real (N := 1024) (rx m c r) (fun k => Cert.FinalLossRefIdeal.Hand.dy (rx m c) (rg m c) (ry m c) r k * rg m c k) (by norm_num) l

theorem dg_real {c : Dev nD} (R : Reals m c) (l : Fin 1024) :
    upTo (dg (A0 m c) (G m c) (A2 m c) l) 8 = (Cert.FinalLossRefIdeal.Hand.dg (rx m c) (rg m c) (ry m c) l : EReal) := by
  rw [upTo_eight]
  unfold dg Cert.FinalLossRefIdeal.Hand.dg
  rw [← coe_sum]
  exact Finset.sum_congr rfl fun r _ => by rw [xh_real R, dy_real R, ← EReal.coe_mul]

theorem sqs_real {c : Dev nD} (R : Reals m c) (r : Fin 4096) : sqs (A0 m c) (G m c) (A2 m c) r
    = (((∑ k, Cert.FinalLossRefIdeal.Hand.err (rx m c) (rg m c) (ry m c) r k * Cert.FinalLossRefIdeal.Hand.err (rx m c) (rg m c) (ry m c) r k) / 1024 : ℝ) : EReal) := by
  unfold sqs
  simp only [err_real R, ← EReal.coe_mul]
  rw [coe_sum, Cert.RmsNorm.n1024, Ideal.div_coe (by norm_num), ← EReal.coe_mul]
  congr 1
  ring

/-- Halves of tile sums, added up, are the sum of halves. -/
theorem lossTo_real (f : Fin 4096 → EReal) (q : Fin 4096 → ℝ) (h : ∀ r, f r = (q r : EReal)) (t : ℕ) (ht : t ≤ 8) :
    lossTo f t = upTo (fun r => ((1 / 2 * q r : ℝ) : EReal)) t := by
  induction t with
  | zero => rfl
  | succ t ih =>
    refine Eq.trans ?_ (Cert.RmsNorm.upTo_succ _ ⟨t, by omega⟩)
    rw [← ih (by omega)]
    refine congrArg (fun z : EReal => lossTo f t + z) ?_
    have e : (∑ r : Fin 512, Cert.Common.ext f (512 * t + r.val)) = ((∑ r : Fin 512, q (row ⟨t, by omega⟩ r) : ℝ) : EReal) := by
      rw [← coe_sum]
      exact Finset.sum_congr rfl fun r _ => (Cert.Common.ext_val f (row ⟨t, by omega⟩ r)).trans (h _)
    rw [e, Cert.RmsNorm.half, ← EReal.coe_mul, Finset.mul_sum, coe_sum]

theorem loss_real {c : Dev nD} (R : Reals m c) :
    lossTo (sqs (A0 m c) (G m c) (A2 m c)) 8 = (Cert.FinalLossRefIdeal.Hand.loss (rx m c) (rg m c) (ry m c) : EReal) := by
  rw [lossTo_real _ _ (sqs_real R) 8 le_rfl, upTo_eight, coe_sum]
  rfl

/-- The reference leaves its arguments as they were; it has no semaphore. -/
theorem frame_ref : Cert.quiescent_FinalLossRefIdeal (hFinalLossRefIdeal := Cert.FinalLossRefIdeal.Gen.facts) := fun m g _ =>
  (θ_run _ _ _).mono (fun r k => ⟨fun c => (k c).2.2.2, sem_eq_zero_of_no_sems rfl _⟩) (Cert.FinalLossRefIdeal.Value.run (F := Ideal) m g)

/-- The claim: three arrays that both programs end with. -/
theorem algebraic : Cert.algebraic_FinalLossIdeal_FinalLossRefIdeal_pre_loss_finite (hFinalLossIdeal := Cert.FinalLossIdeal.Gen.facts)
    (hFinalLossRefIdeal := Cert.FinalLossRefIdeal.Gen.facts) (hPre_loss_finite := Cert.Pre_loss_finite.Gen.facts) := by
  intro m g m' g' hp h
  have R := reals m hp
  refine ⟨fun c => _, fun c => _, fun c => _, (θ_run _ _ _).mono (fun r k c =>
    ⟨(k c).1.trans (final3 m c), (k c).2.1.trans (final4 m c), (k c).2.2.1.trans (final5 m c), (k c).2.2.2⟩) (Cert.FinalLossIdeal.Value.run_blocks m g), ?_⟩
  refine (θ_run _ _ _).mono (fun r k c => ?_) (Cert.FinalLossRefIdeal.Value.run m' g')
  have e := h c
  refine ⟨(k c).1.trans ?_, (k c).2.1.trans ?_, (k c).2.2.1.trans ?_, (k c).2.2.2⟩
  · rw [Cert.FinalLossRefIdeal.Read.val_main_v50_eq, e.1, e.2.1, e.2.2]
    funext y
    idx_vars y
    exact (Cert.FinalLossRefIdeal.Hand.v50_real (R c).x (R c).g (R c).y y0 y1).trans (dx_real (R c) y0 y1).symm
  · rw [Cert.FinalLossRefIdeal.Read.val_main_v52_eq, e.1, e.2.1, e.2.2]
    funext y
    idx_vars y
    refine (Cert.FinalLossRefIdeal.Hand.v52_real (R c).x (R c).g (R c).y y0 y1).trans ?_
    show _ = if y0.val = 0 then upTo (dg (A0 m c) (G m c) (A2 m c) y1) 8 else (0 : EReal)
    rw [dg_real (R c)]
  · rw [Cert.FinalLossRefIdeal.Read.val_main_v53_eq, e.1, e.2.1, e.2.2]
    funext y
    idx_vars y
    rw [Fin.fin_one_eq_zero y0]
    exact (Cert.FinalLossRefIdeal.Hand.v53_real (R c).x (R c).g (R c).y y1).trans (loss_real (R c)).symm

end Cert.FinalLossClaim

end
-- ==== Proof.AdaBwdClaim.lean ====
/- The modulation weights' gradient: the kernel, its reference, and that both end with the same array. -/
module

public import proofs.«01_k».proof.Defs
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.AdaBwdClaim

open Cert.AdaBwdIdeal Cert.AdaBwdIdeal.Gen

/-- A number times its logistic. -/
def silu (a : EReal) : EReal := a * Ideal.div 1 (1 + Ideal.exp (0 - a))

/-- The gradient: a sum over the batch. -/
def grad (x0 : FVec Ideal S8x1024 .f32) (x1 : FVec Ideal S4x8x768 .f32) (a : Fin 4) (r : Fin 1024) (l : Fin 768) : EReal :=
  ∑ b : Fin 8, silu (x0 (ix2 b r)) * (x1 (ix3 a b l) : EReal)

theorem ref_apply (x0 : FVec Ideal S8x1024 .f32) (x1 : FVec Ideal S4x8x768 .f32) (a : Fin 4) (r : Fin 1024) (l : Fin 768) :
    (Cert.AdaBwdRefIdeal.Read.val_main_v6 (F := Ideal) x0 x1 (ix3 a r l) : EReal) = grad x0 x1 a r l := by
  open Cert.AdaBwdRefIdeal.Read in
  pointwise [val_main_v6, val_main_v5, val_main_v4, val_main_v1, val_main_call0_v0, val_main_call0_v1, val_main_call0_v2, val_main_call0_v3, val_main_call0_v4, val_main_call0_v5, val_main_call0_cst, val_main_call0_cst_0]
  unfold grad silu
  refine Finset.sum_congr rfl fun b _ => ?_
  rw [zero_sub]
  exact mul_comm _ _

theorem pay1_apply (x0 : FVec Ideal S16x1024 .f32) (x1 : FVec Ideal S1x16x768 .f32) (r : Fin 1024) (l : Fin 768) :
    (k0_pay1 (F := Ideal) x0 x1 (ix3 0 r l) : EReal) = ∑ b : Fin 16, silu (x0 (ix2 b r)) * (x1 (ix3 0 b l) : EReal) := by
  pointwise [k0_pay1]
  rfl

variable (m : (ℓ : Loc nD τ sig) → Buf (Elt Ideal) ℓ)

abbrev A0 (c : Dev nD) : FVec Ideal S8x1024 .f32 := m ((c : Thread nD τ).loc main_arg0)
abbrev A1 (c : Dev nD) : FVec Ideal S4x8x768 .f32 := m ((c : Thread nD τ).loc main_arg1)

/-- The batch's vectors, padded by zero rows. -/
def C (c : Dev nD) : FVec Ideal S16x1024 .f32 := V m c main_v0

/-- The cotangents, padded by zero rows. -/
def M (c : Dev nD) : FVec Ideal S4x16x768 .f32 := V m c main_v1

theorem C_apply (c : Dev nD) (b : Fin 16) (r : Fin 1024) : (C m c (ix2 b r) : EReal) = if h : b.val < 8 then A0 m c (ix2 ⟨b.val, h⟩ r) else 0 := by
  unfold C V
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [Cert.Common.sitofp_zero]

theorem M_apply (c : Dev nD) (a : Fin 4) (b : Fin 16) (l : Fin 768) :
    (M m c (ix3 a b l) : EReal) = if h : b.val < 8 then A1 m c (ix3 a ⟨b.val, h⟩ l) else 0 := by
  unfold M V
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise
  rw [Cert.Common.sitofp_zero]

/-- The block index of every window at every grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- A grid point's layer. -/
abbrev ly (t : Fin cfg0.N) : Fin 4 := ⟨t.val, lt_of_lt_of_eq t.isLt N_0⟩

theorem blk0 (c : Dev nD) (t : Fin cfg0.N) (b : Fin 16) (r : Fin 1024) : (iblk m c 0 t : FVec Ideal S16x1024 .f32) (ix2 b r) = C m c (ix2 b r) := by
  unfold C
  blk_ext [iblk, idx t]

theorem blk1 (c : Dev nD) (t : Fin cfg0.N) (b : Fin 16) (l : Fin 768) : (iblk m c 1 t : FVec Ideal S1x16x768 .f32) (ix3 0 b l) = M m c (ix3 (ly t) b l) := by
  unfold M
  blk_ext [iblk, idx t]

theorem layer_apply (c : Dev nD) (t : Fin cfg0.N) (r : Fin 1024) (l : Fin 768) :
    (k0_pay1 (F := Ideal) (iblk m c 0 t) (iblk m c 1 t) (ix3 0 r l) : EReal) = grad (A0 m c) (A1 m c) (ly t) r l := by
  rw [pay1_apply]
  simp only [blk0, blk1]
  rw [Fin.sum_univ_two_halves 8 8 rfl fun b : Fin 16 => silu (C m c (ix2 b r)) * (M m c (ix3 (ly t) b l) : EReal)]
  refine Eq.trans (congrArg₂ (· + ·) (Finset.sum_congr rfl fun b _ => ?_) (Finset.sum_eq_zero fun b _ => ?_)) (add_zero (grad (A0 m c) (A1 m c) (ly t) r l))
  · rw [C_apply, M_apply, dif_pos b.isLt, dif_pos b.isLt]
  · rw [M_apply, dif_neg (by show ¬ (8 + b.val < 8); omega), mul_zero]

theorem final2 (c : Dev nD) : (dats m 0 c).arrAt 2 cfg0.N = (fun i => grad (A0 m c) (A1 m c) (i 0) (i 1) (i 2) : FVec Ideal S4x1024x768 .f32) := by
  refine (dats m 0 c).arrAt_eq_of_covers 2 _ (by decide +kernel) fun t hf y => ?_
  blk_simp
  rw [after0_2]
  idx_vars y
  frame_out
  rw [Fin.fin_one_eq_zero y0]
  refine (layer_apply m c t y1 y2).trans ?_
  refine congr (congr (congrArg (grad (A0 m c) (A1 m c)) (Fin.ext ?_)) (Fin.ext ?_)) (Fin.ext ?_)
  · show t.val = win0_2.index t 0 * 1 + 1 * 0
    rw [(idx t).2.2]
    show _ = t.val * 1 + 1 * 0
    omega
  · show y1.val = win0_2.index t 1 * 1024 + 1 * y1.val
    rw [(idx t).2.2]
    show _ = 0 * 1024 + 1 * y1.val
    omega
  · show y2.val = win0_2.index t 2 * 768 + 1 * y2.val
    rw [(idx t).2.2]
    show _ = 0 * 768 + 1 * y2.val
    omega

/-- The reference leaves its arguments as they were; it has no semaphore. -/
theorem frame_ref : Cert.quiescent_AdaBwdRefIdeal (hAdaBwdRefIdeal := Cert.AdaBwdRefIdeal.Gen.facts) := fun m g _ =>
  (θ_run _ _ _).mono (fun r k => ⟨fun c => (k c).2, sem_eq_zero_of_no_sems rfl _⟩) (Cert.AdaBwdRefIdeal.Value.run (F := Ideal) m g)

/-- The claim: one array that both programs end with. -/
theorem algebraic : Cert.algebraic_AdaBwdIdeal_AdaBwdRefIdeal (hAdaBwdIdeal := Cert.AdaBwdIdeal.Gen.facts) (hAdaBwdRefIdeal := Cert.AdaBwdRefIdeal.Gen.facts) := by
  intro m g m' g' _ h
  refine ⟨fun c => _, (θ_run _ _ _).mono (fun r k c => ⟨(k c).1.trans (final2 m c), (k c).2⟩) (Cert.AdaBwdIdeal.Value.run_blocks m g), ?_⟩
  refine (θ_run _ _ _).mono (fun r k c => ⟨(k c).1.trans ?_, (k c).2⟩) (Cert.AdaBwdRefIdeal.Value.run m' g')
  rw [Cert.AdaBwdRefIdeal.Read.val_main_v6_eq, (h c).1, (h c).2]
  funext y
  idx_vars y
  exact ref_apply _ _ y0 y1 y2

end Cert.AdaBwdClaim

end
-- ==== Proof.RowAcc.lean ====
/- Stores of single rows of an array: what the array holds after them, and what a load of one row reads. -/
module

public import proofs.«01_k».proof.Proof.Common

@[expose] public section

set_option maxRecDepth 16384

noncomputable section

open Idealize.ShloMosaic Idealize.ShloMosaic.TcCoe Idealize.SL.Sem

namespace Cert.RowAcc

variable {Val : EltTy → Type} [∀ e, Nonempty (Val e)] {e : EltTy} {R C : ℕ}

/-- A store of row `p` over earlier stores: that row reads it, the others read the earlier ones. -/
theorem canon_row (p : ℕ) (inb : ∀ a : Fin 2, (![p, 0] : Fin 2 → ℕ) a + (![1, C] : Fin 2 → ℕ) a ≤ (⟨2, ![R, C]⟩ : Shape).size a)
    (w : (⟨2, ![1, C]⟩ : Shape).Idx → Val e) (L : List (View.Piece Val ⟨2, ![R, C]⟩ e)) (a : Fin R) (l : Fin C) :
    View.canon (Val := Val) (s := ⟨2, ![R, C]⟩) (e := e) (⟨Rect.unit (s := ⟨2, ![R, C]⟩) ![p, 0] ![1, C] inb, w⟩ :: L) (ix2 a l)
      = if a.val = p then w (ix2 0 l) else View.canon L (ix2 a l) := by
  split
  · next ha =>
    refine Eq.trans (congrArg _ ?_) (View.canon_cons_emb (Rect.unit (s := ⟨2, ![R, C]⟩) ![p, 0] ![1, C] inb) w _ (ix2 0 l))
    funext d
    refine Fin.cases ?_ (fun d => Fin.cases ?_ (fun d => d.elim0) d) d
    · exact Fin.ext (by show a.val = p + 1 * 0; omega)
    · exact Fin.ext (by show l.val = 0 + 1 * l.val; omega)
  · next ha =>
    refine View.canon_cons_of_not_mem _ _ ?_
    rw [Rect.mem_set_unit]
    intro hm
    have h0 := hm 0
    change p ≤ a.val ∧ a.val < p + 1 at h0
    omega

/-- A store of the whole array, with nothing after it. -/
theorem canon_whole (inb' : ∀ a : Fin 2, (![0, 0] : Fin 2 → ℕ) a + (![R, C] : Fin 2 → ℕ) a ≤ (⟨2, ![R, C]⟩ : Shape).size a)
    (z : (⟨2, ![R, C]⟩ : Shape).Idx → Val e) :
    View.canon (Val := Val) [(⟨Rect.unit (s := ⟨2, ![R, C]⟩) ![0, 0] ![R, C] inb', z⟩ : View.Piece Val ⟨2, ![R, C]⟩ e)] = z :=
  View.canon_cons_unit_lit (S := ⟨2, ![R, C]⟩) inb' z [] fun a => by fin_cases a <;> rfl

/-- A load of row `p` of an array. -/
theorem ld_row (p : Fin R) (inb : ∀ a : Fin 2, (![p.val, 0] : Fin 2 → ℕ) a + (![1, C] : Fin 2 → ℕ) a ≤ (⟨2, ![R, C]⟩ : Shape).size a)
    (X : (⟨2, ![R, C]⟩ : Shape).Idx → Val e) (l : Fin C) :
    View.ld X (Rect.unit (s := ⟨2, ![R, C]⟩) ![p.val, 0] ![1, C] inb) (ix2 0 l) = X (ix2 p l) := by
  refine congrArg X ?_
  funext d
  refine Fin.cases ?_ (fun d => Fin.cases ?_ (fun d => d.elim0) d) d
  · exact Fin.ext (by show p.val + 1 * 0 = p.val; omega)
  · exact Fin.ext (by show 0 + 1 * l.val = l.val; omega)

/-- The same load read from a list of stores, one of them of the whole. -/
theorem readCov_row {sig : RefSig} {κ : Kind} {sp : Space} (v : View sig κ sp ⟨2, ![R, C]⟩ e) (p : Fin R)
    (inb : ∀ a : Fin 2, (![p.val, 0] : Fin 2 → ℕ) a + (![1, C] : Fin 2 → ℕ) a ≤ (⟨2, ![R, C]⟩ : Shape).size a)
    (inb' : ∀ a : Fin 2, (![0, 0] : Fin 2 → ℕ) a + (![R, C] : Fin 2 → ℕ) a ≤ (⟨2, ![R, C]⟩ : Shape).size a)
    (z : (⟨2, ![R, C]⟩ : Shape).Idx → Val e) (L : List (View.Piece Val ⟨2, ![R, C]⟩ e))
    (hL : (⟨Rect.unit (s := ⟨2, ![R, C]⟩) ![0, 0] ![R, C] inb', z⟩ : View.Piece Val ⟨2, ![R, C]⟩ e) ∈ L) (l : Fin C) :
    v.readCov L (Rect.unit (s := ⟨2, ![R, C]⟩) ![p.val, 0] ![1, C] inb).toLoadRect (ix2 0 l) = View.canon L (ix2 p l) := by
  rw [View.readCov_eq_canon_ld]
  · exact ld_row p inb _ l
  · intro y
    refine ⟨_, hL, ?_⟩
    rw [Rect.mem_set_unit]
    intro a
    fin_cases a
    · exact ⟨Nat.zero_le _, lt_of_lt_of_eq (Fin.isLt _) (Nat.zero_add _).symm⟩
    · exact ⟨Nat.zero_le _, lt_of_lt_of_eq (Fin.isLt _) (Nat.zero_add _).symm⟩

/-- Stores of single rows over an array of known contents. -/
theorem read_row {sig : RefSig} {κ : Kind} {sp : Space} (v : View sig κ sp ⟨2, ![R, C]⟩ e) (A) (p : ℕ)
    (inb : ∀ a : Fin 2, (![p, 0] : Fin 2 → ℕ) a + (![1, C] : Fin 2 → ℕ) a ≤ (⟨2, ![R, C]⟩ : Shape).size a)
    (w : (⟨2, ![1, C]⟩ : Shape).Idx → Val e) (L : List (View.Piece Val ⟨2, ![R, C]⟩ e)) (a : Fin R) (l : Fin C) :
    View.read Val v (v.writes Val A (⟨Rect.unit (s := ⟨2, ![R, C]⟩) ![p, 0] ![1, C] inb, w⟩ :: L)) (ix2 a l)
      = if a.val = p then w (ix2 0 l) else View.read Val v (v.writes Val A L) (ix2 a l) := by
  split
  · next ha => exact View.read_writes_cons_rows_of_mem (o := p) (off := ![p, 0]) (size := ![1, C]) _ _ _ _ _ (ix2 a l) (ix2 0 l) rfl (by show a.val = p + 0; omega) rfl
  · next ha => exact View.read_writes_cons_rows_of_not_mem _ _ _ _ _ _ rfl rfl (by show a.val < p ∨ p + 1 ≤ a.val; omega)

end Cert.RowAcc

end
-- ==== Proof.BwdInValue.lean ====
/- The values of the call that differentiates the input product, the modulation and the norm before it: what its grid leaves. -/
module

public import proofs.«01_k».proof.Proof.Gen.BwdInIdeal.Value
public import proofs.«01_k».proof.Proof.RmsNorm
public import proofs.«01_k».proof.Proof.RowAcc

@[expose] public section

set_option maxRecDepth 16384

noncomputable section

open Idealize.ShloMosaic Idealize.ShloMosaic.TcCoe Idealize.SL.Sem
open Idealize.ShloMosaic.Pipeline (Dat)

namespace Cert.BwdInIdeal.Hand

open Cert.BwdInIdeal Cert.BwdInIdeal.Gen
open Cert.RmsNorm (row upTo upTo_zero upTo_succ upTo_eight)

/-! ## The quantities, of whole arrays -/

section Defs

variable {R : ℕ} (z : Fin R → Fin 3072 → EReal) (w : Fin 1024 → Fin 3072 → EReal) (x : FVec Ideal ⟨2, ![R, 1024]⟩ .f32)
variable (g s : FVec Ideal S1x1024 .f32)

/-- The cotangent of the modulated row. -/
def dh (r : Fin R) (l : Fin 1024) : EReal := ∑ j, z r j * w l j

/-- The norm's factor of a row. -/
def fac (r : Fin R) : EReal :=
  Ideal.rsqrt (Ideal.div (∑ k : Fin 1024, (x (ix2 r k) : EReal) * (x (ix2 r k) : EReal)) (Ideal.ofBits FTy.f32 1149239296#32) + Ideal.ofBits FTy.f32 897988541#32)

/-- The normed row, before the weight. -/
def xh (r : Fin R) (l : Fin 1024) : EReal := (x (ix2 r l) : EReal) * fac x r

/-- The modulation's factor. -/
def mod (l : Fin 1024) : EReal := 1 + (s (ix2 0 l) : EReal)

/-- The cotangent of the normed row. -/
def un (r : Fin R) (l : Fin 1024) : EReal := dh z w r l * ((g (ix2 0 l) : EReal) * mod s l)

/-- The gradient of the row. -/
def dx (r : Fin R) (l : Fin 1024) : EReal :=
  fac x r * (un z w g s r l - xh x r l * Ideal.div (∑ k, un z w g s r k * xh x r k) (Ideal.ofBits FTy.f32 1149239296#32))

/-- One row's part of the scale's gradient. -/
def ds (l : Fin 1024) (r : Fin R) : EReal := dh z w r l * xh x r l * (g (ix2 0 l) : EReal)

/-- One row's part of the weight's gradient. -/
def dg (l : Fin 1024) (r : Fin R) : EReal := dh z w r l * xh x r l * mod s l

end Defs

/-! ## What one grid point computes -/

section Pay

variable (z : FVec Ideal S512x3072 .bf16) (w : FVec Ideal S1x1024x3072 .bf16) (x : FVec Ideal S512x1024 .f32) (g s : FVec Ideal S1x1024 .f32)

abbrev zz : Fin 512 → Fin 3072 → EReal := fun r j => z (ix2 r j)
abbrev ww : Fin 1024 → Fin 3072 → EReal := fun l j => w (ix3 0 l j)

theorem pay5_apply (r : Fin 512) (l : Fin 1024) : (k0_pay5 (F := Ideal) z w (ix2 r l) : EReal) = dh (zz z) (ww w) r l := by
  pointwise [k0_pay5]
  rfl

theorem pay6_apply (l : Fin 1024) : (k0_pay6 (F := Ideal) g (ix2 0 l) : EReal) = g (ix2 0 l) := by
  pointwise [k0_pay6]

theorem pay7_apply (l : Fin 1024) : (k0_pay7 (F := Ideal) s (ix2 0 l) : EReal) = mod s l := by
  pointwise [k0_pay7]
  rfl

theorem pay8_apply (r : Fin 512) : (k0_pay8 (F := Ideal) x (ix2 r 0) : EReal) = fac x r := by
  pointwise [k0_pay8]
  rfl

theorem pay9_apply (r : Fin 512) (l : Fin 1024) : (k0_pay9 (F := Ideal) x (ix2 r l) : EReal) = xh x r l := by
  pointwise [k0_pay9]
  rw [pay8_apply]
  rfl

theorem pay10_apply (r : Fin 512) (l : Fin 1024) : (k0_pay10 (F := Ideal) z w x (ix2 r l) : EReal) = dh (zz z) (ww w) r l * xh x r l := by
  pointwise [k0_pay10]
  rw [pay5_apply, pay9_apply]

theorem pay11_apply (a : FVec Ideal S1x1024 .f32) (l : Fin 1024) :
    (k0_pay11 (F := Ideal) z w a (ix2 0 l) : EReal) = a (ix2 0 l) + ∑ r, dh (zz z) (ww w) r l := by
  pointwise [k0_pay11]
  simp only [pay5_apply]

theorem pay1_apply (a : FVec Ideal S1x1024 .f32) (l : Fin 1024) :
    (k0_pay1 (F := Ideal) (k0_pay6 g) (k0_pay10 z w x) a (ix2 0 l) : EReal) = a (ix2 0 l) + ∑ r, ds (zz z) (ww w) x g l r := by
  pointwise [k0_pay1]
  simp only [pay6_apply, pay10_apply]
  rfl

theorem pay2_apply (a : FVec Ideal S1x1024 .f32) (l : Fin 1024) :
    (k0_pay2 (F := Ideal) (k0_pay7 s) (k0_pay10 z w x) a (ix2 0 l) : EReal) = a (ix2 0 l) + ∑ r, dg (zz z) (ww w) x s l r := by
  pointwise [k0_pay2]
  simp only [pay7_apply, pay10_apply]
  rfl

theorem pay3_apply (y : FVec Ideal S512x1024 .f32) (r : Fin 512) (l : Fin 1024) :
    (k0_pay3 (F := Ideal) (k0_pay5 z w) (k0_pay6 g) (k0_pay7 s) (k0_pay8 x) (k0_pay9 x) y (ix2 r l) : EReal)
      = y (ix2 r l) + dx (zz z) (ww w) x g s r l := by
  pointwise [k0_pay3]
  simp only [pay5_apply, pay6_apply, pay7_apply, pay8_apply, pay9_apply]
  rfl

theorem pay4_apply (a : Fin 8) (l : Fin 1024) : (k0_pay4 (F := Ideal) (ix2 a l) : EReal) = 0 := by
  pointwise [k0_pay4]

end Pay

/-! ## The arrays the launch reads -/

variable (m : (ℓ : Loc nD τ sig) → Buf (Elt Ideal) ℓ)

abbrev A0 (c : Dev nD) : FVec Ideal S4096x2984 .f32 := m ((c : Thread nD τ).loc main_arg0)
abbrev A1 (c : Dev nD) : FVec Ideal S1024x2984 .f32 := m ((c : Thread nD τ).loc main_arg1)
abbrev A2 (c : Dev nD) : FVec Ideal S4096x1024 .f32 := m ((c : Thread nD τ).loc main_arg2)
abbrev A3 (c : Dev nD) : FVec Ideal S4096x1024 .f32 := m ((c : Thread nD τ).loc main_arg3)
abbrev A4 (c : Dev nD) : FVec Ideal S1024 .f32 := m ((c : Thread nD τ).loc main_arg4)
abbrev A5 (c : Dev nD) : FVec Ideal S1024 .f32 := m ((c : Thread nD τ).loc main_arg5)

def Z (c : Dev nD) : FVec Ideal S4096x3072 .bf16 := V m c main_v13
def W (c : Dev nD) : FVec Ideal S1x1024x3072 .bf16 := V m c main_v28
def G (c : Dev nD) : FVec Ideal S1x1024 .f32 := V m c main_v29
def Sc (c : Dev nD) : FVec Ideal S1x1024 .f32 := V m c main_v30

/-- A row in the packed order of columns, from a row in the reference's order. -/
def pk (f : ℕ → EReal) (j : ℕ) : EReal :=
  if j < 1536 then f j else if j < 2048 then f (j + 8) else if j < 2560 then f (j + 424) else if j < 2944 then f (j - 504)
  else if j < 2952 then f (j - 1408) else if j < 3008 then 0 else if j < 3040 then f (j - 568) else 0

theorem pk_0 (f : ℕ → EReal) (j : ℕ) (h : j < 1536) : pk f j = f j := if_pos h

theorem pk_1 (f : ℕ → EReal) (j : ℕ) (h : 1536 ≤ j) (h' : j < 2048) : pk f j = f (j + 8) := by
  unfold pk
  rw [if_neg (by omega), if_pos h']

theorem pk_2 (f : ℕ → EReal) (j : ℕ) (h : 2048 ≤ j) (h' : j < 2560) : pk f j = f (j + 424) := by
  unfold pk
  rw [if_neg (by omega), if_neg (by omega), if_pos h']

theorem pk_3 (f : ℕ → EReal) (j : ℕ) (h : 2560 ≤ j) (h' : j < 2944) : pk f j = f (j - 504) := by
  unfold pk
  rw [if_neg (by omega), if_neg (by omega), if_neg (by omega), if_pos h']

/-- The last 128 packed columns, piece by piece. -/
theorem misc_cases (f : Fin 2984 → EReal) (j : Fin 128) :
    (if h : j.val < 8 then f ⟨1536 + j.val, by omega⟩ else if h : j.val - 8 < 56 then 0
      else if h : j.val - 8 - 56 < 32 then f ⟨2440 + (j.val - 8 - 56), by omega⟩ else 0) = pk (Cert.Common.ext f) (2944 + j.val) := by
  have e (n k : ℕ) (h : n < 2984) (hk : n = k) : f ⟨n, h⟩ = Cert.Common.ext f k := hk ▸ (Cert.Common.ext_val f ⟨n, h⟩).symm
  unfold pk
  split_ifs <;> first | omega | rfl | (refine e _ _ _ ?_; omega)

/-- All packed columns, piece by piece. -/
theorem pack_cases (f : Fin 2984 → EReal) (p0 p1 p2 p3 p4 : Fin 512 → EReal) (p5 : Fin 256 → EReal) (p6 p7 : Fin 128 → EReal)
    (h0 : ∀ i : Fin 512, p0 i = f ⟨i.val, by omega⟩) (h1 : ∀ i : Fin 512, p1 i = f ⟨512 + i.val, by omega⟩) (h2 : ∀ i : Fin 512, p2 i = f ⟨1024 + i.val, by omega⟩)
    (h3 : ∀ i : Fin 512, p3 i = f ⟨1544 + i.val, by omega⟩) (h4 : ∀ i : Fin 512, p4 i = f ⟨2472 + i.val, by omega⟩)
    (h5 : ∀ i : Fin 256, p5 i = f ⟨2056 + i.val, by omega⟩) (h6 : ∀ i : Fin 128, p6 i = f ⟨2312 + i.val, by omega⟩)
    (h7 : ∀ i : Fin 128, p7 i = pk (Cert.Common.ext f) (2944 + i.val)) (j : Fin 3072) :
    (if h : j.val < 512 then p0 ⟨j.val, h⟩ else if h : j.val - 512 < 512 then p1 ⟨j.val - 512, h⟩
      else if h : j.val - 512 - 512 < 512 then p2 ⟨j.val - 512 - 512, h⟩ else if h : j.val - 512 - 512 - 512 < 512 then p3 ⟨j.val - 512 - 512 - 512, h⟩
      else if h : j.val - 512 - 512 - 512 - 512 < 512 then p4 ⟨j.val - 512 - 512 - 512 - 512, h⟩
      else if h : j.val - 512 - 512 - 512 - 512 - 512 < 256 then p5 ⟨j.val - 512 - 512 - 512 - 512 - 512, h⟩
      else if h : j.val - 512 - 512 - 512 - 512 - 512 - 256 < 128 then p6 ⟨j.val - 512 - 512 - 512 - 512 - 512 - 256, h⟩
      else p7 ⟨j.val - 512 - 512 - 512 - 512 - 512 - 256 - 128, by omega⟩) = pk (Cert.Common.ext f) j.val := by
  have e (n k : ℕ) (h : n < 2984) (hk : n = k) : f ⟨n, h⟩ = Cert.Common.ext f k := hk ▸ (Cert.Common.ext_val f ⟨n, h⟩).symm
  rcases Nat.lt_or_ge j.val 512 with a | a
  · rw [dif_pos a, h0, pk_0 _ _ (by omega)]
    exact e _ _ _ rfl
  rw [dif_neg (by omega)]
  rcases Nat.lt_or_ge j.val 1024 with a | a
  · rw [dif_pos (by omega), h1, pk_0 _ _ (by omega)]
    exact e _ _ _ (by dsimp only; omega)
  rw [dif_neg (by omega)]
  rcases Nat.lt_or_ge j.val 1536 with a | a
  · rw [dif_pos (by omega), h2, pk_0 _ _ (by omega)]
    exact e _ _ _ (by dsimp only; omega)
  rw [dif_neg (by omega)]
  rcases Nat.lt_or_ge j.val 2048 with a | a
  · rw [dif_pos (by omega), h3, pk_1 _ _ (by omega) (by omega)]
    exact e _ _ _ (by dsimp only; omega)
  rw [dif_neg (by omega)]
  rcases Nat.lt_or_ge j.val 2560 with a | a
  · rw [dif_pos (by omega), h4, pk_2 _ _ (by omega) (by omega)]
    exact e _ _ _ (by dsimp only; omega)
  rw [dif_neg (by omega)]
  rcases Nat.lt_or_ge j.val 2816 with a | a
  · rw [dif_pos (by omega), h5, pk_3 _ _ (by omega) (by omega)]
    exact e _ _ _ (by dsimp only; omega)
  rw [dif_neg (by omega)]
  rcases Nat.lt_or_ge j.val 2944 with a | a
  · rw [dif_pos (by omega), h6, pk_3 _ _ (by omega) (by omega)]
    exact e _ _ _ (by dsimp only; omega)
  rw [dif_neg (by omega)]
  rw [h7]
  congr 1
  show 2944 + (j.val - 512 - 512 - 512 - 512 - 512 - 256 - 128) = j.val
  omega

theorem Z_misc (c : Dev nD) (r : Fin 4096) (j : Fin 128) :
    ((V m c main_v11 : FVec Ideal S4096x128 .f32) (ix2 r j) : EReal) = pk (Cert.Common.ext fun i : Fin 2984 => A0 m c (ix2 r i)) (2944 + j.val) := by
  unfold V
  after_reads_simp
  pointwise
  after_reads_simp
  pointwise
  exact misc_cases (fun i : Fin 2984 => A0 m c (ix2 r i)) j

set_option maxHeartbeats 1000000 in
theorem Z_apply (c : Dev nD) (r : Fin 4096) (j : Fin 3072) : (Z m c (ix2 r j) : EReal) = pk (Cert.Common.ext fun i : Fin 2984 => A0 m c (ix2 r i)) j.val := by
  unfold Z V
  after_reads_simp
  pointwise
  refine pack_cases (fun i : Fin 2984 => A0 m c (ix2 r i))
    (fun i => StableHlo.upto hostOps0 (fun b => m (c, b)) 14 (Proc.tc.devRef main_v0) (ix2 r i))
    (fun i => StableHlo.upto hostOps0 (fun b => m (c, b)) 14 (Proc.tc.devRef main_v1) (ix2 r i))
    (fun i => StableHlo.upto hostOps0 (fun b => m (c, b)) 14 (Proc.tc.devRef main_v2) (ix2 r i))
    (fun i => StableHlo.upto hostOps0 (fun b => m (c, b)) 14 (Proc.tc.devRef main_v4) (ix2 r i))
    (fun i => StableHlo.upto hostOps0 (fun b => m (c, b)) 14 (Proc.tc.devRef main_v8) (ix2 r i))
    (fun i => StableHlo.upto hostOps0 (fun b => m (c, b)) 14 (Proc.tc.devRef main_v5) (ix2 r i))
    (fun i => StableHlo.upto hostOps0 (fun b => m (c, b)) 14 (Proc.tc.devRef main_v6) (ix2 r i))
    (fun i => StableHlo.upto hostOps0 (fun b => m (c, b)) 14 (Proc.tc.devRef main_v11) (ix2 r i)) ?_ ?_ ?_ ?_ ?_ ?_ ?_ ?_ j
  on_goal 8 =>
    intro i
    refine Eq.trans ?_ (Z_misc m c r i)
    unfold V
    after_reads_simp
  all_goals
    intro i
    after_reads_simp
    pointwise

theorem W_misc (c : Dev nD) (l : Fin 1024) (j : Fin 128) :
    ((V m c main_v25 : FVec Ideal S1024x128 .f32) (ix2 l j) : EReal) = pk (Cert.Common.ext fun i : Fin 2984 => A1 m c (ix2 l i)) (2944 + j.val) := by
  unfold V
  after_reads_simp
  pointwise
  after_reads_simp
  pointwise
  exact misc_cases (fun i : Fin 2984 => A1 m c (ix2 l i)) j

set_option maxHeartbeats 1000000 in
theorem W_apply (c : Dev nD) (l : Fin 1024) (j : Fin 3072) : (W m c (ix3 0 l j) : EReal) = pk (Cert.Common.ext fun i : Fin 2984 => A1 m c (ix2 l i)) j.val := by
  unfold W V
  after_reads_simp
  pointwise
  refine pack_cases (fun i : Fin 2984 => A1 m c (ix2 l i))
    (fun i => StableHlo.upto hostOps0 (fun b => m (c, b)) 30 (Proc.tc.devRef main_v14) (ix2 l i))
    (fun i => StableHlo.upto hostOps0 (fun b => m (c, b)) 30 (Proc.tc.devRef main_v15) (ix2 l i))
    (fun i => StableHlo.upto hostOps0 (fun b => m (c, b)) 30 (Proc.tc.devRef main_v16) (ix2 l i))
    (fun i => StableHlo.upto hostOps0 (fun b => m (c, b)) 30 (Proc.tc.devRef main_v18) (ix2 l i))
    (fun i => StableHlo.upto hostOps0 (fun b => m (c, b)) 30 (Proc.tc.devRef main_v22) (ix2 l i))
    (fun i => StableHlo.upto hostOps0 (fun b => m (c, b)) 30 (Proc.tc.devRef main_v19) (ix2 l i))
    (fun i => StableHlo.upto hostOps0 (fun b => m (c, b)) 30 (Proc.tc.devRef main_v20) (ix2 l i))
    (fun i => StableHlo.upto hostOps0 (fun b => m (c, b)) 30 (Proc.tc.devRef main_v25) (ix2 l i)) ?_ ?_ ?_ ?_ ?_ ?_ ?_ ?_ j
  on_goal 8 =>
    intro i
    refine Eq.trans ?_ (W_misc m c l i)
    unfold V
    after_reads_simp
  all_goals
    intro i
    after_reads_simp
    pointwise

theorem G_apply (c : Dev nD) (l : Fin 1024) : (G m c (ix2 0 l) : EReal) = A4 m c (ix1 l) := by
  unfold G V
  after_reads_simp
  pointwise

theorem Sc_apply (c : Dev nD) (l : Fin 1024) : (Sc m c (ix2 0 l) : EReal) = A5 m c (ix1 l) := by
  unfold Sc V
  after_reads_simp
  pointwise

theorem pk_mul (f g : ℕ → EReal) (j : ℕ) : pk f j * pk g j = pk (fun i => f i * g i) j := by
  unfold pk
  split_ifs <;> simp

theorem sum_pk (f : ℕ → EReal) : ∑ j ∈ Finset.range 3072, pk f j = ∑ j ∈ Finset.range 2984, f j := by
  rw [show (3072 : ℕ) = 1536 + 512 + 512 + 256 + 128 + 8 + 56 + 32 + 32 from rfl, show (2984 : ℕ) = 1536 + 8 + 512 + 256 + 128 + 32 + 512 from rfl]
  simp only [Finset.sum_range_add]
  have e0 : ∑ x ∈ Finset.range 1536, pk f x = ∑ x ∈ Finset.range 1536, f x :=
    Finset.sum_congr rfl fun x hx => if_pos (Finset.mem_range.1 hx)
  have e (n a b : ℕ) (h : ∀ x < n, pk f (a + x) = f (b + x)) : ∑ x ∈ Finset.range n, pk f (a + x) = ∑ x ∈ Finset.range n, f (b + x) :=
    Finset.sum_congr rfl fun x hx => h x (Finset.mem_range.1 hx)
  have e' (n a : ℕ) (h : ∀ x < n, pk f (a + x) = 0) : ∑ x ∈ Finset.range n, pk f (a + x) = 0 :=
    Finset.sum_eq_zero fun x hx => h x (Finset.mem_range.1 hx)
  rw [e0, e 512 _ (1536 + 8), e 512 _ (1536 + 8 + 512 + 256 + 128 + 32), e 256 _ (1536 + 8 + 512), e 128 _ (1536 + 8 + 512 + 256), e 8 _ 1536,
    e' 56, e 32 _ (1536 + 8 + 512 + 256 + 128), e' 32]
  · rw [add_zero, add_zero]
    ac_rfl
  all_goals
    intro x hx
    unfold pk
    split_ifs <;> first | rfl | omega | (congr 1; omega)

/-- The packed product is the plain one. -/
theorem dh_eq (c : Dev nD) (r : Fin 4096) (l : Fin 1024) :
    dh (fun r j => Z m c (ix2 r j)) (fun l j => W m c (ix3 0 l j)) r l = ∑ i : Fin 2984, (A0 m c (ix2 r i) : EReal) * (A1 m c (ix2 l i) : EReal) := by
  unfold dh
  refine Eq.trans (Finset.sum_congr rfl fun j _ => ?_) (Eq.trans (Fin.sum_univ_eq_sum_range (fun n => pk (fun i => Cert.Common.ext (fun i : Fin 2984 => A0 m c (ix2 r i)) i
    * Cert.Common.ext (fun i : Fin 2984 => A1 m c (ix2 l i)) i) n) 3072) ((sum_pk _).trans ?_))
  · exact (congrArg₂ (fun a b : EReal => a * b) (Z_apply m c r j) (W_apply m c l j)).trans (pk_mul _ _ _)
  · rw [← Fin.sum_univ_eq_sum_range (fun i => Cert.Common.ext (fun i : Fin 2984 => A0 m c (ix2 r i)) i * Cert.Common.ext (fun i : Fin 2984 => A1 m c (ix2 l i)) i) 2984]
    refine Finset.sum_congr rfl fun i _ => ?_
    rw [Cert.Common.ext_val, Cert.Common.ext_val]

/-! ## The blocks -/

abbrev ZZ (c : Dev nD) : Fin 4096 → Fin 3072 → EReal := fun r j => Z m c (ix2 r j)
abbrev WW (c : Dev nD) : Fin 1024 → Fin 3072 → EReal := fun l j => W m c (ix3 0 l j)

/-- The block index of every window at every grid point. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0] ∧ win0_7.index t = ![0, 0] :=
  (by decide +kernel : ∀ t : Fin grid0.N, _)

/-- A grid point's tile. -/
abbrev tl (t : Fin cfg0.N) : Fin 8 := ⟨t.val, lt_of_lt_of_eq t.isLt N_0⟩

theorem blk0 (c : Dev nD) (t : Fin cfg0.N) (r : Fin 512) (j : Fin 3072) :
    (iblk m c 0 t : FVec Ideal S512x3072 .bf16) (ix2 r j) = Z m c (ix2 (row (tl t) r) j) := by
  unfold Z
  blk_ext [iblk, idx t]

theorem blk1 (c : Dev nD) (t : Fin cfg0.N) (l : Fin 1024) (j : Fin 3072) :
    (iblk m c 1 t : FVec Ideal S1x1024x3072 .bf16) (ix3 0 l j) = W m c (ix3 0 l j) := by
  unfold W
  blk_ext [iblk, idx t]

theorem blk2 (c : Dev nD) (t : Fin cfg0.N) (r : Fin 512) (l : Fin 1024) :
    (iblk m c 2 t : FVec Ideal S512x1024 .f32) (ix2 r l) = A2 m c (ix2 (row (tl t) r) l) := by
  rw [show A2 m c = V m c main_arg2 from (V_main_arg2 m c).symm]
  blk_ext [iblk, idx t]

theorem blk3 (c : Dev nD) (t : Fin cfg0.N) (r : Fin 512) (l : Fin 1024) :
    (iblk m c 3 t : FVec Ideal S512x1024 .f32) (ix2 r l) = A3 m c (ix2 (row (tl t) r) l) := by
  rw [show A3 m c = V m c main_arg3 from (V_main_arg3 m c).symm]
  blk_ext [iblk, idx t]

theorem blk4 (c : Dev nD) (t : Fin cfg0.N) (l : Fin 1024) : (iblk m c 4 t : FVec Ideal S1x1024 .f32) (ix2 0 l) = G m c (ix2 0 l) := by
  unfold G
  blk_ext [iblk, idx t]

theorem blk5 (c : Dev nD) (t : Fin cfg0.N) (l : Fin 1024) : (iblk m c 5 t : FVec Ideal S1x1024 .f32) (ix2 0 l) = Sc m c (ix2 0 l) := by
  unfold Sc
  blk_ext [iblk, idx t]

theorem fac_blk (c : Dev nD) (t : Fin cfg0.N) (r : Fin 512) : fac (R := 512) (iblk m c 2 t) r = fac (A2 m c) (row (tl t) r) := by
  unfold fac
  simp only [blk2]

theorem xh_blk (c : Dev nD) (t : Fin cfg0.N) (r : Fin 512) (l : Fin 1024) : xh (R := 512) (iblk m c 2 t) r l = xh (A2 m c) (row (tl t) r) l := by
  unfold xh
  rw [fac_blk, blk2]

theorem mod_blk (c : Dev nD) (t : Fin cfg0.N) (l : Fin 1024) : mod (iblk m c 5 t) l = mod (Sc m c) l := by
  unfold mod
  rw [blk5]

theorem dh_blk (c : Dev nD) (t : Fin cfg0.N) (r : Fin 512) (l : Fin 1024) :
    dh (zz (iblk m c 0 t)) (ww (iblk m c 1 t)) r l = dh (ZZ m c) (WW m c) (row (tl t) r) l := by
  unfold dh
  exact Finset.sum_congr rfl fun j _ => congrArg₂ (fun a b : EReal => a * b) (blk0 m c t r j) (blk1 m c t l j)

theorem un_blk (c : Dev nD) (t : Fin cfg0.N) (r : Fin 512) (l : Fin 1024) :
    un (zz (iblk m c 0 t)) (ww (iblk m c 1 t)) (iblk m c 4 t) (iblk m c 5 t) r l = un (ZZ m c) (WW m c) (G m c) (Sc m c) (row (tl t) r) l := by
  unfold un
  rw [dh_blk, blk4, mod_blk]

theorem dx_blk (c : Dev nD) (t : Fin cfg0.N) (r : Fin 512) (l : Fin 1024) :
    dx (zz (iblk m c 0 t)) (ww (iblk m c 1 t)) (iblk m c 2 t) (iblk m c 4 t) (iblk m c 5 t) r l
      = dx (ZZ m c) (WW m c) (A2 m c) (G m c) (Sc m c) (row (tl t) r) l := by
  unfold dx
  simp only [fac_blk, xh_blk, un_blk]

/-! ## What each grid point leaves -/

/-- The three rows of sums. -/
def sums (c : Dev nD) (a : Fin 8) (l : Fin 1024) (t : ℕ) : EReal :=
  if a.val = 2 then upTo (dg (ZZ m c) (WW m c) (A2 m c) (Sc m c) l) t
  else if a.val = 1 then upTo (ds (ZZ m c) (WW m c) (A2 m c) (G m c) l) t
  else if a.val = 0 then upTo (fun r => dh (ZZ m c) (WW m c) r l) t else 0

/-- The state after point `n`. -/
def Inv (c : Dev nD) (t : Fin 8) (o : Vec Ideal S512x1024 .f32 × Vec Ideal S8x1024 .f32) : Prop :=
  (∀ r l, (o.1 (ix2 r l) : EReal) = (A3 m c (ix2 (row t r) l) : EReal) + dx (ZZ m c) (WW m c) (A2 m c) (G m c) (Sc m c) (row t r) l)
    ∧ (∀ (a : Fin 8) (l : Fin 1024), o.2 (ix2 a l) = sums m c a l (t.val + 1))

theorem acc0 (c : Dev nD) (t : Fin cfg0.N) (a : FVec Ideal S1x1024 .f32) (l : Fin 1024) (ha : a (ix2 0 l) = upTo (fun r => dh (ZZ m c) (WW m c) r l) t.val) :
    (k0_pay11 (F := Ideal) (iblk m c 0 t) (iblk m c 1 t) a (ix2 0 l) : EReal) = upTo (fun r => dh (ZZ m c) (WW m c) r l) (t.val + 1) := by
  rw [pay11_apply, ha]
  refine Eq.trans ?_ (upTo_succ _ (tl t))
  refine congrArg (fun z : EReal => upTo (fun r => dh (ZZ m c) (WW m c) r l) t.val + z) (Finset.sum_congr rfl fun r _ => ?_)
  exact dh_blk m c t r l

theorem acc1 (c : Dev nD) (t : Fin cfg0.N) (a : FVec Ideal S1x1024 .f32) (l : Fin 1024) (ha : a (ix2 0 l) = upTo (ds (ZZ m c) (WW m c) (A2 m c) (G m c) l) t.val) :
    (k0_pay1 (F := Ideal) (k0_pay6 (iblk m c 4 t)) (k0_pay10 (iblk m c 0 t) (iblk m c 1 t) (iblk m c 2 t)) a (ix2 0 l) : EReal)
      = upTo (ds (ZZ m c) (WW m c) (A2 m c) (G m c) l) (t.val + 1) := by
  rw [pay1_apply, ha]
  refine Eq.trans ?_ (upTo_succ _ (tl t))
  refine congrArg (fun z : EReal => upTo (ds (ZZ m c) (WW m c) (A2 m c) (G m c) l) t.val + z) (Finset.sum_congr rfl fun r _ => ?_)
  unfold ds
  rw [dh_blk, xh_blk, blk4]

theorem acc2 (c : Dev nD) (t : Fin cfg0.N) (a : FVec Ideal S1x1024 .f32) (l : Fin 1024) (ha : a (ix2 0 l) = upTo (dg (ZZ m c) (WW m c) (A2 m c) (Sc m c) l) t.val) :
    (k0_pay2 (F := Ideal) (k0_pay7 (iblk m c 5 t)) (k0_pay10 (iblk m c 0 t) (iblk m c 1 t) (iblk m c 2 t)) a (ix2 0 l) : EReal)
      = upTo (dg (ZZ m c) (WW m c) (A2 m c) (Sc m c) l) (t.val + 1) := by
  rw [pay2_apply, ha]
  refine Eq.trans ?_ (upTo_succ _ (tl t))
  refine congrArg (fun z : EReal => upTo (dg (ZZ m c) (WW m c) (A2 m c) (Sc m c) l) t.val + z) (Finset.sum_congr rfl fun r _ => ?_)
  unfold dg
  rw [dh_blk, xh_blk, mod_blk]

theorem inv_A (c : Dev nD) (t : Fin cfg0.N) (h : t.val % 8 = 0) : Inv m c (tl t) (outsAt0 m c t.val t.isLt) := by
  have hN : t.val < 8 := lt_of_lt_of_eq t.isLt N_0
  have h0 : t.val = 0 := by omega
  unfold Inv
  rw [outsAt0_A m c t h]
  frame_out
  refine ⟨fun r l => ?_, fun a l => ?_⟩
  · rw [pay3_apply, blk3, dx_blk]
  · unfold sums
    refine (RowAcc.canon_row 2 _ _ _ a l).trans ?_
    split
    · refine acc2 m c t _ l ?_
      rw [h0]
      refine (RowAcc.readCov_row _ 2 _ _ _ _ (List.mem_cons_of_mem _ (List.mem_cons_of_mem _ List.mem_cons_self)) l).trans ?_
      refine (RowAcc.canon_row 1 _ _ _ _ l).trans ((if_neg (by decide)).trans ((RowAcc.canon_row 0 _ _ _ _ l).trans ((if_neg (by decide)).trans ?_)))
      exact (congrFun (RowAcc.canon_whole _ _) _).trans (pay4_apply _ l)
    refine (RowAcc.canon_row 1 _ _ _ a l).trans ?_
    split
    · refine acc1 m c t _ l ?_
      rw [h0]
      refine (RowAcc.readCov_row _ 1 _ _ _ _ (List.mem_cons_of_mem _ List.mem_cons_self) l).trans ?_
      refine (RowAcc.canon_row 0 _ _ _ _ l).trans ((if_neg (by decide)).trans ?_)
      exact (congrFun (RowAcc.canon_whole _ _) _).trans (pay4_apply _ l)
    refine (RowAcc.canon_row 0 _ _ _ a l).trans ?_
    split
    · refine acc0 m c t _ l ?_
      rw [h0]
      refine (RowAcc.readCov_row _ 0 _ _ _ _ List.mem_cons_self l).trans ?_
      exact (congrFun (RowAcc.canon_whole _ _) _).trans (pay4_apply _ l)
    · exact (congrFun (RowAcc.canon_whole _ _) _).trans (pay4_apply a l)

theorem inv_B (c : Dev nD) (t : Fin cfg0.N) (h : ¬ t.val % 8 = 0)
    (ih : Inv m c ⟨t.val - 1, by have := lt_of_lt_of_eq t.isLt N_0; omega⟩ (outsAt0 m c (t.val - 1) (Nat.lt_of_le_of_lt (Nat.sub_le _ _) t.isLt))) :
    Inv m c (tl t) (outsAt0 m c t.val t.isLt) := by
  have hN : t.val < 8 := lt_of_lt_of_eq t.isLt N_0
  have h0 : t.val - 1 + 1 = t.val := by omega
  obtain ⟨ih0, ih1⟩ := ih
  dsimp only at ih0 ih1
  rw [h0] at ih1
  unfold Inv
  rw [outsAt0_B m c t h]
  frame_out
  refine ⟨fun r l => ?_, fun a l => ?_⟩
  · rw [pay3_apply, blk3, dx_blk]
  · unfold sums
    refine (RowAcc.read_row _ _ 2 _ _ _ a l).trans ?_
    split
    · exact acc2 m c t _ l ((RowAcc.ld_row 2 _ _ l).trans (ih1 2 l))
    refine (RowAcc.read_row _ _ 1 _ _ _ a l).trans ?_
    split
    · exact acc1 m c t _ l ((RowAcc.ld_row 1 _ _ l).trans (ih1 1 l))
    refine (RowAcc.read_row _ _ 0 _ _ _ a l).trans ?_
    split
    · exact acc0 m c t _ l ((RowAcc.ld_row 0 _ _ l).trans (ih1 0 l))
    · next h2 h1 h0 =>
      refine (congrFun (Memref.IsWhole.read_unread _ _) _).trans ?_
      exact (ih1 a l).trans ((if_neg h2).trans ((if_neg h1).trans (if_neg h0)))

theorem inv (c : Dev nD) : ∀ (n : ℕ) (hn : n < cfg0.N), Inv m c (tl ⟨n, hn⟩) (outsAt0 m c n hn) := by
  intro n
  induction n with
  | zero => exact fun hn => inv_A m c ⟨0, hn⟩ rfl
  | succ n ih =>
    intro hn
    have hN : n + 1 < 8 := lt_of_lt_of_eq hn N_0
    exact inv_B m c ⟨n + 1, hn⟩ (by show ¬ (n + 1) % 8 = 0; omega) (ih _)

/-! ## The result arrays -/

theorem final6 (c : Dev nD) : (dats m 0 c).arrAt 6 cfg0.N
    = (fun i => (A3 m c (ix2 (i 0) (i 1)) : EReal) + dx (ZZ m c) (WW m c) (A2 m c) (G m c) (Sc m c) (i 0) (i 1) : FVec Ideal S4096x1024 .f32) := by
  refine (dats m 0 c).arrAt_eq_of_covers 6 _ (by decide +kernel) fun t hf y => ?_
  blk_simp
  rw [after0_6]
  idx_vars y
  refine ((inv m c t.val t.isLt).1 y0 y1).trans ?_
  refine congrArg₂ (fun i j => (A3 m c (ix2 i j) : EReal) + dx (ZZ m c) (WW m c) (A2 m c) (G m c) (Sc m c) i j) (Fin.ext ?_) (Fin.ext ?_)
  · show 512 * t.val + y0.val = win0_6.index t 0 * 512 + 1 * y0.val
    rw [(idx t).2.2.2.2.2.2.1]
    show _ = t.val * 512 + 1 * y0.val
    omega
  · show y1.val = win0_6.index t 1 * 1024 + 1 * y1.val
    rw [(idx t).2.2.2.2.2.2.1]
    show _ = 0 * 1024 + 1 * y1.val
    omega

theorem final7 (c : Dev nD) : (dats m 0 c).arrAt 7 cfg0.N = (fun i => sums m c (i 0) (i 1) 8 : FVec Ideal S8x1024 .f32) := by
  refine (dats m 0 c).arrAt_eq_of_after_last 7 t0_7 (by decide +kernel) _ fun y => ?_
  blk_simp
  rw [after0_7]
  idx_vars y
  exact (inv m c t0_7.val t0_7.isLt).2 y0 y1

end Cert.BwdInIdeal.Hand

end
-- ==== Proof.BwdInRef.lean ====
/- The reference of the input product's gradient, at an index, over the reals. -/
module

public import proofs.«01_k».proof.Proof.Gen.BwdInRefIdeal.Run
public import proofs.«01_k».proof.Proof.Gen.BwdInRefIdeal.Read
public import proofs.«01_k».proof.Proof.RmsNorm

@[expose] public section

set_option maxRecDepth 16384

noncomputable section

open Idealize.ShloMosaic Idealize.ShloMosaic.TcCoe Idealize.SL.Sem

namespace Cert.BwdInRefIdeal.Hand

open Cert.BwdInRefIdeal Cert.BwdInRefIdeal.Value Cert.BwdInRefIdeal.Read
open Cert.RmsNorm (rs ms grad)
open Cert.Softmax (coe_sum)

/-! ## The quantities, over the reals -/

variable (Z : Fin 4096 → Fin 2984 → ℝ) (W : Fin 1024 → Fin 2984 → ℝ) (X : Fin 4096 → Fin 1024 → ℝ) (G S : Fin 1024 → ℝ)

/-- The cotangent of the modulated row. -/
def dh (r : Fin 4096) (l : Fin 1024) : ℝ := ∑ j, Z r j * W l j

/-- The cotangent of the normed row. -/
def un (r : Fin 4096) (l : Fin 1024) : ℝ := dh Z W r l * (1 + S l) * G l

/-- The gradient of the row. -/
def dx (r : Fin 4096) (l : Fin 1024) : ℝ := grad 1024 (X r) (un Z W G S r) l

/-- The gradients of shift, scale and weight. -/
def dsh (l : Fin 1024) : ℝ := ∑ r, dh Z W r l
def dsc (l : Fin 1024) : ℝ := ∑ r, X r l * rs 1024 (X r) * G l * dh Z W r l
def dg (l : Fin 1024) : ℝ := ∑ r, X r l * rs 1024 (X r) * (dh Z W r l * (1 + S l))

variable {Z W X G S} {x0 : FVec Ideal S4096x2984 .f32} {x1 : FVec Ideal S1024x2984 .f32} {x2 x3 : FVec Ideal S4096x1024 .f32} {x4 x5 : FVec Ideal S1024 .f32}
variable (h0 : ∀ r j, x0 (ix2 r j) = (Z r j : EReal)) (h1 : ∀ l j, x1 (ix2 l j) = (W l j : EReal)) (h2 : ∀ r l, x2 (ix2 r l) = (X r l : EReal))
variable (h4 : ∀ l, x4 (ix1 l) = (G l : EReal)) (h5 : ∀ l, x5 (ix1 l) = (S l : EReal))

include h0 h1 in
theorem v26_real (r : Fin 4096) (l : Fin 1024) : (val_main_v26 (F := Ideal) x0 x1 (ix2 r l) : EReal) = (dh Z W r l : EReal) := by
  pointwise [val_main_v26]
  simp only [h0, h1]
  unfold dh
  rw [← coe_sum]
  exact Finset.sum_congr rfl fun j _ => (EReal.coe_mul _ _).symm

include h2 in
theorem v7_real (r : Fin 4096) : (val_main_v7 (F := Ideal) x2 (ix2 r 0) : EReal) = (ms 1024 (X r) : EReal) := by
  pointwise [val_main_v7, val_main_v6, val_main_v5, val_main_v4, val_main_v3, val_main_v2, val_main_v1, val_main_cst_0, val_main_cst_1, val_main_cst_2]
  simp only [h2]
  rw [Cert.RmsNorm.n1024]
  exact Cert.RmsNorm.ms_real _ (by norm_num)

include h2 in
theorem v8_real (r : Fin 4096) : (val_main_v8 (F := Ideal) x2 (ix2 r 0) : EReal) = (rs 1024 (X r) : EReal) := by
  pointwise [val_main_v8, val_main_v7, val_main_v6, val_main_v5, val_main_v4, val_main_v3, val_main_v2, val_main_v1, val_main_cst_0, val_main_cst_1, val_main_cst_2]
  simp only [h2]
  rw [Cert.RmsNorm.n1024]
  exact Cert.RmsNorm.rsqrt_real _ (by norm_num)

include h2 in
theorem v13_real (r : Fin 4096) (l : Fin 1024) : (val_main_v13 (F := Ideal) x2 (ix2 r l) : EReal) = ((X r l * rs 1024 (X r) : ℝ) : EReal) := by
  pointwise [val_main_v13, val_main_v12]
  rw [v8_real h2, h2, ← EReal.coe_mul]

include h2 h4 in
theorem v16_real (r : Fin 4096) (l : Fin 1024) : (val_main_v16 (F := Ideal) x2 x4 (ix2 r l) : EReal) = ((X r l * rs 1024 (X r) * G l : ℝ) : EReal) := by
  pointwise [val_main_v16, val_main_v15, val_main_v14]
  rw [v13_real h2, h4, ← EReal.coe_mul]

include h0 h1 h5 in
theorem v34_real (r : Fin 4096) (l : Fin 1024) : (val_main_v34 (F := Ideal) x0 x1 x5 (ix2 r l) : EReal) = ((dh Z W r l * (1 + S l) : ℝ) : EReal) := by
  pointwise [val_main_v34, val_main_v33, val_main_v19, val_main_v18, val_main_v17, val_main_cst_4]
  rw [v26_real h0 h1, h5, ← EReal.coe_one, ← EReal.coe_add, ← EReal.coe_mul]

include h0 h1 h4 h5 in
theorem v40_real (r : Fin 4096) (l : Fin 1024) : (val_main_v40 (F := Ideal) x0 x1 x4 x5 (ix2 r l) : EReal) = (un Z W G S r l : EReal) := by
  pointwise [val_main_v40, val_main_v39, val_main_v14]
  rw [v34_real h0 h1 h5, h4, ← EReal.coe_mul]
  rfl

include h0 h1 h2 h4 h5 in
theorem v55_real (r : Fin 4096) (l : Fin 1024) : (val_main_v55 (F := Ideal) x0 x1 x2 x4 x5 (ix2 r l) : EReal) = (dx Z W X G S r l : EReal) := by
  pointwise [val_main_v55, val_main_v54, val_main_v53, val_main_v52, val_main_v51, val_main_v50, val_main_v49, val_main_v48, val_main_v47, val_main_v46, val_main_v45, val_main_v44, val_main_v43, val_main_v42, val_main_v11, val_main_v10, val_main_v9, val_main_cst_3, val_main_cst_11, val_main_cst_12, val_main_cst_13]
  simp only [Fintype.sum_unique, Fin.default_eq_zero, v40_real h0 h1 h4 h5, v8_real h2, v7_real h2, h2, Cert.RmsNorm.n1024]
  refine Eq.trans ?_ (Cert.RmsNorm.vjp_real (N := 1024) (X r) (un Z W G S r) (by norm_num) l)
  simp only [EReal.coe_mul]

include h0 h1 in
theorem v29_real (l : Fin 1024) : (val_main_v29 (F := Ideal) x0 x1 (ix1 l) : EReal) = (dsh Z W l : EReal) := by
  pointwise [val_main_v29, val_main_v28, val_main_v27, val_main_cst_5, val_main_cst_6]
  simp only [Fintype.sum_unique, Fin.default_eq_zero]
  have e : (∑ r : Fin 4096, (val_main_v26 (F := Ideal) x0 x1 (ix2 r l) : EReal)) = (dsh Z W l : EReal) := by
    unfold dsh
    rw [← coe_sum]
    exact Finset.sum_congr rfl fun r _ => v26_real h0 h1 r l
  exact e

include h0 h1 h2 h4 in
theorem v35_real (l : Fin 1024) : (val_main_v35 (F := Ideal) x0 x1 x2 x4 (ix1 l) : EReal) = (dsc Z W X G l : EReal) := by
  pointwise [val_main_v35, val_main_v32, val_main_v31, val_main_v30, val_main_cst_7, val_main_cst_8]
  simp only [Fintype.sum_unique, Fin.default_eq_zero]
  have e : (∑ r : Fin 4096, (val_main_v16 (F := Ideal) x2 x4 (ix2 r l) : EReal) * (val_main_v26 (F := Ideal) x0 x1 (ix2 r l) : EReal)) = (dsc Z W X G l : EReal) := by
    unfold dsc
    rw [← coe_sum]
    refine Finset.sum_congr rfl fun r _ => ?_
    rw [v16_real h2 h4, v26_real h0 h1, ← EReal.coe_mul]
  exact e

include h0 h1 h2 h5 in
theorem v41_real (l : Fin 1024) : (val_main_v41 (F := Ideal) x0 x1 x2 x5 (ix1 l) : EReal) = (dg Z W X S l : EReal) := by
  pointwise [val_main_v41, val_main_v38, val_main_v37, val_main_v36, val_main_cst_9, val_main_cst_10]
  simp only [Fintype.sum_unique, Fin.default_eq_zero]
  have e : (∑ r : Fin 4096, (val_main_v13 (F := Ideal) x2 (ix2 r l) : EReal) * (val_main_v34 (F := Ideal) x0 x1 x5 (ix2 r l) : EReal)) = (dg Z W X S l : EReal) := by
    unfold dg
    rw [← coe_sum]
    refine Finset.sum_congr rfl fun r _ => ?_
    rw [v13_real h2, v34_real h0 h1 h5, ← EReal.coe_mul]
  exact e

include h0 h1 h2 h4 h5 in
theorem v56_real (r : Fin 4096) (l : Fin 1024) :
    (val_main_v56 (F := Ideal) x0 x1 x2 x3 x4 x5 (ix2 r l) : EReal) = (x3 (ix2 r l) : EReal) + (dx Z W X G S r l : EReal) := by
  pointwise [val_main_v56]
  rw [v55_real h0 h1 h2 h4 h5]

include h0 h1 h2 h4 h5 in
theorem v61_real (a : Fin 8) (l : Fin 1024) : (val_main_v61 (F := Ideal) x0 x1 x2 x4 x5 (ix2 a l) : EReal)
    = if a.val = 2 then (dg Z W X S l : EReal) else if a.val = 1 then (dsc Z W X G l : EReal) else if a.val = 0 then (dsh Z W l : EReal) else 0 := by
  pointwise [val_main_v61, val_main_v60, val_main_v59, val_main_v58, val_main_v57, val_main_call0_v0, val_main_c]
  rw [Cert.Common.sitofp_zero]
  have ha : a.val = 0 ∨ a.val = 1 ∨ a.val = 2 ∨ 3 ≤ a.val := by omega
  rcases ha with h | h | h | h
  · rw [dif_pos (by omega), dif_pos (by omega), if_neg (by omega), if_neg (by omega), if_pos h]
    exact v29_real h0 h1 l
  · rw [dif_pos (by omega), dif_neg (by omega), dif_pos (by omega), if_neg (by omega), if_pos h]
    exact v35_real h0 h1 h2 h4 l
  · rw [dif_pos (by omega), dif_neg (by omega), dif_neg (by omega), if_pos h]
    exact v41_real h0 h1 h2 h5 l
  · rw [dif_neg (by omega), if_neg (by omega), if_neg (by omega), if_neg (by omega)]

end Cert.BwdInRefIdeal.Hand

end
-- ==== Proof.BwdInClaim.lean ====
/- The gradient of the input product, of the modulation and of the norm before it, and its reference, end with the same arrays. -/
module

public import proofs.«01_k».proof.Defs
public import proofs.«01_k».proof.Proof.BwdInValue
public import proofs.«01_k».proof.Proof.BwdInRef
public import proofs.«01_k».proof.Proof.FoxBwdClaim
public import proofs.«01_k».proof.Proof.Gen.Pre_in_finite

@[expose] public section

set_option maxRecDepth 16384

noncomputable section

open Idealize.ShloMosaic Idealize.ShloMosaic.TcCoe Idealize.SL.Sem

namespace Cert.BwdInClaim

open Cert.BwdInIdeal (nD τ S1024 S4096x1024 S8x1024 S4096x2984 S1024x2984)
open Cert.BwdInIdeal.Hand
open Cert.RmsNorm (rs grad upTo upTo_eight row)
open Cert.Softmax (coe_sum)

variable (m : (ℓ : Loc nD τ Cert.BwdInIdeal.sig) → Buf (Elt Ideal) ℓ)

def rz (c : Dev nD) (i : Fin 4096) (j : Fin 2984) : ℝ := EReal.toReal (A0 m c (ix2 i j))
def rw' (c : Dev nD) (i : Fin 1024) (j : Fin 2984) : ℝ := EReal.toReal (A1 m c (ix2 i j))
def rx (c : Dev nD) (i : Fin 4096) (l : Fin 1024) : ℝ := EReal.toReal (A2 m c (ix2 i l))
def rg (c : Dev nD) (l : Fin 1024) : ℝ := EReal.toReal (A4 m c (ix1 l))
def rsc (c : Dev nD) (l : Fin 1024) : ℝ := EReal.toReal (A5 m c (ix1 l))

/-- Every entry of the arguments but the added gradient is a real number. -/
structure Reals (c : Dev nD) : Prop where
  z : ∀ r j, A0 m c (ix2 r j) = (rz m c r j : EReal)
  w : ∀ l j, A1 m c (ix2 l j) = (rw' m c l j : EReal)
  x : ∀ r l, A2 m c (ix2 r l) = (rx m c r l : EReal)
  g : ∀ l, A4 m c (ix1 l) = (rg m c l : EReal)
  s : ∀ l, A5 m c (ix1 l) = (rsc m c l : EReal)

theorem fin1 {a : ℕ} (x : FVec Ideal ⟨1, ![a]⟩ .f32) (hb : Cert.Pre_in_finite.S_.BroadcastsInDim ⟨1, ![a]⟩ (![] : Fin 0 → Fin 1))
    (h : cmpf .olt (Host.absf x) (broadcastInDim ⟨1, ![a]⟩ ![] hb (constant (F := Ideal) Cert.Pre_in_finite.S_ .f32 0x7F800000#32)) = fun _ => 1#1) (i : Fin a) :
    x (ix1 i) = (EReal.toReal (x (ix1 i)) : EReal) :=
  Cert.FoxBwdClaim.real_of_lt _ (congrFun h (ix1 i))

theorem fin2 {a b : ℕ} (x : FVec Ideal ⟨2, ![a, b]⟩ .f32) (hb : Cert.Pre_in_finite.S_.BroadcastsInDim ⟨2, ![a, b]⟩ (![] : Fin 0 → Fin 2))
    (h : cmpf .olt (Host.absf x) (broadcastInDim ⟨2, ![a, b]⟩ ![] hb (constant (F := Ideal) Cert.Pre_in_finite.S_ .f32 0x7F800000#32)) = fun _ => 1#1) (i : Fin a) (l : Fin b) :
    x (ix2 i l) = (EReal.toReal (x (ix2 i l)) : EReal) :=
  Cert.FoxBwdClaim.real_of_lt _ (congrFun h (ix2 i l))

/-- The precondition says so. -/
theorem reals (h : Cert.Pre_BwdInIdeal_in_finite (hPre_in_finite := Cert.Pre_in_finite.Gen.facts) m) (c : Dev nD) : Reals m c := by
  obtain ⟨h0, h1, h2, h4, h5⟩ := h c
  exact ⟨fin2 _ _ h0, fin2 _ _ h1, fin2 _ _ h2, fin1 _ _ h4, fin1 _ _ h5⟩

variable {m}

theorem dh_real {c : Dev nD} (R : Reals m c) (r : Fin 4096) (l : Fin 1024) :
    dh (ZZ m c) (WW m c) r l = (Cert.BwdInRefIdeal.Hand.dh (rz m c) (rw' m c) r l : EReal) := by
  refine (dh_eq m c r l).trans ?_
  simp only [R.z, R.w]
  unfold Cert.BwdInRefIdeal.Hand.dh
  rw [← coe_sum]
  exact Finset.sum_congr rfl fun j _ => (EReal.coe_mul _ _).symm

theorem fac_real {c : Dev nD} (R : Reals m c) (r : Fin 4096) : fac (A2 m c) r = (rs 1024 (rx m c r) : EReal) := by
  unfold fac
  simp only [R.x, Cert.RmsNorm.n1024]
  exact Cert.RmsNorm.rsqrt_real _ (by norm_num)

theorem xh_real {c : Dev nD} (R : Reals m c) (r : Fin 4096) (l : Fin 1024) : xh (A2 m c) r l = ((rx m c r l * rs 1024 (rx m c r) : ℝ) : EReal) := by
  unfold xh
  rw [fac_real R, R.x, ← EReal.coe_mul]

theorem mod_real {c : Dev nD} (R : Reals m c) (l : Fin 1024) : mod (Sc m c) l = ((1 + rsc m c l : ℝ) : EReal) := by
  unfold mod
  rw [Sc_apply, R.s, ← EReal.coe_one, ← EReal.coe_add]

theorem un_real {c : Dev nD} (R : Reals m c) (r : Fin 4096) (l : Fin 1024) :
    un (ZZ m c) (WW m c) (G m c) (Sc m c) r l = (Cert.BwdInRefIdeal.Hand.un (rz m c) (rw' m c) (rg m c) (rsc m c) r l : EReal) := by
  unfold un
  rw [dh_real R, G_apply, R.g, mod_real R, ← EReal.coe_mul, ← EReal.coe_mul]
  congr 1
  unfold Cert.BwdInRefIdeal.Hand.un
  ring

theorem dx_real {c : Dev nD} (R : Reals m c) (r : Fin 4096) (l : Fin 1024) :
    dx (ZZ m c) (WW m c) (A2 m c) (G m c) (Sc m c) r l = (Cert.BwdInRefIdeal.Hand.dx (rz m c) (rw' m c) (rx m c) (rg m c) (rsc m c) r l : EReal) := by
  unfold dx
  simp only [fac_real R, xh_real R, un_real R, Cert.RmsNorm.n1024, ← EReal.coe_mul]
  exact Cert.RmsNorm.kernel_real (N := 1024) (rx m c r) (Cert.BwdInRefIdeal.Hand.un (rz m c) (rw' m c) (rg m c) (rsc m c) r) (by norm_num) l

theorem dsh_real {c : Dev nD} (R : Reals m c) (l : Fin 1024) :
    upTo (fun r => dh (ZZ m c) (WW m c) r l) 8 = (Cert.BwdInRefIdeal.Hand.dsh (rz m c) (rw' m c) l : EReal) := by
  rw [upTo_eight]
  unfold Cert.BwdInRefIdeal.Hand.dsh
  rw [← coe_sum]
  exact Finset.sum_congr rfl fun r _ => dh_real R r l

theorem ds_real {c : Dev nD} (R : Reals m c) (l : Fin 1024) :
    upTo (ds (ZZ m c) (WW m c) (A2 m c) (G m c) l) 8 = (Cert.BwdInRefIdeal.Hand.dsc (rz m c) (rw' m c) (rx m c) (rg m c) l : EReal) := by
  rw [upTo_eight]
  unfold ds Cert.BwdInRefIdeal.Hand.dsc
  rw [← coe_sum]
  refine Finset.sum_congr rfl fun r _ => ?_
  rw [dh_real R, xh_real R, G_apply, R.g, ← EReal.coe_mul, ← EReal.coe_mul]
  congr 1
  ring

theorem dg_real {c : Dev nD} (R : Reals m c) (l : Fin 1024) :
    upTo (dg (ZZ m c) (WW m c) (A2 m c) (Sc m c) l) 8 = (Cert.BwdInRefIdeal.Hand.dg (rz m c) (rw' m c) (rx m c) (rsc m c) l : EReal) := by
  rw [upTo_eight]
  unfold dg Cert.BwdInRefIdeal.Hand.dg
  rw [← coe_sum]
  refine Finset.sum_congr rfl fun r _ => ?_
  rw [dh_real R, xh_real R, mod_real R, ← EReal.coe_mul, ← EReal.coe_mul]
  congr 1
  ring

/-- The reference leaves its arguments as they were; it has no semaphore. -/
theorem frame_ref : Cert.quiescent_BwdInRefIdeal (hBwdInRefIdeal := Cert.BwdInRefIdeal.Gen.facts) := fun m g _ =>
  (θ_run _ _ _).mono (fun r k => ⟨fun c => (k c).2.2, sem_eq_zero_of_no_sems rfl _⟩) (Cert.BwdInRefIdeal.Value.run (F := Ideal) m g)

/-- The claim: two arrays that both programs end with. -/
theorem algebraic : Cert.algebraic_BwdInIdeal_BwdInRefIdeal_pre_in_finite (hBwdInIdeal := Cert.BwdInIdeal.Gen.facts)
    (hBwdInRefIdeal := Cert.BwdInRefIdeal.Gen.facts) (hPre_in_finite := Cert.Pre_in_finite.Gen.facts) := by
  intro m g m' g' hp h
  have R := reals m hp
  refine ⟨fun c => _, fun c => _, (θ_run _ _ _).mono (fun r k c =>
    ⟨(k c).1.trans (final6 m c), (k c).2.1.trans (final7 m c), (k c).2.2⟩) (Cert.BwdInIdeal.Value.run_blocks m g), ?_⟩
  refine (θ_run _ _ _).mono (fun r k c => ?_) (Cert.BwdInRefIdeal.Value.run m' g')
  have e := h c
  refine ⟨(k c).1.trans ?_, (k c).2.1.trans ?_, (k c).2.2⟩
  · rw [Cert.BwdInRefIdeal.Read.val_main_v56_eq, e.1, e.2.1, e.2.2.1, e.2.2.2.1, e.2.2.2.2.1, e.2.2.2.2.2]
    funext y
    idx_vars y
    refine (Cert.BwdInRefIdeal.Hand.v56_real (R c).z (R c).w (R c).x (R c).g (R c).s y0 y1).trans ?_
    exact congrArg (fun z : EReal => (A3 m c (ix2 y0 y1) : EReal) + z) (dx_real (R c) y0 y1).symm
  · rw [Cert.BwdInRefIdeal.Read.val_main_v61_eq, e.1, e.2.1, e.2.2.1, e.2.2.2.2.1, e.2.2.2.2.2]
    funext y
    idx_vars y
    refine (Cert.BwdInRefIdeal.Hand.v61_real (R c).z (R c).w (R c).x (R c).g (R c).s y0 y1).trans ?_
    show _ = sums m c y0 y1 8
    unfold sums
    rw [dg_real (R c), ds_real (R c), dsh_real (R c)]

end Cert.BwdInClaim

end
-- ==== Proof.BwdOutRun.lean ====
/- The run of the two calls of the output gate, forward and backward: every buffer ends at what the segments leave in turn. -/
module

public import proofs.«01_k».proof.Proof.Gen.BwdOutIdeal.Frame
public import Idealize.ShloMosaic.Lib.Pipeline.Value

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.BwdOutIdeal.Hand

open Cert.BwdOutIdeal Cert.BwdOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, no counter is left up, and every buffer the host sees holds what the last segment leaves there. -/
theorem run_all : θ_run defs (onTc (τ := τ) (main (F := F))) ⟨m, fun _ => 0, ρ⟩ (fun r =>
      (∀ c : Dev nD, ∀ b : Ref sig .tc, Proc.devRef .tc b ∈ Pipeline.ucRefs τ sig → r.2.mem ((c : Thread nD τ).loc b) = W5 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ hb, funext fun g => hz g (.inr (no_unscoped g.2))⟩)

end Cert.BwdOutIdeal.Hand

end
-- ==== Proof.BwdOutPay.lean ====
/- The two calls of the output gate, forward and backward: the quantities, and what one grid point computes. -/
module

public import proofs.«01_k».proof.Proof.Gen.BwdOutIdeal.Skeleton
public import proofs.«01_k».proof.Proof.FoxBwdRead
public import proofs.«01_k».proof.Proof.FoxBwdModel

@[expose] public section

set_option maxRecDepth 16384

noncomputable section

open Idealize.ShloMosaic Idealize.ShloMosaic.TcCoe

namespace Cert.BwdOutIdeal.Hand

open Cert.BwdOutIdeal Cert.BwdOutIdeal.Gen

/-! ## The quantities, of whole arrays -/

/-- The logistic function, as the kernel writes it. -/
def sg (a : EReal) : EReal := Ideal.div 1 (1 + Ideal.exp (0 - a))

section Defs

variable {R : ℕ} (o1 o2 : Fin R → Fin 512 → EReal) (g1 g2 : Fin R → Fin 512 → EReal) (w : Fin 1024 → Fin 1024 → EReal)
variable (gt : Fin 1024 → EReal) (dx : Fin R → Fin 1024 → EReal)

/-- The gated attention outputs side by side. -/
def u (r : Fin R) (k : Fin 1024) : EReal :=
  if h : k.val < 512 then o1 r ⟨k.val, h⟩ * g1 r ⟨k.val, h⟩ * sg (g1 r ⟨k.val, h⟩)
  else o2 r ⟨k.val - 512, by omega⟩ * g2 r ⟨k.val - 512, by omega⟩ * sg (g2 r ⟨k.val - 512, by omega⟩)

/-- The output projection. -/
def yy (r : Fin R) (l : Fin 1024) : EReal := ∑ k, u o1 o2 g1 g2 r k * w k l

/-- The cotangent of the output projection. -/
def dy (r : Fin R) (l : Fin 1024) : EReal := gt l * dx r l

/-- The cotangent of the gated outputs. -/
def du (r : Fin R) (k : Fin 1024) : EReal := ∑ l, dy gt dx r l * w k l

/-- The gradient of an attention output, from the cotangent of the gated one. -/
def dout (d g : EReal) : EReal := d * g * sg g

/-- The gradient of a gate, from the cotangent of the gated output. -/
def dgate (d o g : EReal) : EReal := d * o * sg g * (1 + g * (1 - sg g))

end Defs

/-! ## What one grid point computes -/

section Pay

variable (o1 o2 g1 g2 : FVec Ideal S512x512 .f32) (w : FVec Ideal S1x1024x1024 .bf16) (x : FVec Ideal S512x1024 .f32) (gt : FVec Ideal S1x1024 .f32)
variable (uv yv : FVec Ideal S512x1024 .bf16)

abbrev mat {a b : ℕ} {φ : FTy} (v : FVec Ideal ⟨2, ![a, b]⟩ φ) : Fin a → Fin b → EReal := fun r k => v (ix2 r k)
abbrev wm {a b : ℕ} {φ : FTy} (v : FVec Ideal ⟨3, ![1, a, b]⟩ φ) : Fin a → Fin b → EReal := fun r k => v (ix3 0 r k)
abbrev rw0 {b : ℕ} {φ : FTy} (v : FVec Ideal ⟨2, ![1, b]⟩ φ) : Fin b → EReal := fun k => v (ix2 0 k)

theorem p0_2 (r : Fin 512) (k : Fin 1024) : (k0_pay2 (F := Ideal) g1 g2 o1 o2 (ix2 r k) : EReal) = u (mat o1) (mat o2) (mat g1) (mat g2) r k := by
  pointwise [k0_pay2]
  unfold u
  split <;> rfl

theorem p0_3 (r : Fin 512) (l : Fin 1024) :
    (k0_pay3 (F := Ideal) g1 g2 o1 o2 w (ix2 r l) : EReal) = yy (mat o1) (mat o2) (mat g1) (mat g2) (wm w) r l := by
  pointwise [k0_pay3]
  simp only [p0_2]
  rfl

theorem p0_4 (r : Fin 512) (l : Fin 1024) :
    (k0_pay4 (F := Ideal) g1 g2 o1 o2 w (ix2 r l) : EReal) = yy (mat o1) (mat o2) (mat g1) (mat g2) (wm w) r l := p0_3 o1 o2 g1 g2 w r l

theorem p0_1 (v : FVec Ideal S512x1024 .f32) (r : Fin 512) (l : Fin 1024) :
    (k0_pay1 (F := Ideal) v x gt (ix2 r l) : EReal) = (x (ix2 r l) : EReal) + (gt (ix2 0 l) : EReal) * v (ix2 r l) := by
  pointwise [k0_pay1]

theorem p1_2 (a : Fin 8) (l : Fin 1024) : (k1_pay2 (F := Ideal) (ix2 a l) : EReal) = 0 := by
  pointwise [k1_pay2]

theorem p1_3 (a l : Fin 1024) : (k1_pay3 (F := Ideal) (ix2 a l) : EReal) = 0 := by
  pointwise [k1_pay3]

theorem p1_4 (a : FVec Ideal S1x1024 .f32) (l : Fin 1024) :
    (k1_pay4 (F := Ideal) x a yv (ix2 0 l) : EReal) = (a (ix2 0 l) : EReal) + ∑ r : Fin 512, (x (ix2 r l) : EReal) * yv (ix2 r l) := by
  pointwise [k1_pay4]

theorem p1_5 (r : Fin 512) (l : Fin 1024) : (k1_pay5 (F := Ideal) x gt (ix2 r l) : EReal) = dy (rw0 gt) (mat x) r l := by
  pointwise [k1_pay5]
  rfl

theorem p1_6 (a : FVec Ideal S1024x1024 .f32) (k l : Fin 1024) :
    (k1_pay6 (F := Ideal) x gt a uv (ix2 k l) : EReal) = (a (ix2 k l) : EReal) + ∑ r : Fin 512, (uv (ix2 r k) : EReal) * dy (rw0 gt) (mat x) r l := by
  pointwise [k1_pay6]
  simp only [p1_5]

theorem p1_7 (r : Fin 512) (k : Fin 1024) : (k1_pay7 (F := Ideal) x gt w (ix2 r k) : EReal) = du (wm w) (rw0 gt) (mat x) r k := by
  pointwise [k1_pay7]
  simp only [p1_5]
  rfl

variable (d : FVec Ideal S512x1024 .f32)

theorem p1_11 (r k : Fin 512) : (k1_pay11 (F := Ideal) d g1 (ix2 r k) : EReal) = dout (d (ix2 r ⟨k.val, by omega⟩)) (g1 (ix2 r k)) := by
  pointwise [k1_pay11, k1_pay10, k1_pay9, k1_pay8]
  rfl

theorem p1_12 (r k : Fin 512) : (k1_pay12 (F := Ideal) d g1 o1 (ix2 r k) : EReal) = dgate (d (ix2 r ⟨k.val, by omega⟩)) (o1 (ix2 r k)) (g1 (ix2 r k)) := by
  pointwise [k1_pay12, k1_pay10, k1_pay9, k1_pay8]
  rfl

theorem p1_13 (r k : Fin 512) :
    (k1_pay13 (F := Ideal) d g1 o1 (ix2 r k) : EReal) = dout (d (ix2 r ⟨k.val, by omega⟩)) (g1 (ix2 r k)) * o1 (ix2 r k) := by
  pointwise [k1_pay13]
  rw [p1_11]

theorem p1_29 (r k : Fin 512) : (k1_pay29 (F := Ideal) d g1 (ix2 r k) : EReal) = dout (d (ix2 r ⟨512 + k.val, by omega⟩)) (g1 (ix2 r k)) := by
  pointwise [k1_pay29, k1_pay28, k1_pay27, k1_pay26]
  rfl

theorem p1_30 (r k : Fin 512) :
    (k1_pay30 (F := Ideal) d g1 o1 (ix2 r k) : EReal) = dgate (d (ix2 r ⟨512 + k.val, by omega⟩)) (o1 (ix2 r k)) (g1 (ix2 r k)) := by
  pointwise [k1_pay30, k1_pay28, k1_pay27, k1_pay26]
  rfl

theorem p1_31 (r k : Fin 512) :
    (k1_pay31 (F := Ideal) d g1 o1 (ix2 r k) : EReal) = dout (d (ix2 r ⟨512 + k.val, by omega⟩)) (g1 (ix2 r k)) * o1 (ix2 r k) := by
  pointwise [k1_pay31]
  rw [p1_29]

/-- A sum over a pair's lanes restricted to one half. -/
theorem sum_half (e : Fin 2) (f : Fin 128 → EReal) :
    ∑ c : Fin 128, (if c.val / 64 = e.val then f c else 0) = ∑ k : Fin 64, f ⟨64 * e.val + k.val, by omega⟩ := by
  have h := Cert.FoxModel.sum_lanes e f fun _ => 1
  simpa only [mul_one] using h

/-- The lane numbers. -/
abbrev lanes : IVec S512x128 32 := iota .tc S512x128 32 [1] iota_S512x128_d1_w32

/-- The statistics of one pair of heads: lanes 2 and 3 hold the two heads' sums. -/
theorem p1_20 (z : FVec Ideal S512x128 .f32) (l : FVec Ideal S512x128 .f32) (r : Fin 512) (e : Fin 2) :
    (k1_pay20 (F := Ideal) lanes z 64#32 l (ix2 r ⟨2 + e.val, by omega⟩) : EReal)
      = ∑ k : Fin 64, (z (ix2 r ⟨64 * e.val + k.val, by omega⟩) : EReal) := by
  rw [← sum_half e fun c => (z (ix2 r c) : EReal)]
  have h : e = 0 ∨ e = 1 := by omega
  rcases h with rfl | rfl
  · pointwise [k1_pay20]
    simp only [Cert.FoxBwdRead.slt64]
    refine Finset.sum_congr rfl fun c _ => ?_
    show _ = if c.val / 64 = 0 then _ else _
    split <;> rfl
  · pointwise [k1_pay20]
    simp only [Cert.FoxBwdRead.sge64]
    refine Eq.trans (b := ∑ c : Fin 128, (Scalar.select (if c.val / 64 = 1 then 1#1 else 0#1) (z (ix2 r c) : EReal) 0)) rfl ?_
    refine Finset.sum_congr rfl fun c _ => ?_
    show _ = if c.val / 64 = 1 then _ else _
    split <;> rfl

/-- Lanes 2 and 3 of the statistics of pair `p` of heads, a pair being 128 lanes of the product `z`. -/
def statOf (z : FVec Ideal S512x512 .f32) (r : Fin 512) (p : Fin 4) (e : Fin 2) : EReal :=
  ∑ k : Fin 64, (z (ix2 r ⟨128 * p.val + (64 * e.val + k.val), by omega⟩) : EReal)

variable (z : FVec Ideal S512x512 .f32) (l : FVec Ideal S512x128 .f32) (r : Fin 512) (e : Fin 2)

theorem p1_17 : (k1_pay17 (F := Ideal) lanes (k1_pay15 d lanes g1 o1) (k1_pay16 d lanes g1 o1) 2#32 l (ix2 r ⟨2 + e.val, by omega⟩) : EReal)
    = statOf (k1_pay13 d g1 o1) r 0 e := by
  refine (p1_20 (k1_pay14 d g1 o1) l r e).trans (Finset.sum_congr rfl fun k _ => ?_)
  pointwise [k1_pay14]

theorem p1_18 : (k1_pay18 (F := Ideal) lanes z l (ix2 r ⟨2 + e.val, by omega⟩) : EReal) = statOf z r 1 e := by
  have h : k1_pay18 (F := Ideal) lanes z l = k1_pay20 lanes (extractStridedSlice S512x128 ![0, 128] z slices_S512x512_o0_128_S512x128) 64#32 l := rfl
  rw [h, p1_20]
  unfold statOf
  refine Finset.sum_congr rfl fun k _ => ?_
  pointwise []

theorem p1_20' : (k1_pay20 (F := Ideal) lanes (k1_pay19 z) 64#32 l (ix2 r ⟨2 + e.val, by omega⟩) : EReal) = statOf z r 2 e := by
  refine (p1_20 (k1_pay19 z) l r e).trans (Finset.sum_congr rfl fun k _ => ?_)
  pointwise [k1_pay19]

theorem p1_25 : (k1_pay25 (F := Ideal) lanes (k1_pay22 lanes z) (k1_pay23 lanes z) (k1_pay24 lanes) 3#32 l (ix2 r ⟨2 + e.val, by omega⟩) : EReal)
    = statOf z r 3 e := by
  refine (p1_20 (k1_pay21 z) l r e).trans (Finset.sum_congr rfl fun k _ => ?_)
  pointwise [k1_pay21]

theorem p1_33 : (k1_pay33 (F := Ideal) lanes (k1_pay32 d g1 o1) 64#32 l (ix2 r ⟨2 + e.val, by omega⟩) : EReal) = statOf (k1_pay31 d g1 o1) r 0 e := by
  refine (p1_20 (k1_pay32 d g1 o1) l r e).trans (Finset.sum_congr rfl fun k _ => ?_)
  pointwise [k1_pay32]

theorem p1_38 : (k1_pay38 (F := Ideal) lanes (k1_pay35 lanes z) (k1_pay36 lanes z) (k1_pay37 lanes) 3#32 l (ix2 r ⟨2 + e.val, by omega⟩) : EReal)
    = statOf z r 1 e := by
  refine (p1_20 (k1_pay34 z) l r e).trans (Finset.sum_congr rfl fun k _ => ?_)
  pointwise [k1_pay34]

theorem p1_39 : (k1_pay39 (F := Ideal) lanes z l (ix2 r ⟨2 + e.val, by omega⟩) : EReal) = statOf z r 2 e := by
  have h : k1_pay39 (F := Ideal) lanes z l = k1_pay20 lanes (extractStridedSlice S512x128 ![0, 256] z slices_S512x512_o0_256_S512x128) 64#32 l := rfl
  rw [h, p1_20]
  unfold statOf
  refine Finset.sum_congr rfl fun k _ => ?_
  pointwise []

theorem p1_1 : (k1_pay1 (F := Ideal) lanes (k1_pay40 z) (k1_pay41 lanes) (Scalar.ofBits .f32 0x00000000#32) l (ix2 r ⟨2 + e.val, by omega⟩) : EReal)
    = statOf z r 3 e := by
  refine (p1_20 (k1_pay40 z) l r e).trans (Finset.sum_congr rfl fun k _ => ?_)
  pointwise [k1_pay40]

end Pay

end Cert.BwdOutIdeal.Hand

end
-- ==== Proof.BwdOutFwd.lean ====
/- What the grid of the output gate's forward call leaves, from any contents at its start. -/
module

public import proofs.«01_k».proof.Proof.BwdOutRun
public import proofs.«01_k».proof.Proof.BwdOutPay
public import proofs.«01_k».proof.Proof.RmsNorm

@[expose] public section

set_option maxRecDepth 16384

noncomputable section

open Idealize.ShloMosaic Idealize.ShloMosaic.TcCoe Idealize.SL.Sem
open Idealize.ShloMosaic.Pipeline (Dat)

namespace Cert.BwdOutIdeal.Hand

open Cert.BwdOutIdeal Cert.BwdOutIdeal.Gen
open Cert.RmsNorm (row)

variable (V : (c : Dev nD) → (b : Ref sig .tc) → Buf (Elt Ideal) ((c : Thread nD τ).loc b))

/-! ## The arrays -/

abbrev bO1 (c : Dev nD) : FVec Ideal S4096x512 .f32 := V c main_arg3
abbrev bO2 (c : Dev nD) : FVec Ideal S4096x512 .f32 := V c main_arg4
abbrev bZ (c : Dev nD) : FVec Ideal S4096x1536 .f32 := V c main_v13
abbrev bW (c : Dev nD) : FVec Ideal S1x1024x1024 .bf16 := V c main_v15
abbrev bX (c : Dev nD) : FVec Ideal S4096x1024 .f32 := V c main_arg6
abbrev bG (c : Dev nD) : FVec Ideal S1x1024 .f32 := V c main_v16

/-- The forget gate and the other gate: two blocks of columns of the packed array. -/
abbrev bG1 (c : Dev nD) : Fin 4096 → Fin 512 → EReal := fun r k => bZ V c (ix2 r ⟨k.val, by omega⟩)
abbrev bG2 (c : Dev nD) : Fin 4096 → Fin 512 → EReal := fun r k => bZ V c (ix2 r ⟨512 + k.val, by omega⟩)

/-- The block index of every window at every grid point. -/
theorem idx0 : ∀ t : Fin cfg0.N, win0_0.index t = ![t.val, 0] ∧ win0_1.index t = ![t.val, 0] ∧ win0_2.index t = ![t.val, 0]
    ∧ win0_3.index t = ![t.val, 1] ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0] :=
  (by decide +kernel : ∀ t : Fin grid0.N, _)

/-- A grid point's tile. -/
abbrev tl0 (t : Fin cfg0.N) : Fin 8 := ⟨t.val, lt_of_lt_of_eq t.isLt N_0⟩

theorem b0_0 (c : Dev nD) (t : Fin cfg0.N) (r : Fin 512) (k : Fin 512) :
    (iblk0 V c 0 t : FVec Ideal S512x512 .f32) (ix2 r k) = bO1 V c (ix2 (row (tl0 t) r) k) := by
  blk_ext [iblk0, idx0 t]

theorem b0_1 (c : Dev nD) (t : Fin cfg0.N) (r : Fin 512) (k : Fin 512) :
    (iblk0 V c 1 t : FVec Ideal S512x512 .f32) (ix2 r k) = bO2 V c (ix2 (row (tl0 t) r) k) := by
  blk_ext [iblk0, idx0 t]

theorem b0_2 (c : Dev nD) (t : Fin cfg0.N) (r : Fin 512) (k : Fin 512) :
    (iblk0 V c 2 t : FVec Ideal S512x512 .f32) (ix2 r k) = bG1 V c (row (tl0 t) r) k := by
  blk_ext [iblk0, idx0 t]

theorem b0_3 (c : Dev nD) (t : Fin cfg0.N) (r : Fin 512) (k : Fin 512) :
    (iblk0 V c 3 t : FVec Ideal S512x512 .f32) (ix2 r k) = bG2 V c (row (tl0 t) r) k := by
  blk_ext [iblk0, idx0 t]

theorem b0_4 (c : Dev nD) (t : Fin cfg0.N) (k : Fin 1024) (l : Fin 1024) :
    (iblk0 V c 4 t : FVec Ideal S1x1024x1024 .bf16) (ix3 0 k l) = bW V c (ix3 0 k l) := by
  blk_ext [iblk0, idx0 t]

theorem b0_5 (c : Dev nD) (t : Fin cfg0.N) (r : Fin 512) (l : Fin 1024) :
    (iblk0 V c 5 t : FVec Ideal S512x1024 .f32) (ix2 r l) = bX V c (ix2 (row (tl0 t) r) l) := by
  blk_ext [iblk0, idx0 t]

theorem b0_6 (c : Dev nD) (t : Fin cfg0.N) (l : Fin 1024) :
    (iblk0 V c 6 t : FVec Ideal S1x1024 .f32) (ix2 0 l) = bG V c (ix2 0 l) := by
  blk_ext [iblk0, idx0 t]

/-- The gated attention outputs and their projection, of the whole arrays. -/
abbrev U0 (c : Dev nD) : Fin 4096 → Fin 1024 → EReal := u (mat (bO1 V c)) (mat (bO2 V c)) (bG1 V c) (bG2 V c)
abbrev Y0 (c : Dev nD) : Fin 4096 → Fin 1024 → EReal := yy (mat (bO1 V c)) (mat (bO2 V c)) (bG1 V c) (bG2 V c) (wm (bW V c))

theorem u_blk (c : Dev nD) (t : Fin cfg0.N) (r : Fin 512) (k : Fin 1024) :
    u (mat (φ := .f32) (iblk0 V c 0 t)) (mat (φ := .f32) (iblk0 V c 1 t)) (mat (φ := .f32) (iblk0 V c 2 t)) (mat (φ := .f32) (iblk0 V c 3 t)) r k = U0 V c (row (tl0 t) r) k := by
  unfold U0 u mat
  simp only [b0_0, b0_1, b0_2, b0_3]

theorem y_blk (c : Dev nD) (t : Fin cfg0.N) (r : Fin 512) (l : Fin 1024) :
    yy (mat (φ := .f32) (iblk0 V c 0 t)) (mat (φ := .f32) (iblk0 V c 1 t)) (mat (φ := .f32) (iblk0 V c 2 t)) (mat (φ := .f32) (iblk0 V c 3 t)) (wm (φ := .bf16) (iblk0 V c 4 t)) r l = Y0 V c (row (tl0 t) r) l := by
  unfold Y0 yy
  exact Finset.sum_congr rfl fun k _ => congrArg₂ (fun a b : EReal => a * b) (u_blk V c t r k) (b0_4 V c t k l)

/-! ## The result arrays -/

theorem fwd8 (c : Dev nD) : (dat0 V c).arrAt 8 cfg0.N = (fun i => U0 V c (i 0) (i 1) : FVec Ideal S4096x1024 .bf16) := by
  refine (dat0 V c).arrAt_eq_of_covers 8 _ (by decide +kernel) fun t hf y => ?_
  blk_simp
  rw [after0_8]
  idx_vars y
  frame_out
  refine (p0_2 _ _ _ _ y0 y1).trans ((u_blk V c t y0 y1).trans ?_)
  refine congrArg₂ (fun i j => U0 V c i j) (Fin.ext ?_) (Fin.ext ?_)
  · show 512 * t.val + y0.val = win0_8.index t 0 * 512 + 1 * y0.val
    rw [(idx0 t).2.2.2.2.2.2.2.2.1]
    show _ = t.val * 512 + 1 * y0.val
    omega
  · show y1.val = win0_8.index t 1 * 1024 + 1 * y1.val
    rw [(idx0 t).2.2.2.2.2.2.2.2.1]
    show _ = 0 * 1024 + 1 * y1.val
    omega

theorem fwd9 (c : Dev nD) : (dat0 V c).arrAt 9 cfg0.N = (fun i => Y0 V c (i 0) (i 1) : FVec Ideal S4096x1024 .bf16) := by
  refine (dat0 V c).arrAt_eq_of_covers 9 _ (by decide +kernel) fun t hf y => ?_
  blk_simp
  rw [after0_9]
  idx_vars y
  frame_out
  refine (p0_4 _ _ _ _ _ y0 y1).trans ((y_blk V c t y0 y1).trans ?_)
  refine congrArg₂ (fun i j => Y0 V c i j) (Fin.ext ?_) (Fin.ext ?_)
  · show 512 * t.val + y0.val = win0_9.index t 0 * 512 + 1 * y0.val
    rw [(idx0 t).2.2.2.2.2.2.2.2.2]
    show _ = t.val * 512 + 1 * y0.val
    omega
  · show y1.val = win0_9.index t 1 * 1024 + 1 * y1.val
    rw [(idx0 t).2.2.2.2.2.2.2.2.2]
    show _ = 0 * 1024 + 1 * y1.val
    omega

theorem fwd7 (c : Dev nD) : (dat0 V c).arrAt 7 cfg0.N
    = (fun i => (bX V c (ix2 (i 0) (i 1)) : EReal) + (bG V c (ix2 0 (i 1)) : EReal) * Y0 V c (i 0) (i 1) : FVec Ideal S4096x1024 .f32) := by
  refine (dat0 V c).arrAt_eq_of_covers 7 _ (by decide +kernel) fun t hf y => ?_
  blk_simp
  rw [after0_7]
  idx_vars y
  frame_out
  refine (p0_1 _ _ _ y0 y1).trans ?_
  rw [p0_3, y_blk, b0_5, b0_6]
  refine congrArg₂ (fun i j => (bX V c (ix2 i j) : EReal) + (bG V c (ix2 0 j) : EReal) * Y0 V c i j) (Fin.ext ?_) (Fin.ext ?_)
  · show 512 * t.val + y0.val = win0_7.index t 0 * 512 + 1 * y0.val
    rw [(idx0 t).2.2.2.2.2.2.2.1]
    show _ = t.val * 512 + 1 * y0.val
    omega
  · show y1.val = win0_7.index t 1 * 1024 + 1 * y1.val
    rw [(idx0 t).2.2.2.2.2.2.2.1]
    show _ = 0 * 1024 + 1 * y1.val
    omega

end Cert.BwdOutIdeal.Hand

end
-- ==== Proof.BwdOutBwd.lean ====
/- What the grid of the output gate's backward call leaves, from any contents at its start. -/
module

public import proofs.«01_k».proof.Proof.BwdOutFwd
public import proofs.«01_k».proof.Proof.RowAcc

@[expose] public section

set_option maxRecDepth 16384

noncomputable section

open Idealize.ShloMosaic Idealize.ShloMosaic.TcCoe Idealize.SL.Sem
open Idealize.ShloMosaic.Pipeline (Dat)

namespace Cert.BwdOutIdeal.Hand

open Cert.BwdOutIdeal Cert.BwdOutIdeal.Gen
open Cert.RmsNorm (row upTo upTo_zero upTo_succ upTo_eight)

/-! ## Stores of blocks of columns -/

section Col

variable {Val : EltTy → Type} [∀ e, Nonempty (Val e)] {e : EltTy} {R C D : ℕ}

/-- A store of the columns from `p` over other stores, read in those columns. -/
theorem canon_col (p : ℕ) (inb : ∀ a : Fin 2, (![0, p] : Fin 2 → ℕ) a + (![R, D] : Fin 2 → ℕ) a ≤ (⟨2, ![R, C]⟩ : Shape).size a)
    (w : (⟨2, ![R, D]⟩ : Shape).Idx → Val e) (L : List (View.Piece Val ⟨2, ![R, C]⟩ e)) (a : Fin R) (l : Fin C) (k : Fin D) (h : l.val = p + k.val) :
    View.canon (Val := Val) (s := ⟨2, ![R, C]⟩) (e := e) (⟨Rect.unit (s := ⟨2, ![R, C]⟩) ![0, p] ![R, D] inb, w⟩ :: L) (ix2 a l) = w (ix2 a k) := by
  refine Eq.trans (congrArg _ ?_) (View.canon_cons_emb (Rect.unit (s := ⟨2, ![R, C]⟩) ![0, p] ![R, D] inb) w _ (ix2 a k))
  funext d
  refine Fin.cases ?_ (fun d => Fin.cases ?_ (fun d => d.elim0) d) d
  · exact Fin.ext (by show a.val = 0 + 1 * a.val; omega)
  · exact Fin.ext (by show l.val = p + 1 * k.val; omega)

/-- The same in the other columns. -/
theorem canon_col_off (p : ℕ) (inb : ∀ a : Fin 2, (![0, p] : Fin 2 → ℕ) a + (![R, D] : Fin 2 → ℕ) a ≤ (⟨2, ![R, C]⟩ : Shape).size a)
    (w : (⟨2, ![R, D]⟩ : Shape).Idx → Val e) (L : List (View.Piece Val ⟨2, ![R, C]⟩ e)) (a : Fin R) (l : Fin C) (h : l.val < p ∨ p + D ≤ l.val) :
    View.canon (Val := Val) (s := ⟨2, ![R, C]⟩) (e := e) (⟨Rect.unit (s := ⟨2, ![R, C]⟩) ![0, p] ![R, D] inb, w⟩ :: L) (ix2 a l) = View.canon L (ix2 a l) := by
  refine View.canon_cons_of_not_mem _ _ ?_
  rw [Rect.mem_set_unit]
  intro hm
  have h1 := hm 1
  change p ≤ l.val ∧ l.val < p + D at h1
  omega

/-- Four stores of 128 columns each cover an array of 512: an entry of the block `p` reads that block's store. -/
theorem canon_four (inb0 : ∀ a : Fin 2, (![0, 0] : Fin 2 → ℕ) a + (![512, 128] : Fin 2 → ℕ) a ≤ (⟨2, ![512, 512]⟩ : Shape).size a)
    (inb1 : ∀ a : Fin 2, (![0, 128] : Fin 2 → ℕ) a + (![512, 128] : Fin 2 → ℕ) a ≤ (⟨2, ![512, 512]⟩ : Shape).size a)
    (inb2 : ∀ a : Fin 2, (![0, 256] : Fin 2 → ℕ) a + (![512, 128] : Fin 2 → ℕ) a ≤ (⟨2, ![512, 512]⟩ : Shape).size a)
    (inb3 : ∀ a : Fin 2, (![0, 384] : Fin 2 → ℕ) a + (![512, 128] : Fin 2 → ℕ) a ≤ (⟨2, ![512, 512]⟩ : Shape).size a)
    (w0 w1 w2 w3 : (⟨2, ![512, 128]⟩ : Shape).Idx → Val e) (r : Fin 512) (p : Fin 4) (k : Fin 128) (f : Fin 4 → Val e)
    (h0 : w0 (ix2 r k) = f 0) (h1 : w1 (ix2 r k) = f 1) (h2 : w2 (ix2 r k) = f 2) (h3 : w3 (ix2 r k) = f 3) :
    View.canon (Val := Val) (s := ⟨2, ![512, 512]⟩) (e := e)
      [⟨Rect.unit (s := ⟨2, ![512, 512]⟩) ![0, 384] ![512, 128] inb3, w3⟩, ⟨Rect.unit (s := ⟨2, ![512, 512]⟩) ![0, 256] ![512, 128] inb2, w2⟩,
        ⟨Rect.unit (s := ⟨2, ![512, 512]⟩) ![0, 128] ![512, 128] inb1, w1⟩, ⟨Rect.unit (s := ⟨2, ![512, 512]⟩) ![0, 0] ![512, 128] inb0, w0⟩]
      (ix2 r ⟨128 * p.val + k.val, by omega⟩) = f p := by
  have hk := k.isLt
  by_cases e3 : p = 3
  · subst e3
    exact (canon_col 384 _ _ _ r _ k rfl).trans h3
  have hp : p.val < 3 := by omega
  refine (canon_col_off 384 _ _ _ r _ (Or.inl (by show 128 * p.val + k.val < 384; omega))).trans ?_
  by_cases e2 : p = 2
  · subst e2
    exact (canon_col 256 _ _ _ r _ k rfl).trans h2
  have hp : p.val < 2 := by omega
  refine (canon_col_off 256 _ _ _ r _ (Or.inl (by show 128 * p.val + k.val < 256; omega))).trans ?_
  by_cases e1 : p = 1
  · subst e1
    exact (canon_col 128 _ _ _ r _ k rfl).trans h1
  have hp : p.val < 1 := by omega
  refine (canon_col_off 128 _ _ _ r _ (Or.inl (by show 128 * p.val + k.val < 128; omega))).trans ?_
  obtain rfl : p = 0 := Fin.ext (by show p.val = 0; omega)
  exact (canon_col 0 _ _ _ r _ k rfl).trans h0

end Col

variable (V : (c : Dev nD) → (b : Ref sig .tc) → Buf (Elt Ideal) ((c : Thread nD τ).loc b))

/-! ## The arrays -/

abbrev cD (c : Dev nD) : FVec Ideal S4096x1024 .f32 := V c main_arg0
abbrev cG (c : Dev nD) : FVec Ideal S1x1024 .f32 := V c main_v19
abbrev cY (c : Dev nD) : FVec Ideal S4096x1024 .bf16 := V c main_v17_2
abbrev cU (c : Dev nD) : FVec Ideal S4096x1024 .bf16 := V c main_v17_1

/-- The block index of every window at every grid point. -/
theorem idx1 : ∀ t : Fin cfg1.N, win1_0.index t = ![t.val, 0] ∧ win1_1.index t = ![0, 0] ∧ win1_2.index t = ![t.val, 0]
    ∧ win1_3.index t = ![0, 0, 0] ∧ win1_4.index t = ![t.val, 0] ∧ win1_5.index t = ![t.val, 0] ∧ win1_6.index t = ![t.val, 0]
    ∧ win1_7.index t = ![t.val, 1] ∧ win1_10.index t = ![t.val, 0] ∧ win1_11.index t = ![t.val, 0] ∧ win1_12.index t = ![t.val, 0]
    ∧ win1_13.index t = ![t.val, 0] ∧ win1_14.index t = ![t.val, 0] ∧ win1_15.index t = ![0, 0] ∧ win1_16.index t = ![0, 0]
    ∧ win1_17.index t = ![t.val, 0] ∧ win1_18.index t = ![t.val, 0] :=
  (by decide +kernel : ∀ t : Fin grid1.N, _)

/-- A grid point's tile. -/
abbrev tl1 (t : Fin cfg1.N) : Fin 8 := ⟨t.val, lt_of_lt_of_eq t.isLt N_1⟩

theorem b1_0 (c : Dev nD) (t : Fin cfg1.N) (r : Fin 512) (l : Fin 1024) :
    (iblk1 V c 0 t : FVec Ideal S512x1024 .f32) (ix2 r l) = cD V c (ix2 (row (tl1 t) r) l) := by
  blk_ext [iblk1, idx1 t]

theorem b1_1 (c : Dev nD) (t : Fin cfg1.N) (l : Fin 1024) :
    (iblk1 V c 1 t : FVec Ideal S1x1024 .f32) (ix2 0 l) = cG V c (ix2 0 l) := by
  blk_ext [iblk1, idx1 t]

theorem b1_2 (c : Dev nD) (t : Fin cfg1.N) (r : Fin 512) (l : Fin 1024) :
    (iblk1 V c 2 t : FVec Ideal S512x1024 .bf16) (ix2 r l) = cY V c (ix2 (row (tl1 t) r) l) := by
  blk_ext [iblk1, idx1 t]

theorem b1_3 (c : Dev nD) (t : Fin cfg1.N) (k : Fin 1024) (l : Fin 1024) :
    (iblk1 V c 3 t : FVec Ideal S1x1024x1024 .bf16) (ix3 0 k l) = bW V c (ix3 0 k l) := by
  blk_ext [iblk1, idx1 t]

theorem b1_4 (c : Dev nD) (t : Fin cfg1.N) (r : Fin 512) (k : Fin 512) :
    (iblk1 V c 4 t : FVec Ideal S512x512 .f32) (ix2 r k) = bO1 V c (ix2 (row (tl1 t) r) k) := by
  blk_ext [iblk1, idx1 t]

theorem b1_5 (c : Dev nD) (t : Fin cfg1.N) (r : Fin 512) (k : Fin 512) :
    (iblk1 V c 5 t : FVec Ideal S512x512 .f32) (ix2 r k) = bO2 V c (ix2 (row (tl1 t) r) k) := by
  blk_ext [iblk1, idx1 t]

theorem b1_6 (c : Dev nD) (t : Fin cfg1.N) (r : Fin 512) (k : Fin 512) :
    (iblk1 V c 6 t : FVec Ideal S512x512 .f32) (ix2 r k) = bG1 V c (row (tl1 t) r) k := by
  blk_ext [iblk1, idx1 t]

theorem b1_7 (c : Dev nD) (t : Fin cfg1.N) (r : Fin 512) (k : Fin 512) :
    (iblk1 V c 7 t : FVec Ideal S512x512 .f32) (ix2 r k) = bG2 V c (row (tl1 t) r) k := by
  blk_ext [iblk1, idx1 t]

theorem b1_10 (c : Dev nD) (t : Fin cfg1.N) (r : Fin 512) (l : Fin 1024) :
    (iblk1 V c 10 t : FVec Ideal S512x1024 .bf16) (ix2 r l) = cU V c (ix2 (row (tl1 t) r) l) := by
  blk_ext [iblk1, idx1 t]

/-! ## The cotangents of the whole arrays -/

abbrev DY (c : Dev nD) : Fin 4096 → Fin 1024 → EReal := dy (rw0 (cG V c)) (mat (cD V c))
abbrev DU (c : Dev nD) : Fin 4096 → Fin 1024 → EReal := du (wm (bW V c)) (rw0 (cG V c)) (mat (cD V c))

theorem dy_blk (c : Dev nD) (t : Fin cfg1.N) (r : Fin 512) (l : Fin 1024) :
    dy (rw0 (φ := .f32) (iblk1 V c 1 t)) (mat (φ := .f32) (iblk1 V c 0 t)) r l = DY V c (row (tl1 t) r) l := by
  unfold DY dy rw0 mat
  rw [b1_0, b1_1]

theorem du_blk (c : Dev nD) (t : Fin cfg1.N) (r : Fin 512) (k : Fin 1024) :
    (k1_pay7 (F := Ideal) (iblk1 V c 0 t) (iblk1 V c 1 t) (iblk1 V c 3 t) (ix2 r k) : EReal) = DU V c (row (tl1 t) r) k := by
  rw [p1_7]
  unfold DU du
  exact Finset.sum_congr rfl fun l _ => congrArg₂ (fun a b : EReal => a * b) (dy_blk V c t r l) (b1_3 V c t k l)

/-- The head sums of a gradient of an attention output times that output. -/
abbrev stat (d : Fin 4096 → Fin 512 → EReal) (o : Fin 4096 → Fin 512 → EReal) (r : Fin 4096) (p : Fin 4) (e : Fin 2) : EReal :=
  ∑ k : Fin 64, d r ⟨128 * p.val + (64 * e.val + k.val), by omega⟩ * o r ⟨128 * p.val + (64 * e.val + k.val), by omega⟩

abbrev DO1 (c : Dev nD) : Fin 4096 → Fin 512 → EReal := fun r k => dout (DU V c r ⟨k.val, by omega⟩) (bG1 V c r k)
abbrev DO2 (c : Dev nD) : Fin 4096 → Fin 512 → EReal := fun r k => dout (DU V c r ⟨512 + k.val, by omega⟩) (bG2 V c r k)
abbrev DG1 (c : Dev nD) : Fin 4096 → Fin 512 → EReal := fun r k => dgate (DU V c r ⟨k.val, by omega⟩) (bO1 V c (ix2 r k)) (bG1 V c r k)
abbrev DG2 (c : Dev nD) : Fin 4096 → Fin 512 → EReal := fun r k => dgate (DU V c r ⟨512 + k.val, by omega⟩) (bO2 V c (ix2 r k)) (bG2 V c r k)

/-- The terms of the weight gradient and of the modulation gate's. -/
abbrev TW (c : Dev nD) (k l : Fin 1024) : Fin 4096 → EReal := fun r => (cU V c (ix2 r k) : EReal) * DY V c r l
abbrev TG (c : Dev nD) (l : Fin 1024) : Fin 4096 → EReal := fun r => (cD V c (ix2 r l) : EReal) * (cY V c (ix2 r l) : EReal)

abbrev Out8 := Vec Ideal S512x512 .bf16 × Vec Ideal S512x512 .bf16 × Vec Ideal S512x512 .bf16 × Vec Ideal S512x512 .bf16 × Vec Ideal S1024x1024 .f32
  × Vec Ideal S8x1024 .f32 × Vec Ideal S512x512 .f32 × Vec Ideal S512x512 .f32

/-- The state after a grid point. -/
structure Inv (c : Dev nD) (t : Fin 8) (o : Out8) : Prop where
  h11 : ∀ r k, (o.1 (ix2 r k) : EReal) = DO1 V c (row t r) k
  h12 : ∀ r k, (o.2.1 (ix2 r k) : EReal) = DO2 V c (row t r) k
  h13 : ∀ r k, (o.2.2.1 (ix2 r k) : EReal) = DG1 V c (row t r) k
  h14 : ∀ r k, (o.2.2.2.1 (ix2 r k) : EReal) = DG2 V c (row t r) k
  h15 : ∀ k l, (o.2.2.2.2.1 (ix2 k l) : EReal) = upTo (TW V c k l) (t.val + 1)
  h16 : ∀ (a : Fin 8) (l : Fin 1024), (o.2.2.2.2.2.1 (ix2 a l) : EReal) = if a.val = 0 then upTo (TG V c l) (t.val + 1) else 0
  h17 : ∀ (r : Fin 512) (p : Fin 4) (e : Fin 2), (o.2.2.2.2.2.2.1 (ix2 r ⟨128 * p.val + (2 + e.val), by omega⟩) : EReal) = stat (DO1 V c) (mat (bO1 V c)) (row t r) p e
  h18 : ∀ (r : Fin 512) (p : Fin 4) (e : Fin 2), (o.2.2.2.2.2.2.2 (ix2 r ⟨128 * p.val + (2 + e.val), by omega⟩) : EReal) = stat (DO2 V c) (mat (bO2 V c)) (row t r) p e

theorem accG (c : Dev nD) (t : Fin cfg1.N) (a : FVec Ideal S1x1024 .f32) (l : Fin 1024) (ha : a (ix2 0 l) = upTo (TG V c l) t.val) :
    (k1_pay4 (F := Ideal) (iblk1 V c 0 t) a (iblk1 V c 2 t) (ix2 0 l) : EReal) = upTo (TG V c l) (t.val + 1) := by
  rw [p1_4, ha]
  refine Eq.trans ?_ (upTo_succ _ (tl1 t))
  refine congrArg (fun z : EReal => upTo (TG V c l) t.val + z) (Finset.sum_congr rfl fun r _ => ?_)
  exact congrArg₂ (fun a b : EReal => a * b) (b1_0 V c t r l) (b1_2 V c t r l)

theorem accW (c : Dev nD) (t : Fin cfg1.N) (a : FVec Ideal S1024x1024 .f32) (k l : Fin 1024) (ha : a (ix2 k l) = upTo (TW V c k l) t.val) :
    (k1_pay6 (F := Ideal) (iblk1 V c 0 t) (iblk1 V c 1 t) a (iblk1 V c 10 t) (ix2 k l) : EReal) = upTo (TW V c k l) (t.val + 1) := by
  rw [p1_6, ha]
  refine Eq.trans ?_ (upTo_succ _ (tl1 t))
  refine congrArg (fun z : EReal => upTo (TW V c k l) t.val + z) (Finset.sum_congr rfl fun r _ => ?_)
  exact congrArg₂ (fun a b : EReal => a * b) (b1_10 V c t r k) (dy_blk V c t r l)

abbrev PD (c : Dev nD) (t : Fin cfg1.N) : FVec Ideal S512x1024 .f32 := k1_pay7 (F := Ideal) (iblk1 V c 0 t) (iblk1 V c 1 t) (iblk1 V c 3 t)

theorem pd11 (c : Dev nD) (t : Fin cfg1.N) (r k : Fin 512) : (k1_pay11 (F := Ideal) (PD V c t) (iblk1 V c 6 t) (ix2 r k) : EReal) = DO1 V c (row (tl1 t) r) k := by
  rw [p1_11]
  exact congrArg₂ dout (du_blk V c t r _) (b1_6 V c t r k)

theorem pd29 (c : Dev nD) (t : Fin cfg1.N) (r k : Fin 512) : (k1_pay29 (F := Ideal) (PD V c t) (iblk1 V c 7 t) (ix2 r k) : EReal) = DO2 V c (row (tl1 t) r) k := by
  rw [p1_29]
  exact congrArg₂ dout (du_blk V c t r _) (b1_7 V c t r k)

theorem pd12 (c : Dev nD) (t : Fin cfg1.N) (r k : Fin 512) :
    (k1_pay12 (F := Ideal) (PD V c t) (iblk1 V c 6 t) (iblk1 V c 4 t) (ix2 r k) : EReal) = DG1 V c (row (tl1 t) r) k := by
  rw [p1_12]
  exact congr (congrArg₂ dgate (du_blk V c t r _) (b1_4 V c t r k)) (b1_6 V c t r k)

theorem pd30 (c : Dev nD) (t : Fin cfg1.N) (r k : Fin 512) :
    (k1_pay30 (F := Ideal) (PD V c t) (iblk1 V c 7 t) (iblk1 V c 5 t) (ix2 r k) : EReal) = DG2 V c (row (tl1 t) r) k := by
  rw [p1_30]
  exact congr (congrArg₂ dgate (du_blk V c t r _) (b1_5 V c t r k)) (b1_7 V c t r k)

theorem st13 (c : Dev nD) (t : Fin cfg1.N) (r : Fin 512) (p : Fin 4) (e : Fin 2) :
    statOf (k1_pay13 (F := Ideal) (PD V c t) (iblk1 V c 6 t) (iblk1 V c 4 t)) r p e = stat (DO1 V c) (mat (bO1 V c)) (row (tl1 t) r) p e := by
  refine Finset.sum_congr rfl fun k _ => ?_
  rw [p1_13, ← p1_11]
  exact congrArg₂ (fun a b : EReal => a * b) (pd11 V c t r _) (b1_4 V c t r _)

theorem st31 (c : Dev nD) (t : Fin cfg1.N) (r : Fin 512) (p : Fin 4) (e : Fin 2) :
    statOf (k1_pay31 (F := Ideal) (PD V c t) (iblk1 V c 7 t) (iblk1 V c 5 t)) r p e = stat (DO2 V c) (mat (bO2 V c)) (row (tl1 t) r) p e := by
  refine Finset.sum_congr rfl fun k _ => ?_
  rw [p1_31, ← p1_29]
  exact congrArg₂ (fun a b : EReal => a * b) (pd29 V c t r _) (b1_5 V c t r _)

/-- The first point. -/
theorem inv_A (c : Dev nD) (t : Fin cfg1.N) (h : t.val % 8 = 0) : Inv V c (tl1 t) (outsAt1 V c t.val t.isLt) := by
  have hN : t.val < 8 := lt_of_lt_of_eq t.isLt N_1
  have h0 : t.val = 0 := by omega
  rw [outsAt1_A V c t h]
  frame_out
  refine ⟨fun r k => pd11 V c t r k, fun r k => pd29 V c t r k, fun r k => pd12 V c t r k, fun r k => pd30 V c t r k, fun k l => ?_, fun a l => ?_, fun r p e => ?_, fun r p e => ?_⟩
  · refine accW V c t _ k l ?_
    rw [h0]
    exact p1_3 k l
  · dsimp only
    refine (RowAcc.canon_row 0 _ _ _ a l).trans ?_
    split
    · refine accG V c t _ l ?_
      rw [h0]
      refine (RowAcc.readCov_row _ 0 _ _ _ _ List.mem_cons_self l).trans ?_
      exact (congrFun (RowAcc.canon_whole _ _) _).trans (p1_2 _ l)
    · exact (congrFun (RowAcc.canon_whole _ _) _).trans (p1_2 a l)
  · dsimp only
    refine canon_four (Val := Elt Ideal) (e := .f32) _ _ _ _ _ _ _ _ r p ⟨2 + e.val, by omega⟩ (fun p => stat (DO1 V c) (mat (bO1 V c)) (row (tl1 t) r) p e) ?_ ?_ ?_ ?_
    exacts [(p1_17 _ _ _ _ r e).trans (st13 V c t r 0 e), (p1_18 _ _ r e).trans (st13 V c t r 1 e), (p1_20' _ _ r e).trans (st13 V c t r 2 e), (p1_25 _ _ r e).trans (st13 V c t r 3 e)]
  · dsimp only
    refine canon_four (Val := Elt Ideal) (e := .f32) _ _ _ _ _ _ _ _ r p ⟨2 + e.val, by omega⟩ (fun p => stat (DO2 V c) (mat (bO2 V c)) (row (tl1 t) r) p e) ?_ ?_ ?_ ?_
    exacts [(p1_33 _ _ _ _ r e).trans (st31 V c t r 0 e), (p1_38 _ _ r e).trans (st31 V c t r 1 e), (p1_39 _ _ r e).trans (st31 V c t r 2 e), (p1_1 _ _ r e).trans (st31 V c t r 3 e)]

/-- A later point. -/
theorem inv_B (c : Dev nD) (t : Fin cfg1.N) (h : ¬ t.val % 8 = 0)
    (ih : Inv V c ⟨t.val - 1, by have := lt_of_lt_of_eq t.isLt N_1; omega⟩ (outsAt1 V c (t.val - 1) (Nat.lt_of_le_of_lt (Nat.sub_le _ _) t.isLt))) :
    Inv V c (tl1 t) (outsAt1 V c t.val t.isLt) := by
  have hN : t.val < 8 := lt_of_lt_of_eq t.isLt N_1
  have h0 : t.val - 1 + 1 = t.val := by omega
  have ih15 := ih.h15
  have ih16 := ih.h16
  dsimp only at ih15 ih16
  rw [h0] at ih15 ih16
  rw [outsAt1_B V c t h]
  frame_out
  refine ⟨fun r k => pd11 V c t r k, fun r k => pd29 V c t r k, fun r k => pd12 V c t r k, fun r k => pd30 V c t r k, fun k l => ?_, fun a l => ?_, fun r p e => ?_, fun r p e => ?_⟩
  · exact accW V c t _ k l (ih15 k l)
  · dsimp only
    refine (RowAcc.read_row _ _ 0 _ _ _ a l).trans ?_
    split
    · exact accG V c t _ l ((RowAcc.ld_row 0 _ _ l).trans ((ih16 0 l).trans (if_pos rfl)))
    · next ha =>
      refine (congrFun (Memref.IsWhole.read_unread _ _) _).trans ?_
      exact (ih16 a l).trans (if_neg ha)
  · dsimp only
    refine canon_four (Val := Elt Ideal) (e := .f32) _ _ _ _ _ _ _ _ r p ⟨2 + e.val, by omega⟩ (fun p => stat (DO1 V c) (mat (bO1 V c)) (row (tl1 t) r) p e) ?_ ?_ ?_ ?_
    exacts [(p1_17 _ _ _ _ r e).trans (st13 V c t r 0 e), (p1_18 _ _ r e).trans (st13 V c t r 1 e), (p1_20' _ _ r e).trans (st13 V c t r 2 e), (p1_25 _ _ r e).trans (st13 V c t r 3 e)]
  · dsimp only
    refine canon_four (Val := Elt Ideal) (e := .f32) _ _ _ _ _ _ _ _ r p ⟨2 + e.val, by omega⟩ (fun p => stat (DO2 V c) (mat (bO2 V c)) (row (tl1 t) r) p e) ?_ ?_ ?_ ?_
    exacts [(p1_33 _ _ _ _ r e).trans (st31 V c t r 0 e), (p1_38 _ _ r e).trans (st31 V c t r 1 e), (p1_39 _ _ r e).trans (st31 V c t r 2 e), (p1_1 _ _ r e).trans (st31 V c t r 3 e)]

theorem inv (c : Dev nD) : ∀ (n : ℕ) (hn : n < cfg1.N), Inv V c (tl1 ⟨n, hn⟩) (outsAt1 V c n hn) := by
  intro n
  induction n with
  | zero => exact fun hn => inv_A V c ⟨0, hn⟩ rfl
  | succ n ih =>
    intro hn
    have hN : n + 1 < 8 := lt_of_lt_of_eq hn N_1
    exact inv_B V c ⟨n + 1, hn⟩ (by show ¬ (n + 1) % 8 = 0; omega) (ih _)

/-! ## The result arrays -/

theorem bwd11 (c : Dev nD) : (dat1 V c).arrAt 11 cfg1.N = (fun i => DO1 V c (i 0) (i 1) : FVec Ideal S4096x512 .bf16) := by
  refine (dat1 V c).arrAt_eq_of_covers 11 _ (by decide +kernel) fun t hf y => ?_
  blk_simp
  rw [after1_11]
  idx_vars y
  refine ((inv V c t.val t.isLt).h11 y0 y1).trans ?_
  refine congrArg₂ (fun i j => DO1 V c i j) (Fin.ext ?_) (Fin.ext ?_)
  · show 512 * t.val + y0.val = win1_11.index t 0 * 512 + 1 * y0.val
    rw [show win1_11.index t = ![t.val, 0] from (idx1 t).2.2.2.2.2.2.2.2.2.1]
    show _ = t.val * 512 + 1 * y0.val
    omega
  · show y1.val = win1_11.index t 1 * 512 + 1 * y1.val
    rw [show win1_11.index t = ![t.val, 0] from (idx1 t).2.2.2.2.2.2.2.2.2.1]
    show _ = 0 * 512 + 1 * y1.val
    omega

theorem bwd12 (c : Dev nD) : (dat1 V c).arrAt 12 cfg1.N = (fun i => DO2 V c (i 0) (i 1) : FVec Ideal S4096x512 .bf16) := by
  refine (dat1 V c).arrAt_eq_of_covers 12 _ (by decide +kernel) fun t hf y => ?_
  blk_simp
  rw [after1_12]
  idx_vars y
  refine ((inv V c t.val t.isLt).h12 y0 y1).trans ?_
  refine congrArg₂ (fun i j => DO2 V c i j) (Fin.ext ?_) (Fin.ext ?_)
  · show 512 * t.val + y0.val = win1_12.index t 0 * 512 + 1 * y0.val
    rw [show win1_12.index t = ![t.val, 0] from (idx1 t).2.2.2.2.2.2.2.2.2.2.1]
    show _ = t.val * 512 + 1 * y0.val
    omega
  · show y1.val = win1_12.index t 1 * 512 + 1 * y1.val
    rw [show win1_12.index t = ![t.val, 0] from (idx1 t).2.2.2.2.2.2.2.2.2.2.1]
    show _ = 0 * 512 + 1 * y1.val
    omega

theorem bwd13 (c : Dev nD) : (dat1 V c).arrAt 13 cfg1.N = (fun i => DG1 V c (i 0) (i 1) : FVec Ideal S4096x512 .bf16) := by
  refine (dat1 V c).arrAt_eq_of_covers 13 _ (by decide +kernel) fun t hf y => ?_
  blk_simp
  rw [after1_13]
  idx_vars y
  refine ((inv V c t.val t.isLt).h13 y0 y1).trans ?_
  refine congrArg₂ (fun i j => DG1 V c i j) (Fin.ext ?_) (Fin.ext ?_)
  · show 512 * t.val + y0.val = win1_13.index t 0 * 512 + 1 * y0.val
    rw [show win1_13.index t = ![t.val, 0] from (idx1 t).2.2.2.2.2.2.2.2.2.2.2.1]
    show _ = t.val * 512 + 1 * y0.val
    omega
  · show y1.val = win1_13.index t 1 * 512 + 1 * y1.val
    rw [show win1_13.index t = ![t.val, 0] from (idx1 t).2.2.2.2.2.2.2.2.2.2.2.1]
    show _ = 0 * 512 + 1 * y1.val
    omega

theorem bwd14 (c : Dev nD) : (dat1 V c).arrAt 14 cfg1.N = (fun i => DG2 V c (i 0) (i 1) : FVec Ideal S4096x512 .bf16) := by
  refine (dat1 V c).arrAt_eq_of_covers 14 _ (by decide +kernel) fun t hf y => ?_
  blk_simp
  rw [after1_14]
  idx_vars y
  refine ((inv V c t.val t.isLt).h14 y0 y1).trans ?_
  refine congrArg₂ (fun i j => DG2 V c i j) (Fin.ext ?_) (Fin.ext ?_)
  · show 512 * t.val + y0.val = win1_14.index t 0 * 512 + 1 * y0.val
    rw [show win1_14.index t = ![t.val, 0] from (idx1 t).2.2.2.2.2.2.2.2.2.2.2.2.1]
    show _ = t.val * 512 + 1 * y0.val
    omega
  · show y1.val = win1_14.index t 1 * 512 + 1 * y1.val
    rw [show win1_14.index t = ![t.val, 0] from (idx1 t).2.2.2.2.2.2.2.2.2.2.2.2.1]
    show _ = 0 * 512 + 1 * y1.val
    omega

/-- The last grid point. -/
abbrev last1 : Fin cfg1.N := ⟨7, lt_of_lt_of_eq (by decide : 7 < 8) N_1.symm⟩

theorem bwd15 (c : Dev nD) : (dat1 V c).arrAt 15 cfg1.N = (fun i => upTo (TW V c (i 0) (i 1)) 8 : FVec Ideal S1024x1024 .f32) := by
  refine (dat1 V c).arrAt_eq_of_after_last 15 last1 (by decide +kernel) _ fun y => ?_
  blk_simp
  rw [after1_15]
  idx_vars y
  exact (inv V c last1.val last1.isLt).h15 y0 y1

theorem bwd16 (c : Dev nD) : (dat1 V c).arrAt 16 cfg1.N = (fun i => if (i 0).val = 0 then upTo (TG V c (i 1)) 8 else 0 : FVec Ideal S8x1024 .f32) := by
  refine (dat1 V c).arrAt_eq_of_after_last 16 last1 (by decide +kernel) _ fun y => ?_
  blk_simp
  rw [after1_16]
  idx_vars y
  exact (inv V c last1.val last1.isLt).h16 y0 y1

/-- What the grid point `t` writes to the two arrays of statistics. -/
def sfOf (c : Dev nD) (t : Fin 8) (r l : Fin 512) : EReal := (outsAt1 V c t.val (lt_of_lt_of_eq t.isLt N_1.symm)).2.2.2.2.2.2.1 (ix2 r l)
def smOf (c : Dev nD) (t : Fin 8) (r l : Fin 512) : EReal := (outsAt1 V c t.val (lt_of_lt_of_eq t.isLt N_1.symm)).2.2.2.2.2.2.2 (ix2 r l)

/-- The tile of a row and its place there. -/
abbrev tOf (r : Fin 4096) : Fin 8 := ⟨r.val / 512, by omega⟩
abbrev rOf (r : Fin 4096) : Fin 512 := ⟨r.val % 512, by omega⟩

theorem row_tOf (r : Fin 4096) : row (tOf r) (rOf r) = r := Fin.ext (by show 512 * (r.val / 512) + r.val % 512 = r.val; omega)

theorem bwd17 (c : Dev nD) : (dat1 V c).arrAt 17 cfg1.N = (fun i => sfOf V c (tOf (i 0)) (rOf (i 0)) (i 1) : FVec Ideal S4096x512 .f32) := by
  refine (dat1 V c).arrAt_eq_of_covers 17 _ (by decide +kernel) fun t hf y => ?_
  blk_simp
  rw [after1_17]
  idx_vars y
  have e0 : (win1_17.index t 0 : ℕ) = t.val := congrFun (show win1_17.index t = ![t.val, 0] from (idx1 t).2.2.2.2.2.2.2.2.2.2.2.2.2.2.2.1) 0
  have e1 : (win1_17.index t 1 : ℕ) = 0 := congrFun (show win1_17.index t = ![t.val, 0] from (idx1 t).2.2.2.2.2.2.2.2.2.2.2.2.2.2.2.1) 1
  have hy := y0.isLt
  refine Eq.trans (b := sfOf V c (tl1 t) y0 y1) rfl ?_
  refine congr (congrArg₂ (fun i j => sfOf V c i j) (Fin.ext ?_) (Fin.ext ?_)) (Fin.ext ?_)
  · show t.val = (win1_17.index t 0 * 512 + 1 * y0.val) / 512
    rw [e0]; omega
  · show y0.val = (win1_17.index t 0 * 512 + 1 * y0.val) % 512
    rw [e0]; omega
  · show y1.val = win1_17.index t 1 * 512 + 1 * y1.val
    rw [e1]; omega

theorem bwd18 (c : Dev nD) : (dat1 V c).arrAt 18 cfg1.N = (fun i => smOf V c (tOf (i 0)) (rOf (i 0)) (i 1) : FVec Ideal S4096x512 .f32) := by
  refine (dat1 V c).arrAt_eq_of_covers 18 _ (by decide +kernel) fun t hf y => ?_
  blk_simp
  rw [after1_18]
  idx_vars y
  have e0 : (win1_18.index t 0 : ℕ) = t.val := congrFun (show win1_18.index t = ![t.val, 0] from (idx1 t).2.2.2.2.2.2.2.2.2.2.2.2.2.2.2.2) 0
  have e1 : (win1_18.index t 1 : ℕ) = 0 := congrFun (show win1_18.index t = ![t.val, 0] from (idx1 t).2.2.2.2.2.2.2.2.2.2.2.2.2.2.2.2) 1
  have hy := y0.isLt
  refine Eq.trans (b := smOf V c (tl1 t) y0 y1) rfl ?_
  refine congr (congrArg₂ (fun i j => smOf V c i j) (Fin.ext ?_) (Fin.ext ?_)) (Fin.ext ?_)
  · show t.val = (win1_18.index t 0 * 512 + 1 * y0.val) / 512
    rw [e0]; omega
  · show y0.val = (win1_18.index t 0 * 512 + 1 * y0.val) % 512
    rw [e0]; omega
  · show y1.val = win1_18.index t 1 * 512 + 1 * y1.val
    rw [e1]; omega

/-- Lanes 2 and 3 of every pair of heads. -/
theorem sf_lane (c : Dev nD) (r : Fin 4096) (p : Fin 4) (e : Fin 2) :
    sfOf V c (tOf r) (rOf r) ⟨128 * p.val + (2 + e.val), by omega⟩ = stat (DO1 V c) (mat (bO1 V c)) r p e := by
  refine ((inv V c (tOf r).val (lt_of_lt_of_eq (tOf r).isLt N_1.symm)).h17 (rOf r) p e).trans ?_
  exact congrArg (fun r => stat (DO1 V c) (mat (bO1 V c)) r p e) (row_tOf r)

theorem sm_lane (c : Dev nD) (r : Fin 4096) (p : Fin 4) (e : Fin 2) :
    smOf V c (tOf r) (rOf r) ⟨128 * p.val + (2 + e.val), by omega⟩ = stat (DO2 V c) (mat (bO2 V c)) r p e := by
  refine ((inv V c (tOf r).val (lt_of_lt_of_eq (tOf r).isLt N_1.symm)).h18 (rOf r) p e).trans ?_
  exact congrArg (fun r => stat (DO2 V c) (mat (bO2 V c)) r p e) (row_tOf r)

end Cert.BwdOutIdeal.Hand

end
-- ==== Proof.BwdOutValue.lean ====
/- What the output gate's two calls leave, from the launch's arguments. -/
module

public import proofs.«01_k».proof.Proof.BwdOutBwd

@[expose] public section

set_option maxRecDepth 16384

noncomputable section

open Idealize.ShloMosaic Idealize.ShloMosaic.TcCoe Idealize.SL.Sem
open Idealize.ShloMosaic.Pipeline (Dat)

namespace Cert.BwdOutIdeal.Hand

open Cert.BwdOutIdeal Cert.BwdOutIdeal.Gen
open Cert.RmsNorm (row upTo upTo_eight)

variable (m : (ℓ : Loc nD τ sig) → Buf (Elt Ideal) ℓ) (ρ : Dev nD → PrngReg)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x1024 .f32 := m ((c : Thread nD τ).loc main_arg2)
abbrev A3 (c : Dev nD) : FVec Ideal S4096x512 .f32 := m ((c : Thread nD τ).loc main_arg3)
abbrev A4 (c : Dev nD) : FVec Ideal S4096x512 .f32 := m ((c : Thread nD τ).loc main_arg4)
abbrev A5 (c : Dev nD) : FVec Ideal S4096x2984 .f32 := m ((c : Thread nD τ).loc main_arg5)
abbrev A6 (c : Dev nD) : FVec Ideal S4096x1024 .f32 := m ((c : Thread nD τ).loc main_arg6)

/-- The two gates, as columns of the input product. -/
abbrev gg1 (c : Dev nD) : Fin 4096 → Fin 512 → EReal := fun r k => A5 m c (ix2 r ⟨1544 + k.val, by omega⟩)
abbrev gg2 (c : Dev nD) : Fin 4096 → Fin 512 → EReal := fun r k => A5 m c (ix2 r ⟨2472 + k.val, by omega⟩)

/-! ## What the first grid starts from -/

theorem Z_lo (c : Dev nD) (r : Fin 4096) (k : Fin 512) : bG1 (V1 m ρ) c r k = gg1 m c r k := by
  show ((W1 m ρ c (Proc.devRef .tc main_v13) : FVec Ideal S4096x1536 .f32) (ix2 r ⟨k.val, _⟩) : EReal) = _
  after_reads_simp
  pointwise
  rw [dif_pos (by omega)]
  after_reads_simp
  pointwise

theorem Z_hi (c : Dev nD) (r : Fin 4096) (k : Fin 512) : bG2 (V1 m ρ) c r k = gg2 m c r k := by
  show ((W1 m ρ c (Proc.devRef .tc main_v13) : FVec Ideal S4096x1536 .f32) (ix2 r ⟨512 + k.val, _⟩) : EReal) = _
  after_reads_simp
  pointwise
  rw [dif_pos (by omega)]
  after_reads_simp
  pointwise

theorem W_1 (c : Dev nD) (k l : Fin 1024) : (bW (V1 m ρ) c (ix3 0 k l) : EReal) = A2 m c (ix2 k l) := by
  show ((W1 m ρ c (Proc.devRef .tc main_v15) : FVec Ideal S1x1024x1024 .bf16) (ix3 0 k l) : EReal) = _
  after_reads_simp
  pointwise

theorem G_1 (c : Dev nD) (l : Fin 1024) : (bG (V1 m ρ) c (ix2 0 l) : EReal) = A1 m c (ix1 l) := by
  show ((W1 m ρ c (Proc.devRef .tc main_v16) : FVec Ideal S1x1024 .f32) (ix2 0 l) : EReal) = _
  after_reads_simp
  pointwise

theorem O1_1 (c : Dev nD) : bO1 (V1 m ρ) c = A3 m c := W1_args m ρ c main_arg3 (by decide)
theorem O2_1 (c : Dev nD) : bO2 (V1 m ρ) c = A4 m c := W1_args m ρ c main_arg4 (by decide)
theorem X_1 (c : Dev nD) : bX (V1 m ρ) c = A6 m c := W1_args m ρ c main_arg6 (by decide)

/-- The gated outputs, their projection and its cotangents, from the launch's arguments. -/
abbrev uA (c : Dev nD) : Fin 4096 → Fin 1024 → EReal := u (mat (A3 m c)) (mat (A4 m c)) (gg1 m c) (gg2 m c)
abbrev yA (c : Dev nD) : Fin 4096 → Fin 1024 → EReal := yy (mat (A3 m c)) (mat (A4 m c)) (gg1 m c) (gg2 m c) (mat (A2 m c))
abbrev gtA (c : Dev nD) : Fin 1024 → EReal := fun l => A1 m c (ix1 l)
abbrev dyA (c : Dev nD) : Fin 4096 → Fin 1024 → EReal := dy (gtA m c) (mat (A0 m c))
abbrev duA (c : Dev nD) : Fin 4096 → Fin 1024 → EReal := du (mat (A2 m c)) (gtA m c) (mat (A0 m c))

theorem U_1 (c : Dev nD) : U0 (V1 m ρ) c = uA m c := by
  unfold U0
  rw [O1_1, O2_1, show bG1 (V1 m ρ) c = gg1 m c from funext fun r => funext fun k => Z_lo m ρ c r k,
    show bG2 (V1 m ρ) c = gg2 m c from funext fun r => funext fun k => Z_hi m ρ c r k]

theorem Y_1 (c : Dev nD) : Y0 (V1 m ρ) c = yA m c := by
  unfold Y0
  rw [O1_1, O2_1, show bG1 (V1 m ρ) c = gg1 m c from funext fun r => funext fun k => Z_lo m ρ c r k,
    show bG2 (V1 m ρ) c = gg2 m c from funext fun r => funext fun k => Z_hi m ρ c r k,
    show wm (bW (V1 m ρ) c) = mat (A2 m c) from funext fun k => funext fun l => W_1 m ρ c k l]

/-! ## What the second grid starts from -/

theorem Z_3 (c : Dev nD) : bZ (V3 m ρ) c = bZ (V1 m ρ) c :=
  (W3_of m ρ c main_v13 (by decide)).trans (W2_of m ρ c main_v13 (by decide +kernel))
theorem W_3 (c : Dev nD) : bW (V3 m ρ) c = bW (V1 m ρ) c :=
  (W3_of m ρ c main_v15 (by decide)).trans (W2_of m ρ c main_v15 (by decide +kernel))
theorem O1_3 (c : Dev nD) : bO1 (V3 m ρ) c = A3 m c := W3_args m ρ c main_arg3 (by decide)
theorem O2_3 (c : Dev nD) : bO2 (V3 m ρ) c = A4 m c := W3_args m ρ c main_arg4 (by decide)
theorem D_3 (c : Dev nD) : cD (V3 m ρ) c = A0 m c := W3_args m ρ c main_arg0 (by decide)

theorem G_3 (c : Dev nD) (l : Fin 1024) : (cG (V3 m ρ) c (ix2 0 l) : EReal) = A1 m c (ix1 l) := by
  show ((W3 m ρ c (Proc.devRef .tc main_v19) : FVec Ideal S1x1024 .f32) (ix2 0 l) : EReal) = _
  rw [show A1 m c = W2 m ρ c (Proc.devRef .tc main_arg1) from (W2_args m ρ c main_arg1 (by decide)).symm]
  after_reads_simp
  pointwise

theorem U_3 (c : Dev nD) : cU (V3 m ρ) c = (fun i => uA m c (i 0) (i 1) : FVec Ideal S4096x1024 .bf16) := by
  refine (W3_of m ρ c main_v17_1 (by decide)).trans ((W2_arr m ρ c 8).trans ((fwd8 (V1 m ρ) c).trans ?_))
  rw [U_1]

theorem Y_3 (c : Dev nD) : cY (V3 m ρ) c = (fun i => yA m c (i 0) (i 1) : FVec Ideal S4096x1024 .bf16) := by
  refine (W3_of m ρ c main_v17_2 (by decide)).trans ((W2_arr m ρ c 9).trans ((fwd9 (V1 m ρ) c).trans ?_))
  rw [Y_1]

theorem DY_3 (c : Dev nD) : DY (V3 m ρ) c = dyA m c := by
  unfold DY
  rw [D_3, show rw0 (cG (V3 m ρ) c) = gtA m c from funext fun l => G_3 m ρ c l]

theorem DU_3 (c : Dev nD) : DU (V3 m ρ) c = duA m c := by
  unfold DU
  rw [D_3, W_3, show rw0 (cG (V3 m ρ) c) = gtA m c from funext fun l => G_3 m ρ c l,
    show wm (bW (V1 m ρ) c) = mat (A2 m c) from funext fun k => funext fun l => W_1 m ρ c k l]

theorem G1_3 (c : Dev nD) (r : Fin 4096) (k : Fin 512) : bG1 (V3 m ρ) c r k = gg1 m c r k := (congrFun (Z_3 m ρ c) _).trans (Z_lo m ρ c r k)
theorem G2_3 (c : Dev nD) (r : Fin 4096) (k : Fin 512) : bG2 (V3 m ρ) c r k = gg2 m c r k := (congrFun (Z_3 m ρ c) _).trans (Z_hi m ρ c r k)

/-! ## The results -/

abbrev do1 (c : Dev nD) (r : Fin 4096) (k : Fin 512) : EReal := dout (duA m c r ⟨k.val, by omega⟩) (gg1 m c r k)
abbrev do2 (c : Dev nD) (r : Fin 4096) (k : Fin 512) : EReal := dout (duA m c r ⟨512 + k.val, by omega⟩) (gg2 m c r k)
abbrev dg1 (c : Dev nD) (r : Fin 4096) (k : Fin 512) : EReal := dgate (duA m c r ⟨k.val, by omega⟩) (A3 m c (ix2 r k)) (gg1 m c r k)
abbrev dg2 (c : Dev nD) (r : Fin 4096) (k : Fin 512) : EReal := dgate (duA m c r ⟨512 + k.val, by omega⟩) (A4 m c (ix2 r k)) (gg2 m c r k)

theorem DG1_3 (c : Dev nD) : DG1 (V3 m ρ) c = dg1 m c := by
  funext r k
  show dgate (DU (V3 m ρ) c r _) (bO1 (V3 m ρ) c _) (bG1 (V3 m ρ) c r k) = _
  rw [DU_3, O1_3, G1_3]

theorem DG2_3 (c : Dev nD) : DG2 (V3 m ρ) c = dg2 m c := by
  funext r k
  show dgate (DU (V3 m ρ) c r _) (bO2 (V3 m ρ) c _) (bG2 (V3 m ρ) c r k) = _
  rw [DU_3, O2_3, G2_3]

theorem DO1_3 (c : Dev nD) : DO1 (V3 m ρ) c = do1 m c := by
  funext r k
  show dout (DU (V3 m ρ) c r _) (bG1 (V3 m ρ) c r k) = _
  rw [DU_3, G1_3]

theorem DO2_3 (c : Dev nD) : DO2 (V3 m ρ) c = do2 m c := by
  funext r k
  show dout (DU (V3 m ρ) c r _) (bG2 (V3 m ρ) c r k) = _
  rw [DU_3, G2_3]

theorem res0 (c : Dev nD) : W5 m ρ c (Proc.devRef .tc main_v17_0)
    = (fun i => (A6 m c (ix2 (i 0) (i 1)) : EReal) + (A1 m c (ix1 (i 1)) : EReal) * yA m c (i 0) (i 1) : FVec Ideal S4096x1024 .f32) := by
  refine (W5_of m ρ c main_v17_0 (by decide)).trans ((W4_of m ρ c main_v17_0 (by decide +kernel)).trans ((W3_of m ρ c main_v17_0 (by decide)).trans
    ((W2_arr m ρ c 7).trans ((fwd7 (V1 m ρ) c).trans ?_))))
  rw [X_1, Y_1]
  funext i
  idx_vars i
  exact congrArg (fun z : EReal => (A6 m c (ix2 i0 i1) : EReal) + z * yA m c i0 i1) (G_1 m ρ c i1)

theorem res1 (c : Dev nD) : W5 m ρ c (Proc.devRef .tc main_v20_0) = (fun i => do1 m c (i 0) (i 1) : FVec Ideal S4096x512 .bf16) := by
  refine (W5_of m ρ c main_v20_0 (by decide)).trans ((W4_arr m ρ c 11).trans ((bwd11 (V3 m ρ) c).trans ?_))
  rw [DO1_3]

theorem res2 (c : Dev nD) : W5 m ρ c (Proc.devRef .tc main_v20_1) = (fun i => do2 m c (i 0) (i 1) : FVec Ideal S4096x512 .bf16) := by
  refine (W5_of m ρ c main_v20_1 (by decide)).trans ((W4_arr m ρ c 12).trans ((bwd12 (V3 m ρ) c).trans ?_))
  rw [DO2_3]

theorem res3 (c : Dev nD) : W5 m ρ c (Proc.devRef .tc main_v20_2) = (fun i => dg1 m c (i 0) (i 1) : FVec Ideal S4096x512 .bf16) := by
  refine (W5_of m ρ c main_v20_2 (by decide)).trans ((W4_arr m ρ c 13).trans ((bwd13 (V3 m ρ) c).trans ?_))
  rw [DG1_3]

theorem res4 (c : Dev nD) : W5 m ρ c (Proc.devRef .tc main_v20_3) = (fun i => dg2 m c (i 0) (i 1) : FVec Ideal S4096x512 .bf16) := by
  refine (W5_of m ρ c main_v20_3 (by decide)).trans ((W4_arr m ρ c 14).trans ((bwd14 (V3 m ρ) c).trans ?_))
  rw [DG2_3]

theorem res5 (c : Dev nD) : W5 m ρ c (Proc.devRef .tc main_v20_4)
    = (fun i => ∑ r : Fin 4096, uA m c r (i 0) * dyA m c r (i 1) : FVec Ideal S1024x1024 .f32) := by
  refine (W5_of m ρ c main_v20_4 (by decide)).trans ((W4_arr m ρ c 15).trans ((bwd15 (V3 m ρ) c).trans ?_))
  funext i
  rw [upTo_eight]
  refine Finset.sum_congr rfl fun r _ => ?_
  show (cU (V3 m ρ) c _ : EReal) * DY (V3 m ρ) c r (i 1) = _
  rw [U_3, DY_3]
  rfl

theorem res6 (c : Dev nD) : W5 m ρ c (Proc.devRef .tc main_v20_5)
    = (fun i => if (i 0 : Fin 8).val = 0 then ∑ r : Fin 4096, (A0 m c (ix2 r (i 1)) : EReal) * yA m c r (i 1) else 0 : FVec Ideal S8x1024 .f32) := by
  refine (W5_of m ρ c main_v20_5 (by decide)).trans ((W4_arr m ρ c 16).trans ((bwd16 (V3 m ρ) c).trans ?_))
  funext i
  rw [upTo_eight]
  refine if_congr Iff.rfl (Finset.sum_congr rfl fun r _ => ?_) rfl
  show (cD (V3 m ρ) c _ : EReal) * (cY (V3 m ρ) c _ : EReal) = _
  rw [Y_3, D_3]
  rfl

theorem res7 (c : Dev nD) (r : Fin 4096) (p : Fin 4) (e : Fin 2) :
    ((W5 m ρ c (Proc.devRef .tc main_v22) : FVec Ideal S4096x4x2 .f32) (ix3 r p e) : EReal) = stat (do1 m c) (mat (A3 m c)) r p e := by
  have h : W4 m ρ c (Proc.devRef .tc main_v20_6) = (fun i => sfOf (V3 m ρ) c (tOf (i 0)) (rOf (i 0)) (i 1) : FVec Ideal S4096x512 .f32) :=
    (W4_arr m ρ c 17).trans (bwd17 (V3 m ρ) c)
  have h' := sf_lane (V3 m ρ) c r p e
  rw [DO1_3, O1_3] at h'
  refine Eq.trans ?_ h'
  show ((StableHlo.after hostOps2 (W4 m ρ c) (Proc.devRef .tc main_v22) : FVec Ideal S4096x4x2 .f32) (ix3 r p e) : EReal) = _
  after_reads_simp
  pointwise
  rw [h]
  exact congrArg (fun l : Fin 512 => sfOf (V3 m ρ) c (tOf r) (rOf r) l) (Fin.ext (by show p.val * 128 + (2 + e.val) = 128 * p.val + (2 + e.val); omega))

theorem res8 (c : Dev nD) (r : Fin 4096) (p : Fin 4) (e : Fin 2) :
    ((W5 m ρ c (Proc.devRef .tc main_v24) : FVec Ideal S4096x4x2 .f32) (ix3 r p e) : EReal) = stat (do2 m c) (mat (A4 m c)) r p e := by
  have h : W4 m ρ c (Proc.devRef .tc main_v20_7) = (fun i => smOf (V3 m ρ) c (tOf (i 0)) (rOf (i 0)) (i 1) : FVec Ideal S4096x512 .f32) :=
    (W4_arr m ρ c 18).trans (bwd18 (V3 m ρ) c)
  have h' := sm_lane (V3 m ρ) c r p e
  rw [DO2_3, O2_3] at h'
  refine Eq.trans ?_ h'
  show ((StableHlo.after hostOps2 (W4 m ρ c) (Proc.devRef .tc main_v24) : FVec Ideal S4096x4x2 .f32) (ix3 r p e) : EReal) = _
  after_reads_simp
  pointwise
  rw [h]
  exact congrArg (fun l : Fin 512 => smOf (V3 m ρ) c (tOf r) (rOf r) l) (Fin.ext (by show p.val * 128 + (2 + e.val) = 128 * p.val + (2 + e.val); omega))

end Cert.BwdOutIdeal.Hand

end
-- ==== Proof.BwdOutRef.lean ====
/- The reference of the output gate's gradients, at an index. -/
module

public import proofs.«01_k».proof.Proof.Gen.BwdOutRefIdeal.Run
public import proofs.«01_k».proof.Proof.Gen.BwdOutRefIdeal.Read
public import proofs.«01_k».proof.Proof.BwdOutPay

@[expose] public section

set_option maxRecDepth 16384

noncomputable section

open Idealize.ShloMosaic Idealize.ShloMosaic.TcCoe Idealize.SL.Sem

namespace Cert.BwdOutRefIdeal.Hand

open Cert.BwdOutRefIdeal Cert.BwdOutRefIdeal.Value Cert.BwdOutRefIdeal.Read
open Cert.BwdOutIdeal.Hand (sg u yy dy du dout dgate mat)

variable (x0 : FVec Ideal S4096x1024 .f32) (x1 : FVec Ideal S1024 .f32) (x2 : FVec Ideal S1024x1024 .f32) (x3 x4 : FVec Ideal S4096x512 .f32)
variable (x5 : FVec Ideal S4096x2984 .f32) (x6 : FVec Ideal S4096x1024 .f32)

/-- The two gates, as columns of the input product. -/
abbrev g1 : Fin 4096 → Fin 512 → EReal := fun r k => x5 (ix2 r ⟨1544 + k.val, by omega⟩)
abbrev g2 : Fin 4096 → Fin 512 → EReal := fun r k => x5 (ix2 r ⟨2472 + k.val, by omega⟩)
abbrev gt : Fin 1024 → EReal := fun l => x1 (ix1 l)

theorem s1 (r : Fin 4096) (k : Fin 512) : (val_main_v2_2 (F := Ideal) x5 (ix2 r k) : EReal) = sg (g1 x5 r k) := by
  pointwise [val_main_v2_2, val_main_call0_v4, val_main_call0_cst_0, val_main_call0_v3, val_main_call0_v2, val_main_call0_cst, val_main_call0_v1, val_main_call0_v0, val_main_v0]
  unfold sg
  rw [zero_sub]

theorem s2 (r : Fin 4096) (k : Fin 512) : (val_main_v4_2 (F := Ideal) x5 (ix2 r k) : EReal) = sg (g2 x5 r k) := by
  pointwise [val_main_v4_2, val_main_call1_v4, val_main_call1_cst_0, val_main_call1_v3, val_main_call1_v2, val_main_call1_cst, val_main_call1_v1, val_main_call1_v0, val_main_v1]
  unfold sg
  rw [zero_sub]

theorem v6_apply (r : Fin 4096) (k : Fin 1024) : (val_main_v6 (F := Ideal) x3 x4 x5 (ix2 r k) : EReal) = u (mat x3) (mat x4) (g1 x5) (g2 x5) r k := by
  pointwise [val_main_v6, val_main_v3, val_main_v5, val_main_v2_0, val_main_v4_0, val_main_v0, val_main_v1]
  simp only [s1, s2]
  unfold u
  split
  · exact (mul_assoc _ _ _).symm
  · exact (mul_assoc _ _ _).symm

theorem v8_apply (r : Fin 4096) (l : Fin 1024) :
    (val_main_v8 (F := Ideal) x2 x3 x4 x5 (ix2 r l) : EReal) = yy (mat x3) (mat x4) (g1 x5) (g2 x5) (mat x2) r l := by
  pointwise [val_main_v8]
  simp only [v6_apply]
  rfl

theorem v11_apply (r : Fin 4096) (l : Fin 1024) : (val_main_v11 (F := Ideal) x1 x2 x3 x4 x5 x6 (ix2 r l) : EReal)
    = (x6 (ix2 r l) : EReal) + (x1 (ix1 l) : EReal) * yy (mat x3) (mat x4) (g1 x5) (g2 x5) (mat x2) r l := by
  pointwise [val_main_v11, val_main_v10, val_main_v9, val_main_v7]
  rw [v8_apply]

theorem v13_apply (r : Fin 4096) (l : Fin 1024) : (val_main_v13 (F := Ideal) x0 x1 (ix2 r l) : EReal) = dy (gt x1) (mat x0) r l := by
  pointwise [val_main_v13, val_main_v12, val_main_v7]
  rfl

theorem v19_apply (r : Fin 4096) (k : Fin 1024) : (val_main_v19 (F := Ideal) x0 x1 x2 (ix2 r k) : EReal) = du (mat x2) (gt x1) (mat x0) r k := by
  pointwise [val_main_v19]
  simp only [v13_apply]
  rfl

theorem v18_apply (k l : Fin 1024) : (val_main_v18 (F := Ideal) x0 x1 x3 x4 x5 (ix2 k l) : EReal)
    = ∑ r : Fin 4096, u (mat x3) (mat x4) (g1 x5) (g2 x5) r k * dy (gt x1) (mat x0) r l := by
  pointwise [val_main_v18, val_main_v17]
  simp only [v13_apply, v6_apply]
  exact Finset.sum_congr rfl fun r _ => mul_comm _ _

theorem v27_apply (r : Fin 4096) (k : Fin 512) : (val_main_v27 (F := Ideal) x0 x1 x2 x5 (ix2 r k) : EReal)
    = dout (du (mat x2) (gt x1) (mat x0) r ⟨k.val, by omega⟩) (g1 x5 r k) := by
  pointwise [val_main_v27, val_main_v21, val_main_v2_0, val_main_v0]
  rw [s1, v19_apply]
  exact (mul_assoc _ _ _).symm

theorem v24_apply (r : Fin 4096) (k : Fin 512) : (val_main_v24 (F := Ideal) x0 x1 x2 x5 (ix2 r k) : EReal)
    = dout (du (mat x2) (gt x1) (mat x0) r ⟨512 + k.val, by omega⟩) (g2 x5 r k) := by
  pointwise [val_main_v24, val_main_v22, val_main_v4_0, val_main_v1]
  rw [s2, v19_apply]
  exact (mul_assoc _ _ _).symm

theorem v29_apply (r : Fin 4096) (k : Fin 512) : (val_main_v29 (F := Ideal) x0 x1 x2 x5 (ix2 r k) : EReal)
    = dout (du (mat x2) (gt x1) (mat x0) r ⟨k.val, by omega⟩) (g1 x5 r k) := v27_apply x0 x1 x2 x5 r k

theorem v30_apply (r : Fin 4096) (k : Fin 512) : (val_main_v30 (F := Ideal) x0 x1 x2 x5 (ix2 r k) : EReal)
    = dout (du (mat x2) (gt x1) (mat x0) r ⟨512 + k.val, by omega⟩) (g2 x5 r k) := v24_apply x0 x1 x2 x5 r k

/-- The chain rule's gradient of a gate. -/
def chain (d o g : EReal) : EReal := o * d * sg g + g * (o * d) * (sg g * (1 - sg g))

/-- On real arguments it is the factored form. -/
theorem chain_real (d o g : ℝ) : chain d o g = dgate d o g := by
  have h : sg (g : EReal) = ((1 / (1 + Real.exp (0 - g)) : ℝ) : EReal) := by
    have hp : (1 + Real.exp (0 - g) : ℝ) ≠ 0 := by positivity
    unfold sg
    rw [← EReal.coe_zero, ← EReal.coe_sub, Ideal.exp_coe, ← EReal.coe_one, ← EReal.coe_add, Ideal.div_coe hp, ← EReal.coe_mul]
    congr 1
    ring
  unfold chain dgate
  rw [h]
  generalize (1 / (1 + Real.exp (0 - g)) : ℝ) = s
  rw [← EReal.coe_one]
  simp only [← EReal.coe_mul, ← EReal.coe_sub, ← EReal.coe_add]
  congr 1
  ring

theorem v31_apply (r : Fin 4096) (k : Fin 512) : (val_main_v31 (F := Ideal) x0 x1 x2 x3 x5 (ix2 r k) : EReal)
    = chain (du (mat x2) (gt x1) (mat x0) r ⟨k.val, by omega⟩) (x3 (ix2 r k)) (g1 x5 r k) := by
  pointwise [val_main_v31, val_main_v28, val_main_call3_v1, val_main_call3_v2, val_main_call3_v0, val_main_v26, val_main_v21, val_main_v2_1, val_main_call0_v7, val_main_call0_v6, val_main_call0_cst_1, val_main_v0]
  rw [s1, v19_apply]
  rfl

theorem v32_apply (r : Fin 4096) (k : Fin 512) : (val_main_v32 (F := Ideal) x0 x1 x2 x4 x5 (ix2 r k) : EReal)
    = chain (du (mat x2) (gt x1) (mat x0) r ⟨512 + k.val, by omega⟩) (x4 (ix2 r k)) (g2 x5 r k) := by
  pointwise [val_main_v32, val_main_v25, val_main_call2_v1, val_main_call2_v2, val_main_call2_v0, val_main_v23, val_main_v22, val_main_v4_1, val_main_call1_v7, val_main_call1_v6, val_main_call1_cst_1, val_main_v1]
  rw [s2, v19_apply]
  rfl

theorem v15_apply (l : Fin 1024) : (val_main_v15 (F := Ideal) x0 x2 x3 x4 x5 (ix1 l) : EReal)
    = ∑ r : Fin 4096, (x0 (ix2 r l) : EReal) * yy (mat x3) (mat x4) (g1 x5) (g2 x5) (mat x2) r l := by
  pointwise [val_main_v15, val_main_v14, val_main_cst]
  simp only [v8_apply, add_zero, zero_add]

theorem v34_apply (a : Fin 8) (l : Fin 1024) : (val_main_v34 (F := Ideal) x0 x2 x3 x4 x5 (ix2 a l) : EReal)
    = if a.val = 0 then ∑ r : Fin 4096, (x0 (ix2 r l) : EReal) * yy (mat x3) (mat x4) (g1 x5) (g2 x5) (mat x2) r l else 0 := by
  pointwise [val_main_v34, val_main_v33, val_main_v20, val_main_v16, val_main_cst_0, val_main_call4_v0, val_main_c]
  simp only [Fintype.sum_unique, Fin.default_eq_zero, v15_apply, Cert.Common.sitofp_zero, zero_add, add_zero, Nat.lt_one_iff]
  split <;> rfl

theorem v37_apply (r : Fin 4096) (p : Fin 4) (e : Fin 2) : (val_main_v37 (F := Ideal) x0 x1 x2 x3 x5 (ix3 r p e) : EReal)
    = ∑ k : Fin 64, dout (du (mat x2) (gt x1) (mat x0) r ⟨128 * p.val + (64 * e.val + k.val), by omega⟩) (g1 x5 r ⟨128 * p.val + (64 * e.val + k.val), by omega⟩)
      * (x3 (ix2 r ⟨128 * p.val + (64 * e.val + k.val), by omega⟩) : EReal) := by
  pointwise [val_main_v37, val_main_v36, val_main_v35, val_main_cst_1]
  simp only [v27_apply, zero_add, add_zero, show ∀ x : Fin 64, p.val * 128 + e.val * 64 + x.val = 128 * p.val + (64 * e.val + x.val) from fun x => by omega]

theorem v40_apply (r : Fin 4096) (p : Fin 4) (e : Fin 2) : (val_main_v40 (F := Ideal) x0 x1 x2 x4 x5 (ix3 r p e) : EReal)
    = ∑ k : Fin 64, dout (du (mat x2) (gt x1) (mat x0) r ⟨512 + (128 * p.val + (64 * e.val + k.val)), by omega⟩) (g2 x5 r ⟨128 * p.val + (64 * e.val + k.val), by omega⟩)
      * (x4 (ix2 r ⟨128 * p.val + (64 * e.val + k.val), by omega⟩) : EReal) := by
  pointwise [val_main_v40, val_main_v39, val_main_v38, val_main_cst_2]
  simp only [v24_apply, zero_add, add_zero, show ∀ x : Fin 64, p.val * 128 + e.val * 64 + x.val = 128 * p.val + (64 * e.val + x.val) from fun x => by omega]

end Cert.BwdOutRefIdeal.Hand

end
-- ==== Proof.BwdOutClaim.lean ====
/- The output gate's gradients and their reference end with the same arrays. -/
module

public import proofs.«01_k».proof.Defs
public import proofs.«01_k».proof.Proof.BwdOutValue
public import proofs.«01_k».proof.Proof.BwdOutRef
public import proofs.«01_k».proof.Proof.FoxBwdClaim
public import proofs.«01_k».proof.Proof.Gen.Pre_out_finite

@[expose] public section

set_option maxRecDepth 16384

noncomputable section

open Idealize.ShloMosaic Idealize.ShloMosaic.TcCoe Idealize.SL.Sem

namespace Cert.BwdOutClaim

open Cert.BwdOutIdeal (nD τ S1024 S4096x1024 S8x1024 S4096x2984 S1024x1024 S4096x512)
open Cert.BwdOutIdeal.Hand
open Cert.BwdOutRefIdeal.Hand (chain chain_real)
open Cert.Softmax (coe_sum)

variable (m : (ℓ : Loc nD τ Cert.BwdOutIdeal.sig) → Buf (Elt Ideal) ℓ)

def rd (c : Dev nD) (i : Fin 4096) (l : Fin 1024) : ℝ := EReal.toReal (A0 m c (ix2 i l))
def rg (c : Dev nD) (l : Fin 1024) : ℝ := EReal.toReal (A1 m c (ix1 l))
def rw' (c : Dev nD) (i l : Fin 1024) : ℝ := EReal.toReal (A2 m c (ix2 i l))
def ro1 (c : Dev nD) (i : Fin 4096) (k : Fin 512) : ℝ := EReal.toReal (A3 m c (ix2 i k))
def ro2 (c : Dev nD) (i : Fin 4096) (k : Fin 512) : ℝ := EReal.toReal (A4 m c (ix2 i k))
def rz (c : Dev nD) (i : Fin 4096) (j : Fin 2984) : ℝ := EReal.toReal (A5 m c (ix2 i j))

/-- Every entry of the arguments but the row added to is a real number. -/
structure Reals (c : Dev nD) : Prop where
  d : ∀ r l, A0 m c (ix2 r l) = (rd m c r l : EReal)
  g : ∀ l, A1 m c (ix1 l) = (rg m c l : EReal)
  w : ∀ i l, A2 m c (ix2 i l) = (rw' m c i l : EReal)
  o1 : ∀ r k, A3 m c (ix2 r k) = (ro1 m c r k : EReal)
  o2 : ∀ r k, A4 m c (ix2 r k) = (ro2 m c r k : EReal)
  z : ∀ r j, A5 m c (ix2 r j) = (rz m c r j : EReal)

theorem fin1 {a : ℕ} (x : FVec Ideal ⟨1, ![a]⟩ .f32) (hb : Cert.Pre_out_finite.S_.BroadcastsInDim ⟨1, ![a]⟩ (![] : Fin 0 → Fin 1))
    (h : cmpf .olt (Host.absf x) (broadcastInDim ⟨1, ![a]⟩ ![] hb (constant (F := Ideal) Cert.Pre_out_finite.S_ .f32 0x7F800000#32)) = fun _ => 1#1) (i : Fin a) :
    x (ix1 i) = (EReal.toReal (x (ix1 i)) : EReal) :=
  Cert.FoxBwdClaim.real_of_lt _ (congrFun h (ix1 i))

theorem fin2 {a b : ℕ} (x : FVec Ideal ⟨2, ![a, b]⟩ .f32) (hb : Cert.Pre_out_finite.S_.BroadcastsInDim ⟨2, ![a, b]⟩ (![] : Fin 0 → Fin 2))
    (h : cmpf .olt (Host.absf x) (broadcastInDim ⟨2, ![a, b]⟩ ![] hb (constant (F := Ideal) Cert.Pre_out_finite.S_ .f32 0x7F800000#32)) = fun _ => 1#1) (i : Fin a) (l : Fin b) :
    x (ix2 i l) = (EReal.toReal (x (ix2 i l)) : EReal) :=
  Cert.FoxBwdClaim.real_of_lt _ (congrFun h (ix2 i l))

/-- The precondition says so. -/
theorem reals (h : Cert.Pre_BwdOutIdeal_out_finite (hPre_out_finite := Cert.Pre_out_finite.Gen.facts) m) (c : Dev nD) : Reals m c := by
  obtain ⟨h0, h1, h2, h3, h4, h5⟩ := h c
  exact ⟨fin2 _ _ h0, fin1 _ _ h1, fin2 _ _ h2, fin2 _ _ h3, fin2 _ _ h4, fin2 _ _ h5⟩

variable {m}

/-- The cotangent of the gated outputs is real. -/
theorem du_real {c : Dev nD} (R : Reals m c) (r : Fin 4096) (k : Fin 1024) :
    duA m c r k = ((∑ l, rg m c l * rd m c r l * rw' m c k l : ℝ) : EReal) := by
  show ∑ l, (A1 m c (ix1 l) : EReal) * (A0 m c (ix2 r l) : EReal) * (A2 m c (ix2 k l) : EReal) = _
  rw [← coe_sum]
  refine Finset.sum_congr rfl fun l _ => ?_
  rw [R.g, R.d, R.w, EReal.coe_mul, EReal.coe_mul]

theorem chain1 {c : Dev nD} (R : Reals m c) (r : Fin 4096) (k : Fin 512) :
    chain (duA m c r ⟨k.val, by omega⟩) (A3 m c (ix2 r k)) (gg1 m c r k) = dg1 m c r k := by
  show chain _ _ _ = dgate _ _ _
  rw [du_real R, R.o1, show gg1 m c r k = (rz m c r ⟨1544 + k.val, by omega⟩ : EReal) from R.z r _]
  exact chain_real _ _ _

theorem chain2 {c : Dev nD} (R : Reals m c) (r : Fin 4096) (k : Fin 512) :
    chain (duA m c r ⟨512 + k.val, by omega⟩) (A4 m c (ix2 r k)) (gg2 m c r k) = dg2 m c r k := by
  show chain _ _ _ = dgate _ _ _
  rw [du_real R, R.o2, show gg2 m c r k = (rz m c r ⟨2472 + k.val, by omega⟩ : EReal) from R.z r _]
  exact chain_real _ _ _

/-- The reference leaves its arguments as they were; it has no semaphore. -/
theorem frame_ref : Cert.quiescent_BwdOutRefIdeal (hBwdOutRefIdeal := Cert.BwdOutRefIdeal.Gen.facts) := fun m g _ =>
  (θ_run _ _ _).mono (fun r k => ⟨fun c => (k c).2.2.2.2.2.2.2.2.2, sem_eq_zero_of_no_sems rfl _⟩) (Cert.BwdOutRefIdeal.Value.run (F := Ideal) m g)

open Cert.BwdOutIdeal Cert.BwdOutIdeal.Gen in
/-- The claim: nine arrays that both programs end with. -/
theorem algebraic : Cert.algebraic_BwdOutIdeal_BwdOutRefIdeal_pre_out_finite (hBwdOutIdeal := Cert.BwdOutIdeal.Gen.facts)
    (hBwdOutRefIdeal := Cert.BwdOutRefIdeal.Gen.facts) (hPre_out_finite := Cert.Pre_out_finite.Gen.facts) := by
  intro m g m' g' hp h
  have R := reals m hp
  refine ⟨fun c => _, fun c => _, fun c => _, fun c => _, fun c => _, fun c => _, fun c => _, fun c => W5 m g c (Proc.devRef .tc main_v22), fun c => W5 m g c (Proc.devRef .tc main_v24),
    (θ_run _ _ _).mono (fun r k c => ⟨(k.1 c main_v17_0 (by decide)).trans (res0 m g c), (k.1 c main_v20_0 (by decide)).trans (res1 m g c),
      (k.1 c main_v20_1 (by decide)).trans (res2 m g c), (k.1 c main_v20_2 (by decide)).trans (res3 m g c), (k.1 c main_v20_3 (by decide)).trans (res4 m g c),
      (k.1 c main_v20_4 (by decide)).trans (res5 m g c), (k.1 c main_v20_5 (by decide)).trans (res6 m g c), k.1 c main_v22 (by decide), k.1 c main_v24 (by decide),
      (k.1 c main_arg0 (by decide)).trans (W5_main_arg0 m g c), (k.1 c main_arg1 (by decide)).trans (W5_main_arg1 m g c),
      (k.1 c main_arg2 (by decide)).trans (W5_main_arg2 m g c), (k.1 c main_arg3 (by decide)).trans (W5_main_arg3 m g c),
      (k.1 c main_arg4 (by decide)).trans (W5_main_arg4 m g c), (k.1 c main_arg5 (by decide)).trans (W5_main_arg5 m g c),
      (k.1 c main_arg6 (by decide)).trans (W5_main_arg6 m g c)⟩) (run_all m g), ?_⟩
  refine (θ_run _ _ _).mono (fun r k c => ?_) (Cert.BwdOutRefIdeal.Value.run m' g')
  obtain ⟨e0, e1, e2, e3, e4, e5, e6⟩ := h c
  obtain ⟨k0, k1, k2, k3, k4, k5, k6, k7, k8, k9⟩ := k c
  refine ⟨k0.trans ?_, k1.trans ?_, k2.trans ?_, k3.trans ?_, k4.trans ?_, k5.trans ?_, k6.trans ?_, k7.trans ?_, k8.trans ?_, k9⟩
  · rw [Cert.BwdOutRefIdeal.Read.val_main_v11_eq, e1, e2, e3, e4, e5, e6]
    funext y
    idx_vars y
    exact Cert.BwdOutRefIdeal.Hand.v11_apply _ _ _ _ _ _ y0 y1
  · rw [Cert.BwdOutRefIdeal.Read.val_main_v29_eq, e0, e1, e2, e5]
    funext y
    idx_vars y
    exact Cert.BwdOutRefIdeal.Hand.v29_apply _ _ _ _ y0 y1
  · rw [Cert.BwdOutRefIdeal.Read.val_main_v30_eq, e0, e1, e2, e5]
    funext y
    idx_vars y
    exact Cert.BwdOutRefIdeal.Hand.v30_apply _ _ _ _ y0 y1
  · rw [Cert.BwdOutRefIdeal.Read.val_main_v31_eq, e0, e1, e2, e3, e5]
    funext y
    idx_vars y
    exact (Cert.BwdOutRefIdeal.Hand.v31_apply _ _ _ _ _ y0 y1).trans (chain1 (R c) y0 y1)
  · rw [Cert.BwdOutRefIdeal.Read.val_main_v32_eq, e0, e1, e2, e4, e5]
    funext y
    idx_vars y
    exact (Cert.BwdOutRefIdeal.Hand.v32_apply _ _ _ _ _ y0 y1).trans (chain2 (R c) y0 y1)
  · rw [Cert.BwdOutRefIdeal.Read.val_main_v18_eq, e0, e1, e3, e4, e5]
    funext y
    idx_vars y
    exact Cert.BwdOutRefIdeal.Hand.v18_apply _ _ _ _ _ y0 y1
  · rw [Cert.BwdOutRefIdeal.Read.val_main_v34_eq, e0, e2, e3, e4, e5]
    funext y
    idx_vars y
    exact Cert.BwdOutRefIdeal.Hand.v34_apply _ _ _ _ _ y0 y1
  · rw [Cert.BwdOutRefIdeal.Read.val_main_v37_eq, e0, e1, e2, e3, e5]
    funext y
    idx_vars y
    exact (Cert.BwdOutRefIdeal.Hand.v37_apply _ _ _ _ _ y0 y1 y2).trans (res7 m g c y0 y1 y2).symm
  · rw [Cert.BwdOutRefIdeal.Read.val_main_v40_eq, e0, e1, e2, e4, e5]
    funext y
    idx_vars y
    exact (Cert.BwdOutRefIdeal.Hand.v40_apply _ _ _ _ _ y0 y1 y2).trans (res8 m g c y0 y1 y2).symm

end Cert.BwdOutClaim

end
-- ==== Proof.MlaPostRun.lean ====
/-
  The body of the gradient behind the latent attention (`cc0_mla_post`), run once over any floats: what it reads (`Ins`), what it
  stores whole at every point (`zq`, `zkv`, `zms`), and what it adds to the five accumulators (`Acc`), which it clears at the first point.
-/
module

public import proofs.«01_k».proof.Proof.Owned
public import proofs.«01_k».proof.Proof.Gen.MlaPostIdeal.Frame.Runs
public import proofs.«01_k».proof.Proof.Gen.MlaPostIdeal.Skeleton

@[expose] public section

set_option maxRecDepth 16384
set_option maxHeartbeats 1000000

noncomputable section

namespace Cert.MlaPostRun

open Cert.MlaPostIdeal Cert.MlaPostIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Buffers side by side -/

section Cells

variable {F : FTy → Type} {S : Type} {c : Dev nD} {Λ : Labels} {defs : Defs nD τ sig (Elt F) Λ} {𝒱 : Variants}

local notation "𝕄" => MT nD τ sig Unit (Elt F) ℕ (UR sig nD τ) ℕ

/-- The first of the buffers. -/
theorem Focus.here {cs : CoreSpace} {sh : Shape} {e : EltTy} {arg : Memref sig .tc cs sh e} {g : S → sh.Idx → Elt F e} {K : S → sProp 𝕄}
    {σ : S} {upd : (sh.Idx → Elt F e) → S} (hg : ∀ Y, g (upd Y) = Y) (hK : ∀ Y, K (upd Y) = K σ) :
    Focus c (fun s => iprop(owns (c : Thread nD τ) arg fullShare (g s) ∗ K s)) σ arg (g σ) upd := by
  unfold Focus; dsimp only
  iintro ⟨h, hk⟩
  isplitl [h]; · iexact h
  iintro %y h
  rw [hg y, hK y]
  iframe h hk

/-- One of the later buffers. -/
theorem Focus.there {cs : CoreSpace} {sh : Shape} {e : EltTy} {arg : Memref sig .tc cs sh e} {G K : S → sProp 𝕄}
    {σ : S} {X : sh.Idx → Elt F e} {upd : (sh.Idx → Elt F e) → S} (h : Focus c K σ arg X upd) (hG : ∀ Y, G (upd Y) = G σ) :
    Focus c (fun s => iprop(G s ∗ K s)) σ arg X upd := by
  unfold Focus at h ⊢; dsimp only
  refine (BIClass.sep_mono (show G σ ⊢ G σ from .rfl) h).trans ?_
  iintro ⟨hg, h, hk⟩
  isplitl [h]; · iexact h
  iintro %y h
  rw [hG y]
  isplitl [hg]; · iexact hg
  iapply hk; iexact h

variable (c) in
/-- A buffer of the state, read by `get` and written by `set`. -/
def Cell (H : S → sProp 𝕄) {cs : CoreSpace} {sh : Shape} {e : EltTy} (arg : Memref sig .tc cs sh e) (get : S → sh.Idx → Elt F e)
    (set : S → (sh.Idx → Elt F e) → S) : Prop := ∀ σ, Focus c H σ arg (get σ) (set σ) ∧ set σ (get σ) = σ

variable {H : S → sProp (MT nD τ sig Unit (Elt F) ℕ (UR sig nD τ) ℕ)} {cs : CoreSpace} {sh : Shape} {e : EltTy} {arg : Memref sig .tc cs sh e} {get : S → sh.Idx → Elt F e}
  {set : S → (sh.Idx → Elt F e) → S} {σ σ' : S} {β : Type} {b : β}

/-- A load of the whole buffer. -/
theorem Cell.load (hc : Cell c H arg get set) {off : Fin sh.rank → ℕ} {inb : ∀ a, off a + sh.size a ≤ sh.size a}
    {hl : arg.view.LoadsAt (Rect.unit off sh.size inb).toLoadRect} {k : ((Rect.unit off sh.size inb).shape.Idx → Elt F e) → Prog (TpuEff nD τ sig (Elt F) Λ .tc) β}
    (h : Runs defs 𝒱 c H (k (get σ)) σ b σ') : Runs defs 𝒱 c H (Prog.lift (.load arg (Rect.unit off sh.size inb).toLoadRect hl) >>= k) σ b σ' :=
  Runs.loadFull (hc σ).1 (hc σ).2 h

/-- A load of a window of it. -/
theorem Cell.loadWin (hc : Cell c H arg get set) {off size : Fin sh.rank → ℕ} {inb : ∀ a, off a + size a ≤ sh.size a}
    {hl : arg.view.LoadsAt (Rect.unit off size inb).toLoadRect} {k : ((Rect.unit off size inb).shape.Idx → Elt F e) → Prog (TpuEff nD τ sig (Elt F) Λ .tc) β}
    (h : Runs defs 𝒱 c H (k (VecWindow.window (get σ) off size inb)) σ b σ') :
    Runs defs 𝒱 c H (Prog.lift (.load arg (Rect.unit off size inb).toLoadRect hl) >>= k) σ b σ' :=
  Runs.loadWin inb rfl (hc σ).1 (hc σ).2 h

/-- A store of the whole buffer. -/
theorem Cell.store (hc : Cell c H arg get set) {off : Fin sh.rank → ℕ} {inb : ∀ a, off a + sh.size a ≤ sh.size a}
    {w : (Rect.unit off sh.size inb).shape.Idx → Elt F e} {hx : (arg.access (Rect.unit off sh.size inb)).Stores Finset.univ}
    {hm : Finset.univ = Finset.univ ∨ ∀ a, (Rect.unit off sh.size inb).stride a = 1} {k : PUnit → Prog (TpuEff nD τ sig (Elt F) Λ .tc) β}
    (h : Runs defs 𝒱 c H (k ⟨⟩) (set σ w) b σ') :
    Runs defs 𝒱 c H (Prog.lift (.store arg (Rect.unit off sh.size inb) w Finset.univ hx hm) >>= k) σ b σ' :=
  Runs.storeFull (hc σ).1 h

/-- A store of a window of it. -/
theorem Cell.storeWin (hc : Cell c H arg get set) {off size : Fin sh.rank → ℕ} {inb : ∀ a, off a + size a ≤ sh.size a}
    {w : (Rect.unit off size inb).shape.Idx → Elt F e} {hx : (arg.access (Rect.unit off size inb)).Stores Finset.univ}
    {hm : Finset.univ = Finset.univ ∨ ∀ a, (Rect.unit off size inb).stride a = 1} {k : PUnit → Prog (TpuEff nD τ sig (Elt F) Λ .tc) β}
    (h : Runs defs 𝒱 c H (k ⟨⟩) (set σ (VecWindow.put (get σ) off size w)) b σ') :
    Runs defs 𝒱 c H (Prog.lift (.store arg (Rect.unit off size inb) w Finset.univ hx hm) >>= k) σ b σ' :=
  Runs.store rfl (hc σ).1 h

end Cells

variable {F : FTy → Type} [FloatOps F]

local notation "𝕄" => MT nD τ sig Unit (Elt F) ℕ (UR sig nD τ) ℕ

/-! ## What the body reads and leaves -/

/-- What the body only reads. -/
structure Ins (F : FTy → Type) where
  q : Vec F S512x1024 .f32
  k : Vec F S512x1024 .f32
  v : Vec F S512x512 .f32
  f : Vec F S512x128 .f32
  ql : Vec F S512x256 .f32
  kl : Vec F S512x128 .f32
  gq : Vec F S1x256 .f32
  gk : Vec F S1x128 .f32
  w : Vec F S1x256x1024 .bf16
  wk : Vec F S1x128x1024 .bf16
  wv : Vec F S1x128x512 .bf16
  ct : Vec F S512x128 .f32
  sn : Vec F S512x128 .f32

/-- What the body adds to: the gradients of the weights and of the two norms' factors. -/
structure Acc (F : FTy → Type) where
  dwq : Vec F S256x1024 .f32
  dwk : Vec F S128x1024 .f32
  dwv : Vec F S128x512 .f32
  dgq : Vec F S8x256 .f32
  dgk : Vec F S8x128 .f32

/-- What the body writes. -/
structure Outs (F : FTy → Type) where
  zq : Vec F S512x256 .bf16
  zkv : Vec F S512x128 .bf16
  zms : Vec F S512x128 .bf16
  acc : Acc F

/-- The gradient of the queries' latent rows. -/
def zq (x : Ins F) : Vec F S512x256 .bf16 :=
  k0_pay26 (k0_pay11 x.gq) (k0_pay14 x.ql) (k0_pay15 x.ql) (k0_pay17 x.q) (k0_pay18 x.ct) (k0_pay19 x.sn) k0_pay20 k0_pay21 k0_pay22 x.w

/-- The gradient of the keys' and values' latent rows. -/
def zkv (x : Ins F) : Vec F S512x128 .bf16 :=
  k0_pay2 (k0_pay12 x.gk) (k0_pay29 x.k) (k0_pay34 x.kl) (k0_pay35 x.kl) (k0_pay37 x.v) x.wk x.wv

/-- The gradient of the shared rotated key, the cotangent of the gate's logits beside it. -/
def zms (x : Ins F) : Vec F S512x128 .bf16 := k0_pay32 (k0_pay9 x.ct) (k0_pay30 x.k) (k0_pay31 (k0_pay10 x.sn) x.k) x.f

/-- The first row of an array of eight. -/
abbrev top256 (X : Vec F S8x256 .f32) : Vec F S1x256 .f32 := VecWindow.window X ![0, 0] S1x256.size inb_S8x256_S1x256_0_0
abbrev top128 (X : Vec F S8x128 .f32) : Vec F S1x128 .f32 := VecWindow.window X ![0, 0] S1x128.size inb_S8x128_S1x128_0_0

/-- The accumulators cleared. -/
def zero : Acc F := ⟨k0_pay4, k0_pay5, k0_pay6, k0_pay7, k0_pay8⟩

/-- The accumulators with one block of rows added. -/
def add (x : Ins F) (a : Acc F) : Acc F where
  dwq := k0_pay24 (k0_pay16 x.gq x.ql) (k0_pay17 x.q) (k0_pay18 x.ct) (k0_pay19 x.sn) k0_pay20 k0_pay21 k0_pay22 a.dwq
  dwk := k0_pay38 (k0_pay12 x.gk) (k0_pay29 x.k) x.kl a.dwk
  dwv := k0_pay39 (k0_pay12 x.gk) x.kl x.v a.dwv
  dgq := VecWindow.put a.dgq ![0, 0] S1x256.size
    (k0_pay27 (k0_pay15 x.ql) (k0_pay17 x.q) (k0_pay18 x.ct) (k0_pay19 x.sn) k0_pay20 k0_pay21 k0_pay22 x.w (top256 a.dgq))
  dgk := VecWindow.put a.dgk ![0, 0] S1x128.size (k0_pay3 (k0_pay29 x.k) (k0_pay35 x.kl) (k0_pay37 x.v) x.wk x.wv (top128 a.dgk))

/-- What the body leaves in the accumulators at point `j`. -/
def point (x : Ins F) (j : ℕ) (a : Acc F) : Acc F := add x (if j = 0 then zero else a)

/-! ## The body's buffers -/

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x512 .f32) (harg3 : arg3.IsWhole)
  (arg4 : Memref sig .tc .vmem S512x128 .f32) (harg4 : arg4.IsWhole)
  (arg5 : Memref sig .tc .vmem S512x256 .f32) (harg5 : arg5.IsWhole)
  (arg6 : Memref sig .tc .vmem S512x128 .f32) (harg6 : arg6.IsWhole)
  (arg7 : Memref sig .tc .vmem S1x256 .f32) (harg7 : arg7.IsWhole)
  (arg8 : Memref sig .tc .vmem S1x128 .f32) (harg8 : arg8.IsWhole)
  (arg9 : Memref sig .tc .vmem S1x256x1024 .bf16) (harg9 : arg9.IsWhole)
  (arg10 : Memref sig .tc .vmem S1x128x1024 .bf16) (harg10 : arg10.IsWhole)
  (arg11 : Memref sig .tc .vmem S1x128x512 .bf16) (harg11 : arg11.IsWhole)
  (arg12 : Memref sig .tc .vmem S512x128 .f32) (harg12 : arg12.IsWhole)
  (arg13 : Memref sig .tc .vmem S512x128 .f32) (harg13 : arg13.IsWhole)
  (arg14 : Memref sig .tc .vmem S512x256 .bf16) (harg14 : arg14.IsWhole)
  (arg15 : Memref sig .tc .vmem S512x128 .bf16) (harg15 : arg15.IsWhole)
  (arg16 : Memref sig .tc .vmem S512x128 .bf16) (harg16 : arg16.IsWhole)
  (arg17 : Memref sig .tc .vmem S256x1024 .f32) (harg17 : arg17.IsWhole)
  (arg18 : Memref sig .tc .vmem S128x1024 .f32) (harg18 : arg18.IsWhole)
  (arg19 : Memref sig .tc .vmem S128x512 .f32) (harg19 : arg19.IsWhole)
  (arg20 : Memref sig .tc .vmem S8x256 .f32) (harg20 : arg20.IsWhole)
  (arg21 : Memref sig .tc .vmem S8x128 .f32) (harg21 : arg21.IsWhole)

/-- The body's buffers, as one state. -/
def HH : Ins F × Outs F → sProp 𝕄 := fun s =>
  iprop(owns (c : Thread nD τ) arg1 fullShare s.1.q
    ∗ owns (c : Thread nD τ) arg2 fullShare s.1.k
    ∗ owns (c : Thread nD τ) arg3 fullShare s.1.v
    ∗ owns (c : Thread nD τ) arg4 fullShare s.1.f
    ∗ owns (c : Thread nD τ) arg5 fullShare s.1.ql
    ∗ owns (c : Thread nD τ) arg6 fullShare s.1.kl
    ∗ owns (c : Thread nD τ) arg7 fullShare s.1.gq
    ∗ owns (c : Thread nD τ) arg8 fullShare s.1.gk
    ∗ owns (c : Thread nD τ) arg9 fullShare s.1.w
    ∗ owns (c : Thread nD τ) arg10 fullShare s.1.wk
    ∗ owns (c : Thread nD τ) arg11 fullShare s.1.wv
    ∗ owns (c : Thread nD τ) arg12 fullShare s.1.ct
    ∗ owns (c : Thread nD τ) arg13 fullShare s.1.sn
    ∗ owns (c : Thread nD τ) arg14 fullShare s.2.zq
    ∗ owns (c : Thread nD τ) arg15 fullShare s.2.zkv
    ∗ owns (c : Thread nD τ) arg16 fullShare s.2.zms
    ∗ owns (c : Thread nD τ) arg17 fullShare s.2.acc.dwq
    ∗ owns (c : Thread nD τ) arg18 fullShare s.2.acc.dwk
    ∗ owns (c : Thread nD τ) arg19 fullShare s.2.acc.dwv
    ∗ owns (c : Thread nD τ) arg20 fullShare s.2.acc.dgq
    ∗ owns (c : Thread nD τ) arg21 fullShare s.2.acc.dgk
    ∗ emp)

section Step

local notation "H" => HH (F := F) c arg1 arg2 arg3 arg4 arg5 arg6 arg7 arg8 arg9 arg10 arg11 arg12 arg13 arg14 arg15 arg16 arg17 arg18 arg19 arg20 arg21

theorem c1 : Cell c H arg1 (fun s => s.1.q) (fun s y => ({ s.1 with q := y }, s.2)) := fun σ => ⟨by
  unfold HH
  repeat first | exact Focus.here (fun _ => rfl) (fun _ => rfl) | refine Focus.there ?_ (fun _ => rfl), rfl⟩
theorem c2 : Cell c H arg2 (fun s => s.1.k) (fun s y => ({ s.1 with k := y }, s.2)) := fun σ => ⟨by
  unfold HH
  repeat first | exact Focus.here (fun _ => rfl) (fun _ => rfl) | refine Focus.there ?_ (fun _ => rfl), rfl⟩
theorem c3 : Cell c H arg3 (fun s => s.1.v) (fun s y => ({ s.1 with v := y }, s.2)) := fun σ => ⟨by
  unfold HH
  repeat first | exact Focus.here (fun _ => rfl) (fun _ => rfl) | refine Focus.there ?_ (fun _ => rfl), rfl⟩
theorem c4 : Cell c H arg4 (fun s => s.1.f) (fun s y => ({ s.1 with f := y }, s.2)) := fun σ => ⟨by
  unfold HH
  repeat first | exact Focus.here (fun _ => rfl) (fun _ => rfl) | refine Focus.there ?_ (fun _ => rfl), rfl⟩
theorem c5 : Cell c H arg5 (fun s => s.1.ql) (fun s y => ({ s.1 with ql := y }, s.2)) := fun σ => ⟨by
  unfold HH
  repeat first | exact Focus.here (fun _ => rfl) (fun _ => rfl) | refine Focus.there ?_ (fun _ => rfl), rfl⟩
theorem c6 : Cell c H arg6 (fun s => s.1.kl) (fun s y => ({ s.1 with kl := y }, s.2)) := fun σ => ⟨by
  unfold HH
  repeat first | exact Focus.here (fun _ => rfl) (fun _ => rfl) | refine Focus.there ?_ (fun _ => rfl), rfl⟩
theorem c7 : Cell c H arg7 (fun s => s.1.gq) (fun s y => ({ s.1 with gq := y }, s.2)) := fun σ => ⟨by
  unfold HH
  repeat first | exact Focus.here (fun _ => rfl) (fun _ => rfl) | refine Focus.there ?_ (fun _ => rfl), rfl⟩
theorem c8 : Cell c H arg8 (fun s => s.1.gk) (fun s y => ({ s.1 with gk := y }, s.2)) := fun σ => ⟨by
  unfold HH
  repeat first | exact Focus.here (fun _ => rfl) (fun _ => rfl) | refine Focus.there ?_ (fun _ => rfl), rfl⟩
theorem c9 : Cell c H arg9 (fun s => s.1.w) (fun s y => ({ s.1 with w := y }, s.2)) := fun σ => ⟨by
  unfold HH
  repeat first | exact Focus.here (fun _ => rfl) (fun _ => rfl) | refine Focus.there ?_ (fun _ => rfl), rfl⟩
theorem c10 : Cell c H arg10 (fun s => s.1.wk) (fun s y => ({ s.1 with wk := y }, s.2)) := fun σ => ⟨by
  unfold HH
  repeat first | exact Focus.here (fun _ => rfl) (fun _ => rfl) | refine Focus.there ?_ (fun _ => rfl), rfl⟩
theorem c11 : Cell c H arg11 (fun s => s.1.wv) (fun s y => ({ s.1 with wv := y }, s.2)) := fun σ => ⟨by
  unfold HH
  repeat first | exact Focus.here (fun _ => rfl) (fun _ => rfl) | refine Focus.there ?_ (fun _ => rfl), rfl⟩
theorem c12 : Cell c H arg12 (fun s => s.1.ct) (fun s y => ({ s.1 with ct := y }, s.2)) := fun σ => ⟨by
  unfold HH
  repeat first | exact Focus.here (fun _ => rfl) (fun _ => rfl) | refine Focus.there ?_ (fun _ => rfl), rfl⟩
theorem c13 : Cell c H arg13 (fun s => s.1.sn) (fun s y => ({ s.1 with sn := y }, s.2)) := fun σ => ⟨by
  unfold HH
  repeat first | exact Focus.here (fun _ => rfl) (fun _ => rfl) | refine Focus.there ?_ (fun _ => rfl), rfl⟩
theorem c14 : Cell c H arg14 (fun s => s.2.zq) (fun s y => (s.1, { s.2 with zq := y })) := fun σ => ⟨by
  unfold HH
  repeat first | exact Focus.here (fun _ => rfl) (fun _ => rfl) | refine Focus.there ?_ (fun _ => rfl), rfl⟩
theorem c15 : Cell c H arg15 (fun s => s.2.zkv) (fun s y => (s.1, { s.2 with zkv := y })) := fun σ => ⟨by
  unfold HH
  repeat first | exact Focus.here (fun _ => rfl) (fun _ => rfl) | refine Focus.there ?_ (fun _ => rfl), rfl⟩
theorem c16 : Cell c H arg16 (fun s => s.2.zms) (fun s y => (s.1, { s.2 with zms := y })) := fun σ => ⟨by
  unfold HH
  repeat first | exact Focus.here (fun _ => rfl) (fun _ => rfl) | refine Focus.there ?_ (fun _ => rfl), rfl⟩
theorem c17 : Cell c H arg17 (fun s => s.2.acc.dwq) (fun s y => (s.1, { s.2 with acc := { s.2.acc with dwq := y } })) := fun σ => ⟨by
  unfold HH
  repeat first | exact Focus.here (fun _ => rfl) (fun _ => rfl) | refine Focus.there ?_ (fun _ => rfl), rfl⟩
theorem c18 : Cell c H arg18 (fun s => s.2.acc.dwk) (fun s y => (s.1, { s.2 with acc := { s.2.acc with dwk := y } })) := fun σ => ⟨by
  unfold HH
  repeat first | exact Focus.here (fun _ => rfl) (fun _ => rfl) | refine Focus.there ?_ (fun _ => rfl), rfl⟩
theorem c19 : Cell c H arg19 (fun s => s.2.acc.dwv) (fun s y => (s.1, { s.2 with acc := { s.2.acc with dwv := y } })) := fun σ => ⟨by
  unfold HH
  repeat first | exact Focus.here (fun _ => rfl) (fun _ => rfl) | refine Focus.there ?_ (fun _ => rfl), rfl⟩
theorem c20 : Cell c H arg20 (fun s => s.2.acc.dgq) (fun s y => (s.1, { s.2 with acc := { s.2.acc with dgq := y } })) := fun σ => ⟨by
  unfold HH
  repeat first | exact Focus.here (fun _ => rfl) (fun _ => rfl) | refine Focus.there ?_ (fun _ => rfl), rfl⟩
theorem c21 : Cell c H arg21 (fun s => s.2.acc.dgk) (fun s y => (s.1, { s.2 with acc := { s.2.acc with dgk := y } })) := fun σ => ⟨by
  unfold HH
  repeat first | exact Focus.here (fun _ => rfl) (fun _ => rfl) | refine Focus.there ?_ (fun _ => rfl), rfl⟩

end Step

section Body

variable (x : Ins F) (s : Outs F)

local notation "R" => Runs (defs₀ (F := F)) Variants.none c (HH (F := F) c arg1 arg2 arg3 arg4 arg5 arg6 arg7 arg8 arg9 arg10 arg11 arg12 arg13 arg14 arg15 arg16 arg17 arg18 arg19 arg20 arg21)

/-- The body's run. -/
theorem body_run :
    R (cc0_mla_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (x, s) ⟨⟩
      (x, ⟨zq x, zkv x, zms x, point x (i 0).val s.acc⟩) := by
  have first_iff : ∀ i : grid0.Coords, cond0_0 i ↔ (i 0).val = 0 := by decide +kernel
  rw [cc0_mla_post_eq_skeleton]; unfold cc0_mla_post_skel
  rw [k0_part1_eq_skeleton]; unfold k0_part1_skel
  unfold point
  rcases Classical.em ((i 0).val = 0) with h0 | h0
  · simp only [if_pos h0, dif_pos ((first_iff i).mpr h0)]
    repeat with_reducible first
      | refine Runs.assoc ?_ | (refine Runs.pureBind ?_; try dsimp only)
      | refine Cell.load (c1 c arg1 arg2 arg3 arg4 arg5 arg6 arg7 arg8 arg9 arg10 arg11 arg12 arg13 arg14 arg15 arg16 arg17 arg18 arg19 arg20 arg21) ?_
      | refine Cell.load (c2 c arg1 arg2 arg3 arg4 arg5 arg6 arg7 arg8 arg9 arg10 arg11 arg12 arg13 arg14 arg15 arg16 arg17 arg18 arg19 arg20 arg21) ?_
      | refine Cell.load (c3 c arg1 arg2 arg3 arg4 arg5 arg6 arg7 arg8 arg9 arg10 arg11 arg12 arg13 arg14 arg15 arg16 arg17 arg18 arg19 arg20 arg21) ?_
      | refine Cell.load (c4 c arg1 arg2 arg3 arg4 arg5 arg6 arg7 arg8 arg9 arg10 arg11 arg12 arg13 arg14 arg15 arg16 arg17 arg18 arg19 arg20 arg21) ?_
      | refine Cell.load (c5 c arg1 arg2 arg3 arg4 arg5 arg6 arg7 arg8 arg9 arg10 arg11 arg12 arg13 arg14 arg15 arg16 arg17 arg18 arg19 arg20 arg21) ?_
      | refine Cell.load (c6 c arg1 arg2 arg3 arg4 arg5 arg6 arg7 arg8 arg9 arg10 arg11 arg12 arg13 arg14 arg15 arg16 arg17 arg18 arg19 arg20 arg21) ?_
      | refine Cell.load (c7 c arg1 arg2 arg3 arg4 arg5 arg6 arg7 arg8 arg9 arg10 arg11 arg12 arg13 arg14 arg15 arg16 arg17 arg18 arg19 arg20 arg21) ?_
      | refine Cell.load (c8 c arg1 arg2 arg3 arg4 arg5 arg6 arg7 arg8 arg9 arg10 arg11 arg12 arg13 arg14 arg15 arg16 arg17 arg18 arg19 arg20 arg21) ?_
      | refine Cell.load (c9 c arg1 arg2 arg3 arg4 arg5 arg6 arg7 arg8 arg9 arg10 arg11 arg12 arg13 arg14 arg15 arg16 arg17 arg18 arg19 arg20 arg21) ?_
      | refine Cell.load (c10 c arg1 arg2 arg3 arg4 arg5 arg6 arg7 arg8 arg9 arg10 arg11 arg12 arg13 arg14 arg15 arg16 arg17 arg18 arg19 arg20 arg21) ?_
      | refine Cell.load (c11 c arg1 arg2 arg3 arg4 arg5 arg6 arg7 arg8 arg9 arg10 arg11 arg12 arg13 arg14 arg15 arg16 arg17 arg18 arg19 arg20 arg21) ?_
      | refine Cell.load (c12 c arg1 arg2 arg3 arg4 arg5 arg6 arg7 arg8 arg9 arg10 arg11 arg12 arg13 arg14 arg15 arg16 arg17 arg18 arg19 arg20 arg21) ?_
      | refine Cell.load (c13 c arg1 arg2 arg3 arg4 arg5 arg6 arg7 arg8 arg9 arg10 arg11 arg12 arg13 arg14 arg15 arg16 arg17 arg18 arg19 arg20 arg21) ?_
      | refine Cell.load (c14 c arg1 arg2 arg3 arg4 arg5 arg6 arg7 arg8 arg9 arg10 arg11 arg12 arg13 arg14 arg15 arg16 arg17 arg18 arg19 arg20 arg21) ?_
      | refine Cell.load (c15 c arg1 arg2 arg3 arg4 arg5 arg6 arg7 arg8 arg9 arg10 arg11 arg12 arg13 arg14 arg15 arg16 arg17 arg18 arg19 arg20 arg21) ?_
      | refine Cell.load (c16 c arg1 arg2 arg3 arg4 arg5 arg6 arg7 arg8 arg9 arg10 arg11 arg12 arg13 arg14 arg15 arg16 arg17 arg18 arg19 arg20 arg21) ?_
      | refine Cell.load (c17 c arg1 arg2 arg3 arg4 arg5 arg6 arg7 arg8 arg9 arg10 arg11 arg12 arg13 arg14 arg15 arg16 arg17 arg18 arg19 arg20 arg21) ?_
      | refine Cell.load (c18 c arg1 arg2 arg3 arg4 arg5 arg6 arg7 arg8 arg9 arg10 arg11 arg12 arg13 arg14 arg15 arg16 arg17 arg18 arg19 arg20 arg21) ?_
      | refine Cell.load (c19 c arg1 arg2 arg3 arg4 arg5 arg6 arg7 arg8 arg9 arg10 arg11 arg12 arg13 arg14 arg15 arg16 arg17 arg18 arg19 arg20 arg21) ?_
      | refine Cell.load (c20 c arg1 arg2 arg3 arg4 arg5 arg6 arg7 arg8 arg9 arg10 arg11 arg12 arg13 arg14 arg15 arg16 arg17 arg18 arg19 arg20 arg21) ?_
      | refine Cell.load (c21 c arg1 arg2 arg3 arg4 arg5 arg6 arg7 arg8 arg9 arg10 arg11 arg12 arg13 arg14 arg15 arg16 arg17 arg18 arg19 arg20 arg21) ?_
      | refine Cell.store (c14 c arg1 arg2 arg3 arg4 arg5 arg6 arg7 arg8 arg9 arg10 arg11 arg12 arg13 arg14 arg15 arg16 arg17 arg18 arg19 arg20 arg21) ?_
      | refine Cell.store (c15 c arg1 arg2 arg3 arg4 arg5 arg6 arg7 arg8 arg9 arg10 arg11 arg12 arg13 arg14 arg15 arg16 arg17 arg18 arg19 arg20 arg21) ?_
      | refine Cell.store (c16 c arg1 arg2 arg3 arg4 arg5 arg6 arg7 arg8 arg9 arg10 arg11 arg12 arg13 arg14 arg15 arg16 arg17 arg18 arg19 arg20 arg21) ?_
      | refine Cell.store (c17 c arg1 arg2 arg3 arg4 arg5 arg6 arg7 arg8 arg9 arg10 arg11 arg12 arg13 arg14 arg15 arg16 arg17 arg18 arg19 arg20 arg21) ?_
      | refine Cell.store (c18 c arg1 arg2 arg3 arg4 arg5 arg6 arg7 arg8 arg9 arg10 arg11 arg12 arg13 arg14 arg15 arg16 arg17 arg18 arg19 arg20 arg21) ?_
      | refine Cell.store (c19 c arg1 arg2 arg3 arg4 arg5 arg6 arg7 arg8 arg9 arg10 arg11 arg12 arg13 arg14 arg15 arg16 arg17 arg18 arg19 arg20 arg21) ?_
      | refine Cell.store (c20 c arg1 arg2 arg3 arg4 arg5 arg6 arg7 arg8 arg9 arg10 arg11 arg12 arg13 arg14 arg15 arg16 arg17 arg18 arg19 arg20 arg21) ?_
      | refine Cell.store (c21 c arg1 arg2 arg3 arg4 arg5 arg6 arg7 arg8 arg9 arg10 arg11 arg12 arg13 arg14 arg15 arg16 arg17 arg18 arg19 arg20 arg21) ?_
      | refine Cell.loadWin (c20 c arg1 arg2 arg3 arg4 arg5 arg6 arg7 arg8 arg9 arg10 arg11 arg12 arg13 arg14 arg15 arg16 arg17 arg18 arg19 arg20 arg21) ?_
      | refine Cell.storeWin (c20 c arg1 arg2 arg3 arg4 arg5 arg6 arg7 arg8 arg9 arg10 arg11 arg12 arg13 arg14 arg15 arg16 arg17 arg18 arg19 arg20 arg21) ?_
      | refine Cell.loadWin (c21 c arg1 arg2 arg3 arg4 arg5 arg6 arg7 arg8 arg9 arg10 arg11 arg12 arg13 arg14 arg15 arg16 arg17 arg18 arg19 arg20 arg21) ?_
      | refine Cell.storeWin (c21 c arg1 arg2 arg3 arg4 arg5 arg6 arg7 arg8 arg9 arg10 arg11 arg12 arg13 arg14 arg15 arg16 arg17 arg18 arg19 arg20 arg21) ?_
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
    exact Runs.ret' rfl rfl
  · simp only [if_neg h0, dif_neg fun h => h0 ((first_iff i).mp h)]
    repeat with_reducible first
      | refine Runs.assoc ?_ | (refine Runs.pureBind ?_; try dsimp only)
      | refine Cell.load (c1 c arg1 arg2 arg3 arg4 arg5 arg6 arg7 arg8 arg9 arg10 arg11 arg12 arg13 arg14 arg15 arg16 arg17 arg18 arg19 arg20 arg21) ?_
      | refine Cell.load (c2 c arg1 arg2 arg3 arg4 arg5 arg6 arg7 arg8 arg9 arg10 arg11 arg12 arg13 arg14 arg15 arg16 arg17 arg18 arg19 arg20 arg21) ?_
      | refine Cell.load (c3 c arg1 arg2 arg3 arg4 arg5 arg6 arg7 arg8 arg9 arg10 arg11 arg12 arg13 arg14 arg15 arg16 arg17 arg18 arg19 arg20 arg21) ?_
      | refine Cell.load (c4 c arg1 arg2 arg3 arg4 arg5 arg6 arg7 arg8 arg9 arg10 arg11 arg12 arg13 arg14 arg15 arg16 arg17 arg18 arg19 arg20 arg21) ?_
      | refine Cell.load (c5 c arg1 arg2 arg3 arg4 arg5 arg6 arg7 arg8 arg9 arg10 arg11 arg12 arg13 arg14 arg15 arg16 arg17 arg18 arg19 arg20 arg21) ?_
      | refine Cell.load (c6 c arg1 arg2 arg3 arg4 arg5 arg6 arg7 arg8 arg9 arg10 arg11 arg12 arg13 arg14 arg15 arg16 arg17 arg18 arg19 arg20 arg21) ?_
      | refine Cell.load (c7 c arg1 arg2 arg3 arg4 arg5 arg6 arg7 arg8 arg9 arg10 arg11 arg12 arg13 arg14 arg15 arg16 arg17 arg18 arg19 arg20 arg21) ?_
      | refine Cell.load (c8 c arg1 arg2 arg3 arg4 arg5 arg6 arg7 arg8 arg9 arg10 arg11 arg12 arg13 arg14 arg15 arg16 arg17 arg18 arg19 arg20 arg21) ?_
      | refine Cell.load (c9 c arg1 arg2 arg3 arg4 arg5 arg6 arg7 arg8 arg9 arg10 arg11 arg12 arg13 arg14 arg15 arg16 arg17 arg18 arg19 arg20 arg21) ?_
      | refine Cell.load (c10 c arg1 arg2 arg3 arg4 arg5 arg6 arg7 arg8 arg9 arg10 arg11 arg12 arg13 arg14 arg15 arg16 arg17 arg18 arg19 arg20 arg21) ?_
      | refine Cell.load (c11 c arg1 arg2 arg3 arg4 arg5 arg6 arg7 arg8 arg9 arg10 arg11 arg12 arg13 arg14 arg15 arg16 arg17 arg18 arg19 arg20 arg21) ?_
      | refine Cell.load (c12 c arg1 arg2 arg3 arg4 arg5 arg6 arg7 arg8 arg9 arg10 arg11 arg12 arg13 arg14 arg15 arg16 arg17 arg18 arg19 arg20 arg21) ?_
      | refine Cell.load (c13 c arg1 arg2 arg3 arg4 arg5 arg6 arg7 arg8 arg9 arg10 arg11 arg12 arg13 arg14 arg15 arg16 arg17 arg18 arg19 arg20 arg21) ?_
      | refine Cell.load (c14 c arg1 arg2 arg3 arg4 arg5 arg6 arg7 arg8 arg9 arg10 arg11 arg12 arg13 arg14 arg15 arg16 arg17 arg18 arg19 arg20 arg21) ?_
      | refine Cell.load (c15 c arg1 arg2 arg3 arg4 arg5 arg6 arg7 arg8 arg9 arg10 arg11 arg12 arg13 arg14 arg15 arg16 arg17 arg18 arg19 arg20 arg21) ?_
      | refine Cell.load (c16 c arg1 arg2 arg3 arg4 arg5 arg6 arg7 arg8 arg9 arg10 arg11 arg12 arg13 arg14 arg15 arg16 arg17 arg18 arg19 arg20 arg21) ?_
      | refine Cell.load (c17 c arg1 arg2 arg3 arg4 arg5 arg6 arg7 arg8 arg9 arg10 arg11 arg12 arg13 arg14 arg15 arg16 arg17 arg18 arg19 arg20 arg21) ?_
      | refine Cell.load (c18 c arg1 arg2 arg3 arg4 arg5 arg6 arg7 arg8 arg9 arg10 arg11 arg12 arg13 arg14 arg15 arg16 arg17 arg18 arg19 arg20 arg21) ?_
      | refine Cell.load (c19 c arg1 arg2 arg3 arg4 arg5 arg6 arg7 arg8 arg9 arg10 arg11 arg12 arg13 arg14 arg15 arg16 arg17 arg18 arg19 arg20 arg21) ?_
      | refine Cell.load (c20 c arg1 arg2 arg3 arg4 arg5 arg6 arg7 arg8 arg9 arg10 arg11 arg12 arg13 arg14 arg15 arg16 arg17 arg18 arg19 arg20 arg21) ?_
      | refine Cell.load (c21 c arg1 arg2 arg3 arg4 arg5 arg6 arg7 arg8 arg9 arg10 arg11 arg12 arg13 arg14 arg15 arg16 arg17 arg18 arg19 arg20 arg21) ?_
      | refine Cell.store (c14 c arg1 arg2 arg3 arg4 arg5 arg6 arg7 arg8 arg9 arg10 arg11 arg12 arg13 arg14 arg15 arg16 arg17 arg18 arg19 arg20 arg21) ?_
      | refine Cell.store (c15 c arg1 arg2 arg3 arg4 arg5 arg6 arg7 arg8 arg9 arg10 arg11 arg12 arg13 arg14 arg15 arg16 arg17 arg18 arg19 arg20 arg21) ?_
      | refine Cell.store (c16 c arg1 arg2 arg3 arg4 arg5 arg6 arg7 arg8 arg9 arg10 arg11 arg12 arg13 arg14 arg15 arg16 arg17 arg18 arg19 arg20 arg21) ?_
      | refine Cell.store (c17 c arg1 arg2 arg3 arg4 arg5 arg6 arg7 arg8 arg9 arg10 arg11 arg12 arg13 arg14 arg15 arg16 arg17 arg18 arg19 arg20 arg21) ?_
      | refine Cell.store (c18 c arg1 arg2 arg3 arg4 arg5 arg6 arg7 arg8 arg9 arg10 arg11 arg12 arg13 arg14 arg15 arg16 arg17 arg18 arg19 arg20 arg21) ?_
      | refine Cell.store (c19 c arg1 arg2 arg3 arg4 arg5 arg6 arg7 arg8 arg9 arg10 arg11 arg12 arg13 arg14 arg15 arg16 arg17 arg18 arg19 arg20 arg21) ?_
      | refine Cell.store (c20 c arg1 arg2 arg3 arg4 arg5 arg6 arg7 arg8 arg9 arg10 arg11 arg12 arg13 arg14 arg15 arg16 arg17 arg18 arg19 arg20 arg21) ?_
      | refine Cell.store (c21 c arg1 arg2 arg3 arg4 arg5 arg6 arg7 arg8 arg9 arg10 arg11 arg12 arg13 arg14 arg15 arg16 arg17 arg18 arg19 arg20 arg21) ?_
      | refine Cell.loadWin (c20 c arg1 arg2 arg3 arg4 arg5 arg6 arg7 arg8 arg9 arg10 arg11 arg12 arg13 arg14 arg15 arg16 arg17 arg18 arg19 arg20 arg21) ?_
      | refine Cell.storeWin (c20 c arg1 arg2 arg3 arg4 arg5 arg6 arg7 arg8 arg9 arg10 arg11 arg12 arg13 arg14 arg15 arg16 arg17 arg18 arg19 arg20 arg21) ?_
      | refine Cell.loadWin (c21 c arg1 arg2 arg3 arg4 arg5 arg6 arg7 arg8 arg9 arg10 arg11 arg12 arg13 arg14 arg15 arg16 arg17 arg18 arg19 arg20 arg21) ?_
      | refine Cell.storeWin (c21 c arg1 arg2 arg3 arg4 arg5 arg6 arg7 arg8 arg9 arg10 arg11 arg12 arg13 arg14 arg15 arg16 arg17 arg18 arg19 arg20 arg21) ?_
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
    exact Runs.ret' rfl rfl

end Body

end Cert.MlaPostRun

end
-- ==== Proof.MlaPostFrame.lean ====
/-
  The launch of the gradient behind the latent attention: at every grid point the body's run (`MlaPostRun.body_run`) meets what
  the pipeline staged, so the program terminates, leaves its arguments, and the accumulators' buffers hold the fold `outsAt`.
-/
module

public import proofs.«01_k».proof.Proof.MlaPostRun
public import Idealize.ShloMosaic.Lib.Claim

@[expose] public section

set_option maxRecDepth 16384
set_option maxHeartbeats 1000000

noncomputable section

namespace Cert.MlaPostFrame

open Cert.MlaPostIdeal Cert.MlaPostIdeal.Gen Cert.Owned Cert.MlaPostRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body adds to does not matter at the first point. -/
theorem point_congr (x : Ins F) (j : ℕ) (a a' : Acc F) (h : j ≠ 0 → a = a') : point x j a = point x j a' := by
  unfold point
  by_cases h0 : j = 0
  · simp only [if_pos h0]
  · rw [h h0]

variable (m : (ℓ : Loc nD τ sig) → Buf (Elt F) ℓ) (ρ : Dev nD → PrngReg)

/-! ## What each point leaves -/

/-- What the body reads at point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- What the accumulators hold after point `n`. -/
def outsAt (c : Dev nD) : (n : ℕ) → n < cfg0.N → Acc F
  | 0, h => point (ins m c ⟨0, h⟩) 0 zero
  | n + 1, h => point (ins m c ⟨n + 1, h⟩) (n + 1) (outsAt c n (Nat.lt_of_succ_lt h))

/-- The body at point `n` from any contents that agree with the point before. -/
theorem point_outsAt (c : Dev nD) (n : ℕ) (h : n < cfg0.N) (a : Acc F)
    (ha : n ≠ 0 → a = outsAt m c (n - 1) (Nat.lt_of_le_of_lt (Nat.sub_le _ _) h)) :
    point (ins m c ⟨n, h⟩) n a = outsAt m c n h := by
  cases n with
  | zero => exact point_congr _ _ _ _ fun h0 => absurd rfl h0
  | succ n => exact point_congr _ _ _ _ ha

/-- The grid coordinate of a point. -/
theorem coord0 : ∀ t : Fin cfg0.N, ((grid0.coords t) 0).val = t.val := (by decide +kernel : ∀ t : Fin grid0.N, _)

/-- The pipeline's data: each input's buffer keeps its block, the results' buffers hold what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => zq (ins m c t)
    | ⟨14, _⟩ => zkv (ins m c t)
    | ⟨15, _⟩ => zms (ins m c t)
    | ⟨16, _⟩ => (outsAt m c t.val t.isLt).dwq
    | ⟨17, _⟩ => (outsAt m c t.val t.isLt).dwk
    | ⟨18, _⟩ => (outsAt m c t.val t.isLt).dwv
    | ⟨19, _⟩ => (outsAt m c t.val t.isLt).dgq
    | ⟨20, _⟩ => (outsAt m c t.val t.isLt).dgk
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = zq (ins m c t) := by dsimp only [dats]
theorem after0_14 (c : Dev nD) (t : Fin cfg0.N) : (dats m 0 c).after 14 t = zkv (ins m c t) := by dsimp only [dats]
theorem after0_15 (c : Dev nD) (t : Fin cfg0.N) : (dats m 0 c).after 15 t = zms (ins m c t) := by dsimp only [dats]
theorem after0_16 (c : Dev nD) (t : Fin cfg0.N) : (dats m 0 c).after 16 t = (outsAt m c t.val t.isLt).dwq := by dsimp only [dats]
theorem after0_17 (c : Dev nD) (t : Fin cfg0.N) : (dats m 0 c).after 17 t = (outsAt m c t.val t.isLt).dwk := by dsimp only [dats]
theorem after0_18 (c : Dev nD) (t : Fin cfg0.N) : (dats m 0 c).after 18 t = (outsAt m c t.val t.isLt).dwv := by dsimp only [dats]
theorem after0_19 (c : Dev nD) (t : Fin cfg0.N) : (dats m 0 c).after 19 t = (outsAt m c t.val t.isLt).dgq := by dsimp only [dats]
theorem after0_20 (c : Dev nD) (t : Fin cfg0.N) : (dats m 0 c).after 20 t = (outsAt m c t.val t.isLt).dgk := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- An accumulator is kept from one point to the next. -/
theorem before0_16 (c : Dev nD) (t : Fin cfg0.N) (h0 : t.val ≠ 0) (d) :
    (dats m 0 c).before 16 t d = (outsAt m c (t.val - 1) (Nat.lt_of_le_of_lt (Nat.sub_le _ _) t.isLt)).dwq := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]

/-- An accumulator is kept from one point to the next. -/
theorem before0_17 (c : Dev nD) (t : Fin cfg0.N) (h0 : t.val ≠ 0) (d) :
    (dats m 0 c).before 17 t d = (outsAt m c (t.val - 1) (Nat.lt_of_le_of_lt (Nat.sub_le _ _) t.isLt)).dwk := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]

/-- An accumulator is kept from one point to the next. -/
theorem before0_18 (c : Dev nD) (t : Fin cfg0.N) (h0 : t.val ≠ 0) (d) :
    (dats m 0 c).before 18 t d = (outsAt m c (t.val - 1) (Nat.lt_of_le_of_lt (Nat.sub_le _ _) t.isLt)).dwv := by
  have hN : t.val < 8 := lt_of_lt_of_eq t.isLt (show cfg0.N = 8 from N_0)
  rw [Dat.before_out_kept _ 18 rfl t (by omega) (Bool.eq_false_iff.mpr fun h => by have := (flush0_18 _).mp h; dsimp only at this; omega)
    (fun _ => rfl) (fun _ _ => rfl)]
  dsimp only [dats]

/-- An accumulator is kept from one point to the next. -/
theorem before0_19 (c : Dev nD) (t : Fin cfg0.N) (h0 : t.val ≠ 0) (d) :
    (dats m 0 c).before 19 t d = (outsAt m c (t.val - 1) (Nat.lt_of_le_of_lt (Nat.sub_le _ _) t.isLt)).dgq := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]

/-- An accumulator is kept from one point to the next. -/
theorem before0_20 (c : Dev nD) (t : Fin cfg0.N) (h0 : t.val ≠ 0) (d) :
    (dats m 0 c).before 20 t d = (outsAt m c (t.val - 1) (Nat.lt_of_le_of_lt (Nat.sub_le _ _) t.isLt)).dgk := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The buffers at point `t`, as the body's run takes them. -/
abbrev HAt (c : Dev nD) (t : Fin cfg0.N) : Ins F × Outs F → sProp 𝕄 :=
  HH c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t)

/-- The body's run at point `t`, with anything else that is held. -/
theorem body_at (c : Dev nD) (t : Fin cfg0.N) (s : Outs F) (R : sProp 𝕄)
    (hs : t.val ≠ 0 → s.acc = outsAt m c (t.val - 1) (Nat.lt_of_le_of_lt (Nat.sub_le _ _) t.isLt)) :
    iprop(R ∗ HAt c t (ins m c t, s)) ⊢ wp frame (wpE (defs₀ (F := F)) Variants.none (c : Thread nD τ) none) Set.univ (bodyAt0 t)
      (fun _ => iprop(R ∗ HAt c t (ins m c t, ⟨zq (ins m c t), zkv (ins m c t), zms (ins m c t), outsAt m c t.val t.isLt⟩))) := by
  have h := body_run (F := F) c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (st0_12 t) (hs0_12 t) (st0_13 t) (hs0_13 t) (st0_14 t) (hs0_14 t) (st0_15 t) (hs0_15 t) (st0_16 t) (hs0_16 t) (st0_17 t) (hs0_17 t) (st0_18 t) (hs0_18 t) (st0_19 t) (hs0_19 t) (st0_20 t) (hs0_20 t)
    (ins m c t) s
  rw [coord0 t, point_outsAt m c t.val t.isLt s.acc hs] at h
  exact (BIClass.sep_mono (show R ⊢ R from .rfl)
    (h (fun _ => HAt c t (ins m c t, ⟨zq (ins m c t), zkv (ins m c t), zms (ins m c t), outsAt m c t.val t.isLt⟩)) .rfl)).trans (wp_frame_l _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (wp_mono _ _ _ (Q := fun _ => iprop(((dats m 0 c).Φ t.castSucc ∗ (dats m 0 c).owesAt () t.castSucc)
    ∗ HAt c t (ins m c t, ⟨zq (ins m c t), zkv (ins m c t), zms (ins m c t), outsAt m c t.val t.isLt⟩))) fun _ => ?_)
  · unfold HAt HH; dsimp only
    iintro ⟨⟨HΦ, Ho⟩, H0, H1, H2, H3, H4, H5, H6, H7, H8, H9, H10, H11, H12, H13, H14, H15, H16, H17, H18, H19, H20, He⟩
    unfold ins; dsimp only
    iframe HΦ Ho H0 H1 H2 H3 H4 H5 H6 H7 H8 H9 H10 H11 H12 H13 H14 H15 H16 H17 H18 H19 H20
  · iapply (body_at m c t ⟨(dats m 0 c).before 13 t d13, (dats m 0 c).before 14 t d14, (dats m 0 c).before 15 t d15,
        ⟨(dats m 0 c).before 16 t d16, (dats m 0 c).before 17 t d17, (dats m 0 c).before 18 t d18, (dats m 0 c).before 19 t d19, (dats m 0 c).before 20 t d20⟩⟩
      iprop((dats m 0 c).Φ t.castSucc ∗ (dats m 0 c).owesAt () t.castSucc) fun h0 => by
        rw [before0_16 m c t h0, before0_17 m c t h0, before0_18 m c t h0, before0_19 m c t h0, before0_20 m c t h0])
    unfold HAt HH ins; dsimp only
    isplitl [HΦ Ho]
    · isplitl [HΦ]; · iexact HΦ
      iexact Ho
    iframe H0 H1 H2 H3 H4 H5 H6 H7 H8 H9 H10 H11 H12 H13 H14 H15 H16 H17 H18 H19 H20

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, the arrays as the pipeline leaves them and the lines after it have run, no semaphore up. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.MlaPostFrame

end
-- ==== Proof.MlaPostCompiled.lean ====
/-
  The frame of the gradient behind the latent attention as compiled. No constant of it is named, so its program is the idealised
  one and the run over any floats (`MlaPostFrame.frame`) is its run too.
-/
module

public import proofs.«01_k».proof.Proof.MlaPostFrame
public import proofs.«01_k».proof.Proof.Gen.MlaPost.Launch

@[expose] public section

set_option maxRecDepth 16384

noncomputable section

namespace Cert.MlaPostFrame

open Idealize.ShloMosaic Idealize.ShloMosaic.TcCoe Idealize.ShloMosaic.Tactic
open Idealize.SL Idealize.SL.Sem

variable {F : FTy → Type} [FloatOps F]

/-- The frame of the program as compiled, -/
def Frame (F : FTy → Type) [FloatOps F] : Prop :=
  ∀ (m : (ℓ : Loc Cert.MlaPost.nD Cert.MlaPost.τ Cert.MlaPost.sig) → Buf (Elt F) ℓ) (g : Dev Cert.MlaPost.nD → PrngReg),
    θ_run (Cert.MlaPost.defs (F := F)) (onTc (τ := Cert.MlaPost.τ) (Cert.MlaPost.main (F := F))) ⟨m, fun _ => 0, g⟩ (fun r => (∀ c : Dev Cert.MlaPost.nD,
      r.2.mem ((c.tc : Thread Cert.MlaPost.nD Cert.MlaPost.τ).loc Cert.MlaPost.main_arg0) = m ((c.tc : Thread Cert.MlaPost.nD Cert.MlaPost.τ).loc Cert.MlaPost.main_arg0)
      ∧ r.2.mem ((c.tc : Thread Cert.MlaPost.nD Cert.MlaPost.τ).loc Cert.MlaPost.main_arg1) = m ((c.tc : Thread Cert.MlaPost.nD Cert.MlaPost.τ).loc Cert.MlaPost.main_arg1)
      ∧ r.2.mem ((c.tc : Thread Cert.MlaPost.nD Cert.MlaPost.τ).loc Cert.MlaPost.main_arg2) = m ((c.tc : Thread Cert.MlaPost.nD Cert.MlaPost.τ).loc Cert.MlaPost.main_arg2)
      ∧ r.2.mem ((c.tc : Thread Cert.MlaPost.nD Cert.MlaPost.τ).loc Cert.MlaPost.main_arg3) = m ((c.tc : Thread Cert.MlaPost.nD Cert.MlaPost.τ).loc Cert.MlaPost.main_arg3)
      ∧ r.2.mem ((c.tc : Thread Cert.MlaPost.nD Cert.MlaPost.τ).loc Cert.MlaPost.main_arg4) = m ((c.tc : Thread Cert.MlaPost.nD Cert.MlaPost.τ).loc Cert.MlaPost.main_arg4)
      ∧ r.2.mem ((c.tc : Thread Cert.MlaPost.nD Cert.MlaPost.τ).loc Cert.MlaPost.main_arg5) = m ((c.tc : Thread Cert.MlaPost.nD Cert.MlaPost.τ).loc Cert.MlaPost.main_arg5)
      ∧ r.2.mem ((c.tc : Thread Cert.MlaPost.nD Cert.MlaPost.τ).loc Cert.MlaPost.main_arg6) = m ((c.tc : Thread Cert.MlaPost.nD Cert.MlaPost.τ).loc Cert.MlaPost.main_arg6)
      ∧ r.2.mem ((c.tc : Thread Cert.MlaPost.nD Cert.MlaPost.τ).loc Cert.MlaPost.main_arg7) = m ((c.tc : Thread Cert.MlaPost.nD Cert.MlaPost.τ).loc Cert.MlaPost.main_arg7)
      ∧ r.2.mem ((c.tc : Thread Cert.MlaPost.nD Cert.MlaPost.τ).loc Cert.MlaPost.main_arg8) = m ((c.tc : Thread Cert.MlaPost.nD Cert.MlaPost.τ).loc Cert.MlaPost.main_arg8)
      ∧ r.2.mem ((c.tc : Thread Cert.MlaPost.nD Cert.MlaPost.τ).loc Cert.MlaPost.main_arg9) = m ((c.tc : Thread Cert.MlaPost.nD Cert.MlaPost.τ).loc Cert.MlaPost.main_arg9)
      ∧ r.2.mem ((c.tc : Thread Cert.MlaPost.nD Cert.MlaPost.τ).loc Cert.MlaPost.main_arg10) = m ((c.tc : Thread Cert.MlaPost.nD Cert.MlaPost.τ).loc Cert.MlaPost.main_arg10))
      ∧ r.2.sem = fun _ => 0)

/-- and of the idealised one. -/
def FrameIdeal (F : FTy → Type) [FloatOps F] : Prop :=
  ∀ (m : (ℓ : Loc Cert.MlaPostIdeal.nD Cert.MlaPostIdeal.τ Cert.MlaPostIdeal.sig) → Buf (Elt F) ℓ) (g : Dev Cert.MlaPostIdeal.nD → PrngReg),
    θ_run (Cert.MlaPostIdeal.defs (F := F)) (onTc (τ := Cert.MlaPostIdeal.τ) (Cert.MlaPostIdeal.main (F := F))) ⟨m, fun _ => 0, g⟩ (fun r => (∀ c : Dev Cert.MlaPostIdeal.nD,
      r.2.mem ((c.tc : Thread Cert.MlaPostIdeal.nD Cert.MlaPostIdeal.τ).loc Cert.MlaPostIdeal.main_arg0) = m ((c.tc : Thread Cert.MlaPostIdeal.nD Cert.MlaPostIdeal.τ).loc Cert.MlaPostIdeal.main_arg0)
      ∧ r.2.mem ((c.tc : Thread Cert.MlaPostIdeal.nD Cert.MlaPostIdeal.τ).loc Cert.MlaPostIdeal.main_arg1) = m ((c.tc : Thread Cert.MlaPostIdeal.nD Cert.MlaPostIdeal.τ).loc Cert.MlaPostIdeal.main_arg1)
      ∧ r.2.mem ((c.tc : Thread Cert.MlaPostIdeal.nD Cert.MlaPostIdeal.τ).loc Cert.MlaPostIdeal.main_arg2) = m ((c.tc : Thread Cert.MlaPostIdeal.nD Cert.MlaPostIdeal.τ).loc Cert.MlaPostIdeal.main_arg2)
      ∧ r.2.mem ((c.tc : Thread Cert.MlaPostIdeal.nD Cert.MlaPostIdeal.τ).loc Cert.MlaPostIdeal.main_arg3) = m ((c.tc : Thread Cert.MlaPostIdeal.nD Cert.MlaPostIdeal.τ).loc Cert.MlaPostIdeal.main_arg3)
      ∧ r.2.mem ((c.tc : Thread Cert.MlaPostIdeal.nD Cert.MlaPostIdeal.τ).loc Cert.MlaPostIdeal.main_arg4) = m ((c.tc : Thread Cert.MlaPostIdeal.nD Cert.MlaPostIdeal.τ).loc Cert.MlaPostIdeal.main_arg4)
      ∧ r.2.mem ((c.tc : Thread Cert.MlaPostIdeal.nD Cert.MlaPostIdeal.τ).loc Cert.MlaPostIdeal.main_arg5) = m ((c.tc : Thread Cert.MlaPostIdeal.nD Cert.MlaPostIdeal.τ).loc Cert.MlaPostIdeal.main_arg5)
      ∧ r.2.mem ((c.tc : Thread Cert.MlaPostIdeal.nD Cert.MlaPostIdeal.τ).loc Cert.MlaPostIdeal.main_arg6) = m ((c.tc : Thread Cert.MlaPostIdeal.nD Cert.MlaPostIdeal.τ).loc Cert.MlaPostIdeal.main_arg6)
      ∧ r.2.mem ((c.tc : Thread Cert.MlaPostIdeal.nD Cert.MlaPostIdeal.τ).loc Cert.MlaPostIdeal.main_arg7) = m ((c.tc : Thread Cert.MlaPostIdeal.nD Cert.MlaPostIdeal.τ).loc Cert.MlaPostIdeal.main_arg7)
      ∧ r.2.mem ((c.tc : Thread Cert.MlaPostIdeal.nD Cert.MlaPostIdeal.τ).loc Cert.MlaPostIdeal.main_arg8) = m ((c.tc : Thread Cert.MlaPostIdeal.nD Cert.MlaPostIdeal.τ).loc Cert.MlaPostIdeal.main_arg8)
      ∧ r.2.mem ((c.tc : Thread Cert.MlaPostIdeal.nD Cert.MlaPostIdeal.τ).loc Cert.MlaPostIdeal.main_arg9) = m ((c.tc : Thread Cert.MlaPostIdeal.nD Cert.MlaPostIdeal.τ).loc Cert.MlaPostIdeal.main_arg9)
      ∧ r.2.mem ((c.tc : Thread Cert.MlaPostIdeal.nD Cert.MlaPostIdeal.τ).loc Cert.MlaPostIdeal.main_arg10) = m ((c.tc : Thread Cert.MlaPostIdeal.nD Cert.MlaPostIdeal.τ).loc Cert.MlaPostIdeal.main_arg10))
      ∧ r.2.sem = fun _ => 0)

/-- The two statements are one. -/
theorem frame_eq : Frame F = FrameIdeal F := by sl_kernel_rfl

/-- The frame of the program as compiled. -/
theorem frame_compiled : Frame F := frame_eq.mpr frame

end Cert.MlaPostFrame

end
-- ==== Proof.MlaPostPay.lean ====
/- The call that differentiates the latent attention's projections, rotation and norms: the quantities, and what one grid point computes. -/
module

public import proofs.«01_k».proof.Proof.Gen.MlaPostIdeal.Skeleton
public import proofs.«01_k».proof.Proof.BwdOutPay

@[expose] public section

set_option maxRecDepth 16384

noncomputable section

open Idealize.ShloMosaic Idealize.ShloMosaic.TcCoe

namespace Cert.MlaPostIdeal.Hand

open Cert.MlaPostIdeal Cert.MlaPostIdeal.Gen
open Cert.BwdOutIdeal.Hand (mat wm rw0)

/-! ## The quantities, of whole arrays -/

/-- The lane of a wide column. -/
abbrev wl (x : Fin 1024) : Fin 128 := ⟨x.val % 128, by omega⟩

/-- The scale of the scores. -/
def sc : EReal := Ideal.ofBits FTy.f32 1037108716#32

section Norm

variable {R n : ℕ} (N : EReal) (x u : Fin R → Fin n → EReal)

/-- The norm's factor of a row. -/
def fac (r : Fin R) : EReal := Ideal.rsqrt (Ideal.div (∑ k, x r k * x r k) N + Ideal.ofBits FTy.f32 897988541#32)

/-- The normed row, before the weight. -/
def xh (r : Fin R) (k : Fin n) : EReal := x r k * fac N x r

/-- The gradient of the row. -/
def dz (r : Fin R) (k : Fin n) : EReal := fac N x r * (u r k - xh N x r k * Ideal.div (∑ k, u r k * xh N x r k) N)

end Norm

section Defs

variable {R : ℕ} (d : Fin R → Fin 1024 → EReal) (ct sn : Fin R → Fin 128 → EReal) (w : Fin 256 → Fin 1024 → EReal)
variable (dv : Fin R → Fin 512 → EReal) (wk : Fin 128 → Fin 1024 → EReal) (wv : Fin 128 → Fin 512 → EReal) (f : Fin R → Fin 128 → EReal)

/-- The cotangent of a query before the rotation. -/
def pre (r : Fin R) (x : Fin 1024) : EReal :=
  d r x * sc * ct r (wl x) + if 64 ≤ x.val % 128 ∧ x.val % 128 < 80 then d r ⟨(x.val + 1024 - 1008) % 1024, by omega⟩ * sc * sn r (wl ⟨(x.val + 1024 - 1008) % 1024, by omega⟩)
    else d r ⟨(x.val + 1024 - 16) % 1024, by omega⟩ * sc * sn r (wl ⟨(x.val + 1024 - 16) % 1024, by omega⟩)

/-- The cotangent of the normed latent of the queries. -/
def dqn (r : Fin R) (k : Fin 256) : EReal := ∑ x, pre d ct sn r x * w k x

/-- The lanes of a key's cotangent without rotation. -/
def dkn (r : Fin R) (x : Fin 1024) : EReal := if x.val % 128 < 64 then d r x else 0

/-- The cotangent of the normed latent of the keys and values. -/
def dkv (r : Fin R) (k : Fin 128) : EReal := (∑ x, dkn d r x * wk k x) + ∑ y, dv r y * wv k y

/-- The sum of the heads' cotangents of the rotated key. -/
def dkr (r : Fin R) (l : Fin 128) : EReal :=
  if 64 ≤ l.val ∧ l.val < 96 then d r ⟨l.val, by omega⟩ + d r ⟨128 + l.val, by omega⟩ + d r ⟨256 + l.val, by omega⟩ + d r ⟨384 + l.val, by omega⟩
    + d r ⟨512 + l.val, by omega⟩ + d r ⟨640 + l.val, by omega⟩ + d r ⟨768 + l.val, by omega⟩ + d r ⟨896 + l.val, by omega⟩ else 0

/-- The misc columns. -/
def misc (r : Fin R) (l : Fin 128) : EReal :=
  dkr d r l * ct r l + (if 64 ≤ l.val ∧ l.val < 80 then dkr d r ⟨(l.val + 128 - 112) % 128, by omega⟩ * sn r ⟨(l.val + 128 - 112) % 128, by omega⟩
    else dkr d r ⟨(l.val + 128 - 16) % 128, by omega⟩ * sn r ⟨(l.val + 128 - 16) % 128, by omega⟩) + f r l

end Defs

/-! ## What one grid point computes -/

section Pay

variable (ct sn : FVec Ideal S512x128 .f32) (gq : FVec Ideal S1x256 .f32) (gk : FVec Ideal S1x128 .f32) (ql : FVec Ideal S512x256 .f32)
variable (q kk : FVec Ideal S512x1024 .f32) (w : FVec Ideal S1x256x1024 .bf16) (wk : FVec Ideal S1x128x1024 .bf16) (wv : FVec Ideal S1x128x512 .bf16)
variable (kl : FVec Ideal S512x128 .f32) (v : FVec Ideal S512x512 .f32) (f : FVec Ideal S512x128 .f32)

abbrev n256 : EReal := Ideal.ofBits FTy.f32 1132462080#32
abbrev n128 : EReal := Ideal.ofBits FTy.f32 1124073472#32

theorem p12 : k0_pay12 (F := Ideal) gk = gk := by
  funext y; idx_vars y
  pointwise [k0_pay12]

theorem p14 (r : Fin 512) : (k0_pay14 (F := Ideal) ql (ix2 r 0) : EReal) = fac n256 (mat ql) r := by
  pointwise [k0_pay14, k0_pay13]
  rfl

theorem p15 (r : Fin 512) (k : Fin 256) : (k0_pay15 (F := Ideal) ql (ix2 r k) : EReal) = xh n256 (mat ql) r k := by
  pointwise [k0_pay15, k0_pay13]
  rw [p14]
  rfl

theorem p16 (r : Fin 512) (k : Fin 256) : (k0_pay16 (F := Ideal) gq ql (ix2 r k) : EReal) = xh n256 (mat ql) r k * gq (ix2 0 k) := by
  pointwise [k0_pay16, k0_pay11]
  rw [p15]

theorem p17 (r : Fin 512) (x : Fin 1024) : (k0_pay17 (F := Ideal) q (ix2 r x) : EReal) = (q (ix2 r x) : EReal) * sc := by
  pointwise [k0_pay17]
  rfl

theorem tile_cases (g : Fin 128 → EReal) (x : Fin 1024) :
    (if h : x.val < 128 then g ⟨x.val, h⟩ else if h : x.val - 128 < 128 then g ⟨x.val - 128, h⟩
      else if h : x.val - 128 - 128 < 128 then g ⟨x.val - 128 - 128, h⟩ else if h : x.val - 128 - 128 - 128 < 128 then g ⟨x.val - 128 - 128 - 128, h⟩
      else if h : x.val - 128 - 128 - 128 - 128 < 128 then g ⟨x.val - 128 - 128 - 128 - 128, h⟩
      else if h : x.val - 128 - 128 - 128 - 128 - 128 < 128 then g ⟨x.val - 128 - 128 - 128 - 128 - 128, h⟩
      else if h : x.val - 128 - 128 - 128 - 128 - 128 - 128 < 128 then g ⟨x.val - 128 - 128 - 128 - 128 - 128 - 128, h⟩
      else g ⟨x.val - 128 - 128 - 128 - 128 - 128 - 128 - 128, by omega⟩) = g (wl x) := by
  have hx := x.isLt
  split_ifs <;> exact congrArg g (Fin.ext (by dsimp only; omega))

theorem p18 (r : Fin 512) (x : Fin 1024) : (k0_pay18 (F := Ideal) ct (ix2 r x) : EReal) = ct (ix2 r (wl x)) := by
  pointwise [k0_pay18, k0_pay9]
  exact tile_cases (fun l => ct (ix2 r l)) x

theorem p19 (r : Fin 512) (x : Fin 1024) : (k0_pay19 (F := Ideal) sn (ix2 r x) : EReal) = sn (ix2 r (wl x)) := by
  pointwise [k0_pay19, k0_pay10]
  exact tile_cases (fun l => sn (ix2 r l)) x

theorem andi127 (x : Fin 1024) : IntOp.andi (BitVec.ofNat 32 x.val) 127#32 = BitVec.ofNat 32 (wl x).val := by
  revert x
  decide +kernel

theorem andi127' (x : Fin 128) : IntOp.andi (BitVec.ofNat 32 x.val) 127#32 = BitVec.ofNat 32 x.val := by
  revert x
  decide +kernel

theorem first_half (l : Fin 128) : IntOp.andi (IntOp.cmpi CmpIPredicate.sge (BitVec.ofNat 32 l.val) 64#32) (IntOp.cmpi CmpIPredicate.slt (BitVec.ofNat 32 l.val) 80#32)
    = if 64 ≤ l.val ∧ l.val < 80 then 1#1 else 0#1 := by
  revert l
  decide +kernel

theorem rotated (l : Fin 128) : IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by
  revert l
  decide +kernel

theorem unrotated (l : Fin 128) : IntOp.cmpi CmpIPredicate.slt (BitVec.ofNat 32 l.val) 64#32 = if l.val < 64 then 1#1 else 0#1 := by
  revert l
  decide +kernel

theorem sel (P : Prop) [Decidable P] (a b : EReal) : Scalar.select (if P then 1#1 else 0#1) a b = if P then a else b := by
  split <;> rfl

theorem p20 (r : Fin 512) (x : Fin 1024) : k0_pay20 (ix2 r x) = BitVec.ofNat 32 (wl x).val := by
  pointwise [k0_pay20]
  exact andi127 x

theorem p23 (r : Fin 512) (x : Fin 1024) :
    (k0_pay23 (F := Ideal) (k0_pay17 q) (k0_pay18 ct) (k0_pay19 sn) k0_pay20 k0_pay21 k0_pay22 (ix2 r x) : EReal) = pre (mat q) (mat ct) (mat sn) r x := by
  pointwise [k0_pay23, k0_pay21, k0_pay22]
  simp only [p17, p18, p19, p20]
  have h := first_half (wl x)
  dsimp only at h
  rw [h]
  exact congrArg (fun z : EReal => (q (ix2 r x) : EReal) * sc * ct (ix2 r (wl x)) + z) (sel _ _ _)

theorem p24 (a : FVec Ideal S256x1024 .f32) (k : Fin 256) (x : Fin 1024) :
    (k0_pay24 (F := Ideal) (k0_pay16 gq ql) (k0_pay17 q) (k0_pay18 ct) (k0_pay19 sn) k0_pay20 k0_pay21 k0_pay22 a (ix2 k x) : EReal)
      = a (ix2 k x) + ∑ r : Fin 512, (xh n256 (mat ql) r k * gq (ix2 0 k)) * pre (mat q) (mat ct) (mat sn) r x := by
  pointwise [k0_pay24]
  simp only [p16, p23]

theorem p25 (r : Fin 512) (k : Fin 256) :
    (k0_pay25 (F := Ideal) (k0_pay17 q) (k0_pay18 ct) (k0_pay19 sn) k0_pay20 k0_pay21 k0_pay22 w (ix2 r k) : EReal)
      = dqn (mat q) (mat ct) (mat sn) (wm w) r k := by
  pointwise [k0_pay25]
  simp only [p23]
  rfl

theorem p26 (r : Fin 512) (k : Fin 256) :
    (k0_pay26 (F := Ideal) (k0_pay11 gq) (k0_pay14 ql) (k0_pay15 ql) (k0_pay17 q) (k0_pay18 ct) (k0_pay19 sn) k0_pay20 k0_pay21 k0_pay22 w (ix2 r k) : EReal)
      = dz n256 (mat ql) (fun r k => dqn (mat q) (mat ct) (mat sn) (wm w) r k * gq (ix2 0 k)) r k := by
  pointwise [k0_pay26, k0_pay11]
  simp only [p25, p14, p15]
  rfl

theorem p27 (a : FVec Ideal S1x256 .f32) (k : Fin 256) :
    (k0_pay27 (F := Ideal) (k0_pay15 ql) (k0_pay17 q) (k0_pay18 ct) (k0_pay19 sn) k0_pay20 k0_pay21 k0_pay22 w a (ix2 0 k) : EReal)
      = a (ix2 0 k) + ∑ r : Fin 512, dqn (mat q) (mat ct) (mat sn) (wm w) r k * xh n256 (mat ql) r k := by
  pointwise [k0_pay27]
  simp only [p25, p15]

theorem p29 (r : Fin 512) (x : Fin 1024) : (k0_pay29 (F := Ideal) kk (ix2 r x) : EReal) = dkn (mat kk) r x := by
  pointwise [k0_pay29, k0_pay28]
  rw [andi127, unrotated]
  exact sel _ _ _

theorem p30 (r : Fin 512) (l : Fin 128) : (k0_pay30 (F := Ideal) kk (ix2 r l) : EReal) = dkr (mat kk) r l := by
  pointwise [k0_pay30, k0_pay28]
  rw [rotated]
  exact sel _ _ _

theorem p32 (r : Fin 512) (l : Fin 128) :
    (k0_pay32 (F := Ideal) (k0_pay9 ct) (k0_pay30 kk) (k0_pay31 (k0_pay10 sn) kk) f (ix2 r l) : EReal) = misc (mat kk) (mat ct) (mat sn) (mat f) r l := by
  pointwise [k0_pay32, k0_pay31, k0_pay9, k0_pay10]
  simp only [p30]
  rw [andi127', first_half]
  exact congrArg (fun z : EReal => dkr (mat kk) r l * (ct (ix2 r l) : EReal) + z + f (ix2 r l)) (sel _ _ _)

theorem p34 (r : Fin 512) : (k0_pay34 (F := Ideal) kl (ix2 r 0) : EReal) = fac n128 (mat kl) r := by
  pointwise [k0_pay34, k0_pay33]
  rfl

theorem p35 (r : Fin 512) (k : Fin 128) : (k0_pay35 (F := Ideal) kl (ix2 r k) : EReal) = xh n128 (mat kl) r k := by
  pointwise [k0_pay35, k0_pay33]
  rw [p34]
  rfl

theorem p36 (r : Fin 512) (k : Fin 128) : (k0_pay36 (F := Ideal) gk kl (ix2 r k) : EReal) = xh n128 (mat kl) r k * gk (ix2 0 k) := by
  pointwise [k0_pay36]
  rw [p35]

theorem p37 (r y : Fin 512) : (k0_pay37 (F := Ideal) v (ix2 r y) : EReal) = v (ix2 r y) := by
  pointwise [k0_pay37]

theorem p38 (a : FVec Ideal S128x1024 .f32) (k : Fin 128) (x : Fin 1024) :
    (k0_pay38 (F := Ideal) (k0_pay12 gk) (k0_pay29 kk) kl a (ix2 k x) : EReal)
      = a (ix2 k x) + ∑ r : Fin 512, (xh n128 (mat kl) r k * gk (ix2 0 k)) * dkn (mat kk) r x := by
  rw [p12]
  pointwise [k0_pay38]
  simp only [p36, p29]

theorem p39 (a : FVec Ideal S128x512 .f32) (k : Fin 128) (y : Fin 512) :
    (k0_pay39 (F := Ideal) (k0_pay12 gk) kl v a (ix2 k y) : EReal)
      = a (ix2 k y) + ∑ r : Fin 512, (xh n128 (mat kl) r k * gk (ix2 0 k)) * v (ix2 r y) := by
  rw [p12]
  pointwise [k0_pay39]
  simp only [p36, p37]

theorem p1 (r : Fin 512) (k : Fin 128) :
    (k0_pay1 (F := Ideal) (k0_pay29 kk) (k0_pay37 v) wk wv (ix2 r k) : EReal) = dkv (mat kk) (mat v) (wm wk) (wm wv) r k := by
  pointwise [k0_pay1]
  simp only [p29, p37]
  rfl

theorem p2 (r : Fin 512) (k : Fin 128) :
    (k0_pay2 (F := Ideal) (k0_pay12 gk) (k0_pay29 kk) (k0_pay34 kl) (k0_pay35 kl) (k0_pay37 v) wk wv (ix2 r k) : EReal)
      = dz n128 (mat kl) (fun r k => dkv (mat kk) (mat v) (wm wk) (wm wv) r k * gk (ix2 0 k)) r k := by
  rw [p12]
  pointwise [k0_pay2]
  simp only [p1, p34, p35]
  rfl

theorem p3 (a : FVec Ideal S1x128 .f32) (k : Fin 128) :
    (k0_pay3 (F := Ideal) (k0_pay29 kk) (k0_pay35 kl) (k0_pay37 v) wk wv a (ix2 0 k) : EReal)
      = a (ix2 0 k) + ∑ r : Fin 512, dkv (mat kk) (mat v) (wm wk) (wm wv) r k * xh n128 (mat kl) r k := by
  pointwise [k0_pay3]
  simp only [p1, p35]

theorem p4 (k : Fin 256) (x : Fin 1024) : (k0_pay4 (F := Ideal) (ix2 k x) : EReal) = 0 := by
  pointwise [k0_pay4]
theorem p5 (k : Fin 128) (x : Fin 1024) : (k0_pay5 (F := Ideal) (ix2 k x) : EReal) = 0 := by
  pointwise [k0_pay5]
theorem p6 (k : Fin 128) (y : Fin 512) : (k0_pay6 (F := Ideal) (ix2 k y) : EReal) = 0 := by
  pointwise [k0_pay6]
theorem p7 (a : Fin 8) (k : Fin 256) : (k0_pay7 (F := Ideal) (ix2 a k) : EReal) = 0 := by
  pointwise [k0_pay7]
theorem p8 (a : Fin 8) (k : Fin 128) : (k0_pay8 (F := Ideal) (ix2 a k) : EReal) = 0 := by
  pointwise [k0_pay8]

end Pay

end Cert.MlaPostIdeal.Hand

end
-- ==== Proof.MlaPostHost.lean ====
/- The arrays the call that differentiates the latent attention's projections, rotation and norms is given, and its blocks. -/
module

public import proofs.«01_k».proof.Proof.Gen.MlaPostIdeal.Frame.Runs
public import proofs.«01_k».proof.Proof.MlaPostPay
public import proofs.«01_k».proof.Proof.RmsNorm
public import proofs.«01_k».proof.Proof.FoxBwdRead

@[expose] public section

set_option maxRecDepth 16384

noncomputable section

open Idealize.ShloMosaic Idealize.ShloMosaic.TcCoe Idealize.SL.Sem
open Idealize.ShloMosaic.Pipeline (Dat)

namespace Cert.MlaPostIdeal.Hand

open Cert.MlaPostIdeal Cert.MlaPostIdeal.Gen
open Cert.BwdOutIdeal.Hand (mat wm rw0)
open Cert.RmsNorm (row upTo upTo_zero upTo_succ upTo_eight)

variable (m : (ℓ : Loc nD τ sig) → Buf (Elt Ideal) ℓ)

abbrev A0 (c : Dev nD) : FVec Ideal S4096x8x96 .f32 := m ((c : Thread nD τ).loc main_arg0)
abbrev A1 (c : Dev nD) : FVec Ideal S4096x8x96 .f32 := m ((c : Thread nD τ).loc main_arg1)
abbrev A2 (c : Dev nD) : FVec Ideal S4096x8x64 .f32 := m ((c : Thread nD τ).loc main_arg2)
abbrev A3 (c : Dev nD) : FVec Ideal S4096x8 .f32 := m ((c : Thread nD τ).loc main_arg3)
abbrev A4 (c : Dev nD) : FVec Ideal S4096x2984 .f32 := m ((c : Thread nD τ).loc main_arg4)
abbrev A5 (c : Dev nD) : FVec Ideal S256 .f32 := m ((c : Thread nD τ).loc main_arg5)
abbrev A6 (c : Dev nD) : FVec Ideal S128 .f32 := m ((c : Thread nD τ).loc main_arg6)
abbrev A7 (c : Dev nD) : FVec Ideal S256x768 .f32 := m ((c : Thread nD τ).loc main_arg7)
abbrev A8 (c : Dev nD) : FVec Ideal S128x1024 .f32 := m ((c : Thread nD τ).loc main_arg8)
abbrev A9 (c : Dev nD) : FVec Ideal S4096x16 .f32 := m ((c : Thread nD τ).loc main_arg9)
abbrev A10 (c : Dev nD) : FVec Ideal S4096x16 .f32 := m ((c : Thread nD τ).loc main_arg10)

def Q (c : Dev nD) : FVec Ideal S4096x1024 .f32 := V m c main_v20
def K (c : Dev nD) : FVec Ideal S4096x1024 .f32 := V m c main_v22
def D (c : Dev nD) : FVec Ideal S4096x512 .f32 := V m c main_v23
def Fm (c : Dev nD) : FVec Ideal S4096x128 .f32 := V m c main_v24
def Zp (c : Dev nD) : FVec Ideal S4096x1536 .f32 := V m c main_v38
def Gq (c : Dev nD) : FVec Ideal S1x256 .f32 := V m c main_v39
def Gk (c : Dev nD) : FVec Ideal S1x128 .f32 := V m c main_v40
def Wq (c : Dev nD) : FVec Ideal S1x256x1024 .bf16 := V m c main_v41
def Wk (c : Dev nD) : FVec Ideal S1x128x1024 .bf16 := V m c main_v42
def Wv (c : Dev nD) : FVec Ideal S1x128x512 .bf16 := V m c main_v43
def Ct (c : Dev nD) : FVec Ideal S4096x128 .f32 := V m c main_v2
def Sn (c : Dev nD) : FVec Ideal S4096x128 .f32 := V m c main_v6

/-- The column of a head's lane, wide and thin. -/
abbrev wide (h : Fin 8) (l : Fin 128) : Fin 1024 := ⟨128 * h.val + l.val, by omega⟩
abbrev thin (h : Fin 8) (d : Fin 64) : Fin 512 := ⟨64 * h.val + d.val, by omega⟩

/-- Two ways to write a zero-padded entry. -/
theorem pad_eq {P P' : Prop} [Decidable P] [Decidable P'] (h : P ↔ P') (a : P → EReal) (b : P' → EReal) (z : EReal) (hz : z = 0)
    (hab : ∀ p p', a p = b p') : (if p : P then a p else z) = if p : P' then b p else 0 := by
  by_cases p : P
  · rw [dif_pos p, dif_pos (h.mp p)]; exact hab _ _
  · rw [dif_neg p, dif_neg fun q => p (h.mpr q)]; exact hz

theorem Q_apply (c : Dev nD) (r : Fin 4096) (h : Fin 8) (l : Fin 128) :
    (Q m c (ix2 r (wide h l)) : EReal) = if e : l.val < 96 then A0 m c (ix3 r h ⟨l.val, e⟩) else 0 := by
  unfold Q V
  after_reads_simp
  pointwise
  simp -implicitDefEqProofs only [StableHlo.TRef.toBuf, StableHlo.TRef.ofBuf, cast_cast, cast_eq]
  pointwise
  rw [Cert.Common.sitofp_zero]
  by_cases e : l.val < 96
  · rw [dif_pos (by omega), dif_pos e]
    exact congrArg₂ (fun a b => (A0 m c (ix3 r a b) : EReal)) (Fin.ext (by dsimp only; omega)) (Fin.ext (by dsimp only; omega))
  · rw [dif_neg (by omega), dif_neg e]

theorem K_apply (c : Dev nD) (r : Fin 4096) (h : Fin 8) (l : Fin 128) :
    (K m c (ix2 r (wide h l)) : EReal) = if e : l.val < 96 then A1 m c (ix3 r h ⟨l.val, e⟩) else 0 := by
  unfold K V
  after_reads_simp
  pointwise
  simp -implicitDefEqProofs only [StableHlo.TRef.toBuf, StableHlo.TRef.ofBuf, cast_cast, cast_eq]
  pointwise
  rw [Cert.Common.sitofp_zero]
  by_cases e : l.val < 96
  · rw [dif_pos (by omega), dif_pos e]
    exact congrArg₂ (fun a b => (A1 m c (ix3 r a b) : EReal)) (Fin.ext (by dsimp only; omega)) (Fin.ext (by dsimp only; omega))
  · rw [dif_neg (by omega), dif_neg e]

theorem D_apply (c : Dev nD) (r : Fin 4096) (h : Fin 8) (d : Fin 64) : (D m c (ix2 r (thin h d)) : EReal) = A2 m c (ix3 r h d) := by
  unfold D V
  after_reads_simp
  pointwise
  exact congrArg₂ (fun a b => (A2 m c (ix3 r a b) : EReal)) (Fin.ext (by dsimp only; omega)) (Fin.ext (by dsimp only; omega))

theorem Fm_apply (c : Dev nD) (r : Fin 4096) (l : Fin 128) : (Fm m c (ix2 r l) : EReal) = if e : l.val < 8 then A3 m c (ix2 r ⟨l.val, e⟩) else 0 := by
  unfold Fm V
  after_reads_simp
  pointwise
  simp -implicitDefEqProofs only [StableHlo.TRef.toBuf, StableHlo.TRef.ofBuf, cast_cast, cast_eq]
  pointwise
  rw [Cert.Common.sitofp_zero]

theorem Zq_apply (c : Dev nD) (r : Fin 4096) (k : Fin 256) : (Zp m c (ix2 r ⟨1024 + k.val, by omega⟩) : EReal) = A4 m c (ix2 r ⟨2056 + k.val, by omega⟩) := by
  unfold Zp V
  after_reads_simp
  pointwise
  after_reads_simp
  pointwise
  rw [dif_pos (by omega), dif_neg (by omega), dif_neg (by omega), dif_pos (by omega)]
  exact congrArg (fun a => (A4 m c (ix2 r a) : EReal)) (Fin.ext (by dsimp only; omega))

theorem Zk_apply (c : Dev nD) (r : Fin 4096) (k : Fin 128) : (Zp m c (ix2 r ⟨1280 + k.val, by omega⟩) : EReal) = A4 m c (ix2 r ⟨2312 + k.val, by omega⟩) := by
  unfold Zp V
  after_reads_simp
  pointwise
  after_reads_simp
  pointwise
  rw [dif_pos (by omega), dif_neg (by omega), dif_neg (by omega), dif_neg (by omega)]
  exact congrArg (fun a => (A4 m c (ix2 r a) : EReal)) (Fin.ext (by dsimp only; omega))

theorem Gq_apply (c : Dev nD) (k : Fin 256) : (Gq m c (ix2 0 k) : EReal) = A5 m c (ix1 k) := by
  unfold Gq V
  after_reads_simp
  pointwise

theorem Gk_apply (c : Dev nD) (k : Fin 128) : (Gk m c (ix2 0 k) : EReal) = A6 m c (ix1 k) := by
  unfold Gk V
  after_reads_simp
  pointwise

theorem Wq_apply (c : Dev nD) (k : Fin 256) (h : Fin 8) (l : Fin 128) :
    (Wq m c (ix3 0 k (wide h l)) : EReal) = if e : l.val < 96 then A7 m c (ix2 k ⟨96 * h.val + l.val, by omega⟩) else 0 := by
  unfold Wq V
  after_reads_simp
  pointwise
  simp -implicitDefEqProofs only [StableHlo.TRef.toBuf, StableHlo.TRef.ofBuf, cast_cast, cast_eq]
  pointwise
  exact pad_eq (by omega) _ _ _ Cert.Common.sitofp_zero fun _ _ => congrArg (fun a => (A7 m c (ix2 k a) : EReal)) (Fin.ext (by dsimp only; omega))

theorem Wk_apply (c : Dev nD) (k : Fin 128) (h : Fin 8) (l : Fin 128) :
    (Wk m c (ix3 0 k (wide h l)) : EReal) = if e : l.val < 64 then A8 m c (ix2 k ⟨128 * h.val + l.val, by omega⟩) else 0 := by
  unfold Wk V
  after_reads_simp
  pointwise
  simp -implicitDefEqProofs only [StableHlo.TRef.toBuf, StableHlo.TRef.ofBuf, cast_cast, cast_eq]
  pointwise
  exact pad_eq (by omega) _ _ _ Cert.Common.sitofp_zero fun _ _ => congrArg (fun a => (A8 m c (ix2 k a) : EReal)) (Fin.ext (by dsimp only; omega))

theorem Wv_apply (c : Dev nD) (k : Fin 128) (h : Fin 8) (d : Fin 64) :
    (Wv m c (ix3 0 k (thin h d)) : EReal) = A8 m c (ix2 k ⟨128 * h.val + (64 + d.val), by omega⟩) := by
  unfold Wv V
  after_reads_simp
  pointwise
  exact congrArg (fun a => (A8 m c (ix2 k a) : EReal)) (Fin.ext (by dsimp only; omega))

theorem Ct_apply (c : Dev nD) (r : Fin 4096) (l : Fin 128) :
    (Ct m c (ix2 r l) : EReal) = if e : 64 ≤ l.val ∧ l.val < 80 then A9 m c (ix2 r ⟨l.val - 64, by omega⟩)
      else if e : 80 ≤ l.val ∧ l.val < 96 then A9 m c (ix2 r ⟨l.val - 80, by omega⟩) else 1 := by
  unfold Ct V
  after_reads_simp
  pointwise
  after_reads_simp
  pointwise
  by_cases e1 : l.val < 64
  · rw [dif_pos e1, dif_neg (by omega), dif_neg (by omega)]
  by_cases e2 : l.val < 80
  · rw [dif_neg e1, dif_pos (by omega), dif_pos (by omega)]
  by_cases e3 : l.val < 96
  · rw [dif_neg e1, dif_neg (by omega), dif_pos (by omega), dif_neg (by omega), dif_pos (by omega)]
    exact congrArg (fun a => (A9 m c (ix2 r a) : EReal)) (Fin.ext (by dsimp only; omega))
  · rw [dif_neg e1, dif_neg (by omega), dif_neg (by omega), dif_neg (by omega), dif_neg (by omega)]

theorem Sn_apply (c : Dev nD) (r : Fin 4096) (l : Fin 128) :
    (Sn m c (ix2 r l) : EReal) = if e : 64 ≤ l.val ∧ l.val < 80 then -(A10 m c (ix2 r ⟨l.val - 64, by omega⟩) : EReal)
      else if e : 80 ≤ l.val ∧ l.val < 96 then A10 m c (ix2 r ⟨l.val - 80, by omega⟩) else 0 := by
  unfold Sn V
  after_reads_simp
  pointwise
  after_reads_simp
  pointwise
  by_cases e1 : l.val < 64
  · rw [dif_pos e1, dif_neg (by omega), dif_neg (by omega)]
  by_cases e2 : l.val < 80
  · rw [dif_neg e1, dif_pos (by omega), dif_pos (by omega)]
  by_cases e3 : l.val < 96
  · rw [dif_neg e1, dif_neg (by omega), dif_pos (by omega), dif_neg (by omega), dif_pos (by omega)]
    exact congrArg (fun a => (A10 m c (ix2 r a) : EReal)) (Fin.ext (by dsimp only; omega))
  · rw [dif_neg e1, dif_neg (by omega), dif_neg (by omega), dif_neg (by omega), dif_neg (by omega)]

/-! ## The blocks -/

/-- The block index of every window at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 4] ∧ win0_5.index t = ![t.val, 10] ∧ win0_6.index t = ![0, 0] ∧ win0_7.index t = ![0, 0]
    ∧ win0_8.index t = ![0, 0, 0] ∧ win0_9.index t = ![0, 0, 0] ∧ win0_10.index t = ![0, 0, 0] ∧ win0_11.index t = ![t.val, 0] ∧ win0_12.index t = ![t.val, 0] :=
  (by decide +kernel : ∀ t : Fin grid0.N, _)

/-- and of the windows written tile by tile. -/
theorem idxo : ∀ t : Fin cfg0.N, win0_13.index t = ![t.val, 0] ∧ win0_14.index t = ![t.val, 0] ∧ win0_15.index t = ![t.val, 0] :=
  (by decide +kernel : ∀ t : Fin grid0.N, _)

/-- A grid point's tile. -/
abbrev tl (t : Fin cfg0.N) : Fin 8 := ⟨t.val, lt_of_lt_of_eq t.isLt N_0⟩

theorem b0 (c : Dev nD) (t : Fin cfg0.N) (r : Fin 512) (x : Fin 1024) : (iblk m c 0 t : FVec Ideal S512x1024 .f32) (ix2 r x) = Q m c (ix2 (row (tl t) r) x) := by
  unfold Q
  blk_ext [iblk, idx t]
theorem b1 (c : Dev nD) (t : Fin cfg0.N) (r : Fin 512) (x : Fin 1024) : (iblk m c 1 t : FVec Ideal S512x1024 .f32) (ix2 r x) = K m c (ix2 (row (tl t) r) x) := by
  unfold K
  blk_ext [iblk, idx t]
theorem b2 (c : Dev nD) (t : Fin cfg0.N) (r : Fin 512) (x : Fin 512) : (iblk m c 2 t : FVec Ideal S512x512 .f32) (ix2 r x) = D m c (ix2 (row (tl t) r) x) := by
  unfold D
  blk_ext [iblk, idx t]
theorem b3 (c : Dev nD) (t : Fin cfg0.N) (r : Fin 512) (x : Fin 128) : (iblk m c 3 t : FVec Ideal S512x128 .f32) (ix2 r x) = Fm m c (ix2 (row (tl t) r) x) := by
  unfold Fm
  blk_ext [iblk, idx t]
theorem b4 (c : Dev nD) (t : Fin cfg0.N) (r : Fin 512) (k : Fin 256) :
    (iblk m c 4 t : FVec Ideal S512x256 .f32) (ix2 r k) = Zp m c (ix2 (row (tl t) r) ⟨1024 + k.val, by omega⟩) := by
  unfold Zp
  blk_ext [iblk, idx t]
theorem b5 (c : Dev nD) (t : Fin cfg0.N) (r : Fin 512) (k : Fin 128) :
    (iblk m c 5 t : FVec Ideal S512x128 .f32) (ix2 r k) = Zp m c (ix2 (row (tl t) r) ⟨1280 + k.val, by omega⟩) := by
  unfold Zp
  blk_ext [iblk, idx t]
theorem b6 (c : Dev nD) (t : Fin cfg0.N) (k : Fin 256) : (iblk m c 6 t : FVec Ideal S1x256 .f32) (ix2 0 k) = Gq m c (ix2 0 k) := by
  unfold Gq
  blk_ext [iblk, idx t]
theorem b7 (c : Dev nD) (t : Fin cfg0.N) (k : Fin 128) : (iblk m c 7 t : FVec Ideal S1x128 .f32) (ix2 0 k) = Gk m c (ix2 0 k) := by
  unfold Gk
  blk_ext [iblk, idx t]
theorem b8 (c : Dev nD) (t : Fin cfg0.N) (k : Fin 256) (x : Fin 1024) : (iblk m c 8 t : FVec Ideal S1x256x1024 .bf16) (ix3 0 k x) = Wq m c (ix3 0 k x) := by
  unfold Wq
  blk_ext [iblk, idx t]
theorem b9 (c : Dev nD) (t : Fin cfg0.N) (k : Fin 128) (x : Fin 1024) : (iblk m c 9 t : FVec Ideal S1x128x1024 .bf16) (ix3 0 k x) = Wk m c (ix3 0 k x) := by
  unfold Wk
  blk_ext [iblk, idx t]
theorem b10 (c : Dev nD) (t : Fin cfg0.N) (k : Fin 128) (x : Fin 512) : (iblk m c 10 t : FVec Ideal S1x128x512 .bf16) (ix3 0 k x) = Wv m c (ix3 0 k x) := by
  unfold Wv
  blk_ext [iblk, idx t]
theorem b11 (c : Dev nD) (t : Fin cfg0.N) (r : Fin 512) (x : Fin 128) : (iblk m c 11 t : FVec Ideal S512x128 .f32) (ix2 r x) = Ct m c (ix2 (row (tl t) r) x) := by
  unfold Ct
  blk_ext [iblk, idx t]
theorem b12 (c : Dev nD) (t : Fin cfg0.N) (r : Fin 512) (x : Fin 128) : (iblk m c 12 t : FVec Ideal S512x128 .f32) (ix2 r x) = Sn m c (ix2 (row (tl t) r) x) := by
  unfold Sn
  blk_ext [iblk, idx t]

end Cert.MlaPostIdeal.Hand

end
-- ==== Proof.MlaPostValue.lean ====
/- What the call that differentiates the latent attention's projections, rotation and norms leaves in its arrays. -/
module

public import proofs.«01_k».proof.Proof.MlaPostFrame
public import proofs.«01_k».proof.Proof.MlaPostHost

@[expose] public section

set_option maxRecDepth 16384

noncomputable section

open Idealize.ShloMosaic Idealize.ShloMosaic.TcCoe Idealize.SL.Sem
open Idealize.ShloMosaic.Pipeline (Dat)

namespace Cert.MlaPostIdeal.Hand

open Cert.MlaPostIdeal Cert.MlaPostIdeal.Gen Cert.MlaPostRun Cert.MlaPostFrame
open Cert.BwdOutIdeal.Hand (mat wm rw0)
open Cert.RmsNorm (row upTo upTo_zero upTo_succ upTo_eight)

/-! ## The first row of an array of eight -/

section Rows

variable {n : ℕ} (X : FVec Ideal ⟨2, ![8, n]⟩ .f32) (w : FVec Ideal ⟨2, ![1, n]⟩ .f32)

/-- The first row, read. -/
theorem top_apply (inb : ∀ a, (![0, 0] : Fin 2 → ℕ) a + (![1, n] : Fin 2 → ℕ) a ≤ (![8, n] : Fin 2 → ℕ) a) (k : Fin n) :
    (VecWindow.window (s := ⟨2, ![8, n]⟩) X ![0, 0] ![1, n] inb : FVec Ideal ⟨2, ![1, n]⟩ .f32) (ix2 0 k) = X (ix2 0 k) := by
  unfold VecWindow.window
  refine congrArg X (funext fun a => Fin.ext ?_)
  match a with
  | 0 => show 0 + 1 * 0 = 0; rfl
  | 1 => show 0 + 1 * k.val = k.val; omega

/-- The first row, replaced. -/
theorem put_apply (a : Fin 8) (k : Fin n) :
    (VecWindow.put (s := ⟨2, ![8, n]⟩) X ![0, 0] ![1, n] w : FVec Ideal ⟨2, ![8, n]⟩ .f32) (ix2 a k) = if a = 0 then w (ix2 0 k) else X (ix2 a k) := by
  unfold VecWindow.put
  by_cases h : a = 0
  · subst h
    rw [if_pos rfl, dif_pos (show ∀ b : Fin 2, (![0, 0] : Fin 2 → ℕ) b ≤ ((ix2 (0 : Fin 8) k : (⟨2, ![8, n]⟩ : Shape).Idx) b).val ∧
      ((ix2 (0 : Fin 8) k : (⟨2, ![8, n]⟩ : Shape).Idx) b).val < (![0, 0] : Fin 2 → ℕ) b + (![1, n] : Fin 2 → ℕ) b from fun b => by
        match b with
        | 0 => exact ⟨le_rfl, by show 0 < 0 + 1; omega⟩
        | 1 => exact ⟨Nat.zero_le _, by show k.val < 0 + n; have := k.isLt; omega⟩)]
    refine congrArg w (funext fun b => Fin.ext ?_)
    match b with
    | 0 => rfl
    | 1 => rfl
  · rw [if_neg h, dif_neg]
    intro hall
    have h0 : a.val < 0 + 1 := (hall 0).2
    exact h (Fin.ext (by show a.val = 0; omega))

end Rows

/-! ## The whole arrays -/

variable (m : (ℓ : Loc nD τ sig) → Buf (Elt Ideal) ℓ)

abbrev qA (c : Dev nD) : Fin 4096 → Fin 1024 → EReal := mat (Q m c)
abbrev kA (c : Dev nD) : Fin 4096 → Fin 1024 → EReal := mat (K m c)
abbrev vA (c : Dev nD) : Fin 4096 → Fin 512 → EReal := mat (D m c)
abbrev fA (c : Dev nD) : Fin 4096 → Fin 128 → EReal := mat (Fm m c)
abbrev ctA (c : Dev nD) : Fin 4096 → Fin 128 → EReal := mat (Ct m c)
abbrev snA (c : Dev nD) : Fin 4096 → Fin 128 → EReal := mat (Sn m c)
abbrev qlA (c : Dev nD) : Fin 4096 → Fin 256 → EReal := fun r k => Zp m c (ix2 r ⟨1024 + k.val, by omega⟩)
abbrev klA (c : Dev nD) : Fin 4096 → Fin 128 → EReal := fun r k => Zp m c (ix2 r ⟨1280 + k.val, by omega⟩)
abbrev gqA (c : Dev nD) : Fin 256 → EReal := fun k => Gq m c (ix2 0 k)
abbrev gkA (c : Dev nD) : Fin 128 → EReal := fun k => Gk m c (ix2 0 k)
abbrev wqA (c : Dev nD) : Fin 256 → Fin 1024 → EReal := wm (Wq m c)
abbrev wkA (c : Dev nD) : Fin 128 → Fin 1024 → EReal := wm (Wk m c)
abbrev wvA (c : Dev nD) : Fin 128 → Fin 512 → EReal := wm (Wv m c)

/-- The cotangents of the queries before the rotation, of the two normed latents, -/
abbrev preA (c : Dev nD) : Fin 4096 → Fin 1024 → EReal := pre (qA m c) (ctA m c) (snA m c)
abbrev dqA (c : Dev nD) : Fin 4096 → Fin 256 → EReal := dqn (qA m c) (ctA m c) (snA m c) (wqA m c)
abbrev dkA (c : Dev nD) : Fin 4096 → Fin 128 → EReal := dkv (kA m c) (vA m c) (wkA m c) (wvA m c)

/-- and the results: the gradients of the latents, the misc columns, -/
def ZQ (c : Dev nD) : Fin 4096 → Fin 256 → EReal := dz n256 (qlA m c) fun r k => dqA m c r k * gqA m c k
def ZK (c : Dev nD) : Fin 4096 → Fin 128 → EReal := dz n128 (klA m c) fun r k => dkA m c r k * gkA m c k
def ZM (c : Dev nD) : Fin 4096 → Fin 128 → EReal := misc (kA m c) (ctA m c) (snA m c) (fA m c)

/-- and the terms of the sums over the rows. -/
def TQ (c : Dev nD) (k : Fin 256) (x : Fin 1024) (r : Fin 4096) : EReal := (xh n256 (qlA m c) r k * gqA m c k) * preA m c r x
def TK (c : Dev nD) (k : Fin 128) (x : Fin 1024) (r : Fin 4096) : EReal := (xh n128 (klA m c) r k * gkA m c k) * dkn (kA m c) r x
def TV (c : Dev nD) (k : Fin 128) (y : Fin 512) (r : Fin 4096) : EReal := (xh n128 (klA m c) r k * gkA m c k) * vA m c r y
def TGq (c : Dev nD) (k : Fin 256) (r : Fin 4096) : EReal := dqA m c r k * xh n256 (qlA m c) r k
def TGk (c : Dev nD) (k : Fin 128) (r : Fin 4096) : EReal := dkA m c r k * xh n128 (klA m c) r k

/-! ## A block of rows -/

/-- The body's operands are the rows of a tile. -/
structure Blk (c : Dev nD) (x : Ins Ideal) (t : Fin 8) : Prop where
  q : mat (φ := .f32) x.q = fun r => qA m c (row t r)
  k : mat (φ := .f32) x.k = fun r => kA m c (row t r)
  v : mat (φ := .f32) x.v = fun r => vA m c (row t r)
  f : mat (φ := .f32) x.f = fun r => fA m c (row t r)
  ql : mat (φ := .f32) x.ql = fun r => qlA m c (row t r)
  kl : mat (φ := .f32) x.kl = fun r => klA m c (row t r)
  gq : ∀ k, x.gq (ix2 0 k) = gqA m c k
  gk : ∀ k, x.gk (ix2 0 k) = gkA m c k
  w : wm (φ := .bf16) x.w = wqA m c
  wk : wm (φ := .bf16) x.wk = wkA m c
  wv : wm (φ := .bf16) x.wv = wvA m c
  ct : mat (φ := .f32) x.ct = fun r => ctA m c (row t r)
  sn : mat (φ := .f32) x.sn = fun r => snA m c (row t r)

theorem m0 (c : Dev nD) (t : Fin cfg0.N) : mat (φ := .f32) (iblk m c 0 t : FVec Ideal S512x1024 .f32) = fun r => qA m c (row (tl t) r) :=
  funext fun r => funext fun x => b0 m c t r x
theorem m1 (c : Dev nD) (t : Fin cfg0.N) : mat (φ := .f32) (iblk m c 1 t : FVec Ideal S512x1024 .f32) = fun r => kA m c (row (tl t) r) :=
  funext fun r => funext fun x => b1 m c t r x
theorem m2 (c : Dev nD) (t : Fin cfg0.N) : mat (φ := .f32) (iblk m c 2 t : FVec Ideal S512x512 .f32) = fun r => vA m c (row (tl t) r) :=
  funext fun r => funext fun x => b2 m c t r x
theorem m3 (c : Dev nD) (t : Fin cfg0.N) : mat (φ := .f32) (iblk m c 3 t : FVec Ideal S512x128 .f32) = fun r => fA m c (row (tl t) r) :=
  funext fun r => funext fun x => b3 m c t r x
theorem m4 (c : Dev nD) (t : Fin cfg0.N) : mat (φ := .f32) (iblk m c 4 t : FVec Ideal S512x256 .f32) = fun r => qlA m c (row (tl t) r) :=
  funext fun r => funext fun x => b4 m c t r x
theorem m5 (c : Dev nD) (t : Fin cfg0.N) : mat (φ := .f32) (iblk m c 5 t : FVec Ideal S512x128 .f32) = fun r => klA m c (row (tl t) r) :=
  funext fun r => funext fun x => b5 m c t r x
theorem m8 (c : Dev nD) (t : Fin cfg0.N) : wm (φ := .bf16) (iblk m c 8 t : FVec Ideal S1x256x1024 .bf16) = wqA m c :=
  funext fun r => funext fun x => b8 m c t r x
theorem m9 (c : Dev nD) (t : Fin cfg0.N) : wm (φ := .bf16) (iblk m c 9 t : FVec Ideal S1x128x1024 .bf16) = wkA m c :=
  funext fun r => funext fun x => b9 m c t r x
theorem m10 (c : Dev nD) (t : Fin cfg0.N) : wm (φ := .bf16) (iblk m c 10 t : FVec Ideal S1x128x512 .bf16) = wvA m c :=
  funext fun r => funext fun x => b10 m c t r x
theorem m11 (c : Dev nD) (t : Fin cfg0.N) : mat (φ := .f32) (iblk m c 11 t : FVec Ideal S512x128 .f32) = fun r => ctA m c (row (tl t) r) :=
  funext fun r => funext fun x => b11 m c t r x
theorem m12 (c : Dev nD) (t : Fin cfg0.N) : mat (φ := .f32) (iblk m c 12 t : FVec Ideal S512x128 .f32) = fun r => snA m c (row (tl t) r) :=
  funext fun r => funext fun x => b12 m c t r x

theorem Blk.mk' {c : Dev nD} {t : Fin 8} (a0 : Vec Ideal S512x1024 .f32) (a1 : Vec Ideal S512x1024 .f32) (a2 : Vec Ideal S512x512 .f32) (a3 : Vec Ideal S512x128 .f32)
    (a4 : Vec Ideal S512x256 .f32) (a5 : Vec Ideal S512x128 .f32) (a6 : Vec Ideal S1x256 .f32) (a7 : Vec Ideal S1x128 .f32) (a8 : Vec Ideal S1x256x1024 .bf16)
    (a9 : Vec Ideal S1x128x1024 .bf16) (a10 : Vec Ideal S1x128x512 .bf16) (a11 a12 : Vec Ideal S512x128 .f32)
    (h0 : mat (φ := .f32) a0 = fun r => qA m c (row t r)) (h1 : mat (φ := .f32) a1 = fun r => kA m c (row t r))
    (h2 : mat (φ := .f32) a2 = fun r => vA m c (row t r)) (h3 : mat (φ := .f32) a3 = fun r => fA m c (row t r))
    (h4 : mat (φ := .f32) a4 = fun r => qlA m c (row t r)) (h5 : mat (φ := .f32) a5 = fun r => klA m c (row t r))
    (h6 : ∀ k, a6 (ix2 0 k) = gqA m c k) (h7 : ∀ k, a7 (ix2 0 k) = gkA m c k)
    (h8 : wm (φ := .bf16) a8 = wqA m c) (h9 : wm (φ := .bf16) a9 = wkA m c) (h10 : wm (φ := .bf16) a10 = wvA m c)
    (h11 : mat (φ := .f32) a11 = fun r => ctA m c (row t r)) (h12 : mat (φ := .f32) a12 = fun r => snA m c (row t r)) :
    Blk m c ⟨a0, a1, a2, a3, a4, a5, a6, a7, a8, a9, a10, a11, a12⟩ t :=
  ⟨h0, h1, h2, h3, h4, h5, h6, h7, h8, h9, h10, h11, h12⟩

theorem blk_ins (c : Dev nD) (t : Fin cfg0.N) : Blk m c (ins m c t) (tl t) :=
  Blk.mk' m (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (m0 m c t) (m1 m c t) (m2 m c t) (m3 m c t) (m4 m c t) (m5 m c t)
    (fun k => b6 m c t k) (fun k => b7 m c t k) (m8 m c t) (m9 m c t) (m10 m c t) (m11 m c t) (m12 m c t)

section Block

variable {m} {c : Dev nD} {x : Ins Ideal} {t : Fin 8} (B : Blk m c x t)
include B

theorem zq_blk (r : Fin 512) (k : Fin 256) : (zq x (ix2 r k) : EReal) = ZQ m c (row t r) k := by
  unfold zq
  refine (p26 x.ct x.sn x.gq x.ql x.q x.w r k).trans ?_
  rw [B.ql, B.q, B.ct, B.sn, B.w]
  simp only [B.gq]
  rfl

theorem zkv_blk (r : Fin 512) (k : Fin 128) : (zkv x (ix2 r k) : EReal) = ZK m c (row t r) k := by
  unfold zkv
  refine (p2 x.gk x.k x.wk x.wv x.kl x.v r k).trans ?_
  rw [B.kl, B.k, B.v, B.wk, B.wv]
  simp only [B.gk]
  rfl

theorem zms_blk (r : Fin 512) (l : Fin 128) : (zms x (ix2 r l) : EReal) = ZM m c (row t r) l := by
  unfold zms
  refine (p32 x.ct x.sn x.k x.f r l).trans ?_
  rw [B.k, B.ct, B.sn, B.f]
  rfl

end Block

/-! ## The sums -/

/-- What the accumulators hold once the first `t` tiles are added. -/
structure Inv (c : Dev nD) (t : ℕ) (a : Acc Ideal) : Prop where
  dwq : ∀ k x, (a.dwq (ix2 k x) : EReal) = upTo (TQ m c k x) t
  dwk : ∀ k x, (a.dwk (ix2 k x) : EReal) = upTo (TK m c k x) t
  dwv : ∀ k y, (a.dwv (ix2 k y) : EReal) = upTo (TV m c k y) t
  dgq : ∀ (b : Fin 8) k, (a.dgq (ix2 b k) : EReal) = if b = 0 then upTo (TGq m c k) t else 0
  dgk : ∀ (b : Fin 8) k, (a.dgk (ix2 b k) : EReal) = if b = 0 then upTo (TGk m c k) t else 0

theorem inv_zero (c : Dev nD) : Inv m c 0 zero where
  dwq k x := p4 k x
  dwk k x := p5 k x
  dwv k y := p6 k y
  dgq b k := (p7 b k).trans (by rw [upTo_zero, ite_self])
  dgk b k := (p8 b k).trans (by rw [upTo_zero, ite_self])

theorem inv_add {c : Dev nD} {x : Ins Ideal} {t : Fin 8} (B : Blk m c x t) {a : Acc Ideal} (I : Inv m c t.val a) : Inv m c (t.val + 1) (add x a) where
  dwq k y := by
    refine (p24 x.ct x.sn x.gq x.ql x.q a.dwq k y).trans ?_
    rw [B.ql, B.q, B.ct, B.sn, B.gq, I.dwq]
    exact upTo_succ (TQ m c k y) t
  dwk k y := by
    refine (p38 x.gk x.k x.kl a.dwk k y).trans ?_
    rw [B.kl, B.k, B.gk, I.dwk]
    exact upTo_succ (TK m c k y) t
  dwv k y := by
    refine (p39 x.gk x.kl x.v a.dwv k y).trans ?_
    rw [B.kl, B.gk, I.dwv]
    refine Eq.trans ?_ (upTo_succ (TV m c k y) t)
    refine congrArg (fun z : EReal => upTo (TV m c k y) t.val + z) (Finset.sum_congr rfl fun r _ => ?_)
    exact congrArg (fun z : EReal => _ * z) (congrFun (congrFun B.v r) y)
  dgq b k := by
    refine (put_apply a.dgq _ b k).trans ?_
    by_cases hb : b = 0
    · rw [if_pos hb, if_pos hb]
      refine (p27 x.ct x.sn x.ql x.q x.w (top256 a.dgq) k).trans ?_
      rw [show (top256 a.dgq (ix2 0 k) : EReal) = upTo (TGq m c k) t.val from (top_apply a.dgq _ k).trans ((I.dgq 0 k).trans (if_pos rfl))]
      rw [B.ql, B.q, B.ct, B.sn, B.w]
      exact upTo_succ (TGq m c k) t
    · rw [if_neg hb, if_neg hb]
      exact (I.dgq b k).trans (if_neg hb)
  dgk b k := by
    refine (put_apply a.dgk _ b k).trans ?_
    by_cases hb : b = 0
    · rw [if_pos hb, if_pos hb]
      refine (p3 x.k x.wk x.wv x.kl x.v (top128 a.dgk) k).trans ?_
      rw [show (top128 a.dgk (ix2 0 k) : EReal) = upTo (TGk m c k) t.val from (top_apply a.dgk _ k).trans ((I.dgk 0 k).trans (if_pos rfl))]
      rw [B.kl, B.k, B.v, B.wk, B.wv]
      exact upTo_succ (TGk m c k) t
    · rw [if_neg hb, if_neg hb]
      exact (I.dgk b k).trans (if_neg hb)

theorem inv (c : Dev nD) : ∀ (n : ℕ) (hn : n < cfg0.N), Inv m c (n + 1) (outsAt m c n hn) := by
  intro n
  induction n with
  | zero => exact fun hn => inv_add m (blk_ins m c ⟨0, hn⟩) (inv_zero m c)
  | succ n ih => exact fun hn => inv_add m (blk_ins m c ⟨n + 1, hn⟩) (ih (Nat.lt_of_succ_lt hn))

/-! ## The result arrays -/

theorem arr13 (c : Dev nD) : (dats m 0 c).arrAt 13 cfg0.N = (fun i => ZQ m c (i 0) (i 1) : FVec Ideal S4096x256 .bf16) := by
  refine (dats m 0 c).arrAt_eq_of_covers 13 _ (by decide +kernel) fun t hf y => ?_
  blk_simp
  rw [after0_13]
  idx_vars y
  refine (zq_blk (blk_ins m c t) y0 y1).trans ?_
  refine congrArg₂ (fun i j => ZQ m c i j) (Fin.ext ?_) (Fin.ext ?_)
  · show 512 * t.val + y0.val = win0_13.index t 0 * 512 + 1 * y0.val
    rw [(idxo t).1]
    show _ = t.val * 512 + 1 * y0.val
    omega
  · show y1.val = win0_13.index t 1 * 256 + 1 * y1.val
    rw [(idxo t).1]
    show _ = 0 * 256 + 1 * y1.val
    omega

theorem arr14 (c : Dev nD) : (dats m 0 c).arrAt 14 cfg0.N = (fun i => ZK m c (i 0) (i 1) : FVec Ideal S4096x128 .bf16) := by
  refine (dats m 0 c).arrAt_eq_of_covers 14 _ (by decide +kernel) fun t hf y => ?_
  blk_simp
  rw [after0_14]
  idx_vars y
  refine (zkv_blk (blk_ins m c t) y0 y1).trans ?_
  refine congrArg₂ (fun i j => ZK m c i j) (Fin.ext ?_) (Fin.ext ?_)
  · show 512 * t.val + y0.val = win0_14.index t 0 * 512 + 1 * y0.val
    rw [(idxo t).2.1]
    show _ = t.val * 512 + 1 * y0.val
    omega
  · show y1.val = win0_14.index t 1 * 128 + 1 * y1.val
    rw [(idxo t).2.1]
    show _ = 0 * 128 + 1 * y1.val
    omega

theorem arr15 (c : Dev nD) : (dats m 0 c).arrAt 15 cfg0.N = (fun i => ZM m c (i 0) (i 1) : FVec Ideal S4096x128 .bf16) := by
  refine (dats m 0 c).arrAt_eq_of_covers 15 _ (by decide +kernel) fun t hf y => ?_
  blk_simp
  rw [after0_15]
  idx_vars y
  refine (zms_blk (blk_ins m c t) y0 y1).trans ?_
  refine congrArg₂ (fun i j => ZM m c i j) (Fin.ext ?_) (Fin.ext ?_)
  · show 512 * t.val + y0.val = win0_15.index t 0 * 512 + 1 * y0.val
    rw [(idxo t).2.2]
    show _ = t.val * 512 + 1 * y0.val
    omega
  · show y1.val = win0_15.index t 1 * 128 + 1 * y1.val
    rw [(idxo t).2.2]
    show _ = 0 * 128 + 1 * y1.val
    omega

theorem arr16 (c : Dev nD) : (dats m 0 c).arrAt 16 cfg0.N = (fun i => ∑ r, TQ m c (i 0) (i 1) r : FVec Ideal S256x1024 .f32) := by
  refine (dats m 0 c).arrAt_eq_of_after_last 16 t0_7 (by decide +kernel) _ fun y => ?_
  blk_simp
  rw [after0_16]
  idx_vars y
  simp only [← upTo_eight]
  exact (inv m c t0_7.val t0_7.isLt).dwq y0 y1

theorem arr17 (c : Dev nD) : (dats m 0 c).arrAt 17 cfg0.N = (fun i => ∑ r, TK m c (i 0) (i 1) r : FVec Ideal S128x1024 .f32) := by
  refine (dats m 0 c).arrAt_eq_of_after_last 17 t0_7 (by decide +kernel) _ fun y => ?_
  blk_simp
  rw [after0_17]
  idx_vars y
  simp only [← upTo_eight]
  exact (inv m c t0_7.val t0_7.isLt).dwk y0 y1

theorem arr18 (c : Dev nD) : (dats m 0 c).arrAt 18 cfg0.N = (fun i => ∑ r, TV m c (i 0) (i 1) r : FVec Ideal S128x512 .f32) := by
  refine (dats m 0 c).arrAt_eq_of_after_last 18 t0_7 (by decide +kernel) _ fun y => ?_
  blk_simp
  rw [after0_18]
  idx_vars y
  simp only [← upTo_eight]
  exact (inv m c t0_7.val t0_7.isLt).dwv y0 y1

theorem arr19 (c : Dev nD) : (dats m 0 c).arrAt 19 cfg0.N = (fun i => if (show Fin 8 from i 0) = 0 then ∑ r, TGq m c (i 1) r else 0 : FVec Ideal S8x256 .f32) := by
  refine (dats m 0 c).arrAt_eq_of_after_last 19 t0_7 (by decide +kernel) _ fun y => ?_
  blk_simp
  rw [after0_19]
  idx_vars y
  simp only [← upTo_eight]
  exact (inv m c t0_7.val t0_7.isLt).dgq y0 y1

theorem arr20 (c : Dev nD) : (dats m 0 c).arrAt 20 cfg0.N = (fun i => if (show Fin 8 from i 0) = 0 then ∑ r, TGk m c (i 1) r else 0 : FVec Ideal S8x128 .f32) := by
  refine (dats m 0 c).arrAt_eq_of_after_last 20 t0_7 (by decide +kernel) _ fun y => ?_
  blk_simp
  rw [after0_20]
  idx_vars y
  simp only [← upTo_eight]
  exact (inv m c t0_7.val t0_7.isLt).dgk y0 y1

end Cert.MlaPostIdeal.Hand
-- ==== Proof.MlaPostModel.lean ====
/- The gradients of the latent attention's projections, rotation and norms, over the reals. -/
module

public import proofs.«01_k».proof.Proof.RmsNorm

@[expose] public section

noncomputable section

open Idealize.ShloMosaic

namespace Cert.MlaPostModel

open Cert.RmsNorm (rs ms grad)

/-- The rotation's transpose on the rotated lanes of a row. -/
def rotT (a : Fin 32 → ℝ) (ct sn : Fin 16 → ℝ) (i : Fin 32) : ℝ :=
  if h : i.val < 16 then a ⟨i.val + 16, by omega⟩ * sn ⟨i.val, h⟩ + a i * ct ⟨i.val, h⟩
  else a i * ct ⟨i.val - 16, by omega⟩ + -a ⟨i.val - 16, by omega⟩ * sn ⟨i.val - 16, by omega⟩

variable (s : ℝ) (q k : Fin 4096 → Fin 8 → Fin 96 → ℝ) (v : Fin 4096 → Fin 8 → Fin 64 → ℝ) (z : Fin 4096 → Fin 2984 → ℝ)
variable (gq : Fin 256 → ℝ) (gk : Fin 128 → ℝ) (wq : Fin 256 → Fin 768 → ℝ) (wk : Fin 128 → Fin 1024 → ℝ) (ct sn : Fin 4096 → Fin 16 → ℝ)

/-- The latent rows of the queries, and of the keys and values. -/
def zq (r : Fin 4096) (j : Fin 256) : ℝ := z r ⟨2056 + j.val, by omega⟩
def zk (r : Fin 4096) (j : Fin 128) : ℝ := z r ⟨2312 + j.val, by omega⟩

/-- The cotangent of a query before scale and rotation. -/
def dpre (r : Fin 4096) (h : Fin 8) (l : Fin 96) : ℝ :=
  if e : l.val < 64 then q r h l * s else rotT (fun i => q r h ⟨64 + i.val, by omega⟩ * s) (ct r) (sn r) ⟨l.val - 64, by omega⟩

/-- The cotangent of a head's keys without rotation and of its values, side by side. -/
def dside (r : Fin 4096) (h : Fin 8) (l : Fin 128) : ℝ :=
  if e : l.val < 64 then k r h ⟨l.val, by omega⟩ else v r h ⟨l.val - 64, by omega⟩

/-- The cotangents of the normed latents, after the weight. -/
def dqn (r : Fin 4096) (j : Fin 256) : ℝ := ∑ h : Fin 8, ∑ l : Fin 96, dpre s q ct sn r h l * wq j ⟨96 * h.val + l.val, by omega⟩
def dkn (r : Fin 4096) (j : Fin 128) : ℝ := ∑ h : Fin 8, ∑ l : Fin 128, dside k v r h l * wk j ⟨128 * h.val + l.val, by omega⟩

/-- The gradients of the latents, -/
def gzq (r : Fin 4096) (j : Fin 256) : ℝ := grad 256 (zq z r) (fun j => dqn s q wq ct sn r j * gq j) j
def gzk (r : Fin 4096) (j : Fin 128) : ℝ := grad 128 (zk z r) (fun j => dkn k v wk r j * gk j) j

/-- of the shared rotated key before the rotation, -/
def grope (r : Fin 4096) (i : Fin 32) : ℝ := rotT (fun i => ∑ h : Fin 8, k r h ⟨64 + i.val, by omega⟩) (ct r) (sn r) i

/-- of the two up-projections, -/
def gwq (j : Fin 256) (h : Fin 8) (l : Fin 96) : ℝ := ∑ r, dpre s q ct sn r h l * (zq z r j * rs 256 (zq z r) * gq j)
def gwk (j : Fin 128) (h : Fin 8) (l : Fin 128) : ℝ := ∑ r, dside k v r h l * (zk z r j * rs 128 (zk z r) * gk j)

/-- and of the two norms' weights. -/
def ggq (j : Fin 256) : ℝ := ∑ r, zq z r j * rs 256 (zq z r) * dqn s q wq ct sn r j
def ggk (j : Fin 128) : ℝ := ∑ r, zk z r j * rs 128 (zk z r) * dkn k v wk r j

theorem n256 : Ideal.ofBits FTy.f32 1132462080#32 = ((256 : ℝ) : EReal) := by
  show Ideal.ieee 8 23 1132462080#32 = _
  unfold Ideal.ieee
  norm_num [show (1132462080 >>> 23 % 256 : ℕ) = 135 from rfl, show BitVec.extractLsb' 31 1 1132462080#32 = 0#1 from rfl]

theorem n128 : Ideal.ofBits FTy.f32 1124073472#32 = ((128 : ℝ) : EReal) := by
  show Ideal.ieee 8 23 1124073472#32 = _
  unfold Ideal.ieee
  norm_num [show (1124073472 >>> 23 % 256 : ℕ) = 134 from rfl, show BitVec.extractLsb' 31 1 1124073472#32 = 0#1 from rfl]

end Cert.MlaPostModel
-- ==== Proof.MlaPostReal.lean ====
/- What the call that differentiates the latent attention's projections, rotation and norms leaves, over the reals. -/
module

public import proofs.«01_k».proof.Proof.MlaPostValue
public import proofs.«01_k».proof.Proof.MlaPostModel

@[expose] public section

set_option maxRecDepth 16384

noncomputable section

open Idealize.ShloMosaic Idealize.ShloMosaic.TcCoe Idealize.SL.Sem

namespace Cert.MlaPostIdeal.Hand

open Cert.MlaPostIdeal Cert.MlaPostIdeal.Gen
open Cert.BwdOutIdeal.Hand (mat wm rw0)
open Cert.RmsNorm (rs ms grad)
open Cert.Softmax (coe_sum)

/-! ## Sums over the columns -/

/-- The wide columns are the heads' lanes, -/
theorem sum_wide (f : Fin 1024 → EReal) : ∑ x, f x = ∑ h : Fin 8, ∑ l : Fin 128, f (wide h l) := by
  rw [← Fintype.sum_prod_type']
  exact (Fintype.sum_equiv (finProdFinEquiv (m := 8) (n := 128)) _ _ fun x => congrArg f (Fin.ext (by show 128 * x.1.val + x.2.val = x.2.val + 128 * x.1.val; omega))).symm

/-- and so are the thin ones. -/
theorem sum_thin (f : Fin 512 → EReal) : ∑ x, f x = ∑ h : Fin 8, ∑ d : Fin 64, f (thin h d) := by
  rw [← Fintype.sum_prod_type']
  exact (Fintype.sum_equiv (finProdFinEquiv (m := 8) (n := 64)) _ _ fun x => congrArg f (Fin.ext (by show 64 * x.1.val + x.2.val = x.2.val + 64 * x.1.val; omega))).symm

/-- A sum over 128 lanes that vanishes from lane 96 on, -/
theorem sum_96 (f : Fin 128 → EReal) (hf : ∀ l, 96 ≤ l.val → f l = 0) : ∑ l, f l = ∑ l : Fin 96, f ⟨l.val, by omega⟩ := by
  refine (Fin.sum_univ_add (a := 96) (b := 32) f).trans ?_
  rw [Finset.sum_eq_zero (s := Finset.univ) (f := fun i : Fin 32 => f (Fin.natAdd 96 i)) fun i _ => hf _ (by show 96 ≤ 96 + i.val; omega), add_zero]
  rfl

/-- or from lane 64 on. -/
theorem sum_64 (f : Fin 128 → EReal) (hf : ∀ l, 64 ≤ l.val → f l = 0) : ∑ l, f l = ∑ l : Fin 64, f ⟨l.val, by omega⟩ := by
  refine (Fin.sum_univ_add (a := 64) (b := 64) f).trans ?_
  rw [Finset.sum_eq_zero (s := Finset.univ) (f := fun i : Fin 64 => f (Fin.natAdd 64 i)) fun i _ => hf _ (by show 64 ≤ 64 + i.val; omega), add_zero]
  rfl

theorem wl_wide (h : Fin 8) (l : Fin 128) : wl (wide h l) = l := Fin.ext (by show (128 * h.val + l.val) % 128 = l.val; omega)

/-! ## The arguments -/

/-- The arguments' values as reals; the logits' cotangent is left out. -/
structure Reals (m : (ℓ : Loc nD τ sig) → Buf (Elt Ideal) ℓ) (c : Dev nD) (s : ℝ) (q k : Fin 4096 → Fin 8 → Fin 96 → ℝ) (v : Fin 4096 → Fin 8 → Fin 64 → ℝ)
    (z : Fin 4096 → Fin 2984 → ℝ) (gq : Fin 256 → ℝ) (gk : Fin 128 → ℝ) (wq : Fin 256 → Fin 768 → ℝ) (wk : Fin 128 → Fin 1024 → ℝ)
    (ct sn : Fin 4096 → Fin 16 → ℝ) : Prop where
  hs : Ideal.ofBits FTy.f32 1037108716#32 = (s : EReal)
  h0 : ∀ r h l, A0 m c (ix3 r h l) = (q r h l : EReal)
  h1 : ∀ r h l, A1 m c (ix3 r h l) = (k r h l : EReal)
  h2 : ∀ r h l, A2 m c (ix3 r h l) = (v r h l : EReal)
  h4 : ∀ r j, A4 m c (ix2 r j) = (z r j : EReal)
  h5 : ∀ j, A5 m c (ix1 j) = (gq j : EReal)
  h6 : ∀ j, A6 m c (ix1 j) = (gk j : EReal)
  h7 : ∀ j l, A7 m c (ix2 j l) = (wq j l : EReal)
  h8 : ∀ j l, A8 m c (ix2 j l) = (wk j l : EReal)
  h9 : ∀ r i, A9 m c (ix2 r i) = (ct r i : EReal)
  h10 : ∀ r i, A10 m c (ix2 r i) = (sn r i : EReal)

variable {m : (ℓ : Loc nD τ sig) → Buf (Elt Ideal) ℓ} {c : Dev nD} {s : ℝ} {q k : Fin 4096 → Fin 8 → Fin 96 → ℝ} {v : Fin 4096 → Fin 8 → Fin 64 → ℝ}
  {z : Fin 4096 → Fin 2984 → ℝ} {gq : Fin 256 → ℝ} {gk : Fin 128 → ℝ} {wq : Fin 256 → Fin 768 → ℝ} {wk : Fin 128 → Fin 1024 → ℝ}
  {ct sn : Fin 4096 → Fin 16 → ℝ} (R : Reals m c s q k v z gq gk wq wk ct sn)

/-! ## The cosines and sines, by lane -/

theorem sn_out (r : Fin 4096) (l : Fin 128) (h : l.val < 64 ∨ 96 ≤ l.val) : snA m c r l = 0 := by
  refine (Sn_apply m c r l).trans ?_
  rw [dif_neg (by omega), dif_neg (by omega)]

theorem ct_low (r : Fin 4096) (l : Fin 128) (h : l.val < 64) : ctA m c r l = 1 := by
  refine (Ct_apply m c r l).trans ?_
  rw [dif_neg (by omega), dif_neg (by omega)]

include R

theorem sn_mid (r : Fin 4096) (i : Fin 16) : snA m c r ⟨64 + i.val, by omega⟩ = ((-sn r i : ℝ) : EReal) := by
  refine (Sn_apply m c r _).trans ?_
  rw [dif_pos (show 64 ≤ 64 + i.val ∧ 64 + i.val < 80 by omega), R.h10, EReal.coe_neg]
  exact congrArg (fun j => -((sn r j : ℝ) : EReal)) (Fin.ext (by show 64 + i.val - 64 = i.val; omega))

theorem sn_high (r : Fin 4096) (i : Fin 16) : snA m c r ⟨80 + i.val, by omega⟩ = ((sn r i : ℝ) : EReal) := by
  refine (Sn_apply m c r _).trans ?_
  rw [dif_neg (show ¬ (64 ≤ 80 + i.val ∧ 80 + i.val < 80) by omega), dif_pos (show 80 ≤ 80 + i.val ∧ 80 + i.val < 96 by omega), R.h10]
  exact congrArg (fun j => ((sn r j : ℝ) : EReal)) (Fin.ext (by show 80 + i.val - 80 = i.val; omega))

theorem ct_mid (r : Fin 4096) (i : Fin 16) : ctA m c r ⟨64 + i.val, by omega⟩ = ((ct r i : ℝ) : EReal) := by
  refine (Ct_apply m c r _).trans ?_
  rw [dif_pos (show 64 ≤ 64 + i.val ∧ 64 + i.val < 80 by omega), R.h9]
  exact congrArg (fun j => ((ct r j : ℝ) : EReal)) (Fin.ext (by show 64 + i.val - 64 = i.val; omega))

theorem ct_high (r : Fin 4096) (i : Fin 16) : ctA m c r ⟨80 + i.val, by omega⟩ = ((ct r i : ℝ) : EReal) := by
  refine (Ct_apply m c r _).trans ?_
  rw [dif_neg (show ¬ (64 ≤ 80 + i.val ∧ 80 + i.val < 80) by omega), dif_pos (show 80 ≤ 80 + i.val ∧ 80 + i.val < 96 by omega), R.h9]
  exact congrArg (fun j => ((ct r j : ℝ) : EReal)) (Fin.ext (by show 80 + i.val - 80 = i.val; omega))

theorem q_real (r : Fin 4096) (h : Fin 8) (l : Fin 96) : qA m c r (wide h ⟨l.val, by omega⟩) = (q r h l : EReal) := by
  refine (Q_apply m c r h _).trans ?_
  rw [dif_pos l.isLt, R.h0]

theorem k_real (r : Fin 4096) (h : Fin 8) (l : Fin 96) : kA m c r (wide h ⟨l.val, by omega⟩) = (k r h l : EReal) := by
  refine (K_apply m c r h _).trans ?_
  rw [dif_pos l.isLt, R.h1]

theorem v_real (r : Fin 4096) (h : Fin 8) (d : Fin 64) : vA m c r (thin h d) = (v r h d : EReal) :=
  (D_apply m c r h d).trans (R.h2 r h d)

theorem ql_real (r : Fin 4096) (j : Fin 256) : qlA m c r j = (MlaPostModel.zq z r j : EReal) := (Zq_apply m c r j).trans (R.h4 r _)
theorem kl_real (r : Fin 4096) (j : Fin 128) : klA m c r j = (MlaPostModel.zk z r j : EReal) := (Zk_apply m c r j).trans (R.h4 r _)
theorem gq_real (j : Fin 256) : gqA m c j = (gq j : EReal) := (Gq_apply m c j).trans (R.h5 j)
theorem gk_real (j : Fin 128) : gkA m c j = (gk j : EReal) := (Gk_apply m c j).trans (R.h6 j)

theorem wq_real (j : Fin 256) (h : Fin 8) (l : Fin 96) : wqA m c j (wide h ⟨l.val, by omega⟩) = (wq j ⟨96 * h.val + l.val, by omega⟩ : EReal) := by
  refine (Wq_apply m c j h _).trans ?_
  rw [dif_pos l.isLt, R.h7]
theorem wk_real (j : Fin 128) (h : Fin 8) (l : Fin 64) : wkA m c j (wide h ⟨l.val, by omega⟩) = (wk j ⟨128 * h.val + l.val, by omega⟩ : EReal) := by
  refine (Wk_apply m c j h _).trans ?_
  rw [dif_pos l.isLt, R.h8]
theorem wv_real (j : Fin 128) (h : Fin 8) (d : Fin 64) : wvA m c j (thin h d) = (wk j ⟨128 * h.val + (64 + d.val), by omega⟩ : EReal) :=
  (Wv_apply m c j h d).trans (R.h8 j _)

omit R in
theorem wq_out (j : Fin 256) (h : Fin 8) (l : Fin 128) (e : 96 ≤ l.val) : wqA m c j (wide h l) = 0 := by
  refine (Wq_apply m c j h l).trans ?_
  rw [dif_neg (by omega)]

/-! ## The norms -/

theorem facq (r : Fin 4096) : fac n256 (qlA m c) r = (rs 256 (MlaPostModel.zq z r) : EReal) := by
  unfold fac
  simp only [ql_real R]
  rw [show n256 = ((256 : ℝ) : EReal) from MlaPostModel.n256]
  exact Cert.RmsNorm.rsqrt_real _ (by norm_num)

theorem fack (r : Fin 4096) : fac n128 (klA m c) r = (rs 128 (MlaPostModel.zk z r) : EReal) := by
  unfold fac
  simp only [kl_real R]
  rw [show n128 = ((128 : ℝ) : EReal) from MlaPostModel.n128]
  exact Cert.RmsNorm.rsqrt_real _ (by norm_num)

theorem xhq (r : Fin 4096) (j : Fin 256) : xh n256 (qlA m c) r j = ((MlaPostModel.zq z r j * rs 256 (MlaPostModel.zq z r) : ℝ) : EReal) := by
  unfold xh
  rw [facq R, ql_real R, ← EReal.coe_mul]

theorem xhk (r : Fin 4096) (j : Fin 128) : xh n128 (klA m c) r j = ((MlaPostModel.zk z r j * rs 128 (MlaPostModel.zk z r) : ℝ) : EReal) := by
  unfold xh
  rw [fack R, kl_real R, ← EReal.coe_mul]

/-! ## The cotangents -/

theorem pre_real (r : Fin 4096) (h : Fin 8) (l : Fin 96) : preA m c r (wide h ⟨l.val, by omega⟩) = (MlaPostModel.dpre s q ct sn r h l : EReal) := by
  have hsc : sc = (s : EReal) := R.hs
  have hw : (wide h ⟨l.val, by omega⟩ : Fin 1024).val % 128 = l.val := by
    show (128 * h.val + l.val) % 128 = l.val
    omega
  unfold preA pre
  rw [hw, q_real R, hsc, wl_wide]
  unfold MlaPostModel.dpre
  by_cases e : l.val < 64
  · rw [if_neg (by omega), dif_pos e, ct_low _ _ e, sn_out _ _ (by
      show ((128 * h.val + l.val) + 1024 - 16) % 1024 % 128 < 64 ∨ 96 ≤ ((128 * h.val + l.val) + 1024 - 16) % 1024 % 128
      omega), mul_zero, add_zero, mul_one, ← EReal.coe_mul]
  · rw [dif_neg e]
    by_cases e2 : l.val < 80
    · rw [if_pos ⟨by omega, e2⟩]
      have i1 : (⟨l.val, by omega⟩ : Fin 128) = ⟨64 + (⟨l.val - 64, by omega⟩ : Fin 16).val, by show 64 + (l.val - 64) < 128; omega⟩ :=
        Fin.ext (by show l.val = 64 + (l.val - 64); omega)
      have i2 : (⟨((wide h ⟨l.val, by omega⟩ : Fin 1024).val + 1024 - 1008) % 1024, by omega⟩ : Fin 1024) = wide h ⟨(⟨l.val + 16, by omega⟩ : Fin 96).val, by show l.val + 16 < 128; omega⟩ :=
        Fin.ext (by show ((128 * h.val + l.val) + 1024 - 1008) % 1024 = 128 * h.val + (l.val + 16); omega)
      have i3 : (⟨(⟨l.val + 16, by omega⟩ : Fin 96).val, by show l.val + 16 < 128; omega⟩ : Fin 128) = ⟨80 + (⟨l.val - 64, by omega⟩ : Fin 16).val, by show 80 + (l.val - 64) < 128; omega⟩ :=
        Fin.ext (by show l.val + 16 = 80 + (l.val - 64); omega)
      rw [i2, wl_wide, q_real R, i3, sn_high R, i1, ct_mid R]
      simp only [← EReal.coe_mul, ← EReal.coe_add]
      unfold MlaPostModel.rotT
      rw [dif_pos (show l.val - 64 < 16 by omega)]
      have j1 : (⟨64 + (l.val - 64), by omega⟩ : Fin 96) = l := Fin.ext (by show 64 + (l.val - 64) = l.val; omega)
      have j2 : (⟨64 + (l.val - 64 + 16), by omega⟩ : Fin 96) = ⟨l.val + 16, by omega⟩ := Fin.ext (by show 64 + (l.val - 64 + 16) = l.val + 16; omega)
      dsimp only
      rw [j1, j2]
      exact congrArg _ (add_comm _ _)
    · rw [if_neg (by omega)]
      have i1 : (⟨l.val, by omega⟩ : Fin 128) = ⟨80 + (⟨l.val - 80, by omega⟩ : Fin 16).val, by show 80 + (l.val - 80) < 128; omega⟩ :=
        Fin.ext (by show l.val = 80 + (l.val - 80); omega)
      have i2 : (⟨((wide h ⟨l.val, by omega⟩ : Fin 1024).val + 1024 - 16) % 1024, by omega⟩ : Fin 1024) = wide h ⟨(⟨l.val - 16, by omega⟩ : Fin 96).val, by show l.val - 16 < 128; omega⟩ :=
        Fin.ext (by show ((128 * h.val + l.val) + 1024 - 16) % 1024 = 128 * h.val + (l.val - 16); omega)
      have i3 : (⟨(⟨l.val - 16, by omega⟩ : Fin 96).val, by show l.val - 16 < 128; omega⟩ : Fin 128) = ⟨64 + (⟨l.val - 80, by omega⟩ : Fin 16).val, by show 64 + (l.val - 80) < 128; omega⟩ :=
        Fin.ext (by show l.val - 16 = 64 + (l.val - 80); omega)
      rw [i2, wl_wide, q_real R, i3, sn_mid R, i1, ct_high R]
      simp only [← EReal.coe_mul, ← EReal.coe_add]
      unfold MlaPostModel.rotT
      rw [dif_neg (show ¬ l.val - 64 < 16 by omega)]
      have j1 : (⟨64 + (l.val - 64), by omega⟩ : Fin 96) = l := Fin.ext (by show 64 + (l.val - 64) = l.val; omega)
      have j2 : (⟨64 + (l.val - 64 - 16), by omega⟩ : Fin 96) = ⟨l.val - 16, by omega⟩ := Fin.ext (by show 64 + (l.val - 64 - 16) = l.val - 16; omega)
      have j3 : (⟨l.val - 64 - 16, by omega⟩ : Fin 16) = ⟨l.val - 80, by omega⟩ := Fin.ext (by show l.val - 64 - 16 = l.val - 80; omega)
      dsimp only
      rw [j1, j2, j3]
      exact congrArg _ (by ring)

theorem dqn_real (r : Fin 4096) (j : Fin 256) : dqA m c r j = (MlaPostModel.dqn s q wq ct sn r j : EReal) := by
  unfold dqA dqn MlaPostModel.dqn
  rw [sum_wide, ← coe_sum]
  refine Finset.sum_congr rfl fun h _ => ?_
  rw [sum_96 _ fun l e => by rw [wq_out j h l e, mul_zero], ← coe_sum]
  refine Finset.sum_congr rfl fun l _ => ?_
  rw [EReal.coe_mul]
  exact congrArg₂ (fun a b : EReal => a * b) (pre_real R r h l) (wq_real R j h l)

theorem dkn_real (r : Fin 4096) (h : Fin 8) (d : Fin 64) : dkn (kA m c) r (wide h ⟨d.val, by omega⟩) = (k r h ⟨d.val, by omega⟩ : EReal) := by
  unfold dkn
  rw [if_pos (show (128 * h.val + d.val) % 128 < 64 by omega)]
  exact k_real R r h ⟨d.val, by omega⟩

omit R in
theorem dkn_out (r : Fin 4096) (h : Fin 8) (l : Fin 128) (e : 64 ≤ l.val) : dkn (kA m c) r (wide h l) = 0 := by
  unfold dkn
  rw [if_neg (show ¬ (128 * h.val + l.val) % 128 < 64 by omega)]

theorem dkv_real (r : Fin 4096) (j : Fin 128) : dkA m c r j = (MlaPostModel.dkn k v wk r j : EReal) := by
  have e1 : ∑ x, dkn (kA m c) r x * wkA m c j x = ((∑ h : Fin 8, ∑ d : Fin 64, k r h ⟨d.val, by omega⟩ * wk j ⟨128 * h.val + d.val, by omega⟩ : ℝ) : EReal) := by
    rw [sum_wide, ← coe_sum]
    refine Finset.sum_congr rfl fun h _ => ?_
    rw [sum_64 _ fun l e => by rw [dkn_out r h l e, zero_mul], ← coe_sum]
    refine Finset.sum_congr rfl fun d _ => ?_
    rw [EReal.coe_mul]
    exact congrArg₂ (fun a b : EReal => a * b) (dkn_real R r h d) (wk_real R j h d)
  have e2 : ∑ y, vA m c r y * wvA m c j y = ((∑ h : Fin 8, ∑ d : Fin 64, v r h d * wk j ⟨128 * h.val + (64 + d.val), by omega⟩ : ℝ) : EReal) := by
    rw [sum_thin, ← coe_sum]
    refine Finset.sum_congr rfl fun h _ => ?_
    rw [← coe_sum]
    refine Finset.sum_congr rfl fun d _ => ?_
    rw [EReal.coe_mul]
    exact congrArg₂ (fun a b : EReal => a * b) (v_real R r h d) (wv_real R j h d)
  unfold dkA dkv
  rw [e1, e2, ← EReal.coe_add]
  refine congrArg _ ?_
  unfold MlaPostModel.dkn
  rw [← Finset.sum_add_distrib]
  refine Finset.sum_congr rfl fun h _ => ?_
  refine Eq.trans ?_ (Fin.sum_univ_add (a := 64) (b := 64) fun l : Fin 128 => MlaPostModel.dside k v r h l * wk j ⟨128 * h.val + l.val, by omega⟩).symm
  refine congrArg₂ (fun a b : ℝ => a + b) (Finset.sum_congr rfl fun d _ => ?_) (Finset.sum_congr rfl fun d _ => ?_)
  · unfold MlaPostModel.dside
    rw [dif_pos (show (Fin.castAdd 64 d).val < 64 from d.isLt)]
    rfl
  · unfold MlaPostModel.dside
    rw [dif_neg (show ¬ (Fin.natAdd 64 d).val < 64 by show ¬ 64 + d.val < 64; omega)]
    exact congrArg (fun x => v r h x * wk j ⟨128 * h.val + (64 + d.val), by omega⟩) (Fin.ext (by show d.val = 64 + d.val - 64; omega))

/-- The rotated key's cotangent, summed over the heads. -/
theorem dkr_real (r : Fin 4096) (i : Fin 32) : dkr (kA m c) r ⟨64 + i.val, by omega⟩ = ((∑ h : Fin 8, k r h ⟨64 + i.val, by omega⟩ : ℝ) : EReal) := by
  unfold dkr
  rw [if_pos (show 64 ≤ 64 + i.val ∧ 64 + i.val < 96 by omega)]
  have e : ∀ h : Fin 8, kA m c r (wide h ⟨64 + i.val, by omega⟩) = (k r h ⟨64 + i.val, by omega⟩ : EReal) := fun h => k_real R r h ⟨64 + i.val, by omega⟩
  rw [← coe_sum, Fin.sum_univ_eight, ← e 0, ← e 1, ← e 2, ← e 3, ← e 4, ← e 5, ← e 6, ← e 7]
  have f : ∀ (a b : ℕ) (ha : a < 1024) (hb : b < 1024), a = b → kA m c r ⟨a, ha⟩ = kA m c r ⟨b, hb⟩ := fun a b ha hb e => by subst e; rfl
  iterate 7 refine congrArg₂ (fun a b : EReal => a + b) ?_ (f _ _ _ _ rfl)
  exact f _ _ _ _ (by show 64 + i.val = 128 * 0 + (64 + i.val); omega)

omit R in
theorem dkr_out (r : Fin 4096) (l : Fin 128) (e : l.val < 64 ∨ 96 ≤ l.val) : dkr (kA m c) r l = 0 := by
  unfold dkr
  rw [if_neg (by omega)]

/-! ## The results -/

/-- The gradient of the queries' latent, -/
theorem ZQ_real (r : Fin 4096) (j : Fin 256) : ZQ m c r j = (MlaPostModel.gzq s q z gq wq ct sn r j : EReal) := by
  unfold ZQ dz
  simp only [facq R, xhq R, dqn_real R, gq_real R, ← EReal.coe_mul]
  rw [show n256 = ((256 : ℝ) : EReal) from MlaPostModel.n256]
  exact Cert.RmsNorm.kernel_real (N := 256) (MlaPostModel.zq z r) (fun j => MlaPostModel.dqn s q wq ct sn r j * gq j) (by norm_num) j

/-- of the keys' and values', -/
theorem ZK_real (r : Fin 4096) (j : Fin 128) : ZK m c r j = (MlaPostModel.gzk k v z gk wk r j : EReal) := by
  unfold ZK dz
  simp only [fack R, xhk R, dkv_real R, gk_real R, ← EReal.coe_mul]
  rw [show n128 = ((128 : ℝ) : EReal) from MlaPostModel.n128]
  exact Cert.RmsNorm.kernel_real (N := 128) (MlaPostModel.zk z r) (fun j => MlaPostModel.dkn k v wk r j * gk j) (by norm_num) j

/-- of the shared rotated key, -/
theorem ZM_real (r : Fin 4096) (i : Fin 32) : ZM m c r ⟨64 + i.val, by omega⟩ = (MlaPostModel.grope k ct sn r i : EReal) := by
  have hf : fA m c r ⟨64 + i.val, by omega⟩ = 0 := by
    refine (Fm_apply m c r _).trans ?_
    rw [dif_neg (show ¬ 64 + i.val < 8 by omega)]
  unfold ZM misc
  rw [hf, add_zero, dkr_real R]
  unfold MlaPostModel.grope MlaPostModel.rotT
  by_cases e : i.val < 16
  · rw [if_pos (show 64 ≤ 64 + i.val ∧ 64 + i.val < 80 by omega), dif_pos e]
    have i2 : (⟨(64 + i.val + 128 - 112) % 128, by omega⟩ : Fin 128) = ⟨64 + (⟨i.val + 16, by omega⟩ : Fin 32).val, by show 64 + (i.val + 16) < 128; omega⟩ :=
      Fin.ext (by show (64 + i.val + 128 - 112) % 128 = 64 + (i.val + 16); omega)
    have i3 : (⟨64 + (⟨i.val + 16, by omega⟩ : Fin 32).val, by show 64 + (i.val + 16) < 128; omega⟩ : Fin 128) = ⟨80 + (⟨i.val, e⟩ : Fin 16).val, by show 80 + i.val < 128; omega⟩ :=
      Fin.ext (by show 64 + (i.val + 16) = 80 + i.val; omega)
    dsimp only at i2 ⊢
    rw [i2]
    refine (congrArg₂ (fun a b : EReal => a + b) (congrArg (fun a : EReal => _ * a) (ct_mid R r ⟨i.val, e⟩))
      (congrArg₂ (fun a b : EReal => a * b) (dkr_real R r ⟨i.val + 16, by omega⟩) ((congrArg (snA m c r) i3).trans (sn_high R r ⟨i.val, e⟩)))).trans ?_
    simp only [← EReal.coe_mul, ← EReal.coe_add]
    exact congrArg _ (add_comm _ _)
  · rw [if_neg (show ¬ (64 ≤ 64 + i.val ∧ 64 + i.val < 80) by omega), dif_neg e]
    have i1 : (⟨64 + i.val, by omega⟩ : Fin 128) = ⟨80 + (⟨i.val - 16, by omega⟩ : Fin 16).val, by show 80 + (i.val - 16) < 128; omega⟩ :=
      Fin.ext (by show 64 + i.val = 80 + (i.val - 16); omega)
    have i2 : (⟨(64 + i.val + 128 - 16) % 128, by omega⟩ : Fin 128) = ⟨64 + (⟨i.val - 16, by omega⟩ : Fin 32).val, by show 64 + (i.val - 16) < 128; omega⟩ :=
      Fin.ext (by show (64 + i.val + 128 - 16) % 128 = 64 + (i.val - 16); omega)
    dsimp only at i2 ⊢
    rw [i2]
    refine (congrArg₂ (fun a b : EReal => a + b) (congrArg (fun a : EReal => _ * a) ((congrArg (ctA m c r) i1).trans (ct_high R r ⟨i.val - 16, by omega⟩)))
      (congrArg₂ (fun a b : EReal => a * b) (dkr_real R r ⟨i.val - 16, by omega⟩) (sn_mid R r ⟨i.val - 16, by omega⟩))).trans ?_
    simp only [← EReal.coe_mul, ← EReal.coe_add]
    exact congrArg _ (by ring)

omit R in
/-- the logits' cotangent beside it, as it came, -/
theorem ZM_logits (r : Fin 4096) (i : Fin 8) : ZM m c r ⟨i.val, by omega⟩ = A3 m c (ix2 r i) := by
  have hf : fA m c r ⟨i.val, by omega⟩ = A3 m c (ix2 r i) := by
    refine (Fm_apply m c r _).trans ?_
    rw [dif_pos i.isLt]
  unfold ZM misc
  rw [hf, dkr_out _ _ (Or.inl (show i.val < 64 by omega)), if_neg (show ¬ (64 ≤ i.val ∧ i.val < 80) by omega),
    dkr_out _ _ (Or.inr (show 96 ≤ (i.val + 128 - 16) % 128 by omega)), zero_mul, zero_mul, zero_add, zero_add]

/-- of the queries' up-projection, -/
theorem TQ_real (j : Fin 256) (h : Fin 8) (l : Fin 96) : ∑ r, TQ m c j (wide h ⟨l.val, by omega⟩) r = (MlaPostModel.gwq s q z gq ct sn j h l : EReal) := by
  unfold MlaPostModel.gwq
  rw [← coe_sum]
  refine Finset.sum_congr rfl fun r _ => ?_
  unfold TQ
  rw [xhq R, gq_real R, pre_real R, ← EReal.coe_mul, ← EReal.coe_mul]
  exact congrArg _ (mul_comm _ _)

/-- of the keys' and the values', -/
theorem TK_real (j : Fin 128) (h : Fin 8) (d : Fin 64) : ∑ r, TK m c j (wide h ⟨d.val, by omega⟩) r = (MlaPostModel.gwk k v z gk j h ⟨d.val, by omega⟩ : EReal) := by
  unfold MlaPostModel.gwk
  rw [← coe_sum]
  refine Finset.sum_congr rfl fun r _ => ?_
  unfold TK
  rw [xhk R, gk_real R, dkn_real R, ← EReal.coe_mul, ← EReal.coe_mul]
  unfold MlaPostModel.dside
  rw [dif_pos d.isLt]
  exact congrArg _ (mul_comm _ _)

theorem TV_real (j : Fin 128) (h : Fin 8) (d : Fin 64) : ∑ r, TV m c j (thin h d) r = (MlaPostModel.gwk k v z gk j h ⟨64 + d.val, by omega⟩ : EReal) := by
  unfold MlaPostModel.gwk
  rw [← coe_sum]
  refine Finset.sum_congr rfl fun r _ => ?_
  unfold TV
  rw [xhk R, gk_real R, v_real R, ← EReal.coe_mul, ← EReal.coe_mul]
  unfold MlaPostModel.dside
  rw [dif_neg (show ¬ 64 + d.val < 64 by omega)]
  have e : (⟨64 + d.val - 64, by omega⟩ : Fin 64) = d := Fin.ext (by show 64 + d.val - 64 = d.val; omega)
  dsimp only
  rw [e]
  exact congrArg _ (mul_comm _ _)

/-- and of the norms' weights. -/
theorem TGq_real (j : Fin 256) : ∑ r, TGq m c j r = (MlaPostModel.ggq s q z wq ct sn j : EReal) := by
  unfold MlaPostModel.ggq
  rw [← coe_sum]
  refine Finset.sum_congr rfl fun r _ => ?_
  unfold TGq
  rw [xhq R, dqn_real R, ← EReal.coe_mul]
  exact congrArg _ (mul_comm _ _)

theorem TGk_real (j : Fin 128) : ∑ r, TGk m c j r = (MlaPostModel.ggk k v z wk j : EReal) := by
  unfold MlaPostModel.ggk
  rw [← coe_sum]
  refine Finset.sum_congr rfl fun r _ => ?_
  unfold TGk
  rw [xhk R, dkv_real R, ← EReal.coe_mul]
  exact congrArg _ (mul_comm _ _)

end Cert.MlaPostIdeal.Hand
-- ==== Proof.MlaPostRef.lean ====
/- The reference of the latent attention's projections, rotation and norms, at an index, over the reals. -/
module

public import proofs.«01_k».proof.Proof.Gen.MlaPostRefIdeal.Run
public import proofs.«01_k».proof.Proof.Gen.MlaPostRefIdeal.Read
public import proofs.«01_k».proof.Proof.MlaPostModel

@[expose] public section

set_option maxRecDepth 16384

noncomputable section

open Idealize.ShloMosaic Idealize.ShloMosaic.TcCoe Idealize.SL.Sem

namespace Cert.MlaPostRefIdeal.Hand

open Cert.MlaPostRefIdeal Cert.MlaPostRefIdeal.Value Cert.MlaPostRefIdeal.Read
open Cert.RmsNorm (rs ms grad)
open Cert.MlaPostModel
open Cert.Softmax (coe_sum)

variable {s : ℝ} {q k : Fin 4096 → Fin 8 → Fin 96 → ℝ} {v : Fin 4096 → Fin 8 → Fin 64 → ℝ} {z : Fin 4096 → Fin 2984 → ℝ}
variable {gq : Fin 256 → ℝ} {gk : Fin 128 → ℝ} {wq : Fin 256 → Fin 768 → ℝ} {wk : Fin 128 → Fin 1024 → ℝ} {ct sn : Fin 4096 → Fin 16 → ℝ}
variable {x0 x1 : FVec Ideal S4096x8x96 .f32} {x2 : FVec Ideal S4096x8x64 .f32} {x3 : FVec Ideal S4096x8 .f32} {x4 : FVec Ideal S4096x2984 .f32}
variable {x5 : FVec Ideal S256 .f32} {x6 : FVec Ideal S128 .f32} {x7 : FVec Ideal S256x768 .f32} {x8 : FVec Ideal S128x1024 .f32} {x9 x10 : FVec Ideal S4096x16 .f32}
variable (hs : Ideal.ofBits FTy.f32 1037108716#32 = (s : EReal))
variable (h0 : ∀ r h l, x0 (ix3 r h l) = (q r h l : EReal)) (h1 : ∀ r h l, x1 (ix3 r h l) = (k r h l : EReal)) (h2 : ∀ r h l, x2 (ix3 r h l) = (v r h l : EReal))
variable (h4 : ∀ r j, x4 (ix2 r j) = (z r j : EReal)) (h5 : ∀ j, x5 (ix1 j) = (gq j : EReal)) (h6 : ∀ j, x6 (ix1 j) = (gk j : EReal))
variable (h7 : ∀ j l, x7 (ix2 j l) = (wq j l : EReal)) (h8 : ∀ j l, x8 (ix2 j l) = (wk j l : EReal))
variable (h9 : ∀ r i, x9 (ix2 r i) = (ct r i : EReal)) (h10 : ∀ r i, x10 (ix2 r i) = (sn r i : EReal))

/-! ## The norms -/

include h4 in
theorem v11_real (r : Fin 4096) : (val_main_v11 (F := Ideal) x4 (ix2 r 0) : EReal) = (ms 256 (zq z r) : EReal) := by
  pointwise [val_main_v11, val_main_v10, val_main_v9, val_main_v8, val_main_v7, val_main_v6, val_main_v5, val_main_v0, val_main_cst, val_main_cst_0, val_main_cst_1]
  simp only [h4]
  rw [n256]
  exact Cert.RmsNorm.ms_real (zq z r) (by norm_num)

include h4 in
theorem v12_real (r : Fin 4096) : (val_main_v12 (F := Ideal) x4 (ix2 r 0) : EReal) = (rs 256 (zq z r) : EReal) := by
  pointwise [val_main_v12, val_main_v11, val_main_v10, val_main_v9, val_main_v8, val_main_v7, val_main_v6, val_main_v5, val_main_v0, val_main_cst, val_main_cst_0, val_main_cst_1]
  simp only [h4]
  rw [n256]
  exact Cert.RmsNorm.rsqrt_real (zq z r) (by norm_num)

include h4 in
theorem v46_real (r : Fin 4096) : (val_main_v46 (F := Ideal) x4 (ix2 r 0) : EReal) = (ms 128 (zk z r) : EReal) := by
  pointwise [val_main_v46, val_main_v45, val_main_v44, val_main_v43, val_main_v42, val_main_v41, val_main_v40, val_main_v1, val_main_cst_3, val_main_cst_4, val_main_cst_5]
  simp only [h4]
  rw [n128]
  exact Cert.RmsNorm.ms_real (zk z r) (by norm_num)

include h4 in
theorem v47_real (r : Fin 4096) : (val_main_v47 (F := Ideal) x4 (ix2 r 0) : EReal) = (rs 128 (zk z r) : EReal) := by
  pointwise [val_main_v47, val_main_v46, val_main_v45, val_main_v44, val_main_v43, val_main_v42, val_main_v41, val_main_v40, val_main_v1, val_main_cst_3, val_main_cst_4, val_main_cst_5]
  simp only [h4]
  rw [n128]
  exact Cert.RmsNorm.rsqrt_real (zk z r) (by norm_num)

include h4 in
theorem v17_real (r : Fin 4096) (j : Fin 256) : (val_main_v17 (F := Ideal) x4 (ix2 r j) : EReal) = ((zq z r j * rs 256 (zq z r) : ℝ) : EReal) := by
  pointwise [val_main_v17, val_main_v16, val_main_v0]
  rw [v12_real h4, h4, ← EReal.coe_mul]
  rfl

include h4 h5 in
theorem v20_real (r : Fin 4096) (j : Fin 256) : (val_main_v20 (F := Ideal) x4 x5 (ix2 r j) : EReal) = ((zq z r j * rs 256 (zq z r) * gq j : ℝ) : EReal) := by
  pointwise [val_main_v20, val_main_v19, val_main_v18]
  rw [v17_real h4, h5, ← EReal.coe_mul]

include h4 in
theorem v52_real (r : Fin 4096) (j : Fin 128) : (val_main_v52 (F := Ideal) x4 (ix2 r j) : EReal) = ((zk z r j * rs 128 (zk z r) : ℝ) : EReal) := by
  pointwise [val_main_v52, val_main_v51, val_main_v1]
  rw [v47_real h4, h4, ← EReal.coe_mul]
  rfl

include h4 h6 in
theorem v55_real (r : Fin 4096) (j : Fin 128) : (val_main_v55 (F := Ideal) x4 x6 (ix2 r j) : EReal) = ((zk z r j * rs 128 (zk z r) * gk j : ℝ) : EReal) := by
  pointwise [val_main_v55, val_main_v54, val_main_v53]
  rw [v52_real h4, h6, ← EReal.coe_mul]

/-! ## The rotation -/

include hs h0 in
theorem v79_real (r : Fin 4096) (h : Fin 8) (l : Fin 96) : (val_main_v79 (F := Ideal) x0 (ix3 r h l) : EReal) = ((q r h l * s : ℝ) : EReal) := by
  pointwise [val_main_v79, val_main_v78, val_main_cst_10]
  rw [h0, hs, ← EReal.coe_mul]

include hs h0 h9 h10 in
theorem v131_real (r : Fin 4096) (h : Fin 8) (i : Fin 32) : (val_main_v131 (F := Ideal) x0 x9 x10 (ix3 r h i) : EReal)
    = (rotT (fun i => q r h ⟨64 + i.val, by omega⟩ * s) (ct r) (sn r) i : EReal) := by
  pointwise [val_main_v131, val_main_v130, val_main_v129, val_main_v128, val_main_v127, val_main_v126, val_main_v125, val_main_v124, val_main_v123, val_main_v122, val_main_v121, val_main_v120,
    val_main_v119, val_main_v118, val_main_v117, val_main_v24, val_main_v25]
  simp only [v79_real hs h0, h9, h10]
  unfold rotT
  by_cases e : i.val < 16
  · rw [dif_pos e, dif_pos e]
    simp only [EReal.coe_add, EReal.coe_mul]
    have e2 : (⟨64 + (16 + i.val), by omega⟩ : Fin 96) = ⟨64 + (i.val + 16), by omega⟩ := Fin.ext (by show 64 + (16 + i.val) = 64 + (i.val + 16); omega)
    rw [e2]
  · rw [dif_neg e, dif_neg e]
    simp only [EReal.coe_add, EReal.coe_mul, EReal.coe_neg]
    have e2 : (⟨64 + (16 + (i.val - 16)), by omega⟩ : Fin 96) = ⟨64 + i.val, by omega⟩ := Fin.ext (by show 64 + (16 + (i.val - 16)) = 64 + i.val; omega)
    rw [e2]

include hs h0 h9 h10 in
theorem v134_real (r : Fin 4096) (h : Fin 8) (l : Fin 96) : (val_main_v134 (F := Ideal) x0 x9 x10 (ix3 r h l) : EReal) = (dpre s q ct sn r h l : EReal) := by
  pointwise [val_main_v134, val_main_v133, val_main_v132, val_main_v116, val_main_cst_18, val_main_cst_19]
  simp only [v79_real hs h0, v131_real hs h0 h9 h10]
  unfold dpre
  by_cases e : l.val < 64
  · rw [dif_neg (by omega), dif_pos e, dif_pos e, zero_add]
  · rw [dif_pos (by omega), dif_neg e, dif_neg e, add_zero]

include h1 h2 in
theorem v77_real (r : Fin 4096) (h : Fin 8) (l : Fin 128) : (val_main_v77 (F := Ideal) x1 x2 (ix3 r h l) : EReal) = (dside k v r h l : EReal) := by
  pointwise [val_main_v77, val_main_v76, val_main_v74, val_main_v73, val_main_cst_8, val_main_cst_9]
  simp only [h1, h2]
  unfold dside
  by_cases e : l.val < 64
  · rw [dif_neg (by omega), dif_pos e, dif_pos e, zero_add]
  · rw [dif_pos (by omega), dif_neg e, dif_neg e, add_zero]

include hs h0 h7 h9 h10 in
theorem v137_real (r : Fin 4096) (j : Fin 256) : (val_main_v137 (F := Ideal) x0 x7 x9 x10 (ix2 r j) : EReal) = (Cert.MlaPostModel.dqn s q wq ct sn r j : EReal) := by
  pointwise [val_main_v137, val_main_v3]
  unfold Cert.MlaPostModel.dqn
  rw [← coe_sum]
  refine Finset.sum_congr rfl fun h _ => ?_
  rw [← coe_sum]
  refine Finset.sum_congr rfl fun l _ => ?_
  rw [v134_real hs h0 h9 h10, h7, EReal.coe_mul]
  exact congrArg (fun x : Fin 768 => (dpre s q ct sn r h l : EReal) * (wq j x : EReal)) (Fin.ext (by show h.val * 96 + l.val = 96 * h.val + l.val; omega))

include h1 h2 h8 in
theorem v95_real (r : Fin 4096) (j : Fin 128) : (val_main_v95 (F := Ideal) x1 x2 x8 (ix2 r j) : EReal) = (Cert.MlaPostModel.dkn k v wk r j : EReal) := by
  pointwise [val_main_v95, val_main_v4]
  unfold Cert.MlaPostModel.dkn
  rw [← coe_sum]
  refine Finset.sum_congr rfl fun h _ => ?_
  rw [← coe_sum]
  refine Finset.sum_congr rfl fun l _ => ?_
  rw [v77_real h1 h2, h8, EReal.coe_mul]
  exact congrArg (fun x : Fin 1024 => (dside k v r h l : EReal) * (wk j x : EReal)) (Fin.ext (by show h.val * 128 + l.val = 128 * h.val + l.val; omega))

/-! ## The results -/

include hs h0 h4 h5 h7 h9 h10 in
/-- The gradient of the queries' latent, -/
theorem v158_real (r : Fin 4096) (j : Fin 256) : (val_main_v158 (F := Ideal) x0 x4 x5 x7 x9 x10 (ix2 r j) : EReal) = (gzq s q z gq wq ct sn r j : EReal) := by
  have e142 : ∀ r j, (val_main_v142 (F := Ideal) x0 x5 x7 x9 x10 (ix2 r j) : EReal) = ((Cert.MlaPostModel.dqn s q wq ct sn r j * gq j : ℝ) : EReal) := by
    intro r j
    pointwise [val_main_v142, val_main_v141, val_main_v18]
    rw [v137_real hs h0 h7 h9 h10, h5, ← EReal.coe_mul]
  have e0 : ∀ r j, (val_main_v0 (F := Ideal) x4 (ix2 r j) : EReal) = (zq z r j : EReal) := by
    intro r j
    pointwise [val_main_v0]
    rw [h4]
    rfl
  pointwise [val_main_v158, val_main_v157, val_main_v156, val_main_v155, val_main_v154, val_main_v153, val_main_v152, val_main_v151, val_main_v150, val_main_v149, val_main_v148,
    val_main_v147, val_main_v146, val_main_v145, val_main_v144, val_main_v15, val_main_v14, val_main_v13, val_main_cst_2, val_main_cst_22, val_main_cst_23, val_main_cst_24]
  simp only [Fintype.sum_unique, Fin.default_eq_zero, e142, v12_real h4, v11_real h4, e0, n256]
  refine Eq.trans ?_ (Cert.RmsNorm.vjp_real (N := 256) (zq z r) (fun j => Cert.MlaPostModel.dqn s q wq ct sn r j * gq j) (by norm_num) j)
  simp only [EReal.coe_mul]

include h1 h2 h4 h6 h8 in
/-- of the keys' and values', -/
theorem v159_real (r : Fin 4096) (j : Fin 128) : (val_main_v159 (F := Ideal) x1 x2 x4 x6 x8 (ix2 r j) : EReal) = (gzk k v z gk wk r j : EReal) := by
  have e142 : ∀ r j, (val_main_v100 (F := Ideal) x1 x2 x6 x8 (ix2 r j) : EReal) = ((Cert.MlaPostModel.dkn k v wk r j * gk j : ℝ) : EReal) := by
    intro r j
    pointwise [val_main_v100, val_main_v99, val_main_v53]
    rw [v95_real h1 h2 h8, h6, ← EReal.coe_mul]
  have e0 : ∀ r j, (val_main_v1 (F := Ideal) x4 (ix2 r j) : EReal) = (zk z r j : EReal) := by
    intro r j
    pointwise [val_main_v1]
    rw [h4]
    rfl
  pointwise [val_main_v159, val_main_v115, val_main_v114, val_main_v113, val_main_v112, val_main_v111, val_main_v110, val_main_v109, val_main_v108, val_main_v107, val_main_v106,
    val_main_v105, val_main_v104, val_main_v103, val_main_v102, val_main_v50, val_main_v49, val_main_v48, val_main_cst_6, val_main_cst_15, val_main_cst_16, val_main_cst_17]
  simp only [Fintype.sum_unique, Fin.default_eq_zero, e142, v47_real h4, v46_real h4, e0, n128]
  refine Eq.trans ?_ (Cert.RmsNorm.vjp_real (N := 128) (zk z r) (fun j => Cert.MlaPostModel.dkn k v wk r j * gk j) (by norm_num) j)
  simp only [EReal.coe_mul]

include h1 h9 h10 in
/-- of the shared rotated key, -/
theorem v160_real (r : Fin 4096) (i : Fin 32) : (val_main_v160 (F := Ideal) x1 x9 x10 (ix2 r i) : EReal) = (grope k ct sn r i : EReal) := by
  have e82 : ∀ r i, (val_main_v82 (F := Ideal) x1 (ix2 r i) : EReal) = ((∑ h : Fin 8, k r h ⟨64 + i.val, by omega⟩ : ℝ) : EReal) := by
    intro r i
    pointwise [val_main_v82, val_main_v81, val_main_v80, val_main_v75, val_main_cst_11, val_main_cst_12]
    simp only [Fintype.sum_unique, Fin.default_eq_zero, h1]
    exact coe_sum _ _
  pointwise [val_main_v160, val_main_v92, val_main_v91, val_main_v90, val_main_v89, val_main_v88, val_main_v87, val_main_v86, val_main_v85, val_main_v84, val_main_v83]
  simp only [e82, h9, h10]
  unfold grope rotT
  by_cases e : i.val < 16
  · rw [dif_pos e, dif_pos e]
    simp only [EReal.coe_add, EReal.coe_mul]
    have e2 : ∀ h : Fin 8, k r h ⟨64 + (16 + i.val), by omega⟩ = k r h ⟨64 + (i.val + 16), by omega⟩ :=
      fun h => congrArg (k r h) (Fin.ext (by show 64 + (16 + i.val) = 64 + (i.val + 16); omega))
    simp only [e2]
  · rw [dif_neg e, dif_neg e]
    simp only [EReal.coe_add, EReal.coe_mul, EReal.coe_neg]
    have e2 : ∀ h : Fin 8, k r h ⟨64 + (16 + (i.val - 16)), by omega⟩ = k r h ⟨64 + i.val, by omega⟩ :=
      fun h => congrArg (k r h) (Fin.ext (by show 64 + (16 + (i.val - 16)) = 64 + i.val; omega))
    simp only [e2]

include hs h0 h4 h5 h9 h10 in
/-- of the queries' up-projection, -/
theorem v136_real (j : Fin 256) (h : Fin 8) (l : Fin 96) :
    (val_main_v136 (F := Ideal) x0 x4 x5 x9 x10 (ix3 j h l) : EReal) = (gwq s q z gq ct sn j h l : EReal) := by
  pointwise [val_main_v136, val_main_v135]
  unfold gwq
  rw [← coe_sum]
  refine Finset.sum_congr rfl fun r _ => ?_
  rw [v134_real hs h0 h9 h10, v20_real h4 h5, ← EReal.coe_mul]

include h1 h2 h4 h6 in
theorem v94_real (j : Fin 128) (h : Fin 8) (l : Fin 128) :
    (val_main_v94 (F := Ideal) x1 x2 x4 x6 (ix3 j h l) : EReal) = (gwk k v z gk j h l : EReal) := by
  pointwise [val_main_v94, val_main_v93]
  unfold gwk
  rw [← coe_sum]
  refine Finset.sum_congr rfl fun r _ => ?_
  rw [v77_real h1 h2, v55_real h4 h6, ← EReal.coe_mul]

include h1 h2 h4 h6 in
/-- of the keys' and the values', -/
theorem v162_real (j : Fin 128) (h : Fin 8) (d : Fin 64) :
    (val_main_v162 (F := Ideal) x1 x2 x4 x6 (ix3 j h d) : EReal) = (gwk k v z gk j h ⟨d.val, by omega⟩ : EReal) := by
  pointwise [val_main_v162]
  exact v94_real h1 h2 h4 h6 j h _

include h1 h2 h4 h6 in
theorem v163_real (j : Fin 128) (h : Fin 8) (d : Fin 64) :
    (val_main_v163 (F := Ideal) x1 x2 x4 x6 (ix3 j h d) : EReal) = (gwk k v z gk j h ⟨64 + d.val, by omega⟩ : EReal) := by
  pointwise [val_main_v163]
  exact v94_real h1 h2 h4 h6 j h _

include hs h0 h4 h7 h9 h10 in
/-- and of the two norms' weights, in the first of eight rows. -/
theorem v165_real (a : Fin 8) (j : Fin 256) :
    (val_main_v165 (F := Ideal) x0 x4 x7 x9 x10 (ix2 a j) : EReal) = if a = 0 then (ggq s q z wq ct sn j : EReal) else 0 := by
  pointwise [val_main_v165, val_main_v164, val_main_v143, val_main_v140, val_main_v139, val_main_v138, val_main_cst_20, val_main_cst_21, val_main_c, val_main_call0_v0]
  rw [Cert.Common.sitofp_zero]
  simp only [Fintype.sum_unique, Fin.default_eq_zero, v137_real hs h0 h7 h9 h10, v17_real h4]
  by_cases e : a = 0
  · subst e
    rw [dif_pos (by decide), if_pos rfl]
    unfold ggq
    rw [← coe_sum]
    exact Finset.sum_congr rfl fun r _ => (EReal.coe_mul _ _).symm
  · have ha : a.val ≠ 0 := fun h => e (Fin.ext h)
    rw [dif_neg (by omega), if_neg e]

include h1 h2 h4 h8 in
theorem v167_real (a : Fin 8) (j : Fin 128) :
    (val_main_v167 (F := Ideal) x1 x2 x4 x8 (ix2 a j) : EReal) = if a = 0 then (ggk k v z wk j : EReal) else 0 := by
  pointwise [val_main_v167, val_main_v166, val_main_v101, val_main_v98, val_main_v97, val_main_v96, val_main_cst_13, val_main_cst_14, val_main_c_25, val_main_call1_v0]
  rw [Cert.Common.sitofp_zero]
  simp only [Fintype.sum_unique, Fin.default_eq_zero, v95_real h1 h2 h8, v52_real h4]
  by_cases e : a = 0
  · subst e
    rw [dif_pos (by decide), if_pos rfl]
    unfold ggk
    rw [← coe_sum]
    exact Finset.sum_congr rfl fun r _ => (EReal.coe_mul _ _).symm
  · have ha : a.val ≠ 0 := fun h => e (Fin.ext h)
    rw [dif_neg (by omega), if_neg e]

end Cert.MlaPostRefIdeal.Hand
-- ==== Proof.MlaPostClaim.lean ====
/- The latent attention's projections, rotation and norms differentiated: the claims. -/
module

public import proofs.«01_k».proof.Defs
public import proofs.«01_k».proof.Proof.FoxBwdClaim
public import proofs.«01_k».proof.Proof.MlaBwdHost
public import proofs.«01_k».proof.Proof.MlaPostReal
public import proofs.«01_k».proof.Proof.MlaPostRef
public import proofs.«01_k».proof.Proof.MlaPostCompiled
public import proofs.«01_k».proof.Proof.Gen.Pre_post_finite

@[expose] public section

set_option maxRecDepth 16384

noncomputable section

namespace Cert.MlaPostClaim

open Cert.MlaPostIdeal Cert.MlaPostIdeal.Gen Cert.MlaPostFrame Cert.MlaPostIdeal.Hand
open Idealize.ShloMosaic Idealize.ShloMosaic.TcCoe Idealize.SL.Sem
open Cert.FoxBwdClaim (real_of_lt)

variable (m : (ℓ : Loc nD τ sig) → Buf (Elt Ideal) ℓ)

/-! ## The lines after the call -/

abbrev T (c : Dev nD) : (b : Ref sig .tc) → Buf (Elt Ideal) ((c.tc : Thread nD τ).loc b) :=
  Pipeline.afterTail₀ cfgs (dats m) 0 (V0 m) [hostOps1] c

theorem tail_dwq (W : Valuation τ sig (Elt Ideal)) (j : Fin 256) (h : Fin 8) (l : Fin 96) :
    (StableHlo.after (List.flatten [hostOps1]) W (Proc.tc.devRef main_v46) : FVec Ideal S256x8x96 .f32) (ix3 j h l)
      = (show EReal from (W (Proc.tc.devRef main_v44_3) : FVec Ideal S256x1024 .f32) (ix2 j (wide h ⟨l.val, by omega⟩))) := by
  simp only [List.flatten_cons, List.flatten_nil, List.append_nil]
  after_reads_simp
  pointwise
  exact congrArg (fun x => (W (Proc.tc.devRef main_v44_3) : FVec Ideal S256x1024 .f32) (ix2 j x)) (Fin.ext (by show h.val * 128 + l.val = 128 * h.val + l.val; omega))

theorem tail_dwk (W : Valuation τ sig (Elt Ideal)) (j : Fin 128) (h : Fin 8) (d : Fin 64) :
    (StableHlo.after (List.flatten [hostOps1]) W (Proc.tc.devRef main_v48) : FVec Ideal S128x8x64 .f32) (ix3 j h d)
      = (show EReal from (W (Proc.tc.devRef main_v44_4) : FVec Ideal S128x1024 .f32) (ix2 j (wide h ⟨d.val, by omega⟩))) := by
  simp only [List.flatten_cons, List.flatten_nil, List.append_nil]
  after_reads_simp
  pointwise
  exact congrArg (fun x => (W (Proc.tc.devRef main_v44_4) : FVec Ideal S128x1024 .f32) (ix2 j x)) (Fin.ext (by show h.val * 128 + d.val = 128 * h.val + d.val; omega))

theorem tail_dwv (W : Valuation τ sig (Elt Ideal)) (j : Fin 128) (h : Fin 8) (d : Fin 64) :
    (StableHlo.after (List.flatten [hostOps1]) W (Proc.tc.devRef main_v49) : FVec Ideal S128x8x64 .f32) (ix3 j h d)
      = (show EReal from (W (Proc.tc.devRef main_v44_5) : FVec Ideal S128x512 .f32) (ix2 j (thin h d))) := by
  simp only [List.flatten_cons, List.flatten_nil, List.append_nil]
  after_reads_simp
  pointwise
  exact congrArg (fun x => (W (Proc.tc.devRef main_v44_5) : FVec Ideal S128x512 .f32) (ix2 j x)) (Fin.ext (by show h.val * 64 + d.val = 64 * h.val + d.val; omega))

theorem tail_rope (W : Valuation τ sig (Elt Ideal)) (r : Fin 4096) (i : Fin 32) :
    (StableHlo.after (List.flatten [hostOps1]) W (Proc.tc.devRef main_v50) : FVec Ideal S4096x32 .bf16) (ix2 r i)
      = (show EReal from (W (Proc.tc.devRef main_v44_2) : FVec Ideal S4096x128 .bf16) (ix2 r ⟨64 + i.val, by omega⟩)) := by
  simp only [List.flatten_cons, List.flatten_nil, List.append_nil]
  after_reads_simp
  pointwise

theorem tail_logits (W : Valuation τ sig (Elt Ideal)) (r : Fin 4096) (i : Fin 8) :
    (StableHlo.after (List.flatten [hostOps1]) W (Proc.tc.devRef main_v51) : FVec Ideal S4096x8 .bf16) (ix2 r i)
      = (show EReal from (W (Proc.tc.devRef main_v44_2) : FVec Ideal S4096x128 .bf16) (ix2 r ⟨i.val, by omega⟩)) := by
  simp only [List.flatten_cons, List.flatten_nil, List.append_nil]
  after_reads_simp
  pointwise

/-- The call's arrays, where the lines after it read them. -/
theorem after_arr (c : Dev nD) (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr_shared cfg0.spec c (V0 m c) _
    (fun w w' hne e => (dats m 0 c).arrAt_sharedIn launch₀0.sharedIn (V0 m c) (fun w => A_eq m c w) cfg0.N w w' hne e) w

variable {m} {c : Dev nD} {s : ℝ} {q k : Fin 4096 → Fin 8 → Fin 96 → ℝ} {v : Fin 4096 → Fin 8 → Fin 64 → ℝ}
  {z : Fin 4096 → Fin 2984 → ℝ} {gq : Fin 256 → ℝ} {gk : Fin 128 → ℝ} {wq : Fin 256 → Fin 768 → ℝ} {wk : Fin 128 → Fin 1024 → ℝ}
  {ct sn : Fin 4096 → Fin 16 → ℝ} (R : Reals m c s q k v z gq gk wq wk ct sn)

include R

theorem T_dwq (j : Fin 256) (h : Fin 8) (l : Fin 96) : (T m c main_v46 : FVec Ideal S256x8x96 .f32) (ix3 j h l) = (MlaPostModel.gwq s q z gq ct sn j h l : EReal) := by
  refine (tail_dwq _ j h l).trans ?_
  rw [show (Pipeline.withArrays cfg0.spec c (V0 m c) (fun w => (dats m 0 c).arrAt w cfg0.N) (Proc.devRef .tc main_v44_3)) = _ from (after_arr m c 16).trans (arr16 m c)]
  exact TQ_real R j h l

theorem T_dwk (j : Fin 128) (h : Fin 8) (d : Fin 64) : (T m c main_v48 : FVec Ideal S128x8x64 .f32) (ix3 j h d) = (MlaPostModel.gwk k v z gk j h ⟨d.val, by omega⟩ : EReal) := by
  refine (tail_dwk _ j h d).trans ?_
  rw [show (Pipeline.withArrays cfg0.spec c (V0 m c) (fun w => (dats m 0 c).arrAt w cfg0.N) (Proc.devRef .tc main_v44_4)) = _ from (after_arr m c 17).trans (arr17 m c)]
  exact TK_real R j h d

theorem T_dwv (j : Fin 128) (h : Fin 8) (d : Fin 64) : (T m c main_v49 : FVec Ideal S128x8x64 .f32) (ix3 j h d) = (MlaPostModel.gwk k v z gk j h ⟨64 + d.val, by omega⟩ : EReal) := by
  refine (tail_dwv _ j h d).trans ?_
  rw [show (Pipeline.withArrays cfg0.spec c (V0 m c) (fun w => (dats m 0 c).arrAt w cfg0.N) (Proc.devRef .tc main_v44_5)) = _ from (after_arr m c 18).trans (arr18 m c)]
  exact TV_real R j h d

theorem T_rope (r : Fin 4096) (i : Fin 32) : (T m c main_v50 : FVec Ideal S4096x32 .bf16) (ix2 r i) = (MlaPostModel.grope k ct sn r i : EReal) := by
  refine (tail_rope _ r i).trans ?_
  rw [show (Pipeline.withArrays cfg0.spec c (V0 m c) (fun w => (dats m 0 c).arrAt w cfg0.N) (Proc.devRef .tc main_v44_2)) = _ from (after_arr m c 15).trans (arr15 m c)]
  exact ZM_real R r i

omit R in
theorem T_logits (r : Fin 4096) (i : Fin 8) : (T m c main_v51 : FVec Ideal S4096x8 .bf16) (ix2 r i) = A3 m c (ix2 r i) := by
  refine (tail_logits _ r i).trans ?_
  rw [show (Pipeline.withArrays cfg0.spec c (V0 m c) (fun w => (dats m 0 c).arrAt w cfg0.N) (Proc.devRef .tc main_v44_2)) = _ from (after_arr m c 15).trans (arr15 m c)]
  exact ZM_logits r i

omit R

/-! ## The claims -/

variable (m)

theorem fin1 {a : ℕ} (x : FVec Ideal ⟨1, ![a]⟩ .f32) (hb : Cert.Pre_post_finite.S_.BroadcastsInDim ⟨1, ![a]⟩ (![] : Fin 0 → Fin 1))
    (h : cmpf .olt (Host.absf x) (broadcastInDim ⟨1, ![a]⟩ ![] hb (constant (F := Ideal) Cert.Pre_post_finite.S_ .f32 0x7F800000#32)) = fun _ => 1#1) (i : Fin a) :
    x (ix1 i) = (EReal.toReal (x (ix1 i)) : EReal) :=
  real_of_lt _ (congrFun h (ix1 i))

theorem fin2 {a b : ℕ} (x : FVec Ideal ⟨2, ![a, b]⟩ .f32) (hb : Cert.Pre_post_finite.S_.BroadcastsInDim ⟨2, ![a, b]⟩ (![] : Fin 0 → Fin 2))
    (h : cmpf .olt (Host.absf x) (broadcastInDim ⟨2, ![a, b]⟩ ![] hb (constant (F := Ideal) Cert.Pre_post_finite.S_ .f32 0x7F800000#32)) = fun _ => 1#1) (i : Fin a) (l : Fin b) :
    x (ix2 i l) = (EReal.toReal (x (ix2 i l)) : EReal) :=
  real_of_lt _ (congrFun h (ix2 i l))

theorem fin3 {a b e : ℕ} (x : FVec Ideal ⟨3, ![a, b, e]⟩ .f32) (hb : Cert.Pre_post_finite.S_.BroadcastsInDim ⟨3, ![a, b, e]⟩ (![] : Fin 0 → Fin 3))
    (h : cmpf .olt (Host.absf x) (broadcastInDim ⟨3, ![a, b, e]⟩ ![] hb (constant (F := Ideal) Cert.Pre_post_finite.S_ .f32 0x7F800000#32)) = fun _ => 1#1) (i : Fin a) (j : Fin b) (l : Fin e) :
    x (ix3 i j l) = (EReal.toReal (x (ix3 i j l)) : EReal) :=
  real_of_lt _ (congrFun h (ix3 i j l))

/-- The precondition says that the entries of every argument but the logits' cotangent are real. -/
theorem reals (h : Cert.Pre_MlaPostIdeal_post_finite (hPre_post_finite := Cert.Pre_post_finite.Gen.facts) m) (s : ℝ) (hs : Cert.MlaBwdHost.scale = (s : EReal)) (c : Dev nD) :
    Reals m c s (fun r h l => EReal.toReal (A0 m c (ix3 r h l))) (fun r h l => EReal.toReal (A1 m c (ix3 r h l))) (fun r h l => EReal.toReal (A2 m c (ix3 r h l)))
      (fun r j => EReal.toReal (A4 m c (ix2 r j))) (fun j => EReal.toReal (A5 m c (ix1 j))) (fun j => EReal.toReal (A6 m c (ix1 j)))
      (fun j l => EReal.toReal (A7 m c (ix2 j l))) (fun j l => EReal.toReal (A8 m c (ix2 j l)))
      (fun r i => EReal.toReal (A9 m c (ix2 r i))) (fun r i => EReal.toReal (A10 m c (ix2 r i))) := by
  obtain ⟨h0, h1, h2, h4, h5, h6, h7, h8, h9, h10⟩ := h c
  exact ⟨hs, fin3 _ _ h0, fin3 _ _ h1, fin3 _ _ h2, fin2 _ _ h4, fin1 _ _ h5, fin1 _ _ h6, fin2 _ _ h7, fin2 _ _ h8, fin2 _ _ h9, fin2 _ _ h10⟩

/-- The reference leaves its arguments as they were; it has no semaphore. -/
theorem frame_ref : Cert.quiescent_MlaPostRefIdeal (hMlaPostRefIdeal := Cert.MlaPostRefIdeal.Gen.facts) := fun m g _ =>
  (θ_run _ _ _).mono (fun r k => ⟨fun c => (k c).2.2.2.2.2.2.2.2.2, sem_eq_zero_of_no_sems rfl _⟩) (Cert.MlaPostRefIdeal.Value.run (F := Ideal) m g)

set_option maxHeartbeats 1600000 in
/-- The claim: nine arrays that both programs end with. -/
theorem algebraic : Cert.algebraic_MlaPostIdeal_MlaPostRefIdeal_pre_post_finite (hMlaPostIdeal := Cert.MlaPostIdeal.Gen.facts) (hMlaPostRefIdeal := Cert.MlaPostRefIdeal.Gen.facts)
    (hPre_post_finite := Cert.Pre_post_finite.Gen.facts) := by
  intro m g m' g' hp h
  obtain ⟨s, hs⟩ := Cert.MlaBwdHost.scale_real
  have R := reals m hp s hs
  refine ⟨fun c => (dats m 0 c).arrAt 13 cfg0.N, fun c => (dats m 0 c).arrAt 14 cfg0.N, fun c => T m c main_v50, fun c => T m c main_v51, fun c => T m c main_v46,
    fun c => T m c main_v48, fun c => T m c main_v49, fun c => (dats m 0 c).arrAt 19 cfg0.N, fun c => (dats m 0 c).arrAt 20 cfg0.N, ?_, ?_⟩
  · refine (θ_run _ _ _).mono (fun r k c => ?_) (θ_run_and (frame m g) (run_main m g))
    have k1 := k.2 c
    refine ⟨k1.1 13, k1.1 14, k1.2 main_v50 ?_, k1.2 main_v51 ?_, k1.2 main_v46 ?_, k1.2 main_v48 ?_, k1.2 main_v49 ?_, k1.1 19, k1.1 20, k.1.1 c⟩
    · decide +kernel
    · decide +kernel
    · decide +kernel
    · decide +kernel
    · decide +kernel
  · refine (θ_run _ _ _).mono (fun r k c => ?_) (Cert.MlaPostRefIdeal.Value.run m' g')
    obtain ⟨e0, e1, e2, e3, e4, e5, e6, e7, e8, e9, e10⟩ :
      StableHlo.launchContents m' c (Proc.tc.devRef Cert.MlaPostRefIdeal.main_arg0) = A0 m c ∧
      StableHlo.launchContents m' c (Proc.tc.devRef Cert.MlaPostRefIdeal.main_arg1) = A1 m c ∧
      StableHlo.launchContents m' c (Proc.tc.devRef Cert.MlaPostRefIdeal.main_arg2) = A2 m c ∧
      StableHlo.launchContents m' c (Proc.tc.devRef Cert.MlaPostRefIdeal.main_arg3) = A3 m c ∧
      StableHlo.launchContents m' c (Proc.tc.devRef Cert.MlaPostRefIdeal.main_arg4) = A4 m c ∧
      StableHlo.launchContents m' c (Proc.tc.devRef Cert.MlaPostRefIdeal.main_arg5) = A5 m c ∧
      StableHlo.launchContents m' c (Proc.tc.devRef Cert.MlaPostRefIdeal.main_arg6) = A6 m c ∧
      StableHlo.launchContents m' c (Proc.tc.devRef Cert.MlaPostRefIdeal.main_arg7) = A7 m c ∧
      StableHlo.launchContents m' c (Proc.tc.devRef Cert.MlaPostRefIdeal.main_arg8) = A8 m c ∧
      StableHlo.launchContents m' c (Proc.tc.devRef Cert.MlaPostRefIdeal.main_arg9) = A9 m c ∧
      StableHlo.launchContents m' c (Proc.tc.devRef Cert.MlaPostRefIdeal.main_arg10) = A10 m c := h c
    obtain ⟨k0, k1, k2, k3, k4, k5, k6, k7, k8, k9⟩ := k c
    have r := R c
    refine ⟨k0.trans ?_, k1.trans ?_, k2.trans ?_, k3.trans ?_, k4.trans ?_, k5.trans ?_, k6.trans ?_, k7.trans ?_, k8.trans ?_, k9⟩
    · rw [Cert.MlaPostRefIdeal.Read.val_main_v158_eq, e0, e4, e5, e7, e9, e10]
      refine Eq.trans ?_ (arr13 m c).symm
      funext y
      idx_vars y
      exact (Cert.MlaPostRefIdeal.Hand.v158_real hs r.h0 r.h4 r.h5 r.h7 r.h9 r.h10 y0 y1).trans (ZQ_real r y0 y1).symm
    · rw [Cert.MlaPostRefIdeal.Read.val_main_v159_eq, e1, e2, e4, e6, e8]
      refine Eq.trans ?_ (arr14 m c).symm
      funext y
      idx_vars y
      exact (Cert.MlaPostRefIdeal.Hand.v159_real r.h1 r.h2 r.h4 r.h6 r.h8 y0 y1).trans (ZK_real r y0 y1).symm
    · rw [Cert.MlaPostRefIdeal.Read.val_main_v160_eq, e1, e9, e10]
      funext y
      idx_vars y
      exact (Cert.MlaPostRefIdeal.Hand.v160_real r.h1 r.h9 r.h10 y0 y1).trans (T_rope r y0 y1).symm
    · rw [Cert.MlaPostRefIdeal.Read.val_main_v161_eq, e3]
      funext y
      idx_vars y
      exact (T_logits y0 y1).symm
    · rw [Cert.MlaPostRefIdeal.Read.val_main_v136_eq, e0, e4, e5, e9, e10]
      funext y
      idx_vars y
      exact (Cert.MlaPostRefIdeal.Hand.v136_real hs r.h0 r.h4 r.h5 r.h9 r.h10 y0 y1 y2).trans (T_dwq r y0 y1 y2).symm
    · rw [Cert.MlaPostRefIdeal.Read.val_main_v162_eq, e1, e2, e4, e6]
      funext y
      idx_vars y
      exact (Cert.MlaPostRefIdeal.Hand.v162_real r.h1 r.h2 r.h4 r.h6 y0 y1 y2).trans (T_dwk r y0 y1 y2).symm
    · rw [Cert.MlaPostRefIdeal.Read.val_main_v163_eq, e1, e2, e4, e6]
      funext y
      idx_vars y
      exact (Cert.MlaPostRefIdeal.Hand.v163_real r.h1 r.h2 r.h4 r.h6 y0 y1 y2).trans (T_dwv r y0 y1 y2).symm
    · rw [Cert.MlaPostRefIdeal.Read.val_main_v165_eq, e0, e4, e7, e9, e10]
      refine Eq.trans ?_ (arr19 m c).symm
      funext y
      idx_vars y
      refine (Cert.MlaPostRefIdeal.Hand.v165_real hs r.h0 r.h4 r.h7 r.h9 r.h10 y0 y1).trans ?_
      exact congrArg (fun a : EReal => if y0 = 0 then a else 0) (TGq_real r y1).symm
    · rw [Cert.MlaPostRefIdeal.Read.val_main_v167_eq, e1, e2, e4, e8]
      refine Eq.trans ?_ (arr20 m c).symm
      funext y
      idx_vars y
      refine (Cert.MlaPostRefIdeal.Hand.v167_real r.h1 r.h2 r.h4 r.h8 y0 y1).trans ?_
      exact congrArg (fun a : EReal => if y0 = 0 then a else 0) (TGk_real r y1).symm

end Cert.MlaPostClaim

end
-- ==== Proof.AdaFwdClaim.lean ====
/- The modulation: the kernel, its reference, and that both end with the same array. -/
module

public import proofs.«01_k».proof.Defs
public import proofs.«01_k».proof.Proof.Gen.AdaFwdIdeal.Frame
public import proofs.«01_k».proof.Proof.Gen.AdaFwdRefIdeal.Run
public import proofs.«01_k».proof.Proof.Gen.AdaFwdRefIdeal.Read
public import proofs.«01_k».proof.Proof.AdaBwdClaim

@[expose] public section

set_option maxRecDepth 16384

noncomputable section

open Idealize.ShloMosaic Idealize.ShloMosaic.TcCoe Idealize.SL.Sem
open Idealize.ShloMosaic.Pipeline (Dat)

namespace Cert.AdaFwdClaim

open Cert.AdaFwdIdeal Cert.AdaFwdIdeal.Gen
open Cert.AdaBwdClaim (silu)

/-- The modulation: a sum over the conditioning vector's entries. -/
def mod {B : ℕ} (x0 : FVec Ideal ⟨2, ![B, 1024]⟩ .f32) (x1 : FVec Ideal S4x1024x768 .f32) (a : Fin 4) (b : Fin B) (l : Fin 768) : EReal :=
  ∑ r : Fin 1024, silu (x0 (ix2 b r)) * (x1 (ix3 a r l) : EReal)

theorem ref_apply (x0 : FVec Ideal S8x1024 .f32) (x1 : FVec Ideal S4x1024x768 .f32) (a : Fin 4) (b : Fin 8) (l : Fin 768) :
    (Cert.AdaFwdRefIdeal.Read.val_main_v2 (F := Ideal) x0 x1 (ix3 a b l) : EReal) = mod x0 x1 a b l := by
  open Cert.AdaFwdRefIdeal.Read in
  pointwise [val_main_v2, val_main_v1, val_main_v0, val_main_call0_v0, val_main_call0_v1, val_main_call0_v2, val_main_call0_v3, val_main_call0_v4, val_main_call0_v5, val_main_call0_cst, val_main_call0_cst_0]
  unfold mod silu
  refine Finset.sum_congr rfl fun r _ => ?_
  rw [zero_sub]
  first | rfl | exact mul_comm _ _

theorem pay1_apply (x0 : FVec Ideal S16x1024 .f32) (x1 : FVec Ideal S1x1024x768 .f32) (b : Fin 16) (l : Fin 768) :
    (k0_pay1 (F := Ideal) x0 x1 (ix3 0 b l) : EReal) = ∑ r : Fin 1024, silu (x0 (ix2 b r)) * (x1 (ix3 0 r l) : EReal) := by
  pointwise [k0_pay1]
  rfl

variable (m : (ℓ : Loc nD τ sig) → Buf (Elt Ideal) ℓ)

abbrev A0 (c : Dev nD) : FVec Ideal S8x1024 .f32 := m ((c : Thread nD τ).loc main_arg0)
abbrev A1 (c : Dev nD) : FVec Ideal S4x1024x768 .f32 := m ((c : Thread nD τ).loc main_arg1)

/-- The batch's vectors, padded by zero rows. -/
def C (c : Dev nD) : FVec Ideal S16x1024 .f32 := V m c main_v0

theorem C_apply (c : Dev nD) (b : Fin 8) (r : Fin 1024) : (C m c (ix2 ⟨b.val, by omega⟩ r) : EReal) = A0 m c (ix2 b r) := by
  unfold C V
  after_reads_simp
  pointwise
  simp -implicitDefEqProofs only [StableHlo.TRef.toBuf, StableHlo.TRef.ofBuf, cast_cast, cast_eq]
  pointwise

/-- The block index of every window at every grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- A grid point's layer. -/
abbrev ly (t : Fin cfg0.N) : Fin 4 := ⟨t.val, lt_of_lt_of_eq t.isLt N_0⟩

theorem blk0 (c : Dev nD) (t : Fin cfg0.N) (b : Fin 16) (r : Fin 1024) : (iblk m c 0 t : FVec Ideal S16x1024 .f32) (ix2 b r) = C m c (ix2 b r) := by
  unfold C
  blk_ext [iblk, idx t]

theorem blk1 (c : Dev nD) (t : Fin cfg0.N) (r : Fin 1024) (l : Fin 768) :
    (iblk m c 1 t : FVec Ideal S1x1024x768 .f32) (ix3 0 r l) = A1 m c (ix3 (ly t) r l) := by
  rw [show A1 m c = V m c main_arg1 from (V_main_arg1 m c).symm]
  blk_ext [iblk, idx t]

theorem layer_apply (c : Dev nD) (t : Fin cfg0.N) (b : Fin 16) (l : Fin 768) :
    (k0_pay1 (F := Ideal) (iblk m c 0 t) (iblk m c 1 t) (ix3 0 b l) : EReal) = mod (C m c) (A1 m c) (ly t) b l := by
  rw [pay1_apply]
  simp only [blk0, blk1]
  rfl

theorem final2 (c : Dev nD) : (dats m 0 c).arrAt 2 cfg0.N = (fun i => mod (C m c) (A1 m c) (i 0) (i 1) (i 2) : FVec Ideal S4x16x768 .f32) := by
  refine (dats m 0 c).arrAt_eq_of_covers 2 _ (by decide +kernel) fun t hf y => ?_
  blk_simp
  rw [after0_2]
  idx_vars y
  frame_out
  rw [Fin.fin_one_eq_zero y0]
  refine (layer_apply m c t y1 y2).trans ?_
  refine congr (congr (congrArg (mod (C m c) (A1 m c)) (Fin.ext ?_)) (Fin.ext ?_)) (Fin.ext ?_)
  · show t.val = win0_2.index t 0 * 1 + 1 * 0
    rw [(idx t).2.2]
    show _ = t.val * 1 + 1 * 0
    omega
  · show y1.val = win0_2.index t 1 * 16 + 1 * y1.val
    rw [(idx t).2.2]
    show _ = 0 * 16 + 1 * y1.val
    omega
  · show y2.val = win0_2.index t 2 * 768 + 1 * y2.val
    rw [(idx t).2.2]
    show _ = 0 * 768 + 1 * y2.val
    omega

/-- The host's slice after the call. -/
theorem tail (W : Valuation τ sig (Elt Ideal)) (a : Fin 4) (b : Fin 8) (l : Fin 768) :
    (StableHlo.after (List.flatten [hostOps1]) W (Proc.tc.devRef main_v2) : FVec Ideal S4x8x768 .f32) (ix3 a b l)
      = (show EReal from (W (Proc.tc.devRef main_v1) : FVec Ideal S4x16x768 .f32) (ix3 a ⟨b.val, by omega⟩ l)) := by
  simp only [List.flatten_cons, List.flatten_nil, List.append_nil]
  after_reads_simp
  pointwise

theorem T_apply (c : Dev nD) (a : Fin 4) (b : Fin 8) (l : Fin 768) :
    (Pipeline.afterTail₀ cfgs (dats m) 0 (V0 m) [hostOps1] c main_v2 : FVec Ideal S4x8x768 .f32) (ix3 a b l) = mod (A0 m c) (A1 m c) a b l := by
  refine (tail _ a b l).trans ?_
  rw [show (Pipeline.withArrays cfg0.spec c (V0 m c) (fun w => (dats m 0 c).arrAt w cfg0.N) (Proc.devRef .tc main_v1)) = _
    from (Pipeline.withArrays_arr cfg0.spec launch0.win.arr_inj c (V0 m c) _ 2).trans (final2 m c)]
  show mod (C m c) (A1 m c) a _ l = _
  unfold mod
  exact Finset.sum_congr rfl fun r _ => congrArg (fun x => silu x * (A1 m c (ix3 a r l) : EReal)) (C_apply m c b r)

/-- The reference leaves its arguments as they were; it has no semaphore. -/
theorem frame_ref : Cert.quiescent_AdaFwdRefIdeal (hAdaFwdRefIdeal := Cert.AdaFwdRefIdeal.Gen.facts) := fun m g _ =>
  (θ_run _ _ _).mono (fun r k => ⟨fun c => (k c).2, sem_eq_zero_of_no_sems rfl _⟩) (Cert.AdaFwdRefIdeal.Value.run (F := Ideal) m g)

/-- The claim: one array that both programs end with. -/
theorem algebraic : Cert.algebraic_AdaFwdIdeal_AdaFwdRefIdeal (hAdaFwdIdeal := Cert.AdaFwdIdeal.Gen.facts) (hAdaFwdRefIdeal := Cert.AdaFwdRefIdeal.Gen.facts) := by
  intro m g m' g' _ h
  refine ⟨fun c => Pipeline.afterTail₀ cfgs (dats m) 0 (V0 m) [hostOps1] c main_v2, ?_, ?_⟩
  · exact (θ_run _ _ _).mono (fun r k c => ⟨(k.2 c).2 main_v2 (by decide +kernel), k.1.1 c⟩) (θ_run_and (frame m g) (run_main m g))
  · refine (θ_run _ _ _).mono (fun r k c => ⟨(k c).1.trans ?_, (k c).2⟩) (Cert.AdaFwdRefIdeal.Value.run m' g')
    rw [Cert.AdaFwdRefIdeal.Read.val_main_v2_eq, (h c).1, (h c).2]
    funext y
    idx_vars y
    exact (ref_apply _ _ y0 y1 y2).trans (T_apply m c y0 y1 y2).symm

end Cert.AdaFwdClaim

end
-- ==== Proof.LnInClaim.lean ====
/- The norm, modulation and input projection: the kernel, its reference, and that both end with the same arrays. -/
module

public import proofs.«01_k».proof.Defs
public import proofs.«01_k».proof.Proof.Gen.LnInIdeal.Frame
public import proofs.«01_k».proof.Proof.Gen.LnInRefIdeal.Run
public import proofs.«01_k».proof.Proof.Gen.LnInRefIdeal.Read
public import proofs.«01_k».proof.Proof.BwdInValue
public import proofs.«01_k».proof.Proof.BwdOutBwd

@[expose] public section

set_option maxRecDepth 16384

noncomputable section

open Idealize.ShloMosaic Idealize.ShloMosaic.TcCoe Idealize.SL.Sem
open Idealize.ShloMosaic.Pipeline (Dat)

namespace Cert.LnInClaim

open Cert.LnInIdeal Cert.LnInIdeal.Gen
open Cert.RmsNorm (row)
open Cert.BwdInIdeal.Hand (xh fac pk pack_cases misc_cases)
open Cert.BwdOutIdeal.Hand (canon_col canon_col_off)

section Defs

variable {R : ℕ} (x : FVec Ideal ⟨2, ![R, 1024]⟩ .f32) (g s b : Fin 1024 → EReal)

/-- The modulated row. -/
def hh (r : Fin R) (l : Fin 1024) : EReal := xh x r l * g l * (1 + s l) + b l

/-- A column of the projection: `f` is the weight's column. -/
def col (r : Fin R) (f : Fin 1024 → EReal) : EReal := ∑ k, hh x g s b r k * f k

/-- One of the first 1536 columns of the result: the first 512 carry the factor 1/8. -/
def qkv (r : Fin R) (w : Fin 1024 → ℕ → EReal) (j : ℕ) : EReal :=
  if j < 512 then col x g s b r (fun k => w k j) * Ideal.ofBits FTy.f32 1040187392#32 else col x g s b r (fun k => w k j)

end Defs

/-! ## The reference -/

section Ref

open Cert.LnInRefIdeal.Read

variable (x : FVec Ideal S4096x1024 .f32) (g s b : FVec Ideal S1024 .f32) (w : FVec Ideal S1024x2984 .f32)

/-- A vector's entries. -/
abbrev vec (g : FVec Ideal S1024 .f32) : Fin 1024 → EReal := fun l => g (ix1 l)

/-- A weight's rows, zero past the last column. -/
abbrev rows (w : FVec Ideal S1024x2984 .f32) : Fin 1024 → ℕ → EReal := fun k => Cert.Common.ext fun i : Fin 2984 => w (ix2 k i)

theorem ref20 (r : Fin 4096) (l : Fin 1024) : (val_main_v20 (F := Ideal) x g s b (ix2 r l) : EReal) = hh x (vec g) (vec s) (vec b) r l := by
  pointwise [val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem ref21 (r : Fin 4096) (j : Fin 2984) :
    (val_main_v21 (F := Ideal) x g s b w (ix2 r j) : EReal) = col x (vec g) (vec s) (vec b) r (fun k => rows w k j.val) := by
  pointwise [val_main_v21]
  simp only [ref20]
  exact Finset.sum_congr rfl fun k _ => congrArg (fun z : EReal => hh x (vec g) (vec s) (vec b) r k * z) (Cert.Common.ext_val (fun i : Fin 2984 => (w (ix2 k i) : EReal)) j).symm

theorem ref26 (r : Fin 4096) (l : Fin 1024) : (val_main_v26 (F := Ideal) x g s b (ix2 r l) : EReal) = hh x (vec g) (vec s) (vec b) r l := by
  pointwise [val_main_v26]
  exact ref20 x g s b r l

theorem ref27 (r : Fin 4096) (j : Fin 1448) :
    (val_main_v27 (F := Ideal) x g s b w (ix2 r j) : EReal) = col x (vec g) (vec s) (vec b) r (fun k => rows w k (1536 + j.val)) := by
  pointwise [val_main_v27]
  exact ref21 x g s b w r _

theorem ref29 (r : Fin 4096) (j : Fin 1536) :
    (val_main_v29 (F := Ideal) x g s b w (ix2 r j) : EReal) = qkv x (vec g) (vec s) (vec b) r (rows w) j.val := by
  pointwise [val_main_v29, val_main_v28, val_main_v25, val_main_v24, val_main_v23, val_main_cst_3, val_main_v22]
  simp only [ref21]
  unfold qkv
  by_cases h : j.val < 512
  · rw [if_pos h, dif_pos h]
  · rw [if_neg h, dif_neg h]
    exact congrArg (fun n => col x (vec g) (vec s) (vec b) r (fun k => rows w k n)) (by omega)

end Ref

/-! ## What one grid point computes -/

section Pay

variable (x : FVec Ideal S512x1024 .f32) (g s b : FVec Ideal S1x1024 .f32) (w : FVec Ideal S1x1024x3072 .bf16)

/-- A one-row array's entries. -/
abbrev one (g : FVec Ideal S1x1024 .f32) : Fin 1024 → EReal := fun l => g (ix2 0 l)

theorem pay2_apply (r : Fin 512) (l : Fin 1024) : (k0_pay2 (F := Ideal) x g s b (ix2 r l) : EReal) = hh x (one g) (one s) (one b) r l := by
  pointwise [k0_pay2]
  rfl

theorem pay3_apply (r : Fin 512) (j : Fin 3072) :
    (k0_pay3 (F := Ideal) x g s b w (ix2 r j) : EReal) = col x (one g) (one s) (one b) r (fun k => w (ix3 0 k j)) := by
  pointwise [k0_pay3]
  simp only [pay2_apply]
  rfl

theorem pay4_apply (r : Fin 512) (j : Fin 1536) :
    (k0_pay4 (F := Ideal) x g s b w (ix2 r j) : EReal) = col x (one g) (one s) (one b) r (fun k => w (ix3 0 k ⟨1536 + j.val, by omega⟩)) := by
  pointwise [k0_pay4]
  exact pay3_apply x g s b w r _

theorem pay5_apply (r : Fin 512) (j : Fin 512) :
    (k0_pay5 (F := Ideal) x g s b w (ix2 r j) : EReal)
      = col x (one g) (one s) (one b) r (fun k => w (ix3 0 k ⟨j.val, by omega⟩)) * Ideal.ofBits FTy.f32 1040187392#32 := by
  pointwise [k0_pay5]
  rw [pay3_apply]

theorem pay1_apply (r : Fin 512) (j : Fin 1024) :
    (k0_pay1 (F := Ideal) (k0_pay3 x g s b w) (ix2 r j) : EReal) = col x (one g) (one s) (one b) r (fun k => w (ix3 0 k ⟨512 + j.val, by omega⟩)) := by
  pointwise [k0_pay1]
  exact pay3_apply x g s b w r _

end Pay

/-! ## The arrays the launch reads -/

variable (m : (ℓ : Loc nD τ sig) → Buf (Elt Ideal) ℓ)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024 .f32 := m ((c : Thread nD τ).loc main_arg2)
abbrev A3 (c : Dev nD) : FVec Ideal S1024 .f32 := m ((c : Thread nD τ).loc main_arg3)
abbrev A4 (c : Dev nD) : FVec Ideal S1024x2984 .f32 := m ((c : Thread nD τ).loc main_arg4)

theorem G_apply (c : Dev nD) (l : Fin 1024) : ((V m c main_v0 : FVec Ideal S1x1024 .f32) (ix2 0 l) : EReal) = A1 m c (ix1 l) := by
  unfold V
  after_reads_simp
  pointwise

theorem S_apply (c : Dev nD) (l : Fin 1024) : ((V m c main_v1 : FVec Ideal S1x1024 .f32) (ix2 0 l) : EReal) = A2 m c (ix1 l) := by
  unfold V
  after_reads_simp
  pointwise

theorem B_apply (c : Dev nD) (l : Fin 1024) : ((V m c main_v2 : FVec Ideal S1x1024 .f32) (ix2 0 l) : EReal) = A3 m c (ix1 l) := by
  unfold V
  after_reads_simp
  pointwise

theorem W_misc (c : Dev nD) (l : Fin 1024) (j : Fin 128) :
    ((V m c main_v14 : FVec Ideal S1024x128 .f32) (ix2 l j) : EReal) = pk (rows (A4 m c) l) (2944 + j.val) := by
  unfold V
  after_reads_simp
  pointwise
  after_reads_simp
  pointwise
  exact misc_cases (fun i : Fin 2984 => A4 m c (ix2 l i)) j

set_option maxHeartbeats 1000000 in
theorem W_apply (c : Dev nD) (l : Fin 1024) (j : Fin 3072) :
    ((V m c main_v17 : FVec Ideal S1x1024x3072 .bf16) (ix3 0 l j) : EReal) = pk (rows (A4 m c) l) j.val := by
  unfold V
  after_reads_simp
  pointwise
  refine pack_cases (fun i : Fin 2984 => A4 m c (ix2 l i))
    (fun i => StableHlo.upto (List.flatten [hostOps0]) (fun b => m (c, b)) 17 (Proc.tc.devRef main_v3) (ix2 l i))
    (fun i => StableHlo.upto (List.flatten [hostOps0]) (fun b => m (c, b)) 17 (Proc.tc.devRef main_v4) (ix2 l i))
    (fun i => StableHlo.upto (List.flatten [hostOps0]) (fun b => m (c, b)) 17 (Proc.tc.devRef main_v5) (ix2 l i))
    (fun i => StableHlo.upto (List.flatten [hostOps0]) (fun b => m (c, b)) 17 (Proc.tc.devRef main_v7) (ix2 l i))
    (fun i => StableHlo.upto (List.flatten [hostOps0]) (fun b => m (c, b)) 17 (Proc.tc.devRef main_v11) (ix2 l i))
    (fun i => StableHlo.upto (List.flatten [hostOps0]) (fun b => m (c, b)) 17 (Proc.tc.devRef main_v8) (ix2 l i))
    (fun i => StableHlo.upto (List.flatten [hostOps0]) (fun b => m (c, b)) 17 (Proc.tc.devRef main_v9) (ix2 l i))
    (fun i => StableHlo.upto (List.flatten [hostOps0]) (fun b => m (c, b)) 17 (Proc.tc.devRef main_v14) (ix2 l i)) ?_ ?_ ?_ ?_ ?_ ?_ ?_ ?_ j
  on_goal 8 =>
    intro i
    refine Eq.trans ?_ (W_misc m c l i)
    unfold V
    after_reads_simp
  all_goals
    intro i
    after_reads_simp
    pointwise

/-! ## The blocks and the final arrays -/

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![t.val, 0] ∧ win0_6.index t = ![t.val, 0] ∧ win0_7.index t = ![t.val, 0] :=
  (by decide +kernel : ∀ t : Fin grid0.N, _)

/-- A grid point's tile. -/
abbrev tl (t : Fin cfg0.N) : Fin 8 := ⟨t.val, lt_of_lt_of_eq t.isLt N_0⟩

theorem blk0 (c : Dev nD) (t : Fin cfg0.N) (r : Fin 512) (l : Fin 1024) :
    (iblk m c 0 t : FVec Ideal S512x1024 .f32) (ix2 r l) = A0 m c (ix2 (row (tl t) r) l) := by
  rw [show A0 m c = V m c main_arg0 from (V_main_arg0 m c).symm]
  blk_ext [iblk, idx t]

theorem blk1 (c : Dev nD) (t : Fin cfg0.N) (l : Fin 1024) : ((iblk m c 1 t : FVec Ideal S1x1024 .f32) (ix2 0 l) : EReal) = vec (A1 m c) l := by
  refine Eq.trans ?_ (G_apply m c l)
  blk_ext [iblk, idx t]

theorem blk2 (c : Dev nD) (t : Fin cfg0.N) (l : Fin 1024) : ((iblk m c 2 t : FVec Ideal S1x1024 .f32) (ix2 0 l) : EReal) = vec (A2 m c) l := by
  refine Eq.trans ?_ (S_apply m c l)
  blk_ext [iblk, idx t]

theorem blk3 (c : Dev nD) (t : Fin cfg0.N) (l : Fin 1024) : ((iblk m c 3 t : FVec Ideal S1x1024 .f32) (ix2 0 l) : EReal) = vec (A3 m c) l := by
  refine Eq.trans ?_ (B_apply m c l)
  blk_ext [iblk, idx t]

theorem blk4 (c : Dev nD) (t : Fin cfg0.N) (l : Fin 1024) (j : Fin 3072) :
    ((iblk m c 4 t : FVec Ideal S1x1024x3072 .bf16) (ix3 0 l j) : EReal) = pk (rows (A4 m c) l) j.val := by
  refine Eq.trans ?_ (W_apply m c l j)
  blk_ext [iblk, idx t]

/-- The modulated row of the arguments, and its product by a column. -/
abbrev H (c : Dev nD) : Fin 4096 → Fin 1024 → EReal := hh (A0 m c) (vec (A1 m c)) (vec (A2 m c)) (vec (A3 m c))
abbrev P (c : Dev nD) (r : Fin 4096) (j : ℕ) : EReal := col (A0 m c) (vec (A1 m c)) (vec (A2 m c)) (vec (A3 m c)) r (fun k => pk (rows (A4 m c) k) j)

theorem hh_blk (c : Dev nD) (t : Fin cfg0.N) (r : Fin 512) (l : Fin 1024) :
    hh (R := 512) (iblk m c 0 t) (one (iblk m c 1 t)) (one (iblk m c 2 t)) (one (iblk m c 3 t)) r l = H m c (row (tl t) r) l := by
  unfold H hh xh fac one
  simp only [blk0, blk1, blk2, blk3]

theorem col_blk (c : Dev nD) (t : Fin cfg0.N) (r : Fin 512) (j : Fin 3072) :
    col (R := 512) (iblk m c 0 t) (one (iblk m c 1 t)) (one (iblk m c 2 t)) (one (iblk m c 3 t)) r (fun k => (iblk m c 4 t : FVec Ideal S1x1024x3072 .bf16) (ix3 0 k j))
      = P m c (row (tl t) r) j.val := by
  unfold P col
  simp only [hh_blk, blk4]

theorem final5 (c : Dev nD) : (dats m 0 c).arrAt 5 cfg0.N = (fun i => H m c (i 0) (i 1) : FVec Ideal S4096x1024 .bf16) := by
  refine (dats m 0 c).arrAt_eq_of_covers 5 _ (by decide +kernel) fun t hf y => ?_
  blk_simp
  rw [after0_5]
  idx_vars y
  dsimp only [outsAt0]
  frame_out
  refine ((pay2_apply _ _ _ _ y0 y1).trans (hh_blk m c t y0 y1)).trans ?_
  refine congr (congrArg (H m c) (Fin.ext ?_)) (Fin.ext ?_)
  · show 512 * t.val + y0.val = win0_5.index t 0 * 512 + 1 * y0.val
    rw [(idx t).2.2.2.2.2.1]
    show _ = t.val * 512 + 1 * y0.val
    omega
  · show y1.val = win0_5.index t 1 * 1024 + 1 * y1.val
    rw [(idx t).2.2.2.2.2.1]
    show _ = 0 * 1024 + 1 * y1.val
    omega

theorem final6 (c : Dev nD) : (dats m 0 c).arrAt 6 cfg0.N = (fun i => P m c (i 0) (1536 + (i 1).val) : FVec Ideal S4096x1536 .f32) := by
  refine (dats m 0 c).arrAt_eq_of_covers 6 _ (by decide +kernel) fun t hf y => ?_
  blk_simp
  rw [after0_6]
  idx_vars y
  frame_out
  refine ((pay4_apply _ _ _ _ _ y0 y1).trans (col_blk m c t y0 _)).trans ?_
  refine congr (congrArg (P m c) (Fin.ext ?_)) ?_
  · show 512 * t.val + y0.val = win0_6.index t 0 * 512 + 1 * y0.val
    rw [(idx t).2.2.2.2.2.2.1]
    show _ = t.val * 512 + 1 * y0.val
    omega
  · show 1536 + y1.val = 1536 + (win0_6.index t 1 * 1536 + y1.val)
    rw [(idx t).2.2.2.2.2.2.1]
    show _ = 1536 + (0 * 1536 + y1.val)
    omega

/-- The third result's entry. -/
def E7 (c : Dev nD) (r : Fin 4096) (j : ℕ) : EReal := if j < 512 then P m c r j * Ideal.ofBits FTy.f32 1040187392#32 else P m c r j

theorem final7 (c : Dev nD) : (dats m 0 c).arrAt 7 cfg0.N = (fun i => E7 m c (i 0) (i 1).val : FVec Ideal S4096x1536 .bf16) := by
  refine (dats m 0 c).arrAt_eq_of_covers 7 _ (by decide +kernel) fun t hf y => ?_
  blk_simp
  rw [after0_7]
  idx_vars y
  frame_out
  have e0 : ((View.whole main_v18_2).slice (win0_7.rect t)).emb (ix2 y0 y1) 0 = row (tl t) y0 := Fin.ext (by
    show win0_7.index t 0 * 512 + 1 * y0.val = 512 * t.val + y0.val
    rw [(idx t).2.2.2.2.2.2.2]
    show t.val * 512 + 1 * y0.val = _
    omega)
  rw [e0, show win0_7.index t 1 * 1536 + y1.val = y1.val by rw [(idx t).2.2.2.2.2.2.2]; show 0 * 1536 + y1.val = _; omega]
  unfold E7
  by_cases h : y1.val < 512
  · rw [if_pos h]
    refine (canon_col_off 512 _ _ _ y0 y1 (Or.inl h)).trans ((canon_col 0 _ _ _ y0 y1 ⟨y1.val, h⟩ (by dsimp only; omega)).trans ?_)
    exact (pay5_apply _ _ _ _ _ y0 _).trans (congrArg (fun z : EReal => z * Ideal.ofBits FTy.f32 1040187392#32) (col_blk m c t y0 _))
  · rw [if_neg h]
    refine (canon_col 512 _ _ _ y0 y1 ⟨y1.val - 512, by omega⟩ (by dsimp only; omega)).trans ?_
    refine ((pay1_apply _ _ _ _ _ y0 _).trans (col_blk m c t y0 _)).trans (congrArg (P m c (row (tl t) y0)) ?_)
    dsimp only
    omega

/-! ## The host's operations after the call -/

/-- The place of the second result's column among the call's columns. -/
def pos (j : ℕ) : ℕ := if j < 8 then 1408 + j else if j < 520 then j - 8 else if j < 904 then j + 504 else if j < 936 then j + 568 else j - 424

theorem pos_lt (j : Fin 1448) : pos j.val < 1536 := by
  unfold pos
  split_ifs <;> omega

theorem pk_pos (f : ℕ → EReal) (j : Fin 1448) : pk f (1536 + pos j.val) = f (1536 + j.val) := by
  unfold pos
  split_ifs <;> unfold pk <;> split_ifs <;> first | omega | (refine congrArg f ?_; omega)

theorem tail (W : Valuation τ sig (Elt Ideal)) (r : Fin 4096) (j : Fin 1448) :
    (StableHlo.after (List.flatten [hostOps1]) W (Proc.tc.devRef main_v24) : FVec Ideal S4096x1448 .f32) (ix2 r j)
      = (show EReal from (W (Proc.tc.devRef main_v18_1) : FVec Ideal S4096x1536 .f32) (ix2 r ⟨pos j.val, pos_lt j⟩)) := by
  simp only [List.flatten_cons, List.flatten_nil, List.append_nil]
  after_reads_simp
  pointwise
  after_reads_simp
  pointwise
  split_ifs <;> exact congrArg (fun x => (W (Proc.tc.devRef main_v18_1) : FVec Ideal S4096x1536 .f32) (ix2 r x)) (Fin.ext (by dsimp only; unfold pos; split_ifs <;> omega))

theorem T_apply (c : Dev nD) (r : Fin 4096) (j : Fin 1448) :
    (Pipeline.afterTail₀ cfgs (dats m) 0 (V0 m) [hostOps1] c main_v24 : FVec Ideal S4096x1448 .f32) (ix2 r j)
      = col (A0 m c) (vec (A1 m c)) (vec (A2 m c)) (vec (A3 m c)) r (fun k => rows (A4 m c) k (1536 + j.val)) := by
  refine (tail _ r j).trans ?_
  rw [show (Pipeline.withArrays cfg0.spec c (V0 m c) (fun w => (dats m 0 c).arrAt w cfg0.N) (Proc.devRef .tc main_v18_1)) = _
    from (Pipeline.withArrays_arr cfg0.spec launch0.win.arr_inj c (V0 m c) _ 6).trans (final6 m c)]
  show P m c r (1536 + pos j.val) = _
  unfold P
  simp only [pk_pos]

/-- The reference leaves its arguments as they were; it has no semaphore. -/
theorem frame_ref : Cert.quiescent_LnInRefIdeal (hLnInRefIdeal := Cert.LnInRefIdeal.Gen.facts) := fun m g _ =>
  (θ_run _ _ _).mono (fun r k => ⟨fun c => (k c).2.2.2, sem_eq_zero_of_no_sems rfl _⟩) (Cert.LnInRefIdeal.Value.run (F := Ideal) m g)

/-- The claim: three arrays that both programs end with. -/
theorem algebraic : Cert.algebraic_LnInIdeal_LnInRefIdeal (hLnInIdeal := Cert.LnInIdeal.Gen.facts) (hLnInRefIdeal := Cert.LnInRefIdeal.Gen.facts) := by
  intro m g m' g' _ h
  refine ⟨fun c => (dats m 0 c).arrAt 5 cfg0.N, fun c => Pipeline.afterTail₀ cfgs (dats m) 0 (V0 m) [hostOps1] c main_v24, fun c => (dats m 0 c).arrAt 7 cfg0.N, ?_, ?_⟩
  · exact (θ_run _ _ _).mono (fun r k c => ⟨(k.2 c).1 5, (k.2 c).2 main_v24 (by decide +kernel), (k.2 c).1 7, k.1.1 c⟩) (θ_run_and (frame m g) (run_main m g))
  · refine (θ_run _ _ _).mono (fun r k c => ?_) (Cert.LnInRefIdeal.Value.run m' g')
    obtain ⟨e0, e1, e2, e3, e4⟩ := h c
    refine ⟨(k c).1.trans ?_, (k c).2.1.trans ?_, (k c).2.2.1.trans ?_, (k c).2.2.2⟩
    · rw [Cert.LnInRefIdeal.Read.val_main_v26_eq, e0, e1, e2, e3]
      refine Eq.trans ?_ (final5 m c).symm
      funext y
      idx_vars y
      exact ref26 _ _ _ _ y0 y1
    · rw [Cert.LnInRefIdeal.Read.val_main_v27_eq, e0, e1, e2, e3, e4]
      funext y
      idx_vars y
      exact (ref27 _ _ _ _ _ y0 y1).trans (T_apply m c y0 y1).symm
    · rw [Cert.LnInRefIdeal.Read.val_main_v29_eq, e0, e1, e2, e3, e4]
      refine Eq.trans ?_ (final7 m c).symm
      funext y
      idx_vars y
      refine (ref29 _ _ _ _ _ y0 y1).trans ?_
      show _ = E7 m c y0 y1.val
      unfold qkv E7 P
      simp only [Cert.BwdInIdeal.Hand.pk_0 _ _ y1.isLt]

end Cert.LnInClaim

end
-- ==== Proof.MlaPrepClaim.lean ====
/- The latent projections, their norms and the rotary embedding: the kernel, its reference, and that both end with the same arrays. -/
module

public import proofs.«01_k».proof.Defs
public import proofs.«01_k».proof.Proof.Gen.MlaPrepIdeal.Frame
public import proofs.«01_k».proof.Proof.Gen.MlaPrepRefIdeal.Run
public import proofs.«01_k».proof.Proof.Gen.MlaPrepRefIdeal.Read
public import proofs.«01_k».proof.Proof.MlaPostHost

@[expose] public section

set_option maxRecDepth 16384

noncomputable section

open Idealize.ShloMosaic Idealize.ShloMosaic.TcCoe Idealize.SL.Sem
open Idealize.ShloMosaic.Pipeline (Dat)

namespace Cert.MlaPrepClaim

open Cert.MlaPrepIdeal Cert.MlaPrepIdeal.Gen
open Cert.RmsNorm (row)
open Cert.MlaPostIdeal.Hand (wl sc fac xh n256 n128 tile_cases andi127 andi127' first_half rotated sel pad_eq wide thin)

section Defs

variable {R : ℕ}

/-- The product of a normed and weighted row by a column `f`. -/
def up {n : ℕ} (N : EReal) (z : Fin R → Fin n → EReal) (g f : Fin n → EReal) (r : Fin R) : EReal := ∑ k, xh N z r k * g k * f k

/-- A column of the call's first result. -/
def KQ (z : Fin R → Fin 256 → EReal) (g : Fin 256 → EReal) (w : Fin 256 → Fin 1024 → EReal) (ct sn : Fin R → Fin 128 → EReal) (r : Fin R) (x : Fin 1024) : EReal :=
  (up n256 z g (fun k => w k x) r * ct r (wl x)
    + (if 64 ≤ x.val % 128 ∧ x.val % 128 < 80 then up n256 z g (fun k => w k ⟨(x.val + 1024 - 1008) % 1024, by omega⟩) r
        else up n256 z g (fun k => w k ⟨(x.val + 1024 - 16) % 1024, by omega⟩) r) * sn r (wl x)) * sc

/-- The key's lanes with rotation, zero elsewhere. -/
def kr (ms : Fin R → Fin 128 → EReal) (r : Fin R) (l : Fin 128) : EReal := if 64 ≤ l.val ∧ l.val < 96 then ms r l else 0

/-- A column of the call's second result. -/
def KK (z : Fin R → Fin 128 → EReal) (g : Fin 128 → EReal) (w : Fin 128 → Fin 1024 → EReal) (ms ct sn : Fin R → Fin 128 → EReal) (r : Fin R) (x : Fin 1024) : EReal :=
  up n128 z g (fun k => w k x) r + (kr ms r (wl x) * ct r (wl x)
    + (if 64 ≤ x.val % 128 ∧ x.val % 128 < 80 then kr ms r ⟨(x.val % 128 + 128 - 112) % 128, by omega⟩ else kr ms r ⟨(x.val % 128 + 128 - 16) % 128, by omega⟩) * sn r (wl x))

/-- The rotation of 32 lanes after 64 that stay, at a lane. -/
def rot (t : ℕ → EReal) (ct sn : Fin 16 → EReal) (l : Fin 96) : EReal :=
  if l.val < 64 then t l.val
  else if h : l.val - 64 < 16 then t l.val * ct ⟨l.val - 64, h⟩ - t (l.val + 16) * sn ⟨l.val - 64, h⟩
  else t l.val * ct ⟨l.val - 80, by omega⟩ + t (l.val - 16) * sn ⟨l.val - 80, by omega⟩

end Defs

/-! ## What one grid point computes -/

section Pay

variable (ct sn : FVec Ideal S512x128 .f32) (ql : FVec Ideal S512x256 .f32) (gq : FVec Ideal S1x256 .f32) (w : FVec Ideal S1x256x1024 .bf16)
variable (kl ms : FVec Ideal S512x128 .f32) (gk : FVec Ideal S1x128 .f32) (wk : FVec Ideal S1x128x1024 .bf16) (wv : FVec Ideal S1x128x512 .bf16)

theorem pay5 (r : Fin 512) (x : Fin 1024) :
    (k0_pay5 (F := Ideal) ql gq w (ix2 r x) : EReal) = up n256 (fun r k => ql (ix2 r k)) (fun k => gq (ix2 0 k)) (fun k => w (ix3 0 k x)) r := by
  pointwise [k0_pay5]
  rfl

theorem pay6 (r : Fin 512) (x : Fin 1024) : (k0_pay6 (F := Ideal) ct ql gq w (ix2 r x) : EReal) = (k0_pay5 (F := Ideal) ql gq w (ix2 r x) : EReal) * ct (ix2 r (wl x)) := by
  pointwise [k0_pay6, k0_pay3]
  exact congrArg (fun z : EReal => (k0_pay5 (F := Ideal) ql gq w (ix2 r x) : EReal) * z) (tile_cases (fun l => ct (ix2 r l)) x)

theorem pay7 (r : Fin 512) (x : Fin 1024) :
    (k0_pay7 (F := Ideal) sn ql gq w (ix2 r x) : EReal) = (if 64 ≤ x.val % 128 ∧ x.val % 128 < 80 then (k0_pay5 (F := Ideal) ql gq w (ix2 r ⟨(x.val + 1024 - 1008) % 1024, by omega⟩) : EReal)
      else k0_pay5 (F := Ideal) ql gq w (ix2 r ⟨(x.val + 1024 - 16) % 1024, by omega⟩)) * sn (ix2 r (wl x)) := by
  pointwise [k0_pay7, k0_pay4]
  have h := first_half (wl x)
  rw [← andi127] at h
  dsimp only at h
  rw [h]
  exact congrArg₂ (fun a b : EReal => a * b) (sel _ _ _) (tile_cases (fun l => sn (ix2 r l)) x)

theorem pay8 (r : Fin 512) (x : Fin 1024) :
    (k0_pay8 (F := Ideal) (k0_pay6 ct ql gq w) (k0_pay7 sn ql gq w) (ix2 r x) : EReal)
      = KQ (fun r k => ql (ix2 r k)) (fun k => gq (ix2 0 k)) (fun k x => w (ix3 0 k x)) (fun r l => ct (ix2 r l)) (fun r l => sn (ix2 r l)) r x := by
  pointwise [k0_pay8]
  simp only [pay6, pay7, pay5]
  rfl

theorem pay9 (r : Fin 512) (k : Fin 128) : (k0_pay9 (F := Ideal) kl gk (ix2 r k) : EReal) = xh n128 (fun r k => kl (ix2 r k)) r k * gk (ix2 0 k) := by
  pointwise [k0_pay9]
  rfl

theorem pay10 (r : Fin 512) (l : Fin 128) : (k0_pay10 (F := Ideal) ms (ix2 r l) : EReal) = kr (fun r l => ms (ix2 r l)) r l := by
  pointwise [k0_pay10]
  rw [rotated]
  exact sel _ _ _

theorem pay11 (r : Fin 512) (l : Fin 128) : k0_pay11 (ix2 r l) = if 64 ≤ l.val ∧ l.val < 80 then 1#1 else 0#1 := by
  pointwise [k0_pay11]
  rw [andi127']
  exact first_half l

set_option maxHeartbeats 2000000 in
/-- The second result's column, of any lanes and choice. -/
theorem pay1_any (v1 v3 v70 : FVec Ideal S512x128 .f32) (v60 : FVec Ideal S512x128 .bf16) (v78 : IVec S512x128 1) (r : Fin 512) (x : Fin 1024) :
    (k0_pay1 (F := Ideal) v1 v3 v60 v70 v78 112#32 wk (ix2 r x) : EReal)
      = (∑ k, (v60 (ix2 r k) : EReal) * wk (ix3 0 k x)) + ((v70 (ix2 r (wl x)) : EReal) * v1 (ix2 r (wl x)) + Scalar.select (v78 (ix2 r (wl x)))
        (v70 (ix2 r ⟨(x.val % 128 + 128 - 112) % 128, by omega⟩) : EReal) (v70 (ix2 r ⟨(x.val % 128 + 128 - 16) % 128, by omega⟩)) * v3 (ix2 r (wl x))) := by
  pointwise [k0_pay1]
  exact congrArg (fun z : EReal => (∑ k, (v60 (ix2 r k) : EReal) * wk (ix3 0 k x)) + z)
    (tile_cases (fun l => (v70 (ix2 r l) : EReal) * v1 (ix2 r l) + Scalar.select (v78 (ix2 r l))
      (v70 (ix2 r ⟨(l.val + 128 - 112) % 128, by omega⟩) : EReal) (v70 (ix2 r ⟨(l.val + 128 - 16) % 128, by omega⟩)) * v3 (ix2 r l)) x)

theorem pay3 (r : Fin 512) (l : Fin 128) : (k0_pay3 (F := Ideal) ct (ix2 r l) : EReal) = ct (ix2 r l) := by
  pointwise [k0_pay3]

theorem pay4 (r : Fin 512) (l : Fin 128) : (k0_pay4 (F := Ideal) sn (ix2 r l) : EReal) = sn (ix2 r l) := by
  pointwise [k0_pay4]

theorem pay1 (r : Fin 512) (x : Fin 1024) :
    (k0_pay1 (F := Ideal) (k0_pay3 ct) (k0_pay4 sn) (k0_pay9 kl gk) (k0_pay10 ms) k0_pay11 112#32 wk (ix2 r x) : EReal)
      = KK (fun r k => kl (ix2 r k)) (fun k => gk (ix2 0 k)) (fun k x => wk (ix3 0 k x)) (fun r l => ms (ix2 r l)) (fun r l => ct (ix2 r l)) (fun r l => sn (ix2 r l)) r x := by
  rw [pay1_any]
  simp only [pay3, pay4, pay9, pay10, pay11, sel]
  rfl

theorem pay2 (r : Fin 512) (y : Fin 512) :
    (k0_pay2 (F := Ideal) (k0_pay9 kl gk) wv (ix2 r y) : EReal) = up n128 (fun r k => kl (ix2 r k)) (fun k => gk (ix2 0 k)) (fun k => wv (ix3 0 k y)) r := by
  pointwise [k0_pay2]
  simp only [pay9]
  rfl

end Pay

/-! ## The reference -/

section Ref

open Cert.MlaPrepRefIdeal.Read

variable (z : FVec Ideal S4096x2984 .f32) (gq : FVec Ideal S256 .f32) (gk : FVec Ideal S128 .f32) (wq : FVec Ideal S256x768 .f32) (wk : FVec Ideal S128x1024 .f32)
variable (ct sn : FVec Ideal S4096x16 .f32)

/-- A head's lane of the queries' projection, before the rotation. -/
def rq (r : Fin 4096) (h : Fin 8) (l : ℕ) : EReal :=
  up n256 (fun r k => z (ix2 r ⟨2056 + k.val, by omega⟩)) (fun k => gq (ix1 k)) (fun k => Cert.Common.ext (fun x : Fin 768 => wq (ix2 k x)) (96 * h.val + l)) r

/-- A head's lane of the keys' and values' projection. -/
def rk (r : Fin 4096) (h : Fin 8) (l : ℕ) : EReal :=
  up n128 (fun r k => z (ix2 r ⟨2312 + k.val, by omega⟩)) (fun k => gk (ix1 k)) (fun k => Cert.Common.ext (fun x : Fin 1024 => wk (ix2 k x)) (128 * h.val + l)) r

/-- A head's lane of the keys, before the rotation: the last 32 are shared by the heads. -/
def rkk (r : Fin 4096) (h : Fin 8) (l : ℕ) : EReal := if l < 64 then rk z gk wk r h l else Cert.Common.ext (fun x : Fin 2984 => z (ix2 r x)) (2376 + l)

theorem ref18 (r : Fin 4096) (h : Fin 8) (l : Fin 96) : (val_main_v18 (F := Ideal) z gq wq (ix3 r h l) : EReal) = rq z gq wq r h l.val := by
  pointwise [val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v3, val_main_v0]
  unfold rq up
  refine Finset.sum_congr rfl fun k _ => congrArg (fun a : EReal => xh n256 (fun r k => z (ix2 r ⟨2056 + k.val, by omega⟩)) r k * gq (ix1 k) * a) ?_
  refine Eq.trans ?_ (Cert.Common.ext_val (fun x : Fin 768 => (wq (ix2 k x) : EReal)) ⟨96 * h.val + l.val, by omega⟩).symm
  exact congrArg (fun x => (wq (ix2 k x) : EReal)) (Fin.ext (by dsimp only; omega))

theorem ref50 (r : Fin 4096) (h : Fin 8) (l : Fin 128) : (val_main_v50 (F := Ideal) z gk wk (ix3 r h l) : EReal) = rk z gk wk r h l.val := by
  pointwise [val_main_v50, val_main_v49, val_main_v48, val_main_v47, val_main_v46, val_main_v45, val_main_v44, val_main_v43, val_main_v42, val_main_cst_4, val_main_v41, val_main_v40, val_main_cst_3, val_main_v39, val_main_v38, val_main_cst_2, val_main_v37, val_main_v4, val_main_v1]
  unfold rk up
  refine Finset.sum_congr rfl fun k _ => congrArg (fun a : EReal => xh n128 (fun r k => z (ix2 r ⟨2312 + k.val, by omega⟩)) r k * gk (ix1 k) * a) ?_
  refine Eq.trans ?_ (Cert.Common.ext_val (fun x : Fin 1024 => (wk (ix2 k x) : EReal)) ⟨128 * h.val + l.val, by omega⟩).symm
  exact congrArg (fun x => (wk (ix2 k x) : EReal)) (Fin.ext (by dsimp only; omega))

theorem ref67 (r : Fin 4096) (h : Fin 8) (l : Fin 96) :
    (val_main_v67 (F := Ideal) z gq wq ct sn (ix3 r h l) : EReal) = rot (rq z gq wq r h) (fun i => ct (ix2 r i)) (fun i => sn (ix2 r i)) l * sc := by
  pointwise [val_main_v67, val_main_v63, val_main_v62, val_main_cst_5, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19]
  simp only [ref18]
  refine congrArg (fun a : EReal => a * sc) ?_
  unfold rot
  by_cases h1 : l.val < 64
  · rw [dif_pos h1, if_pos h1]
  rw [dif_neg h1, if_neg h1]
  by_cases h2 : l.val - 64 < 16
  · rw [dif_pos h2, dif_pos h2]
    rw [show 64 + (l.val - 64) = l.val by omega, show 64 + (16 + (l.val - 64)) = l.val + 16 by omega]
  · rw [dif_neg h2, dif_neg h2]
    simp only [show l.val - 64 - 16 = l.val - 80 by omega, show 64 + (16 + (l.val - 80)) = l.val by omega, show 64 + (l.val - 80) = l.val - 16 by omega]

theorem ref68 (r : Fin 4096) (h : Fin 8) (l : Fin 96) :
    (val_main_v68 (F := Ideal) z gk wk ct sn (ix3 r h l) : EReal) = rot (rkk z gk wk r h) (fun i => ct (ix2 r i)) (fun i => sn (ix2 r i)) l := by
  pointwise [val_main_v68, val_main_v65, val_main_v64, val_main_v61, val_main_v60, val_main_v59, val_main_v58, val_main_v57, val_main_v56, val_main_v55, val_main_v54, val_main_v53, val_main_v52, val_main_v51, val_main_v2]
  simp only [ref50]
  have e (j k : ℕ) (hj : j < 2984) (hk : j = 2376 + k) (h64 : 64 ≤ k) : (z (ix2 r ⟨j, hj⟩) : EReal) = rkk z gk wk r h k := by
    subst hk
    unfold rkk
    rw [if_neg (by omega)]
    exact (Cert.Common.ext_val (fun x : Fin 2984 => (z (ix2 r x) : EReal)) ⟨2376 + k, hj⟩).symm
  unfold rot
  by_cases h1 : l.val < 64
  · rw [dif_pos h1, if_pos h1]
    unfold rkk
    rw [if_pos h1]
  rw [dif_neg h1, if_neg h1]
  by_cases h2 : l.val - 64 < 16
  · rw [dif_pos h2, dif_pos h2]
    rw [e _ l.val (by omega) (by omega) (by omega), e _ (l.val + 16) (by omega) (by omega) (by omega)]
  · rw [dif_neg h2, dif_neg h2]
    rw [e _ l.val (by omega) (by omega) (by omega), e _ (l.val - 16) (by omega) (by omega) (by omega)]
    simp only [show l.val - 64 - 16 = l.val - 80 by omega]

theorem ref69 (r : Fin 4096) (h : Fin 8) (d : Fin 64) : (val_main_v69 (F := Ideal) z gk wk (ix3 r h d) : EReal) = rk z gk wk r h (64 + d.val) := by
  pointwise [val_main_v69, val_main_v66]
  exact ref50 z gk wk r h _

end Ref

/-! ## The arrays the launch reads -/

variable (m : (ℓ : Loc nD τ sig) → Buf (Elt Ideal) ℓ)

abbrev A0 (c : Dev nD) : FVec Ideal S4096x2984 .f32 := m ((c : Thread nD τ).loc main_arg0)
abbrev A1 (c : Dev nD) : FVec Ideal S256 .f32 := m ((c : Thread nD τ).loc main_arg1)
abbrev A2 (c : Dev nD) : FVec Ideal S128 .f32 := m ((c : Thread nD τ).loc main_arg2)
abbrev A3 (c : Dev nD) : FVec Ideal S256x768 .f32 := m ((c : Thread nD τ).loc main_arg3)
abbrev A4 (c : Dev nD) : FVec Ideal S128x1024 .f32 := m ((c : Thread nD τ).loc main_arg4)
abbrev A5 (c : Dev nD) : FVec Ideal S4096x16 .f32 := m ((c : Thread nD τ).loc main_arg5)
abbrev A6 (c : Dev nD) : FVec Ideal S4096x16 .f32 := m ((c : Thread nD τ).loc main_arg6)

def Zp (c : Dev nD) : FVec Ideal S4096x1536 .f32 := V m c main_v20
def Gq (c : Dev nD) : FVec Ideal S1x256 .f32 := V m c main_v21
def Gk (c : Dev nD) : FVec Ideal S1x128 .f32 := V m c main_v22
def Wq (c : Dev nD) : FVec Ideal S1x256x1024 .bf16 := V m c main_v35
def Wk (c : Dev nD) : FVec Ideal S1x128x1024 .bf16 := V m c main_v36
def Wv (c : Dev nD) : FVec Ideal S1x128x512 .bf16 := V m c main_v37
def Ct (c : Dev nD) : FVec Ideal S4096x128 .f32 := V m c main_v2
def Sn (c : Dev nD) : FVec Ideal S4096x128 .f32 := V m c main_v6

theorem Zq_apply (c : Dev nD) (r : Fin 4096) (k : Fin 256) : (Zp m c (ix2 r ⟨1024 + k.val, by omega⟩) : EReal) = A0 m c (ix2 r ⟨2056 + k.val, by omega⟩) := by
  unfold Zp V
  after_reads_simp
  pointwise
  after_reads_simp
  pointwise
  rw [dif_pos (by omega), dif_neg (by omega), dif_neg (by omega), dif_pos (by omega)]
  exact congrArg (fun a => (A0 m c (ix2 r a) : EReal)) (Fin.ext (by dsimp only; omega))

theorem Zk_apply (c : Dev nD) (r : Fin 4096) (k : Fin 128) : (Zp m c (ix2 r ⟨1280 + k.val, by omega⟩) : EReal) = A0 m c (ix2 r ⟨2312 + k.val, by omega⟩) := by
  unfold Zp V
  after_reads_simp
  pointwise
  after_reads_simp
  pointwise
  rw [dif_pos (by omega), dif_neg (by omega), dif_neg (by omega), dif_neg (by omega)]
  exact congrArg (fun a => (A0 m c (ix2 r a) : EReal)) (Fin.ext (by dsimp only; omega))

theorem misc_apply (c : Dev nD) (r : Fin 4096) (l : Fin 128) :
    (V m c main_v18 : FVec Ideal S4096x128 .f32) (ix2 r l) = (if h : l.val < 8 then A0 m c (ix2 r ⟨1536 + l.val, by omega⟩) else if h : l.val - 8 < 56 then (0 : EReal)
      else if h : l.val - 8 - 56 < 32 then A0 m c (ix2 r ⟨2440 + (l.val - 8 - 56), by omega⟩) else 0 : EReal) := by
  unfold V
  after_reads_simp
  pointwise
  after_reads_simp
  pointwise

theorem Zm_apply (c : Dev nD) (r : Fin 4096) (l : Fin 128) (h : 64 ≤ l.val ∧ l.val < 96) :
    (Zp m c (ix2 r ⟨1408 + l.val, by omega⟩) : EReal) = Cert.Common.ext (fun x : Fin 2984 => A0 m c (ix2 r x)) (2376 + l.val) := by
  refine Eq.trans (b := ((V m c main_v18 : FVec Ideal S4096x128 .f32) (ix2 r l) : EReal)) ?_ ?_
  · unfold Zp V
    after_reads_simp
    pointwise
    rw [dif_neg (by omega)]
    after_reads_simp
    pointwise
    have e1 : ¬ l.val < 8 := by omega
    have e2 : ¬ l.val - 8 < 56 := by omega
    have e3 : l.val - 8 - 56 < 32 := by omega
    simp only [e1, e2, e3, dif_neg, dif_pos, not_false_eq_true]
  · rw [misc_apply, dif_neg (by omega), dif_neg (by omega), dif_pos (by omega)]
    refine Eq.trans ?_ (Cert.Common.ext_val (fun x : Fin 2984 => (A0 m c (ix2 r x) : EReal)) ⟨2376 + l.val, by omega⟩).symm
    exact congrArg (fun a => (A0 m c (ix2 r a) : EReal)) (Fin.ext (by dsimp only; omega))

theorem Gq_apply (c : Dev nD) (k : Fin 256) : (Gq m c (ix2 0 k) : EReal) = A1 m c (ix1 k) := by
  unfold Gq V
  after_reads_simp
  pointwise

theorem Gk_apply (c : Dev nD) (k : Fin 128) : (Gk m c (ix2 0 k) : EReal) = A2 m c (ix1 k) := by
  unfold Gk V
  after_reads_simp
  pointwise

theorem Wq_apply (c : Dev nD) (k : Fin 256) (h : Fin 8) (l : Fin 128) (e : l.val < 96) :
    (Wq m c (ix3 0 k (wide h l)) : EReal) = Cert.Common.ext (fun x : Fin 768 => A3 m c (ix2 k x)) (96 * h.val + l.val) := by
  refine Eq.trans ?_ (Cert.Common.ext_val (fun x : Fin 768 => (A3 m c (ix2 k x) : EReal)) ⟨96 * h.val + l.val, by omega⟩).symm
  unfold Wq V
  after_reads_simp
  pointwise
  simp -implicitDefEqProofs only [StableHlo.TRef.toBuf, StableHlo.TRef.ofBuf, cast_cast, cast_eq]
  pointwise
  refine (pad_eq (P' := l.val < 96) (by omega) _ (fun _ => (A3 m c (ix2 k ⟨96 * h.val + l.val, by omega⟩) : EReal)) _ Cert.Common.sitofp_zero
    fun _ _ => congrArg (fun a => (A3 m c (ix2 k a) : EReal)) (Fin.ext (by dsimp only; omega))).trans (dif_pos e)

theorem Wk_apply (c : Dev nD) (k : Fin 128) (h : Fin 8) (l : Fin 128) :
    (Wk m c (ix3 0 k (wide h l)) : EReal) = if e : l.val < 64 then Cert.Common.ext (fun x : Fin 1024 => A4 m c (ix2 k x)) (128 * h.val + l.val) else 0 := by
  unfold Wk V
  after_reads_simp
  pointwise
  simp -implicitDefEqProofs only [StableHlo.TRef.toBuf, StableHlo.TRef.ofBuf, cast_cast, cast_eq]
  pointwise
  exact pad_eq (by omega) _ _ _ Cert.Common.sitofp_zero fun _ _ => Eq.trans (congrArg (fun a => (A4 m c (ix2 k a) : EReal)) (Fin.ext (by dsimp only; omega)))
    (Cert.Common.ext_val (fun x : Fin 1024 => (A4 m c (ix2 k x) : EReal)) ⟨128 * h.val + l.val, by omega⟩).symm

theorem Wv_apply (c : Dev nD) (k : Fin 128) (h : Fin 8) (d : Fin 64) :
    (Wv m c (ix3 0 k (thin h d)) : EReal) = Cert.Common.ext (fun x : Fin 1024 => A4 m c (ix2 k x)) (128 * h.val + (64 + d.val)) := by
  refine Eq.trans ?_ (Cert.Common.ext_val (fun x : Fin 1024 => (A4 m c (ix2 k x) : EReal)) ⟨128 * h.val + (64 + d.val), by omega⟩).symm
  unfold Wv V
  after_reads_simp
  pointwise
  exact congrArg (fun a => (A4 m c (ix2 k a) : EReal)) (Fin.ext (by dsimp only; omega))

theorem Ct_apply (c : Dev nD) (r : Fin 4096) (l : Fin 128) :
    (Ct m c (ix2 r l) : EReal) = if e : 64 ≤ l.val ∧ l.val < 80 then A5 m c (ix2 r ⟨l.val - 64, by omega⟩)
      else if e : 80 ≤ l.val ∧ l.val < 96 then A5 m c (ix2 r ⟨l.val - 80, by omega⟩) else 1 := by
  unfold Ct V
  after_reads_simp
  pointwise
  after_reads_simp
  pointwise
  by_cases e1 : l.val < 64
  · rw [dif_pos e1, dif_neg (by omega), dif_neg (by omega)]
  by_cases e2 : l.val < 80
  · rw [dif_neg e1, dif_pos (by omega), dif_pos (by omega)]
  by_cases e3 : l.val < 96
  · rw [dif_neg e1, dif_neg (by omega), dif_pos (by omega), dif_neg (by omega), dif_pos (by omega)]
    exact congrArg (fun a => (A5 m c (ix2 r a) : EReal)) (Fin.ext (by dsimp only; omega))
  · rw [dif_neg e1, dif_neg (by omega), dif_neg (by omega), dif_neg (by omega), dif_neg (by omega)]

theorem Sn_apply (c : Dev nD) (r : Fin 4096) (l : Fin 128) :
    (Sn m c (ix2 r l) : EReal) = if e : 64 ≤ l.val ∧ l.val < 80 then -(A6 m c (ix2 r ⟨l.val - 64, by omega⟩) : EReal)
      else if e : 80 ≤ l.val ∧ l.val < 96 then A6 m c (ix2 r ⟨l.val - 80, by omega⟩) else 0 := by
  unfold Sn V
  after_reads_simp
  pointwise
  after_reads_simp
  pointwise
  by_cases e1 : l.val < 64
  · rw [dif_pos e1, dif_neg (by omega), dif_neg (by omega)]
  by_cases e2 : l.val < 80
  · rw [dif_neg e1, dif_pos (by omega), dif_pos (by omega)]
  by_cases e3 : l.val < 96
  · rw [dif_neg e1, dif_neg (by omega), dif_pos (by omega), dif_neg (by omega), dif_pos (by omega)]
    exact congrArg (fun a => (A6 m c (ix2 r a) : EReal)) (Fin.ext (by dsimp only; omega))
  · rw [dif_neg e1, dif_neg (by omega), dif_neg (by omega), dif_neg (by omega), dif_neg (by omega)]

/-! ## The blocks and the final arrays -/

/-- The block index of every window at every grid point. -/
theorem idx : ∀ t : Fin cfg0.N, win0_0.index t = ![t.val, 4] ∧ win0_1.index t = ![t.val, 10] ∧ win0_2.index t = ![t.val, 11] ∧ win0_3.index t = ![0, 0]
    ∧ win0_4.index t = ![0, 0] ∧ win0_5.index t = ![0, 0, 0] ∧ win0_6.index t = ![0, 0, 0] ∧ win0_7.index t = ![0, 0, 0]
    ∧ win0_8.index t = ![t.val, 0] ∧ win0_9.index t = ![t.val, 0] :=
  (by decide +kernel : ∀ t : Fin grid0.N, _)

/-- and of the results. -/
theorem idxo : ∀ t : Fin cfg0.N, win0_10.index t = ![t.val, 0] ∧ win0_11.index t = ![t.val, 0] ∧ win0_12.index t = ![t.val, 0] :=
  (by decide +kernel : ∀ t : Fin grid0.N, _)

/-- A grid point's tile. -/
abbrev tl (t : Fin cfg0.N) : Fin 8 := ⟨t.val, lt_of_lt_of_eq t.isLt N_0⟩

abbrev qlA (c : Dev nD) : Fin 4096 → Fin 256 → EReal := fun r k => Zp m c (ix2 r ⟨1024 + k.val, by omega⟩)
abbrev klA (c : Dev nD) : Fin 4096 → Fin 128 → EReal := fun r k => Zp m c (ix2 r ⟨1280 + k.val, by omega⟩)
abbrev msA (c : Dev nD) : Fin 4096 → Fin 128 → EReal := fun r l => Zp m c (ix2 r ⟨1408 + l.val, by omega⟩)
abbrev gqA (c : Dev nD) : Fin 256 → EReal := fun k => Gq m c (ix2 0 k)
abbrev gkA (c : Dev nD) : Fin 128 → EReal := fun k => Gk m c (ix2 0 k)
abbrev wqA (c : Dev nD) : Fin 256 → Fin 1024 → EReal := fun k x => Wq m c (ix3 0 k x)
abbrev wkA (c : Dev nD) : Fin 128 → Fin 1024 → EReal := fun k x => Wk m c (ix3 0 k x)
abbrev wvA (c : Dev nD) : Fin 128 → Fin 512 → EReal := fun k x => Wv m c (ix3 0 k x)
abbrev ctA (c : Dev nD) : Fin 4096 → Fin 128 → EReal := fun r l => Ct m c (ix2 r l)
abbrev snA (c : Dev nD) : Fin 4096 → Fin 128 → EReal := fun r l => Sn m c (ix2 r l)

theorem b0 (c : Dev nD) (t : Fin cfg0.N) (r : Fin 512) (k : Fin 256) : ((iblk m c 0 t : FVec Ideal S512x256 .f32) (ix2 r k) : EReal) = qlA m c (row (tl t) r) k := by
  unfold qlA Zp
  blk_ext [iblk, idx t]
theorem b1 (c : Dev nD) (t : Fin cfg0.N) (r : Fin 512) (k : Fin 128) : ((iblk m c 1 t : FVec Ideal S512x128 .f32) (ix2 r k) : EReal) = klA m c (row (tl t) r) k := by
  unfold klA Zp
  blk_ext [iblk, idx t]
theorem b2 (c : Dev nD) (t : Fin cfg0.N) (r : Fin 512) (k : Fin 128) : ((iblk m c 2 t : FVec Ideal S512x128 .f32) (ix2 r k) : EReal) = msA m c (row (tl t) r) k := by
  unfold msA Zp
  blk_ext [iblk, idx t]
theorem b3 (c : Dev nD) (t : Fin cfg0.N) (k : Fin 256) : ((iblk m c 3 t : FVec Ideal S1x256 .f32) (ix2 0 k) : EReal) = gqA m c k := by
  unfold gqA Gq
  blk_ext [iblk, idx t]
theorem b4 (c : Dev nD) (t : Fin cfg0.N) (k : Fin 128) : ((iblk m c 4 t : FVec Ideal S1x128 .f32) (ix2 0 k) : EReal) = gkA m c k := by
  unfold gkA Gk
  blk_ext [iblk, idx t]
theorem b5 (c : Dev nD) (t : Fin cfg0.N) (k : Fin 256) (x : Fin 1024) : ((iblk m c 5 t : FVec Ideal S1x256x1024 .bf16) (ix3 0 k x) : EReal) = wqA m c k x := by
  unfold wqA Wq
  blk_ext [iblk, idx t]
theorem b6 (c : Dev nD) (t : Fin cfg0.N) (k : Fin 128) (x : Fin 1024) : ((iblk m c 6 t : FVec Ideal S1x128x1024 .bf16) (ix3 0 k x) : EReal) = wkA m c k x := by
  unfold wkA Wk
  blk_ext [iblk, idx t]
theorem b7 (c : Dev nD) (t : Fin cfg0.N) (k : Fin 128) (x : Fin 512) : ((iblk m c 7 t : FVec Ideal S1x128x512 .bf16) (ix3 0 k x) : EReal) = wvA m c k x := by
  unfold wvA Wv
  blk_ext [iblk, idx t]
theorem b8 (c : Dev nD) (t : Fin cfg0.N) (r : Fin 512) (x : Fin 128) : ((iblk m c 8 t : FVec Ideal S512x128 .f32) (ix2 r x) : EReal) = ctA m c (row (tl t) r) x := by
  unfold ctA Ct
  blk_ext [iblk, idx t]
theorem b9 (c : Dev nD) (t : Fin cfg0.N) (r : Fin 512) (x : Fin 128) : ((iblk m c 9 t : FVec Ideal S512x128 .f32) (ix2 r x) : EReal) = snA m c (row (tl t) r) x := by
  unfold snA Sn
  blk_ext [iblk, idx t]

/-- The three results. -/
abbrev QA (c : Dev nD) : Fin 4096 → Fin 1024 → EReal := KQ (qlA m c) (gqA m c) (wqA m c) (ctA m c) (snA m c)
abbrev KA (c : Dev nD) : Fin 4096 → Fin 1024 → EReal := KK (klA m c) (gkA m c) (wkA m c) (msA m c) (ctA m c) (snA m c)
abbrev VA (c : Dev nD) (r : Fin 4096) (y : Fin 512) : EReal := up n128 (klA m c) (gkA m c) (fun k => wvA m c k y) r

theorem final10 (c : Dev nD) : (dats m 0 c).arrAt 10 cfg0.N = (fun i => QA m c (i 0) (i 1) : FVec Ideal S4096x1024 .bf16) := by
  refine (dats m 0 c).arrAt_eq_of_covers 10 _ (by decide +kernel) fun t hf y => ?_
  blk_simp
  rw [after0_10]
  idx_vars y
  frame_out
  refine ((pay8 _ _ _ _ _ y0 y1).trans (Eq.trans (b := QA m c (row (tl t) y0) y1) ?_ ?_))
  · unfold QA KQ up xh fac
    simp only [b0, b3, b5, b8, b9]
  refine congr (congrArg (QA m c) (Fin.ext ?_)) (Fin.ext ?_)
  · show 512 * t.val + y0.val = win0_10.index t 0 * 512 + 1 * y0.val
    rw [(idxo t).1]
    show _ = t.val * 512 + 1 * y0.val
    omega
  · show y1.val = win0_10.index t 1 * 1024 + 1 * y1.val
    rw [(idxo t).1]
    show _ = 0 * 1024 + 1 * y1.val
    omega

theorem final11 (c : Dev nD) : (dats m 0 c).arrAt 11 cfg0.N = (fun i => KA m c (i 0) (i 1) : FVec Ideal S4096x1024 .bf16) := by
  refine (dats m 0 c).arrAt_eq_of_covers 11 _ (by decide +kernel) fun t hf y => ?_
  blk_simp
  rw [after0_11]
  unfold out0_11 k0_pay12
  idx_vars y
  frame_out
  refine ((pay1 _ _ _ _ _ _ y0 y1).trans (Eq.trans (b := KA m c (row (tl t) y0) y1) ?_ ?_))
  · unfold KA KK kr up xh fac
    simp only [b1, b2, b4, b6, b8, b9]
  refine congr (congrArg (KA m c) (Fin.ext ?_)) (Fin.ext ?_)
  · show 512 * t.val + y0.val = win0_11.index t 0 * 512 + 1 * y0.val
    rw [(idxo t).2.1]
    show _ = t.val * 512 + 1 * y0.val
    omega
  · show y1.val = win0_11.index t 1 * 1024 + 1 * y1.val
    rw [(idxo t).2.1]
    show _ = 0 * 1024 + 1 * y1.val
    omega

theorem final12 (c : Dev nD) : (dats m 0 c).arrAt 12 cfg0.N = (fun i => VA m c (i 0) (i 1) : FVec Ideal S4096x512 .bf16) := by
  refine (dats m 0 c).arrAt_eq_of_covers 12 _ (by decide +kernel) fun t hf y => ?_
  blk_simp
  rw [after0_12]
  unfold out0_12 k0_pay12
  idx_vars y
  frame_out
  refine ((pay2 _ _ _ y0 y1).trans (Eq.trans (b := VA m c (row (tl t) y0) y1) ?_ ?_))
  · unfold VA up xh fac
    simp only [b1, b4, b7]
  refine congr (congrArg (VA m c) (Fin.ext ?_)) (Fin.ext ?_)
  · show 512 * t.val + y0.val = win0_12.index t 0 * 512 + 1 * y0.val
    rw [(idxo t).2.2]
    show _ = t.val * 512 + 1 * y0.val
    omega
  · show y1.val = win0_12.index t 1 * 512 + 1 * y1.val
    rw [(idxo t).2.2]
    show _ = 0 * 512 + 1 * y1.val
    omega

/-! ## The results at a head's lane -/

theorem upq (c : Dev nD) (r : Fin 4096) (h : Fin 8) (l : Fin 128) (e : l.val < 96) :
    up n256 (qlA m c) (gqA m c) (fun k => wqA m c k (wide h l)) r = rq (A0 m c) (A1 m c) (A3 m c) r h l.val := by
  unfold rq up xh fac qlA gqA wqA
  simp only [Zq_apply, Gq_apply, Wq_apply m c _ h l e]

theorem upk (c : Dev nD) (r : Fin 4096) (h : Fin 8) (l : Fin 128) (e : l.val < 64) :
    up n128 (klA m c) (gkA m c) (fun k => wkA m c k (wide h l)) r = rk (A0 m c) (A2 m c) (A4 m c) r h l.val := by
  unfold rk up xh fac klA gkA wkA
  simp only [Zk_apply, Gk_apply, Wk_apply m c _ h l, dif_pos e]

theorem upk0 (c : Dev nD) (r : Fin 4096) (h : Fin 8) (l : Fin 128) (e : ¬ l.val < 64) :
    up n128 (klA m c) (gkA m c) (fun k => wkA m c k (wide h l)) r = 0 := by
  unfold up wkA
  simp only [Wk_apply m c _ h l, dif_neg e, mul_zero, Finset.sum_const_zero]

theorem VA_apply (c : Dev nD) (r : Fin 4096) (h : Fin 8) (d : Fin 64) : VA m c r (thin h d) = rk (A0 m c) (A2 m c) (A4 m c) r h (64 + d.val) := by
  unfold VA rk up xh fac klA gkA wvA
  simp only [Zk_apply, Gk_apply, Wv_apply]

/-- The rotation of all lanes, at a lane of a head. -/
theorem rot_q (t : Fin 1024 → EReal) (ct sn : Fin 128 → EReal) (a b : Fin 16 → EReal) (f : ℕ → EReal) (h : Fin 8) (l : Fin 96) (v : Fin 1024) (hv : v.val = 128 * h.val + l.val)
    (ht : ∀ x : Fin 128, x.val < 96 → t (wide h x) = f x.val)
    (hc : ∀ x : Fin 128, ct x = if e : 64 ≤ x.val ∧ x.val < 80 then a ⟨x.val - 64, by omega⟩ else if e : 80 ≤ x.val ∧ x.val < 96 then a ⟨x.val - 80, by omega⟩ else 1)
    (hs : ∀ x : Fin 128, sn x = if e : 64 ≤ x.val ∧ x.val < 80 then -b ⟨x.val - 64, by omega⟩ else if e : 80 ≤ x.val ∧ x.val < 96 then b ⟨x.val - 80, by omega⟩ else 0) :
    t v * ct (wl v) + (if 64 ≤ v.val % 128 ∧ v.val % 128 < 80 then t ⟨(v.val + 1024 - 1008) % 1024, by omega⟩ else t ⟨(v.val + 1024 - 16) % 1024, by omega⟩) * sn (wl v)
      = rot f a b l := by
  have hl := l.isLt
  have hm : v.val % 128 = l.val := by omega
  have hw : wl v = ⟨l.val, by omega⟩ := Fin.ext hm
  have e0 : t v = f l.val := (congrArg t (Fin.ext hv)).trans (ht ⟨l.val, by omega⟩ hl)
  rw [hw, e0, hc, hs]
  simp only [hm]
  unfold rot
  by_cases h1 : l.val < 64
  · rw [dif_neg (by omega), dif_neg (by omega), dif_neg (by omega), dif_neg (by omega), if_pos h1, mul_zero, add_zero, mul_one]
  rw [if_neg h1]
  by_cases h2 : l.val < 80
  · have e1 : t ⟨(v.val + 1024 - 1008) % 1024, by omega⟩ = f (l.val + 16) :=
      (congrArg t (Fin.ext (by show _ = 128 * h.val + (l.val + 16); dsimp only; omega))).trans (ht ⟨l.val + 16, by omega⟩ (by show l.val + 16 < 96; omega))
    rw [dif_pos (by omega), dif_pos (by omega), if_pos (by omega), dif_pos (by omega), mul_neg, ← sub_eq_add_neg, e1]
  · have e1 : t ⟨(v.val + 1024 - 16) % 1024, by omega⟩ = f (l.val - 16) :=
      (congrArg t (Fin.ext (by show _ = 128 * h.val + (l.val - 16); dsimp only; omega))).trans (ht ⟨l.val - 16, by omega⟩ (by show l.val - 16 < 96; omega))
    rw [dif_neg (by omega), dif_pos (by omega), dif_neg (by omega), dif_pos (by omega), if_neg (by omega), dif_neg (by omega), e1]

/-- The same of lanes that are zero but for the rotated ones, added to lanes that are zero there. -/
theorem rot_k (s : EReal) (t : Fin 128 → EReal) (ct sn : Fin 128 → EReal) (a b : Fin 16 → EReal) (f : ℕ → EReal) (h : Fin 8) (l : Fin 96) (v : Fin 1024) (hv : v.val = 128 * h.val + l.val)
    (h0 : l.val < 64 → s = f l.val) (h0' : ¬ l.val < 64 → s = 0) (hz : ∀ x : Fin 128, x.val < 64 → t x = 0)
    (ht : ∀ x : Fin 128, 64 ≤ x.val ∧ x.val < 96 → t x = f x.val)
    (hc : ∀ x : Fin 128, ct x = if e : 64 ≤ x.val ∧ x.val < 80 then a ⟨x.val - 64, by omega⟩ else if e : 80 ≤ x.val ∧ x.val < 96 then a ⟨x.val - 80, by omega⟩ else 1)
    (hs : ∀ x : Fin 128, sn x = if e : 64 ≤ x.val ∧ x.val < 80 then -b ⟨x.val - 64, by omega⟩ else if e : 80 ≤ x.val ∧ x.val < 96 then b ⟨x.val - 80, by omega⟩ else 0) :
    s + (t (wl v) * ct (wl v) + (if 64 ≤ v.val % 128 ∧ v.val % 128 < 80 then t ⟨(v.val % 128 + 128 - 112) % 128, by omega⟩ else t ⟨(v.val % 128 + 128 - 16) % 128, by omega⟩) * sn (wl v))
      = rot f a b l := by
  have hl := l.isLt
  have hm : v.val % 128 = l.val := by omega
  have hw : wl v = ⟨l.val, by omega⟩ := Fin.ext hm
  rw [hw, hc, hs]
  simp only [hm]
  unfold rot
  by_cases h1 : l.val < 64
  · rw [dif_neg (by omega), dif_neg (by omega), dif_neg (by omega), dif_neg (by omega), if_pos h1, mul_zero, add_zero, hz ⟨l.val, by omega⟩ h1, zero_mul, add_zero, h0 h1]
  have e0 : t ⟨l.val, by omega⟩ = f l.val := ht ⟨l.val, by omega⟩ ⟨by show 64 ≤ l.val; omega, hl⟩
  rw [if_neg h1, h0' h1, zero_add, e0]
  by_cases h2 : l.val < 80
  · have e1 : t ⟨(l.val + 128 - 112) % 128, by omega⟩ = f (l.val + 16) :=
      (congrArg t (Fin.ext (by show _ = l.val + 16; dsimp only; omega))).trans (ht ⟨l.val + 16, by omega⟩ ⟨by show 64 ≤ l.val + 16; omega, by show l.val + 16 < 96; omega⟩)
    rw [dif_pos (by omega), dif_pos (by omega), if_pos (by omega), dif_pos (by omega), mul_neg, ← sub_eq_add_neg, e1]
  · have e1 : t ⟨(l.val + 128 - 16) % 128, by omega⟩ = f (l.val - 16) :=
      (congrArg t (Fin.ext (by show _ = l.val - 16; dsimp only; omega))).trans (ht ⟨l.val - 16, by omega⟩ ⟨by show 64 ≤ l.val - 16; omega, by show l.val - 16 < 96; omega⟩)
    rw [dif_neg (by omega), dif_pos (by omega), dif_neg (by omega), dif_pos (by omega), if_neg (by omega), dif_neg (by omega), e1]

theorem QA_apply (c : Dev nD) (r : Fin 4096) (h : Fin 8) (l : Fin 96) :
    QA m c r (wide h ⟨l.val, by omega⟩) = rot (rq (A0 m c) (A1 m c) (A3 m c) r h) (fun i => A5 m c (ix2 r i)) (fun i => A6 m c (ix2 r i)) l * sc :=
  congrArg (fun a : EReal => a * sc) (rot_q (fun x => up n256 (qlA m c) (gqA m c) (fun k => wqA m c k x) r) (ctA m c r) (snA m c r)
    (fun i => A5 m c (ix2 r i)) (fun i => A6 m c (ix2 r i)) (rq (A0 m c) (A1 m c) (A3 m c) r h) h l (wide h ⟨l.val, by omega⟩) rfl (fun x e => upq m c r h x e) (Ct_apply m c r) (Sn_apply m c r))

theorem kr_apply (c : Dev nD) (r : Fin 4096) (h : Fin 8) (x : Fin 128) (e : 64 ≤ x.val ∧ x.val < 96) :
    kr (msA m c) r x = rkk (A0 m c) (A2 m c) (A4 m c) r h x.val := by
  unfold kr rkk
  rw [if_pos e, if_neg (by omega)]
  exact Zm_apply m c r x e

theorem KA_apply (c : Dev nD) (r : Fin 4096) (h : Fin 8) (l : Fin 96) :
    KA m c r (wide h ⟨l.val, by omega⟩) = rot (rkk (A0 m c) (A2 m c) (A4 m c) r h) (fun i => A5 m c (ix2 r i)) (fun i => A6 m c (ix2 r i)) l :=
  rot_k (up n128 (klA m c) (gkA m c) (fun k => wkA m c k (wide h ⟨l.val, by omega⟩)) r) (kr (msA m c) r) (ctA m c r) (snA m c r)
    (fun i => A5 m c (ix2 r i)) (fun i => A6 m c (ix2 r i)) (rkk (A0 m c) (A2 m c) (A4 m c) r h) h l (wide h ⟨l.val, by omega⟩) rfl
    (fun e => (upk m c r h ⟨l.val, by omega⟩ e).trans (by unfold rkk; rw [if_pos e])) (fun e => upk0 m c r h ⟨l.val, by omega⟩ e)
    (fun x e => by unfold kr; rw [if_neg (by omega)]) (fun x e => kr_apply m c r h x e) (Ct_apply m c r) (Sn_apply m c r)

/-! ## The host's operations after the call -/

abbrev T (c : Dev nD) : (b : Ref sig .tc) → Buf (Elt Ideal) ((c.tc : Thread nD τ).loc b) :=
  Pipeline.afterTail₀ cfgs (dats m) 0 (V0 m) [hostOps1] c

theorem tail_q (W : Valuation τ sig (Elt Ideal)) (r : Fin 4096) (h : Fin 8) (l : Fin 96) :
    (StableHlo.after (List.flatten [hostOps1]) W (Proc.tc.devRef main_v41) : FVec Ideal S4096x8x96 .bf16) (ix3 r h l)
      = (show EReal from (W (Proc.tc.devRef main_v38_0) : FVec Ideal S4096x1024 .bf16) (ix2 r (wide h ⟨l.val, by omega⟩))) := by
  simp only [List.flatten_cons, List.flatten_nil, List.append_nil]
  after_reads_simp
  pointwise
  exact congrArg (fun x => (W (Proc.tc.devRef main_v38_0) : FVec Ideal S4096x1024 .bf16) (ix2 r x)) (Fin.ext (by show h.val * 128 + l.val = 128 * h.val + l.val; omega))

theorem tail_k (W : Valuation τ sig (Elt Ideal)) (r : Fin 4096) (h : Fin 8) (l : Fin 96) :
    (StableHlo.after (List.flatten [hostOps1]) W (Proc.tc.devRef main_v42) : FVec Ideal S4096x8x96 .bf16) (ix3 r h l)
      = (show EReal from (W (Proc.tc.devRef main_v38_1) : FVec Ideal S4096x1024 .bf16) (ix2 r (wide h ⟨l.val, by omega⟩))) := by
  simp only [List.flatten_cons, List.flatten_nil, List.append_nil]
  after_reads_simp
  pointwise
  exact congrArg (fun x => (W (Proc.tc.devRef main_v38_1) : FVec Ideal S4096x1024 .bf16) (ix2 r x)) (Fin.ext (by show h.val * 128 + l.val = 128 * h.val + l.val; omega))

theorem tail_v (W : Valuation τ sig (Elt Ideal)) (r : Fin 4096) (h : Fin 8) (d : Fin 64) :
    (StableHlo.after (List.flatten [hostOps1]) W (Proc.tc.devRef main_v43) : FVec Ideal S4096x8x64 .bf16) (ix3 r h d)
      = (show EReal from (W (Proc.tc.devRef main_v38_2) : FVec Ideal S4096x512 .bf16) (ix2 r (thin h d))) := by
  simp only [List.flatten_cons, List.flatten_nil, List.append_nil]
  after_reads_simp
  pointwise
  exact congrArg (fun x => (W (Proc.tc.devRef main_v38_2) : FVec Ideal S4096x512 .bf16) (ix2 r x)) (Fin.ext (by show h.val * 64 + d.val = 64 * h.val + d.val; omega))

/-- The call's arrays, where the lines after it read them. -/
theorem after_arr (c : Dev nD) (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr_shared cfg0.spec c (V0 m c) _ (fun w w' hne e => (dats m 0 c).arrAt_sharedIn launch₀0.sharedIn (V0 m c) (fun w => A_eq m c w) cfg0.N w w' hne e) w

theorem T_q (c : Dev nD) (r : Fin 4096) (h : Fin 8) (l : Fin 96) : ((T m c main_v41 : FVec Ideal S4096x8x96 .bf16) (ix3 r h l) : EReal)
    = rot (rq (A0 m c) (A1 m c) (A3 m c) r h) (fun i => A5 m c (ix2 r i)) (fun i => A6 m c (ix2 r i)) l * sc := by
  refine (tail_q _ r h l).trans ?_
  rw [show (Pipeline.withArrays cfg0.spec c (V0 m c) (fun w => (dats m 0 c).arrAt w cfg0.N) (Proc.devRef .tc main_v38_0)) = _ from (after_arr m c 10).trans (final10 m c)]
  exact QA_apply m c r h l

theorem T_k (c : Dev nD) (r : Fin 4096) (h : Fin 8) (l : Fin 96) : ((T m c main_v42 : FVec Ideal S4096x8x96 .bf16) (ix3 r h l) : EReal)
    = rot (rkk (A0 m c) (A2 m c) (A4 m c) r h) (fun i => A5 m c (ix2 r i)) (fun i => A6 m c (ix2 r i)) l := by
  refine (tail_k _ r h l).trans ?_
  rw [show (Pipeline.withArrays cfg0.spec c (V0 m c) (fun w => (dats m 0 c).arrAt w cfg0.N) (Proc.devRef .tc main_v38_1)) = _ from (after_arr m c 11).trans (final11 m c)]
  exact KA_apply m c r h l

theorem T_v (c : Dev nD) (r : Fin 4096) (h : Fin 8) (d : Fin 64) : ((T m c main_v43 : FVec Ideal S4096x8x64 .bf16) (ix3 r h d) : EReal)
    = rk (A0 m c) (A2 m c) (A4 m c) r h (64 + d.val) := by
  refine (tail_v _ r h d).trans ?_
  rw [show (Pipeline.withArrays cfg0.spec c (V0 m c) (fun w => (dats m 0 c).arrAt w cfg0.N) (Proc.devRef .tc main_v38_2)) = _ from (after_arr m c 12).trans (final12 m c)]
  exact VA_apply m c r h d

/-- The reference leaves its arguments as they were; it has no semaphore. -/
theorem frame_ref : Cert.quiescent_MlaPrepRefIdeal (hMlaPrepRefIdeal := Cert.MlaPrepRefIdeal.Gen.facts) := fun m g _ =>
  (θ_run _ _ _).mono (fun r k => ⟨fun c => (k c).2.2.2, sem_eq_zero_of_no_sems rfl _⟩) (Cert.MlaPrepRefIdeal.Value.run (F := Ideal) m g)

/-- The claim: three arrays that both programs end with. -/
theorem algebraic : Cert.algebraic_MlaPrepIdeal_MlaPrepRefIdeal (hMlaPrepIdeal := Cert.MlaPrepIdeal.Gen.facts) (hMlaPrepRefIdeal := Cert.MlaPrepRefIdeal.Gen.facts) := by
  intro m g m' g' _ h
  refine ⟨fun c => T m c main_v41, fun c => T m c main_v42, fun c => T m c main_v43, ?_, ?_⟩
  · exact (θ_run _ _ _).mono (fun r k c => ⟨(k.2 c).2 main_v41 (by decide +kernel), (k.2 c).2 main_v42 (by decide +kernel), (k.2 c).2 main_v43 (by decide +kernel), k.1.1 c⟩) (θ_run_and (frame m g) (run_main m g))
  · refine (θ_run _ _ _).mono (fun r k c => ?_) (Cert.MlaPrepRefIdeal.Value.run m' g')
    obtain ⟨e0, e1, e2, e3, e4, e5, e6⟩ := h c
    refine ⟨(k c).1.trans ?_, (k c).2.1.trans ?_, (k c).2.2.1.trans ?_, (k c).2.2.2⟩
    · rw [Cert.MlaPrepRefIdeal.Read.val_main_v67_eq, e0, e1, e3, e5, e6]
      funext y
      idx_vars y
      exact (ref67 _ _ _ _ _ y0 y1 y2).trans (T_q m c y0 y1 y2).symm
    · rw [Cert.MlaPrepRefIdeal.Read.val_main_v68_eq, e0, e2, e4, e5, e6]
      funext y
      idx_vars y
      exact (ref68 _ _ _ _ _ y0 y1 y2).trans (T_k m c y0 y1 y2).symm
    · rw [Cert.MlaPrepRefIdeal.Read.val_main_v69_eq, e0, e2, e4]
      funext y
      idx_vars y
      exact (ref69 _ _ _ y0 y1 y2).trans (T_v m c y0 y1 y2).symm

end Cert.MlaPrepClaim

end
-- ==== Proof.FoxPrepClaim.lean ====
/- The gates' running sums: what the call's grid leaves, and that its reference ends with the same arrays. -/
module

public import proofs.«01_k».proof.Defs
public import proofs.«01_k».proof.Proof.Gen.FoxPrepIdeal.Value
public import proofs.«01_k».proof.Proof.Gen.FoxPrepRefIdeal.Run
public import proofs.«01_k».proof.Proof.Gen.FoxPrepRefIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.FoxPrepClaim

/-! ## The log-sigmoid, computed two ways -/

/-- The log-sigmoid as the kernel forms it. -/
def ls (a : EReal) : EReal := min a 0 - Ideal.log (1 + Ideal.exp (0 - max a (-a)))

/-- The log-sigmoid as the reference forms it. -/
def lr (a : EReal) : EReal := -(max (-a) 0 + Ideal.log1p (Ideal.exp (-FloatOps.absf (F := Ideal) (φ := .f32) (-a))))

theorem ls_eq_lr (a : EReal) : ls a = lr a := by
  have habs : ∀ x : EReal, FloatOps.absf (F := Ideal) (φ := .f32) x = max x (-x) := fun x => rfl
  have hlog1 : Ideal.log 1 = 0 := by
    rw [← EReal.coe_one, Ideal.log_coe, if_neg (by norm_num), Real.log_one, EReal.coe_zero]
  unfold ls lr
  rw [habs]
  induction a with
  | bot => simp [Ideal.log1p, hlog1]
  | top => simp [Ideal.log1p, hlog1]
  | coe x =>
    have hmax : ∀ y z : ℝ, max (y : EReal) (z : EReal) = ((max y z : ℝ) : EReal) := fun y z => (EReal.coe_strictMono.monotone.map_max).symm
    have hmin : ∀ y z : ℝ, min (y : EReal) (z : EReal) = ((min y z : ℝ) : EReal) := fun y z => (EReal.coe_strictMono.monotone.map_min).symm
    have e1 : max (x : EReal) (-(x : EReal)) = ((|x| : ℝ) : EReal) := by
      rw [← EReal.coe_neg, hmax]; rfl
    have e2 : max (-(x : EReal)) (-(-(x : EReal))) = ((|x| : ℝ) : EReal) := by
      rw [neg_neg, max_comm, e1]
    have e3 : max (-(x : EReal)) 0 = ((max (-x) 0 : ℝ) : EReal) := by
      rw [← EReal.coe_neg, ← EReal.coe_zero, hmax]
    have e4 : min (x : EReal) 0 = ((min x 0 : ℝ) : EReal) := by
      rw [← EReal.coe_zero, hmin]
    have hp : (0 : ℝ) < 1 + Real.exp (-|x|) := by positivity
    rw [e1, e2, e3, e4, zero_sub, ← EReal.coe_neg, Ideal.exp_coe, Ideal.log1p, ← EReal.coe_one, ← EReal.coe_add, Ideal.log_coe,
      if_neg (not_le.2 hp), ← EReal.coe_add, ← EReal.coe_sub, ← EReal.coe_neg]
    congr 1
    rcases le_total 0 x with h | h
    · rw [min_eq_right h, max_eq_right (by linarith)]; ring
    · rw [min_eq_left h, max_eq_left (by linarith)]; ring

/-- The truth bit of `k ≤ r`, as a number, is one or zero. -/
theorem sitofp_sle (k r : ℕ) (hk : k < 2 ^ 31) (hr : r < 2 ^ 31) :
    (FloatOps.sitofp (F := Ideal) .f32 (BitVec.setWidth 32 (IntOp.cmpi CmpIPredicate.sle (BitVec.ofNat 32 k) (BitVec.ofNat 32 r))) : EReal)
      = if k ≤ r then 1 else 0 := by
  have h : IntOp.cmpi CmpIPredicate.sle (BitVec.ofNat 32 k) (BitVec.ofNat 32 r) = if k ≤ r then 1#1 else 0#1 := by
    word_omega
  rw [h]
  split
  · show (((BitVec.setWidth 32 1#1).toInt : ℝ) : EReal) = 1
    norm_num
  · show (((BitVec.setWidth 32 0#1).toInt : ℝ) : EReal) = 0
    norm_num

/-- The entries of a column up to row `j`, as a sum over the first rows. -/
theorem sum_le_eq_range {R : ℕ} (x : Fin R → EReal) (j : Fin R) :
    (∑ k : Fin R, if k ≤ j then x k else 0) = ∑ n ∈ Finset.range (j.val + 1), Common.ext x n := by
  have e : ∀ k : Fin R, (if k ≤ j then x k else 0) = (fun n : ℕ => if n ≤ j.val then Common.ext x n else 0) k.val := fun k => by
    simp only [Common.ext_val, Fin.le_def]
  rw [Finset.sum_congr rfl fun k _ => e k, Fin.sum_univ_eq_sum_range (fun n : ℕ => if n ≤ j.val then Common.ext x n else 0) R, ← Finset.sum_filter]
  refine Finset.sum_congr (Finset.ext fun n => ?_) fun _ _ => rfl
  have := j.isLt
  rw [Finset.mem_filter, Finset.mem_range, Finset.mem_range]
  omega

/-- A running sum from the first row on, as the host prints it: entry `(j, c)` is the sum of the column's entries up to row `j`. -/
theorem prefix_rows {R Rm1 C : ℕ} (hR : Rm1 + 1 = R) (x : FVec Ideal (Routing.shape2 R C) .f32) (init : FVec Ideal Routing.shape0 .f32)
    (hinit : init ix0 = (0 : EReal))
    (h : (Routing.shape2 R C).ReduceWindows (![R, 1] : Fin 2 → ℕ) ![1, 1] ![Rm1, 0] ![0, 0] (Routing.shape2 R C)) (hu : 0 < Routing.shape0.numel)
    (j : Fin R) (c : Fin C) :
    (Host.reduceWindowAdd ![R, 1] ![1, 1] ![Rm1, 0] ![0, 0] x init h hu (ix2 j c) : EReal)
      = ∑ n ∈ Finset.range (j.val + 1), Common.ext (fun k => x (ix2 k c)) n := by
  subst hR
  have hv : init (Shape.Idx.first hu) = (0 : EReal) := (congrArg init (Subsingleton.elim _ _)).trans hinit
  have hj := j.isLt
  have hc := c.isLt
  unfold Host.reduceWindowAdd
  rw [hv]
  rw [Ideal.hostReduceWindowAdd_def]
  unfold Ideal.hostReduceWindowAdd Host.reduceWindow
  dsimp only
  refine (Common.foldl_add_eq _ _).trans ?_
  rw [zero_add]
  have hn : (⟨2, ![Rm1 + 1, 1]⟩ : Shape).numel = Rm1 + 1 := Routing.numel_col _
  let f : ℕ → EReal := fun n => if Rm1 ≤ j.val + n then Common.ext (fun k => (x (ix2 k c) : EReal)) (j.val + n - Rm1) else 0
  have e1 : (∑ n ∈ Finset.range (j.val + 1), Common.ext (fun k => (x (ix2 k c) : EReal)) n) = ∑ n ∈ Finset.range (Rm1 + 1), f n := by
    have hz : (∑ n ∈ Finset.range (Rm1 - j.val), f n) = 0 :=
      Finset.sum_eq_zero fun n hn => if_neg (by have := Finset.mem_range.1 hn; omega)
    have hs : (Rm1 - j.val) + (j.val + 1) = Rm1 + 1 := by omega
    refine Eq.trans ?_ (congrArg (fun M => ∑ n ∈ Finset.range M, f n) hs)
    rw [Finset.sum_range_add f (Rm1 - j.val) (j.val + 1), hz, zero_add]
    refine Finset.sum_congr rfl fun n hn => ?_
    show _ = if Rm1 ≤ j.val + (Rm1 - j.val + n) then Common.ext (fun k => (x (ix2 k c) : EReal)) (j.val + (Rm1 - j.val + n) - Rm1) else 0
    rw [if_pos (by omega)]
    congr 1
    omega
  have e2 : (∑ n ∈ Finset.range (Rm1 + 1), f n) = ∑ n : Fin (⟨2, ![Rm1 + 1, 1]⟩ : Shape).numel, f n.val :=
    (congrArg (fun M => ∑ n ∈ Finset.range M, f n) hn.symm).trans (Fin.sum_univ_eq_sum_range f _).symm
  rw [e1, e2]
  refine Finset.sum_congr rfl fun n _ => ?_
  have hw0 : ((Routing.shape2 (Rm1 + 1) 1).rowMajor.symm n 0).val = n.val := by rw [Routing.symm_col]; rfl
  have hw1 : ((Routing.shape2 (Rm1 + 1) 1).rowMajor.symm n 1).val = 0 := by rw [Routing.symm_col]; rfl
  have hlt : n.val < Rm1 + 1 := (n.cast hn).isLt
  show _ = if Rm1 ≤ j.val + n.val then Common.ext (fun k => (x (ix2 k c) : EReal)) (j.val + n.val - Rm1) else 0
  unfold Common.ext
  split
  · next hin =>
    have h0 := hin 0
    change Rm1 ≤ j.val * 1 + ((Routing.shape2 (Rm1 + 1) 1).rowMajor.symm n 0).val
      ∧ j.val * 1 + ((Routing.shape2 (Rm1 + 1) 1).rowMajor.symm n 0).val - Rm1 < Rm1 + 1 at h0
    rw [hw0] at h0
    rw [if_pos (by omega), dif_pos (by omega)]
    refine congrArg x (funext fun a => Fin.ext ?_)
    match a with
    | ⟨0, _⟩ =>
      show j.val * 1 + ((Routing.shape2 (Rm1 + 1) 1).rowMajor.symm n 0).val - Rm1 = j.val + n.val - Rm1
      rw [hw0]
      omega
    | ⟨1, _⟩ =>
      show c.val * 1 + ((Routing.shape2 (Rm1 + 1) 1).rowMajor.symm n 1).val - 0 = c.val
      rw [hw1]
      omega
  · next hin =>
    rw [if_neg fun hle => hin fun a => by
      match a with
      | ⟨0, _⟩ =>
        show Rm1 ≤ j.val * 1 + ((Routing.shape2 (Rm1 + 1) 1).rowMajor.symm n 0).val
          ∧ j.val * 1 + ((Routing.shape2 (Rm1 + 1) 1).rowMajor.symm n 0).val - Rm1 < Rm1 + 1
        rw [hw0]
        omega
      | ⟨1, _⟩ =>
        show 0 ≤ c.val * 1 + ((Routing.shape2 (Rm1 + 1) 1).rowMajor.symm n 1).val ∧ c.val * 1 + ((Routing.shape2 (Rm1 + 1) 1).rowMajor.symm n 1).val - 0 < C
        rw [hw1]
        omega]

end Cert.FoxPrepClaim

/-! ## The reference -/

namespace Cert.FoxPrepRefIdeal.Hand

open Cert.FoxPrepRefIdeal Cert.FoxPrepRefIdeal.Value Cert.FoxPrepRefIdeal.Read Cert.FoxPrepClaim

variable (x0 : FVec Ideal S4096x2984 .f32) (x1 : FVec Ideal S8 .f32)

theorem v4_apply (r : Fin 4096) (l : Fin 8) :
    val_main_v4 (F := Ideal) x0 x1 (ix2 r l) = lr (x0 (ix2 r ⟨1536 + l.val, by omega⟩) + x1 (ix1 l)) := by
  pointwise [val_main_v0, val_main_v1, val_main_v2, val_main_v3, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v4]
  rw [lr, if_neg (not_not_intro rfl)]

theorem v5_apply (r : Fin 4096) (l : Fin 8) :
    val_main_v5 (F := Ideal) x0 x1 (ix2 r l)
      = ∑ n ∈ Finset.range (r.val + 1), Cert.Common.ext (fun k : Fin 4096 => lr (x0 (ix2 k ⟨1536 + l.val, by omega⟩) + x1 (ix1 l))) n := by
  unfold val_main_v5
  refine (prefix_rows rfl (val_main_v4 (F := Ideal) x0 x1) _ (by pointwise [val_main_call1_call0_v0, val_main_call1_call0_cst]) _ _ r l).trans ?_
  refine Finset.sum_congr rfl fun n _ => ?_
  congr 1
  funext k
  exact v4_apply x0 x1 k l

theorem v9_apply (r : Fin 4096) (l : Fin 128) :
    val_main_v9 (F := Ideal) x0 x1 (ix2 r l) = if h : l.val < 8 then val_main_v5 (F := Ideal) x0 x1 (ix2 r ⟨l.val, h⟩) else (0 : EReal) := by
  pointwise [val_main_v9, val_main_call2_v0, val_main_c]
  rw [Cert.Common.sitofp_zero]

theorem v8_apply (a : Fin 4) (b : Fin 2) (r : Fin 4096) (l : Fin 128) :
    val_main_v8 (F := Ideal) x0 x1 (ix4 a b r l) = val_main_v5 (F := Ideal) x0 x1 (ix2 r ⟨2 * a.val + b.val, by omega⟩) := by
  rw [val_main_v8_apply, val_main_v7_apply, val_main_v6_apply]
  congr 1
  funext k
  match k with
  | ⟨0, _⟩ => apply Fin.ext; simp [idx_main_v6, idx_main_v7, idx_main_v8]; try omega
  | ⟨1, _⟩ => apply Fin.ext; simp [idx_main_v6, idx_main_v7, idx_main_v8]; try omega

end Cert.FoxPrepRefIdeal.Hand

/-! ## The kernel -/

namespace Cert.FoxPrepIdeal.Hand

open Cert.FoxPrepIdeal Cert.FoxPrepIdeal.Gen Cert.FoxPrepClaim

variable (m : (ℓ : Loc nD τ sig) → Buf (Elt Ideal) ℓ)

theorem pay5_apply (x : FVec Ideal S512x128 .f32) (b cr : FVec Ideal S1x128 .f32) (r : Fin 512) (l : Fin 128) :
    (k0_pay5 (F := Ideal) x b cr (ix2 r l) : EReal) = (∑ k : Fin 512, if k ≤ r then (if l.val < 8 then ls (x (ix2 k l) + b (ix2 0 l)) else 0) else 0) + cr (ix2 0 l) := by
  have h : IntOp.cmpi CmpIPredicate.slt (BitVec.ofNat 32 l.val) 8#32 = if l.val < 8 then 1#1 else 0#1 := by
    word_omega
  pointwise [k0_pay5]
  congr 1
  refine Finset.sum_congr rfl fun k _ => ?_
  rw [sitofp_sle _ _ (by omega) (by omega), ite_mul, one_mul, zero_mul, h]
  unfold ls
  by_cases hl : l.val < 8
  · simp only [hl, if_true]; rfl
  · simp only [hl, if_false, ite_self]; rfl

theorem pay6_apply (x : FVec Ideal S512x128 .f32) (b cr : FVec Ideal S1x128 .f32) (l : Fin 128) :
    k0_pay6 (F := Ideal) x b cr (ix2 0 l) = k0_pay5 (F := Ideal) x b cr (ix2 511 l) := by
  pointwise [k0_pay6]

theorem pay4_apply (l : Fin 128) : (k0_pay4 (F := Ideal) (ix2 0 l) : EReal) = 0 := by
  pointwise [k0_pay4]

theorem V13_apply (c : Dev nD) (r : Fin 4096) (l : Fin 8) :
    (V m c main_v13 : FVec Ideal S4096x1536 .f32) (ix2 r ⟨1408 + l.val, by omega⟩)
      = (m ((c : Thread nD τ).loc main_arg0) : FVec Ideal S4096x2984 .f32) (ix2 r ⟨1536 + l.val, by omega⟩) := by
  unfold V
  simp only [List.flatten_cons, List.flatten_nil, List.append_nil, List.cons_append, List.nil_append]
  after_reads_simp
  pointwise
  after_reads_simp
  pointwise

theorem V15_apply (c : Dev nD) (l : Fin 8) :
    (V m c main_v15 : FVec Ideal S1x128 .f32) (ix2 0 ⟨l.val, by omega⟩) = (m ((c : Thread nD τ).loc main_arg1) : FVec Ideal S8 .f32) (ix1 l) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  clean_types
  pointwise

/-- The block index of every window at every grid point. -/
theorem idx : ∀ t : Fin cfg0.N, win0_0.index t = ![t.val, 11] ∧ win0_1.index t = ![0, 0]
    ∧ win0_2.index t = ![t.val, 0] ∧ win0_3.index t = ![0, 0, t.val, 0] :=
  (by decide +kernel : ∀ t : Fin grid0.N, _)

/-- The packed columns, as one array. -/
abbrev Zp (c : Dev nD) : FVec Ideal S4096x1536 .f32 := V m c main_v13

/-- The padded bias. -/
abbrev Bp (c : Dev nD) : FVec Ideal S1x128 .f32 := V m c main_v15

/-- Column `l` of the gates' logarithms, at any row. -/
def lf (c : Dev nD) (l : Fin 128) : ℕ → EReal := Cert.Common.ext (fun k : Fin 4096 =>
  if l.val < 8 then ls (Zp m c (ix2 k ⟨1408 + l.val, by omega⟩) + Bp m c (ix2 0 l)) else 0)

/-- The sum of the first `n` rows of a column. -/
def pre (c : Dev nD) (l : Fin 128) (n : ℕ) : EReal := ∑ k ∈ Finset.range n, lf m c l k

/-- A point's tile of the packed columns, and the bias. -/
abbrev Zb (c : Dev nD) (t : Fin cfg0.N) : FVec Ideal S512x128 .f32 := iblk m c 0 t
abbrev Bb (c : Dev nD) (t : Fin cfg0.N) : FVec Ideal S1x128 .f32 := iblk m c 1 t

theorem lf_blk (c : Dev nD) (t : Fin cfg0.N) (r : Fin 512) (l : Fin 128) :
    (if l.val < 8 then ls (Zb m c t (ix2 r l) + Bb m c t (ix2 0 l)) else 0)
      = lf m c l (512 * t.val + r.val) := by
  have hN : t.val < 8 := lt_of_lt_of_eq t.isLt N_0
  refine Eq.trans ?_ (dif_pos (by omega : 512 * t.val + r.val < 4096)).symm
  have h1 : Zb m c t (ix2 r l)
      = Zp m c (ix2 ⟨512 * t.val + r.val, by omega⟩ ⟨1408 + l.val, by omega⟩) := by
    blk_ext [Zb, Bb, iblk, idx t]
  have h2 : Bb m c t (ix2 0 l) = Bp m c (ix2 0 l) := by
    blk_ext [Zb, Bb, iblk, idx t]
  rw [h1, h2]

/-- One tile: the rows' running sums, over what the tile above handed on. -/
theorem pay5_blk (c : Dev nD) (t : Fin cfg0.N) (cr : FVec Ideal S1x128 .f32) (l : Fin 128) (hcr : cr (ix2 0 l) = pre m c l (512 * t.val)) (r : Fin 512) :
    k0_pay5 (F := Ideal) (iblk m c 0 t) (iblk m c 1 t) cr (ix2 r l) = pre m c l (512 * t.val + r.val + 1) := by
  refine (pay5_apply _ _ _ _ _).trans ?_
  rw [hcr, sum_le_eq_range (fun k : Fin 512 => if l.val < 8 then ls (Zb m c t (ix2 k l) + Bb m c t (ix2 0 l)) else 0) r]
  unfold pre
  refine (add_comm _ _).trans ?_
  rw [Nat.add_assoc, Finset.sum_range_add (lf m c l) (512 * t.val) (r.val + 1)]
  congr 1
  refine Finset.sum_congr rfl fun n hn => ?_
  have hn' := Finset.mem_range.1 hn
  have hr := r.isLt
  exact (dif_pos (by omega : n < 512)).trans (lf_blk m c t ⟨n, by omega⟩ l)

theorem tile0 (v : FVec Ideal S512x128 .f32) (r : Fin 512) (l : Fin 128) : (k0_pay7 (F := Ideal) v (ix4 0 0 r l) : EReal) = v (ix2 r 0) := by
  pointwise [k0_pay7]

theorem tile1 (v : FVec Ideal S512x128 .f32) (r : Fin 512) (l : Fin 128) : (k0_pay8 (F := Ideal) v (ix4 0 0 r l) : EReal) = v (ix2 r 1) := by
  pointwise [k0_pay8]

theorem tile2 (v : FVec Ideal S512x128 .f32) (r : Fin 512) (l : Fin 128) : (k0_pay9 (F := Ideal) v (ix4 0 0 r l) : EReal) = v (ix2 r 2) := by
  pointwise [k0_pay9]

theorem tile3 (v : FVec Ideal S512x128 .f32) (r : Fin 512) (l : Fin 128) : (k0_pay10 (F := Ideal) v (ix4 0 0 r l) : EReal) = v (ix2 r 3) := by
  pointwise [k0_pay10]

theorem tile4 (v : FVec Ideal S512x128 .f32) (r : Fin 512) (l : Fin 128) : (k0_pay11 (F := Ideal) v (ix4 0 0 r l) : EReal) = v (ix2 r 4) := by
  pointwise [k0_pay11]

theorem tile5 (v : FVec Ideal S512x128 .f32) (r : Fin 512) (l : Fin 128) : (k0_pay1 (k0_pay12 (F := Ideal) v) (ix4 0 0 r l) : EReal) = v (ix2 r 5) := by
  pointwise [k0_pay1, k0_pay12]

theorem tile6 (v : FVec Ideal S512x128 .f32) (r : Fin 512) (l : Fin 128) : (k0_pay2 (F := Ideal) v (ix4 0 0 r l) : EReal) = v (ix2 r 6) := by
  pointwise [k0_pay2]

theorem tile7 (v : FVec Ideal S512x128 .f32) (r : Fin 512) (l : Fin 128) : (k0_pay3 (F := Ideal) v (ix4 0 0 r l) : EReal) = v (ix2 r 7) := by
  pointwise [k0_pay3]

/-- An index of one head's tile has its first two coordinates zero. -/
theorem one_one (x : (⟨4, ![1, 1, 512, 128]⟩ : Shape).Idx) : x = ix4 0 0 (x 2) (x 3) := by
  funext k
  match k with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

/-- Head `2 * a + b`'s column of `v`, one copy a lane. -/
def tileG (v : FVec Ideal S512x128 .f32) : FVec Ideal S4x2x512x128 .f32 := fun y => v (ix2 (y 2) ⟨2 * (y 0).val + (y 1).val, by
  have h0 : (y 0).val < 4 := (y 0).isLt
  have h1 : (y 1).val < 2 := (y 1).isLt
  omega⟩)

/-- The eight stores of a point: head `2 * a + b`'s column, one copy a lane. -/
theorem tiles (v : FVec Ideal S512x128 .f32) (a : Fin 4) (b : Fin 2) (r : Fin 512) (l : Fin 128) :
    (View.canon (Val := Elt Ideal) (s := S4x2x512x128) (e := .f32)
      [⟨Rect.unit ![3, 1, 0, 0] ![1, 1, 512, 128] inb_S4x2x512x128_S1x1x512x128_3_1_0_0, k0_pay3 v⟩,
        ⟨Rect.unit ![3, 0, 0, 0] ![1, 1, 512, 128] inb_S4x2x512x128_S1x1x512x128_3_0_0_0, k0_pay2 v⟩,
        ⟨Rect.unit ![2, 1, 0, 0] ![1, 1, 512, 128] inb_S4x2x512x128_S1x1x512x128_2_1_0_0, k0_pay1 (k0_pay12 v)⟩,
        ⟨Rect.unit ![2, 0, 0, 0] ![1, 1, 512, 128] inb_S4x2x512x128_S1x1x512x128_2_0_0_0, k0_pay11 v⟩,
        ⟨Rect.unit ![1, 1, 0, 0] ![1, 1, 512, 128] inb_S4x2x512x128_S1x1x512x128_1_1_0_0, k0_pay10 v⟩,
        ⟨Rect.unit ![1, 0, 0, 0] ![1, 1, 512, 128] inb_S4x2x512x128_S1x1x512x128_1_0_0_0, k0_pay9 v⟩,
        ⟨Rect.unit ![0, 1, 0, 0] ![1, 1, 512, 128] inb_S4x2x512x128_S1x1x512x128_0_1_0_0, k0_pay8 v⟩,
        ⟨Rect.unit ![0, 0, 0, 0] ![1, 1, 512, 128] inb_S4x2x512x128_S1x1x512x128_0_0_0_0, k0_pay7 v⟩] (ix4 a b r l) : EReal)
      = v (ix2 r ⟨2 * a.val + b.val, by omega⟩) := by
  refine View.canon_apply_of_pieces (Val := Elt Ideal) (e := .f32) (tileG v) _ ?_ (ix4 a b r l) ?_
  · intro pc hpc x
    rcases List.mem_cons.mp hpc with rfl | hpc
    · obtain ⟨x2, x3, rfl⟩ : ∃ (x2 : Fin 512) (x3 : Fin 128), x = ix4 0 0 x2 x3 := ⟨x 2, x 3, one_one x⟩
      refine (tile7 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile6 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile5 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile4 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile3 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile2 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile1 v x2 x3).trans (congrArg v (funext fun k => Fin.ext ?_))
      match k with
      | ⟨0, _⟩ => show x2.val = 0 + 1 * x2.val; omega
      | ⟨1, _⟩ => rfl
    rcases List.mem_cons.mp hpc with rfl | hpc
    · obtain ⟨x2, x3, rfl⟩ : ∃ (x2 : Fin 512) (x3 : Fin 128), x = ix4 0 0 x2 x3 := ⟨x 2, x 3, one_one x⟩
      refine (tile0 v x2 x3).trans (congrArg v (funext fun k => Fin.ext ?_))
      match k with
      | ⟨0, _⟩ => show x2.val = 0 + 1 * x2.val; omega
      | ⟨1, _⟩ => rfl
    nomatch hpc
  · generalize (ix4 a b r l : S4x2x512x128.Idx) = y
    exact View.cover_of_tiledL (s := S4x2x512x128) _ S1x1x512x128.size (by sl_kernel_rfl) y

/-! ## What each grid point leaves -/

/-- The state after point `n`: the tile of running sums, the eight heads' tiles, the running sum handed on. -/
def Inv (c : Dev nD) (n : ℕ) (o : Vec Ideal S512x128 .f32 × Vec Ideal S4x2x512x128 .f32 × Vec Ideal S1x128 .f32) : Prop :=
  (∀ (r : Fin 512) (l : Fin 128), o.1 (ix2 r l) = pre m c l (512 * n + r.val + 1))
    ∧ (∀ (a : Fin 4) (b : Fin 2) (r : Fin 512) (l : Fin 128), o.2.1 (ix4 a b r l) = pre m c ⟨2 * a.val + b.val, by omega⟩ (512 * n + r.val + 1))
    ∧ ∀ l : Fin 128, o.2.2 (ix2 0 l) = pre m c l (512 * (n + 1))

set_option maxHeartbeats 1000000 in
theorem inv_A (c : Dev nD) (t : Fin cfg0.N) (h : t.val % 8 = 0) : Inv m c t.val (outsAt0 m c t.val t.isLt) := by
  have hN : t.val < 8 := lt_of_lt_of_eq t.isLt N_0
  have hcr : ∀ l, (k0_pay4 (F := Ideal)) (ix2 0 l) = pre m c l (512 * t.val) := fun l => by
    rw [show t.val = 0 by omega, pre, Finset.range_zero, Finset.sum_empty]
    exact pay4_apply l
  rw [outsAt0_A m c t h]
  frame_out
  refine ⟨fun r l => pay5_blk m c t _ l (hcr l) r, ?_, fun l => (pay6_apply _ _ _ l).trans (pay5_blk m c t _ l (hcr l) 511)⟩
  intro a b r l
  dsimp only
  exact (tiles _ a b r l).trans (pay5_blk m c t _ _ (hcr _) r)

set_option maxHeartbeats 1000000 in
theorem inv_B (c : Dev nD) (t : Fin cfg0.N) (h : ¬ t.val % 8 = 0) (ih : Inv m c (t.val - 1) (outsAt0 m c (t.val - 1) (Nat.lt_of_le_of_lt (Nat.sub_le _ _) t.isLt))) :
    Inv m c t.val (outsAt0 m c t.val t.isLt) := by
  have hN : t.val < 8 := lt_of_lt_of_eq t.isLt N_0
  rw [outsAt0_B m c t h]
  have hcr : ∀ l, (outsAt0 m c (t.val - 1) (Nat.lt_of_le_of_lt (Nat.sub_le _ _) t.isLt)).2.2 (ix2 0 l) = pre m c l (512 * t.val) := fun l => by
    rw [ih.2.2 l, show t.val - 1 + 1 = t.val by omega]
  frame_out
  refine ⟨fun r l => pay5_blk m c t _ l ((congrFun (Memref.IsWhole.read_unread _ _) _).trans (hcr l)) r, ?_,
    fun l => (pay6_apply _ _ _ l).trans (pay5_blk m c t _ l ((congrFun (Memref.IsWhole.read_unread _ _) _).trans (hcr l)) 511)⟩
  intro a b r l
  dsimp only
  exact (tiles _ a b r l).trans (pay5_blk m c t _ _ ((congrFun (Memref.IsWhole.read_unread _ _) _).trans (hcr _)) r)

theorem inv (c : Dev nD) : ∀ (n : ℕ) (hn : n < cfg0.N), Inv m c n (outsAt0 m c n hn) := by
  intro n
  induction n with
  | zero => exact fun hn => inv_A m c ⟨0, hn⟩ rfl
  | succ n ih =>
    intro hn
    have hN : n + 1 < 8 := lt_of_lt_of_eq hn N_0
    exact inv_B m c ⟨n + 1, hn⟩ (by show ¬ (n + 1) % 8 = 0; omega) (ih _)

/-! ## The result arrays -/

/-- The first result: the running sums. -/
def G2 (c : Dev nD) : FVec Ideal S4096x128 .f32 := fun i => pre m c (i 1) ((i 0).val + 1)

/-- The second result: each head's running sums, one copy a lane. -/
def G3 (c : Dev nD) : FVec Ideal S4x2x4096x128 .f32 := fun i => pre m c ⟨2 * (i 0).val + (i 1).val, by
  have h0 : (i 0).val < 4 := (i 0).isLt
  have h1 : (i 1).val < 2 := (i 1).isLt
  omega⟩ ((i 2).val + 1)

theorem final2 (c : Dev nD) : (dats m 0 c).arrAt 2 cfg0.N = G2 m c := by
  refine (dats m 0 c).arrAt_eq_of_covers 2 _ (by decide +kernel) fun t hf y => ?_
  blk_simp
  rw [after0_2]
  idx_vars y
  refine ((inv m c t.val t.isLt).1 y0 y1).trans ?_
  have e0 : (((View.whole main_v16_0).slice (win0_2.rect t)).emb (ix2 y0 y1) 0).val = 512 * t.val + y0.val := by
    show win0_2.index t 0 * 512 + 1 * y0.val = _
    rw [(idx t).2.2.1]
    show t.val * 512 + 1 * y0.val = _
    omega
  have e1 : ((View.whole main_v16_0).slice (win0_2.rect t)).emb (ix2 y0 y1) 1 = y1 := by
    apply Fin.ext
    show win0_2.index t 1 * 128 + 1 * y1.val = _
    rw [(idx t).2.2.1]
    show 0 * 128 + 1 * y1.val = _
    omega
  unfold G2
  rw [e0, e1]

theorem final3 (c : Dev nD) : (dats m 0 c).arrAt 3 cfg0.N = G3 m c := by
  refine (dats m 0 c).arrAt_eq_of_covers 3 _ (by decide +kernel) fun t hf y => ?_
  blk_simp
  rw [after0_3]
  idx_vars y
  refine ((inv m c t.val t.isLt).2.1 y0 y1 y2 y3).trans ?_
  have e0 : (((View.whole main_v16_1).slice (win0_3.rect t)).emb (ix4 y0 y1 y2 y3) 0).val = y0.val := by
    show win0_3.index t 0 * 4 + 1 * y0.val = _
    rw [(idx t).2.2.2]
    show 0 * 4 + 1 * y0.val = _
    omega
  have e1 : (((View.whole main_v16_1).slice (win0_3.rect t)).emb (ix4 y0 y1 y2 y3) 1).val = y1.val := by
    show win0_3.index t 1 * 2 + 1 * y1.val = _
    rw [(idx t).2.2.2]
    show 0 * 2 + 1 * y1.val = _
    omega
  have e2 : (((View.whole main_v16_1).slice (win0_3.rect t)).emb (ix4 y0 y1 y2 y3) 2).val = 512 * t.val + y2.val := by
    show win0_3.index t 2 * 512 + 1 * y2.val = _
    rw [(idx t).2.2.2]
    show t.val * 512 + 1 * y2.val = _
    omega
  unfold G3
  simp only [e0, e1, e2]

end Cert.FoxPrepIdeal.Hand

/-! ## The claim -/

namespace Cert.FoxPrepClaim

open Cert.FoxPrepIdeal (nD τ S4096x2984 S8 S4096x128)
open Cert.FoxPrepIdeal.Hand Cert.FoxPrepRefIdeal.Read Cert.FoxPrepRefIdeal.Hand

variable (m : (ℓ : Loc nD τ Cert.FoxPrepIdeal.sig) → Buf (Elt Ideal) ℓ)

/-- The two arguments. -/
abbrev A0 (c : Dev nD) : FVec Ideal S4096x2984 .f32 := m ((c.tc : Thread nD τ).loc Cert.FoxPrepIdeal.main_arg0)
abbrev A1 (c : Dev nD) : FVec Ideal S8 .f32 := m ((c.tc : Thread nD τ).loc Cert.FoxPrepIdeal.main_arg1)

theorem pre_of_lt (c : Dev nD) (l : Fin 128) (hl : l.val < 8) (r : Fin 4096) :
    pre m c l (r.val + 1) = val_main_v5 (F := Ideal) (A0 m c) (A1 m c) (ix2 r ⟨l.val, hl⟩) := by
  rw [v5_apply]
  unfold pre lf
  refine Finset.sum_congr rfl fun n _ => ?_
  congr 1
  funext k
  have h1 : Zp m c (ix2 k ⟨1408 + l.val, by omega⟩) = A0 m c (ix2 k ⟨1536 + l.val, by omega⟩) := V13_apply m c k ⟨l.val, hl⟩
  have h2 : Bp m c (ix2 0 l) = A1 m c (ix1 ⟨l.val, hl⟩) := V15_apply m c ⟨l.val, hl⟩
  rw [if_pos hl, h1, h2, ls_eq_lr]

/-- The other columns are zero. -/
theorem pre_of_ge (c : Dev nD) (l : Fin 128) (hl : ¬ l.val < 8) (n : ℕ) : pre m c l n = 0 := by
  refine Finset.sum_eq_zero fun k _ => ?_
  unfold lf Common.ext
  split
  · first | exact if_neg hl | (simp only [if_neg hl]) | rfl
  · rfl

theorem first_eq (c : Dev nD) : G2 m c = val_main_v9 (F := Ideal) (A0 m c) (A1 m c) := by
  funext y
  idx_vars y
  rw [v9_apply]
  show pre m c y1 (y0.val + 1) = _
  split
  · next h => exact pre_of_lt m c y1 h y0
  · next h => exact pre_of_ge m c y1 h _

theorem second_eq (c : Dev nD) : G3 m c = val_main_v8 (F := Ideal) (A0 m c) (A1 m c) := by
  funext y
  idx_vars y
  rw [v8_apply]
  exact pre_of_lt m c ⟨2 * y0.val + y1.val, by omega⟩ (by show 2 * y0.val + y1.val < 8; omega) y2

/-- The reference leaves its arguments as they were; it has no semaphore. -/
theorem frame_ref : Cert.quiescent_FoxPrepRefIdeal (hFoxPrepRefIdeal := Cert.FoxPrepRefIdeal.Gen.facts) := fun m g _ =>
  (θ_run _ _ _).mono (fun r k => ⟨fun c => (k c).2.2, sem_eq_zero_of_no_sems rfl _⟩) (Cert.FoxPrepRefIdeal.Value.run m g)

/-- The claim: one pair of arrays that both programs end with. -/
theorem algebraic : Cert.algebraic_FoxPrepIdeal_FoxPrepRefIdeal (hFoxPrepIdeal := Cert.FoxPrepIdeal.Gen.facts) (hFoxPrepRefIdeal := Cert.FoxPrepRefIdeal.Gen.facts) := by
  intro m g m' g' _ h
  refine ⟨fun c => G2 m c, fun c => G3 m c, ?_, ?_⟩
  · exact (θ_run _ _ _).mono (fun r k c => ⟨(k c).1.trans (final2 m c), (k c).2.1.trans (final3 m c), (k c).2.2⟩) (Cert.FoxPrepIdeal.Value.run_blocks m g)
  · refine (θ_run _ _ _).mono (fun r k c => ⟨(k c).1.trans ?_, (k c).2.1.trans ?_, (k c).2.2⟩) (Cert.FoxPrepRefIdeal.Value.run m' g')
    · rw [val_main_v9_eq, (h c).1, (h c).2]
      exact (first_eq m c).symm
    · rw [val_main_v8_eq, (h c).1, (h c).2]
      exact (second_eq m c).symm

end Cert.FoxPrepClaim

end
-- ==== Proof.lean ====
module

public import proofs.«01_k».proof.Defs
public import proofs.«01_k».proof.Proof.Gen.FoxPrep
public import proofs.«01_k».proof.Proof.Gen.FoxPrep.Skeleton
public import proofs.«01_k».proof.Proof.Gen.FoxPrep.Launch
public import proofs.«01_k».proof.Proof.Gen.FoxPrep.Points
public import proofs.«01_k».proof.Proof.Gen.FoxPrep.Frame
public import proofs.«01_k».proof.Proof.Gen.FoxPrepIdeal
public import proofs.«01_k».proof.Proof.Gen.FoxPrepIdeal.Skeleton
public import proofs.«01_k».proof.Proof.Gen.FoxPrepIdeal.Launch
public import proofs.«01_k».proof.Proof.Gen.FoxPrepIdeal.Points
public import proofs.«01_k».proof.Proof.Gen.FoxPrepIdeal.Frame
public import proofs.«01_k».proof.Proof.Gen.FoxPrepRefIdeal
public import proofs.«01_k».proof.Proof.Gen.FoxPrepIdeal.Value
public import proofs.«01_k».proof.Proof.Gen.FoxPrepRefIdeal.Run
public import proofs.«01_k».proof.Proof.Gen.FoxPrepRefIdeal.Read
public import proofs.«01_k».proof.Proof.Gen.MlaPrep
public import proofs.«01_k».proof.Proof.Gen.MlaPrep.Skeleton
public import proofs.«01_k».proof.Proof.Gen.MlaPrep.Launch
public import proofs.«01_k».proof.Proof.Gen.MlaPrep.Points
public import proofs.«01_k».proof.Proof.Gen.MlaPrep.Frame
public import proofs.«01_k».proof.Proof.Gen.MlaPrepIdeal
public import proofs.«01_k».proof.Proof.Gen.MlaPrepIdeal.Skeleton
public import proofs.«01_k».proof.Proof.Gen.MlaPrepIdeal.Launch
public import proofs.«01_k».proof.Proof.Gen.MlaPrepIdeal.Points
public import proofs.«01_k».proof.Proof.Gen.MlaPrepIdeal.Frame
public import proofs.«01_k».proof.Proof.Gen.MlaPrepRefIdeal
public import proofs.«01_k».proof.Proof.Gen.MlaPrepRefIdeal.Run
public import proofs.«01_k».proof.Proof.Gen.MlaPrepRefIdeal.Read
public import proofs.«01_k».proof.Proof.Gen.FoxPost
public import proofs.«01_k».proof.Proof.Gen.FoxPost.Skeleton
public import proofs.«01_k».proof.Proof.Gen.FoxPost.Launch
public import proofs.«01_k».proof.Proof.Gen.FoxPost.Points
public import proofs.«01_k».proof.Proof.Gen.FoxPost.Frame
public import proofs.«01_k».proof.Proof.Gen.FoxPostIdeal
public import proofs.«01_k».proof.Proof.Gen.FoxPostIdeal.Skeleton
public import proofs.«01_k».proof.Proof.Gen.FoxPostIdeal.Launch
public import proofs.«01_k».proof.Proof.Gen.FoxPostIdeal.Points
public import proofs.«01_k».proof.Proof.Gen.FoxPostIdeal.Frame
public import proofs.«01_k».proof.Proof.Gen.FoxPostRefIdeal
public import proofs.«01_k».proof.Proof.Gen.FoxPostRefIdeal.Run
public import proofs.«01_k».proof.Proof.Gen.FoxPostRefIdeal.Read
public import proofs.«01_k».proof.Proof.Gen.FoxPostIdeal.Value
public import proofs.«01_k».proof.Proof.FoxPostClaim
public import proofs.«01_k».proof.Proof.Gen.FoxBwdRefIdeal
public import proofs.«01_k».proof.Proof.Gen.FoxBwdRefIdeal.Run
public import proofs.«01_k».proof.Proof.Gen.FoxBwdRefIdeal.Read
public import proofs.«01_k».proof.Proof.Gen.MlaBwdRefIdeal
public import proofs.«01_k».proof.Proof.Gen.MlaBwdRefIdeal.Run
public import proofs.«01_k».proof.Proof.Gen.MlaBwdRefIdeal.Read
public import proofs.«01_k».proof.Proof.FoxBwdCompiled
public import proofs.«01_k».proof.Proof.FoxBwdClaim
public import proofs.«01_k».proof.Proof.MlaBwdClaim
public import proofs.«01_k».proof.Proof.FinalLossClaim
public import proofs.«01_k».proof.Proof.AdaBwdClaim
public import proofs.«01_k».proof.Proof.BwdInClaim
public import proofs.«01_k».proof.Proof.BwdOutClaim
public import proofs.«01_k».proof.Proof.Gen.FinalLoss
public import proofs.«01_k».proof.Proof.Gen.FinalLoss.Skeleton
public import proofs.«01_k».proof.Proof.Gen.FinalLoss.Launch
public import proofs.«01_k».proof.Proof.Gen.FinalLoss.Points
public import proofs.«01_k».proof.Proof.Gen.FinalLoss.Frame
public import proofs.«01_k».proof.Proof.Gen.FinalLossIdeal
public import proofs.«01_k».proof.Proof.Gen.FinalLossIdeal.Skeleton
public import proofs.«01_k».proof.Proof.Gen.FinalLossIdeal.Launch
public import proofs.«01_k».proof.Proof.Gen.FinalLossIdeal.Points
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.Gen.FinalLossRefIdeal.Read
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.BwdOut
public import proofs.«01_k».proof.Proof.Gen.BwdOut.Skeleton
public import proofs.«01_k».proof.Proof.Gen.BwdOut.Launch
public import proofs.«01_k».proof.Proof.Gen.BwdOut.Points
public import proofs.«01_k».proof.Proof.Gen.BwdOut.Frame
public import proofs.«01_k».proof.Proof.Gen.BwdOutIdeal
public import proofs.«01_k».proof.Proof.Gen.BwdOutIdeal.Skeleton
public import proofs.«01_k».proof.Proof.Gen.BwdOutIdeal.Launch
public import proofs.«01_k».proof.Proof.Gen.BwdOutIdeal.Points
public import proofs.«01_k».proof.Proof.Gen.BwdOutIdeal.Frame
public import proofs.«01_k».proof.Proof.Gen.BwdOutRefIdeal
public import proofs.«01_k».proof.Proof.Gen.BwdOutRefIdeal.Run
public import proofs.«01_k».proof.Proof.Gen.BwdOutRefIdeal.Read
public import proofs.«01_k».proof.Proof.Gen.MlaPostRefIdeal.Run
public import proofs.«01_k».proof.Proof.Gen.MlaPostRefIdeal.Read
public import Idealize.ShloMosaic.Adequacy
public import Idealize.ShloMosaic.Init
public import proofs.«01_k».proof.Proof.Gen.MlaPost
public import proofs.«01_k».proof.Proof.Gen.MlaPostIdeal
public import proofs.«01_k».proof.Proof.Gen.MlaPostRefIdeal
public import proofs.«01_k».proof.Proof.Gen.Pre_post_finite
public import proofs.«01_k».proof.Proof.MlaPostCompiled
public import proofs.«01_k».proof.Proof.MlaPostClaim
public import proofs.«01_k».proof.Proof.AdaFwdClaim
public import proofs.«01_k».proof.Proof.LnInClaim
public import proofs.«01_k».proof.Proof.MlaPrepClaim
public import proofs.«01_k».proof.Proof.FoxPrepClaim
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInRefIdeal
public import proofs.«01_k».proof.Proof.Gen.LnInRefIdeal.Run
public import proofs.«01_k».proof.Proof.Gen.LnInRefIdeal.Read

@[expose] public section

noncomputable section

namespace Cert.Proof

open Idealize.ShloMosaic Idealize.SL.Sem Cert.FoxPost

theorem claim : Cert.Claim := ⟨Cert.FoxPost.Gen.facts, Cert.FoxPostIdeal.Gen.facts, Cert.FoxPostRefIdeal.Gen.facts,
  Cert.FoxBwd.Gen.facts, Cert.FoxBwdIdeal.Gen.facts, Cert.FoxBwdRefIdeal.Gen.facts,
  Cert.MlaBwd.Gen.facts, Cert.MlaBwdIdeal.Gen.facts, Cert.MlaBwdRefIdeal.Gen.facts,
  Cert.FinalLoss.Gen.facts, Cert.FinalLossIdeal.Gen.facts, Cert.FinalLossRefIdeal.Gen.facts,
  Cert.AdaBwd.Gen.facts, Cert.AdaBwdIdeal.Gen.facts, Cert.AdaBwdRefIdeal.Gen.facts,
  Cert.BwdIn.Gen.facts, Cert.BwdInIdeal.Gen.facts, Cert.BwdInRefIdeal.Gen.facts,
  Cert.BwdOut.Gen.facts, Cert.BwdOutIdeal.Gen.facts, Cert.BwdOutRefIdeal.Gen.facts,
  Cert.MlaPost.Gen.facts, Cert.MlaPostIdeal.Gen.facts, Cert.MlaPostRefIdeal.Gen.facts,
  Cert.AdaFwd.Gen.facts, Cert.AdaFwdIdeal.Gen.facts, Cert.AdaFwdRefIdeal.Gen.facts,
  Cert.LnIn.Gen.facts, Cert.LnInIdeal.Gen.facts, Cert.LnInRefIdeal.Gen.facts,
  Cert.MlaPrep.Gen.facts, Cert.MlaPrepIdeal.Gen.facts, Cert.MlaPrepRefIdeal.Gen.facts,
  Cert.FoxPrep.Gen.facts, Cert.FoxPrepIdeal.Gen.facts, Cert.FoxPrepRefIdeal.Gen.facts,
  Cert.Pre_fox_finite.Gen.facts, Cert.Pre_mla_finite.Gen.facts, Cert.Pre_loss_finite.Gen.facts, Cert.Pre_in_finite.Gen.facts, Cert.Pre_out_finite.Gen.facts, Cert.Pre_post_finite.Gen.facts,
  fun m ρ _ => Cert.FoxPost.Gen.frame m ρ, fun m ρ _ => Cert.FoxPostIdeal.Gen.frame m ρ, Cert.FoxPostClaim.frame_ref,
  fun m ρ _ => Cert.FoxBwdFrame.frame_compiled m ρ, fun m ρ _ => Cert.FoxBwdFrame.frame m ρ, fun m ρ _ => Cert.FoxBwdFrame.frame m ρ,
  Cert.FoxBwdClaim.frame_ref, fun m ρ _ => Cert.FoxBwdClaim.frame_ref m ρ trivial,
  fun m ρ _ => Cert.MlaBwdFrame.frame_compiled m ρ, fun m ρ _ => Cert.MlaBwdFrame.frame m ρ, fun m ρ _ => Cert.MlaBwdFrame.frame m ρ,
  Cert.MlaBwdClaim.frame_ref, fun m ρ _ => Cert.MlaBwdClaim.frame_ref m ρ trivial,
  fun m ρ _ => Cert.FinalLoss.Gen.frame m ρ, fun m ρ _ => Cert.FinalLossIdeal.Gen.frame m ρ, fun m ρ _ => Cert.FinalLossIdeal.Gen.frame m ρ,
  Cert.FinalLossClaim.frame_ref, fun m ρ _ => Cert.FinalLossClaim.frame_ref m ρ trivial,
  fun m ρ _ => Cert.AdaBwd.Gen.frame m ρ, fun m ρ _ => Cert.AdaBwdIdeal.Gen.frame m ρ, Cert.AdaBwdClaim.frame_ref,
  fun m ρ _ => Cert.BwdIn.Gen.frame m ρ, fun m ρ _ => Cert.BwdInIdeal.Gen.frame m ρ, fun m ρ _ => Cert.BwdInIdeal.Gen.frame m ρ,
  Cert.BwdInClaim.frame_ref, fun m ρ _ => Cert.BwdInClaim.frame_ref m ρ trivial,
  fun m ρ _ => Cert.BwdOut.Gen.frame m ρ, fun m ρ _ => Cert.BwdOutIdeal.Gen.frame m ρ, fun m ρ _ => Cert.BwdOutIdeal.Gen.frame m ρ,
  Cert.BwdOutClaim.frame_ref, fun m ρ _ => Cert.BwdOutClaim.frame_ref m ρ trivial,
  fun m ρ _ => Cert.MlaPostFrame.frame_compiled m ρ, fun m ρ _ => Cert.MlaPostFrame.frame m ρ, fun m ρ _ => Cert.MlaPostFrame.frame m ρ,
  Cert.MlaPostClaim.frame_ref, fun m ρ _ => Cert.MlaPostClaim.frame_ref m ρ trivial,
  fun m ρ _ => Cert.AdaFwd.Gen.frame m ρ, fun m ρ _ => Cert.AdaFwdIdeal.Gen.frame m ρ, Cert.AdaFwdClaim.frame_ref,
  fun m ρ _ => Cert.LnIn.Gen.frame m ρ, fun m ρ _ => Cert.LnInIdeal.Gen.frame m ρ, Cert.LnInClaim.frame_ref,
  fun m ρ _ => Cert.MlaPrep.Gen.frame m ρ, fun m ρ _ => Cert.MlaPrepIdeal.Gen.frame m ρ, Cert.MlaPrepClaim.frame_ref,
  fun m ρ _ => Cert.FoxPrep.Gen.frame m ρ, fun m ρ _ => Cert.FoxPrepIdeal.Gen.frame m ρ, Cert.FoxPrepClaim.frame_ref,
  trivial, Cert.FoxPostClaim.algebraic,
  IdealRules.named_const.statement _ _ _ _ _ rfl, Cert.FoxBwdClaim.algebraic,
  IdealRules.named_const.statement _ _ _ _ _ rfl, Cert.MlaBwdClaim.algebraic,
  trivial, Cert.FinalLossClaim.algebraic,
  trivial, Cert.AdaBwdClaim.algebraic,
  trivial, Cert.BwdInClaim.algebraic,
  trivial, Cert.BwdOutClaim.algebraic,
  trivial, Cert.MlaPostClaim.algebraic,
  trivial, Cert.AdaFwdClaim.algebraic,
  trivial, Cert.LnInClaim.algebraic,
  trivial, Cert.MlaPrepClaim.algebraic,
  trivial, Cert.FoxPrepClaim.algebraic⟩

end Cert.Proof

end
